-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_WgradFfn (m : (ℓ : Loc Cert.WgradFfn.nD Cert.WgradFfn.τ Cert.WgradFfn.sig) → Buf (Elt Bits) ℓ) : Prop :=
  True

def Pre_WgradFfnIdeal (m : (ℓ : Loc Cert.WgradFfnIdeal.nD Cert.WgradFfnIdeal.τ Cert.WgradFfnIdeal.sig) → Buf (Elt Ideal) ℓ) : Prop :=
  True

def Pre_WgradFfnRefIdeal (m : (ℓ : Loc Cert.WgradFfnRefIdeal.nD Cert.WgradFfnRefIdeal.τ Cert.WgradFfnRefIdeal.sig) → Buf (Elt Ideal) ℓ) : Prop :=
  True

def Pre_WgradDown (m : (ℓ : Loc Cert.WgradDown.nD Cert.WgradDown.τ Cert.WgradDown.sig) → Buf (Elt Bits) ℓ) : Prop :=
  True

def Pre_WgradDownIdeal (m : (ℓ : Loc Cert.WgradDownIdeal.nD Cert.WgradDownIdeal.τ Cert.WgradDownIdeal.sig) → Buf (Elt Ideal) ℓ) : Prop :=
  True

def Pre_WgradDownRefIdeal (m : (ℓ : Loc Cert.WgradDownRefIdeal.nD Cert.WgradDownRefIdeal.τ Cert.WgradDownRefIdeal.sig) → Buf (Elt Ideal) ℓ) : Prop :=
  True

def Pre_WgradOut (m : (ℓ : Loc Cert.WgradOut.nD Cert.WgradOut.τ Cert.WgradOut.sig) → Buf (Elt Bits) ℓ) : Prop :=
  True

def Pre_WgradOutIdeal (m : (ℓ : Loc Cert.WgradOutIdeal.nD Cert.WgradOutIdeal.τ Cert.WgradOutIdeal.sig) → Buf (Elt Ideal) ℓ) : Prop :=
  True

def Pre_WgradOutRefIdeal (m : (ℓ : Loc Cert.WgradOutRefIdeal.nD Cert.WgradOutRefIdeal.τ Cert.WgradOutRefIdeal.sig) → Buf (Elt Ideal) ℓ) : Prop :=
  True

def Pre_WgradProj (m : (ℓ : Loc Cert.WgradProj.nD Cert.WgradProj.τ Cert.WgradProj.sig) → Buf (Elt Bits) ℓ) : Prop :=
  True

def Pre_WgradProjIdeal (m : (ℓ : Loc Cert.WgradProjIdeal.nD Cert.WgradProjIdeal.τ Cert.WgradProjIdeal.sig) → Buf (Elt Ideal) ℓ) : Prop :=
  True

def Pre_WgradProjRefIdeal (m : (ℓ : Loc Cert.WgradProjRefIdeal.nD Cert.WgradProjRefIdeal.τ Cert.WgradProjRefIdeal.sig) → Buf (Elt Ideal) ℓ) : Prop :=
  True

def Pre_WgradGate (m : (ℓ : Loc Cert.WgradGate.nD Cert.WgradGate.τ Cert.WgradGate.sig) → Buf (Elt Bits) ℓ) : Prop :=
  True

def Pre_WgradGateIdeal (m : (ℓ : Loc Cert.WgradGateIdeal.nD Cert.WgradGateIdeal.τ Cert.WgradGateIdeal.sig) → Buf (Elt Ideal) ℓ) : Prop :=
  True

def Pre_WgradGateRefIdeal (m : (ℓ : Loc Cert.WgradGateRefIdeal.nD Cert.WgradGateRefIdeal.τ Cert.WgradGateRefIdeal.sig) → Buf (Elt Ideal) ℓ) : Prop :=
  True

def Pre_WgradHg (m : (ℓ : Loc Cert.WgradHg.nD Cert.WgradHg.τ Cert.WgradHg.sig) → Buf (Elt Bits) ℓ) : Prop :=
  True

def Pre_WgradHgIdeal (m : (ℓ : Loc Cert.WgradHgIdeal.nD Cert.WgradHgIdeal.τ Cert.WgradHgIdeal.sig) → Buf (Elt Ideal) ℓ) : Prop :=
  True

def Pre_WgradHgRefIdeal (m : (ℓ : Loc Cert.WgradHgRefIdeal.nD Cert.WgradHgRefIdeal.τ Cert.WgradHgRefIdeal.sig) → Buf (Elt Ideal) ℓ) : Prop :=
  True

def Pre_WgradMl (m : (ℓ : Loc Cert.WgradMl.nD Cert.WgradMl.τ Cert.WgradMl.sig) → Buf (Elt Bits) ℓ) : Prop :=
  True

def Pre_WgradMlIdeal (m : (ℓ : Loc Cert.WgradMlIdeal.nD Cert.WgradMlIdeal.τ Cert.WgradMlIdeal.sig) → Buf (Elt Ideal) ℓ) : Prop :=
  True

def Pre_WgradMlRefIdeal (m : (ℓ : Loc Cert.WgradMlRefIdeal.nD Cert.WgradMlRefIdeal.τ Cert.WgradMlRefIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_Outproj (m : (ℓ : Loc Cert.Outproj.nD Cert.Outproj.τ Cert.Outproj.sig) → Buf (Elt Bits) ℓ) : Prop :=
  True

def Pre_OutprojIdeal (m : (ℓ : Loc Cert.OutprojIdeal.nD Cert.OutprojIdeal.τ Cert.OutprojIdeal.sig) → Buf (Elt Ideal) ℓ) : Prop :=
  True

def Pre_OutprojRefIdeal (m : (ℓ : Loc Cert.OutprojRefIdeal.nD Cert.OutprojRefIdeal.τ Cert.OutprojRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_InprojBwd (m : (ℓ : Loc Cert.InprojBwd.nD Cert.InprojBwd.τ Cert.InprojBwd.sig) → Buf (Elt Bits) ℓ) : Prop :=
  True

def Pre_InprojBwdIdeal (m : (ℓ : Loc Cert.InprojBwdIdeal.nD Cert.InprojBwdIdeal.τ Cert.InprojBwdIdeal.sig) → Buf (Elt Ideal) ℓ) : Prop :=
  True

def Pre_InprojBwdRefIdeal (m : (ℓ : Loc Cert.InprojBwdRefIdeal.nD Cert.InprojBwdRefIdeal.τ Cert.InprojBwdRefIdeal.sig) → Buf (Elt Ideal) ℓ) : Prop :=
  True

def Pre_FfnBwd (m : (ℓ : Loc Cert.FfnBwd.nD Cert.FfnBwd.τ Cert.FfnBwd.sig) → Buf (Elt Bits) ℓ) : Prop :=
  True

def Pre_FfnBwdIdeal (m : (ℓ : Loc Cert.FfnBwdIdeal.nD Cert.FfnBwdIdeal.τ Cert.FfnBwdIdeal.sig) → Buf (Elt Ideal) ℓ) : Prop :=
  True

def Pre_FfnBwdIdeal_numbers [hPre_numbers : Cert.Pre_numbers.Facts] (m : (ℓ : Loc Cert.FfnBwdIdeal.nD Cert.FfnBwdIdeal.τ Cert.FfnBwdIdeal.sig) → Buf (Elt Ideal) ℓ) : Prop :=
  ∀ c : Dev Cert.FfnBwdIdeal.nD,
    (Cert.Pre_numbers.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5)) (m ((c.tc : Thread Cert.FfnBwdIdeal.nD Cert.FfnBwdIdeal.τ).loc Cert.FfnBwdIdeal.main_arg6)) (m ((c.tc : Thread Cert.FfnBwdIdeal.nD Cert.FfnBwdIdeal.τ).loc Cert.FfnBwdIdeal.main_arg7))).1 = (fun _ => 1#1)
    ∧ (Cert.Pre_numbers.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5)) (m ((c.tc : Thread Cert.FfnBwdIdeal.nD Cert.FfnBwdIdeal.τ).loc Cert.FfnBwdIdeal.main_arg6)) (m ((c.tc : Thread Cert.FfnBwdIdeal.nD Cert.FfnBwdIdeal.τ).loc Cert.FfnBwdIdeal.main_arg7))).2.1 = (fun _ => 1#1)
    ∧ (Cert.Pre_numbers.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5)) (m ((c.tc : Thread Cert.FfnBwdIdeal.nD Cert.FfnBwdIdeal.τ).loc Cert.FfnBwdIdeal.main_arg6)) (m ((c.tc : Thread Cert.FfnBwdIdeal.nD Cert.FfnBwdIdeal.τ).loc Cert.FfnBwdIdeal.main_arg7))).2.2.1 = (fun _ => 1#1)
    ∧ (Cert.Pre_numbers.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5)) (m ((c.tc : Thread Cert.FfnBwdIdeal.nD Cert.FfnBwdIdeal.τ).loc Cert.FfnBwdIdeal.main_arg6)) (m ((c.tc : Thread Cert.FfnBwdIdeal.nD Cert.FfnBwdIdeal.τ).loc Cert.FfnBwdIdeal.main_arg7))).2.2.2.1 = (fun _ => 1#1)
    ∧ (Cert.Pre_numbers.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5)) (m ((c.tc : Thread Cert.FfnBwdIdeal.nD Cert.FfnBwdIdeal.τ).loc Cert.FfnBwdIdeal.main_arg6)) (m ((c.tc : Thread Cert.FfnBwdIdeal.nD Cert.FfnBwdIdeal.τ).loc Cert.FfnBwdIdeal.main_arg7))).2.2.2.2.1 = (fun _ => 1#1)
    ∧ (Cert.Pre_numbers.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5)) (m ((c.tc : Thread Cert.FfnBwdIdeal.nD Cert.FfnBwdIdeal.τ).loc Cert.FfnBwdIdeal.main_arg6)) (m ((c.tc : Thread Cert.FfnBwdIdeal.nD Cert.FfnBwdIdeal.τ).loc Cert.FfnBwdIdeal.main_arg7))).2.2.2.2.2.1 = (fun _ => 1#1)
    ∧ (Cert.Pre_numbers.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5)) (m ((c.tc : Thread Cert.FfnBwdIdeal.nD Cert.FfnBwdIdeal.τ).loc Cert.FfnBwdIdeal.main_arg6)) (m ((c.tc : Thread Cert.FfnBwdIdeal.nD Cert.FfnBwdIdeal.τ).loc Cert.FfnBwdIdeal.main_arg7))).2.2.2.2.2.2 = (fun _ => 1#1)

def Pre_FfnBwdRefIdeal (m : (ℓ : Loc Cert.FfnBwdRefIdeal.nD Cert.FfnBwdRefIdeal.τ Cert.FfnBwdRefIdeal.sig) → Buf (Elt Ideal) ℓ) : Prop :=
  True

def Pre_FfnBwdRefIdeal_numbers [hPre_numbers : Cert.Pre_numbers.Facts] (m : (ℓ : Loc Cert.FfnBwdRefIdeal.nD Cert.FfnBwdRefIdeal.τ Cert.FfnBwdRefIdeal.sig) → Buf (Elt Ideal) ℓ) : Prop :=
  ∀ c : Dev Cert.FfnBwdRefIdeal.nD,
    (Cert.Pre_numbers.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4)) (m ((c.tc : Thread Cert.FfnBwdRefIdeal.nD Cert.FfnBwdRefIdeal.τ).loc Cert.FfnBwdRefIdeal.main_arg5)) (m ((c.tc : Thread Cert.FfnBwdRefIdeal.nD Cert.FfnBwdRefIdeal.τ).loc Cert.FfnBwdRefIdeal.main_arg6)) (m ((c.tc : Thread Cert.FfnBwdRefIdeal.nD Cert.FfnBwdRefIdeal.τ).loc Cert.FfnBwdRefIdeal.main_arg7))).1 = (fun _ => 1#1)
    ∧ (Cert.Pre_numbers.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4)) (m ((c.tc : Thread Cert.FfnBwdRefIdeal.nD Cert.FfnBwdRefIdeal.τ).loc Cert.FfnBwdRefIdeal.main_arg5)) (m ((c.tc : Thread Cert.FfnBwdRefIdeal.nD Cert.FfnBwdRefIdeal.τ).loc Cert.FfnBwdRefIdeal.main_arg6)) (m ((c.tc : Thread Cert.FfnBwdRefIdeal.nD Cert.FfnBwdRefIdeal.τ).loc Cert.FfnBwdRefIdeal.main_arg7))).2.1 = (fun _ => 1#1)
    ∧ (Cert.Pre_numbers.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4)) (m ((c.tc : Thread Cert.FfnBwdRefIdeal.nD Cert.FfnBwdRefIdeal.τ).loc Cert.FfnBwdRefIdeal.main_arg5)) (m ((c.tc : Thread Cert.FfnBwdRefIdeal.nD Cert.FfnBwdRefIdeal.τ).loc Cert.FfnBwdRefIdeal.main_arg6)) (m ((c.tc : Thread Cert.FfnBwdRefIdeal.nD Cert.FfnBwdRefIdeal.τ).loc Cert.FfnBwdRefIdeal.main_arg7))).2.2.1 = (fun _ => 1#1)
    ∧ (Cert.Pre_numbers.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4)) (m ((c.tc : Thread Cert.FfnBwdRefIdeal.nD Cert.FfnBwdRefIdeal.τ).loc Cert.FfnBwdRefIdeal.main_arg5)) (m ((c.tc : Thread Cert.FfnBwdRefIdeal.nD Cert.FfnBwdRefIdeal.τ).loc Cert.FfnBwdRefIdeal.main_arg6)) (m ((c.tc : Thread Cert.FfnBwdRefIdeal.nD Cert.FfnBwdRefIdeal.τ).loc Cert.FfnBwdRefIdeal.main_arg7))).2.2.2.1 = (fun _ => 1#1)
    ∧ (Cert.Pre_numbers.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4)) (m ((c.tc : Thread Cert.FfnBwdRefIdeal.nD Cert.FfnBwdRefIdeal.τ).loc Cert.FfnBwdRefIdeal.main_arg5)) (m ((c.tc : Thread Cert.FfnBwdRefIdeal.nD Cert.FfnBwdRefIdeal.τ).loc Cert.FfnBwdRefIdeal.main_arg6)) (m ((c.tc : Thread Cert.FfnBwdRefIdeal.nD Cert.FfnBwdRefIdeal.τ).loc Cert.FfnBwdRefIdeal.main_arg7))).2.2.2.2.1 = (fun _ => 1#1)
    ∧ (Cert.Pre_numbers.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4)) (m ((c.tc : Thread Cert.FfnBwdRefIdeal.nD Cert.FfnBwdRefIdeal.τ).loc Cert.FfnBwdRefIdeal.main_arg5)) (m ((c.tc : Thread Cert.FfnBwdRefIdeal.nD Cert.FfnBwdRefIdeal.τ).loc Cert.FfnBwdRefIdeal.main_arg6)) (m ((c.tc : Thread Cert.FfnBwdRefIdeal.nD Cert.FfnBwdRefIdeal.τ).loc Cert.FfnBwdRefIdeal.main_arg7))).2.2.2.2.2.1 = (fun _ => 1#1)
    ∧ (Cert.Pre_numbers.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4)) (m ((c.tc : Thread Cert.FfnBwdRefIdeal.nD Cert.FfnBwdRefIdeal.τ).loc Cert.FfnBwdRefIdeal.main_arg5)) (m ((c.tc : Thread Cert.FfnBwdRefIdeal.nD Cert.FfnBwdRefIdeal.τ).loc Cert.FfnBwdRefIdeal.main_arg6)) (m ((c.tc : Thread Cert.FfnBwdRefIdeal.nD Cert.FfnBwdRefIdeal.τ).loc Cert.FfnBwdRefIdeal.main_arg7))).2.2.2.2.2.2 = (fun _ => 1#1)

def Pre_ConvFwd (m : (ℓ : Loc Cert.ConvFwd.nD Cert.ConvFwd.τ Cert.ConvFwd.sig) → Buf (Elt Bits) ℓ) : Prop :=
  True

def Pre_ConvFwdIdeal (m : (ℓ : Loc Cert.ConvFwdIdeal.nD Cert.ConvFwdIdeal.τ Cert.ConvFwdIdeal.sig) → Buf (Elt Ideal) ℓ) : Prop :=
  True

def Pre_ConvFwdRefIdeal (m : (ℓ : Loc Cert.ConvFwdRefIdeal.nD Cert.ConvFwdRefIdeal.τ Cert.ConvFwdRefIdeal.sig) → Buf (Elt Ideal) ℓ) : Prop :=
  True

def Pre_ConvBwd (m : (ℓ : Loc Cert.ConvBwd.nD Cert.ConvBwd.τ Cert.ConvBwd.sig) → Buf (Elt Bits) ℓ) : Prop :=
  True

def Pre_ConvBwdIdeal (m : (ℓ : Loc Cert.ConvBwdIdeal.nD Cert.ConvBwdIdeal.τ Cert.ConvBwdIdeal.sig) → Buf (Elt Ideal) ℓ) : Prop :=
  True

def Pre_ConvBwdIdeal_conv_numbers [hPre_conv_numbers : Cert.Pre_conv_numbers.Facts] (m : (ℓ : Loc Cert.ConvBwdIdeal.nD Cert.ConvBwdIdeal.τ Cert.ConvBwdIdeal.sig) → Buf (Elt Ideal) ℓ) : Prop :=
  ∀ c : Dev Cert.ConvBwdIdeal.nD,
    (Cert.Pre_conv_numbers.fn (F := Ideal) (m ((c.tc : Thread Cert.ConvBwdIdeal.nD Cert.ConvBwdIdeal.τ).loc Cert.ConvBwdIdeal.main_arg0)) (m ((c.tc : Thread Cert.ConvBwdIdeal.nD Cert.ConvBwdIdeal.τ).loc Cert.ConvBwdIdeal.main_arg1)) (m ((c.tc : Thread Cert.ConvBwdIdeal.nD Cert.ConvBwdIdeal.τ).loc Cert.ConvBwdIdeal.main_arg2)) (m ((c.tc : Thread Cert.ConvBwdIdeal.nD Cert.ConvBwdIdeal.τ).loc Cert.ConvBwdIdeal.main_arg3))) = (fun _ => 1#1)

def Pre_ConvBwdRefIdeal (m : (ℓ : Loc Cert.ConvBwdRefIdeal.nD Cert.ConvBwdRefIdeal.τ Cert.ConvBwdRefIdeal.sig) → Buf (Elt Ideal) ℓ) : Prop :=
  True

def Pre_ConvBwdRefIdeal_conv_numbers [hPre_conv_numbers : Cert.Pre_conv_numbers.Facts] (m : (ℓ : Loc Cert.ConvBwdRefIdeal.nD Cert.ConvBwdRefIdeal.τ Cert.ConvBwdRefIdeal.sig) → Buf (Elt Ideal) ℓ) : Prop :=
  ∀ c : Dev Cert.ConvBwdRefIdeal.nD,
    (Cert.Pre_conv_numbers.fn (F := Ideal) (m ((c.tc : Thread Cert.ConvBwdRefIdeal.nD Cert.ConvBwdRefIdeal.τ).loc Cert.ConvBwdRefIdeal.main_arg0)) (m ((c.tc : Thread Cert.ConvBwdRefIdeal.nD Cert.ConvBwdRefIdeal.τ).loc Cert.ConvBwdRefIdeal.main_arg1)) (m ((c.tc : Thread Cert.ConvBwdRefIdeal.nD Cert.ConvBwdRefIdeal.τ).loc Cert.ConvBwdRefIdeal.main_arg2)) (m ((c.tc : Thread Cert.ConvBwdRefIdeal.nD Cert.ConvBwdRefIdeal.τ).loc Cert.ConvBwdRefIdeal.main_arg3))) = (fun _ => 1#1)

def Pre_HeadBwd (m : (ℓ : Loc Cert.HeadBwd.nD Cert.HeadBwd.τ Cert.HeadBwd.sig) → Buf (Elt Bits) ℓ) : Prop :=
  True

def Pre_HeadBwdIdeal (m : (ℓ : Loc Cert.HeadBwdIdeal.nD Cert.HeadBwdIdeal.τ Cert.HeadBwdIdeal.sig) → Buf (Elt Ideal) ℓ) : Prop :=
  True

def Pre_HeadBwdIdeal_head_numbers [hPre_head_numbers : Cert.Pre_head_numbers.Facts] (m : (ℓ : Loc Cert.HeadBwdIdeal.nD Cert.HeadBwdIdeal.τ Cert.HeadBwdIdeal.sig) → Buf (Elt Ideal) ℓ) : Prop :=
  ∀ c : Dev Cert.HeadBwdIdeal.nD,
    (Cert.Pre_head_numbers.fn (F := Ideal) (m ((c.tc : Thread Cert.HeadBwdIdeal.nD Cert.HeadBwdIdeal.τ).loc Cert.HeadBwdIdeal.main_arg0)) (m ((c.tc : Thread Cert.HeadBwdIdeal.nD Cert.HeadBwdIdeal.τ).loc Cert.HeadBwdIdeal.main_arg1)) (m ((c.tc : Thread Cert.HeadBwdIdeal.nD Cert.HeadBwdIdeal.τ).loc Cert.HeadBwdIdeal.main_arg2)) (m ((c.tc : Thread Cert.HeadBwdIdeal.nD Cert.HeadBwdIdeal.τ).loc Cert.HeadBwdIdeal.main_arg3)) (m ((c.tc : Thread Cert.HeadBwdIdeal.nD Cert.HeadBwdIdeal.τ).loc Cert.HeadBwdIdeal.main_arg4)) (m ((c.tc : Thread Cert.HeadBwdIdeal.nD Cert.HeadBwdIdeal.τ).loc Cert.HeadBwdIdeal.main_arg5)) (m ((c.tc : Thread Cert.HeadBwdIdeal.nD Cert.HeadBwdIdeal.τ).loc Cert.HeadBwdIdeal.main_arg6)) (m ((c.tc : Thread Cert.HeadBwdIdeal.nD Cert.HeadBwdIdeal.τ).loc Cert.HeadBwdIdeal.main_arg7))).1 = (fun _ => 1#1)
    ∧ (Cert.Pre_head_numbers.fn (F := Ideal) (m ((c.tc : Thread Cert.HeadBwdIdeal.nD Cert.HeadBwdIdeal.τ).loc Cert.HeadBwdIdeal.main_arg0)) (m ((c.tc : Thread Cert.HeadBwdIdeal.nD Cert.HeadBwdIdeal.τ).loc Cert.HeadBwdIdeal.main_arg1)) (m ((c.tc : Thread Cert.HeadBwdIdeal.nD Cert.HeadBwdIdeal.τ).loc Cert.HeadBwdIdeal.main_arg2)) (m ((c.tc : Thread Cert.HeadBwdIdeal.nD Cert.HeadBwdIdeal.τ).loc Cert.HeadBwdIdeal.main_arg3)) (m ((c.tc : Thread Cert.HeadBwdIdeal.nD Cert.HeadBwdIdeal.τ).loc Cert.HeadBwdIdeal.main_arg4)) (m ((c.tc : Thread Cert.HeadBwdIdeal.nD Cert.HeadBwdIdeal.τ).loc Cert.HeadBwdIdeal.main_arg5)) (m ((c.tc : Thread Cert.HeadBwdIdeal.nD Cert.HeadBwdIdeal.τ).loc Cert.HeadBwdIdeal.main_arg6)) (m ((c.tc : Thread Cert.HeadBwdIdeal.nD Cert.HeadBwdIdeal.τ).loc Cert.HeadBwdIdeal.main_arg7))).2.1 = (fun _ => 1#1)
    ∧ (Cert.Pre_head_numbers.fn (F := Ideal) (m ((c.tc : Thread Cert.HeadBwdIdeal.nD Cert.HeadBwdIdeal.τ).loc Cert.HeadBwdIdeal.main_arg0)) (m ((c.tc : Thread Cert.HeadBwdIdeal.nD Cert.HeadBwdIdeal.τ).loc Cert.HeadBwdIdeal.main_arg1)) (m ((c.tc : Thread Cert.HeadBwdIdeal.nD Cert.HeadBwdIdeal.τ).loc Cert.HeadBwdIdeal.main_arg2)) (m ((c.tc : Thread Cert.HeadBwdIdeal.nD Cert.HeadBwdIdeal.τ).loc Cert.HeadBwdIdeal.main_arg3)) (m ((c.tc : Thread Cert.HeadBwdIdeal.nD Cert.HeadBwdIdeal.τ).loc Cert.HeadBwdIdeal.main_arg4)) (m ((c.tc : Thread Cert.HeadBwdIdeal.nD Cert.HeadBwdIdeal.τ).loc Cert.HeadBwdIdeal.main_arg5)) (m ((c.tc : Thread Cert.HeadBwdIdeal.nD Cert.HeadBwdIdeal.τ).loc Cert.HeadBwdIdeal.main_arg6)) (m ((c.tc : Thread Cert.HeadBwdIdeal.nD Cert.HeadBwdIdeal.τ).loc Cert.HeadBwdIdeal.main_arg7))).2.2.1 = (fun _ => 1#1)
    ∧ (Cert.Pre_head_numbers.fn (F := Ideal) (m ((c.tc : Thread Cert.HeadBwdIdeal.nD Cert.HeadBwdIdeal.τ).loc Cert.HeadBwdIdeal.main_arg0)) (m ((c.tc : Thread Cert.HeadBwdIdeal.nD Cert.HeadBwdIdeal.τ).loc Cert.HeadBwdIdeal.main_arg1)) (m ((c.tc : Thread Cert.HeadBwdIdeal.nD Cert.HeadBwdIdeal.τ).loc Cert.HeadBwdIdeal.main_arg2)) (m ((c.tc : Thread Cert.HeadBwdIdeal.nD Cert.HeadBwdIdeal.τ).loc Cert.HeadBwdIdeal.main_arg3)) (m ((c.tc : Thread Cert.HeadBwdIdeal.nD Cert.HeadBwdIdeal.τ).loc Cert.HeadBwdIdeal.main_arg4)) (m ((c.tc : Thread Cert.HeadBwdIdeal.nD Cert.HeadBwdIdeal.τ).loc Cert.HeadBwdIdeal.main_arg5)) (m ((c.tc : Thread Cert.HeadBwdIdeal.nD Cert.HeadBwdIdeal.τ).loc Cert.HeadBwdIdeal.main_arg6)) (m ((c.tc : Thread Cert.HeadBwdIdeal.nD Cert.HeadBwdIdeal.τ).loc Cert.HeadBwdIdeal.main_arg7))).2.2.2.1 = (fun _ => 1#1)
    ∧ (Cert.Pre_head_numbers.fn (F := Ideal) (m ((c.tc : Thread Cert.HeadBwdIdeal.nD Cert.HeadBwdIdeal.τ).loc Cert.HeadBwdIdeal.main_arg0)) (m ((c.tc : Thread Cert.HeadBwdIdeal.nD Cert.HeadBwdIdeal.τ).loc Cert.HeadBwdIdeal.main_arg1)) (m ((c.tc : Thread Cert.HeadBwdIdeal.nD Cert.HeadBwdIdeal.τ).loc Cert.HeadBwdIdeal.main_arg2)) (m ((c.tc : Thread Cert.HeadBwdIdeal.nD Cert.HeadBwdIdeal.τ).loc Cert.HeadBwdIdeal.main_arg3)) (m ((c.tc : Thread Cert.HeadBwdIdeal.nD Cert.HeadBwdIdeal.τ).loc Cert.HeadBwdIdeal.main_arg4)) (m ((c.tc : Thread Cert.HeadBwdIdeal.nD Cert.HeadBwdIdeal.τ).loc Cert.HeadBwdIdeal.main_arg5)) (m ((c.tc : Thread Cert.HeadBwdIdeal.nD Cert.HeadBwdIdeal.τ).loc Cert.HeadBwdIdeal.main_arg6)) (m ((c.tc : Thread Cert.HeadBwdIdeal.nD Cert.HeadBwdIdeal.τ).loc Cert.HeadBwdIdeal.main_arg7))).2.2.2.2.1 = (fun _ => 1#1)
    ∧ (Cert.Pre_head_numbers.fn (F := Ideal) (m ((c.tc : Thread Cert.HeadBwdIdeal.nD Cert.HeadBwdIdeal.τ).loc Cert.HeadBwdIdeal.main_arg0)) (m ((c.tc : Thread Cert.HeadBwdIdeal.nD Cert.HeadBwdIdeal.τ).loc Cert.HeadBwdIdeal.main_arg1)) (m ((c.tc : Thread Cert.HeadBwdIdeal.nD Cert.HeadBwdIdeal.τ).loc Cert.HeadBwdIdeal.main_arg2)) (m ((c.tc : Thread Cert.HeadBwdIdeal.nD Cert.HeadBwdIdeal.τ).loc Cert.HeadBwdIdeal.main_arg3)) (m ((c.tc : Thread Cert.HeadBwdIdeal.nD Cert.HeadBwdIdeal.τ).loc Cert.HeadBwdIdeal.main_arg4)) (m ((c.tc : Thread Cert.HeadBwdIdeal.nD Cert.HeadBwdIdeal.τ).loc Cert.HeadBwdIdeal.main_arg5)) (m ((c.tc : Thread Cert.HeadBwdIdeal.nD Cert.HeadBwdIdeal.τ).loc Cert.HeadBwdIdeal.main_arg6)) (m ((c.tc : Thread Cert.HeadBwdIdeal.nD Cert.HeadBwdIdeal.τ).loc Cert.HeadBwdIdeal.main_arg7))).2.2.2.2.2.1 = (fun _ => 1#1)
    ∧ (Cert.Pre_head_numbers.fn (F := Ideal) (m ((c.tc : Thread Cert.HeadBwdIdeal.nD Cert.HeadBwdIdeal.τ).loc Cert.HeadBwdIdeal.main_arg0)) (m ((c.tc : Thread Cert.HeadBwdIdeal.nD Cert.HeadBwdIdeal.τ).loc Cert.HeadBwdIdeal.main_arg1)) (m ((c.tc : Thread Cert.HeadBwdIdeal.nD Cert.HeadBwdIdeal.τ).loc Cert.HeadBwdIdeal.main_arg2)) (m ((c.tc : Thread Cert.HeadBwdIdeal.nD Cert.HeadBwdIdeal.τ).loc Cert.HeadBwdIdeal.main_arg3)) (m ((c.tc : Thread Cert.HeadBwdIdeal.nD Cert.HeadBwdIdeal.τ).loc Cert.HeadBwdIdeal.main_arg4)) (m ((c.tc : Thread Cert.HeadBwdIdeal.nD Cert.HeadBwdIdeal.τ).loc Cert.HeadBwdIdeal.main_arg5)) (m ((c.tc : Thread Cert.HeadBwdIdeal.nD Cert.HeadBwdIdeal.τ).loc Cert.HeadBwdIdeal.main_arg6)) (m ((c.tc : Thread Cert.HeadBwdIdeal.nD Cert.HeadBwdIdeal.τ).loc Cert.HeadBwdIdeal.main_arg7))).2.2.2.2.2.2.1 = (fun _ => 1#1)
    ∧ (Cert.Pre_head_numbers.fn (F := Ideal) (m ((c.tc : Thread Cert.HeadBwdIdeal.nD Cert.HeadBwdIdeal.τ).loc Cert.HeadBwdIdeal.main_arg0)) (m ((c.tc : Thread Cert.HeadBwdIdeal.nD Cert.HeadBwdIdeal.τ).loc Cert.HeadBwdIdeal.main_arg1)) (m ((c.tc : Thread Cert.HeadBwdIdeal.nD Cert.HeadBwdIdeal.τ).loc Cert.HeadBwdIdeal.main_arg2)) (m ((c.tc : Thread Cert.HeadBwdIdeal.nD Cert.HeadBwdIdeal.τ).loc Cert.HeadBwdIdeal.main_arg3)) (m ((c.tc : Thread Cert.HeadBwdIdeal.nD Cert.HeadBwdIdeal.τ).loc Cert.HeadBwdIdeal.main_arg4)) (m ((c.tc : Thread Cert.HeadBwdIdeal.nD Cert.HeadBwdIdeal.τ).loc Cert.HeadBwdIdeal.main_arg5)) (m ((c.tc : Thread Cert.HeadBwdIdeal.nD Cert.HeadBwdIdeal.τ).loc Cert.HeadBwdIdeal.main_arg6)) (m ((c.tc : Thread Cert.HeadBwdIdeal.nD Cert.HeadBwdIdeal.τ).loc Cert.HeadBwdIdeal.main_arg7))).2.2.2.2.2.2.2 = (fun _ => 1#1)

def Pre_HeadBwdRefIdeal (m : (ℓ : Loc Cert.HeadBwdRefIdeal.nD Cert.HeadBwdRefIdeal.τ Cert.HeadBwdRefIdeal.sig) → Buf (Elt Ideal) ℓ) : Prop :=
  True

def Pre_HeadBwdRefIdeal_head_numbers [hPre_head_numbers : Cert.Pre_head_numbers.Facts] (m : (ℓ : Loc Cert.HeadBwdRefIdeal.nD Cert.HeadBwdRefIdeal.τ Cert.HeadBwdRefIdeal.sig) → Buf (Elt Ideal) ℓ) : Prop :=
  ∀ c : Dev Cert.HeadBwdRefIdeal.nD,
    (Cert.Pre_head_numbers.fn (F := Ideal) (m ((c.tc : Thread Cert.HeadBwdRefIdeal.nD Cert.HeadBwdRefIdeal.τ).loc Cert.HeadBwdRefIdeal.main_arg0)) (m ((c.tc : Thread Cert.HeadBwdRefIdeal.nD Cert.HeadBwdRefIdeal.τ).loc Cert.HeadBwdRefIdeal.main_arg1)) (m ((c.tc : Thread Cert.HeadBwdRefIdeal.nD Cert.HeadBwdRefIdeal.τ).loc Cert.HeadBwdRefIdeal.main_arg2)) (m ((c.tc : Thread Cert.HeadBwdRefIdeal.nD Cert.HeadBwdRefIdeal.τ).loc Cert.HeadBwdRefIdeal.main_arg3)) (m ((c.tc : Thread Cert.HeadBwdRefIdeal.nD Cert.HeadBwdRefIdeal.τ).loc Cert.HeadBwdRefIdeal.main_arg4)) (m ((c.tc : Thread Cert.HeadBwdRefIdeal.nD Cert.HeadBwdRefIdeal.τ).loc Cert.HeadBwdRefIdeal.main_arg5)) (m ((c.tc : Thread Cert.HeadBwdRefIdeal.nD Cert.HeadBwdRefIdeal.τ).loc Cert.HeadBwdRefIdeal.main_arg6)) (m ((c.tc : Thread Cert.HeadBwdRefIdeal.nD Cert.HeadBwdRefIdeal.τ).loc Cert.HeadBwdRefIdeal.main_arg7))).1 = (fun _ => 1#1)
    ∧ (Cert.Pre_head_numbers.fn (F := Ideal) (m ((c.tc : Thread Cert.HeadBwdRefIdeal.nD Cert.HeadBwdRefIdeal.τ).loc Cert.HeadBwdRefIdeal.main_arg0)) (m ((c.tc : Thread Cert.HeadBwdRefIdeal.nD Cert.HeadBwdRefIdeal.τ).loc Cert.HeadBwdRefIdeal.main_arg1)) (m ((c.tc : Thread Cert.HeadBwdRefIdeal.nD Cert.HeadBwdRefIdeal.τ).loc Cert.HeadBwdRefIdeal.main_arg2)) (m ((c.tc : Thread Cert.HeadBwdRefIdeal.nD Cert.HeadBwdRefIdeal.τ).loc Cert.HeadBwdRefIdeal.main_arg3)) (m ((c.tc : Thread Cert.HeadBwdRefIdeal.nD Cert.HeadBwdRefIdeal.τ).loc Cert.HeadBwdRefIdeal.main_arg4)) (m ((c.tc : Thread Cert.HeadBwdRefIdeal.nD Cert.HeadBwdRefIdeal.τ).loc Cert.HeadBwdRefIdeal.main_arg5)) (m ((c.tc : Thread Cert.HeadBwdRefIdeal.nD Cert.HeadBwdRefIdeal.τ).loc Cert.HeadBwdRefIdeal.main_arg6)) (m ((c.tc : Thread Cert.HeadBwdRefIdeal.nD Cert.HeadBwdRefIdeal.τ).loc Cert.HeadBwdRefIdeal.main_arg7))).2.1 = (fun _ => 1#1)
    ∧ (Cert.Pre_head_numbers.fn (F := Ideal) (m ((c.tc : Thread Cert.HeadBwdRefIdeal.nD Cert.HeadBwdRefIdeal.τ).loc Cert.HeadBwdRefIdeal.main_arg0)) (m ((c.tc : Thread Cert.HeadBwdRefIdeal.nD Cert.HeadBwdRefIdeal.τ).loc Cert.HeadBwdRefIdeal.main_arg1)) (m ((c.tc : Thread Cert.HeadBwdRefIdeal.nD Cert.HeadBwdRefIdeal.τ).loc Cert.HeadBwdRefIdeal.main_arg2)) (m ((c.tc : Thread Cert.HeadBwdRefIdeal.nD Cert.HeadBwdRefIdeal.τ).loc Cert.HeadBwdRefIdeal.main_arg3)) (m ((c.tc : Thread Cert.HeadBwdRefIdeal.nD Cert.HeadBwdRefIdeal.τ).loc Cert.HeadBwdRefIdeal.main_arg4)) (m ((c.tc : Thread Cert.HeadBwdRefIdeal.nD Cert.HeadBwdRefIdeal.τ).loc Cert.HeadBwdRefIdeal.main_arg5)) (m ((c.tc : Thread Cert.HeadBwdRefIdeal.nD Cert.HeadBwdRefIdeal.τ).loc Cert.HeadBwdRefIdeal.main_arg6)) (m ((c.tc : Thread Cert.HeadBwdRefIdeal.nD Cert.HeadBwdRefIdeal.τ).loc Cert.HeadBwdRefIdeal.main_arg7))).2.2.1 = (fun _ => 1#1)
    ∧ (Cert.Pre_head_numbers.fn (F := Ideal) (m ((c.tc : Thread Cert.HeadBwdRefIdeal.nD Cert.HeadBwdRefIdeal.τ).loc Cert.HeadBwdRefIdeal.main_arg0)) (m ((c.tc : Thread Cert.HeadBwdRefIdeal.nD Cert.HeadBwdRefIdeal.τ).loc Cert.HeadBwdRefIdeal.main_arg1)) (m ((c.tc : Thread Cert.HeadBwdRefIdeal.nD Cert.HeadBwdRefIdeal.τ).loc Cert.HeadBwdRefIdeal.main_arg2)) (m ((c.tc : Thread Cert.HeadBwdRefIdeal.nD Cert.HeadBwdRefIdeal.τ).loc Cert.HeadBwdRefIdeal.main_arg3)) (m ((c.tc : Thread Cert.HeadBwdRefIdeal.nD Cert.HeadBwdRefIdeal.τ).loc Cert.HeadBwdRefIdeal.main_arg4)) (m ((c.tc : Thread Cert.HeadBwdRefIdeal.nD Cert.HeadBwdRefIdeal.τ).loc Cert.HeadBwdRefIdeal.main_arg5)) (m ((c.tc : Thread Cert.HeadBwdRefIdeal.nD Cert.HeadBwdRefIdeal.τ).loc Cert.HeadBwdRefIdeal.main_arg6)) (m ((c.tc : Thread Cert.HeadBwdRefIdeal.nD Cert.HeadBwdRefIdeal.τ).loc Cert.HeadBwdRefIdeal.main_arg7))).2.2.2.1 = (fun _ => 1#1)
    ∧ (Cert.Pre_head_numbers.fn (F := Ideal) (m ((c.tc : Thread Cert.HeadBwdRefIdeal.nD Cert.HeadBwdRefIdeal.τ).loc Cert.HeadBwdRefIdeal.main_arg0)) (m ((c.tc : Thread Cert.HeadBwdRefIdeal.nD Cert.HeadBwdRefIdeal.τ).loc Cert.HeadBwdRefIdeal.main_arg1)) (m ((c.tc : Thread Cert.HeadBwdRefIdeal.nD Cert.HeadBwdRefIdeal.τ).loc Cert.HeadBwdRefIdeal.main_arg2)) (m ((c.tc : Thread Cert.HeadBwdRefIdeal.nD Cert.HeadBwdRefIdeal.τ).loc Cert.HeadBwdRefIdeal.main_arg3)) (m ((c.tc : Thread Cert.HeadBwdRefIdeal.nD Cert.HeadBwdRefIdeal.τ).loc Cert.HeadBwdRefIdeal.main_arg4)) (m ((c.tc : Thread Cert.HeadBwdRefIdeal.nD Cert.HeadBwdRefIdeal.τ).loc Cert.HeadBwdRefIdeal.main_arg5)) (m ((c.tc : Thread Cert.HeadBwdRefIdeal.nD Cert.HeadBwdRefIdeal.τ).loc Cert.HeadBwdRefIdeal.main_arg6)) (m ((c.tc : Thread Cert.HeadBwdRefIdeal.nD Cert.HeadBwdRefIdeal.τ).loc Cert.HeadBwdRefIdeal.main_arg7))).2.2.2.2.1 = (fun _ => 1#1)
    ∧ (Cert.Pre_head_numbers.fn (F := Ideal) (m ((c.tc : Thread Cert.HeadBwdRefIdeal.nD Cert.HeadBwdRefIdeal.τ).loc Cert.HeadBwdRefIdeal.main_arg0)) (m ((c.tc : Thread Cert.HeadBwdRefIdeal.nD Cert.HeadBwdRefIdeal.τ).loc Cert.HeadBwdRefIdeal.main_arg1)) (m ((c.tc : Thread Cert.HeadBwdRefIdeal.nD Cert.HeadBwdRefIdeal.τ).loc Cert.HeadBwdRefIdeal.main_arg2)) (m ((c.tc : Thread Cert.HeadBwdRefIdeal.nD Cert.HeadBwdRefIdeal.τ).loc Cert.HeadBwdRefIdeal.main_arg3)) (m ((c.tc : Thread Cert.HeadBwdRefIdeal.nD Cert.HeadBwdRefIdeal.τ).loc Cert.HeadBwdRefIdeal.main_arg4)) (m ((c.tc : Thread Cert.HeadBwdRefIdeal.nD Cert.HeadBwdRefIdeal.τ).loc Cert.HeadBwdRefIdeal.main_arg5)) (m ((c.tc : Thread Cert.HeadBwdRefIdeal.nD Cert.HeadBwdRefIdeal.τ).loc Cert.HeadBwdRefIdeal.main_arg6)) (m ((c.tc : Thread Cert.HeadBwdRefIdeal.nD Cert.HeadBwdRefIdeal.τ).loc Cert.HeadBwdRefIdeal.main_arg7))).2.2.2.2.2.1 = (fun _ => 1#1)
    ∧ (Cert.Pre_head_numbers.fn (F := Ideal) (m ((c.tc : Thread Cert.HeadBwdRefIdeal.nD Cert.HeadBwdRefIdeal.τ).loc Cert.HeadBwdRefIdeal.main_arg0)) (m ((c.tc : Thread Cert.HeadBwdRefIdeal.nD Cert.HeadBwdRefIdeal.τ).loc Cert.HeadBwdRefIdeal.main_arg1)) (m ((c.tc : Thread Cert.HeadBwdRefIdeal.nD Cert.HeadBwdRefIdeal.τ).loc Cert.HeadBwdRefIdeal.main_arg2)) (m ((c.tc : Thread Cert.HeadBwdRefIdeal.nD Cert.HeadBwdRefIdeal.τ).loc Cert.HeadBwdRefIdeal.main_arg3)) (m ((c.tc : Thread Cert.HeadBwdRefIdeal.nD Cert.HeadBwdRefIdeal.τ).loc Cert.HeadBwdRefIdeal.main_arg4)) (m ((c.tc : Thread Cert.HeadBwdRefIdeal.nD Cert.HeadBwdRefIdeal.τ).loc Cert.HeadBwdRefIdeal.main_arg5)) (m ((c.tc : Thread Cert.HeadBwdRefIdeal.nD Cert.HeadBwdRefIdeal.τ).loc Cert.HeadBwdRefIdeal.main_arg6)) (m ((c.tc : Thread Cert.HeadBwdRefIdeal.nD Cert.HeadBwdRefIdeal.τ).loc Cert.HeadBwdRefIdeal.main_arg7))).2.2.2.2.2.2.1 = (fun _ => 1#1)
    ∧ (Cert.Pre_head_numbers.fn (F := Ideal) (m ((c.tc : Thread Cert.HeadBwdRefIdeal.nD Cert.HeadBwdRefIdeal.τ).loc Cert.HeadBwdRefIdeal.main_arg0)) (m ((c.tc : Thread Cert.HeadBwdRefIdeal.nD Cert.HeadBwdRefIdeal.τ).loc Cert.HeadBwdRefIdeal.main_arg1)) (m ((c.tc : Thread Cert.HeadBwdRefIdeal.nD Cert.HeadBwdRefIdeal.τ).loc Cert.HeadBwdRefIdeal.main_arg2)) (m ((c.tc : Thread Cert.HeadBwdRefIdeal.nD Cert.HeadBwdRefIdeal.τ).loc Cert.HeadBwdRefIdeal.main_arg3)) (m ((c.tc : Thread Cert.HeadBwdRefIdeal.nD Cert.HeadBwdRefIdeal.τ).loc Cert.HeadBwdRefIdeal.main_arg4)) (m ((c.tc : Thread Cert.HeadBwdRefIdeal.nD Cert.HeadBwdRefIdeal.τ).loc Cert.HeadBwdRefIdeal.main_arg5)) (m ((c.tc : Thread Cert.HeadBwdRefIdeal.nD Cert.HeadBwdRefIdeal.τ).loc Cert.HeadBwdRefIdeal.main_arg6)) (m ((c.tc : Thread Cert.HeadBwdRefIdeal.nD Cert.HeadBwdRefIdeal.τ).loc Cert.HeadBwdRefIdeal.main_arg7))).2.2.2.2.2.2.2 = (fun _ => 1#1)

def Pre_SumSmall (m : (ℓ : Loc Cert.SumSmall.nD Cert.SumSmall.τ Cert.SumSmall.sig) → Buf (Elt Bits) ℓ) : Prop :=
  True

def Pre_SumSmallIdeal (m : (ℓ : Loc Cert.SumSmallIdeal.nD Cert.SumSmallIdeal.τ Cert.SumSmallIdeal.sig) → Buf (Elt Ideal) ℓ) : Prop :=
  True

def Pre_SumSmallRefIdeal (m : (ℓ : Loc Cert.SumSmallRefIdeal.nD Cert.SumSmallRefIdeal.τ Cert.SumSmallRefIdeal.sig) → Buf (Elt Ideal) ℓ) : Prop :=
  True

def Pre_AdamwSmall (m : (ℓ : Loc Cert.AdamwSmall.nD Cert.AdamwSmall.τ Cert.AdamwSmall.sig) → Buf (Elt Bits) ℓ) : Prop :=
  True

def Pre_AdamwSmallIdeal (m : (ℓ : Loc Cert.AdamwSmallIdeal.nD Cert.AdamwSmallIdeal.τ Cert.AdamwSmallIdeal.sig) → Buf (Elt Ideal) ℓ) : Prop :=
  True

def Pre_AdamwSmallRefIdeal (m : (ℓ : Loc Cert.AdamwSmallRefIdeal.nD Cert.AdamwSmallRefIdeal.τ Cert.AdamwSmallRefIdeal.sig) → Buf (Elt Ideal) ℓ) : Prop :=
  True

def Pre_HgrnFwd (m : (ℓ : Loc Cert.HgrnFwd.nD Cert.HgrnFwd.τ Cert.HgrnFwd.sig) → Buf (Elt Bits) ℓ) : Prop :=
  True

def Pre_HgrnFwdIdeal (m : (ℓ : Loc Cert.HgrnFwdIdeal.nD Cert.HgrnFwdIdeal.τ Cert.HgrnFwdIdeal.sig) → Buf (Elt Ideal) ℓ) : Prop :=
  True

def Pre_HgrnFwdIdeal_tame_fwd [hPre_tame_fwd : Cert.Pre_tame_fwd.Facts] (m : (ℓ : Loc Cert.HgrnFwdIdeal.nD Cert.HgrnFwdIdeal.τ Cert.HgrnFwdIdeal.sig) → Buf (Elt Ideal) ℓ) : Prop :=
  ∀ c : Dev Cert.HgrnFwdIdeal.nD,
    (Cert.Pre_tame_fwd.fn (F := Ideal) (m ((c.tc : Thread Cert.HgrnFwdIdeal.nD Cert.HgrnFwdIdeal.τ).loc Cert.HgrnFwdIdeal.main_arg0)) (m ((c.tc : Thread Cert.HgrnFwdIdeal.nD Cert.HgrnFwdIdeal.τ).loc Cert.HgrnFwdIdeal.main_arg1)) (m ((c.tc : Thread Cert.HgrnFwdIdeal.nD Cert.HgrnFwdIdeal.τ).loc Cert.HgrnFwdIdeal.main_arg2))).1 = (fun _ => 1#1)
    ∧ (Cert.Pre_tame_fwd.fn (F := Ideal) (m ((c.tc : Thread Cert.HgrnFwdIdeal.nD Cert.HgrnFwdIdeal.τ).loc Cert.HgrnFwdIdeal.main_arg0)) (m ((c.tc : Thread Cert.HgrnFwdIdeal.nD Cert.HgrnFwdIdeal.τ).loc Cert.HgrnFwdIdeal.main_arg1)) (m ((c.tc : Thread Cert.HgrnFwdIdeal.nD Cert.HgrnFwdIdeal.τ).loc Cert.HgrnFwdIdeal.main_arg2))).2 = (fun _ => 1#1)

def Pre_HgrnFwdRefIdeal (m : (ℓ : Loc Cert.HgrnFwdRefIdeal.nD Cert.HgrnFwdRefIdeal.τ Cert.HgrnFwdRefIdeal.sig) → Buf (Elt Ideal) ℓ) : Prop :=
  True

def Pre_HgrnFwdRefIdeal_tame_fwd [hPre_tame_fwd : Cert.Pre_tame_fwd.Facts] (m : (ℓ : Loc Cert.HgrnFwdRefIdeal.nD Cert.HgrnFwdRefIdeal.τ Cert.HgrnFwdRefIdeal.sig) → Buf (Elt Ideal) ℓ) : Prop :=
  ∀ c : Dev Cert.HgrnFwdRefIdeal.nD,
    (Cert.Pre_tame_fwd.fn (F := Ideal) (m ((c.tc : Thread Cert.HgrnFwdRefIdeal.nD Cert.HgrnFwdRefIdeal.τ).loc Cert.HgrnFwdRefIdeal.main_arg0)) (m ((c.tc : Thread Cert.HgrnFwdRefIdeal.nD Cert.HgrnFwdRefIdeal.τ).loc Cert.HgrnFwdRefIdeal.main_arg1)) (m ((c.tc : Thread Cert.HgrnFwdRefIdeal.nD Cert.HgrnFwdRefIdeal.τ).loc Cert.HgrnFwdRefIdeal.main_arg2))).1 = (fun _ => 1#1)
    ∧ (Cert.Pre_tame_fwd.fn (F := Ideal) (m ((c.tc : Thread Cert.HgrnFwdRefIdeal.nD Cert.HgrnFwdRefIdeal.τ).loc Cert.HgrnFwdRefIdeal.main_arg0)) (m ((c.tc : Thread Cert.HgrnFwdRefIdeal.nD Cert.HgrnFwdRefIdeal.τ).loc Cert.HgrnFwdRefIdeal.main_arg1)) (m ((c.tc : Thread Cert.HgrnFwdRefIdeal.nD Cert.HgrnFwdRefIdeal.τ).loc Cert.HgrnFwdRefIdeal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_WgradFfn [hWgradFfn : Cert.WgradFfn.Facts] : Prop :=
  ∀ (m : (ℓ : Loc Cert.WgradFfn.nD Cert.WgradFfn.τ Cert.WgradFfn.sig) → Buf (Elt Bits) ℓ) (g : Dev Cert.WgradFfn.nD → PrngReg), Pre_WgradFfn m →
    θ_run (Cert.WgradFfn.defs (F := Bits)) (onTc (τ := Cert.WgradFfn.τ) (Cert.WgradFfn.main (F := Bits))) ⟨m, fun _ => 0, g⟩ (fun r => (∀ c : Dev Cert.WgradFfn.nD,
      r.2.mem ((c.tc : Thread Cert.WgradFfn.nD Cert.WgradFfn.τ).loc Cert.WgradFfn.main_arg0) = m ((c.tc : Thread Cert.WgradFfn.nD Cert.WgradFfn.τ).loc Cert.WgradFfn.main_arg0)
      ∧ r.2.mem ((c.tc : Thread Cert.WgradFfn.nD Cert.WgradFfn.τ).loc Cert.WgradFfn.main_arg1) = m ((c.tc : Thread Cert.WgradFfn.nD Cert.WgradFfn.τ).loc Cert.WgradFfn.main_arg1))
      ∧ r.2.sem = fun _ => 0)

def quiescent_WgradFfnIdeal [hWgradFfnIdeal : Cert.WgradFfnIdeal.Facts] : Prop :=
  ∀ (m : (ℓ : Loc Cert.WgradFfnIdeal.nD Cert.WgradFfnIdeal.τ Cert.WgradFfnIdeal.sig) → Buf (Elt Ideal) ℓ) (g : Dev Cert.WgradFfnIdeal.nD → PrngReg), Pre_WgradFfnIdeal m →
    θ_run (Cert.WgradFfnIdeal.defs (F := Ideal)) (onTc (τ := Cert.WgradFfnIdeal.τ) (Cert.WgradFfnIdeal.main (F := Ideal))) ⟨m, fun _ => 0, g⟩ (fun r => (∀ c : Dev Cert.WgradFfnIdeal.nD,
      r.2.mem ((c.tc : Thread Cert.WgradFfnIdeal.nD Cert.WgradFfnIdeal.τ).loc Cert.WgradFfnIdeal.main_arg0) = m ((c.tc : Thread Cert.WgradFfnIdeal.nD Cert.WgradFfnIdeal.τ).loc Cert.WgradFfnIdeal.main_arg0)
      ∧ r.2.mem ((c.tc : Thread Cert.WgradFfnIdeal.nD Cert.WgradFfnIdeal.τ).loc Cert.WgradFfnIdeal.main_arg1) = m ((c.tc : Thread Cert.WgradFfnIdeal.nD Cert.WgradFfnIdeal.τ).loc Cert.WgradFfnIdeal.main_arg1))
      ∧ r.2.sem = fun _ => 0)

def quiescent_WgradFfnRefIdeal [hWgradFfnRefIdeal : Cert.WgradFfnRefIdeal.Facts] : Prop :=
  ∀ (m : (ℓ : Loc Cert.WgradFfnRefIdeal.nD Cert.WgradFfnRefIdeal.τ Cert.WgradFfnRefIdeal.sig) → Buf (Elt Ideal) ℓ) (g : Dev Cert.WgradFfnRefIdeal.nD → PrngReg), Pre_WgradFfnRefIdeal m →
    θ_run (Cert.WgradFfnRefIdeal.defs (F := Ideal)) (onTc (τ := Cert.WgradFfnRefIdeal.τ) (Cert.WgradFfnRefIdeal.main (F := Ideal))) ⟨m, fun _ => 0, g⟩ (fun r => (∀ c : Dev Cert.WgradFfnRefIdeal.nD,
      r.2.mem ((c.tc : Thread Cert.WgradFfnRefIdeal.nD Cert.WgradFfnRefIdeal.τ).loc Cert.WgradFfnRefIdeal.main_arg0) = m ((c.tc : Thread Cert.WgradFfnRefIdeal.nD Cert.WgradFfnRefIdeal.τ).loc Cert.WgradFfnRefIdeal.main_arg0)
      ∧ r.2.mem ((c.tc : Thread Cert.WgradFfnRefIdeal.nD Cert.WgradFfnRefIdeal.τ).loc Cert.WgradFfnRefIdeal.main_arg1) = m ((c.tc : Thread Cert.WgradFfnRefIdeal.nD Cert.WgradFfnRefIdeal.τ).loc Cert.WgradFfnRefIdeal.main_arg1))
      ∧ r.2.sem = fun _ => 0)

def quiescent_WgradDown [hWgradDown : Cert.WgradDown.Facts] : Prop :=
  ∀ (m : (ℓ : Loc Cert.WgradDown.nD Cert.WgradDown.τ Cert.WgradDown.sig) → Buf (Elt Bits) ℓ) (g : Dev Cert.WgradDown.nD → PrngReg), Pre_WgradDown m →
    θ_run (Cert.WgradDown.defs (F := Bits)) (onTc (τ := Cert.WgradDown.τ) (Cert.WgradDown.main (F := Bits))) ⟨m, fun _ => 0, g⟩ (fun r => (∀ c : Dev Cert.WgradDown.nD,
      r.2.mem ((c.tc : Thread Cert.WgradDown.nD Cert.WgradDown.τ).loc Cert.WgradDown.main_arg0) = m ((c.tc : Thread Cert.WgradDown.nD Cert.WgradDown.τ).loc Cert.WgradDown.main_arg0)
      ∧ r.2.mem ((c.tc : Thread Cert.WgradDown.nD Cert.WgradDown.τ).loc Cert.WgradDown.main_arg1) = m ((c.tc : Thread Cert.WgradDown.nD Cert.WgradDown.τ).loc Cert.WgradDown.main_arg1))
      ∧ r.2.sem = fun _ => 0)

def quiescent_WgradDownIdeal [hWgradDownIdeal : Cert.WgradDownIdeal.Facts] : Prop :=
  ∀ (m : (ℓ : Loc Cert.WgradDownIdeal.nD Cert.WgradDownIdeal.τ Cert.WgradDownIdeal.sig) → Buf (Elt Ideal) ℓ) (g : Dev Cert.WgradDownIdeal.nD → PrngReg), Pre_WgradDownIdeal m →
    θ_run (Cert.WgradDownIdeal.defs (F := Ideal)) (onTc (τ := Cert.WgradDownIdeal.τ) (Cert.WgradDownIdeal.main (F := Ideal))) ⟨m, fun _ => 0, g⟩ (fun r => (∀ c : Dev Cert.WgradDownIdeal.nD,
      r.2.mem ((c.tc : Thread Cert.WgradDownIdeal.nD Cert.WgradDownIdeal.τ).loc Cert.WgradDownIdeal.main_arg0) = m ((c.tc : Thread Cert.WgradDownIdeal.nD Cert.WgradDownIdeal.τ).loc Cert.WgradDownIdeal.main_arg0)
      ∧ r.2.mem ((c.tc : Thread Cert.WgradDownIdeal.nD Cert.WgradDownIdeal.τ).loc Cert.WgradDownIdeal.main_arg1) = m ((c.tc : Thread Cert.WgradDownIdeal.nD Cert.WgradDownIdeal.τ).loc Cert.WgradDownIdeal.main_arg1))
      ∧ r.2.sem = fun _ => 0)

def quiescent_WgradDownRefIdeal [hWgradDownRefIdeal : Cert.WgradDownRefIdeal.Facts] : Prop :=
  ∀ (m : (ℓ : Loc Cert.WgradDownRefIdeal.nD Cert.WgradDownRefIdeal.τ Cert.WgradDownRefIdeal.sig) → Buf (Elt Ideal) ℓ) (g : Dev Cert.WgradDownRefIdeal.nD → PrngReg), Pre_WgradDownRefIdeal m →
    θ_run (Cert.WgradDownRefIdeal.defs (F := Ideal)) (onTc (τ := Cert.WgradDownRefIdeal.τ) (Cert.WgradDownRefIdeal.main (F := Ideal))) ⟨m, fun _ => 0, g⟩ (fun r => (∀ c : Dev Cert.WgradDownRefIdeal.nD,
      r.2.mem ((c.tc : Thread Cert.WgradDownRefIdeal.nD Cert.WgradDownRefIdeal.τ).loc Cert.WgradDownRefIdeal.main_arg0) = m ((c.tc : Thread Cert.WgradDownRefIdeal.nD Cert.WgradDownRefIdeal.τ).loc Cert.WgradDownRefIdeal.main_arg0)
      ∧ r.2.mem ((c.tc : Thread Cert.WgradDownRefIdeal.nD Cert.WgradDownRefIdeal.τ).loc Cert.WgradDownRefIdeal.main_arg1) = m ((c.tc : Thread Cert.WgradDownRefIdeal.nD Cert.WgradDownRefIdeal.τ).loc Cert.WgradDownRefIdeal.main_arg1))
      ∧ r.2.sem = fun _ => 0)

def quiescent_WgradOut [hWgradOut : Cert.WgradOut.Facts] : Prop :=
  ∀ (m : (ℓ : Loc Cert.WgradOut.nD Cert.WgradOut.τ Cert.WgradOut.sig) → Buf (Elt Bits) ℓ) (g : Dev Cert.WgradOut.nD → PrngReg), Pre_WgradOut m →
    θ_run (Cert.WgradOut.defs (F := Bits)) (onTc (τ := Cert.WgradOut.τ) (Cert.WgradOut.main (F := Bits))) ⟨m, fun _ => 0, g⟩ (fun r => (∀ c : Dev Cert.WgradOut.nD,
      r.2.mem ((c.tc : Thread Cert.WgradOut.nD Cert.WgradOut.τ).loc Cert.WgradOut.main_arg0) = m ((c.tc : Thread Cert.WgradOut.nD Cert.WgradOut.τ).loc Cert.WgradOut.main_arg0)
      ∧ r.2.mem ((c.tc : Thread Cert.WgradOut.nD Cert.WgradOut.τ).loc Cert.WgradOut.main_arg1) = m ((c.tc : Thread Cert.WgradOut.nD Cert.WgradOut.τ).loc Cert.WgradOut.main_arg1))
      ∧ r.2.sem = fun _ => 0)

def quiescent_WgradOutIdeal [hWgradOutIdeal : Cert.WgradOutIdeal.Facts] : Prop :=
  ∀ (m : (ℓ : Loc Cert.WgradOutIdeal.nD Cert.WgradOutIdeal.τ Cert.WgradOutIdeal.sig) → Buf (Elt Ideal) ℓ) (g : Dev Cert.WgradOutIdeal.nD → PrngReg), Pre_WgradOutIdeal m →
    θ_run (Cert.WgradOutIdeal.defs (F := Ideal)) (onTc (τ := Cert.WgradOutIdeal.τ) (Cert.WgradOutIdeal.main (F := Ideal))) ⟨m, fun _ => 0, g⟩ (fun r => (∀ c : Dev Cert.WgradOutIdeal.nD,
      r.2.mem ((c.tc : Thread Cert.WgradOutIdeal.nD Cert.WgradOutIdeal.τ).loc Cert.WgradOutIdeal.main_arg0) = m ((c.tc : Thread Cert.WgradOutIdeal.nD Cert.WgradOutIdeal.τ).loc Cert.WgradOutIdeal.main_arg0)
      ∧ r.2.mem ((c.tc : Thread Cert.WgradOutIdeal.nD Cert.WgradOutIdeal.τ).loc Cert.WgradOutIdeal.main_arg1) = m ((c.tc : Thread Cert.WgradOutIdeal.nD Cert.WgradOutIdeal.τ).loc Cert.WgradOutIdeal.main_arg1))
      ∧ r.2.sem = fun _ => 0)

def quiescent_WgradOutRefIdeal [hWgradOutRefIdeal : Cert.WgradOutRefIdeal.Facts] : Prop :=
  ∀ (m : (ℓ : Loc Cert.WgradOutRefIdeal.nD Cert.WgradOutRefIdeal.τ Cert.WgradOutRefIdeal.sig) → Buf (Elt Ideal) ℓ) (g : Dev Cert.WgradOutRefIdeal.nD → PrngReg), Pre_WgradOutRefIdeal m →
    θ_run (Cert.WgradOutRefIdeal.defs (F := Ideal)) (onTc (τ := Cert.WgradOutRefIdeal.τ) (Cert.WgradOutRefIdeal.main (F := Ideal))) ⟨m, fun _ => 0, g⟩ (fun r => (∀ c : Dev Cert.WgradOutRefIdeal.nD,
      r.2.mem ((c.tc : Thread Cert.WgradOutRefIdeal.nD Cert.WgradOutRefIdeal.τ).loc Cert.WgradOutRefIdeal.main_arg0) = m ((c.tc : Thread Cert.WgradOutRefIdeal.nD Cert.WgradOutRefIdeal.τ).loc Cert.WgradOutRefIdeal.main_arg0)
      ∧ r.2.mem ((c.tc : Thread Cert.WgradOutRefIdeal.nD Cert.WgradOutRefIdeal.τ).loc Cert.WgradOutRefIdeal.main_arg1) = m ((c.tc : Thread Cert.WgradOutRefIdeal.nD Cert.WgradOutRefIdeal.τ).loc Cert.WgradOutRefIdeal.main_arg1))
      ∧ r.2.sem = fun _ => 0)

def quiescent_WgradProj [hWgradProj : Cert.WgradProj.Facts] : Prop :=
  ∀ (m : (ℓ : Loc Cert.WgradProj.nD Cert.WgradProj.τ Cert.WgradProj.sig) → Buf (Elt Bits) ℓ) (g : Dev Cert.WgradProj.nD → PrngReg), Pre_WgradProj m →
    θ_run (Cert.WgradProj.defs (F := Bits)) (onTc (τ := Cert.WgradProj.τ) (Cert.WgradProj.main (F := Bits))) ⟨m, fun _ => 0, g⟩ (fun r => (∀ c : Dev Cert.WgradProj.nD,
      r.2.mem ((c.tc : Thread Cert.WgradProj.nD Cert.WgradProj.τ).loc Cert.WgradProj.main_arg0) = m ((c.tc : Thread Cert.WgradProj.nD Cert.WgradProj.τ).loc Cert.WgradProj.main_arg0)
      ∧ r.2.mem ((c.tc : Thread Cert.WgradProj.nD Cert.WgradProj.τ).loc Cert.WgradProj.main_arg1) = m ((c.tc : Thread Cert.WgradProj.nD Cert.WgradProj.τ).loc Cert.WgradProj.main_arg1))
      ∧ r.2.sem = fun _ => 0)

def quiescent_WgradProjIdeal [hWgradProjIdeal : Cert.WgradProjIdeal.Facts] : Prop :=
  ∀ (m : (ℓ : Loc Cert.WgradProjIdeal.nD Cert.WgradProjIdeal.τ Cert.WgradProjIdeal.sig) → Buf (Elt Ideal) ℓ) (g : Dev Cert.WgradProjIdeal.nD → PrngReg), Pre_WgradProjIdeal m →
    θ_run (Cert.WgradProjIdeal.defs (F := Ideal)) (onTc (τ := Cert.WgradProjIdeal.τ) (Cert.WgradProjIdeal.main (F := Ideal))) ⟨m, fun _ => 0, g⟩ (fun r => (∀ c : Dev Cert.WgradProjIdeal.nD,
      r.2.mem ((c.tc : Thread Cert.WgradProjIdeal.nD Cert.WgradProjIdeal.τ).loc Cert.WgradProjIdeal.main_arg0) = m ((c.tc : Thread Cert.WgradProjIdeal.nD Cert.WgradProjIdeal.τ).loc Cert.WgradProjIdeal.main_arg0)
      ∧ r.2.mem ((c.tc : Thread Cert.WgradProjIdeal.nD Cert.WgradProjIdeal.τ).loc Cert.WgradProjIdeal.main_arg1) = m ((c.tc : Thread Cert.WgradProjIdeal.nD Cert.WgradProjIdeal.τ).loc Cert.WgradProjIdeal.main_arg1))
      ∧ r.2.sem = fun _ => 0)

def quiescent_WgradProjRefIdeal [hWgradProjRefIdeal : Cert.WgradProjRefIdeal.Facts] : Prop :=
  ∀ (m : (ℓ : Loc Cert.WgradProjRefIdeal.nD Cert.WgradProjRefIdeal.τ Cert.WgradProjRefIdeal.sig) → Buf (Elt Ideal) ℓ) (g : Dev Cert.WgradProjRefIdeal.nD → PrngReg), Pre_WgradProjRefIdeal m →
    θ_run (Cert.WgradProjRefIdeal.defs (F := Ideal)) (onTc (τ := Cert.WgradProjRefIdeal.τ) (Cert.WgradProjRefIdeal.main (F := Ideal))) ⟨m, fun _ => 0, g⟩ (fun r => (∀ c : Dev Cert.WgradProjRefIdeal.nD,
      r.2.mem ((c.tc : Thread Cert.WgradProjRefIdeal.nD Cert.WgradProjRefIdeal.τ).loc Cert.WgradProjRefIdeal.main_arg0) = m ((c.tc : Thread Cert.WgradProjRefIdeal.nD Cert.WgradProjRefIdeal.τ).loc Cert.WgradProjRefIdeal.main_arg0)
      ∧ r.2.mem ((c.tc : Thread Cert.WgradProjRefIdeal.nD Cert.WgradProjRefIdeal.τ).loc Cert.WgradProjRefIdeal.main_arg1) = m ((c.tc : Thread Cert.WgradProjRefIdeal.nD Cert.WgradProjRefIdeal.τ).loc Cert.WgradProjRefIdeal.main_arg1))
      ∧ r.2.sem = fun _ => 0)

def quiescent_WgradGate [hWgradGate : Cert.WgradGate.Facts] : Prop :=
  ∀ (m : (ℓ : Loc Cert.WgradGate.nD Cert.WgradGate.τ Cert.WgradGate.sig) → Buf (Elt Bits) ℓ) (g : Dev Cert.WgradGate.nD → PrngReg), Pre_WgradGate m →
    θ_run (Cert.WgradGate.defs (F := Bits)) (onTc (τ := Cert.WgradGate.τ) (Cert.WgradGate.main (F := Bits))) ⟨m, fun _ => 0, g⟩ (fun r => (∀ c : Dev Cert.WgradGate.nD,
      r.2.mem ((c.tc : Thread Cert.WgradGate.nD Cert.WgradGate.τ).loc Cert.WgradGate.main_arg0) = m ((c.tc : Thread Cert.WgradGate.nD Cert.WgradGate.τ).loc Cert.WgradGate.main_arg0)
      ∧ r.2.mem ((c.tc : Thread Cert.WgradGate.nD Cert.WgradGate.τ).loc Cert.WgradGate.main_arg1) = m ((c.tc : Thread Cert.WgradGate.nD Cert.WgradGate.τ).loc Cert.WgradGate.main_arg1))
      ∧ r.2.sem = fun _ => 0)

def quiescent_WgradGateIdeal [hWgradGateIdeal : Cert.WgradGateIdeal.Facts] : Prop :=
  ∀ (m : (ℓ : Loc Cert.WgradGateIdeal.nD Cert.WgradGateIdeal.τ Cert.WgradGateIdeal.sig) → Buf (Elt Ideal) ℓ) (g : Dev Cert.WgradGateIdeal.nD → PrngReg), Pre_WgradGateIdeal m →
    θ_run (Cert.WgradGateIdeal.defs (F := Ideal)) (onTc (τ := Cert.WgradGateIdeal.τ) (Cert.WgradGateIdeal.main (F := Ideal))) ⟨m, fun _ => 0, g⟩ (fun r => (∀ c : Dev Cert.WgradGateIdeal.nD,
      r.2.mem ((c.tc : Thread Cert.WgradGateIdeal.nD Cert.WgradGateIdeal.τ).loc Cert.WgradGateIdeal.main_arg0) = m ((c.tc : Thread Cert.WgradGateIdeal.nD Cert.WgradGateIdeal.τ).loc Cert.WgradGateIdeal.main_arg0)
      ∧ r.2.mem ((c.tc : Thread Cert.WgradGateIdeal.nD Cert.WgradGateIdeal.τ).loc Cert.WgradGateIdeal.main_arg1) = m ((c.tc : Thread Cert.WgradGateIdeal.nD Cert.WgradGateIdeal.τ).loc Cert.WgradGateIdeal.main_arg1))
      ∧ r.2.sem = fun _ => 0)

def quiescent_WgradGateRefIdeal [hWgradGateRefIdeal : Cert.WgradGateRefIdeal.Facts] : Prop :=
  ∀ (m : (ℓ : Loc Cert.WgradGateRefIdeal.nD Cert.WgradGateRefIdeal.τ Cert.WgradGateRefIdeal.sig) → Buf (Elt Ideal) ℓ) (g : Dev Cert.WgradGateRefIdeal.nD → PrngReg), Pre_WgradGateRefIdeal m →
    θ_run (Cert.WgradGateRefIdeal.defs (F := Ideal)) (onTc (τ := Cert.WgradGateRefIdeal.τ) (Cert.WgradGateRefIdeal.main (F := Ideal))) ⟨m, fun _ => 0, g⟩ (fun r => (∀ c : Dev Cert.WgradGateRefIdeal.nD,
      r.2.mem ((c.tc : Thread Cert.WgradGateRefIdeal.nD Cert.WgradGateRefIdeal.τ).loc Cert.WgradGateRefIdeal.main_arg0) = m ((c.tc : Thread Cert.WgradGateRefIdeal.nD Cert.WgradGateRefIdeal.τ).loc Cert.WgradGateRefIdeal.main_arg0)
      ∧ r.2.mem ((c.tc : Thread Cert.WgradGateRefIdeal.nD Cert.WgradGateRefIdeal.τ).loc Cert.WgradGateRefIdeal.main_arg1) = m ((c.tc : Thread Cert.WgradGateRefIdeal.nD Cert.WgradGateRefIdeal.τ).loc Cert.WgradGateRefIdeal.main_arg1))
      ∧ r.2.sem = fun _ => 0)

def quiescent_WgradHg [hWgradHg : Cert.WgradHg.Facts] : Prop :=
  ∀ (m : (ℓ : Loc Cert.WgradHg.nD Cert.WgradHg.τ Cert.WgradHg.sig) → Buf (Elt Bits) ℓ) (g : Dev Cert.WgradHg.nD → PrngReg), Pre_WgradHg m →
    θ_run (Cert.WgradHg.defs (F := Bits)) (onTc (τ := Cert.WgradHg.τ) (Cert.WgradHg.main (F := Bits))) ⟨m, fun _ => 0, g⟩ (fun r => (∀ c : Dev Cert.WgradHg.nD,
      r.2.mem ((c.tc : Thread Cert.WgradHg.nD Cert.WgradHg.τ).loc Cert.WgradHg.main_arg0) = m ((c.tc : Thread Cert.WgradHg.nD Cert.WgradHg.τ).loc Cert.WgradHg.main_arg0)
      ∧ r.2.mem ((c.tc : Thread Cert.WgradHg.nD Cert.WgradHg.τ).loc Cert.WgradHg.main_arg1) = m ((c.tc : Thread Cert.WgradHg.nD Cert.WgradHg.τ).loc Cert.WgradHg.main_arg1))
      ∧ r.2.sem = fun _ => 0)

def quiescent_WgradHgIdeal [hWgradHgIdeal : Cert.WgradHgIdeal.Facts] : Prop :=
  ∀ (m : (ℓ : Loc Cert.WgradHgIdeal.nD Cert.WgradHgIdeal.τ Cert.WgradHgIdeal.sig) → Buf (Elt Ideal) ℓ) (g : Dev Cert.WgradHgIdeal.nD → PrngReg), Pre_WgradHgIdeal m →
    θ_run (Cert.WgradHgIdeal.defs (F := Ideal)) (onTc (τ := Cert.WgradHgIdeal.τ) (Cert.WgradHgIdeal.main (F := Ideal))) ⟨m, fun _ => 0, g⟩ (fun r => (∀ c : Dev Cert.WgradHgIdeal.nD,
      r.2.mem ((c.tc : Thread Cert.WgradHgIdeal.nD Cert.WgradHgIdeal.τ).loc Cert.WgradHgIdeal.main_arg0) = m ((c.tc : Thread Cert.WgradHgIdeal.nD Cert.WgradHgIdeal.τ).loc Cert.WgradHgIdeal.main_arg0)
      ∧ r.2.mem ((c.tc : Thread Cert.WgradHgIdeal.nD Cert.WgradHgIdeal.τ).loc Cert.WgradHgIdeal.main_arg1) = m ((c.tc : Thread Cert.WgradHgIdeal.nD Cert.WgradHgIdeal.τ).loc Cert.WgradHgIdeal.main_arg1))
      ∧ r.2.sem = fun _ => 0)

def quiescent_WgradHgRefIdeal [hWgradHgRefIdeal : Cert.WgradHgRefIdeal.Facts] : Prop :=
  ∀ (m : (ℓ : Loc Cert.WgradHgRefIdeal.nD Cert.WgradHgRefIdeal.τ Cert.WgradHgRefIdeal.sig) → Buf (Elt Ideal) ℓ) (g : Dev Cert.WgradHgRefIdeal.nD → PrngReg), Pre_WgradHgRefIdeal m →
    θ_run (Cert.WgradHgRefIdeal.defs (F := Ideal)) (onTc (τ := Cert.WgradHgRefIdeal.τ) (Cert.WgradHgRefIdeal.main (F := Ideal))) ⟨m, fun _ => 0, g⟩ (fun r => (∀ c : Dev Cert.WgradHgRefIdeal.nD,
      r.2.mem ((c.tc : Thread Cert.WgradHgRefIdeal.nD Cert.WgradHgRefIdeal.τ).loc Cert.WgradHgRefIdeal.main_arg0) = m ((c.tc : Thread Cert.WgradHgRefIdeal.nD Cert.WgradHgRefIdeal.τ).loc Cert.WgradHgRefIdeal.main_arg0)
      ∧ r.2.mem ((c.tc : Thread Cert.WgradHgRefIdeal.nD Cert.WgradHgRefIdeal.τ).loc Cert.WgradHgRefIdeal.main_arg1) = m ((c.tc : Thread Cert.WgradHgRefIdeal.nD Cert.WgradHgRefIdeal.τ).loc Cert.WgradHgRefIdeal.main_arg1))
      ∧ r.2.sem = fun _ => 0)

def quiescent_WgradMl [hWgradMl : Cert.WgradMl.Facts] : Prop :=
  ∀ (m : (ℓ : Loc Cert.WgradMl.nD Cert.WgradMl.τ Cert.WgradMl.sig) → Buf (Elt Bits) ℓ) (g : Dev Cert.WgradMl.nD → PrngReg), Pre_WgradMl m →
    θ_run (Cert.WgradMl.defs (F := Bits)) (onTc (τ := Cert.WgradMl.τ) (Cert.WgradMl.main (F := Bits))) ⟨m, fun _ => 0, g⟩ (fun r => (∀ c : Dev Cert.WgradMl.nD,
      r.2.mem ((c.tc : Thread Cert.WgradMl.nD Cert.WgradMl.τ).loc Cert.WgradMl.main_arg0) = m ((c.tc : Thread Cert.WgradMl.nD Cert.WgradMl.τ).loc Cert.WgradMl.main_arg0)
      ∧ r.2.mem ((c.tc : Thread Cert.WgradMl.nD Cert.WgradMl.τ).loc Cert.WgradMl.main_arg1) = m ((c.tc : Thread Cert.WgradMl.nD Cert.WgradMl.τ).loc Cert.WgradMl.main_arg1))
      ∧ r.2.sem = fun _ => 0)

def quiescent_WgradMlIdeal [hWgradMlIdeal : Cert.WgradMlIdeal.Facts] : Prop :=
  ∀ (m : (ℓ : Loc Cert.WgradMlIdeal.nD Cert.WgradMlIdeal.τ Cert.WgradMlIdeal.sig) → Buf (Elt Ideal) ℓ) (g : Dev Cert.WgradMlIdeal.nD → PrngReg), Pre_WgradMlIdeal m →
    θ_run (Cert.WgradMlIdeal.defs (F := Ideal)) (onTc (τ := Cert.WgradMlIdeal.τ) (Cert.WgradMlIdeal.main (F := Ideal))) ⟨m, fun _ => 0, g⟩ (fun r => (∀ c : Dev Cert.WgradMlIdeal.nD,
      r.2.mem ((c.tc : Thread Cert.WgradMlIdeal.nD Cert.WgradMlIdeal.τ).loc Cert.WgradMlIdeal.main_arg0) = m ((c.tc : Thread Cert.WgradMlIdeal.nD Cert.WgradMlIdeal.τ).loc Cert.WgradMlIdeal.main_arg0)
      ∧ r.2.mem ((c.tc : Thread Cert.WgradMlIdeal.nD Cert.WgradMlIdeal.τ).loc Cert.WgradMlIdeal.main_arg1) = m ((c.tc : Thread Cert.WgradMlIdeal.nD Cert.WgradMlIdeal.τ).loc Cert.WgradMlIdeal.main_arg1))
      ∧ r.2.sem = fun _ => 0)

def quiescent_WgradMlRefIdeal [hWgradMlRefIdeal : Cert.WgradMlRefIdeal.Facts] : Prop :=
  ∀ (m : (ℓ : Loc Cert.WgradMlRefIdeal.nD Cert.WgradMlRefIdeal.τ Cert.WgradMlRefIdeal.sig) → Buf (Elt Ideal) ℓ) (g : Dev Cert.WgradMlRefIdeal.nD → PrngReg), Pre_WgradMlRefIdeal m →
    θ_run (Cert.WgradMlRefIdeal.defs (F := Ideal)) (onTc (τ := Cert.WgradMlRefIdeal.τ) (Cert.WgradMlRefIdeal.main (F := Ideal))) ⟨m, fun _ => 0, g⟩ (fun r => (∀ c : Dev Cert.WgradMlRefIdeal.nD,
      r.2.mem ((c.tc : Thread Cert.WgradMlRefIdeal.nD Cert.WgradMlRefIdeal.τ).loc Cert.WgradMlRefIdeal.main_arg0) = m ((c.tc : Thread Cert.WgradMlRefIdeal.nD Cert.WgradMlRefIdeal.τ).loc Cert.WgradMlRefIdeal.main_arg0)
      ∧ r.2.mem ((c.tc : Thread Cert.WgradMlRefIdeal.nD Cert.WgradMlRefIdeal.τ).loc Cert.WgradMlRefIdeal.main_arg1) = m ((c.tc : Thread Cert.WgradMlRefIdeal.nD Cert.WgradMlRefIdeal.τ).loc Cert.WgradMlRefIdeal.main_arg1))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1)
      ∧ r.2.mem ((c.tc : Thread Cert.FfnUpRefIdeal.nD Cert.FfnUpRefIdeal.τ).loc Cert.FfnUpRefIdeal.main_arg2) = m ((c.tc : Thread Cert.FfnUpRefIdeal.nD Cert.FfnUpRefIdeal.τ).loc Cert.FfnUpRefIdeal.main_arg2))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2)
      ∧ r.2.mem ((c.tc : Thread Cert.FfnDown.nD Cert.FfnDown.τ).loc Cert.FfnDown.main_arg3) = m ((c.tc : Thread Cert.FfnDown.nD Cert.FfnDown.τ).loc Cert.FfnDown.main_arg3)
      ∧ r.2.mem ((c.tc : Thread Cert.FfnDown.nD Cert.FfnDown.τ).loc Cert.FfnDown.main_arg4) = m ((c.tc : Thread Cert.FfnDown.nD Cert.FfnDown.τ).loc Cert.FfnDown.main_arg4))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
      ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3)
      ∧ r.2.mem ((c.tc : Thread Cert.FfnDownIdeal.nD Cert.FfnDownIdeal.τ).loc Cert.FfnDownIdeal.main_arg4) = m ((c.tc : Thread Cert.FfnDownIdeal.nD Cert.FfnDownIdeal.τ).loc Cert.FfnDownIdeal.main_arg4))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2)
      ∧ r.2.mem ((c.tc : Thread Cert.FfnDownRefIdeal.nD Cert.FfnDownRefIdeal.τ).loc Cert.FfnDownRefIdeal.main_arg3) = m ((c.tc : Thread Cert.FfnDownRefIdeal.nD Cert.FfnDownRefIdeal.τ).loc Cert.FfnDownRefIdeal.main_arg3)
      ∧ r.2.mem ((c.tc : Thread Cert.FfnDownRefIdeal.nD Cert.FfnDownRefIdeal.τ).loc Cert.FfnDownRefIdeal.main_arg4) = m ((c.tc : Thread Cert.FfnDownRefIdeal.nD Cert.FfnDownRefIdeal.τ).loc Cert.FfnDownRefIdeal.main_arg4))
      ∧ r.2.sem = fun _ => 0)

def quiescent_Outproj [hOutproj : Cert.Outproj.Facts] : Prop :=
  ∀ (m : (ℓ : Loc Cert.Outproj.nD Cert.Outproj.τ Cert.Outproj.sig) → Buf (Elt Bits) ℓ) (g : Dev Cert.Outproj.nD → PrngReg), Pre_Outproj m →
    θ_run (Cert.Outproj.defs (F := Bits)) (onTc (τ := Cert.Outproj.τ) (Cert.Outproj.main (F := Bits))) ⟨m, fun _ => 0, g⟩ (fun r => (∀ c : Dev Cert.Outproj.nD,
      r.2.mem ((c.tc : Thread Cert.Outproj.nD Cert.Outproj.τ).loc Cert.Outproj.main_arg0) = m ((c.tc : Thread Cert.Outproj.nD Cert.Outproj.τ).loc Cert.Outproj.main_arg0)
      ∧ r.2.mem ((c.tc : Thread Cert.Outproj.nD Cert.Outproj.τ).loc Cert.Outproj.main_arg1) = m ((c.tc : Thread Cert.Outproj.nD Cert.Outproj.τ).loc Cert.Outproj.main_arg1)
      ∧ r.2.mem ((c.tc : Thread Cert.Outproj.nD Cert.Outproj.τ).loc Cert.Outproj.main_arg2) = m ((c.tc : Thread Cert.Outproj.nD Cert.Outproj.τ).loc Cert.Outproj.main_arg2)
      ∧ r.2.mem ((c.tc : Thread Cert.Outproj.nD Cert.Outproj.τ).loc Cert.Outproj.main_arg3) = m ((c.tc : Thread Cert.Outproj.nD Cert.Outproj.τ).loc Cert.Outproj.main_arg3)
      ∧ r.2.mem ((c.tc : Thread Cert.Outproj.nD Cert.Outproj.τ).loc Cert.Outproj.main_arg4) = m ((c.tc : Thread Cert.Outproj.nD Cert.Outproj.τ).loc Cert.Outproj.main_arg4)
      ∧ r.2.mem ((c.tc : Thread Cert.Outproj.nD Cert.Outproj.τ).loc Cert.Outproj.main_arg5) = m ((c.tc : Thread Cert.Outproj.nD Cert.Outproj.τ).loc Cert.Outproj.main_arg5))
      ∧ r.2.sem = fun _ => 0)

def quiescent_OutprojIdeal [hOutprojIdeal : Cert.OutprojIdeal.Facts] : Prop :=
  ∀ (m : (ℓ : Loc Cert.OutprojIdeal.nD Cert.OutprojIdeal.τ Cert.OutprojIdeal.sig) → Buf (Elt Ideal) ℓ) (g : Dev Cert.OutprojIdeal.nD → PrngReg), Pre_OutprojIdeal m →
    θ_run (Cert.OutprojIdeal.defs (F := Ideal)) (onTc (τ := Cert.OutprojIdeal.τ) (Cert.OutprojIdeal.main (F := Ideal))) ⟨m, fun _ => 0, g⟩ (fun r => (∀ c : Dev Cert.OutprojIdeal.nD,
      r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
      ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
      ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
      ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
      ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
      ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5))
      ∧ r.2.sem = fun _ => 0)

def quiescent_OutprojRefIdeal [hOutprojRefIdeal : Cert.OutprojRefIdeal.Facts] : Prop :=
  ∀ (m : (ℓ : Loc Cert.OutprojRefIdeal.nD Cert.OutprojRefIdeal.τ Cert.OutprojRefIdeal.sig) → Buf (Elt Ideal) ℓ) (g : Dev Cert.OutprojRefIdeal.nD → PrngReg), Pre_OutprojRefIdeal m →
    θ_run (Cert.OutprojRefIdeal.defs (F := Ideal)) (onTc (τ := Cert.OutprojRefIdeal.τ) (Cert.OutprojRefIdeal.main (F := Ideal))) ⟨m, fun _ => 0, g⟩ (fun r => (∀ c : Dev Cert.OutprojRefIdeal.nD,
      r.2.mem ((c.tc : Thread Cert.OutprojRefIdeal.nD Cert.OutprojRefIdeal.τ).loc Cert.OutprojRefIdeal.main_arg0) = m ((c.tc : Thread Cert.OutprojRefIdeal.nD Cert.OutprojRefIdeal.τ).loc Cert.OutprojRefIdeal.main_arg0)
      ∧ r.2.mem ((c.tc : Thread Cert.OutprojRefIdeal.nD Cert.OutprojRefIdeal.τ).loc Cert.OutprojRefIdeal.main_arg1) = m ((c.tc : Thread Cert.OutprojRefIdeal.nD Cert.OutprojRefIdeal.τ).loc Cert.OutprojRefIdeal.main_arg1)
      ∧ r.2.mem ((c.tc : Thread Cert.OutprojRefIdeal.nD Cert.OutprojRefIdeal.τ).loc Cert.OutprojRefIdeal.main_arg2) = m ((c.tc : Thread Cert.OutprojRefIdeal.nD Cert.OutprojRefIdeal.τ).loc Cert.OutprojRefIdeal.main_arg2)
      ∧ r.2.mem ((c.tc : Thread Cert.OutprojRefIdeal.nD Cert.OutprojRefIdeal.τ).loc Cert.OutprojRefIdeal.main_arg3) = m ((c.tc : Thread Cert.OutprojRefIdeal.nD Cert.OutprojRefIdeal.τ).loc Cert.OutprojRefIdeal.main_arg3)
      ∧ r.2.mem ((c.tc : Thread Cert.OutprojRefIdeal.nD Cert.OutprojRefIdeal.τ).loc Cert.OutprojRefIdeal.main_arg4) = m ((c.tc : Thread Cert.OutprojRefIdeal.nD Cert.OutprojRefIdeal.τ).loc Cert.OutprojRefIdeal.main_arg4)
      ∧ r.2.mem ((c.tc : Thread Cert.OutprojRefIdeal.nD Cert.OutprojRefIdeal.τ).loc Cert.OutprojRefIdeal.main_arg5) = m ((c.tc : Thread Cert.OutprojRefIdeal.nD Cert.OutprojRefIdeal.τ).loc Cert.OutprojRefIdeal.main_arg5))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4))
      ∧ r.2.sem = fun _ => 0)

def quiescent_InprojBwd [hInprojBwd : Cert.InprojBwd.Facts] : Prop :=
  ∀ (m : (ℓ : Loc Cert.InprojBwd.nD Cert.InprojBwd.τ Cert.InprojBwd.sig) → Buf (Elt Bits) ℓ) (g : Dev Cert.InprojBwd.nD → PrngReg), Pre_InprojBwd m →
    θ_run (Cert.InprojBwd.defs (F := Bits)) (onTc (τ := Cert.InprojBwd.τ) (Cert.InprojBwd.main (F := Bits))) ⟨m, fun _ => 0, g⟩ (fun r => (∀ c : Dev Cert.InprojBwd.nD,
      r.2.mem ((c.tc : Thread Cert.InprojBwd.nD Cert.InprojBwd.τ).loc Cert.InprojBwd.main_arg0) = m ((c.tc : Thread Cert.InprojBwd.nD Cert.InprojBwd.τ).loc Cert.InprojBwd.main_arg0)
      ∧ r.2.mem ((c.tc : Thread Cert.InprojBwd.nD Cert.InprojBwd.τ).loc Cert.InprojBwd.main_arg1) = m ((c.tc : Thread Cert.InprojBwd.nD Cert.InprojBwd.τ).loc Cert.InprojBwd.main_arg1)
      ∧ r.2.mem ((c.tc : Thread Cert.InprojBwd.nD Cert.InprojBwd.τ).loc Cert.InprojBwd.main_arg2) = m ((c.tc : Thread Cert.InprojBwd.nD Cert.InprojBwd.τ).loc Cert.InprojBwd.main_arg2)
      ∧ r.2.mem ((c.tc : Thread Cert.InprojBwd.nD Cert.InprojBwd.τ).loc Cert.InprojBwd.main_arg3) = m ((c.tc : Thread Cert.InprojBwd.nD Cert.InprojBwd.τ).loc Cert.InprojBwd.main_arg3)
      ∧ r.2.mem ((c.tc : Thread Cert.InprojBwd.nD Cert.InprojBwd.τ).loc Cert.InprojBwd.main_arg4) = m ((c.tc : Thread Cert.InprojBwd.nD Cert.InprojBwd.τ).loc Cert.InprojBwd.main_arg4)
      ∧ r.2.mem ((c.tc : Thread Cert.InprojBwd.nD Cert.InprojBwd.τ).loc Cert.InprojBwd.main_arg5) = m ((c.tc : Thread Cert.InprojBwd.nD Cert.InprojBwd.τ).loc Cert.InprojBwd.main_arg5)
      ∧ r.2.mem ((c.tc : Thread Cert.InprojBwd.nD Cert.InprojBwd.τ).loc Cert.InprojBwd.main_arg6) = m ((c.tc : Thread Cert.InprojBwd.nD Cert.InprojBwd.τ).loc Cert.InprojBwd.main_arg6)
      ∧ r.2.mem ((c.tc : Thread Cert.InprojBwd.nD Cert.InprojBwd.τ).loc Cert.InprojBwd.main_arg7) = m ((c.tc : Thread Cert.InprojBwd.nD Cert.InprojBwd.τ).loc Cert.InprojBwd.main_arg7))
      ∧ r.2.sem = fun _ => 0)

def quiescent_InprojBwdIdeal [hInprojBwdIdeal : Cert.InprojBwdIdeal.Facts] : Prop :=
  ∀ (m : (ℓ : Loc Cert.InprojBwdIdeal.nD Cert.InprojBwdIdeal.τ Cert.InprojBwdIdeal.sig) → Buf (Elt Ideal) ℓ) (g : Dev Cert.InprojBwdIdeal.nD → PrngReg), Pre_InprojBwdIdeal m →
    θ_run (Cert.InprojBwdIdeal.defs (F := Ideal)) (onTc (τ := Cert.InprojBwdIdeal.τ) (Cert.InprojBwdIdeal.main (F := Ideal))) ⟨m, fun _ => 0, g⟩ (fun r => (∀ c : Dev Cert.InprojBwdIdeal.nD,
      r.2.mem ((c.tc : Thread Cert.InprojBwdIdeal.nD Cert.InprojBwdIdeal.τ).loc Cert.InprojBwdIdeal.main_arg0) = m ((c.tc : Thread Cert.InprojBwdIdeal.nD Cert.InprojBwdIdeal.τ).loc Cert.InprojBwdIdeal.main_arg0)
      ∧ r.2.mem ((c.tc : Thread Cert.InprojBwdIdeal.nD Cert.InprojBwdIdeal.τ).loc Cert.InprojBwdIdeal.main_arg1) = m ((c.tc : Thread Cert.InprojBwdIdeal.nD Cert.InprojBwdIdeal.τ).loc Cert.InprojBwdIdeal.main_arg1)
      ∧ r.2.mem ((c.tc : Thread Cert.InprojBwdIdeal.nD Cert.InprojBwdIdeal.τ).loc Cert.InprojBwdIdeal.main_arg2) = m ((c.tc : Thread Cert.InprojBwdIdeal.nD Cert.InprojBwdIdeal.τ).loc Cert.InprojBwdIdeal.main_arg2)
      ∧ r.2.mem ((c.tc : Thread Cert.InprojBwdIdeal.nD Cert.InprojBwdIdeal.τ).loc Cert.InprojBwdIdeal.main_arg3) = m ((c.tc : Thread Cert.InprojBwdIdeal.nD Cert.InprojBwdIdeal.τ).loc Cert.InprojBwdIdeal.main_arg3)
      ∧ r.2.mem ((c.tc : Thread Cert.InprojBwdIdeal.nD Cert.InprojBwdIdeal.τ).loc Cert.InprojBwdIdeal.main_arg4) = m ((c.tc : Thread Cert.InprojBwdIdeal.nD Cert.InprojBwdIdeal.τ).loc Cert.InprojBwdIdeal.main_arg4)
      ∧ r.2.mem ((c.tc : Thread Cert.InprojBwdIdeal.nD Cert.InprojBwdIdeal.τ).loc Cert.InprojBwdIdeal.main_arg5) = m ((c.tc : Thread Cert.InprojBwdIdeal.nD Cert.InprojBwdIdeal.τ).loc Cert.InprojBwdIdeal.main_arg5)
      ∧ r.2.mem ((c.tc : Thread Cert.InprojBwdIdeal.nD Cert.InprojBwdIdeal.τ).loc Cert.InprojBwdIdeal.main_arg6) = m ((c.tc : Thread Cert.InprojBwdIdeal.nD Cert.InprojBwdIdeal.τ).loc Cert.InprojBwdIdeal.main_arg6)
      ∧ r.2.mem ((c.tc : Thread Cert.InprojBwdIdeal.nD Cert.InprojBwdIdeal.τ).loc Cert.InprojBwdIdeal.main_arg7) = m ((c.tc : Thread Cert.InprojBwdIdeal.nD Cert.InprojBwdIdeal.τ).loc Cert.InprojBwdIdeal.main_arg7))
      ∧ r.2.sem = fun _ => 0)

def quiescent_InprojBwdRefIdeal [hInprojBwdRefIdeal : Cert.InprojBwdRefIdeal.Facts] : Prop :=
  ∀ (m : (ℓ : Loc Cert.InprojBwdRefIdeal.nD Cert.InprojBwdRefIdeal.τ Cert.InprojBwdRefIdeal.sig) → Buf (Elt Ideal) ℓ) (g : Dev Cert.InprojBwdRefIdeal.nD → PrngReg), Pre_InprojBwdRefIdeal m →
    θ_run (Cert.InprojBwdRefIdeal.defs (F := Ideal)) (onTc (τ := Cert.InprojBwdRefIdeal.τ) (Cert.InprojBwdRefIdeal.main (F := Ideal))) ⟨m, fun _ => 0, g⟩ (fun r => (∀ c : Dev Cert.InprojBwdRefIdeal.nD,
      r.2.mem ((c.tc : Thread Cert.InprojBwdRefIdeal.nD Cert.InprojBwdRefIdeal.τ).loc Cert.InprojBwdRefIdeal.main_arg0) = m ((c.tc : Thread Cert.InprojBwdRefIdeal.nD Cert.InprojBwdRefIdeal.τ).loc Cert.InprojBwdRefIdeal.main_arg0)
      ∧ r.2.mem ((c.tc : Thread Cert.InprojBwdRefIdeal.nD Cert.InprojBwdRefIdeal.τ).loc Cert.InprojBwdRefIdeal.main_arg1) = m ((c.tc : Thread Cert.InprojBwdRefIdeal.nD Cert.InprojBwdRefIdeal.τ).loc Cert.InprojBwdRefIdeal.main_arg1)
      ∧ r.2.mem ((c.tc : Thread Cert.InprojBwdRefIdeal.nD Cert.InprojBwdRefIdeal.τ).loc Cert.InprojBwdRefIdeal.main_arg2) = m ((c.tc : Thread Cert.InprojBwdRefIdeal.nD Cert.InprojBwdRefIdeal.τ).loc Cert.InprojBwdRefIdeal.main_arg2)
      ∧ r.2.mem ((c.tc : Thread Cert.InprojBwdRefIdeal.nD Cert.InprojBwdRefIdeal.τ).loc Cert.InprojBwdRefIdeal.main_arg3) = m ((c.tc : Thread Cert.InprojBwdRefIdeal.nD Cert.InprojBwdRefIdeal.τ).loc Cert.InprojBwdRefIdeal.main_arg3)
      ∧ r.2.mem ((c.tc : Thread Cert.InprojBwdRefIdeal.nD Cert.InprojBwdRefIdeal.τ).loc Cert.InprojBwdRefIdeal.main_arg4) = m ((c.tc : Thread Cert.InprojBwdRefIdeal.nD Cert.InprojBwdRefIdeal.τ).loc Cert.InprojBwdRefIdeal.main_arg4)
      ∧ r.2.mem ((c.tc : Thread Cert.InprojBwdRefIdeal.nD Cert.InprojBwdRefIdeal.τ).loc Cert.InprojBwdRefIdeal.main_arg5) = m ((c.tc : Thread Cert.InprojBwdRefIdeal.nD Cert.InprojBwdRefIdeal.τ).loc Cert.InprojBwdRefIdeal.main_arg5)
      ∧ r.2.mem ((c.tc : Thread Cert.InprojBwdRefIdeal.nD Cert.InprojBwdRefIdeal.τ).loc Cert.InprojBwdRefIdeal.main_arg6) = m ((c.tc : Thread Cert.InprojBwdRefIdeal.nD Cert.InprojBwdRefIdeal.τ).loc Cert.InprojBwdRefIdeal.main_arg6)
      ∧ r.2.mem ((c.tc : Thread Cert.InprojBwdRefIdeal.nD Cert.InprojBwdRefIdeal.τ).loc Cert.InprojBwdRefIdeal.main_arg7) = m ((c.tc : Thread Cert.InprojBwdRefIdeal.nD Cert.InprojBwdRefIdeal.τ).loc Cert.InprojBwdRefIdeal.main_arg7))
      ∧ r.2.sem = fun _ => 0)

def quiescent_FfnBwd [hFfnBwd : Cert.FfnBwd.Facts] : Prop :=
  ∀ (m : (ℓ : Loc Cert.FfnBwd.nD Cert.FfnBwd.τ Cert.FfnBwd.sig) → Buf (Elt Bits) ℓ) (g : Dev Cert.FfnBwd.nD → PrngReg), Pre_FfnBwd m →
    θ_run (Cert.FfnBwd.defs (F := Bits)) (onTc (τ := Cert.FfnBwd.τ) (Cert.FfnBwd.main (F := Bits))) ⟨m, fun _ => 0, g⟩ (fun r => (∀ c : Dev Cert.FfnBwd.nD,
      r.2.mem ((c.tc : Thread Cert.FfnBwd.nD Cert.FfnBwd.τ).loc Cert.FfnBwd.main_arg0) = m ((c.tc : Thread Cert.FfnBwd.nD Cert.FfnBwd.τ).loc Cert.FfnBwd.main_arg0)
      ∧ r.2.mem ((c.tc : Thread Cert.FfnBwd.nD Cert.FfnBwd.τ).loc Cert.FfnBwd.main_arg1) = m ((c.tc : Thread Cert.FfnBwd.nD Cert.FfnBwd.τ).loc Cert.FfnBwd.main_arg1)
      ∧ r.2.mem ((c.tc : Thread Cert.FfnBwd.nD Cert.FfnBwd.τ).loc Cert.FfnBwd.main_arg2) = m ((c.tc : Thread Cert.FfnBwd.nD Cert.FfnBwd.τ).loc Cert.FfnBwd.main_arg2)
      ∧ r.2.mem ((c.tc : Thread Cert.FfnBwd.nD Cert.FfnBwd.τ).loc Cert.FfnBwd.main_arg3) = m ((c.tc : Thread Cert.FfnBwd.nD Cert.FfnBwd.τ).loc Cert.FfnBwd.main_arg3)
      ∧ r.2.mem ((c.tc : Thread Cert.FfnBwd.nD Cert.FfnBwd.τ).loc Cert.FfnBwd.main_arg4) = m ((c.tc : Thread Cert.FfnBwd.nD Cert.FfnBwd.τ).loc Cert.FfnBwd.main_arg4)
      ∧ r.2.mem ((c.tc : Thread Cert.FfnBwd.nD Cert.FfnBwd.τ).loc Cert.FfnBwd.main_arg5) = m ((c.tc : Thread Cert.FfnBwd.nD Cert.FfnBwd.τ).loc Cert.FfnBwd.main_arg5)
      ∧ r.2.mem ((c.tc : Thread Cert.FfnBwd.nD Cert.FfnBwd.τ).loc Cert.FfnBwd.main_arg6) = m ((c.tc : Thread Cert.FfnBwd.nD Cert.FfnBwd.τ).loc Cert.FfnBwd.main_arg6)
      ∧ r.2.mem ((c.tc : Thread Cert.FfnBwd.nD Cert.FfnBwd.τ).loc Cert.FfnBwd.main_arg7) = m ((c.tc : Thread Cert.FfnBwd.nD Cert.FfnBwd.τ).loc Cert.FfnBwd.main_arg7))
      ∧ r.2.sem = fun _ => 0)

def quiescent_FfnBwdIdeal [hFfnBwdIdeal : Cert.FfnBwdIdeal.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
      ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5)
      ∧ r.2.mem ((c.tc : Thread Cert.FfnBwdIdeal.nD Cert.FfnBwdIdeal.τ).loc Cert.FfnBwdIdeal.main_arg6) = m ((c.tc : Thread Cert.FfnBwdIdeal.nD Cert.FfnBwdIdeal.τ).loc Cert.FfnBwdIdeal.main_arg6)
      ∧ r.2.mem ((c.tc : Thread Cert.FfnBwdIdeal.nD Cert.FfnBwdIdeal.τ).loc Cert.FfnBwdIdeal.main_arg7) = m ((c.tc : Thread Cert.FfnBwdIdeal.nD Cert.FfnBwdIdeal.τ).loc Cert.FfnBwdIdeal.main_arg7))
      ∧ r.2.sem = fun _ => 0)

def quiescent_FfnBwdIdeal_pre_numbers [hFfnBwdIdeal : Cert.FfnBwdIdeal.Facts] [hPre_numbers : Cert.Pre_numbers.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal_numbers m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
      ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5)
      ∧ r.2.mem ((c.tc : Thread Cert.FfnBwdIdeal.nD Cert.FfnBwdIdeal.τ).loc Cert.FfnBwdIdeal.main_arg6) = m ((c.tc : Thread Cert.FfnBwdIdeal.nD Cert.FfnBwdIdeal.τ).loc Cert.FfnBwdIdeal.main_arg6)
      ∧ r.2.mem ((c.tc : Thread Cert.FfnBwdIdeal.nD Cert.FfnBwdIdeal.τ).loc Cert.FfnBwdIdeal.main_arg7) = m ((c.tc : Thread Cert.FfnBwdIdeal.nD Cert.FfnBwdIdeal.τ).loc Cert.FfnBwdIdeal.main_arg7))
      ∧ r.2.sem = fun _ => 0)

def quiescent_FfnBwdRefIdeal [hFfnBwdRefIdeal : Cert.FfnBwdRefIdeal.Facts] : Prop :=
  ∀ (m : (ℓ : Loc Cert.FfnBwdRefIdeal.nD Cert.FfnBwdRefIdeal.τ Cert.FfnBwdRefIdeal.sig) → Buf (Elt Ideal) ℓ) (g : Dev Cert.FfnBwdRefIdeal.nD → PrngReg), Pre_FfnBwdRefIdeal m →
    θ_run (Cert.FfnBwdRefIdeal.defs (F := Ideal)) (onTc (τ := Cert.FfnBwdRefIdeal.τ) (Cert.FfnBwdRefIdeal.main (F := Ideal))) ⟨m, fun _ => 0, g⟩ (fun r => (∀ c : Dev Cert.FfnBwdRefIdeal.nD,
      r.2.mem ((c.tc : Thread Cert.FfnBwdRefIdeal.nD Cert.FfnBwdRefIdeal.τ).loc Cert.FfnBwdRefIdeal.main_arg0) = m ((c.tc : Thread Cert.FfnBwdRefIdeal.nD Cert.FfnBwdRefIdeal.τ).loc Cert.FfnBwdRefIdeal.main_arg0)
      ∧ r.2.mem ((c.tc : Thread Cert.FfnBwdRefIdeal.nD Cert.FfnBwdRefIdeal.τ).loc Cert.FfnBwdRefIdeal.main_arg1) = m ((c.tc : Thread Cert.FfnBwdRefIdeal.nD Cert.FfnBwdRefIdeal.τ).loc Cert.FfnBwdRefIdeal.main_arg1)
      ∧ r.2.mem ((c.tc : Thread Cert.FfnBwdRefIdeal.nD Cert.FfnBwdRefIdeal.τ).loc Cert.FfnBwdRefIdeal.main_arg2) = m ((c.tc : Thread Cert.FfnBwdRefIdeal.nD Cert.FfnBwdRefIdeal.τ).loc Cert.FfnBwdRefIdeal.main_arg2)
      ∧ r.2.mem ((c.tc : Thread Cert.FfnBwdRefIdeal.nD Cert.FfnBwdRefIdeal.τ).loc Cert.FfnBwdRefIdeal.main_arg3) = m ((c.tc : Thread Cert.FfnBwdRefIdeal.nD Cert.FfnBwdRefIdeal.τ).loc Cert.FfnBwdRefIdeal.main_arg3)
      ∧ r.2.mem ((c.tc : Thread Cert.FfnBwdRefIdeal.nD Cert.FfnBwdRefIdeal.τ).loc Cert.FfnBwdRefIdeal.main_arg4) = m ((c.tc : Thread Cert.FfnBwdRefIdeal.nD Cert.FfnBwdRefIdeal.τ).loc Cert.FfnBwdRefIdeal.main_arg4)
      ∧ r.2.mem ((c.tc : Thread Cert.FfnBwdRefIdeal.nD Cert.FfnBwdRefIdeal.τ).loc Cert.FfnBwdRefIdeal.main_arg5) = m ((c.tc : Thread Cert.FfnBwdRefIdeal.nD Cert.FfnBwdRefIdeal.τ).loc Cert.FfnBwdRefIdeal.main_arg5)
      ∧ r.2.mem ((c.tc : Thread Cert.FfnBwdRefIdeal.nD Cert.FfnBwdRefIdeal.τ).loc Cert.FfnBwdRefIdeal.main_arg6) = m ((c.tc : Thread Cert.FfnBwdRefIdeal.nD Cert.FfnBwdRefIdeal.τ).loc Cert.FfnBwdRefIdeal.main_arg6)
      ∧ r.2.mem ((c.tc : Thread Cert.FfnBwdRefIdeal.nD Cert.FfnBwdRefIdeal.τ).loc Cert.FfnBwdRefIdeal.main_arg7) = m ((c.tc : Thread Cert.FfnBwdRefIdeal.nD Cert.FfnBwdRefIdeal.τ).loc Cert.FfnBwdRefIdeal.main_arg7))
      ∧ r.2.sem = fun _ => 0)

def quiescent_FfnBwdRefIdeal_pre_numbers [hFfnBwdRefIdeal : Cert.FfnBwdRefIdeal.Facts] [hPre_numbers : Cert.Pre_numbers.Facts] : Prop :=
  ∀ (m : (ℓ : Loc Cert.FfnBwdRefIdeal.nD Cert.FfnBwdRefIdeal.τ Cert.FfnBwdRefIdeal.sig) → Buf (Elt Ideal) ℓ) (g : Dev Cert.FfnBwdRefIdeal.nD → PrngReg), Pre_FfnBwdRefIdeal_numbers m →
    θ_run (Cert.FfnBwdRefIdeal.defs (F := Ideal)) (onTc (τ := Cert.FfnBwdRefIdeal.τ) (Cert.FfnBwdRefIdeal.main (F := Ideal))) ⟨m, fun _ => 0, g⟩ (fun r => (∀ c : Dev Cert.FfnBwdRefIdeal.nD,
      r.2.mem ((c.tc : Thread Cert.FfnBwdRefIdeal.nD Cert.FfnBwdRefIdeal.τ).loc Cert.FfnBwdRefIdeal.main_arg0) = m ((c.tc : Thread Cert.FfnBwdRefIdeal.nD Cert.FfnBwdRefIdeal.τ).loc Cert.FfnBwdRefIdeal.main_arg0)
      ∧ r.2.mem ((c.tc : Thread Cert.FfnBwdRefIdeal.nD Cert.FfnBwdRefIdeal.τ).loc Cert.FfnBwdRefIdeal.main_arg1) = m ((c.tc : Thread Cert.FfnBwdRefIdeal.nD Cert.FfnBwdRefIdeal.τ).loc Cert.FfnBwdRefIdeal.main_arg1)
      ∧ r.2.mem ((c.tc : Thread Cert.FfnBwdRefIdeal.nD Cert.FfnBwdRefIdeal.τ).loc Cert.FfnBwdRefIdeal.main_arg2) = m ((c.tc : Thread Cert.FfnBwdRefIdeal.nD Cert.FfnBwdRefIdeal.τ).loc Cert.FfnBwdRefIdeal.main_arg2)
      ∧ r.2.mem ((c.tc : Thread Cert.FfnBwdRefIdeal.nD Cert.FfnBwdRefIdeal.τ).loc Cert.FfnBwdRefIdeal.main_arg3) = m ((c.tc : Thread Cert.FfnBwdRefIdeal.nD Cert.FfnBwdRefIdeal.τ).loc Cert.FfnBwdRefIdeal.main_arg3)
      ∧ r.2.mem ((c.tc : Thread Cert.FfnBwdRefIdeal.nD Cert.FfnBwdRefIdeal.τ).loc Cert.FfnBwdRefIdeal.main_arg4) = m ((c.tc : Thread Cert.FfnBwdRefIdeal.nD Cert.FfnBwdRefIdeal.τ).loc Cert.FfnBwdRefIdeal.main_arg4)
      ∧ r.2.mem ((c.tc : Thread Cert.FfnBwdRefIdeal.nD Cert.FfnBwdRefIdeal.τ).loc Cert.FfnBwdRefIdeal.main_arg5) = m ((c.tc : Thread Cert.FfnBwdRefIdeal.nD Cert.FfnBwdRefIdeal.τ).loc Cert.FfnBwdRefIdeal.main_arg5)
      ∧ r.2.mem ((c.tc : Thread Cert.FfnBwdRefIdeal.nD Cert.FfnBwdRefIdeal.τ).loc Cert.FfnBwdRefIdeal.main_arg6) = m ((c.tc : Thread Cert.FfnBwdRefIdeal.nD Cert.FfnBwdRefIdeal.τ).loc Cert.FfnBwdRefIdeal.main_arg6)
      ∧ r.2.mem ((c.tc : Thread Cert.FfnBwdRefIdeal.nD Cert.FfnBwdRefIdeal.τ).loc Cert.FfnBwdRefIdeal.main_arg7) = m ((c.tc : Thread Cert.FfnBwdRefIdeal.nD Cert.FfnBwdRefIdeal.τ).loc Cert.FfnBwdRefIdeal.main_arg7))
      ∧ r.2.sem = fun _ => 0)

def quiescent_ConvFwd [hConvFwd : Cert.ConvFwd.Facts] : Prop :=
  ∀ (m : (ℓ : Loc Cert.ConvFwd.nD Cert.ConvFwd.τ Cert.ConvFwd.sig) → Buf (Elt Bits) ℓ) (g : Dev Cert.ConvFwd.nD → PrngReg), Pre_ConvFwd m →
    θ_run (Cert.ConvFwd.defs (F := Bits)) (onTc (τ := Cert.ConvFwd.τ) (Cert.ConvFwd.main (F := Bits))) ⟨m, fun _ => 0, g⟩ (fun r => (∀ c : Dev Cert.ConvFwd.nD,
      r.2.mem ((c.tc : Thread Cert.ConvFwd.nD Cert.ConvFwd.τ).loc Cert.ConvFwd.main_arg0) = m ((c.tc : Thread Cert.ConvFwd.nD Cert.ConvFwd.τ).loc Cert.ConvFwd.main_arg0)
      ∧ r.2.mem ((c.tc : Thread Cert.ConvFwd.nD Cert.ConvFwd.τ).loc Cert.ConvFwd.main_arg1) = m ((c.tc : Thread Cert.ConvFwd.nD Cert.ConvFwd.τ).loc Cert.ConvFwd.main_arg1)
      ∧ r.2.mem ((c.tc : Thread Cert.ConvFwd.nD Cert.ConvFwd.τ).loc Cert.ConvFwd.main_arg2) = m ((c.tc : Thread Cert.ConvFwd.nD Cert.ConvFwd.τ).loc Cert.ConvFwd.main_arg2))
      ∧ r.2.sem = fun _ => 0)

def quiescent_ConvFwdIdeal [hConvFwdIdeal : Cert.ConvFwdIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg), Pre_ConvFwdIdeal m →
    θ_run (Cert.ConvFwdIdeal.defs (F := Ideal)) (onTc (τ := Cert.ConvFwdIdeal.τ) (Cert.ConvFwdIdeal.main (F := Ideal))) ⟨m, fun _ => 0, g⟩ (fun r => (∀ c : Dev Cert.ConvFwdIdeal.nD,
      r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
      ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
      ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2))
      ∧ r.2.sem = fun _ => 0)

def quiescent_ConvFwdRefIdeal [hConvFwdRefIdeal : Cert.ConvFwdRefIdeal.Facts] : Prop :=
  ∀ (m : (ℓ : Loc Cert.ConvFwdRefIdeal.nD Cert.ConvFwdRefIdeal.τ Cert.ConvFwdRefIdeal.sig) → Buf (Elt Ideal) ℓ) (g : Dev Cert.ConvFwdRefIdeal.nD → PrngReg), Pre_ConvFwdRefIdeal m →
    θ_run (Cert.ConvFwdRefIdeal.defs (F := Ideal)) (onTc (τ := Cert.ConvFwdRefIdeal.τ) (Cert.ConvFwdRefIdeal.main (F := Ideal))) ⟨m, fun _ => 0, g⟩ (fun r => (∀ c : Dev Cert.ConvFwdRefIdeal.nD,
      r.2.mem ((c.tc : Thread Cert.ConvFwdRefIdeal.nD Cert.ConvFwdRefIdeal.τ).loc Cert.ConvFwdRefIdeal.main_arg0) = m ((c.tc : Thread Cert.ConvFwdRefIdeal.nD Cert.ConvFwdRefIdeal.τ).loc Cert.ConvFwdRefIdeal.main_arg0)
      ∧ r.2.mem ((c.tc : Thread Cert.ConvFwdRefIdeal.nD Cert.ConvFwdRefIdeal.τ).loc Cert.ConvFwdRefIdeal.main_arg1) = m ((c.tc : Thread Cert.ConvFwdRefIdeal.nD Cert.ConvFwdRefIdeal.τ).loc Cert.ConvFwdRefIdeal.main_arg1)
      ∧ r.2.mem ((c.tc : Thread Cert.ConvFwdRefIdeal.nD Cert.ConvFwdRefIdeal.τ).loc Cert.ConvFwdRefIdeal.main_arg2) = m ((c.tc : Thread Cert.ConvFwdRefIdeal.nD Cert.ConvFwdRefIdeal.τ).loc Cert.ConvFwdRefIdeal.main_arg2))
      ∧ r.2.sem = fun _ => 0)

def quiescent_ConvBwd [hConvBwd : Cert.ConvBwd.Facts] : Prop :=
  ∀ (m : (ℓ : Loc Cert.ConvBwd.nD Cert.ConvBwd.τ Cert.ConvBwd.sig) → Buf (Elt Bits) ℓ) (g : Dev Cert.ConvBwd.nD → PrngReg), Pre_ConvBwd m →
    θ_run (Cert.ConvBwd.defs (F := Bits)) (onTc (τ := Cert.ConvBwd.τ) (Cert.ConvBwd.main (F := Bits))) ⟨m, fun _ => 0, g⟩ (fun r => (∀ c : Dev Cert.ConvBwd.nD,
      r.2.mem ((c.tc : Thread Cert.ConvBwd.nD Cert.ConvBwd.τ).loc Cert.ConvBwd.main_arg0) = m ((c.tc : Thread Cert.ConvBwd.nD Cert.ConvBwd.τ).loc Cert.ConvBwd.main_arg0)
      ∧ r.2.mem ((c.tc : Thread Cert.ConvBwd.nD Cert.ConvBwd.τ).loc Cert.ConvBwd.main_arg1) = m ((c.tc : Thread Cert.ConvBwd.nD Cert.ConvBwd.τ).loc Cert.ConvBwd.main_arg1)
      ∧ r.2.mem ((c.tc : Thread Cert.ConvBwd.nD Cert.ConvBwd.τ).loc Cert.ConvBwd.main_arg2) = m ((c.tc : Thread Cert.ConvBwd.nD Cert.ConvBwd.τ).loc Cert.ConvBwd.main_arg2)
      ∧ r.2.mem ((c.tc : Thread Cert.ConvBwd.nD Cert.ConvBwd.τ).loc Cert.ConvBwd.main_arg3) = m ((c.tc : Thread Cert.ConvBwd.nD Cert.ConvBwd.τ).loc Cert.ConvBwd.main_arg3))
      ∧ r.2.sem = fun _ => 0)

def quiescent_ConvBwdIdeal [hConvBwdIdeal : Cert.ConvBwdIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg), Pre_ConvBwdIdeal m →
    θ_run (Cert.ConvBwdIdeal.defs (F := Ideal)) (onTc (τ := Cert.ConvBwdIdeal.τ) (Cert.ConvBwdIdeal.main (F := Ideal))) ⟨m, fun _ => 0, g⟩ (fun r => (∀ c : Dev Cert.ConvBwdIdeal.nD,
      r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
      ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
      ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
      ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3))
      ∧ r.2.sem = fun _ => 0)

def quiescent_ConvBwdIdeal_pre_conv_numbers [hConvBwdIdeal : Cert.ConvBwdIdeal.Facts] [hPre_conv_numbers : Cert.Pre_conv_numbers.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg), Pre_ConvBwdIdeal_conv_numbers m →
    θ_run (Cert.ConvBwdIdeal.defs (F := Ideal)) (onTc (τ := Cert.ConvBwdIdeal.τ) (Cert.ConvBwdIdeal.main (F := Ideal))) ⟨m, fun _ => 0, g⟩ (fun r => (∀ c : Dev Cert.ConvBwdIdeal.nD,
      r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
      ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
      ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
      ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3))
      ∧ r.2.sem = fun _ => 0)

def quiescent_ConvBwdRefIdeal [hConvBwdRefIdeal : Cert.ConvBwdRefIdeal.Facts] : Prop :=
  ∀ (m : (ℓ : Loc Cert.ConvBwdRefIdeal.nD Cert.ConvBwdRefIdeal.τ Cert.ConvBwdRefIdeal.sig) → Buf (Elt Ideal) ℓ) (g : Dev Cert.ConvBwdRefIdeal.nD → PrngReg), Pre_ConvBwdRefIdeal m →
    θ_run (Cert.ConvBwdRefIdeal.defs (F := Ideal)) (onTc (τ := Cert.ConvBwdRefIdeal.τ) (Cert.ConvBwdRefIdeal.main (F := Ideal))) ⟨m, fun _ => 0, g⟩ (fun r => (∀ c : Dev Cert.ConvBwdRefIdeal.nD,
      r.2.mem ((c.tc : Thread Cert.ConvBwdRefIdeal.nD Cert.ConvBwdRefIdeal.τ).loc Cert.ConvBwdRefIdeal.main_arg0) = m ((c.tc : Thread Cert.ConvBwdRefIdeal.nD Cert.ConvBwdRefIdeal.τ).loc Cert.ConvBwdRefIdeal.main_arg0)
      ∧ r.2.mem ((c.tc : Thread Cert.ConvBwdRefIdeal.nD Cert.ConvBwdRefIdeal.τ).loc Cert.ConvBwdRefIdeal.main_arg1) = m ((c.tc : Thread Cert.ConvBwdRefIdeal.nD Cert.ConvBwdRefIdeal.τ).loc Cert.ConvBwdRefIdeal.main_arg1)
      ∧ r.2.mem ((c.tc : Thread Cert.ConvBwdRefIdeal.nD Cert.ConvBwdRefIdeal.τ).loc Cert.ConvBwdRefIdeal.main_arg2) = m ((c.tc : Thread Cert.ConvBwdRefIdeal.nD Cert.ConvBwdRefIdeal.τ).loc Cert.ConvBwdRefIdeal.main_arg2)
      ∧ r.2.mem ((c.tc : Thread Cert.ConvBwdRefIdeal.nD Cert.ConvBwdRefIdeal.τ).loc Cert.ConvBwdRefIdeal.main_arg3) = m ((c.tc : Thread Cert.ConvBwdRefIdeal.nD Cert.ConvBwdRefIdeal.τ).loc Cert.ConvBwdRefIdeal.main_arg3))
      ∧ r.2.sem = fun _ => 0)

def quiescent_ConvBwdRefIdeal_pre_conv_numbers [hConvBwdRefIdeal : Cert.ConvBwdRefIdeal.Facts] [hPre_conv_numbers : Cert.Pre_conv_numbers.Facts] : Prop :=
  ∀ (m : (ℓ : Loc Cert.ConvBwdRefIdeal.nD Cert.ConvBwdRefIdeal.τ Cert.ConvBwdRefIdeal.sig) → Buf (Elt Ideal) ℓ) (g : Dev Cert.ConvBwdRefIdeal.nD → PrngReg), Pre_ConvBwdRefIdeal_conv_numbers m →
    θ_run (Cert.ConvBwdRefIdeal.defs (F := Ideal)) (onTc (τ := Cert.ConvBwdRefIdeal.τ) (Cert.ConvBwdRefIdeal.main (F := Ideal))) ⟨m, fun _ => 0, g⟩ (fun r => (∀ c : Dev Cert.ConvBwdRefIdeal.nD,
      r.2.mem ((c.tc : Thread Cert.ConvBwdRefIdeal.nD Cert.ConvBwdRefIdeal.τ).loc Cert.ConvBwdRefIdeal.main_arg0) = m ((c.tc : Thread Cert.ConvBwdRefIdeal.nD Cert.ConvBwdRefIdeal.τ).loc Cert.ConvBwdRefIdeal.main_arg0)
      ∧ r.2.mem ((c.tc : Thread Cert.ConvBwdRefIdeal.nD Cert.ConvBwdRefIdeal.τ).loc Cert.ConvBwdRefIdeal.main_arg1) = m ((c.tc : Thread Cert.ConvBwdRefIdeal.nD Cert.ConvBwdRefIdeal.τ).loc Cert.ConvBwdRefIdeal.main_arg1)
      ∧ r.2.mem ((c.tc : Thread Cert.ConvBwdRefIdeal.nD Cert.ConvBwdRefIdeal.τ).loc Cert.ConvBwdRefIdeal.main_arg2) = m ((c.tc : Thread Cert.ConvBwdRefIdeal.nD Cert.ConvBwdRefIdeal.τ).loc Cert.ConvBwdRefIdeal.main_arg2)
      ∧ r.2.mem ((c.tc : Thread Cert.ConvBwdRefIdeal.nD Cert.ConvBwdRefIdeal.τ).loc Cert.ConvBwdRefIdeal.main_arg3) = m ((c.tc : Thread Cert.ConvBwdRefIdeal.nD Cert.ConvBwdRefIdeal.τ).loc Cert.ConvBwdRefIdeal.main_arg3))
      ∧ r.2.sem = fun _ => 0)

def quiescent_HeadBwd [hHeadBwd : Cert.HeadBwd.Facts] : Prop :=
  ∀ (m : (ℓ : Loc Cert.HeadBwd.nD Cert.HeadBwd.τ Cert.HeadBwd.sig) → Buf (Elt Bits) ℓ) (g : Dev Cert.HeadBwd.nD → PrngReg), Pre_HeadBwd m →
    θ_run (Cert.HeadBwd.defs (F := Bits)) (onTc (τ := Cert.HeadBwd.τ) (Cert.HeadBwd.main (F := Bits))) ⟨m, fun _ => 0, g⟩ (fun r => (∀ c : Dev Cert.HeadBwd.nD,
      r.2.mem ((c.tc : Thread Cert.HeadBwd.nD Cert.HeadBwd.τ).loc Cert.HeadBwd.main_arg0) = m ((c.tc : Thread Cert.HeadBwd.nD Cert.HeadBwd.τ).loc Cert.HeadBwd.main_arg0)
      ∧ r.2.mem ((c.tc : Thread Cert.HeadBwd.nD Cert.HeadBwd.τ).loc Cert.HeadBwd.main_arg1) = m ((c.tc : Thread Cert.HeadBwd.nD Cert.HeadBwd.τ).loc Cert.HeadBwd.main_arg1)
      ∧ r.2.mem ((c.tc : Thread Cert.HeadBwd.nD Cert.HeadBwd.τ).loc Cert.HeadBwd.main_arg2) = m ((c.tc : Thread Cert.HeadBwd.nD Cert.HeadBwd.τ).loc Cert.HeadBwd.main_arg2)
      ∧ r.2.mem ((c.tc : Thread Cert.HeadBwd.nD Cert.HeadBwd.τ).loc Cert.HeadBwd.main_arg3) = m ((c.tc : Thread Cert.HeadBwd.nD Cert.HeadBwd.τ).loc Cert.HeadBwd.main_arg3)
      ∧ r.2.mem ((c.tc : Thread Cert.HeadBwd.nD Cert.HeadBwd.τ).loc Cert.HeadBwd.main_arg4) = m ((c.tc : Thread Cert.HeadBwd.nD Cert.HeadBwd.τ).loc Cert.HeadBwd.main_arg4)
      ∧ r.2.mem ((c.tc : Thread Cert.HeadBwd.nD Cert.HeadBwd.τ).loc Cert.HeadBwd.main_arg5) = m ((c.tc : Thread Cert.HeadBwd.nD Cert.HeadBwd.τ).loc Cert.HeadBwd.main_arg5)
      ∧ r.2.mem ((c.tc : Thread Cert.HeadBwd.nD Cert.HeadBwd.τ).loc Cert.HeadBwd.main_arg6) = m ((c.tc : Thread Cert.HeadBwd.nD Cert.HeadBwd.τ).loc Cert.HeadBwd.main_arg6)
      ∧ r.2.mem ((c.tc : Thread Cert.HeadBwd.nD Cert.HeadBwd.τ).loc Cert.HeadBwd.main_arg7) = m ((c.tc : Thread Cert.HeadBwd.nD Cert.HeadBwd.τ).loc Cert.HeadBwd.main_arg7))
      ∧ r.2.sem = fun _ => 0)

def quiescent_HeadBwdIdeal [hHeadBwdIdeal : Cert.HeadBwdIdeal.Facts] : Prop :=
  ∀ (m : (ℓ : Loc Cert.HeadBwdIdeal.nD Cert.HeadBwdIdeal.τ Cert.HeadBwdIdeal.sig) → Buf (Elt Ideal) ℓ) (g : Dev Cert.HeadBwdIdeal.nD → PrngReg), Pre_HeadBwdIdeal m →
    θ_run (Cert.HeadBwdIdeal.defs (F := Ideal)) (onTc (τ := Cert.HeadBwdIdeal.τ) (Cert.HeadBwdIdeal.main (F := Ideal))) ⟨m, fun _ => 0, g⟩ (fun r => (∀ c : Dev Cert.HeadBwdIdeal.nD,
      r.2.mem ((c.tc : Thread Cert.HeadBwdIdeal.nD Cert.HeadBwdIdeal.τ).loc Cert.HeadBwdIdeal.main_arg0) = m ((c.tc : Thread Cert.HeadBwdIdeal.nD Cert.HeadBwdIdeal.τ).loc Cert.HeadBwdIdeal.main_arg0)
      ∧ r.2.mem ((c.tc : Thread Cert.HeadBwdIdeal.nD Cert.HeadBwdIdeal.τ).loc Cert.HeadBwdIdeal.main_arg1) = m ((c.tc : Thread Cert.HeadBwdIdeal.nD Cert.HeadBwdIdeal.τ).loc Cert.HeadBwdIdeal.main_arg1)
      ∧ r.2.mem ((c.tc : Thread Cert.HeadBwdIdeal.nD Cert.HeadBwdIdeal.τ).loc Cert.HeadBwdIdeal.main_arg2) = m ((c.tc : Thread Cert.HeadBwdIdeal.nD Cert.HeadBwdIdeal.τ).loc Cert.HeadBwdIdeal.main_arg2)
      ∧ r.2.mem ((c.tc : Thread Cert.HeadBwdIdeal.nD Cert.HeadBwdIdeal.τ).loc Cert.HeadBwdIdeal.main_arg3) = m ((c.tc : Thread Cert.HeadBwdIdeal.nD Cert.HeadBwdIdeal.τ).loc Cert.HeadBwdIdeal.main_arg3)
      ∧ r.2.mem ((c.tc : Thread Cert.HeadBwdIdeal.nD Cert.HeadBwdIdeal.τ).loc Cert.HeadBwdIdeal.main_arg4) = m ((c.tc : Thread Cert.HeadBwdIdeal.nD Cert.HeadBwdIdeal.τ).loc Cert.HeadBwdIdeal.main_arg4)
      ∧ r.2.mem ((c.tc : Thread Cert.HeadBwdIdeal.nD Cert.HeadBwdIdeal.τ).loc Cert.HeadBwdIdeal.main_arg5) = m ((c.tc : Thread Cert.HeadBwdIdeal.nD Cert.HeadBwdIdeal.τ).loc Cert.HeadBwdIdeal.main_arg5)
      ∧ r.2.mem ((c.tc : Thread Cert.HeadBwdIdeal.nD Cert.HeadBwdIdeal.τ).loc Cert.HeadBwdIdeal.main_arg6) = m ((c.tc : Thread Cert.HeadBwdIdeal.nD Cert.HeadBwdIdeal.τ).loc Cert.HeadBwdIdeal.main_arg6)
      ∧ r.2.mem ((c.tc : Thread Cert.HeadBwdIdeal.nD Cert.HeadBwdIdeal.τ).loc Cert.HeadBwdIdeal.main_arg7) = m ((c.tc : Thread Cert.HeadBwdIdeal.nD Cert.HeadBwdIdeal.τ).loc Cert.HeadBwdIdeal.main_arg7))
      ∧ r.2.sem = fun _ => 0)

def quiescent_HeadBwdIdeal_pre_head_numbers [hHeadBwdIdeal : Cert.HeadBwdIdeal.Facts] [hPre_head_numbers : Cert.Pre_head_numbers.Facts] : Prop :=
  ∀ (m : (ℓ : Loc Cert.HeadBwdIdeal.nD Cert.HeadBwdIdeal.τ Cert.HeadBwdIdeal.sig) → Buf (Elt Ideal) ℓ) (g : Dev Cert.HeadBwdIdeal.nD → PrngReg), Pre_HeadBwdIdeal_head_numbers m →
    θ_run (Cert.HeadBwdIdeal.defs (F := Ideal)) (onTc (τ := Cert.HeadBwdIdeal.τ) (Cert.HeadBwdIdeal.main (F := Ideal))) ⟨m, fun _ => 0, g⟩ (fun r => (∀ c : Dev Cert.HeadBwdIdeal.nD,
      r.2.mem ((c.tc : Thread Cert.HeadBwdIdeal.nD Cert.HeadBwdIdeal.τ).loc Cert.HeadBwdIdeal.main_arg0) = m ((c.tc : Thread Cert.HeadBwdIdeal.nD Cert.HeadBwdIdeal.τ).loc Cert.HeadBwdIdeal.main_arg0)
      ∧ r.2.mem ((c.tc : Thread Cert.HeadBwdIdeal.nD Cert.HeadBwdIdeal.τ).loc Cert.HeadBwdIdeal.main_arg1) = m ((c.tc : Thread Cert.HeadBwdIdeal.nD Cert.HeadBwdIdeal.τ).loc Cert.HeadBwdIdeal.main_arg1)
      ∧ r.2.mem ((c.tc : Thread Cert.HeadBwdIdeal.nD Cert.HeadBwdIdeal.τ).loc Cert.HeadBwdIdeal.main_arg2) = m ((c.tc : Thread Cert.HeadBwdIdeal.nD Cert.HeadBwdIdeal.τ).loc Cert.HeadBwdIdeal.main_arg2)
      ∧ r.2.mem ((c.tc : Thread Cert.HeadBwdIdeal.nD Cert.HeadBwdIdeal.τ).loc Cert.HeadBwdIdeal.main_arg3) = m ((c.tc : Thread Cert.HeadBwdIdeal.nD Cert.HeadBwdIdeal.τ).loc Cert.HeadBwdIdeal.main_arg3)
      ∧ r.2.mem ((c.tc : Thread Cert.HeadBwdIdeal.nD Cert.HeadBwdIdeal.τ).loc Cert.HeadBwdIdeal.main_arg4) = m ((c.tc : Thread Cert.HeadBwdIdeal.nD Cert.HeadBwdIdeal.τ).loc Cert.HeadBwdIdeal.main_arg4)
      ∧ r.2.mem ((c.tc : Thread Cert.HeadBwdIdeal.nD Cert.HeadBwdIdeal.τ).loc Cert.HeadBwdIdeal.main_arg5) = m ((c.tc : Thread Cert.HeadBwdIdeal.nD Cert.HeadBwdIdeal.τ).loc Cert.HeadBwdIdeal.main_arg5)
      ∧ r.2.mem ((c.tc : Thread Cert.HeadBwdIdeal.nD Cert.HeadBwdIdeal.τ).loc Cert.HeadBwdIdeal.main_arg6) = m ((c.tc : Thread Cert.HeadBwdIdeal.nD Cert.HeadBwdIdeal.τ).loc Cert.HeadBwdIdeal.main_arg6)
      ∧ r.2.mem ((c.tc : Thread Cert.HeadBwdIdeal.nD Cert.HeadBwdIdeal.τ).loc Cert.HeadBwdIdeal.main_arg7) = m ((c.tc : Thread Cert.HeadBwdIdeal.nD Cert.HeadBwdIdeal.τ).loc Cert.HeadBwdIdeal.main_arg7))
      ∧ r.2.sem = fun _ => 0)

def quiescent_HeadBwdRefIdeal [hHeadBwdRefIdeal : Cert.HeadBwdRefIdeal.Facts] : Prop :=
  ∀ (m : (ℓ : Loc Cert.HeadBwdRefIdeal.nD Cert.HeadBwdRefIdeal.τ Cert.HeadBwdRefIdeal.sig) → Buf (Elt Ideal) ℓ) (g : Dev Cert.HeadBwdRefIdeal.nD → PrngReg), Pre_HeadBwdRefIdeal m →
    θ_run (Cert.HeadBwdRefIdeal.defs (F := Ideal)) (onTc (τ := Cert.HeadBwdRefIdeal.τ) (Cert.HeadBwdRefIdeal.main (F := Ideal))) ⟨m, fun _ => 0, g⟩ (fun r => (∀ c : Dev Cert.HeadBwdRefIdeal.nD,
      r.2.mem ((c.tc : Thread Cert.HeadBwdRefIdeal.nD Cert.HeadBwdRefIdeal.τ).loc Cert.HeadBwdRefIdeal.main_arg0) = m ((c.tc : Thread Cert.HeadBwdRefIdeal.nD Cert.HeadBwdRefIdeal.τ).loc Cert.HeadBwdRefIdeal.main_arg0)
      ∧ r.2.mem ((c.tc : Thread Cert.HeadBwdRefIdeal.nD Cert.HeadBwdRefIdeal.τ).loc Cert.HeadBwdRefIdeal.main_arg1) = m ((c.tc : Thread Cert.HeadBwdRefIdeal.nD Cert.HeadBwdRefIdeal.τ).loc Cert.HeadBwdRefIdeal.main_arg1)
      ∧ r.2.mem ((c.tc : Thread Cert.HeadBwdRefIdeal.nD Cert.HeadBwdRefIdeal.τ).loc Cert.HeadBwdRefIdeal.main_arg2) = m ((c.tc : Thread Cert.HeadBwdRefIdeal.nD Cert.HeadBwdRefIdeal.τ).loc Cert.HeadBwdRefIdeal.main_arg2)
      ∧ r.2.mem ((c.tc : Thread Cert.HeadBwdRefIdeal.nD Cert.HeadBwdRefIdeal.τ).loc Cert.HeadBwdRefIdeal.main_arg3) = m ((c.tc : Thread Cert.HeadBwdRefIdeal.nD Cert.HeadBwdRefIdeal.τ).loc Cert.HeadBwdRefIdeal.main_arg3)
      ∧ r.2.mem ((c.tc : Thread Cert.HeadBwdRefIdeal.nD Cert.HeadBwdRefIdeal.τ).loc Cert.HeadBwdRefIdeal.main_arg4) = m ((c.tc : Thread Cert.HeadBwdRefIdeal.nD Cert.HeadBwdRefIdeal.τ).loc Cert.HeadBwdRefIdeal.main_arg4)
      ∧ r.2.mem ((c.tc : Thread Cert.HeadBwdRefIdeal.nD Cert.HeadBwdRefIdeal.τ).loc Cert.HeadBwdRefIdeal.main_arg5) = m ((c.tc : Thread Cert.HeadBwdRefIdeal.nD Cert.HeadBwdRefIdeal.τ).loc Cert.HeadBwdRefIdeal.main_arg5)
      ∧ r.2.mem ((c.tc : Thread Cert.HeadBwdRefIdeal.nD Cert.HeadBwdRefIdeal.τ).loc Cert.HeadBwdRefIdeal.main_arg6) = m ((c.tc : Thread Cert.HeadBwdRefIdeal.nD Cert.HeadBwdRefIdeal.τ).loc Cert.HeadBwdRefIdeal.main_arg6)
      ∧ r.2.mem ((c.tc : Thread Cert.HeadBwdRefIdeal.nD Cert.HeadBwdRefIdeal.τ).loc Cert.HeadBwdRefIdeal.main_arg7) = m ((c.tc : Thread Cert.HeadBwdRefIdeal.nD Cert.HeadBwdRefIdeal.τ).loc Cert.HeadBwdRefIdeal.main_arg7))
      ∧ r.2.sem = fun _ => 0)

def quiescent_HeadBwdRefIdeal_pre_head_numbers [hHeadBwdRefIdeal : Cert.HeadBwdRefIdeal.Facts] [hPre_head_numbers : Cert.Pre_head_numbers.Facts] : Prop :=
  ∀ (m : (ℓ : Loc Cert.HeadBwdRefIdeal.nD Cert.HeadBwdRefIdeal.τ Cert.HeadBwdRefIdeal.sig) → Buf (Elt Ideal) ℓ) (g : Dev Cert.HeadBwdRefIdeal.nD → PrngReg), Pre_HeadBwdRefIdeal_head_numbers m →
    θ_run (Cert.HeadBwdRefIdeal.defs (F := Ideal)) (onTc (τ := Cert.HeadBwdRefIdeal.τ) (Cert.HeadBwdRefIdeal.main (F := Ideal))) ⟨m, fun _ => 0, g⟩ (fun r => (∀ c : Dev Cert.HeadBwdRefIdeal.nD,
      r.2.mem ((c.tc : Thread Cert.HeadBwdRefIdeal.nD Cert.HeadBwdRefIdeal.τ).loc Cert.HeadBwdRefIdeal.main_arg0) = m ((c.tc : Thread Cert.HeadBwdRefIdeal.nD Cert.HeadBwdRefIdeal.τ).loc Cert.HeadBwdRefIdeal.main_arg0)
      ∧ r.2.mem ((c.tc : Thread Cert.HeadBwdRefIdeal.nD Cert.HeadBwdRefIdeal.τ).loc Cert.HeadBwdRefIdeal.main_arg1) = m ((c.tc : Thread Cert.HeadBwdRefIdeal.nD Cert.HeadBwdRefIdeal.τ).loc Cert.HeadBwdRefIdeal.main_arg1)
      ∧ r.2.mem ((c.tc : Thread Cert.HeadBwdRefIdeal.nD Cert.HeadBwdRefIdeal.τ).loc Cert.HeadBwdRefIdeal.main_arg2) = m ((c.tc : Thread Cert.HeadBwdRefIdeal.nD Cert.HeadBwdRefIdeal.τ).loc Cert.HeadBwdRefIdeal.main_arg2)
      ∧ r.2.mem ((c.tc : Thread Cert.HeadBwdRefIdeal.nD Cert.HeadBwdRefIdeal.τ).loc Cert.HeadBwdRefIdeal.main_arg3) = m ((c.tc : Thread Cert.HeadBwdRefIdeal.nD Cert.HeadBwdRefIdeal.τ).loc Cert.HeadBwdRefIdeal.main_arg3)
      ∧ r.2.mem ((c.tc : Thread Cert.HeadBwdRefIdeal.nD Cert.HeadBwdRefIdeal.τ).loc Cert.HeadBwdRefIdeal.main_arg4) = m ((c.tc : Thread Cert.HeadBwdRefIdeal.nD Cert.HeadBwdRefIdeal.τ).loc Cert.HeadBwdRefIdeal.main_arg4)
      ∧ r.2.mem ((c.tc : Thread Cert.HeadBwdRefIdeal.nD Cert.HeadBwdRefIdeal.τ).loc Cert.HeadBwdRefIdeal.main_arg5) = m ((c.tc : Thread Cert.HeadBwdRefIdeal.nD Cert.HeadBwdRefIdeal.τ).loc Cert.HeadBwdRefIdeal.main_arg5)
      ∧ r.2.mem ((c.tc : Thread Cert.HeadBwdRefIdeal.nD Cert.HeadBwdRefIdeal.τ).loc Cert.HeadBwdRefIdeal.main_arg6) = m ((c.tc : Thread Cert.HeadBwdRefIdeal.nD Cert.HeadBwdRefIdeal.τ).loc Cert.HeadBwdRefIdeal.main_arg6)
      ∧ r.2.mem ((c.tc : Thread Cert.HeadBwdRefIdeal.nD Cert.HeadBwdRefIdeal.τ).loc Cert.HeadBwdRefIdeal.main_arg7) = m ((c.tc : Thread Cert.HeadBwdRefIdeal.nD Cert.HeadBwdRefIdeal.τ).loc Cert.HeadBwdRefIdeal.main_arg7))
      ∧ r.2.sem = fun _ => 0)

def quiescent_SumSmall [hSumSmall : Cert.SumSmall.Facts] : Prop :=
  ∀ (m : (ℓ : Loc Cert.SumSmall.nD Cert.SumSmall.τ Cert.SumSmall.sig) → Buf (Elt Bits) ℓ) (g : Dev Cert.SumSmall.nD → PrngReg), Pre_SumSmall m →
    θ_run (Cert.SumSmall.defs (F := Bits)) (onTc (τ := Cert.SumSmall.τ) (Cert.SumSmall.main (F := Bits))) ⟨m, fun _ => 0, g⟩ (fun r => (∀ c : Dev Cert.SumSmall.nD,
      r.2.mem ((c.tc : Thread Cert.SumSmall.nD Cert.SumSmall.τ).loc Cert.SumSmall.main_arg0) = m ((c.tc : Thread Cert.SumSmall.nD Cert.SumSmall.τ).loc Cert.SumSmall.main_arg0))
      ∧ r.2.sem = fun _ => 0)

def quiescent_SumSmallIdeal [hSumSmallIdeal : Cert.SumSmallIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg), Pre_SumSmallIdeal m →
    θ_run (Cert.SumSmallIdeal.defs (F := Ideal)) (onTc (τ := Cert.SumSmallIdeal.τ) (Cert.SumSmallIdeal.main (F := Ideal))) ⟨m, fun _ => 0, g⟩ (fun r => (∀ c : Dev Cert.SumSmallIdeal.nD,
      r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ r.2.sem = fun _ => 0)

def quiescent_SumSmallRefIdeal [hSumSmallRefIdeal : Cert.SumSmallRefIdeal.Facts] : Prop :=
  ∀ (m : (ℓ : Loc Cert.SumSmallRefIdeal.nD Cert.SumSmallRefIdeal.τ Cert.SumSmallRefIdeal.sig) → Buf (Elt Ideal) ℓ) (g : Dev Cert.SumSmallRefIdeal.nD → PrngReg), Pre_SumSmallRefIdeal m →
    θ_run (Cert.SumSmallRefIdeal.defs (F := Ideal)) (onTc (τ := Cert.SumSmallRefIdeal.τ) (Cert.SumSmallRefIdeal.main (F := Ideal))) ⟨m, fun _ => 0, g⟩ (fun r => (∀ c : Dev Cert.SumSmallRefIdeal.nD,
      r.2.mem ((c.tc : Thread Cert.SumSmallRefIdeal.nD Cert.SumSmallRefIdeal.τ).loc Cert.SumSmallRefIdeal.main_arg0) = m ((c.tc : Thread Cert.SumSmallRefIdeal.nD Cert.SumSmallRefIdeal.τ).loc Cert.SumSmallRefIdeal.main_arg0))
      ∧ r.2.sem = fun _ => 0)

def quiescent_AdamwSmall [hAdamwSmall : Cert.AdamwSmall.Facts] : Prop :=
  ∀ (m : (ℓ : Loc Cert.AdamwSmall.nD Cert.AdamwSmall.τ Cert.AdamwSmall.sig) → Buf (Elt Bits) ℓ) (g : Dev Cert.AdamwSmall.nD → PrngReg), Pre_AdamwSmall m →
    θ_run (Cert.AdamwSmall.defs (F := Bits)) (onTc (τ := Cert.AdamwSmall.τ) (Cert.AdamwSmall.main (F := Bits))) ⟨m, fun _ => 0, g⟩ (fun r => (∀ c : Dev Cert.AdamwSmall.nD,
      r.2.mem ((c.tc : Thread Cert.AdamwSmall.nD Cert.AdamwSmall.τ).loc Cert.AdamwSmall.main_arg0) = m ((c.tc : Thread Cert.AdamwSmall.nD Cert.AdamwSmall.τ).loc Cert.AdamwSmall.main_arg0)
      ∧ r.2.mem ((c.tc : Thread Cert.AdamwSmall.nD Cert.AdamwSmall.τ).loc Cert.AdamwSmall.main_arg1) = m ((c.tc : Thread Cert.AdamwSmall.nD Cert.AdamwSmall.τ).loc Cert.AdamwSmall.main_arg1)
      ∧ r.2.mem ((c.tc : Thread Cert.AdamwSmall.nD Cert.AdamwSmall.τ).loc Cert.AdamwSmall.main_arg2) = m ((c.tc : Thread Cert.AdamwSmall.nD Cert.AdamwSmall.τ).loc Cert.AdamwSmall.main_arg2)
      ∧ r.2.mem ((c.tc : Thread Cert.AdamwSmall.nD Cert.AdamwSmall.τ).loc Cert.AdamwSmall.main_arg3) = m ((c.tc : Thread Cert.AdamwSmall.nD Cert.AdamwSmall.τ).loc Cert.AdamwSmall.main_arg3))
      ∧ r.2.sem = fun _ => 0)

def quiescent_AdamwSmallIdeal [hAdamwSmallIdeal : Cert.AdamwSmallIdeal.Facts] : Prop :=
  ∀ (m : (ℓ : Loc Cert.AdamwSmallIdeal.nD Cert.AdamwSmallIdeal.τ Cert.AdamwSmallIdeal.sig) → Buf (Elt Ideal) ℓ) (g : Dev Cert.AdamwSmallIdeal.nD → PrngReg), Pre_AdamwSmallIdeal m →
    θ_run (Cert.AdamwSmallIdeal.defs (F := Ideal)) (onTc (τ := Cert.AdamwSmallIdeal.τ) (Cert.AdamwSmallIdeal.main (F := Ideal))) ⟨m, fun _ => 0, g⟩ (fun r => (∀ c : Dev Cert.AdamwSmallIdeal.nD,
      r.2.mem ((c.tc : Thread Cert.AdamwSmallIdeal.nD Cert.AdamwSmallIdeal.τ).loc Cert.AdamwSmallIdeal.main_arg0) = m ((c.tc : Thread Cert.AdamwSmallIdeal.nD Cert.AdamwSmallIdeal.τ).loc Cert.AdamwSmallIdeal.main_arg0)
      ∧ r.2.mem ((c.tc : Thread Cert.AdamwSmallIdeal.nD Cert.AdamwSmallIdeal.τ).loc Cert.AdamwSmallIdeal.main_arg1) = m ((c.tc : Thread Cert.AdamwSmallIdeal.nD Cert.AdamwSmallIdeal.τ).loc Cert.AdamwSmallIdeal.main_arg1)
      ∧ r.2.mem ((c.tc : Thread Cert.AdamwSmallIdeal.nD Cert.AdamwSmallIdeal.τ).loc Cert.AdamwSmallIdeal.main_arg2) = m ((c.tc : Thread Cert.AdamwSmallIdeal.nD Cert.AdamwSmallIdeal.τ).loc Cert.AdamwSmallIdeal.main_arg2)
      ∧ r.2.mem ((c.tc : Thread Cert.AdamwSmallIdeal.nD Cert.AdamwSmallIdeal.τ).loc Cert.AdamwSmallIdeal.main_arg3) = m ((c.tc : Thread Cert.AdamwSmallIdeal.nD Cert.AdamwSmallIdeal.τ).loc Cert.AdamwSmallIdeal.main_arg3))
      ∧ r.2.sem = fun _ => 0)

def quiescent_AdamwSmallRefIdeal [hAdamwSmallRefIdeal : Cert.AdamwSmallRefIdeal.Facts] : Prop :=
  ∀ (m : (ℓ : Loc Cert.AdamwSmallRefIdeal.nD Cert.AdamwSmallRefIdeal.τ Cert.AdamwSmallRefIdeal.sig) → Buf (Elt Ideal) ℓ) (g : Dev Cert.AdamwSmallRefIdeal.nD → PrngReg), Pre_AdamwSmallRefIdeal m →
    θ_run (Cert.AdamwSmallRefIdeal.defs (F := Ideal)) (onTc (τ := Cert.AdamwSmallRefIdeal.τ) (Cert.AdamwSmallRefIdeal.main (F := Ideal))) ⟨m, fun _ => 0, g⟩ (fun r => (∀ c : Dev Cert.AdamwSmallRefIdeal.nD,
      r.2.mem ((c.tc : Thread Cert.AdamwSmallRefIdeal.nD Cert.AdamwSmallRefIdeal.τ).loc Cert.AdamwSmallRefIdeal.main_arg0) = m ((c.tc : Thread Cert.AdamwSmallRefIdeal.nD Cert.AdamwSmallRefIdeal.τ).loc Cert.AdamwSmallRefIdeal.main_arg0)
      ∧ r.2.mem ((c.tc : Thread Cert.AdamwSmallRefIdeal.nD Cert.AdamwSmallRefIdeal.τ).loc Cert.AdamwSmallRefIdeal.main_arg1) = m ((c.tc : Thread Cert.AdamwSmallRefIdeal.nD Cert.AdamwSmallRefIdeal.τ).loc Cert.AdamwSmallRefIdeal.main_arg1)
      ∧ r.2.mem ((c.tc : Thread Cert.AdamwSmallRefIdeal.nD Cert.AdamwSmallRefIdeal.τ).loc Cert.AdamwSmallRefIdeal.main_arg2) = m ((c.tc : Thread Cert.AdamwSmallRefIdeal.nD Cert.AdamwSmallRefIdeal.τ).loc Cert.AdamwSmallRefIdeal.main_arg2)
      ∧ r.2.mem ((c.tc : Thread Cert.AdamwSmallRefIdeal.nD Cert.AdamwSmallRefIdeal.τ).loc Cert.AdamwSmallRefIdeal.main_arg3) = m ((c.tc : Thread Cert.AdamwSmallRefIdeal.nD Cert.AdamwSmallRefIdeal.τ).loc Cert.AdamwSmallRefIdeal.main_arg3))
      ∧ r.2.sem = fun _ => 0)

def quiescent_HgrnFwd [hHgrnFwd : Cert.HgrnFwd.Facts] : Prop :=
  ∀ (m : (ℓ : Loc Cert.HgrnFwd.nD Cert.HgrnFwd.τ Cert.HgrnFwd.sig) → Buf (Elt Bits) ℓ) (g : Dev Cert.HgrnFwd.nD → PrngReg), Pre_HgrnFwd m →
    θ_run (Cert.HgrnFwd.defs (F := Bits)) (onTc (τ := Cert.HgrnFwd.τ) (Cert.HgrnFwd.main (F := Bits))) ⟨m, fun _ => 0, g⟩ (fun r => (∀ c : Dev Cert.HgrnFwd.nD,
      r.2.mem ((c.tc : Thread Cert.HgrnFwd.nD Cert.HgrnFwd.τ).loc Cert.HgrnFwd.main_arg0) = m ((c.tc : Thread Cert.HgrnFwd.nD Cert.HgrnFwd.τ).loc Cert.HgrnFwd.main_arg0)
      ∧ r.2.mem ((c.tc : Thread Cert.HgrnFwd.nD Cert.HgrnFwd.τ).loc Cert.HgrnFwd.main_arg1) = m ((c.tc : Thread Cert.HgrnFwd.nD Cert.HgrnFwd.τ).loc Cert.HgrnFwd.main_arg1)
      ∧ r.2.mem ((c.tc : Thread Cert.HgrnFwd.nD Cert.HgrnFwd.τ).loc Cert.HgrnFwd.main_arg2) = m ((c.tc : Thread Cert.HgrnFwd.nD Cert.HgrnFwd.τ).loc Cert.HgrnFwd.main_arg2))
      ∧ r.2.sem = fun _ => 0)

def quiescent_HgrnFwdIdeal [hHgrnFwdIdeal : Cert.HgrnFwdIdeal.Facts] : Prop :=
  ∀ (m : (ℓ : Loc Cert.HgrnFwdIdeal.nD Cert.HgrnFwdIdeal.τ Cert.HgrnFwdIdeal.sig) → Buf (Elt Ideal) ℓ) (g : Dev Cert.HgrnFwdIdeal.nD → PrngReg), Pre_HgrnFwdIdeal m →
    θ_run (Cert.HgrnFwdIdeal.defs (F := Ideal)) (onTc (τ := Cert.HgrnFwdIdeal.τ) (Cert.HgrnFwdIdeal.main (F := Ideal))) ⟨m, fun _ => 0, g⟩ (fun r => (∀ c : Dev Cert.HgrnFwdIdeal.nD,
      r.2.mem ((c.tc : Thread Cert.HgrnFwdIdeal.nD Cert.HgrnFwdIdeal.τ).loc Cert.HgrnFwdIdeal.main_arg0) = m ((c.tc : Thread Cert.HgrnFwdIdeal.nD Cert.HgrnFwdIdeal.τ).loc Cert.HgrnFwdIdeal.main_arg0)
      ∧ r.2.mem ((c.tc : Thread Cert.HgrnFwdIdeal.nD Cert.HgrnFwdIdeal.τ).loc Cert.HgrnFwdIdeal.main_arg1) = m ((c.tc : Thread Cert.HgrnFwdIdeal.nD Cert.HgrnFwdIdeal.τ).loc Cert.HgrnFwdIdeal.main_arg1)
      ∧ r.2.mem ((c.tc : Thread Cert.HgrnFwdIdeal.nD Cert.HgrnFwdIdeal.τ).loc Cert.HgrnFwdIdeal.main_arg2) = m ((c.tc : Thread Cert.HgrnFwdIdeal.nD Cert.HgrnFwdIdeal.τ).loc Cert.HgrnFwdIdeal.main_arg2))
      ∧ r.2.sem = fun _ => 0)

def quiescent_HgrnFwdIdeal_pre_tame_fwd [hHgrnFwdIdeal : Cert.HgrnFwdIdeal.Facts] [hPre_tame_fwd : Cert.Pre_tame_fwd.Facts] : Prop :=
  ∀ (m : (ℓ : Loc Cert.HgrnFwdIdeal.nD Cert.HgrnFwdIdeal.τ Cert.HgrnFwdIdeal.sig) → Buf (Elt Ideal) ℓ) (g : Dev Cert.HgrnFwdIdeal.nD → PrngReg), Pre_HgrnFwdIdeal_tame_fwd m →
    θ_run (Cert.HgrnFwdIdeal.defs (F := Ideal)) (onTc (τ := Cert.HgrnFwdIdeal.τ) (Cert.HgrnFwdIdeal.main (F := Ideal))) ⟨m, fun _ => 0, g⟩ (fun r => (∀ c : Dev Cert.HgrnFwdIdeal.nD,
      r.2.mem ((c.tc : Thread Cert.HgrnFwdIdeal.nD Cert.HgrnFwdIdeal.τ).loc Cert.HgrnFwdIdeal.main_arg0) = m ((c.tc : Thread Cert.HgrnFwdIdeal.nD Cert.HgrnFwdIdeal.τ).loc Cert.HgrnFwdIdeal.main_arg0)
      ∧ r.2.mem ((c.tc : Thread Cert.HgrnFwdIdeal.nD Cert.HgrnFwdIdeal.τ).loc Cert.HgrnFwdIdeal.main_arg1) = m ((c.tc : Thread Cert.HgrnFwdIdeal.nD Cert.HgrnFwdIdeal.τ).loc Cert.HgrnFwdIdeal.main_arg1)
      ∧ r.2.mem ((c.tc : Thread Cert.HgrnFwdIdeal.nD Cert.HgrnFwdIdeal.τ).loc Cert.HgrnFwdIdeal.main_arg2) = m ((c.tc : Thread Cert.HgrnFwdIdeal.nD Cert.HgrnFwdIdeal.τ).loc Cert.HgrnFwdIdeal.main_arg2))
      ∧ r.2.sem = fun _ => 0)

def quiescent_HgrnFwdRefIdeal [hHgrnFwdRefIdeal : Cert.HgrnFwdRefIdeal.Facts] : Prop :=
  ∀ (m : (ℓ : Loc Cert.HgrnFwdRefIdeal.nD Cert.HgrnFwdRefIdeal.τ Cert.HgrnFwdRefIdeal.sig) → Buf (Elt Ideal) ℓ) (g : Dev Cert.HgrnFwdRefIdeal.nD → PrngReg), Pre_HgrnFwdRefIdeal m →
    θ_run (Cert.HgrnFwdRefIdeal.defs (F := Ideal)) (onTc (τ := Cert.HgrnFwdRefIdeal.τ) (Cert.HgrnFwdRefIdeal.main (F := Ideal))) ⟨m, fun _ => 0, g⟩ (fun r => (∀ c : Dev Cert.HgrnFwdRefIdeal.nD,
      r.2.mem ((c.tc : Thread Cert.HgrnFwdRefIdeal.nD Cert.HgrnFwdRefIdeal.τ).loc Cert.HgrnFwdRefIdeal.main_arg0) = m ((c.tc : Thread Cert.HgrnFwdRefIdeal.nD Cert.HgrnFwdRefIdeal.τ).loc Cert.HgrnFwdRefIdeal.main_arg0)
      ∧ r.2.mem ((c.tc : Thread Cert.HgrnFwdRefIdeal.nD Cert.HgrnFwdRefIdeal.τ).loc Cert.HgrnFwdRefIdeal.main_arg1) = m ((c.tc : Thread Cert.HgrnFwdRefIdeal.nD Cert.HgrnFwdRefIdeal.τ).loc Cert.HgrnFwdRefIdeal.main_arg1)
      ∧ r.2.mem ((c.tc : Thread Cert.HgrnFwdRefIdeal.nD Cert.HgrnFwdRefIdeal.τ).loc Cert.HgrnFwdRefIdeal.main_arg2) = m ((c.tc : Thread Cert.HgrnFwdRefIdeal.nD Cert.HgrnFwdRefIdeal.τ).loc Cert.HgrnFwdRefIdeal.main_arg2))
      ∧ r.2.sem = fun _ => 0)

def quiescent_HgrnFwdRefIdeal_pre_tame_fwd [hHgrnFwdRefIdeal : Cert.HgrnFwdRefIdeal.Facts] [hPre_tame_fwd : Cert.Pre_tame_fwd.Facts] : Prop :=
  ∀ (m : (ℓ : Loc Cert.HgrnFwdRefIdeal.nD Cert.HgrnFwdRefIdeal.τ Cert.HgrnFwdRefIdeal.sig) → Buf (Elt Ideal) ℓ) (g : Dev Cert.HgrnFwdRefIdeal.nD → PrngReg), Pre_HgrnFwdRefIdeal_tame_fwd m →
    θ_run (Cert.HgrnFwdRefIdeal.defs (F := Ideal)) (onTc (τ := Cert.HgrnFwdRefIdeal.τ) (Cert.HgrnFwdRefIdeal.main (F := Ideal))) ⟨m, fun _ => 0, g⟩ (fun r => (∀ c : Dev Cert.HgrnFwdRefIdeal.nD,
      r.2.mem ((c.tc : Thread Cert.HgrnFwdRefIdeal.nD Cert.HgrnFwdRefIdeal.τ).loc Cert.HgrnFwdRefIdeal.main_arg0) = m ((c.tc : Thread Cert.HgrnFwdRefIdeal.nD Cert.HgrnFwdRefIdeal.τ).loc Cert.HgrnFwdRefIdeal.main_arg0)
      ∧ r.2.mem ((c.tc : Thread Cert.HgrnFwdRefIdeal.nD Cert.HgrnFwdRefIdeal.τ).loc Cert.HgrnFwdRefIdeal.main_arg1) = m ((c.tc : Thread Cert.HgrnFwdRefIdeal.nD Cert.HgrnFwdRefIdeal.τ).loc Cert.HgrnFwdRefIdeal.main_arg1)
      ∧ r.2.mem ((c.tc : Thread Cert.HgrnFwdRefIdeal.nD Cert.HgrnFwdRefIdeal.τ).loc Cert.HgrnFwdRefIdeal.main_arg2) = m ((c.tc : Thread Cert.HgrnFwdRefIdeal.nD Cert.HgrnFwdRefIdeal.τ).loc Cert.HgrnFwdRefIdeal.main_arg2))
      ∧ r.2.sem = fun _ => 0)

def preserves_Kernel_KernelIdeal : Prop :=
  True

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v122_0)) (v1 : (c : Dev Cert.KernelIdeal.nD) → Buf (Elt Ideal) ((c.tc : Thread Cert.KernelIdeal.nD Cert.KernelIdeal.τ).loc Cert.KernelIdeal.main_v122_1)) (v2 : (c : Dev Cert.KernelIdeal.nD) → Buf (Elt Ideal) ((c.tc : Thread Cert.KernelIdeal.nD Cert.KernelIdeal.τ).loc Cert.KernelIdeal.main_v122_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v122_0) = v0 c
          ∧ r.2.mem ((c.tc : Thread Cert.KernelIdeal.nD Cert.KernelIdeal.τ).loc Cert.KernelIdeal.main_v122_1) = v1 c
          ∧ r.2.mem ((c.tc : Thread Cert.KernelIdeal.nD Cert.KernelIdeal.τ).loc Cert.KernelIdeal.main_v122_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v225) = v0 c
          ∧ r.2.mem ((c.tc : Thread Cert.ReferenceIdeal.nD Cert.ReferenceIdeal.τ).loc Cert.ReferenceIdeal.main_v224) = v1 c
          ∧ r.2.mem ((c.tc : Thread Cert.ReferenceIdeal.nD Cert.ReferenceIdeal.τ).loc Cert.ReferenceIdeal.main_v140) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_WgradFfn_WgradFfnIdeal : Prop :=
  True

def algebraic_WgradFfnIdeal_WgradFfnRefIdeal [hWgradFfnIdeal : Cert.WgradFfnIdeal.Facts] [hWgradFfnRefIdeal : Cert.WgradFfnRefIdeal.Facts] : Prop :=
  ∀ (m : (ℓ : Loc Cert.WgradFfnIdeal.nD Cert.WgradFfnIdeal.τ Cert.WgradFfnIdeal.sig) → Buf (Elt Ideal) ℓ) (g : Dev Cert.WgradFfnIdeal.nD → PrngReg)
    (m' : (ℓ : Loc Cert.WgradFfnRefIdeal.nD Cert.WgradFfnRefIdeal.τ Cert.WgradFfnRefIdeal.sig) → Buf (Elt Ideal) ℓ) (g' : Dev Cert.WgradFfnRefIdeal.nD → PrngReg), Pre_WgradFfnIdeal m →
    (∀ c : Dev Cert.WgradFfnIdeal.nD,
      m' ((c.tc : Thread Cert.WgradFfnRefIdeal.nD Cert.WgradFfnRefIdeal.τ).loc Cert.WgradFfnRefIdeal.main_arg0) = m ((c.tc : Thread Cert.WgradFfnIdeal.nD Cert.WgradFfnIdeal.τ).loc Cert.WgradFfnIdeal.main_arg0)
      ∧ m' ((c.tc : Thread Cert.WgradFfnRefIdeal.nD Cert.WgradFfnRefIdeal.τ).loc Cert.WgradFfnRefIdeal.main_arg1) = m ((c.tc : Thread Cert.WgradFfnIdeal.nD Cert.WgradFfnIdeal.τ).loc Cert.WgradFfnIdeal.main_arg1)) →
    ∃ (v0 : (c : Dev Cert.WgradFfnIdeal.nD) → Buf (Elt Ideal) ((c.tc : Thread Cert.WgradFfnIdeal.nD Cert.WgradFfnIdeal.τ).loc Cert.WgradFfnIdeal.main_v0_0)) (v1 : (c : Dev Cert.WgradFfnIdeal.nD) → Buf (Elt Ideal) ((c.tc : Thread Cert.WgradFfnIdeal.nD Cert.WgradFfnIdeal.τ).loc Cert.WgradFfnIdeal.main_v0_1)),
      θ_run (Cert.WgradFfnIdeal.defs (F := Ideal)) (onTc (τ := Cert.WgradFfnIdeal.τ) (Cert.WgradFfnIdeal.main (F := Ideal))) ⟨m, fun _ => 0, g⟩ (fun r => ∀ c : Dev Cert.WgradFfnIdeal.nD,
          r.2.mem ((c.tc : Thread Cert.WgradFfnIdeal.nD Cert.WgradFfnIdeal.τ).loc Cert.WgradFfnIdeal.main_v0_0) = v0 c
          ∧ r.2.mem ((c.tc : Thread Cert.WgradFfnIdeal.nD Cert.WgradFfnIdeal.τ).loc Cert.WgradFfnIdeal.main_v0_1) = v1 c
          ∧ r.2.mem ((c.tc : Thread Cert.WgradFfnIdeal.nD Cert.WgradFfnIdeal.τ).loc Cert.WgradFfnIdeal.main_arg0) = m ((c.tc : Thread Cert.WgradFfnIdeal.nD Cert.WgradFfnIdeal.τ).loc Cert.WgradFfnIdeal.main_arg0)
          ∧ r.2.mem ((c.tc : Thread Cert.WgradFfnIdeal.nD Cert.WgradFfnIdeal.τ).loc Cert.WgradFfnIdeal.main_arg1) = m ((c.tc : Thread Cert.WgradFfnIdeal.nD Cert.WgradFfnIdeal.τ).loc Cert.WgradFfnIdeal.main_arg1))
      ∧ θ_run (Cert.WgradFfnRefIdeal.defs (F := Ideal)) (onTc (τ := Cert.WgradFfnRefIdeal.τ) (Cert.WgradFfnRefIdeal.main (F := Ideal))) ⟨m', fun _ => 0, g'⟩ (fun r => ∀ c : Dev Cert.WgradFfnRefIdeal.nD,
          r.2.mem ((c.tc : Thread Cert.WgradFfnRefIdeal.nD Cert.WgradFfnRefIdeal.τ).loc Cert.WgradFfnRefIdeal.main_v7) = v0 c
          ∧ r.2.mem ((c.tc : Thread Cert.WgradFfnRefIdeal.nD Cert.WgradFfnRefIdeal.τ).loc Cert.WgradFfnRefIdeal.main_v8) = v1 c
          ∧ r.2.mem ((c.tc : Thread Cert.WgradFfnRefIdeal.nD Cert.WgradFfnRefIdeal.τ).loc Cert.WgradFfnRefIdeal.main_arg0) = m' ((c.tc : Thread Cert.WgradFfnRefIdeal.nD Cert.WgradFfnRefIdeal.τ).loc Cert.WgradFfnRefIdeal.main_arg0)
          ∧ r.2.mem ((c.tc : Thread Cert.WgradFfnRefIdeal.nD Cert.WgradFfnRefIdeal.τ).loc Cert.WgradFfnRefIdeal.main_arg1) = m' ((c.tc : Thread Cert.WgradFfnRefIdeal.nD Cert.WgradFfnRefIdeal.τ).loc Cert.WgradFfnRefIdeal.main_arg1))

def preserves_WgradDown_WgradDownIdeal : Prop :=
  True

def algebraic_WgradDownIdeal_WgradDownRefIdeal [hWgradDownIdeal : Cert.WgradDownIdeal.Facts] [hWgradDownRefIdeal : Cert.WgradDownRefIdeal.Facts] : Prop :=
  ∀ (m : (ℓ : Loc Cert.WgradDownIdeal.nD Cert.WgradDownIdeal.τ Cert.WgradDownIdeal.sig) → Buf (Elt Ideal) ℓ) (g : Dev Cert.WgradDownIdeal.nD → PrngReg)
    (m' : (ℓ : Loc Cert.WgradDownRefIdeal.nD Cert.WgradDownRefIdeal.τ Cert.WgradDownRefIdeal.sig) → Buf (Elt Ideal) ℓ) (g' : Dev Cert.WgradDownRefIdeal.nD → PrngReg), Pre_WgradDownIdeal m →
    (∀ c : Dev Cert.WgradDownIdeal.nD,
      m' ((c.tc : Thread Cert.WgradDownRefIdeal.nD Cert.WgradDownRefIdeal.τ).loc Cert.WgradDownRefIdeal.main_arg0) = m ((c.tc : Thread Cert.WgradDownIdeal.nD Cert.WgradDownIdeal.τ).loc Cert.WgradDownIdeal.main_arg0)
      ∧ m' ((c.tc : Thread Cert.WgradDownRefIdeal.nD Cert.WgradDownRefIdeal.τ).loc Cert.WgradDownRefIdeal.main_arg1) = m ((c.tc : Thread Cert.WgradDownIdeal.nD Cert.WgradDownIdeal.τ).loc Cert.WgradDownIdeal.main_arg1)) →
    ∃ (v0 : (c : Dev Cert.WgradDownIdeal.nD) → Buf (Elt Ideal) ((c.tc : Thread Cert.WgradDownIdeal.nD Cert.WgradDownIdeal.τ).loc Cert.WgradDownIdeal.main_v0_0)) (v1 : (c : Dev Cert.WgradDownIdeal.nD) → Buf (Elt Ideal) ((c.tc : Thread Cert.WgradDownIdeal.nD Cert.WgradDownIdeal.τ).loc Cert.WgradDownIdeal.main_v0_1)),
      θ_run (Cert.WgradDownIdeal.defs (F := Ideal)) (onTc (τ := Cert.WgradDownIdeal.τ) (Cert.WgradDownIdeal.main (F := Ideal))) ⟨m, fun _ => 0, g⟩ (fun r => ∀ c : Dev Cert.WgradDownIdeal.nD,
          r.2.mem ((c.tc : Thread Cert.WgradDownIdeal.nD Cert.WgradDownIdeal.τ).loc Cert.WgradDownIdeal.main_v0_0) = v0 c
          ∧ r.2.mem ((c.tc : Thread Cert.WgradDownIdeal.nD Cert.WgradDownIdeal.τ).loc Cert.WgradDownIdeal.main_v0_1) = v1 c
          ∧ r.2.mem ((c.tc : Thread Cert.WgradDownIdeal.nD Cert.WgradDownIdeal.τ).loc Cert.WgradDownIdeal.main_arg0) = m ((c.tc : Thread Cert.WgradDownIdeal.nD Cert.WgradDownIdeal.τ).loc Cert.WgradDownIdeal.main_arg0)
          ∧ r.2.mem ((c.tc : Thread Cert.WgradDownIdeal.nD Cert.WgradDownIdeal.τ).loc Cert.WgradDownIdeal.main_arg1) = m ((c.tc : Thread Cert.WgradDownIdeal.nD Cert.WgradDownIdeal.τ).loc Cert.WgradDownIdeal.main_arg1))
      ∧ θ_run (Cert.WgradDownRefIdeal.defs (F := Ideal)) (onTc (τ := Cert.WgradDownRefIdeal.τ) (Cert.WgradDownRefIdeal.main (F := Ideal))) ⟨m', fun _ => 0, g'⟩ (fun r => ∀ c : Dev Cert.WgradDownRefIdeal.nD,
          r.2.mem ((c.tc : Thread Cert.WgradDownRefIdeal.nD Cert.WgradDownRefIdeal.τ).loc Cert.WgradDownRefIdeal.main_v4) = v0 c
          ∧ r.2.mem ((c.tc : Thread Cert.WgradDownRefIdeal.nD Cert.WgradDownRefIdeal.τ).loc Cert.WgradDownRefIdeal.main_v5) = v1 c
          ∧ r.2.mem ((c.tc : Thread Cert.WgradDownRefIdeal.nD Cert.WgradDownRefIdeal.τ).loc Cert.WgradDownRefIdeal.main_arg0) = m' ((c.tc : Thread Cert.WgradDownRefIdeal.nD Cert.WgradDownRefIdeal.τ).loc Cert.WgradDownRefIdeal.main_arg0)
          ∧ r.2.mem ((c.tc : Thread Cert.WgradDownRefIdeal.nD Cert.WgradDownRefIdeal.τ).loc Cert.WgradDownRefIdeal.main_arg1) = m' ((c.tc : Thread Cert.WgradDownRefIdeal.nD Cert.WgradDownRefIdeal.τ).loc Cert.WgradDownRefIdeal.main_arg1))

def preserves_WgradOut_WgradOutIdeal : Prop :=
  True

def algebraic_WgradOutIdeal_WgradOutRefIdeal [hWgradOutIdeal : Cert.WgradOutIdeal.Facts] [hWgradOutRefIdeal : Cert.WgradOutRefIdeal.Facts] : Prop :=
  ∀ (m : (ℓ : Loc Cert.WgradOutIdeal.nD Cert.WgradOutIdeal.τ Cert.WgradOutIdeal.sig) → Buf (Elt Ideal) ℓ) (g : Dev Cert.WgradOutIdeal.nD → PrngReg)
    (m' : (ℓ : Loc Cert.WgradOutRefIdeal.nD Cert.WgradOutRefIdeal.τ Cert.WgradOutRefIdeal.sig) → Buf (Elt Ideal) ℓ) (g' : Dev Cert.WgradOutRefIdeal.nD → PrngReg), Pre_WgradOutIdeal m →
    (∀ c : Dev Cert.WgradOutIdeal.nD,
      m' ((c.tc : Thread Cert.WgradOutRefIdeal.nD Cert.WgradOutRefIdeal.τ).loc Cert.WgradOutRefIdeal.main_arg0) = m ((c.tc : Thread Cert.WgradOutIdeal.nD Cert.WgradOutIdeal.τ).loc Cert.WgradOutIdeal.main_arg0)
      ∧ m' ((c.tc : Thread Cert.WgradOutRefIdeal.nD Cert.WgradOutRefIdeal.τ).loc Cert.WgradOutRefIdeal.main_arg1) = m ((c.tc : Thread Cert.WgradOutIdeal.nD Cert.WgradOutIdeal.τ).loc Cert.WgradOutIdeal.main_arg1)) →
    ∃ (v0 : (c : Dev Cert.WgradOutIdeal.nD) → Buf (Elt Ideal) ((c.tc : Thread Cert.WgradOutIdeal.nD Cert.WgradOutIdeal.τ).loc Cert.WgradOutIdeal.main_v0_0)) (v1 : (c : Dev Cert.WgradOutIdeal.nD) → Buf (Elt Ideal) ((c.tc : Thread Cert.WgradOutIdeal.nD Cert.WgradOutIdeal.τ).loc Cert.WgradOutIdeal.main_v0_1)),
      θ_run (Cert.WgradOutIdeal.defs (F := Ideal)) (onTc (τ := Cert.WgradOutIdeal.τ) (Cert.WgradOutIdeal.main (F := Ideal))) ⟨m, fun _ => 0, g⟩ (fun r => ∀ c : Dev Cert.WgradOutIdeal.nD,
          r.2.mem ((c.tc : Thread Cert.WgradOutIdeal.nD Cert.WgradOutIdeal.τ).loc Cert.WgradOutIdeal.main_v0_0) = v0 c
          ∧ r.2.mem ((c.tc : Thread Cert.WgradOutIdeal.nD Cert.WgradOutIdeal.τ).loc Cert.WgradOutIdeal.main_v0_1) = v1 c
          ∧ r.2.mem ((c.tc : Thread Cert.WgradOutIdeal.nD Cert.WgradOutIdeal.τ).loc Cert.WgradOutIdeal.main_arg0) = m ((c.tc : Thread Cert.WgradOutIdeal.nD Cert.WgradOutIdeal.τ).loc Cert.WgradOutIdeal.main_arg0)
          ∧ r.2.mem ((c.tc : Thread Cert.WgradOutIdeal.nD Cert.WgradOutIdeal.τ).loc Cert.WgradOutIdeal.main_arg1) = m ((c.tc : Thread Cert.WgradOutIdeal.nD Cert.WgradOutIdeal.τ).loc Cert.WgradOutIdeal.main_arg1))
      ∧ θ_run (Cert.WgradOutRefIdeal.defs (F := Ideal)) (onTc (τ := Cert.WgradOutRefIdeal.τ) (Cert.WgradOutRefIdeal.main (F := Ideal))) ⟨m', fun _ => 0, g'⟩ (fun r => ∀ c : Dev Cert.WgradOutRefIdeal.nD,
          r.2.mem ((c.tc : Thread Cert.WgradOutRefIdeal.nD Cert.WgradOutRefIdeal.τ).loc Cert.WgradOutRefIdeal.main_v4) = v0 c
          ∧ r.2.mem ((c.tc : Thread Cert.WgradOutRefIdeal.nD Cert.WgradOutRefIdeal.τ).loc Cert.WgradOutRefIdeal.main_v5) = v1 c
          ∧ r.2.mem ((c.tc : Thread Cert.WgradOutRefIdeal.nD Cert.WgradOutRefIdeal.τ).loc Cert.WgradOutRefIdeal.main_arg0) = m' ((c.tc : Thread Cert.WgradOutRefIdeal.nD Cert.WgradOutRefIdeal.τ).loc Cert.WgradOutRefIdeal.main_arg0)
          ∧ r.2.mem ((c.tc : Thread Cert.WgradOutRefIdeal.nD Cert.WgradOutRefIdeal.τ).loc Cert.WgradOutRefIdeal.main_arg1) = m' ((c.tc : Thread Cert.WgradOutRefIdeal.nD Cert.WgradOutRefIdeal.τ).loc Cert.WgradOutRefIdeal.main_arg1))

def preserves_WgradProj_WgradProjIdeal : Prop :=
  True

def algebraic_WgradProjIdeal_WgradProjRefIdeal [hWgradProjIdeal : Cert.WgradProjIdeal.Facts] [hWgradProjRefIdeal : Cert.WgradProjRefIdeal.Facts] : Prop :=
  ∀ (m : (ℓ : Loc Cert.WgradProjIdeal.nD Cert.WgradProjIdeal.τ Cert.WgradProjIdeal.sig) → Buf (Elt Ideal) ℓ) (g : Dev Cert.WgradProjIdeal.nD → PrngReg)
    (m' : (ℓ : Loc Cert.WgradProjRefIdeal.nD Cert.WgradProjRefIdeal.τ Cert.WgradProjRefIdeal.sig) → Buf (Elt Ideal) ℓ) (g' : Dev Cert.WgradProjRefIdeal.nD → PrngReg), Pre_WgradProjIdeal m →
    (∀ c : Dev Cert.WgradProjIdeal.nD,
      m' ((c.tc : Thread Cert.WgradProjRefIdeal.nD Cert.WgradProjRefIdeal.τ).loc Cert.WgradProjRefIdeal.main_arg0) = m ((c.tc : Thread Cert.WgradProjIdeal.nD Cert.WgradProjIdeal.τ).loc Cert.WgradProjIdeal.main_arg0)
      ∧ m' ((c.tc : Thread Cert.WgradProjRefIdeal.nD Cert.WgradProjRefIdeal.τ).loc Cert.WgradProjRefIdeal.main_arg1) = m ((c.tc : Thread Cert.WgradProjIdeal.nD Cert.WgradProjIdeal.τ).loc Cert.WgradProjIdeal.main_arg1)) →
    ∃ (v0 : (c : Dev Cert.WgradProjIdeal.nD) → Buf (Elt Ideal) ((c.tc : Thread Cert.WgradProjIdeal.nD Cert.WgradProjIdeal.τ).loc Cert.WgradProjIdeal.main_v0_0)) (v1 : (c : Dev Cert.WgradProjIdeal.nD) → Buf (Elt Ideal) ((c.tc : Thread Cert.WgradProjIdeal.nD Cert.WgradProjIdeal.τ).loc Cert.WgradProjIdeal.main_v0_1)),
      θ_run (Cert.WgradProjIdeal.defs (F := Ideal)) (onTc (τ := Cert.WgradProjIdeal.τ) (Cert.WgradProjIdeal.main (F := Ideal))) ⟨m, fun _ => 0, g⟩ (fun r => ∀ c : Dev Cert.WgradProjIdeal.nD,
          r.2.mem ((c.tc : Thread Cert.WgradProjIdeal.nD Cert.WgradProjIdeal.τ).loc Cert.WgradProjIdeal.main_v0_0) = v0 c
          ∧ r.2.mem ((c.tc : Thread Cert.WgradProjIdeal.nD Cert.WgradProjIdeal.τ).loc Cert.WgradProjIdeal.main_v0_1) = v1 c
          ∧ r.2.mem ((c.tc : Thread Cert.WgradProjIdeal.nD Cert.WgradProjIdeal.τ).loc Cert.WgradProjIdeal.main_arg0) = m ((c.tc : Thread Cert.WgradProjIdeal.nD Cert.WgradProjIdeal.τ).loc Cert.WgradProjIdeal.main_arg0)
          ∧ r.2.mem ((c.tc : Thread Cert.WgradProjIdeal.nD Cert.WgradProjIdeal.τ).loc Cert.WgradProjIdeal.main_arg1) = m ((c.tc : Thread Cert.WgradProjIdeal.nD Cert.WgradProjIdeal.τ).loc Cert.WgradProjIdeal.main_arg1))
      ∧ θ_run (Cert.WgradProjRefIdeal.defs (F := Ideal)) (onTc (τ := Cert.WgradProjRefIdeal.τ) (Cert.WgradProjRefIdeal.main (F := Ideal))) ⟨m', fun _ => 0, g'⟩ (fun r => ∀ c : Dev Cert.WgradProjRefIdeal.nD,
          r.2.mem ((c.tc : Thread Cert.WgradProjRefIdeal.nD Cert.WgradProjRefIdeal.τ).loc Cert.WgradProjRefIdeal.main_v4) = v0 c
          ∧ r.2.mem ((c.tc : Thread Cert.WgradProjRefIdeal.nD Cert.WgradProjRefIdeal.τ).loc Cert.WgradProjRefIdeal.main_v5) = v1 c
          ∧ r.2.mem ((c.tc : Thread Cert.WgradProjRefIdeal.nD Cert.WgradProjRefIdeal.τ).loc Cert.WgradProjRefIdeal.main_arg0) = m' ((c.tc : Thread Cert.WgradProjRefIdeal.nD Cert.WgradProjRefIdeal.τ).loc Cert.WgradProjRefIdeal.main_arg0)
          ∧ r.2.mem ((c.tc : Thread Cert.WgradProjRefIdeal.nD Cert.WgradProjRefIdeal.τ).loc Cert.WgradProjRefIdeal.main_arg1) = m' ((c.tc : Thread Cert.WgradProjRefIdeal.nD Cert.WgradProjRefIdeal.τ).loc Cert.WgradProjRefIdeal.main_arg1))

def preserves_WgradGate_WgradGateIdeal : Prop :=
  True

def algebraic_WgradGateIdeal_WgradGateRefIdeal [hWgradGateIdeal : Cert.WgradGateIdeal.Facts] [hWgradGateRefIdeal : Cert.WgradGateRefIdeal.Facts] : Prop :=
  ∀ (m : (ℓ : Loc Cert.WgradGateIdeal.nD Cert.WgradGateIdeal.τ Cert.WgradGateIdeal.sig) → Buf (Elt Ideal) ℓ) (g : Dev Cert.WgradGateIdeal.nD → PrngReg)
    (m' : (ℓ : Loc Cert.WgradGateRefIdeal.nD Cert.WgradGateRefIdeal.τ Cert.WgradGateRefIdeal.sig) → Buf (Elt Ideal) ℓ) (g' : Dev Cert.WgradGateRefIdeal.nD → PrngReg), Pre_WgradGateIdeal m →
    (∀ c : Dev Cert.WgradGateIdeal.nD,
      m' ((c.tc : Thread Cert.WgradGateRefIdeal.nD Cert.WgradGateRefIdeal.τ).loc Cert.WgradGateRefIdeal.main_arg0) = m ((c.tc : Thread Cert.WgradGateIdeal.nD Cert.WgradGateIdeal.τ).loc Cert.WgradGateIdeal.main_arg0)
      ∧ m' ((c.tc : Thread Cert.WgradGateRefIdeal.nD Cert.WgradGateRefIdeal.τ).loc Cert.WgradGateRefIdeal.main_arg1) = m ((c.tc : Thread Cert.WgradGateIdeal.nD Cert.WgradGateIdeal.τ).loc Cert.WgradGateIdeal.main_arg1)) →
    ∃ (v0 : (c : Dev Cert.WgradGateIdeal.nD) → Buf (Elt Ideal) ((c.tc : Thread Cert.WgradGateIdeal.nD Cert.WgradGateIdeal.τ).loc Cert.WgradGateIdeal.main_v0_0)) (v1 : (c : Dev Cert.WgradGateIdeal.nD) → Buf (Elt Ideal) ((c.tc : Thread Cert.WgradGateIdeal.nD Cert.WgradGateIdeal.τ).loc Cert.WgradGateIdeal.main_v0_1)),
      θ_run (Cert.WgradGateIdeal.defs (F := Ideal)) (onTc (τ := Cert.WgradGateIdeal.τ) (Cert.WgradGateIdeal.main (F := Ideal))) ⟨m, fun _ => 0, g⟩ (fun r => ∀ c : Dev Cert.WgradGateIdeal.nD,
          r.2.mem ((c.tc : Thread Cert.WgradGateIdeal.nD Cert.WgradGateIdeal.τ).loc Cert.WgradGateIdeal.main_v0_0) = v0 c
          ∧ r.2.mem ((c.tc : Thread Cert.WgradGateIdeal.nD Cert.WgradGateIdeal.τ).loc Cert.WgradGateIdeal.main_v0_1) = v1 c
          ∧ r.2.mem ((c.tc : Thread Cert.WgradGateIdeal.nD Cert.WgradGateIdeal.τ).loc Cert.WgradGateIdeal.main_arg0) = m ((c.tc : Thread Cert.WgradGateIdeal.nD Cert.WgradGateIdeal.τ).loc Cert.WgradGateIdeal.main_arg0)
          ∧ r.2.mem ((c.tc : Thread Cert.WgradGateIdeal.nD Cert.WgradGateIdeal.τ).loc Cert.WgradGateIdeal.main_arg1) = m ((c.tc : Thread Cert.WgradGateIdeal.nD Cert.WgradGateIdeal.τ).loc Cert.WgradGateIdeal.main_arg1))
      ∧ θ_run (Cert.WgradGateRefIdeal.defs (F := Ideal)) (onTc (τ := Cert.WgradGateRefIdeal.τ) (Cert.WgradGateRefIdeal.main (F := Ideal))) ⟨m', fun _ => 0, g'⟩ (fun r => ∀ c : Dev Cert.WgradGateRefIdeal.nD,
          r.2.mem ((c.tc : Thread Cert.WgradGateRefIdeal.nD Cert.WgradGateRefIdeal.τ).loc Cert.WgradGateRefIdeal.main_v5) = v0 c
          ∧ r.2.mem ((c.tc : Thread Cert.WgradGateRefIdeal.nD Cert.WgradGateRefIdeal.τ).loc Cert.WgradGateRefIdeal.main_v6) = v1 c
          ∧ r.2.mem ((c.tc : Thread Cert.WgradGateRefIdeal.nD Cert.WgradGateRefIdeal.τ).loc Cert.WgradGateRefIdeal.main_arg0) = m' ((c.tc : Thread Cert.WgradGateRefIdeal.nD Cert.WgradGateRefIdeal.τ).loc Cert.WgradGateRefIdeal.main_arg0)
          ∧ r.2.mem ((c.tc : Thread Cert.WgradGateRefIdeal.nD Cert.WgradGateRefIdeal.τ).loc Cert.WgradGateRefIdeal.main_arg1) = m' ((c.tc : Thread Cert.WgradGateRefIdeal.nD Cert.WgradGateRefIdeal.τ).loc Cert.WgradGateRefIdeal.main_arg1))

def preserves_WgradHg_WgradHgIdeal : Prop :=
  True

def algebraic_WgradHgIdeal_WgradHgRefIdeal [hWgradHgIdeal : Cert.WgradHgIdeal.Facts] [hWgradHgRefIdeal : Cert.WgradHgRefIdeal.Facts] : Prop :=
  ∀ (m : (ℓ : Loc Cert.WgradHgIdeal.nD Cert.WgradHgIdeal.τ Cert.WgradHgIdeal.sig) → Buf (Elt Ideal) ℓ) (g : Dev Cert.WgradHgIdeal.nD → PrngReg)
    (m' : (ℓ : Loc Cert.WgradHgRefIdeal.nD Cert.WgradHgRefIdeal.τ Cert.WgradHgRefIdeal.sig) → Buf (Elt Ideal) ℓ) (g' : Dev Cert.WgradHgRefIdeal.nD → PrngReg), Pre_WgradHgIdeal m →
    (∀ c : Dev Cert.WgradHgIdeal.nD,
      m' ((c.tc : Thread Cert.WgradHgRefIdeal.nD Cert.WgradHgRefIdeal.τ).loc Cert.WgradHgRefIdeal.main_arg0) = m ((c.tc : Thread Cert.WgradHgIdeal.nD Cert.WgradHgIdeal.τ).loc Cert.WgradHgIdeal.main_arg0)
      ∧ m' ((c.tc : Thread Cert.WgradHgRefIdeal.nD Cert.WgradHgRefIdeal.τ).loc Cert.WgradHgRefIdeal.main_arg1) = m ((c.tc : Thread Cert.WgradHgIdeal.nD Cert.WgradHgIdeal.τ).loc Cert.WgradHgIdeal.main_arg1)) →
    ∃ (v0 : (c : Dev Cert.WgradHgIdeal.nD) → Buf (Elt Ideal) ((c.tc : Thread Cert.WgradHgIdeal.nD Cert.WgradHgIdeal.τ).loc Cert.WgradHgIdeal.main_v0_0)) (v1 : (c : Dev Cert.WgradHgIdeal.nD) → Buf (Elt Ideal) ((c.tc : Thread Cert.WgradHgIdeal.nD Cert.WgradHgIdeal.τ).loc Cert.WgradHgIdeal.main_v0_1)),
      θ_run (Cert.WgradHgIdeal.defs (F := Ideal)) (onTc (τ := Cert.WgradHgIdeal.τ) (Cert.WgradHgIdeal.main (F := Ideal))) ⟨m, fun _ => 0, g⟩ (fun r => ∀ c : Dev Cert.WgradHgIdeal.nD,
          r.2.mem ((c.tc : Thread Cert.WgradHgIdeal.nD Cert.WgradHgIdeal.τ).loc Cert.WgradHgIdeal.main_v0_0) = v0 c
          ∧ r.2.mem ((c.tc : Thread Cert.WgradHgIdeal.nD Cert.WgradHgIdeal.τ).loc Cert.WgradHgIdeal.main_v0_1) = v1 c
          ∧ r.2.mem ((c.tc : Thread Cert.WgradHgIdeal.nD Cert.WgradHgIdeal.τ).loc Cert.WgradHgIdeal.main_arg0) = m ((c.tc : Thread Cert.WgradHgIdeal.nD Cert.WgradHgIdeal.τ).loc Cert.WgradHgIdeal.main_arg0)
          ∧ r.2.mem ((c.tc : Thread Cert.WgradHgIdeal.nD Cert.WgradHgIdeal.τ).loc Cert.WgradHgIdeal.main_arg1) = m ((c.tc : Thread Cert.WgradHgIdeal.nD Cert.WgradHgIdeal.τ).loc Cert.WgradHgIdeal.main_arg1))
      ∧ θ_run (Cert.WgradHgRefIdeal.defs (F := Ideal)) (onTc (τ := Cert.WgradHgRefIdeal.τ) (Cert.WgradHgRefIdeal.main (F := Ideal))) ⟨m', fun _ => 0, g'⟩ (fun r => ∀ c : Dev Cert.WgradHgRefIdeal.nD,
          r.2.mem ((c.tc : Thread Cert.WgradHgRefIdeal.nD Cert.WgradHgRefIdeal.τ).loc Cert.WgradHgRefIdeal.main_v12) = v0 c
          ∧ r.2.mem ((c.tc : Thread Cert.WgradHgRefIdeal.nD Cert.WgradHgRefIdeal.τ).loc Cert.WgradHgRefIdeal.main_v9) = v1 c
          ∧ r.2.mem ((c.tc : Thread Cert.WgradHgRefIdeal.nD Cert.WgradHgRefIdeal.τ).loc Cert.WgradHgRefIdeal.main_arg0) = m' ((c.tc : Thread Cert.WgradHgRefIdeal.nD Cert.WgradHgRefIdeal.τ).loc Cert.WgradHgRefIdeal.main_arg0)
          ∧ r.2.mem ((c.tc : Thread Cert.WgradHgRefIdeal.nD Cert.WgradHgRefIdeal.τ).loc Cert.WgradHgRefIdeal.main_arg1) = m' ((c.tc : Thread Cert.WgradHgRefIdeal.nD Cert.WgradHgRefIdeal.τ).loc Cert.WgradHgRefIdeal.main_arg1))

def preserves_WgradMl_WgradMlIdeal : Prop :=
  True

def algebraic_WgradMlIdeal_WgradMlRefIdeal [hWgradMlIdeal : Cert.WgradMlIdeal.Facts] [hWgradMlRefIdeal : Cert.WgradMlRefIdeal.Facts] : Prop :=
  ∀ (m : (ℓ : Loc Cert.WgradMlIdeal.nD Cert.WgradMlIdeal.τ Cert.WgradMlIdeal.sig) → Buf (Elt Ideal) ℓ) (g : Dev Cert.WgradMlIdeal.nD → PrngReg)
    (m' : (ℓ : Loc Cert.WgradMlRefIdeal.nD Cert.WgradMlRefIdeal.τ Cert.WgradMlRefIdeal.sig) → Buf (Elt Ideal) ℓ) (g' : Dev Cert.WgradMlRefIdeal.nD → PrngReg), Pre_WgradMlIdeal m →
    (∀ c : Dev Cert.WgradMlIdeal.nD,
      m' ((c.tc : Thread Cert.WgradMlRefIdeal.nD Cert.WgradMlRefIdeal.τ).loc Cert.WgradMlRefIdeal.main_arg0) = m ((c.tc : Thread Cert.WgradMlIdeal.nD Cert.WgradMlIdeal.τ).loc Cert.WgradMlIdeal.main_arg0)
      ∧ m' ((c.tc : Thread Cert.WgradMlRefIdeal.nD Cert.WgradMlRefIdeal.τ).loc Cert.WgradMlRefIdeal.main_arg1) = m ((c.tc : Thread Cert.WgradMlIdeal.nD Cert.WgradMlIdeal.τ).loc Cert.WgradMlIdeal.main_arg1)) →
    ∃ (v0 : (c : Dev Cert.WgradMlIdeal.nD) → Buf (Elt Ideal) ((c.tc : Thread Cert.WgradMlIdeal.nD Cert.WgradMlIdeal.τ).loc Cert.WgradMlIdeal.main_v0_0)) (v1 : (c : Dev Cert.WgradMlIdeal.nD) → Buf (Elt Ideal) ((c.tc : Thread Cert.WgradMlIdeal.nD Cert.WgradMlIdeal.τ).loc Cert.WgradMlIdeal.main_v0_1)),
      θ_run (Cert.WgradMlIdeal.defs (F := Ideal)) (onTc (τ := Cert.WgradMlIdeal.τ) (Cert.WgradMlIdeal.main (F := Ideal))) ⟨m, fun _ => 0, g⟩ (fun r => ∀ c : Dev Cert.WgradMlIdeal.nD,
          r.2.mem ((c.tc : Thread Cert.WgradMlIdeal.nD Cert.WgradMlIdeal.τ).loc Cert.WgradMlIdeal.main_v0_0) = v0 c
          ∧ r.2.mem ((c.tc : Thread Cert.WgradMlIdeal.nD Cert.WgradMlIdeal.τ).loc Cert.WgradMlIdeal.main_v0_1) = v1 c
          ∧ r.2.mem ((c.tc : Thread Cert.WgradMlIdeal.nD Cert.WgradMlIdeal.τ).loc Cert.WgradMlIdeal.main_arg0) = m ((c.tc : Thread Cert.WgradMlIdeal.nD Cert.WgradMlIdeal.τ).loc Cert.WgradMlIdeal.main_arg0)
          ∧ r.2.mem ((c.tc : Thread Cert.WgradMlIdeal.nD Cert.WgradMlIdeal.τ).loc Cert.WgradMlIdeal.main_arg1) = m ((c.tc : Thread Cert.WgradMlIdeal.nD Cert.WgradMlIdeal.τ).loc Cert.WgradMlIdeal.main_arg1))
      ∧ θ_run (Cert.WgradMlRefIdeal.defs (F := Ideal)) (onTc (τ := Cert.WgradMlRefIdeal.τ) (Cert.WgradMlRefIdeal.main (F := Ideal))) ⟨m', fun _ => 0, g'⟩ (fun r => ∀ c : Dev Cert.WgradMlRefIdeal.nD,
          r.2.mem ((c.tc : Thread Cert.WgradMlRefIdeal.nD Cert.WgradMlRefIdeal.τ).loc Cert.WgradMlRefIdeal.main_v12) = v0 c
          ∧ r.2.mem ((c.tc : Thread Cert.WgradMlRefIdeal.nD Cert.WgradMlRefIdeal.τ).loc Cert.WgradMlRefIdeal.main_v9) = v1 c
          ∧ r.2.mem ((c.tc : Thread Cert.WgradMlRefIdeal.nD Cert.WgradMlRefIdeal.τ).loc Cert.WgradMlRefIdeal.main_arg0) = m' ((c.tc : Thread Cert.WgradMlRefIdeal.nD Cert.WgradMlRefIdeal.τ).loc Cert.WgradMlRefIdeal.main_arg0)
          ∧ r.2.mem ((c.tc : Thread Cert.WgradMlRefIdeal.nD Cert.WgradMlRefIdeal.τ).loc Cert.WgradMlRefIdeal.main_arg1) = m' ((c.tc : Thread Cert.WgradMlRefIdeal.nD Cert.WgradMlRefIdeal.τ).loc Cert.WgradMlRefIdeal.main_arg1))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)
      ∧ m' ((c.tc : Thread Cert.FfnUpRefIdeal.nD Cert.FfnUpRefIdeal.τ).loc Cert.FfnUpRefIdeal.main_arg2) = m ((c.tc : Thread Cert.FfnUpIdeal.nD Cert.FfnUpIdeal.τ).loc Cert.FfnUpIdeal.main_arg2)) →
    ∃ (v0 : (c : Dev Cert.FfnUpIdeal.nD) → Buf (Elt Ideal) ((c.tc : Thread Cert.FfnUpIdeal.nD Cert.FfnUpIdeal.τ).loc Cert.FfnUpIdeal.main_v0_0)) (v1 : (c : Dev Cert.FfnUpIdeal.nD) → Buf (Elt Ideal) ((c.tc : Thread Cert.FfnUpIdeal.nD Cert.FfnUpIdeal.τ).loc Cert.FfnUpIdeal.main_v0_1)) (v2 : (c : Dev Cert.FfnUpIdeal.nD) → Buf (Elt Ideal) ((c.tc : Thread Cert.FfnUpIdeal.nD Cert.FfnUpIdeal.τ).loc Cert.FfnUpIdeal.main_v0_2)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v0_0) = v0 c
          ∧ r.2.mem ((c.tc : Thread Cert.FfnUpIdeal.nD Cert.FfnUpIdeal.τ).loc Cert.FfnUpIdeal.main_v0_1) = v1 c
          ∧ r.2.mem ((c.tc : Thread Cert.FfnUpIdeal.nD Cert.FfnUpIdeal.τ).loc Cert.FfnUpIdeal.main_v0_2) = v2 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v7) = v0 c
          ∧ r.2.mem ((c.tc : Thread Cert.FfnUpRefIdeal.nD Cert.FfnUpRefIdeal.τ).loc Cert.FfnUpRefIdeal.main_v8) = v1 c
          ∧ r.2.mem ((c.tc : Thread Cert.FfnUpRefIdeal.nD Cert.FfnUpRefIdeal.τ).loc Cert.FfnUpRefIdeal.main_v11) = v2 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1)
          ∧ r.2.mem ((c.tc : Thread Cert.FfnUpRefIdeal.nD Cert.FfnUpRefIdeal.τ).loc Cert.FfnUpRefIdeal.main_arg2) = m' ((c.tc : Thread Cert.FfnUpRefIdeal.nD Cert.FfnUpRefIdeal.τ).loc Cert.FfnUpRefIdeal.main_arg2))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)
      ∧ m' ((c.tc : Thread Cert.FfnDownRefIdeal.nD Cert.FfnDownRefIdeal.τ).loc Cert.FfnDownRefIdeal.main_arg2) = m ((c.tc : Thread Cert.FfnDownIdeal.nD Cert.FfnDownIdeal.τ).loc Cert.FfnDownIdeal.main_arg2)
      ∧ m' ((c.tc : Thread Cert.FfnDownRefIdeal.nD Cert.FfnDownRefIdeal.τ).loc Cert.FfnDownRefIdeal.main_arg3) = m ((c.tc : Thread Cert.FfnDownIdeal.nD Cert.FfnDownIdeal.τ).loc Cert.FfnDownIdeal.main_arg3)
      ∧ m' ((c.tc : Thread Cert.FfnDownRefIdeal.nD Cert.FfnDownRefIdeal.τ).loc Cert.FfnDownRefIdeal.main_arg4) = m ((c.tc : Thread Cert.FfnDownIdeal.nD Cert.FfnDownIdeal.τ).loc Cert.FfnDownIdeal.main_arg4)) →
    ∃ (v0 : (c : Dev Cert.FfnDownIdeal.nD) → Buf (Elt Ideal) ((c.tc : Thread Cert.FfnDownIdeal.nD Cert.FfnDownIdeal.τ).loc Cert.FfnDownIdeal.main_v0_0)) (v1 : (c : Dev Cert.FfnDownIdeal.nD) → Buf (Elt Ideal) ((c.tc : Thread Cert.FfnDownIdeal.nD Cert.FfnDownIdeal.τ).loc Cert.FfnDownIdeal.main_v0_1)) (v2 : (c : Dev Cert.FfnDownIdeal.nD) → Buf (Elt Ideal) ((c.tc : Thread Cert.FfnDownIdeal.nD Cert.FfnDownIdeal.τ).loc Cert.FfnDownIdeal.main_v0_2)) (v3 : (c : Dev Cert.FfnDownIdeal.nD) → Buf (Elt Ideal) ((c.tc : Thread Cert.FfnDownIdeal.nD Cert.FfnDownIdeal.τ).loc Cert.FfnDownIdeal.main_v0_3)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v0_0) = v0 c
          ∧ r.2.mem ((c.tc : Thread Cert.FfnDownIdeal.nD Cert.FfnDownIdeal.τ).loc Cert.FfnDownIdeal.main_v0_1) = v1 c
          ∧ r.2.mem ((c.tc : Thread Cert.FfnDownIdeal.nD Cert.FfnDownIdeal.τ).loc Cert.FfnDownIdeal.main_v0_2) = v2 c
          ∧ r.2.mem ((c.tc : Thread Cert.FfnDownIdeal.nD Cert.FfnDownIdeal.τ).loc Cert.FfnDownIdeal.main_v0_3) = v3 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
          ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3)
          ∧ r.2.mem ((c.tc : Thread Cert.FfnDownIdeal.nD Cert.FfnDownIdeal.τ).loc Cert.FfnDownIdeal.main_arg4) = m ((c.tc : Thread Cert.FfnDownIdeal.nD Cert.FfnDownIdeal.τ).loc Cert.FfnDownIdeal.main_arg4))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v31) = v0 c
          ∧ r.2.mem ((c.tc : Thread Cert.FfnDownRefIdeal.nD Cert.FfnDownRefIdeal.τ).loc Cert.FfnDownRefIdeal.main_v32) = v1 c
          ∧ r.2.mem ((c.tc : Thread Cert.FfnDownRefIdeal.nD Cert.FfnDownRefIdeal.τ).loc Cert.FfnDownRefIdeal.main_v21) = v2 c
          ∧ r.2.mem ((c.tc : Thread Cert.FfnDownRefIdeal.nD Cert.FfnDownRefIdeal.τ).loc Cert.FfnDownRefIdeal.main_v33) = v3 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1)
          ∧ r.2.mem ((c.tc : Thread Cert.FfnDownRefIdeal.nD Cert.FfnDownRefIdeal.τ).loc Cert.FfnDownRefIdeal.main_arg2) = m' ((c.tc : Thread Cert.FfnDownRefIdeal.nD Cert.FfnDownRefIdeal.τ).loc Cert.FfnDownRefIdeal.main_arg2)
          ∧ r.2.mem ((c.tc : Thread Cert.FfnDownRefIdeal.nD Cert.FfnDownRefIdeal.τ).loc Cert.FfnDownRefIdeal.main_arg3) = m' ((c.tc : Thread Cert.FfnDownRefIdeal.nD Cert.FfnDownRefIdeal.τ).loc Cert.FfnDownRefIdeal.main_arg3)
          ∧ r.2.mem ((c.tc : Thread Cert.FfnDownRefIdeal.nD Cert.FfnDownRefIdeal.τ).loc Cert.FfnDownRefIdeal.main_arg4) = m' ((c.tc : Thread Cert.FfnDownRefIdeal.nD Cert.FfnDownRefIdeal.τ).loc Cert.FfnDownRefIdeal.main_arg4))

def preserves_Outproj_OutprojIdeal : Prop :=
  True

def algebraic_OutprojIdeal_OutprojRefIdeal [hOutprojIdeal : Cert.OutprojIdeal.Facts] [hOutprojRefIdeal : Cert.OutprojRefIdeal.Facts] : Prop :=
  ∀ (m : (ℓ : Loc Cert.OutprojIdeal.nD Cert.OutprojIdeal.τ Cert.OutprojIdeal.sig) → Buf (Elt Ideal) ℓ) (g : Dev Cert.OutprojIdeal.nD → PrngReg)
    (m' : (ℓ : Loc Cert.OutprojRefIdeal.nD Cert.OutprojRefIdeal.τ Cert.OutprojRefIdeal.sig) → Buf (Elt Ideal) ℓ) (g' : Dev Cert.OutprojRefIdeal.nD → PrngReg), Pre_OutprojIdeal m →
    (∀ c : Dev Cert.OutprojIdeal.nD,
      m' ((c.tc : Thread Cert.OutprojRefIdeal.nD Cert.OutprojRefIdeal.τ).loc Cert.OutprojRefIdeal.main_arg0) = m ((c.tc : Thread Cert.OutprojIdeal.nD Cert.OutprojIdeal.τ).loc Cert.OutprojIdeal.main_arg0)
      ∧ m' ((c.tc : Thread Cert.OutprojRefIdeal.nD Cert.OutprojRefIdeal.τ).loc Cert.OutprojRefIdeal.main_arg1) = m ((c.tc : Thread Cert.OutprojIdeal.nD Cert.OutprojIdeal.τ).loc Cert.OutprojIdeal.main_arg1)
      ∧ m' ((c.tc : Thread Cert.OutprojRefIdeal.nD Cert.OutprojRefIdeal.τ).loc Cert.OutprojRefIdeal.main_arg2) = m ((c.tc : Thread Cert.OutprojIdeal.nD Cert.OutprojIdeal.τ).loc Cert.OutprojIdeal.main_arg2)
      ∧ m' ((c.tc : Thread Cert.OutprojRefIdeal.nD Cert.OutprojRefIdeal.τ).loc Cert.OutprojRefIdeal.main_arg3) = m ((c.tc : Thread Cert.OutprojIdeal.nD Cert.OutprojIdeal.τ).loc Cert.OutprojIdeal.main_arg3)
      ∧ m' ((c.tc : Thread Cert.OutprojRefIdeal.nD Cert.OutprojRefIdeal.τ).loc Cert.OutprojRefIdeal.main_arg4) = m ((c.tc : Thread Cert.OutprojIdeal.nD Cert.OutprojIdeal.τ).loc Cert.OutprojIdeal.main_arg4)
      ∧ m' ((c.tc : Thread Cert.OutprojRefIdeal.nD Cert.OutprojRefIdeal.τ).loc Cert.OutprojRefIdeal.main_arg5) = m ((c.tc : Thread Cert.OutprojIdeal.nD Cert.OutprojIdeal.τ).loc Cert.OutprojIdeal.main_arg5)) →
    ∃ (v0 : (c : Dev Cert.OutprojIdeal.nD) → Buf (Elt Ideal) ((c.tc : Thread Cert.OutprojIdeal.nD Cert.OutprojIdeal.τ).loc Cert.OutprojIdeal.main_v0_0)) (v1 : (c : Dev Cert.OutprojIdeal.nD) → Buf (Elt Ideal) ((c.tc : Thread Cert.OutprojIdeal.nD Cert.OutprojIdeal.τ).loc Cert.OutprojIdeal.main_v0_1)) (v2 : (c : Dev Cert.OutprojIdeal.nD) → Buf (Elt Ideal) ((c.tc : Thread Cert.OutprojIdeal.nD Cert.OutprojIdeal.τ).loc Cert.OutprojIdeal.main_v0_2)) (v3 : (c : Dev Cert.OutprojIdeal.nD) → Buf (Elt Ideal) ((c.tc : Thread Cert.OutprojIdeal.nD Cert.OutprojIdeal.τ).loc Cert.OutprojIdeal.main_v0_3)),
      θ_run (Cert.OutprojIdeal.defs (F := Ideal)) (onTc (τ := Cert.OutprojIdeal.τ) (Cert.OutprojIdeal.main (F := Ideal))) ⟨m, fun _ => 0, g⟩ (fun r => ∀ c : Dev Cert.OutprojIdeal.nD,
          r.2.mem ((c.tc : Thread Cert.OutprojIdeal.nD Cert.OutprojIdeal.τ).loc Cert.OutprojIdeal.main_v0_0) = v0 c
          ∧ r.2.mem ((c.tc : Thread Cert.OutprojIdeal.nD Cert.OutprojIdeal.τ).loc Cert.OutprojIdeal.main_v0_1) = v1 c
          ∧ r.2.mem ((c.tc : Thread Cert.OutprojIdeal.nD Cert.OutprojIdeal.τ).loc Cert.OutprojIdeal.main_v0_2) = v2 c
          ∧ r.2.mem ((c.tc : Thread Cert.OutprojIdeal.nD Cert.OutprojIdeal.τ).loc Cert.OutprojIdeal.main_v0_3) = v3 c
          ∧ r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
          ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
          ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
          ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
          ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
          ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5))
      ∧ θ_run (Cert.OutprojRefIdeal.defs (F := Ideal)) (onTc (τ := Cert.OutprojRefIdeal.τ) (Cert.OutprojRefIdeal.main (F := Ideal))) ⟨m', fun _ => 0, g'⟩ (fun r => ∀ c : Dev Cert.OutprojRefIdeal.nD,
          r.2.mem ((c.tc : Thread Cert.OutprojRefIdeal.nD Cert.OutprojRefIdeal.τ).loc Cert.OutprojRefIdeal.main_v32) = v0 c
          ∧ r.2.mem ((c.tc : Thread Cert.OutprojRefIdeal.nD Cert.OutprojRefIdeal.τ).loc Cert.OutprojRefIdeal.main_v33) = v1 c
          ∧ r.2.mem ((c.tc : Thread Cert.OutprojRefIdeal.nD Cert.OutprojRefIdeal.τ).loc Cert.OutprojRefIdeal.main_v22) = v2 c
          ∧ r.2.mem ((c.tc : Thread Cert.OutprojRefIdeal.nD Cert.OutprojRefIdeal.τ).loc Cert.OutprojRefIdeal.main_v34) = v3 c
          ∧ r.2.mem ((c.tc : Thread Cert.OutprojRefIdeal.nD Cert.OutprojRefIdeal.τ).loc Cert.OutprojRefIdeal.main_arg0) = m' ((c.tc : Thread Cert.OutprojRefIdeal.nD Cert.OutprojRefIdeal.τ).loc Cert.OutprojRefIdeal.main_arg0)
          ∧ r.2.mem ((c.tc : Thread Cert.OutprojRefIdeal.nD Cert.OutprojRefIdeal.τ).loc Cert.OutprojRefIdeal.main_arg1) = m' ((c.tc : Thread Cert.OutprojRefIdeal.nD Cert.OutprojRefIdeal.τ).loc Cert.OutprojRefIdeal.main_arg1)
          ∧ r.2.mem ((c.tc : Thread Cert.OutprojRefIdeal.nD Cert.OutprojRefIdeal.τ).loc Cert.OutprojRefIdeal.main_arg2) = m' ((c.tc : Thread Cert.OutprojRefIdeal.nD Cert.OutprojRefIdeal.τ).loc Cert.OutprojRefIdeal.main_arg2)
          ∧ r.2.mem ((c.tc : Thread Cert.OutprojRefIdeal.nD Cert.OutprojRefIdeal.τ).loc Cert.OutprojRefIdeal.main_arg3) = m' ((c.tc : Thread Cert.OutprojRefIdeal.nD Cert.OutprojRefIdeal.τ).loc Cert.OutprojRefIdeal.main_arg3)
          ∧ r.2.mem ((c.tc : Thread Cert.OutprojRefIdeal.nD Cert.OutprojRefIdeal.τ).loc Cert.OutprojRefIdeal.main_arg4) = m' ((c.tc : Thread Cert.OutprojRefIdeal.nD Cert.OutprojRefIdeal.τ).loc Cert.OutprojRefIdeal.main_arg4)
          ∧ r.2.mem ((c.tc : Thread Cert.OutprojRefIdeal.nD Cert.OutprojRefIdeal.τ).loc Cert.OutprojRefIdeal.main_arg5) = m' ((c.tc : Thread Cert.OutprojRefIdeal.nD Cert.OutprojRefIdeal.τ).loc Cert.OutprojRefIdeal.main_arg5))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)
      ∧ m' ((c.tc : Thread Cert.InprojRefIdeal.nD Cert.InprojRefIdeal.τ).loc Cert.InprojRefIdeal.main_arg4) = m ((c.tc : Thread Cert.InprojIdeal.nD Cert.InprojIdeal.τ).loc Cert.InprojIdeal.main_arg4)) →
    ∃ (v0 : (c : Dev Cert.InprojIdeal.nD) → Buf (Elt Ideal) ((c.tc : Thread Cert.InprojIdeal.nD Cert.InprojIdeal.τ).loc Cert.InprojIdeal.main_v0_0)) (v1 : (c : Dev Cert.InprojIdeal.nD) → Buf (Elt Ideal) ((c.tc : Thread Cert.InprojIdeal.nD Cert.InprojIdeal.τ).loc Cert.InprojIdeal.main_v0_1)) (v2 : (c : Dev Cert.InprojIdeal.nD) → Buf (Elt Ideal) ((c.tc : Thread Cert.InprojIdeal.nD Cert.InprojIdeal.τ).loc Cert.InprojIdeal.main_v0_2)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v0_0) = v0 c
          ∧ r.2.mem ((c.tc : Thread Cert.InprojIdeal.nD Cert.InprojIdeal.τ).loc Cert.InprojIdeal.main_v0_1) = v1 c
          ∧ r.2.mem ((c.tc : Thread Cert.InprojIdeal.nD Cert.InprojIdeal.τ).loc Cert.InprojIdeal.main_v0_2) = v2 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v6) = v0 c
          ∧ r.2.mem ((c.tc : Thread Cert.InprojRefIdeal.nD Cert.InprojRefIdeal.τ).loc Cert.InprojRefIdeal.main_v13) = v1 c
          ∧ r.2.mem ((c.tc : Thread Cert.InprojRefIdeal.nD Cert.InprojRefIdeal.τ).loc Cert.InprojRefIdeal.main_v14) = v2 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3)
          ∧ r.2.mem ((c.tc : Thread Cert.InprojRefIdeal.nD Cert.InprojRefIdeal.τ).loc Cert.InprojRefIdeal.main_arg4) = m' ((c.tc : Thread Cert.InprojRefIdeal.nD Cert.InprojRefIdeal.τ).loc Cert.InprojRefIdeal.main_arg4))

def preserves_InprojBwd_InprojBwdIdeal : Prop :=
  True

def algebraic_InprojBwdIdeal_InprojBwdRefIdeal [hInprojBwdIdeal : Cert.InprojBwdIdeal.Facts] [hInprojBwdRefIdeal : Cert.InprojBwdRefIdeal.Facts] : Prop :=
  ∀ (m : (ℓ : Loc Cert.InprojBwdIdeal.nD Cert.InprojBwdIdeal.τ Cert.InprojBwdIdeal.sig) → Buf (Elt Ideal) ℓ) (g : Dev Cert.InprojBwdIdeal.nD → PrngReg)
    (m' : (ℓ : Loc Cert.InprojBwdRefIdeal.nD Cert.InprojBwdRefIdeal.τ Cert.InprojBwdRefIdeal.sig) → Buf (Elt Ideal) ℓ) (g' : Dev Cert.InprojBwdRefIdeal.nD → PrngReg), Pre_InprojBwdIdeal m →
    (∀ c : Dev Cert.InprojBwdIdeal.nD,
      m' ((c.tc : Thread Cert.InprojBwdRefIdeal.nD Cert.InprojBwdRefIdeal.τ).loc Cert.InprojBwdRefIdeal.main_arg0) = m ((c.tc : Thread Cert.InprojBwdIdeal.nD Cert.InprojBwdIdeal.τ).loc Cert.InprojBwdIdeal.main_arg0)
      ∧ m' ((c.tc : Thread Cert.InprojBwdRefIdeal.nD Cert.InprojBwdRefIdeal.τ).loc Cert.InprojBwdRefIdeal.main_arg1) = m ((c.tc : Thread Cert.InprojBwdIdeal.nD Cert.InprojBwdIdeal.τ).loc Cert.InprojBwdIdeal.main_arg1)
      ∧ m' ((c.tc : Thread Cert.InprojBwdRefIdeal.nD Cert.InprojBwdRefIdeal.τ).loc Cert.InprojBwdRefIdeal.main_arg2) = m ((c.tc : Thread Cert.InprojBwdIdeal.nD Cert.InprojBwdIdeal.τ).loc Cert.InprojBwdIdeal.main_arg2)
      ∧ m' ((c.tc : Thread Cert.InprojBwdRefIdeal.nD Cert.InprojBwdRefIdeal.τ).loc Cert.InprojBwdRefIdeal.main_arg3) = m ((c.tc : Thread Cert.InprojBwdIdeal.nD Cert.InprojBwdIdeal.τ).loc Cert.InprojBwdIdeal.main_arg3)
      ∧ m' ((c.tc : Thread Cert.InprojBwdRefIdeal.nD Cert.InprojBwdRefIdeal.τ).loc Cert.InprojBwdRefIdeal.main_arg4) = m ((c.tc : Thread Cert.InprojBwdIdeal.nD Cert.InprojBwdIdeal.τ).loc Cert.InprojBwdIdeal.main_arg4)
      ∧ m' ((c.tc : Thread Cert.InprojBwdRefIdeal.nD Cert.InprojBwdRefIdeal.τ).loc Cert.InprojBwdRefIdeal.main_arg5) = m ((c.tc : Thread Cert.InprojBwdIdeal.nD Cert.InprojBwdIdeal.τ).loc Cert.InprojBwdIdeal.main_arg5)
      ∧ m' ((c.tc : Thread Cert.InprojBwdRefIdeal.nD Cert.InprojBwdRefIdeal.τ).loc Cert.InprojBwdRefIdeal.main_arg6) = m ((c.tc : Thread Cert.InprojBwdIdeal.nD Cert.InprojBwdIdeal.τ).loc Cert.InprojBwdIdeal.main_arg6)
      ∧ m' ((c.tc : Thread Cert.InprojBwdRefIdeal.nD Cert.InprojBwdRefIdeal.τ).loc Cert.InprojBwdRefIdeal.main_arg7) = m ((c.tc : Thread Cert.InprojBwdIdeal.nD Cert.InprojBwdIdeal.τ).loc Cert.InprojBwdIdeal.main_arg7)) →
    ∃ (v0 : (c : Dev Cert.InprojBwdIdeal.nD) → Buf (Elt Ideal) ((c.tc : Thread Cert.InprojBwdIdeal.nD Cert.InprojBwdIdeal.τ).loc Cert.InprojBwdIdeal.main_v0_0)) (v1 : (c : Dev Cert.InprojBwdIdeal.nD) → Buf (Elt Ideal) ((c.tc : Thread Cert.InprojBwdIdeal.nD Cert.InprojBwdIdeal.τ).loc Cert.InprojBwdIdeal.main_v0_1)),
      θ_run (Cert.InprojBwdIdeal.defs (F := Ideal)) (onTc (τ := Cert.InprojBwdIdeal.τ) (Cert.InprojBwdIdeal.main (F := Ideal))) ⟨m, fun _ => 0, g⟩ (fun r => ∀ c : Dev Cert.InprojBwdIdeal.nD,
          r.2.mem ((c.tc : Thread Cert.InprojBwdIdeal.nD Cert.InprojBwdIdeal.τ).loc Cert.InprojBwdIdeal.main_v0_0) = v0 c
          ∧ r.2.mem ((c.tc : Thread Cert.InprojBwdIdeal.nD Cert.InprojBwdIdeal.τ).loc Cert.InprojBwdIdeal.main_v0_1) = v1 c
          ∧ r.2.mem ((c.tc : Thread Cert.InprojBwdIdeal.nD Cert.InprojBwdIdeal.τ).loc Cert.InprojBwdIdeal.main_arg0) = m ((c.tc : Thread Cert.InprojBwdIdeal.nD Cert.InprojBwdIdeal.τ).loc Cert.InprojBwdIdeal.main_arg0)
          ∧ r.2.mem ((c.tc : Thread Cert.InprojBwdIdeal.nD Cert.InprojBwdIdeal.τ).loc Cert.InprojBwdIdeal.main_arg1) = m ((c.tc : Thread Cert.InprojBwdIdeal.nD Cert.InprojBwdIdeal.τ).loc Cert.InprojBwdIdeal.main_arg1)
          ∧ r.2.mem ((c.tc : Thread Cert.InprojBwdIdeal.nD Cert.InprojBwdIdeal.τ).loc Cert.InprojBwdIdeal.main_arg2) = m ((c.tc : Thread Cert.InprojBwdIdeal.nD Cert.InprojBwdIdeal.τ).loc Cert.InprojBwdIdeal.main_arg2)
          ∧ r.2.mem ((c.tc : Thread Cert.InprojBwdIdeal.nD Cert.InprojBwdIdeal.τ).loc Cert.InprojBwdIdeal.main_arg3) = m ((c.tc : Thread Cert.InprojBwdIdeal.nD Cert.InprojBwdIdeal.τ).loc Cert.InprojBwdIdeal.main_arg3)
          ∧ r.2.mem ((c.tc : Thread Cert.InprojBwdIdeal.nD Cert.InprojBwdIdeal.τ).loc Cert.InprojBwdIdeal.main_arg4) = m ((c.tc : Thread Cert.InprojBwdIdeal.nD Cert.InprojBwdIdeal.τ).loc Cert.InprojBwdIdeal.main_arg4)
          ∧ r.2.mem ((c.tc : Thread Cert.InprojBwdIdeal.nD Cert.InprojBwdIdeal.τ).loc Cert.InprojBwdIdeal.main_arg5) = m ((c.tc : Thread Cert.InprojBwdIdeal.nD Cert.InprojBwdIdeal.τ).loc Cert.InprojBwdIdeal.main_arg5)
          ∧ r.2.mem ((c.tc : Thread Cert.InprojBwdIdeal.nD Cert.InprojBwdIdeal.τ).loc Cert.InprojBwdIdeal.main_arg6) = m ((c.tc : Thread Cert.InprojBwdIdeal.nD Cert.InprojBwdIdeal.τ).loc Cert.InprojBwdIdeal.main_arg6)
          ∧ r.2.mem ((c.tc : Thread Cert.InprojBwdIdeal.nD Cert.InprojBwdIdeal.τ).loc Cert.InprojBwdIdeal.main_arg7) = m ((c.tc : Thread Cert.InprojBwdIdeal.nD Cert.InprojBwdIdeal.τ).loc Cert.InprojBwdIdeal.main_arg7))
      ∧ θ_run (Cert.InprojBwdRefIdeal.defs (F := Ideal)) (onTc (τ := Cert.InprojBwdRefIdeal.τ) (Cert.InprojBwdRefIdeal.main (F := Ideal))) ⟨m', fun _ => 0, g'⟩ (fun r => ∀ c : Dev Cert.InprojBwdRefIdeal.nD,
          r.2.mem ((c.tc : Thread Cert.InprojBwdRefIdeal.nD Cert.InprojBwdRefIdeal.τ).loc Cert.InprojBwdRefIdeal.main_v17) = v0 c
          ∧ r.2.mem ((c.tc : Thread Cert.InprojBwdRefIdeal.nD Cert.InprojBwdRefIdeal.τ).loc Cert.InprojBwdRefIdeal.main_v18) = v1 c
          ∧ r.2.mem ((c.tc : Thread Cert.InprojBwdRefIdeal.nD Cert.InprojBwdRefIdeal.τ).loc Cert.InprojBwdRefIdeal.main_arg0) = m' ((c.tc : Thread Cert.InprojBwdRefIdeal.nD Cert.InprojBwdRefIdeal.τ).loc Cert.InprojBwdRefIdeal.main_arg0)
          ∧ r.2.mem ((c.tc : Thread Cert.InprojBwdRefIdeal.nD Cert.InprojBwdRefIdeal.τ).loc Cert.InprojBwdRefIdeal.main_arg1) = m' ((c.tc : Thread Cert.InprojBwdRefIdeal.nD Cert.InprojBwdRefIdeal.τ).loc Cert.InprojBwdRefIdeal.main_arg1)
          ∧ r.2.mem ((c.tc : Thread Cert.InprojBwdRefIdeal.nD Cert.InprojBwdRefIdeal.τ).loc Cert.InprojBwdRefIdeal.main_arg2) = m' ((c.tc : Thread Cert.InprojBwdRefIdeal.nD Cert.InprojBwdRefIdeal.τ).loc Cert.InprojBwdRefIdeal.main_arg2)
          ∧ r.2.mem ((c.tc : Thread Cert.InprojBwdRefIdeal.nD Cert.InprojBwdRefIdeal.τ).loc Cert.InprojBwdRefIdeal.main_arg3) = m' ((c.tc : Thread Cert.InprojBwdRefIdeal.nD Cert.InprojBwdRefIdeal.τ).loc Cert.InprojBwdRefIdeal.main_arg3)
          ∧ r.2.mem ((c.tc : Thread Cert.InprojBwdRefIdeal.nD Cert.InprojBwdRefIdeal.τ).loc Cert.InprojBwdRefIdeal.main_arg4) = m' ((c.tc : Thread Cert.InprojBwdRefIdeal.nD Cert.InprojBwdRefIdeal.τ).loc Cert.InprojBwdRefIdeal.main_arg4)
          ∧ r.2.mem ((c.tc : Thread Cert.InprojBwdRefIdeal.nD Cert.InprojBwdRefIdeal.τ).loc Cert.InprojBwdRefIdeal.main_arg5) = m' ((c.tc : Thread Cert.InprojBwdRefIdeal.nD Cert.InprojBwdRefIdeal.τ).loc Cert.InprojBwdRefIdeal.main_arg5)
          ∧ r.2.mem ((c.tc : Thread Cert.InprojBwdRefIdeal.nD Cert.InprojBwdRefIdeal.τ).loc Cert.InprojBwdRefIdeal.main_arg6) = m' ((c.tc : Thread Cert.InprojBwdRefIdeal.nD Cert.InprojBwdRefIdeal.τ).loc Cert.InprojBwdRefIdeal.main_arg6)
          ∧ r.2.mem ((c.tc : Thread Cert.InprojBwdRefIdeal.nD Cert.InprojBwdRefIdeal.τ).loc Cert.InprojBwdRefIdeal.main_arg7) = m' ((c.tc : Thread Cert.InprojBwdRefIdeal.nD Cert.InprojBwdRefIdeal.τ).loc Cert.InprojBwdRefIdeal.main_arg7))

def preserves_FfnBwd_FfnBwdIdeal : Prop :=
  True

def algebraic_FfnBwdIdeal_FfnBwdRefIdeal_pre_numbers [hFfnBwdIdeal : Cert.FfnBwdIdeal.Facts] [hFfnBwdRefIdeal : Cert.FfnBwdRefIdeal.Facts] [hPre_numbers : Cert.Pre_numbers.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg)
    (m' : (ℓ : Loc Cert.FfnBwdRefIdeal.nD Cert.FfnBwdRefIdeal.τ Cert.FfnBwdRefIdeal.sig) → Buf (Elt Ideal) ℓ) (g' : Dev Cert.FfnBwdRefIdeal.nD → PrngReg), Pre_FfnBwdIdeal_numbers m →
    (∀ c : Dev Cert.FfnBwdIdeal.nD,
      m' ((c.tc : Thread Cert.FfnBwdRefIdeal.nD Cert.FfnBwdRefIdeal.τ).loc Cert.FfnBwdRefIdeal.main_arg0) = m ((c.tc : Thread Cert.FfnBwdIdeal.nD Cert.FfnBwdIdeal.τ).loc Cert.FfnBwdIdeal.main_arg0)
      ∧ m' ((c.tc : Thread Cert.FfnBwdRefIdeal.nD Cert.FfnBwdRefIdeal.τ).loc Cert.FfnBwdRefIdeal.main_arg1) = m ((c.tc : Thread Cert.FfnBwdIdeal.nD Cert.FfnBwdIdeal.τ).loc Cert.FfnBwdIdeal.main_arg1)
      ∧ m' ((c.tc : Thread Cert.FfnBwdRefIdeal.nD Cert.FfnBwdRefIdeal.τ).loc Cert.FfnBwdRefIdeal.main_arg2) = m ((c.tc : Thread Cert.FfnBwdIdeal.nD Cert.FfnBwdIdeal.τ).loc Cert.FfnBwdIdeal.main_arg2)
      ∧ m' ((c.tc : Thread Cert.FfnBwdRefIdeal.nD Cert.FfnBwdRefIdeal.τ).loc Cert.FfnBwdRefIdeal.main_arg3) = m ((c.tc : Thread Cert.FfnBwdIdeal.nD Cert.FfnBwdIdeal.τ).loc Cert.FfnBwdIdeal.main_arg3)
      ∧ m' ((c.tc : Thread Cert.FfnBwdRefIdeal.nD Cert.FfnBwdRefIdeal.τ).loc Cert.FfnBwdRefIdeal.main_arg4) = m ((c.tc : Thread Cert.FfnBwdIdeal.nD Cert.FfnBwdIdeal.τ).loc Cert.FfnBwdIdeal.main_arg4)
      ∧ m' ((c.tc : Thread Cert.FfnBwdRefIdeal.nD Cert.FfnBwdRefIdeal.τ).loc Cert.FfnBwdRefIdeal.main_arg5) = m ((c.tc : Thread Cert.FfnBwdIdeal.nD Cert.FfnBwdIdeal.τ).loc Cert.FfnBwdIdeal.main_arg5)
      ∧ m' ((c.tc : Thread Cert.FfnBwdRefIdeal.nD Cert.FfnBwdRefIdeal.τ).loc Cert.FfnBwdRefIdeal.main_arg6) = m ((c.tc : Thread Cert.FfnBwdIdeal.nD Cert.FfnBwdIdeal.τ).loc Cert.FfnBwdIdeal.main_arg6)
      ∧ m' ((c.tc : Thread Cert.FfnBwdRefIdeal.nD Cert.FfnBwdRefIdeal.τ).loc Cert.FfnBwdRefIdeal.main_arg7) = m ((c.tc : Thread Cert.FfnBwdIdeal.nD Cert.FfnBwdIdeal.τ).loc Cert.FfnBwdIdeal.main_arg7)) →
    ∃ (v0 : (c : Dev Cert.FfnBwdIdeal.nD) → Buf (Elt Ideal) ((c.tc : Thread Cert.FfnBwdIdeal.nD Cert.FfnBwdIdeal.τ).loc Cert.FfnBwdIdeal.main_v35_0)) (v1 : (c : Dev Cert.FfnBwdIdeal.nD) → Buf (Elt Ideal) ((c.tc : Thread Cert.FfnBwdIdeal.nD Cert.FfnBwdIdeal.τ).loc Cert.FfnBwdIdeal.main_v35_1)) (v2 : (c : Dev Cert.FfnBwdIdeal.nD) → Buf (Elt Ideal) ((c.tc : Thread Cert.FfnBwdIdeal.nD Cert.FfnBwdIdeal.τ).loc Cert.FfnBwdIdeal.main_v35_2)) (v3 : (c : Dev Cert.FfnBwdIdeal.nD) → Buf (Elt Ideal) ((c.tc : Thread Cert.FfnBwdIdeal.nD Cert.FfnBwdIdeal.τ).loc Cert.FfnBwdIdeal.main_v35_3)) (v4 : (c : Dev Cert.FfnBwdIdeal.nD) → Buf (Elt Ideal) ((c.tc : Thread Cert.FfnBwdIdeal.nD Cert.FfnBwdIdeal.τ).loc Cert.FfnBwdIdeal.main_v35_4)) (v5 : (c : Dev Cert.FfnBwdIdeal.nD) → Buf (Elt Ideal) ((c.tc : Thread Cert.FfnBwdIdeal.nD Cert.FfnBwdIdeal.τ).loc Cert.FfnBwdIdeal.main_v35_5)) (v6 : (c : Dev Cert.FfnBwdIdeal.nD) → Buf (Elt Ideal) ((c.tc : Thread Cert.FfnBwdIdeal.nD Cert.FfnBwdIdeal.τ).loc Cert.FfnBwdIdeal.main_v35_6)),
      θ_run (Cert.FfnBwdIdeal.defs (F := Ideal)) (onTc (τ := Cert.FfnBwdIdeal.τ) (Cert.FfnBwdIdeal.main (F := Ideal))) ⟨m, fun _ => 0, g⟩ (fun r => ∀ c : Dev Cert.FfnBwdIdeal.nD,
          r.2.mem ((c.tc : Thread Cert.FfnBwdIdeal.nD Cert.FfnBwdIdeal.τ).loc Cert.FfnBwdIdeal.main_v35_0) = v0 c
          ∧ r.2.mem ((c.tc : Thread Cert.FfnBwdIdeal.nD Cert.FfnBwdIdeal.τ).loc Cert.FfnBwdIdeal.main_v35_1) = v1 c
          ∧ r.2.mem ((c.tc : Thread Cert.FfnBwdIdeal.nD Cert.FfnBwdIdeal.τ).loc Cert.FfnBwdIdeal.main_v35_2) = v2 c
          ∧ r.2.mem ((c.tc : Thread Cert.FfnBwdIdeal.nD Cert.FfnBwdIdeal.τ).loc Cert.FfnBwdIdeal.main_v35_3) = v3 c
          ∧ r.2.mem ((c.tc : Thread Cert.FfnBwdIdeal.nD Cert.FfnBwdIdeal.τ).loc Cert.FfnBwdIdeal.main_v35_4) = v4 c
          ∧ r.2.mem ((c.tc : Thread Cert.FfnBwdIdeal.nD Cert.FfnBwdIdeal.τ).loc Cert.FfnBwdIdeal.main_v35_5) = v5 c
          ∧ r.2.mem ((c.tc : Thread Cert.FfnBwdIdeal.nD Cert.FfnBwdIdeal.τ).loc Cert.FfnBwdIdeal.main_v35_6) = v6 c
          ∧ r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
          ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
          ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
          ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
          ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
          ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5)
          ∧ r.2.mem ((c.tc : Thread Cert.FfnBwdIdeal.nD Cert.FfnBwdIdeal.τ).loc Cert.FfnBwdIdeal.main_arg6) = m ((c.tc : Thread Cert.FfnBwdIdeal.nD Cert.FfnBwdIdeal.τ).loc Cert.FfnBwdIdeal.main_arg6)
          ∧ r.2.mem ((c.tc : Thread Cert.FfnBwdIdeal.nD Cert.FfnBwdIdeal.τ).loc Cert.FfnBwdIdeal.main_arg7) = m ((c.tc : Thread Cert.FfnBwdIdeal.nD Cert.FfnBwdIdeal.τ).loc Cert.FfnBwdIdeal.main_arg7))
      ∧ θ_run (Cert.FfnBwdRefIdeal.defs (F := Ideal)) (onTc (τ := Cert.FfnBwdRefIdeal.τ) (Cert.FfnBwdRefIdeal.main (F := Ideal))) ⟨m', fun _ => 0, g'⟩ (fun r => ∀ c : Dev Cert.FfnBwdRefIdeal.nD,
          r.2.mem ((c.tc : Thread Cert.FfnBwdRefIdeal.nD Cert.FfnBwdRefIdeal.τ).loc Cert.FfnBwdRefIdeal.main_v91) = v0 c
          ∧ r.2.mem ((c.tc : Thread Cert.FfnBwdRefIdeal.nD Cert.FfnBwdRefIdeal.τ).loc Cert.FfnBwdRefIdeal.main_v98) = v1 c
          ∧ r.2.mem ((c.tc : Thread Cert.FfnBwdRefIdeal.nD Cert.FfnBwdRefIdeal.τ).loc Cert.FfnBwdRefIdeal.main_v99) = v2 c
          ∧ r.2.mem ((c.tc : Thread Cert.FfnBwdRefIdeal.nD Cert.FfnBwdRefIdeal.τ).loc Cert.FfnBwdRefIdeal.main_v93) = v3 c
          ∧ r.2.mem ((c.tc : Thread Cert.FfnBwdRefIdeal.nD Cert.FfnBwdRefIdeal.τ).loc Cert.FfnBwdRefIdeal.main_v92) = v4 c
          ∧ r.2.mem ((c.tc : Thread Cert.FfnBwdRefIdeal.nD Cert.FfnBwdRefIdeal.τ).loc Cert.FfnBwdRefIdeal.main_v100) = v5 c
          ∧ r.2.mem ((c.tc : Thread Cert.FfnBwdRefIdeal.nD Cert.FfnBwdRefIdeal.τ).loc Cert.FfnBwdRefIdeal.main_v101) = v6 c
          ∧ r.2.mem ((c.tc : Thread Cert.FfnBwdRefIdeal.nD Cert.FfnBwdRefIdeal.τ).loc Cert.FfnBwdRefIdeal.main_arg0) = m' ((c.tc : Thread Cert.FfnBwdRefIdeal.nD Cert.FfnBwdRefIdeal.τ).loc Cert.FfnBwdRefIdeal.main_arg0)
          ∧ r.2.mem ((c.tc : Thread Cert.FfnBwdRefIdeal.nD Cert.FfnBwdRefIdeal.τ).loc Cert.FfnBwdRefIdeal.main_arg1) = m' ((c.tc : Thread Cert.FfnBwdRefIdeal.nD Cert.FfnBwdRefIdeal.τ).loc Cert.FfnBwdRefIdeal.main_arg1)
          ∧ r.2.mem ((c.tc : Thread Cert.FfnBwdRefIdeal.nD Cert.FfnBwdRefIdeal.τ).loc Cert.FfnBwdRefIdeal.main_arg2) = m' ((c.tc : Thread Cert.FfnBwdRefIdeal.nD Cert.FfnBwdRefIdeal.τ).loc Cert.FfnBwdRefIdeal.main_arg2)
          ∧ r.2.mem ((c.tc : Thread Cert.FfnBwdRefIdeal.nD Cert.FfnBwdRefIdeal.τ).loc Cert.FfnBwdRefIdeal.main_arg3) = m' ((c.tc : Thread Cert.FfnBwdRefIdeal.nD Cert.FfnBwdRefIdeal.τ).loc Cert.FfnBwdRefIdeal.main_arg3)
          ∧ r.2.mem ((c.tc : Thread Cert.FfnBwdRefIdeal.nD Cert.FfnBwdRefIdeal.τ).loc Cert.FfnBwdRefIdeal.main_arg4) = m' ((c.tc : Thread Cert.FfnBwdRefIdeal.nD Cert.FfnBwdRefIdeal.τ).loc Cert.FfnBwdRefIdeal.main_arg4)
          ∧ r.2.mem ((c.tc : Thread Cert.FfnBwdRefIdeal.nD Cert.FfnBwdRefIdeal.τ).loc Cert.FfnBwdRefIdeal.main_arg5) = m' ((c.tc : Thread Cert.FfnBwdRefIdeal.nD Cert.FfnBwdRefIdeal.τ).loc Cert.FfnBwdRefIdeal.main_arg5)
          ∧ r.2.mem ((c.tc : Thread Cert.FfnBwdRefIdeal.nD Cert.FfnBwdRefIdeal.τ).loc Cert.FfnBwdRefIdeal.main_arg6) = m' ((c.tc : Thread Cert.FfnBwdRefIdeal.nD Cert.FfnBwdRefIdeal.τ).loc Cert.FfnBwdRefIdeal.main_arg6)
          ∧ r.2.mem ((c.tc : Thread Cert.FfnBwdRefIdeal.nD Cert.FfnBwdRefIdeal.τ).loc Cert.FfnBwdRefIdeal.main_arg7) = m' ((c.tc : Thread Cert.FfnBwdRefIdeal.nD Cert.FfnBwdRefIdeal.τ).loc Cert.FfnBwdRefIdeal.main_arg7))

def preserves_ConvFwd_ConvFwdIdeal : Prop :=
  True

def algebraic_ConvFwdIdeal_ConvFwdRefIdeal [hConvFwdIdeal : Cert.ConvFwdIdeal.Facts] [hConvFwdRefIdeal : Cert.ConvFwdRefIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg)
    (m' : (ℓ : Loc Cert.ConvFwdRefIdeal.nD Cert.ConvFwdRefIdeal.τ Cert.ConvFwdRefIdeal.sig) → Buf (Elt Ideal) ℓ) (g' : Dev Cert.ConvFwdRefIdeal.nD → PrngReg), Pre_ConvFwdIdeal m →
    (∀ c : Dev Cert.ConvFwdIdeal.nD,
      m' ((c.tc : Thread Cert.ConvFwdRefIdeal.nD Cert.ConvFwdRefIdeal.τ).loc Cert.ConvFwdRefIdeal.main_arg0) = m ((c.tc : Thread Cert.ConvFwdIdeal.nD Cert.ConvFwdIdeal.τ).loc Cert.ConvFwdIdeal.main_arg0)
      ∧ m' ((c.tc : Thread Cert.ConvFwdRefIdeal.nD Cert.ConvFwdRefIdeal.τ).loc Cert.ConvFwdRefIdeal.main_arg1) = m ((c.tc : Thread Cert.ConvFwdIdeal.nD Cert.ConvFwdIdeal.τ).loc Cert.ConvFwdIdeal.main_arg1)
      ∧ m' ((c.tc : Thread Cert.ConvFwdRefIdeal.nD Cert.ConvFwdRefIdeal.τ).loc Cert.ConvFwdRefIdeal.main_arg2) = m ((c.tc : Thread Cert.ConvFwdIdeal.nD Cert.ConvFwdIdeal.τ).loc Cert.ConvFwdIdeal.main_arg2)) →
    ∃ (v0 : (c : Dev Cert.ConvFwdIdeal.nD) → Buf (Elt Ideal) ((c.tc : Thread Cert.ConvFwdIdeal.nD Cert.ConvFwdIdeal.τ).loc Cert.ConvFwdIdeal.main_v0_0)) (v1 : (c : Dev Cert.ConvFwdIdeal.nD) → Buf (Elt Ideal) ((c.tc : Thread Cert.ConvFwdIdeal.nD Cert.ConvFwdIdeal.τ).loc Cert.ConvFwdIdeal.main_v0_1)),
      θ_run (Cert.ConvFwdIdeal.defs (F := Ideal)) (onTc (τ := Cert.ConvFwdIdeal.τ) (Cert.ConvFwdIdeal.main (F := Ideal))) ⟨m, fun _ => 0, g⟩ (fun r => ∀ c : Dev Cert.ConvFwdIdeal.nD,
          r.2.mem ((c.tc : Thread Cert.ConvFwdIdeal.nD Cert.ConvFwdIdeal.τ).loc Cert.ConvFwdIdeal.main_v0_0) = v0 c
          ∧ r.2.mem ((c.tc : Thread Cert.ConvFwdIdeal.nD Cert.ConvFwdIdeal.τ).loc Cert.ConvFwdIdeal.main_v0_1) = v1 c
          ∧ r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
          ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
          ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2))
      ∧ θ_run (Cert.ConvFwdRefIdeal.defs (F := Ideal)) (onTc (τ := Cert.ConvFwdRefIdeal.τ) (Cert.ConvFwdRefIdeal.main (F := Ideal))) ⟨m', fun _ => 0, g'⟩ (fun r => ∀ c : Dev Cert.ConvFwdRefIdeal.nD,
          r.2.mem ((c.tc : Thread Cert.ConvFwdRefIdeal.nD Cert.ConvFwdRefIdeal.τ).loc Cert.ConvFwdRefIdeal.main_v33) = v0 c
          ∧ r.2.mem ((c.tc : Thread Cert.ConvFwdRefIdeal.nD Cert.ConvFwdRefIdeal.τ).loc Cert.ConvFwdRefIdeal.main_v34) = v1 c
          ∧ r.2.mem ((c.tc : Thread Cert.ConvFwdRefIdeal.nD Cert.ConvFwdRefIdeal.τ).loc Cert.ConvFwdRefIdeal.main_arg0) = m' ((c.tc : Thread Cert.ConvFwdRefIdeal.nD Cert.ConvFwdRefIdeal.τ).loc Cert.ConvFwdRefIdeal.main_arg0)
          ∧ r.2.mem ((c.tc : Thread Cert.ConvFwdRefIdeal.nD Cert.ConvFwdRefIdeal.τ).loc Cert.ConvFwdRefIdeal.main_arg1) = m' ((c.tc : Thread Cert.ConvFwdRefIdeal.nD Cert.ConvFwdRefIdeal.τ).loc Cert.ConvFwdRefIdeal.main_arg1)
          ∧ r.2.mem ((c.tc : Thread Cert.ConvFwdRefIdeal.nD Cert.ConvFwdRefIdeal.τ).loc Cert.ConvFwdRefIdeal.main_arg2) = m' ((c.tc : Thread Cert.ConvFwdRefIdeal.nD Cert.ConvFwdRefIdeal.τ).loc Cert.ConvFwdRefIdeal.main_arg2))

def preserves_ConvBwd_ConvBwdIdeal : Prop :=
  True

def algebraic_ConvBwdIdeal_ConvBwdRefIdeal_pre_conv_numbers [hConvBwdIdeal : Cert.ConvBwdIdeal.Facts] [hConvBwdRefIdeal : Cert.ConvBwdRefIdeal.Facts] [hPre_conv_numbers : Cert.Pre_conv_numbers.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg)
    (m' : (ℓ : Loc Cert.ConvBwdRefIdeal.nD Cert.ConvBwdRefIdeal.τ Cert.ConvBwdRefIdeal.sig) → Buf (Elt Ideal) ℓ) (g' : Dev Cert.ConvBwdRefIdeal.nD → PrngReg), Pre_ConvBwdIdeal_conv_numbers m →
    (∀ c : Dev Cert.ConvBwdIdeal.nD,
      m' ((c.tc : Thread Cert.ConvBwdRefIdeal.nD Cert.ConvBwdRefIdeal.τ).loc Cert.ConvBwdRefIdeal.main_arg0) = m ((c.tc : Thread Cert.ConvBwdIdeal.nD Cert.ConvBwdIdeal.τ).loc Cert.ConvBwdIdeal.main_arg0)
      ∧ m' ((c.tc : Thread Cert.ConvBwdRefIdeal.nD Cert.ConvBwdRefIdeal.τ).loc Cert.ConvBwdRefIdeal.main_arg1) = m ((c.tc : Thread Cert.ConvBwdIdeal.nD Cert.ConvBwdIdeal.τ).loc Cert.ConvBwdIdeal.main_arg1)
      ∧ m' ((c.tc : Thread Cert.ConvBwdRefIdeal.nD Cert.ConvBwdRefIdeal.τ).loc Cert.ConvBwdRefIdeal.main_arg2) = m ((c.tc : Thread Cert.ConvBwdIdeal.nD Cert.ConvBwdIdeal.τ).loc Cert.ConvBwdIdeal.main_arg2)
      ∧ m' ((c.tc : Thread Cert.ConvBwdRefIdeal.nD Cert.ConvBwdRefIdeal.τ).loc Cert.ConvBwdRefIdeal.main_arg3) = m ((c.tc : Thread Cert.ConvBwdIdeal.nD Cert.ConvBwdIdeal.τ).loc Cert.ConvBwdIdeal.main_arg3)) →
    ∃ (v0 : (c : Dev Cert.ConvBwdIdeal.nD) → Buf (Elt Ideal) ((c.tc : Thread Cert.ConvBwdIdeal.nD Cert.ConvBwdIdeal.τ).loc Cert.ConvBwdIdeal.main_v34_0)) (v1 : (c : Dev Cert.ConvBwdIdeal.nD) → Buf (Elt Ideal) ((c.tc : Thread Cert.ConvBwdIdeal.nD Cert.ConvBwdIdeal.τ).loc Cert.ConvBwdIdeal.main_v34_1)) (v2 : (c : Dev Cert.ConvBwdIdeal.nD) → Buf (Elt Ideal) ((c.tc : Thread Cert.ConvBwdIdeal.nD Cert.ConvBwdIdeal.τ).loc Cert.ConvBwdIdeal.main_v34_2)),
      θ_run (Cert.ConvBwdIdeal.defs (F := Ideal)) (onTc (τ := Cert.ConvBwdIdeal.τ) (Cert.ConvBwdIdeal.main (F := Ideal))) ⟨m, fun _ => 0, g⟩ (fun r => ∀ c : Dev Cert.ConvBwdIdeal.nD,
          r.2.mem ((c.tc : Thread Cert.ConvBwdIdeal.nD Cert.ConvBwdIdeal.τ).loc Cert.ConvBwdIdeal.main_v34_0) = v0 c
          ∧ r.2.mem ((c.tc : Thread Cert.ConvBwdIdeal.nD Cert.ConvBwdIdeal.τ).loc Cert.ConvBwdIdeal.main_v34_1) = v1 c
          ∧ r.2.mem ((c.tc : Thread Cert.ConvBwdIdeal.nD Cert.ConvBwdIdeal.τ).loc Cert.ConvBwdIdeal.main_v34_2) = v2 c
          ∧ r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
          ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
          ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
          ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3))
      ∧ θ_run (Cert.ConvBwdRefIdeal.defs (F := Ideal)) (onTc (τ := Cert.ConvBwdRefIdeal.τ) (Cert.ConvBwdRefIdeal.main (F := Ideal))) ⟨m', fun _ => 0, g'⟩ (fun r => ∀ c : Dev Cert.ConvBwdRefIdeal.nD,
          r.2.mem ((c.tc : Thread Cert.ConvBwdRefIdeal.nD Cert.ConvBwdRefIdeal.τ).loc Cert.ConvBwdRefIdeal.main_v85) = v0 c
          ∧ r.2.mem ((c.tc : Thread Cert.ConvBwdRefIdeal.nD Cert.ConvBwdRefIdeal.τ).loc Cert.ConvBwdRefIdeal.main_v79) = v1 c
          ∧ r.2.mem ((c.tc : Thread Cert.ConvBwdRefIdeal.nD Cert.ConvBwdRefIdeal.τ).loc Cert.ConvBwdRefIdeal.main_v84) = v2 c
          ∧ r.2.mem ((c.tc : Thread Cert.ConvBwdRefIdeal.nD Cert.ConvBwdRefIdeal.τ).loc Cert.ConvBwdRefIdeal.main_arg0) = m' ((c.tc : Thread Cert.ConvBwdRefIdeal.nD Cert.ConvBwdRefIdeal.τ).loc Cert.ConvBwdRefIdeal.main_arg0)
          ∧ r.2.mem ((c.tc : Thread Cert.ConvBwdRefIdeal.nD Cert.ConvBwdRefIdeal.τ).loc Cert.ConvBwdRefIdeal.main_arg1) = m' ((c.tc : Thread Cert.ConvBwdRefIdeal.nD Cert.ConvBwdRefIdeal.τ).loc Cert.ConvBwdRefIdeal.main_arg1)
          ∧ r.2.mem ((c.tc : Thread Cert.ConvBwdRefIdeal.nD Cert.ConvBwdRefIdeal.τ).loc Cert.ConvBwdRefIdeal.main_arg2) = m' ((c.tc : Thread Cert.ConvBwdRefIdeal.nD Cert.ConvBwdRefIdeal.τ).loc Cert.ConvBwdRefIdeal.main_arg2)
          ∧ r.2.mem ((c.tc : Thread Cert.ConvBwdRefIdeal.nD Cert.ConvBwdRefIdeal.τ).loc Cert.ConvBwdRefIdeal.main_arg3) = m' ((c.tc : Thread Cert.ConvBwdRefIdeal.nD Cert.ConvBwdRefIdeal.τ).loc Cert.ConvBwdRefIdeal.main_arg3))

def preserves_HeadBwd_HeadBwdIdeal : Prop :=
  True

def algebraic_HeadBwdIdeal_HeadBwdRefIdeal_pre_head_numbers [hHeadBwdIdeal : Cert.HeadBwdIdeal.Facts] [hHeadBwdRefIdeal : Cert.HeadBwdRefIdeal.Facts] [hPre_head_numbers : Cert.Pre_head_numbers.Facts] : Prop :=
  ∀ (m : (ℓ : Loc Cert.HeadBwdIdeal.nD Cert.HeadBwdIdeal.τ Cert.HeadBwdIdeal.sig) → Buf (Elt Ideal) ℓ) (g : Dev Cert.HeadBwdIdeal.nD → PrngReg)
    (m' : (ℓ : Loc Cert.HeadBwdRefIdeal.nD Cert.HeadBwdRefIdeal.τ Cert.HeadBwdRefIdeal.sig) → Buf (Elt Ideal) ℓ) (g' : Dev Cert.HeadBwdRefIdeal.nD → PrngReg), Pre_HeadBwdIdeal_head_numbers m →
    (∀ c : Dev Cert.HeadBwdIdeal.nD,
      m' ((c.tc : Thread Cert.HeadBwdRefIdeal.nD Cert.HeadBwdRefIdeal.τ).loc Cert.HeadBwdRefIdeal.main_arg0) = m ((c.tc : Thread Cert.HeadBwdIdeal.nD Cert.HeadBwdIdeal.τ).loc Cert.HeadBwdIdeal.main_arg0)
      ∧ m' ((c.tc : Thread Cert.HeadBwdRefIdeal.nD Cert.HeadBwdRefIdeal.τ).loc Cert.HeadBwdRefIdeal.main_arg1) = m ((c.tc : Thread Cert.HeadBwdIdeal.nD Cert.HeadBwdIdeal.τ).loc Cert.HeadBwdIdeal.main_arg1)
      ∧ m' ((c.tc : Thread Cert.HeadBwdRefIdeal.nD Cert.HeadBwdRefIdeal.τ).loc Cert.HeadBwdRefIdeal.main_arg2) = m ((c.tc : Thread Cert.HeadBwdIdeal.nD Cert.HeadBwdIdeal.τ).loc Cert.HeadBwdIdeal.main_arg2)
      ∧ m' ((c.tc : Thread Cert.HeadBwdRefIdeal.nD Cert.HeadBwdRefIdeal.τ).loc Cert.HeadBwdRefIdeal.main_arg3) = m ((c.tc : Thread Cert.HeadBwdIdeal.nD Cert.HeadBwdIdeal.τ).loc Cert.HeadBwdIdeal.main_arg3)
      ∧ m' ((c.tc : Thread Cert.HeadBwdRefIdeal.nD Cert.HeadBwdRefIdeal.τ).loc Cert.HeadBwdRefIdeal.main_arg4) = m ((c.tc : Thread Cert.HeadBwdIdeal.nD Cert.HeadBwdIdeal.τ).loc Cert.HeadBwdIdeal.main_arg4)
      ∧ m' ((c.tc : Thread Cert.HeadBwdRefIdeal.nD Cert.HeadBwdRefIdeal.τ).loc Cert.HeadBwdRefIdeal.main_arg5) = m ((c.tc : Thread Cert.HeadBwdIdeal.nD Cert.HeadBwdIdeal.τ).loc Cert.HeadBwdIdeal.main_arg5)
      ∧ m' ((c.tc : Thread Cert.HeadBwdRefIdeal.nD Cert.HeadBwdRefIdeal.τ).loc Cert.HeadBwdRefIdeal.main_arg6) = m ((c.tc : Thread Cert.HeadBwdIdeal.nD Cert.HeadBwdIdeal.τ).loc Cert.HeadBwdIdeal.main_arg6)
      ∧ m' ((c.tc : Thread Cert.HeadBwdRefIdeal.nD Cert.HeadBwdRefIdeal.τ).loc Cert.HeadBwdRefIdeal.main_arg7) = m ((c.tc : Thread Cert.HeadBwdIdeal.nD Cert.HeadBwdIdeal.τ).loc Cert.HeadBwdIdeal.main_arg7)) →
    ∃ (v0 : (c : Dev Cert.HeadBwdIdeal.nD) → Buf (Elt Ideal) ((c.tc : Thread Cert.HeadBwdIdeal.nD Cert.HeadBwdIdeal.τ).loc Cert.HeadBwdIdeal.main_v27_0)) (v1 : (c : Dev Cert.HeadBwdIdeal.nD) → Buf (Elt Ideal) ((c.tc : Thread Cert.HeadBwdIdeal.nD Cert.HeadBwdIdeal.τ).loc Cert.HeadBwdIdeal.main_v27_1)) (v2 : (c : Dev Cert.HeadBwdIdeal.nD) → Buf (Elt Ideal) ((c.tc : Thread Cert.HeadBwdIdeal.nD Cert.HeadBwdIdeal.τ).loc Cert.HeadBwdIdeal.main_v27_2)) (v3 : (c : Dev Cert.HeadBwdIdeal.nD) → Buf (Elt Ideal) ((c.tc : Thread Cert.HeadBwdIdeal.nD Cert.HeadBwdIdeal.τ).loc Cert.HeadBwdIdeal.main_v27_3)) (v4 : (c : Dev Cert.HeadBwdIdeal.nD) → Buf (Elt Ideal) ((c.tc : Thread Cert.HeadBwdIdeal.nD Cert.HeadBwdIdeal.τ).loc Cert.HeadBwdIdeal.main_v27_4)) (v5 : (c : Dev Cert.HeadBwdIdeal.nD) → Buf (Elt Ideal) ((c.tc : Thread Cert.HeadBwdIdeal.nD Cert.HeadBwdIdeal.τ).loc Cert.HeadBwdIdeal.main_v27_5)) (v6 : (c : Dev Cert.HeadBwdIdeal.nD) → Buf (Elt Ideal) ((c.tc : Thread Cert.HeadBwdIdeal.nD Cert.HeadBwdIdeal.τ).loc Cert.HeadBwdIdeal.main_v27_6)),
      θ_run (Cert.HeadBwdIdeal.defs (F := Ideal)) (onTc (τ := Cert.HeadBwdIdeal.τ) (Cert.HeadBwdIdeal.main (F := Ideal))) ⟨m, fun _ => 0, g⟩ (fun r => ∀ c : Dev Cert.HeadBwdIdeal.nD,
          r.2.mem ((c.tc : Thread Cert.HeadBwdIdeal.nD Cert.HeadBwdIdeal.τ).loc Cert.HeadBwdIdeal.main_v27_0) = v0 c
          ∧ r.2.mem ((c.tc : Thread Cert.HeadBwdIdeal.nD Cert.HeadBwdIdeal.τ).loc Cert.HeadBwdIdeal.main_v27_1) = v1 c
          ∧ r.2.mem ((c.tc : Thread Cert.HeadBwdIdeal.nD Cert.HeadBwdIdeal.τ).loc Cert.HeadBwdIdeal.main_v27_2) = v2 c
          ∧ r.2.mem ((c.tc : Thread Cert.HeadBwdIdeal.nD Cert.HeadBwdIdeal.τ).loc Cert.HeadBwdIdeal.main_v27_3) = v3 c
          ∧ r.2.mem ((c.tc : Thread Cert.HeadBwdIdeal.nD Cert.HeadBwdIdeal.τ).loc Cert.HeadBwdIdeal.main_v27_4) = v4 c
          ∧ r.2.mem ((c.tc : Thread Cert.HeadBwdIdeal.nD Cert.HeadBwdIdeal.τ).loc Cert.HeadBwdIdeal.main_v27_5) = v5 c
          ∧ r.2.mem ((c.tc : Thread Cert.HeadBwdIdeal.nD Cert.HeadBwdIdeal.τ).loc Cert.HeadBwdIdeal.main_v27_6) = v6 c
          ∧ r.2.mem ((c.tc : Thread Cert.HeadBwdIdeal.nD Cert.HeadBwdIdeal.τ).loc Cert.HeadBwdIdeal.main_arg0) = m ((c.tc : Thread Cert.HeadBwdIdeal.nD Cert.HeadBwdIdeal.τ).loc Cert.HeadBwdIdeal.main_arg0)
          ∧ r.2.mem ((c.tc : Thread Cert.HeadBwdIdeal.nD Cert.HeadBwdIdeal.τ).loc Cert.HeadBwdIdeal.main_arg1) = m ((c.tc : Thread Cert.HeadBwdIdeal.nD Cert.HeadBwdIdeal.τ).loc Cert.HeadBwdIdeal.main_arg1)
          ∧ r.2.mem ((c.tc : Thread Cert.HeadBwdIdeal.nD Cert.HeadBwdIdeal.τ).loc Cert.HeadBwdIdeal.main_arg2) = m ((c.tc : Thread Cert.HeadBwdIdeal.nD Cert.HeadBwdIdeal.τ).loc Cert.HeadBwdIdeal.main_arg2)
          ∧ r.2.mem ((c.tc : Thread Cert.HeadBwdIdeal.nD Cert.HeadBwdIdeal.τ).loc Cert.HeadBwdIdeal.main_arg3) = m ((c.tc : Thread Cert.HeadBwdIdeal.nD Cert.HeadBwdIdeal.τ).loc Cert.HeadBwdIdeal.main_arg3)
          ∧ r.2.mem ((c.tc : Thread Cert.HeadBwdIdeal.nD Cert.HeadBwdIdeal.τ).loc Cert.HeadBwdIdeal.main_arg4) = m ((c.tc : Thread Cert.HeadBwdIdeal.nD Cert.HeadBwdIdeal.τ).loc Cert.HeadBwdIdeal.main_arg4)
          ∧ r.2.mem ((c.tc : Thread Cert.HeadBwdIdeal.nD Cert.HeadBwdIdeal.τ).loc Cert.HeadBwdIdeal.main_arg5) = m ((c.tc : Thread Cert.HeadBwdIdeal.nD Cert.HeadBwdIdeal.τ).loc Cert.HeadBwdIdeal.main_arg5)
          ∧ r.2.mem ((c.tc : Thread Cert.HeadBwdIdeal.nD Cert.HeadBwdIdeal.τ).loc Cert.HeadBwdIdeal.main_arg6) = m ((c.tc : Thread Cert.HeadBwdIdeal.nD Cert.HeadBwdIdeal.τ).loc Cert.HeadBwdIdeal.main_arg6)
          ∧ r.2.mem ((c.tc : Thread Cert.HeadBwdIdeal.nD Cert.HeadBwdIdeal.τ).loc Cert.HeadBwdIdeal.main_arg7) = m ((c.tc : Thread Cert.HeadBwdIdeal.nD Cert.HeadBwdIdeal.τ).loc Cert.HeadBwdIdeal.main_arg7))
      ∧ θ_run (Cert.HeadBwdRefIdeal.defs (F := Ideal)) (onTc (τ := Cert.HeadBwdRefIdeal.τ) (Cert.HeadBwdRefIdeal.main (F := Ideal))) ⟨m', fun _ => 0, g'⟩ (fun r => ∀ c : Dev Cert.HeadBwdRefIdeal.nD,
          r.2.mem ((c.tc : Thread Cert.HeadBwdRefIdeal.nD Cert.HeadBwdRefIdeal.τ).loc Cert.HeadBwdRefIdeal.main_v109) = v0 c
          ∧ r.2.mem ((c.tc : Thread Cert.HeadBwdRefIdeal.nD Cert.HeadBwdRefIdeal.τ).loc Cert.HeadBwdRefIdeal.main_v112) = v1 c
          ∧ r.2.mem ((c.tc : Thread Cert.HeadBwdRefIdeal.nD Cert.HeadBwdRefIdeal.τ).loc Cert.HeadBwdRefIdeal.main_v113) = v2 c
          ∧ r.2.mem ((c.tc : Thread Cert.HeadBwdRefIdeal.nD Cert.HeadBwdRefIdeal.τ).loc Cert.HeadBwdRefIdeal.main_v114) = v3 c
          ∧ r.2.mem ((c.tc : Thread Cert.HeadBwdRefIdeal.nD Cert.HeadBwdRefIdeal.τ).loc Cert.HeadBwdRefIdeal.main_v74) = v4 c
          ∧ r.2.mem ((c.tc : Thread Cert.HeadBwdRefIdeal.nD Cert.HeadBwdRefIdeal.τ).loc Cert.HeadBwdRefIdeal.main_v111) = v5 c
          ∧ r.2.mem ((c.tc : Thread Cert.HeadBwdRefIdeal.nD Cert.HeadBwdRefIdeal.τ).loc Cert.HeadBwdRefIdeal.main_v110) = v6 c
          ∧ r.2.mem ((c.tc : Thread Cert.HeadBwdRefIdeal.nD Cert.HeadBwdRefIdeal.τ).loc Cert.HeadBwdRefIdeal.main_arg0) = m' ((c.tc : Thread Cert.HeadBwdRefIdeal.nD Cert.HeadBwdRefIdeal.τ).loc Cert.HeadBwdRefIdeal.main_arg0)
          ∧ r.2.mem ((c.tc : Thread Cert.HeadBwdRefIdeal.nD Cert.HeadBwdRefIdeal.τ).loc Cert.HeadBwdRefIdeal.main_arg1) = m' ((c.tc : Thread Cert.HeadBwdRefIdeal.nD Cert.HeadBwdRefIdeal.τ).loc Cert.HeadBwdRefIdeal.main_arg1)
          ∧ r.2.mem ((c.tc : Thread Cert.HeadBwdRefIdeal.nD Cert.HeadBwdRefIdeal.τ).loc Cert.HeadBwdRefIdeal.main_arg2) = m' ((c.tc : Thread Cert.HeadBwdRefIdeal.nD Cert.HeadBwdRefIdeal.τ).loc Cert.HeadBwdRefIdeal.main_arg2)
          ∧ r.2.mem ((c.tc : Thread Cert.HeadBwdRefIdeal.nD Cert.HeadBwdRefIdeal.τ).loc Cert.HeadBwdRefIdeal.main_arg3) = m' ((c.tc : Thread Cert.HeadBwdRefIdeal.nD Cert.HeadBwdRefIdeal.τ).loc Cert.HeadBwdRefIdeal.main_arg3)
          ∧ r.2.mem ((c.tc : Thread Cert.HeadBwdRefIdeal.nD Cert.HeadBwdRefIdeal.τ).loc Cert.HeadBwdRefIdeal.main_arg4) = m' ((c.tc : Thread Cert.HeadBwdRefIdeal.nD Cert.HeadBwdRefIdeal.τ).loc Cert.HeadBwdRefIdeal.main_arg4)
          ∧ r.2.mem ((c.tc : Thread Cert.HeadBwdRefIdeal.nD Cert.HeadBwdRefIdeal.τ).loc Cert.HeadBwdRefIdeal.main_arg5) = m' ((c.tc : Thread Cert.HeadBwdRefIdeal.nD Cert.HeadBwdRefIdeal.τ).loc Cert.HeadBwdRefIdeal.main_arg5)
          ∧ r.2.mem ((c.tc : Thread Cert.HeadBwdRefIdeal.nD Cert.HeadBwdRefIdeal.τ).loc Cert.HeadBwdRefIdeal.main_arg6) = m' ((c.tc : Thread Cert.HeadBwdRefIdeal.nD Cert.HeadBwdRefIdeal.τ).loc Cert.HeadBwdRefIdeal.main_arg6)
          ∧ r.2.mem ((c.tc : Thread Cert.HeadBwdRefIdeal.nD Cert.HeadBwdRefIdeal.τ).loc Cert.HeadBwdRefIdeal.main_arg7) = m' ((c.tc : Thread Cert.HeadBwdRefIdeal.nD Cert.HeadBwdRefIdeal.τ).loc Cert.HeadBwdRefIdeal.main_arg7))

def preserves_SumSmall_SumSmallIdeal : Prop :=
  True

def algebraic_SumSmallIdeal_SumSmallRefIdeal [hSumSmallIdeal : Cert.SumSmallIdeal.Facts] [hSumSmallRefIdeal : Cert.SumSmallRefIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg)
    (m' : (ℓ : Loc Cert.SumSmallRefIdeal.nD Cert.SumSmallRefIdeal.τ Cert.SumSmallRefIdeal.sig) → Buf (Elt Ideal) ℓ) (g' : Dev Cert.SumSmallRefIdeal.nD → PrngReg), Pre_SumSmallIdeal m →
    (∀ c : Dev Cert.SumSmallIdeal.nD,
      m' ((c.tc : Thread Cert.SumSmallRefIdeal.nD Cert.SumSmallRefIdeal.τ).loc Cert.SumSmallRefIdeal.main_arg0) = m ((c.tc : Thread Cert.SumSmallIdeal.nD Cert.SumSmallIdeal.τ).loc Cert.SumSmallIdeal.main_arg0)) →
    ∃ (v0 : (c : Dev Cert.SumSmallIdeal.nD) → Buf (Elt Ideal) ((c.tc : Thread Cert.SumSmallIdeal.nD Cert.SumSmallIdeal.τ).loc Cert.SumSmallIdeal.main_v0)),
      θ_run (Cert.SumSmallIdeal.defs (F := Ideal)) (onTc (τ := Cert.SumSmallIdeal.τ) (Cert.SumSmallIdeal.main (F := Ideal))) ⟨m, fun _ => 0, g⟩ (fun r => ∀ c : Dev Cert.SumSmallIdeal.nD,
          r.2.mem ((c.tc : Thread Cert.SumSmallIdeal.nD Cert.SumSmallIdeal.τ).loc Cert.SumSmallIdeal.main_v0) = v0 c
          ∧ r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ θ_run (Cert.SumSmallRefIdeal.defs (F := Ideal)) (onTc (τ := Cert.SumSmallRefIdeal.τ) (Cert.SumSmallRefIdeal.main (F := Ideal))) ⟨m', fun _ => 0, g'⟩ (fun r => ∀ c : Dev Cert.SumSmallRefIdeal.nD,
          r.2.mem ((c.tc : Thread Cert.SumSmallRefIdeal.nD Cert.SumSmallRefIdeal.τ).loc Cert.SumSmallRefIdeal.main_v0) = v0 c
          ∧ r.2.mem ((c.tc : Thread Cert.SumSmallRefIdeal.nD Cert.SumSmallRefIdeal.τ).loc Cert.SumSmallRefIdeal.main_arg0) = m' ((c.tc : Thread Cert.SumSmallRefIdeal.nD Cert.SumSmallRefIdeal.τ).loc Cert.SumSmallRefIdeal.main_arg0))

def preserves_AdamwSmall_AdamwSmallIdeal : Prop :=
  True

def algebraic_AdamwSmallIdeal_AdamwSmallRefIdeal [hAdamwSmallIdeal : Cert.AdamwSmallIdeal.Facts] [hAdamwSmallRefIdeal : Cert.AdamwSmallRefIdeal.Facts] : Prop :=
  ∀ (m : (ℓ : Loc Cert.AdamwSmallIdeal.nD Cert.AdamwSmallIdeal.τ Cert.AdamwSmallIdeal.sig) → Buf (Elt Ideal) ℓ) (g : Dev Cert.AdamwSmallIdeal.nD → PrngReg)
    (m' : (ℓ : Loc Cert.AdamwSmallRefIdeal.nD Cert.AdamwSmallRefIdeal.τ Cert.AdamwSmallRefIdeal.sig) → Buf (Elt Ideal) ℓ) (g' : Dev Cert.AdamwSmallRefIdeal.nD → PrngReg), Pre_AdamwSmallIdeal m →
    (∀ c : Dev Cert.AdamwSmallIdeal.nD,
      m' ((c.tc : Thread Cert.AdamwSmallRefIdeal.nD Cert.AdamwSmallRefIdeal.τ).loc Cert.AdamwSmallRefIdeal.main_arg0) = m ((c.tc : Thread Cert.AdamwSmallIdeal.nD Cert.AdamwSmallIdeal.τ).loc Cert.AdamwSmallIdeal.main_arg0)
      ∧ m' ((c.tc : Thread Cert.AdamwSmallRefIdeal.nD Cert.AdamwSmallRefIdeal.τ).loc Cert.AdamwSmallRefIdeal.main_arg1) = m ((c.tc : Thread Cert.AdamwSmallIdeal.nD Cert.AdamwSmallIdeal.τ).loc Cert.AdamwSmallIdeal.main_arg1)
      ∧ m' ((c.tc : Thread Cert.AdamwSmallRefIdeal.nD Cert.AdamwSmallRefIdeal.τ).loc Cert.AdamwSmallRefIdeal.main_arg2) = m ((c.tc : Thread Cert.AdamwSmallIdeal.nD Cert.AdamwSmallIdeal.τ).loc Cert.AdamwSmallIdeal.main_arg2)
      ∧ m' ((c.tc : Thread Cert.AdamwSmallRefIdeal.nD Cert.AdamwSmallRefIdeal.τ).loc Cert.AdamwSmallRefIdeal.main_arg3) = m ((c.tc : Thread Cert.AdamwSmallIdeal.nD Cert.AdamwSmallIdeal.τ).loc Cert.AdamwSmallIdeal.main_arg3)) →
    ∃ (v0 : (c : Dev Cert.AdamwSmallIdeal.nD) → Buf (Elt Ideal) ((c.tc : Thread Cert.AdamwSmallIdeal.nD Cert.AdamwSmallIdeal.τ).loc Cert.AdamwSmallIdeal.main_v0_0)) (v1 : (c : Dev Cert.AdamwSmallIdeal.nD) → Buf (Elt Ideal) ((c.tc : Thread Cert.AdamwSmallIdeal.nD Cert.AdamwSmallIdeal.τ).loc Cert.AdamwSmallIdeal.main_v0_1)) (v2 : (c : Dev Cert.AdamwSmallIdeal.nD) → Buf (Elt Ideal) ((c.tc : Thread Cert.AdamwSmallIdeal.nD Cert.AdamwSmallIdeal.τ).loc Cert.AdamwSmallIdeal.main_v0_2)) (v3 : (c : Dev Cert.AdamwSmallIdeal.nD) → Buf (Elt Ideal) ((c.tc : Thread Cert.AdamwSmallIdeal.nD Cert.AdamwSmallIdeal.τ).loc Cert.AdamwSmallIdeal.main_v0_3)),
      θ_run (Cert.AdamwSmallIdeal.defs (F := Ideal)) (onTc (τ := Cert.AdamwSmallIdeal.τ) (Cert.AdamwSmallIdeal.main (F := Ideal))) ⟨m, fun _ => 0, g⟩ (fun r => ∀ c : Dev Cert.AdamwSmallIdeal.nD,
          r.2.mem ((c.tc : Thread Cert.AdamwSmallIdeal.nD Cert.AdamwSmallIdeal.τ).loc Cert.AdamwSmallIdeal.main_v0_0) = v0 c
          ∧ r.2.mem ((c.tc : Thread Cert.AdamwSmallIdeal.nD Cert.AdamwSmallIdeal.τ).loc Cert.AdamwSmallIdeal.main_v0_1) = v1 c
          ∧ r.2.mem ((c.tc : Thread Cert.AdamwSmallIdeal.nD Cert.AdamwSmallIdeal.τ).loc Cert.AdamwSmallIdeal.main_v0_2) = v2 c
          ∧ r.2.mem ((c.tc : Thread Cert.AdamwSmallIdeal.nD Cert.AdamwSmallIdeal.τ).loc Cert.AdamwSmallIdeal.main_v0_3) = v3 c
          ∧ r.2.mem ((c.tc : Thread Cert.AdamwSmallIdeal.nD Cert.AdamwSmallIdeal.τ).loc Cert.AdamwSmallIdeal.main_arg0) = m ((c.tc : Thread Cert.AdamwSmallIdeal.nD Cert.AdamwSmallIdeal.τ).loc Cert.AdamwSmallIdeal.main_arg0)
          ∧ r.2.mem ((c.tc : Thread Cert.AdamwSmallIdeal.nD Cert.AdamwSmallIdeal.τ).loc Cert.AdamwSmallIdeal.main_arg1) = m ((c.tc : Thread Cert.AdamwSmallIdeal.nD Cert.AdamwSmallIdeal.τ).loc Cert.AdamwSmallIdeal.main_arg1)
          ∧ r.2.mem ((c.tc : Thread Cert.AdamwSmallIdeal.nD Cert.AdamwSmallIdeal.τ).loc Cert.AdamwSmallIdeal.main_arg2) = m ((c.tc : Thread Cert.AdamwSmallIdeal.nD Cert.AdamwSmallIdeal.τ).loc Cert.AdamwSmallIdeal.main_arg2)
          ∧ r.2.mem ((c.tc : Thread Cert.AdamwSmallIdeal.nD Cert.AdamwSmallIdeal.τ).loc Cert.AdamwSmallIdeal.main_arg3) = m ((c.tc : Thread Cert.AdamwSmallIdeal.nD Cert.AdamwSmallIdeal.τ).loc Cert.AdamwSmallIdeal.main_arg3))
      ∧ θ_run (Cert.AdamwSmallRefIdeal.defs (F := Ideal)) (onTc (τ := Cert.AdamwSmallRefIdeal.τ) (Cert.AdamwSmallRefIdeal.main (F := Ideal))) ⟨m', fun _ => 0, g'⟩ (fun r => ∀ c : Dev Cert.AdamwSmallRefIdeal.nD,
          r.2.mem ((c.tc : Thread Cert.AdamwSmallRefIdeal.nD Cert.AdamwSmallRefIdeal.τ).loc Cert.AdamwSmallRefIdeal.main_v0) = v0 c
          ∧ r.2.mem ((c.tc : Thread Cert.AdamwSmallRefIdeal.nD Cert.AdamwSmallRefIdeal.τ).loc Cert.AdamwSmallRefIdeal.main_v24) = v1 c
          ∧ r.2.mem ((c.tc : Thread Cert.AdamwSmallRefIdeal.nD Cert.AdamwSmallRefIdeal.τ).loc Cert.AdamwSmallRefIdeal.main_v5) = v2 c
          ∧ r.2.mem ((c.tc : Thread Cert.AdamwSmallRefIdeal.nD Cert.AdamwSmallRefIdeal.τ).loc Cert.AdamwSmallRefIdeal.main_v11) = v3 c
          ∧ r.2.mem ((c.tc : Thread Cert.AdamwSmallRefIdeal.nD Cert.AdamwSmallRefIdeal.τ).loc Cert.AdamwSmallRefIdeal.main_arg0) = m' ((c.tc : Thread Cert.AdamwSmallRefIdeal.nD Cert.AdamwSmallRefIdeal.τ).loc Cert.AdamwSmallRefIdeal.main_arg0)
          ∧ r.2.mem ((c.tc : Thread Cert.AdamwSmallRefIdeal.nD Cert.AdamwSmallRefIdeal.τ).loc Cert.AdamwSmallRefIdeal.main_arg1) = m' ((c.tc : Thread Cert.AdamwSmallRefIdeal.nD Cert.AdamwSmallRefIdeal.τ).loc Cert.AdamwSmallRefIdeal.main_arg1)
          ∧ r.2.mem ((c.tc : Thread Cert.AdamwSmallRefIdeal.nD Cert.AdamwSmallRefIdeal.τ).loc Cert.AdamwSmallRefIdeal.main_arg2) = m' ((c.tc : Thread Cert.AdamwSmallRefIdeal.nD Cert.AdamwSmallRefIdeal.τ).loc Cert.AdamwSmallRefIdeal.main_arg2)
          ∧ r.2.mem ((c.tc : Thread Cert.AdamwSmallRefIdeal.nD Cert.AdamwSmallRefIdeal.τ).loc Cert.AdamwSmallRefIdeal.main_arg3) = m' ((c.tc : Thread Cert.AdamwSmallRefIdeal.nD Cert.AdamwSmallRefIdeal.τ).loc Cert.AdamwSmallRefIdeal.main_arg3))

def preserves_HgrnFwd_HgrnFwdIdeal : Prop :=
  True

def algebraic_HgrnFwdIdeal_HgrnFwdRefIdeal_pre_tame_fwd [hHgrnFwdIdeal : Cert.HgrnFwdIdeal.Facts] [hHgrnFwdRefIdeal : Cert.HgrnFwdRefIdeal.Facts] [hPre_tame_fwd : Cert.Pre_tame_fwd.Facts] : Prop :=
  ∀ (m : (ℓ : Loc Cert.HgrnFwdIdeal.nD Cert.HgrnFwdIdeal.τ Cert.HgrnFwdIdeal.sig) → Buf (Elt Ideal) ℓ) (g : Dev Cert.HgrnFwdIdeal.nD → PrngReg)
    (m' : (ℓ : Loc Cert.HgrnFwdRefIdeal.nD Cert.HgrnFwdRefIdeal.τ Cert.HgrnFwdRefIdeal.sig) → Buf (Elt Ideal) ℓ) (g' : Dev Cert.HgrnFwdRefIdeal.nD → PrngReg), Pre_HgrnFwdIdeal_tame_fwd m →
    (∀ c : Dev Cert.HgrnFwdIdeal.nD,
      m' ((c.tc : Thread Cert.HgrnFwdRefIdeal.nD Cert.HgrnFwdRefIdeal.τ).loc Cert.HgrnFwdRefIdeal.main_arg0) = m ((c.tc : Thread Cert.HgrnFwdIdeal.nD Cert.HgrnFwdIdeal.τ).loc Cert.HgrnFwdIdeal.main_arg0)
      ∧ m' ((c.tc : Thread Cert.HgrnFwdRefIdeal.nD Cert.HgrnFwdRefIdeal.τ).loc Cert.HgrnFwdRefIdeal.main_arg1) = m ((c.tc : Thread Cert.HgrnFwdIdeal.nD Cert.HgrnFwdIdeal.τ).loc Cert.HgrnFwdIdeal.main_arg1)
      ∧ m' ((c.tc : Thread Cert.HgrnFwdRefIdeal.nD Cert.HgrnFwdRefIdeal.τ).loc Cert.HgrnFwdRefIdeal.main_arg2) = m ((c.tc : Thread Cert.HgrnFwdIdeal.nD Cert.HgrnFwdIdeal.τ).loc Cert.HgrnFwdIdeal.main_arg2)) →
    ∃ (v0 : (c : Dev Cert.HgrnFwdIdeal.nD) → Buf (Elt Ideal) ((c.tc : Thread Cert.HgrnFwdIdeal.nD Cert.HgrnFwdIdeal.τ).loc Cert.HgrnFwdIdeal.main_v0_0)) (v1 : (c : Dev Cert.HgrnFwdIdeal.nD) → Buf (Elt Ideal) ((c.tc : Thread Cert.HgrnFwdIdeal.nD Cert.HgrnFwdIdeal.τ).loc Cert.HgrnFwdIdeal.main_v0_1)) (v2 : (c : Dev Cert.HgrnFwdIdeal.nD) → Buf (Elt Ideal) ((c.tc : Thread Cert.HgrnFwdIdeal.nD Cert.HgrnFwdIdeal.τ).loc Cert.HgrnFwdIdeal.main_v0_2)) (v3 : (c : Dev Cert.HgrnFwdIdeal.nD) → Buf (Elt Ideal) ((c.tc : Thread Cert.HgrnFwdIdeal.nD Cert.HgrnFwdIdeal.τ).loc Cert.HgrnFwdIdeal.main_v0_3)) (v4 : (c : Dev Cert.HgrnFwdIdeal.nD) → Buf (Elt Ideal) ((c.tc : Thread Cert.HgrnFwdIdeal.nD Cert.HgrnFwdIdeal.τ).loc Cert.HgrnFwdIdeal.main_v0_4)),
      θ_run (Cert.HgrnFwdIdeal.defs (F := Ideal)) (onTc (τ := Cert.HgrnFwdIdeal.τ) (Cert.HgrnFwdIdeal.main (F := Ideal))) ⟨m, fun _ => 0, g⟩ (fun r => ∀ c : Dev Cert.HgrnFwdIdeal.nD,
          r.2.mem ((c.tc : Thread Cert.HgrnFwdIdeal.nD Cert.HgrnFwdIdeal.τ).loc Cert.HgrnFwdIdeal.main_v0_0) = v0 c
          ∧ r.2.mem ((c.tc : Thread Cert.HgrnFwdIdeal.nD Cert.HgrnFwdIdeal.τ).loc Cert.HgrnFwdIdeal.main_v0_1) = v1 c
          ∧ r.2.mem ((c.tc : Thread Cert.HgrnFwdIdeal.nD Cert.HgrnFwdIdeal.τ).loc Cert.HgrnFwdIdeal.main_v0_2) = v2 c
          ∧ r.2.mem ((c.tc : Thread Cert.HgrnFwdIdeal.nD Cert.HgrnFwdIdeal.τ).loc Cert.HgrnFwdIdeal.main_v0_3) = v3 c
          ∧ r.2.mem ((c.tc : Thread Cert.HgrnFwdIdeal.nD Cert.HgrnFwdIdeal.τ).loc Cert.HgrnFwdIdeal.main_v0_4) = v4 c
          ∧ r.2.mem ((c.tc : Thread Cert.HgrnFwdIdeal.nD Cert.HgrnFwdIdeal.τ).loc Cert.HgrnFwdIdeal.main_arg0) = m ((c.tc : Thread Cert.HgrnFwdIdeal.nD Cert.HgrnFwdIdeal.τ).loc Cert.HgrnFwdIdeal.main_arg0)
          ∧ r.2.mem ((c.tc : Thread Cert.HgrnFwdIdeal.nD Cert.HgrnFwdIdeal.τ).loc Cert.HgrnFwdIdeal.main_arg1) = m ((c.tc : Thread Cert.HgrnFwdIdeal.nD Cert.HgrnFwdIdeal.τ).loc Cert.HgrnFwdIdeal.main_arg1)
          ∧ r.2.mem ((c.tc : Thread Cert.HgrnFwdIdeal.nD Cert.HgrnFwdIdeal.τ).loc Cert.HgrnFwdIdeal.main_arg2) = m ((c.tc : Thread Cert.HgrnFwdIdeal.nD Cert.HgrnFwdIdeal.τ).loc Cert.HgrnFwdIdeal.main_arg2))
      ∧ θ_run (Cert.HgrnFwdRefIdeal.defs (F := Ideal)) (onTc (τ := Cert.HgrnFwdRefIdeal.τ) (Cert.HgrnFwdRefIdeal.main (F := Ideal))) ⟨m', fun _ => 0, g'⟩ (fun r => ∀ c : Dev Cert.HgrnFwdRefIdeal.nD,
          r.2.mem ((c.tc : Thread Cert.HgrnFwdRefIdeal.nD Cert.HgrnFwdRefIdeal.τ).loc Cert.HgrnFwdRefIdeal.main_v87) = v0 c
          ∧ r.2.mem ((c.tc : Thread Cert.HgrnFwdRefIdeal.nD Cert.HgrnFwdRefIdeal.τ).loc Cert.HgrnFwdRefIdeal.main_v209) = v1 c
          ∧ r.2.mem ((c.tc : Thread Cert.HgrnFwdRefIdeal.nD Cert.HgrnFwdRefIdeal.τ).loc Cert.HgrnFwdRefIdeal.main_v141) = v2 c
          ∧ r.2.mem ((c.tc : Thread Cert.HgrnFwdRefIdeal.nD Cert.HgrnFwdRefIdeal.τ).loc Cert.HgrnFwdRefIdeal.main_v184) = v3 c
          ∧ r.2.mem ((c.tc : Thread Cert.HgrnFwdRefIdeal.nD Cert.HgrnFwdRefIdeal.τ).loc Cert.HgrnFwdRefIdeal.main_v161) = v4 c
          ∧ r.2.mem ((c.tc : Thread Cert.HgrnFwdRefIdeal.nD Cert.HgrnFwdRefIdeal.τ).loc Cert.HgrnFwdRefIdeal.main_arg0) = m' ((c.tc : Thread Cert.HgrnFwdRefIdeal.nD Cert.HgrnFwdRefIdeal.τ).loc Cert.HgrnFwdRefIdeal.main_arg0)
          ∧ r.2.mem ((c.tc : Thread Cert.HgrnFwdRefIdeal.nD Cert.HgrnFwdRefIdeal.τ).loc Cert.HgrnFwdRefIdeal.main_arg1) = m' ((c.tc : Thread Cert.HgrnFwdRefIdeal.nD Cert.HgrnFwdRefIdeal.τ).loc Cert.HgrnFwdRefIdeal.main_arg1)
          ∧ r.2.mem ((c.tc : Thread Cert.HgrnFwdRefIdeal.nD Cert.HgrnFwdRefIdeal.τ).loc Cert.HgrnFwdRefIdeal.main_arg2) = m' ((c.tc : Thread Cert.HgrnFwdRefIdeal.nD Cert.HgrnFwdRefIdeal.τ).loc Cert.HgrnFwdRefIdeal.main_arg2))

def Claim : Prop :=
  ∃ (hKernel : Cert.Kernel.Facts) (hKernelIdeal : Cert.KernelIdeal.Facts) (hReferenceIdeal : Cert.ReferenceIdeal.Facts) (hWgradFfn : Cert.WgradFfn.Facts) (hWgradFfnIdeal : Cert.WgradFfnIdeal.Facts) (hWgradFfnRefIdeal : Cert.WgradFfnRefIdeal.Facts) (hWgradDown : Cert.WgradDown.Facts) (hWgradDownIdeal : Cert.WgradDownIdeal.Facts) (hWgradDownRefIdeal : Cert.WgradDownRefIdeal.Facts) (hWgradOut : Cert.WgradOut.Facts) (hWgradOutIdeal : Cert.WgradOutIdeal.Facts) (hWgradOutRefIdeal : Cert.WgradOutRefIdeal.Facts) (hWgradProj : Cert.WgradProj.Facts) (hWgradProjIdeal : Cert.WgradProjIdeal.Facts) (hWgradProjRefIdeal : Cert.WgradProjRefIdeal.Facts) (hWgradGate : Cert.WgradGate.Facts) (hWgradGateIdeal : Cert.WgradGateIdeal.Facts) (hWgradGateRefIdeal : Cert.WgradGateRefIdeal.Facts) (hWgradHg : Cert.WgradHg.Facts) (hWgradHgIdeal : Cert.WgradHgIdeal.Facts) (hWgradHgRefIdeal : Cert.WgradHgRefIdeal.Facts) (hWgradMl : Cert.WgradMl.Facts) (hWgradMlIdeal : Cert.WgradMlIdeal.Facts) (hWgradMlRefIdeal : Cert.WgradMlRefIdeal.Facts) (hFfnUp : Cert.FfnUp.Facts) (hFfnUpIdeal : Cert.FfnUpIdeal.Facts) (hFfnUpRefIdeal : Cert.FfnUpRefIdeal.Facts) (hFfnDown : Cert.FfnDown.Facts) (hFfnDownIdeal : Cert.FfnDownIdeal.Facts) (hFfnDownRefIdeal : Cert.FfnDownRefIdeal.Facts) (hOutproj : Cert.Outproj.Facts) (hOutprojIdeal : Cert.OutprojIdeal.Facts) (hOutprojRefIdeal : Cert.OutprojRefIdeal.Facts) (hInproj : Cert.Inproj.Facts) (hInprojIdeal : Cert.InprojIdeal.Facts) (hInprojRefIdeal : Cert.InprojRefIdeal.Facts) (hInprojBwd : Cert.InprojBwd.Facts) (hInprojBwdIdeal : Cert.InprojBwdIdeal.Facts) (hInprojBwdRefIdeal : Cert.InprojBwdRefIdeal.Facts) (hFfnBwd : Cert.FfnBwd.Facts) (hFfnBwdIdeal : Cert.FfnBwdIdeal.Facts) (hFfnBwdRefIdeal : Cert.FfnBwdRefIdeal.Facts) (hConvFwd : Cert.ConvFwd.Facts) (hConvFwdIdeal : Cert.ConvFwdIdeal.Facts) (hConvFwdRefIdeal : Cert.ConvFwdRefIdeal.Facts) (hConvBwd : Cert.ConvBwd.Facts) (hConvBwdIdeal : Cert.ConvBwdIdeal.Facts) (hConvBwdRefIdeal : Cert.ConvBwdRefIdeal.Facts) (hHeadBwd : Cert.HeadBwd.Facts) (hHeadBwdIdeal : Cert.HeadBwdIdeal.Facts) (hHeadBwdRefIdeal : Cert.HeadBwdRefIdeal.Facts) (hSumSmall : Cert.SumSmall.Facts) (hSumSmallIdeal : Cert.SumSmallIdeal.Facts) (hSumSmallRefIdeal : Cert.SumSmallRefIdeal.Facts) (hAdamwSmall : Cert.AdamwSmall.Facts) (hAdamwSmallIdeal : Cert.AdamwSmallIdeal.Facts) (hAdamwSmallRefIdeal : Cert.AdamwSmallRefIdeal.Facts) (hHgrnFwd : Cert.HgrnFwd.Facts) (hHgrnFwdIdeal : Cert.HgrnFwdIdeal.Facts) (hHgrnFwdRefIdeal : Cert.HgrnFwdRefIdeal.Facts) (hPre_tame : Cert.Pre_tame.Facts) (hPre_numbers : Cert.Pre_numbers.Facts) (hPre_conv_numbers : Cert.Pre_conv_numbers.Facts) (hPre_head_numbers : Cert.Pre_head_numbers.Facts) (hPre_tame_fwd : Cert.Pre_tame_fwd.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ quiescent_WgradFfn (hWgradFfn := hWgradFfn)
    ∧ quiescent_WgradFfnIdeal (hWgradFfnIdeal := hWgradFfnIdeal)
    ∧ quiescent_WgradFfnRefIdeal (hWgradFfnRefIdeal := hWgradFfnRefIdeal)
    ∧ quiescent_WgradDown (hWgradDown := hWgradDown)
    ∧ quiescent_WgradDownIdeal (hWgradDownIdeal := hWgradDownIdeal)
    ∧ quiescent_WgradDownRefIdeal (hWgradDownRefIdeal := hWgradDownRefIdeal)
    ∧ quiescent_WgradOut (hWgradOut := hWgradOut)
    ∧ quiescent_WgradOutIdeal (hWgradOutIdeal := hWgradOutIdeal)
    ∧ quiescent_WgradOutRefIdeal (hWgradOutRefIdeal := hWgradOutRefIdeal)
    ∧ quiescent_WgradProj (hWgradProj := hWgradProj)
    ∧ quiescent_WgradProjIdeal (hWgradProjIdeal := hWgradProjIdeal)
    ∧ quiescent_WgradProjRefIdeal (hWgradProjRefIdeal := hWgradProjRefIdeal)
    ∧ quiescent_WgradGate (hWgradGate := hWgradGate)
    ∧ quiescent_WgradGateIdeal (hWgradGateIdeal := hWgradGateIdeal)
    ∧ quiescent_WgradGateRefIdeal (hWgradGateRefIdeal := hWgradGateRefIdeal)
    ∧ quiescent_WgradHg (hWgradHg := hWgradHg)
    ∧ quiescent_WgradHgIdeal (hWgradHgIdeal := hWgradHgIdeal)
    ∧ quiescent_WgradHgRefIdeal (hWgradHgRefIdeal := hWgradHgRefIdeal)
    ∧ quiescent_WgradMl (hWgradMl := hWgradMl)
    ∧ quiescent_WgradMlIdeal (hWgradMlIdeal := hWgradMlIdeal)
    ∧ quiescent_WgradMlRefIdeal (hWgradMlRefIdeal := hWgradMlRefIdeal)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_Outproj (hOutproj := hOutproj)
    ∧ quiescent_OutprojIdeal (hOutprojIdeal := hOutprojIdeal)
    ∧ quiescent_OutprojRefIdeal (hOutprojRefIdeal := hOutprojRefIdeal)
    ∧ quiescent_Inproj (hInproj := hInproj)
    ∧ quiescent_InprojIdeal (hInprojIdeal := hInprojIdeal)
    ∧ quiescent_InprojRefIdeal (hInprojRefIdeal := hInprojRefIdeal)
    ∧ quiescent_InprojBwd (hInprojBwd := hInprojBwd)
    ∧ quiescent_InprojBwdIdeal (hInprojBwdIdeal := hInprojBwdIdeal)
    ∧ quiescent_InprojBwdRefIdeal (hInprojBwdRefIdeal := hInprojBwdRefIdeal)
    ∧ quiescent_FfnBwd (hFfnBwd := hFfnBwd)
    ∧ quiescent_FfnBwdIdeal (hFfnBwdIdeal := hFfnBwdIdeal)
    ∧ quiescent_FfnBwdIdeal_pre_numbers (hFfnBwdIdeal := hFfnBwdIdeal) (hPre_numbers := hPre_numbers)
    ∧ quiescent_FfnBwdRefIdeal (hFfnBwdRefIdeal := hFfnBwdRefIdeal)
    ∧ quiescent_FfnBwdRefIdeal_pre_numbers (hFfnBwdRefIdeal := hFfnBwdRefIdeal) (hPre_numbers := hPre_numbers)
    ∧ quiescent_ConvFwd (hConvFwd := hConvFwd)
    ∧ quiescent_ConvFwdIdeal (hConvFwdIdeal := hConvFwdIdeal)
    ∧ quiescent_ConvFwdRefIdeal (hConvFwdRefIdeal := hConvFwdRefIdeal)
    ∧ quiescent_ConvBwd (hConvBwd := hConvBwd)
    ∧ quiescent_ConvBwdIdeal (hConvBwdIdeal := hConvBwdIdeal)
    ∧ quiescent_ConvBwdIdeal_pre_conv_numbers (hConvBwdIdeal := hConvBwdIdeal) (hPre_conv_numbers := hPre_conv_numbers)
    ∧ quiescent_ConvBwdRefIdeal (hConvBwdRefIdeal := hConvBwdRefIdeal)
    ∧ quiescent_ConvBwdRefIdeal_pre_conv_numbers (hConvBwdRefIdeal := hConvBwdRefIdeal) (hPre_conv_numbers := hPre_conv_numbers)
    ∧ quiescent_HeadBwd (hHeadBwd := hHeadBwd)
    ∧ quiescent_HeadBwdIdeal (hHeadBwdIdeal := hHeadBwdIdeal)
    ∧ quiescent_HeadBwdIdeal_pre_head_numbers (hHeadBwdIdeal := hHeadBwdIdeal) (hPre_head_numbers := hPre_head_numbers)
    ∧ quiescent_HeadBwdRefIdeal (hHeadBwdRefIdeal := hHeadBwdRefIdeal)
    ∧ quiescent_HeadBwdRefIdeal_pre_head_numbers (hHeadBwdRefIdeal := hHeadBwdRefIdeal) (hPre_head_numbers := hPre_head_numbers)
    ∧ quiescent_SumSmall (hSumSmall := hSumSmall)
    ∧ quiescent_SumSmallIdeal (hSumSmallIdeal := hSumSmallIdeal)
    ∧ quiescent_SumSmallRefIdeal (hSumSmallRefIdeal := hSumSmallRefIdeal)
    ∧ quiescent_AdamwSmall (hAdamwSmall := hAdamwSmall)
    ∧ quiescent_AdamwSmallIdeal (hAdamwSmallIdeal := hAdamwSmallIdeal)
    ∧ quiescent_AdamwSmallRefIdeal (hAdamwSmallRefIdeal := hAdamwSmallRefIdeal)
    ∧ quiescent_HgrnFwd (hHgrnFwd := hHgrnFwd)
    ∧ quiescent_HgrnFwdIdeal (hHgrnFwdIdeal := hHgrnFwdIdeal)
    ∧ quiescent_HgrnFwdIdeal_pre_tame_fwd (hHgrnFwdIdeal := hHgrnFwdIdeal) (hPre_tame_fwd := hPre_tame_fwd)
    ∧ quiescent_HgrnFwdRefIdeal (hHgrnFwdRefIdeal := hHgrnFwdRefIdeal)
    ∧ quiescent_HgrnFwdRefIdeal_pre_tame_fwd (hHgrnFwdRefIdeal := hHgrnFwdRefIdeal) (hPre_tame_fwd := hPre_tame_fwd)
    ∧ preserves_Kernel_KernelIdeal
    ∧ algebraic_KernelIdeal_ReferenceIdeal_pre_tame (hKernelIdeal := hKernelIdeal) (hReferenceIdeal := hReferenceIdeal) (hPre_tame := hPre_tame)
    ∧ preserves_WgradFfn_WgradFfnIdeal
    ∧ algebraic_WgradFfnIdeal_WgradFfnRefIdeal (hWgradFfnIdeal := hWgradFfnIdeal) (hWgradFfnRefIdeal := hWgradFfnRefIdeal)
    ∧ preserves_WgradDown_WgradDownIdeal
    ∧ algebraic_WgradDownIdeal_WgradDownRefIdeal (hWgradDownIdeal := hWgradDownIdeal) (hWgradDownRefIdeal := hWgradDownRefIdeal)
    ∧ preserves_WgradOut_WgradOutIdeal
    ∧ algebraic_WgradOutIdeal_WgradOutRefIdeal (hWgradOutIdeal := hWgradOutIdeal) (hWgradOutRefIdeal := hWgradOutRefIdeal)
    ∧ preserves_WgradProj_WgradProjIdeal
    ∧ algebraic_WgradProjIdeal_WgradProjRefIdeal (hWgradProjIdeal := hWgradProjIdeal) (hWgradProjRefIdeal := hWgradProjRefIdeal)
    ∧ preserves_WgradGate_WgradGateIdeal
    ∧ algebraic_WgradGateIdeal_WgradGateRefIdeal (hWgradGateIdeal := hWgradGateIdeal) (hWgradGateRefIdeal := hWgradGateRefIdeal)
    ∧ preserves_WgradHg_WgradHgIdeal
    ∧ algebraic_WgradHgIdeal_WgradHgRefIdeal (hWgradHgIdeal := hWgradHgIdeal) (hWgradHgRefIdeal := hWgradHgRefIdeal)
    ∧ preserves_WgradMl_WgradMlIdeal
    ∧ algebraic_WgradMlIdeal_WgradMlRefIdeal (hWgradMlIdeal := hWgradMlIdeal) (hWgradMlRefIdeal := hWgradMlRefIdeal)
    ∧ preserves_FfnUp_FfnUpIdeal
    ∧ algebraic_FfnUpIdeal_FfnUpRefIdeal (hFfnUpIdeal := hFfnUpIdeal) (hFfnUpRefIdeal := hFfnUpRefIdeal)
    ∧ preserves_FfnDown_FfnDownIdeal
    ∧ algebraic_FfnDownIdeal_FfnDownRefIdeal (hFfnDownIdeal := hFfnDownIdeal) (hFfnDownRefIdeal := hFfnDownRefIdeal)
    ∧ preserves_Outproj_OutprojIdeal
    ∧ algebraic_OutprojIdeal_OutprojRefIdeal (hOutprojIdeal := hOutprojIdeal) (hOutprojRefIdeal := hOutprojRefIdeal)
    ∧ preserves_Inproj_InprojIdeal
    ∧ algebraic_InprojIdeal_InprojRefIdeal (hInprojIdeal := hInprojIdeal) (hInprojRefIdeal := hInprojRefIdeal)
    ∧ preserves_InprojBwd_InprojBwdIdeal
    ∧ algebraic_InprojBwdIdeal_InprojBwdRefIdeal (hInprojBwdIdeal := hInprojBwdIdeal) (hInprojBwdRefIdeal := hInprojBwdRefIdeal)
    ∧ preserves_FfnBwd_FfnBwdIdeal
    ∧ algebraic_FfnBwdIdeal_FfnBwdRefIdeal_pre_numbers (hFfnBwdIdeal := hFfnBwdIdeal) (hFfnBwdRefIdeal := hFfnBwdRefIdeal) (hPre_numbers := hPre_numbers)
    ∧ preserves_ConvFwd_ConvFwdIdeal
    ∧ algebraic_ConvFwdIdeal_ConvFwdRefIdeal (hConvFwdIdeal := hConvFwdIdeal) (hConvFwdRefIdeal := hConvFwdRefIdeal)
    ∧ preserves_ConvBwd_ConvBwdIdeal
    ∧ algebraic_ConvBwdIdeal_ConvBwdRefIdeal_pre_conv_numbers (hConvBwdIdeal := hConvBwdIdeal) (hConvBwdRefIdeal := hConvBwdRefIdeal) (hPre_conv_numbers := hPre_conv_numbers)
    ∧ preserves_HeadBwd_HeadBwdIdeal
    ∧ algebraic_HeadBwdIdeal_HeadBwdRefIdeal_pre_head_numbers (hHeadBwdIdeal := hHeadBwdIdeal) (hHeadBwdRefIdeal := hHeadBwdRefIdeal) (hPre_head_numbers := hPre_head_numbers)
    ∧ preserves_SumSmall_SumSmallIdeal
    ∧ algebraic_SumSmallIdeal_SumSmallRefIdeal (hSumSmallIdeal := hSumSmallIdeal) (hSumSmallRefIdeal := hSumSmallRefIdeal)
    ∧ preserves_AdamwSmall_AdamwSmallIdeal
    ∧ algebraic_AdamwSmallIdeal_AdamwSmallRefIdeal (hAdamwSmallIdeal := hAdamwSmallIdeal) (hAdamwSmallRefIdeal := hAdamwSmallRefIdeal)
    ∧ preserves_HgrnFwd_HgrnFwdIdeal
    ∧ algebraic_HgrnFwdIdeal_HgrnFwdRefIdeal_pre_tame_fwd (hHgrnFwdIdeal := hHgrnFwdIdeal) (hHgrnFwdRefIdeal := hHgrnFwdRefIdeal) (hPre_tame_fwd := hPre_tame_fwd)
-- ==== Pre_conv_numbers.lean ====
abbrev S8192x1664 : Shape := ⟨2, ![8192, 1664]⟩
abbrev S4x512 : Shape := ⟨2, ![4, 512]⟩
abbrev S1x512 : Shape := ⟨2, ![1, 512]⟩
abbrev S8192x512 : Shape := ⟨2, ![8192, 512]⟩
abbrev S_ : Shape := ⟨0, ![]⟩

class Facts : Prop where
  bcast_S_S8192x512 : S_.BroadcastsInDim S8192x512 (![] : Fin 0 → Fin S8192x512.rank)

variable [Facts]

def fn {F : FTy → Type} [FloatOps F] (main_arg0 : FVec F S8192x1664 .f32) (main_arg1 : FVec F S4x512 .f32) (main_arg2 : FVec F S1x512 .f32) (main_arg3 : FVec F S8192x512 .f32) : IVec S8192x512 1 :=
  let main_v0 : FVec F S8192x512 .f32 := Host.absf main_arg3
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  main_v2
-- ==== Pre_head_numbers.lean ====
abbrev S8192x1024 : Shape := ⟨2, ![8192, 1024]⟩
abbrev S8192x256 : Shape := ⟨2, ![8192, 256]⟩
abbrev S1024x1024 : Shape := ⟨2, ![1024, 1024]⟩
abbrev S1x1024 : Shape := ⟨2, ![1, 1024]⟩
abbrev S256x1024 : Shape := ⟨2, ![256, 1024]⟩
abbrev S_ : Shape := ⟨0, ![]⟩

class Facts : Prop where
  bcast_S_S8192x1024 : S_.BroadcastsInDim S8192x1024 (![] : Fin 0 → Fin S8192x1024.rank)
  bcast_S_S8192x256 : S_.BroadcastsInDim S8192x256 (![] : Fin 0 → Fin S8192x256.rank)
  bitsLt_bf16_f32 : FTy.bits .bf16 < FTy.bits .f32
  bcast_S_S1024x1024 : S_.BroadcastsInDim S1024x1024 (![] : Fin 0 → Fin S1024x1024.rank)
  bcast_S_S1x1024 : S_.BroadcastsInDim S1x1024 (![] : Fin 0 → Fin S1x1024.rank)
  bcast_S_S256x1024 : S_.BroadcastsInDim S256x1024 (![] : Fin 0 → Fin S256x1024.rank)

variable [Facts]

def fn_part1 {F : FTy → Type} [FloatOps F] (main_arg6 : FVec F S1x1024 .f32) (main_arg7 : FVec F S1x1024 .f32) (main_v2 : IVec S8192x1024 1) (main_v5 : IVec S8192x256 1) (main_v8 : IVec S8192x1024 1) (main_v12 : IVec S1024x1024 1) (main_v15 : IVec S1x1024 1) (main_v17 : FVec F S256x1024 .f32) (main_cst_4 : FVec F S_ .f32) : IVec S8192x1024 1 × IVec S8192x256 1 × IVec S8192x1024 1 × IVec S1024x1024 1 × IVec S1x1024 1 × IVec S256x1024 1 × IVec S1x1024 1 × IVec S1x1024 1 :=
  let main_v18 : FVec F S256x1024 .f32 := broadcastInDim S256x1024 ![] bcast_S_S256x1024 main_cst_4
  let main_v19 : IVec S256x1024 1 := cmpf .olt main_v17 main_v18
  let main_v20 : FVec F S1x1024 .f32 := Host.absf main_arg6
  let main_cst_5 : FVec F S_ .f32 := constant S_ .f32 0x7F800000#32
  let main_v21 : FVec F S1x1024 .f32 := broadcastInDim S1x1024 ![] bcast_S_S1x1024 main_cst_5
  let main_v22 : IVec S1x1024 1 := cmpf .olt main_v20 main_v21
  let main_v23 : FVec F S1x1024 .f32 := Host.absf main_arg7
  let main_cst_6 : FVec F S_ .f32 := constant S_ .f32 0x7F800000#32
  let main_v24 : FVec F S1x1024 .f32 := broadcastInDim S1x1024 ![] bcast_S_S1x1024 main_cst_6
  let main_v25 : IVec S1x1024 1 := cmpf .olt main_v23 main_v24
  (main_v2, main_v5, main_v8, main_v12, main_v15, main_v19, main_v22, main_v25)

def fn {F : FTy → Type} [FloatOps F] (main_arg0 : FVec F S8192x1024 .f32) (main_arg1 : FVec F S8192x256 .f32) (main_arg2 : FVec F S8192x1024 .f32) (main_arg3 : FVec F S1024x1024 .bf16) (main_arg4 : FVec F S1x1024 .f32) (main_arg5 : FVec F S256x1024 .bf16) (main_arg6 : FVec F S1x1024 .f32) (main_arg7 : FVec F S1x1024 .f32) : IVec S8192x1024 1 × IVec S8192x256 1 × IVec S8192x1024 1 × IVec S1024x1024 1 × IVec S1x1024 1 × IVec S256x1024 1 × IVec S1x1024 1 × IVec S1x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x256 .f32 := Host.absf main_arg1
  let main_cst_0 : FVec F S_ .f32 := constant S_ .f32 0x7F800000#32
  let main_v4 : FVec F S8192x256 .f32 := broadcastInDim S8192x256 ![] bcast_S_S8192x256 main_cst_0
  let main_v5 : IVec S8192x256 1 := cmpf .olt main_v3 main_v4
  let main_v6 : FVec F S8192x1024 .f32 := Host.absf main_arg2
  let main_cst_1 : FVec F S_ .f32 := constant S_ .f32 0x7F800000#32
  let main_v7 : FVec F S8192x1024 .f32 := broadcastInDim S8192x1024 ![] bcast_S_S8192x1024 main_cst_1
  let main_v8 : IVec S8192x1024 1 := cmpf .olt main_v6 main_v7
  let main_v9 : FVec F S1024x1024 .f32 := (extf .f32 · bitsLt_bf16_f32) main_arg3
  let main_v10 : FVec F S1024x1024 .f32 := Host.absf main_v9
  let main_cst_2 : FVec F S_ .f32 := constant S_ .f32 0x7F800000#32
  let main_v11 : FVec F S1024x1024 .f32 := broadcastInDim S1024x1024 ![] bcast_S_S1024x1024 main_cst_2
  let main_v12 : IVec S1024x1024 1 := cmpf .olt main_v10 main_v11
  let main_v13 : FVec F S1x1024 .f32 := Host.absf main_arg4
  let main_cst_3 : FVec F S_ .f32 := constant S_ .f32 0x7F800000#32
  let main_v14 : FVec F S1x1024 .f32 := broadcastInDim S1x1024 ![] bcast_S_S1x1024 main_cst_3
  let main_v15 : IVec S1x1024 1 := cmpf .olt main_v13 main_v14
  let main_v16 : FVec F S256x1024 .f32 := (extf .f32 · bitsLt_bf16_f32) main_arg5
  let main_v17 : FVec F S256x1024 .f32 := Host.absf main_v16
  let main_cst_4 : FVec F S_ .f32 := constant S_ .f32 0x7F800000#32
  fn_part1 (F := F) main_arg6 main_arg7 main_v2 main_v5 main_v8 main_v12 main_v15 main_v17 main_cst_4
-- ==== Pre_numbers.lean ====
abbrev S8192x1024 : Shape := ⟨2, ![8192, 1024]⟩
abbrev S1x1024 : Shape := ⟨2, ![1, 1024]⟩
abbrev S2816x1024 : Shape := ⟨2, ![2816, 1024]⟩
abbrev S1024x1024 : Shape := ⟨2, ![1024, 1024]⟩
abbrev S_ : Shape := ⟨0, ![]⟩

class Facts : Prop where
  bcast_S_S8192x1024 : S_.BroadcastsInDim S8192x1024 (![] : Fin 0 → Fin S8192x1024.rank)
  bcast_S_S1x1024 : S_.BroadcastsInDim S1x1024 (![] : Fin 0 → Fin S1x1024.rank)
  bitsLt_bf16_f32 : FTy.bits .bf16 < FTy.bits .f32
  bcast_S_S2816x1024 : S_.BroadcastsInDim S2816x1024 (![] : Fin 0 → Fin S2816x1024.rank)

variable [Facts]

def fn_part1 {F : FTy → Type} [FloatOps F] (main_arg6 : FVec F S2816x1024 .bf16) (main_v2 : IVec S8192x1024 1) (main_v5 : IVec S8192x1024 1) (main_v8 : IVec S1x1024 1) (main_v11 : IVec S1x1024 1) (main_v15 : IVec S2816x1024 1) (main_v17 : FVec F S2816x1024 .f32) (main_cst_4 : FVec F S_ .f32) : IVec S8192x1024 1 × IVec S8192x1024 1 × IVec S1x1024 1 × IVec S1x1024 1 × IVec S2816x1024 1 × IVec S2816x1024 1 × IVec S2816x1024 1 :=
  let main_v18 : FVec F S2816x1024 .f32 := broadcastInDim S2816x1024 ![] bcast_S_S2816x1024 main_cst_4
  let main_v19 : IVec S2816x1024 1 := cmpf .olt main_v17 main_v18
  let main_v20 : FVec F S2816x1024 .f32 := (extf .f32 · bitsLt_bf16_f32) main_arg6
  let main_v21 : FVec F S2816x1024 .f32 := Host.absf main_v20
  let main_cst_5 : FVec F S_ .f32 := constant S_ .f32 0x7F800000#32
  let main_v22 : FVec F S2816x1024 .f32 := broadcastInDim S2816x1024 ![] bcast_S_S2816x1024 main_cst_5
  let main_v23 : IVec S2816x1024 1 := cmpf .olt main_v21 main_v22
  (main_v2, main_v5, main_v8, main_v11, main_v15, main_v19, main_v23)

def fn {F : FTy → Type} [FloatOps F] (main_arg0 : FVec F S8192x1024 .f32) (main_arg1 : FVec F S8192x1024 .f32) (main_arg2 : FVec F S1x1024 .f32) (main_arg3 : FVec F S1x1024 .f32) (main_arg4 : FVec F S2816x1024 .bf16) (main_arg5 : FVec F S2816x1024 .bf16) (main_arg6 : FVec F S2816x1024 .bf16) (main_arg7 : FVec F S1024x1024 .bf16) : IVec S8192x1024 1 × IVec S8192x1024 1 × IVec S1x1024 1 × IVec S1x1024 1 × IVec S2816x1024 1 × IVec S2816x1024 1 × IVec S2816x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S2816x1024 .f32 := (extf .f32 · bitsLt_bf16_f32) main_arg4
  let main_v13 : FVec F S2816x1024 .f32 := Host.absf main_v12
  let main_cst_3 : FVec F S_ .f32 := constant S_ .f32 0x7F800000#32
  let main_v14 : FVec F S2816x1024 .f32 := broadcastInDim S2816x1024 ![] bcast_S_S2816x1024 main_cst_3
  let main_v15 : IVec S2816x1024 1 := cmpf .olt main_v13 main_v14
  let main_v16 : FVec F S2816x1024 .f32 := (extf .f32 · bitsLt_bf16_f32) main_arg5
  let main_v17 : FVec F S2816x1024 .f32 := Host.absf main_v16
  let main_cst_4 : FVec F S_ .f32 := constant S_ .f32 0x7F800000#32
  fn_part1 (F := F) main_arg6 main_v2 main_v5 main_v8 main_v11 main_v15 main_v17 main_cst_4
-- ==== Pre_tame.lean ====
abbrev S8192x2048 : Shape := ⟨2, ![8192, 2048]⟩
abbrev S2x512 : Shape := ⟨2, ![2, 512]⟩
abbrev S1x512 : Shape := ⟨2, ![1, 512]⟩
abbrev S8192x512 : Shape := ⟨2, ![8192, 512]⟩
abbrev S_ : Shape := ⟨0, ![]⟩

class Facts : Prop where
  bcast_S_S8192x2048 : S_.BroadcastsInDim S8192x2048 (![] : Fin 0 → Fin S8192x2048.rank)
  bcast_S_S2x512 : S_.BroadcastsInDim S2x512 (![] : Fin 0 → Fin S2x512.rank)
  bcast_S_S1x512 : S_.BroadcastsInDim S1x512 (![] : Fin 0 → Fin S1x512.rank)
  bcast_S_S8192x512 : S_.BroadcastsInDim S8192x512 (![] : Fin 0 → Fin S8192x512.rank)

variable [Facts]

def fn {F : FTy → Type} [FloatOps F] (main_arg0 : FVec F S8192x2048 .f32) (main_arg1 : FVec F S2x512 .f32) (main_arg2 : FVec F S1x512 .f32) (main_arg3 : FVec F S8192x512 .f32) : IVec S8192x2048 1 × IVec S2x512 1 × IVec S1x512 1 × IVec S8192x512 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_v3 : FVec F S2x512 .f32 := Host.absf main_arg1
  let main_cst_0 : FVec F S_ .f32 := constant S_ .f32 0x40000000#32
  let main_v4 : FVec F S2x512 .f32 := broadcastInDim S2x512 ![] bcast_S_S2x512 main_cst_0
  let main_v5 : IVec S2x512 1 := cmpf .ole main_v3 main_v4
  let main_v6 : FVec F S1x512 .f32 := Host.absf main_arg2
  let main_cst_1 : FVec F S_ .f32 := constant S_ .f32 0x7F800000#32
  let main_v7 : FVec F S1x512 .f32 := broadcastInDim S1x512 ![] bcast_S_S1x512 main_cst_1
  let main_v8 : IVec S1x512 1 := cmpf .olt main_v6 main_v7
  let main_v9 : FVec F S8192x512 .f32 := Host.absf main_arg3
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  (main_v2, main_v5, main_v8, main_v11)
-- ==== Pre_tame_fwd.lean ====
abbrev S8192x2048 : Shape := ⟨2, ![8192, 2048]⟩
abbrev S2x512 : Shape := ⟨2, ![2, 512]⟩
abbrev S1x512 : Shape := ⟨2, ![1, 512]⟩
abbrev S_ : Shape := ⟨0, ![]⟩

class Facts : Prop where
  bcast_S_S8192x2048 : S_.BroadcastsInDim S8192x2048 (![] : Fin 0 → Fin S8192x2048.rank)
  bcast_S_S2x512 : S_.BroadcastsInDim S2x512 (![] : Fin 0 → Fin S2x512.rank)

variable [Facts]

def fn {F : FTy → Type} [FloatOps F] (main_arg0 : FVec F S8192x2048 .f32) (main_arg1 : FVec F S2x512 .f32) (main_arg2 : FVec F S1x512 .f32) : IVec S8192x2048 1 × IVec S2x512 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_v3 : FVec F S2x512 .f32 := Host.absf main_arg1
  let main_cst_0 : FVec F S_ .f32 := constant S_ .f32 0x40000000#32
  let main_v4 : FVec F S2x512 .f32 := broadcastInDim S2x512 ![] bcast_S_S2x512 main_cst_0
  let main_v5 : IVec S2x512 1 := cmpf .ole main_v3 main_v4
  (main_v2, main_v5)
-- ==== Kernel.lean ====
abbrev S8192x2048 : Shape := ⟨2, ![8192, 2048]⟩
abbrev S2x512 : Shape := ⟨2, ![2, 512]⟩
abbrev S1x512 : Shape := ⟨2, ![1, 512]⟩
abbrev S8192x512 : Shape := ⟨2, ![8192, 512]⟩
abbrev S_ : Shape := ⟨0, ![]⟩
abbrev S512 : Shape := ⟨1, ![512]⟩
abbrev S8192x4x128 : Shape := ⟨3, ![8192, 4, 128]⟩
abbrev S4x8192x128 : Shape := ⟨3, ![4, 8192, 128]⟩
abbrev S64x128x512 : Shape := ⟨3, ![64, 128, 512]⟩
abbrev S8192x8192 : Shape := ⟨2, ![8192, 8192]⟩
abbrev S8192x8192x1 : Shape := ⟨3, ![8192, 8192, 1]⟩
abbrev S4x8192x1x128 : Shape := ⟨4, ![4, 8192, 1, 128]⟩
abbrev S4x1x8192x128 : Shape := ⟨4, ![4, 1, 8192, 128]⟩
abbrev S4x8192x8192x128 : Shape := ⟨4, ![4, 8192, 8192, 128]⟩
abbrev S4x8192x8192 : Shape := ⟨3, ![4, 8192, 8192]⟩
abbrev S64x128x4x128 : Shape := ⟨4, ![64, 128, 4, 128]⟩
abbrev S128x128 : Shape := ⟨2, ![128, 128]⟩
abbrev S128x128x1x1 : Shape := ⟨4, ![128, 128, 1, 1]⟩
abbrev S64x128x1x4x128 : Shape := ⟨5, ![64, 128, 1, 4, 128]⟩
abbrev S64x1x128x4x128 : Shape := ⟨5, ![64, 1, 128, 4, 128]⟩
abbrev S64x128x128x4x128 : Shape := ⟨5, ![64, 128, 128, 4, 128]⟩
abbrev S64x128x128x4 : Shape := ⟨4, ![64, 128, 128, 4]⟩
abbrev S4x1x128 : Shape := ⟨3, ![4, 1, 128]⟩
abbrev S4x63x128 : Shape := ⟨3, ![4, 63, 128]⟩
abbrev S4x64x128 : Shape := ⟨3, ![4, 64, 128]⟩
abbrev S8192 : Shape := ⟨1, ![8192]⟩
abbrev S1x8192 : Shape := ⟨2, ![1, 8192]⟩
abbrev S64 : Shape := ⟨1, ![64]⟩
abbrev S64x1 : Shape := ⟨2, ![64, 1]⟩
abbrev S64x8192 : Shape := ⟨2, ![64, 8192]⟩
abbrev S64x8192x1 : Shape := ⟨3, ![64, 8192, 1]⟩
abbrev S4x64x1x128 : Shape := ⟨4, ![4, 64, 1, 128]⟩
abbrev S4x64x8192x128 : Shape := ⟨4, ![4, 64, 8192, 128]⟩
abbrev S4x64x128x128 : Shape := ⟨4, ![4, 64, 128, 128]⟩
abbrev S64x4x128x128 : Shape := ⟨4, ![64, 4, 128, 128]⟩
abbrev S512x2048 : Shape := ⟨2, ![512, 2048]⟩
abbrev S4x4x128x128 : Shape := ⟨4, ![4, 4, 128, 128]⟩
abbrev S512x512 : Shape := ⟨2, ![512, 512]⟩
abbrev S4x128x128 : Shape := ⟨3, ![4, 128, 128]⟩
abbrev S1x128 : Shape := ⟨2, ![1, 128]⟩
abbrev S16x128 : Shape := ⟨2, ![16, 128]⟩
abbrev S1x1x128x128 : Shape := ⟨4, ![1, 1, 128, 128]⟩
abbrev S1x128x128 : Shape := ⟨3, ![1, 128, 128]⟩
abbrev S128 : Shape := ⟨1, ![128]⟩
abbrev S128x1 : Shape := ⟨2, ![128, 1]⟩

abbrev nBuf : Space → Nat
  | .hbm => 195
  | .vmem => 19
  | .smem => 0
  | _ => 0

abbrev hbmTy0_0 (i : Nat) : BufTy := match i % 128 with
  | 0 => ⟨S8192x2048, .f32⟩
  | 1 => ⟨S2x512, .f32⟩
  | 2 => ⟨S1x512, .f32⟩
  | 3 => ⟨S8192x512, .f32⟩
  | 4 => ⟨S_, .f32⟩
  | 5 => ⟨S512, .f32⟩
  | 6 => ⟨S_, .f32⟩
  | 7 => ⟨S512, .f32⟩
  | 8 => ⟨S512, .f32⟩
  | 9 => ⟨S1x512, .f32⟩
  | 10 => ⟨S2x512, .f32⟩
  | 11 => ⟨S2x512, .f32⟩
  | 12 => ⟨S2x512, .f32⟩
  | 13 => ⟨S_, .f32⟩
  | 14 => ⟨S512, .f32⟩
  | 15 => ⟨S1x512, .f32⟩
  | 16 => ⟨S2x512, .f32⟩
  | 17 => ⟨S2x512, .f32⟩
  | 18 => ⟨S_, .f32⟩
  | 19 => ⟨S_, .f32⟩
  | 20 => ⟨S2x512, .f32⟩
  | 21 => ⟨S1x512, .f32⟩
  | 22 => ⟨S512, .f32⟩
  | 23 => ⟨S8192x512, .f32⟩
  | 24 => ⟨S8192x512, .f32⟩
  | 25 => ⟨S8192x512, .f32⟩
  | 26 => ⟨S8192x512, .f32⟩
  | 27 => ⟨S512, .f32⟩
  | 28 => ⟨S512, .f32⟩
  | 29 => ⟨S512, .f32⟩
  | 30 => ⟨S8192x512, .f32⟩
  | 31 => ⟨S_, .f32⟩
  | 32 => ⟨S8192x512, .f32⟩
  | 33 => ⟨S8192x512, .f32⟩
  | 34 => ⟨S8192x512, .f32⟩
  | 35 => ⟨S8192x512, .f32⟩
  | 36 => ⟨S8192x512, .i1⟩
  | 37 => ⟨S8192x512, .f32⟩
  | 38 => ⟨S8192x512, .f32⟩
  | 39 => ⟨S8192x512, .f32⟩
  | 40 => ⟨S8192x512, .f32⟩
  | 41 => ⟨S8192x512, .f32⟩
  | 42 => ⟨S8192x512, .f32⟩
  | 43 => ⟨S8192x512, .f32⟩
  | 44 => ⟨S8192x512, .f32⟩
  | 45 => ⟨S8192x512, .f32⟩
  | 46 => ⟨S1x512, .f32⟩
  | 47 => ⟨S8192x512, .f32⟩
  | 48 => ⟨S8192x512, .f32⟩
  | 49 => ⟨S1x512, .f32⟩
  | 50 => ⟨S8192x512, .f32⟩
  | 51 => ⟨S8192x512, .f32⟩
  | 52 => ⟨S8192x512, .f32⟩
  | 53 => ⟨S8192x512, .f32⟩
  | 54 => ⟨S8192x512, .i1⟩
  | 55 => ⟨S8192x512, .f32⟩
  | 56 => ⟨S8192x512, .f32⟩
  | 57 => ⟨S8192x512, .f32⟩
  | 58 => ⟨S8192x512, .f32⟩
  | 59 => ⟨S8192x512, .f32⟩
  | 60 => ⟨S8192x512, .f32⟩
  | 61 => ⟨S8192x512, .f32⟩
  | 62 => ⟨S8192x512, .f32⟩
  | 63 => ⟨S8192x512, .f32⟩
  | 64 => ⟨S8192x512, .f32⟩
  | 65 => ⟨S8192x512, .f32⟩
  | 66 => ⟨S8192x512, .f32⟩
  | 67 => ⟨S_, .f32⟩
  | 68 => ⟨S8192x512, .f32⟩
  | 69 => ⟨S8192x512, .f32⟩
  | 70 => ⟨S_, .f32⟩
  | 71 => ⟨S8192x512, .f32⟩
  | 72 => ⟨S8192x512, .f32⟩
  | 73 => ⟨S8192x512, .f32⟩
  | 74 => ⟨S8192x4x128, .f32⟩
  | 75 => ⟨S4x8192x128, .f32⟩
  | 76 => ⟨S8192x4x128, .f32⟩
  | 77 => ⟨S4x8192x128, .f32⟩
  | 78 => ⟨S8192x4x128, .f32⟩
  | 79 => ⟨S4x8192x128, .f32⟩
  | 80 => ⟨S8192x4x128, .f32⟩
  | 81 => ⟨S4x8192x128, .f32⟩
  | 82 => ⟨S_, .f32⟩
  | 83 => ⟨S_, .f32⟩
  | 84 => ⟨S4x8192x128, .f32⟩
  | 85 => ⟨S64x128x512, .f32⟩
  | 86 => ⟨S_, .f32⟩
  | 87 => ⟨S_, .f32⟩
  | 88 => ⟨S64x128x512, .f32⟩
  | 89 => ⟨S8192x512, .f32⟩
  | 90 => ⟨S_, .i1⟩
  | 91 => ⟨S8192x8192, .i1⟩
  | 92 => ⟨S8192x8192, .i32⟩
  | 93 => ⟨S_, .i32⟩
  | 94 => ⟨S8192x8192, .i32⟩
  | 95 => ⟨S8192x8192, .i32⟩
  | 96 => ⟨S8192x8192, .i32⟩
  | 97 => ⟨S8192x8192, .i1⟩
  | 98 => ⟨S_, .i1⟩
  | 99 => ⟨S8192x8192, .i1⟩
  | 100 => ⟨S8192x8192, .i1⟩
  | 101 => ⟨S8192x8192x1, .i1⟩
  | 102 => ⟨S4x8192x1x128, .f32⟩
  | 103 => ⟨S4x1x8192x128, .f32⟩
  | 104 => ⟨S4x8192x8192x128, .f32⟩
  | 105 => ⟨S4x8192x8192x128, .f32⟩
  | 106 => ⟨S4x8192x8192x128, .f32⟩
  | 107 => ⟨S_, .f32⟩
  | 108 => ⟨S_, .f32⟩
  | 109 => ⟨S4x8192x8192x128, .i1⟩
  | 110 => ⟨S4x8192x8192x128, .f32⟩
  | 111 => ⟨S4x8192x8192x128, .f32⟩
  | 112 => ⟨S4x8192x8192x128, .f32⟩
  | 113 => ⟨S4x8192x1x128, .f32⟩
  | 114 => ⟨S4x1x8192x128, .f32⟩
  | 115 => ⟨S4x8192x8192x128, .f32⟩
  | 116 => ⟨S4x8192x8192x128, .f32⟩
  | 117 => ⟨S4x8192x8192x128, .f32⟩
  | 118 => ⟨S4x8192x8192x128, .f32⟩
  | 119 => ⟨S_, .f32⟩
  | 120 => ⟨S4x8192x8192, .f32⟩
  | 121 => ⟨S4x8192x128, .f32⟩
  | 122 => ⟨S8192x4x128, .f32⟩
  | 123 => ⟨S8192x512, .f32⟩
  | 124 => ⟨S64x128x4x128, .f32⟩
  | 125 => ⟨S64x128x4x128, .f32⟩
  | 126 => ⟨S64x128x4x128, .f32⟩
  | 127 => ⟨S_, .i1⟩
  | _ => ⟨S8192x2048, .f32⟩

abbrev hbmTy0_1 (i : Nat) : BufTy := match i % 128 with
  | 0 => ⟨S128x128, .i1⟩
  | 1 => ⟨S128x128, .i32⟩
  | 2 => ⟨S_, .i32⟩
  | 3 => ⟨S128x128, .i32⟩
  | 4 => ⟨S128x128, .i32⟩
  | 5 => ⟨S128x128, .i32⟩
  | 6 => ⟨S128x128, .i1⟩
  | 7 => ⟨S_, .i1⟩
  | 8 => ⟨S128x128, .i1⟩
  | 9 => ⟨S128x128, .i1⟩
  | 10 => ⟨S128x128x1x1, .i1⟩
  | 11 => ⟨S64x128x1x4x128, .f32⟩
  | 12 => ⟨S64x1x128x4x128, .f32⟩
  | 13 => ⟨S64x128x128x4x128, .f32⟩
  | 14 => ⟨S64x128x128x4x128, .f32⟩
  | 15 => ⟨S64x128x128x4x128, .f32⟩
  | 16 => ⟨S_, .f32⟩
  | 17 => ⟨S_, .f32⟩
  | 18 => ⟨S64x128x128x4x128, .i1⟩
  | 19 => ⟨S64x128x128x4x128, .f32⟩
  | 20 => ⟨S64x128x128x4x128, .f32⟩
  | 21 => ⟨S64x128x128x4x128, .f32⟩
  | 22 => ⟨S64x128x1x4x128, .f32⟩
  | 23 => ⟨S64x1x128x4x128, .f32⟩
  | 24 => ⟨S64x128x128x4x128, .f32⟩
  | 25 => ⟨S64x128x128x4x128, .f32⟩
  | 26 => ⟨S64x128x128x4x128, .f32⟩
  | 27 => ⟨S64x128x128x4x128, .f32⟩
  | 28 => ⟨S_, .f32⟩
  | 29 => ⟨S64x128x128x4, .f32⟩
  | 30 => ⟨S64x128x4x128, .f32⟩
  | 31 => ⟨S8192x512, .f32⟩
  | 32 => ⟨S8192x512, .bf16⟩
  | 33 => ⟨S_, .f32⟩
  | 34 => ⟨S4x1x128, .f32⟩
  | 35 => ⟨S4x63x128, .f32⟩
  | 36 => ⟨S4x64x128, .f32⟩
  | 37 => ⟨S8192, .i32⟩
  | 38 => ⟨S1x8192, .i32⟩
  | 39 => ⟨S64, .i32⟩
  | 40 => ⟨S64x1, .i32⟩
  | 41 => ⟨S_, .i32⟩
  | 42 => ⟨S64x1, .i32⟩
  | 43 => ⟨S64x1, .i32⟩
  | 44 => ⟨S64x8192, .i32⟩
  | 45 => ⟨S64x8192, .i32⟩
  | 46 => ⟨S64x8192, .i1⟩
  | 47 => ⟨S64x8192x1, .i1⟩
  | 48 => ⟨S4x64x1x128, .f32⟩
  | 49 => ⟨S4x1x8192x128, .f32⟩
  | 50 => ⟨S4x64x8192x128, .f32⟩
  | 51 => ⟨S4x64x8192x128, .f32⟩
  | 52 => ⟨S4x64x8192x128, .f32⟩
  | 53 => ⟨S_, .f32⟩
  | 54 => ⟨S_, .f32⟩
  | 55 => ⟨S4x64x8192x128, .i1⟩
  | 56 => ⟨S4x64x8192x128, .f32⟩
  | 57 => ⟨S4x64x8192x128, .f32⟩
  | 58 => ⟨S4x64x8192x128, .f32⟩
  | 59 => ⟨S4x1x8192x128, .f32⟩
  | 60 => ⟨S4x64x8192x128, .f32⟩
  | 61 => ⟨S4x64x8192x128, .f32⟩
  | 62 => ⟨S4x64x128x128, .f32⟩
  | 63 => ⟨S64x4x128x128, .f32⟩
  | 64 => ⟨S8192x2048, .bf16⟩
  | 65 => ⟨S2x512, .f32⟩
  | 66 => ⟨S1x512, .f32⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | .local _ .vmem, ⟨0, _⟩ => ⟨S512x2048, .f32⟩
  | .local _ .vmem, ⟨1, _⟩ => ⟨S512x2048, .f32⟩
  | .local _ .vmem, ⟨2, _⟩ => ⟨S2x512, .f32⟩
  | .local _ .vmem, ⟨3, _⟩ => ⟨S1x512, .f32⟩
  | .local _ .vmem, ⟨4, _⟩ => ⟨S4x4x128x128, .f32⟩
  | .local _ .vmem, ⟨5, _⟩ => ⟨S4x4x128x128, .f32⟩
  | .local _ .vmem, ⟨6, _⟩ => ⟨S512x512, .f32⟩
  | .local _ .vmem, ⟨7, _⟩ => ⟨S512x512, .f32⟩
  | .local _ .vmem, ⟨8, _⟩ => ⟨S512x512, .bf16⟩
  | .local _ .vmem, ⟨9, _⟩ => ⟨S512x512, .bf16⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x2048, .bf16⟩
  | .local _ .vmem, ⟨15, _⟩ => ⟨S512x2048, .bf16⟩
  | .local _ .vmem, ⟨16, _⟩ => ⟨S2x512, .f32⟩
  | .local _ .vmem, ⟨17, _⟩ => ⟨S1x512, .f32⟩
  | .local _ .vmem, ⟨18, _⟩ => ⟨S4x128x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_call0_cst : Ref sig .tc := ⟨.hbm, 18, rfl⟩
abbrev main_call0_call0_v0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_call1_v0 : Ref sig .tc := ⟨.hbm, 30, rfl⟩
abbrev main_call1_call0_cst : Ref sig .tc := ⟨.hbm, 31, rfl⟩
abbrev main_call1_call0_v0 : Ref sig .tc := ⟨.hbm, 32, rfl⟩
abbrev main_call1_call0_v1 : Ref sig .tc := ⟨.hbm, 33, rfl⟩
abbrev main_call1_call0_v2 : Ref sig .tc := ⟨.hbm, 34, rfl⟩
abbrev main_call1_call0_v3 : Ref sig .tc := ⟨.hbm, 35, rfl⟩
abbrev main_call1_call0_v4 : Ref sig .tc := ⟨.hbm, 36, rfl⟩
abbrev main_call1_call0_v5 : Ref sig .tc := ⟨.hbm, 37, rfl⟩
abbrev main_call1_call0_v6 : Ref sig .tc := ⟨.hbm, 38, rfl⟩
abbrev main_call1_call0_v7 : Ref sig .tc := ⟨.hbm, 39, rfl⟩
abbrev main_call1_call0_v8 : Ref sig .tc := ⟨.hbm, 40, rfl⟩
abbrev main_call1_call0_v9 : Ref sig .tc := ⟨.hbm, 41, rfl⟩
abbrev main_call1_call0_v10 : Ref sig .tc := ⟨.hbm, 42, rfl⟩
abbrev main_call1_call0_v11 : Ref sig .tc := ⟨.hbm, 43, rfl⟩
abbrev main_call1_v1 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_call2_v0 : Ref sig .tc := ⟨.hbm, 65, rfl⟩
abbrev main_call2_v1 : Ref sig .tc := ⟨.hbm, 66, rfl⟩
abbrev main_call2_cst : Ref sig .tc := ⟨.hbm, 67, rfl⟩
abbrev main_call2_v2 : Ref sig .tc := ⟨.hbm, 68, rfl⟩
abbrev main_call2_v3 : Ref sig .tc := ⟨.hbm, 69, rfl⟩
abbrev main_call2_cst_0 : Ref sig .tc := ⟨.hbm, 70, rfl⟩
abbrev main_call2_v4 : Ref sig .tc := ⟨.hbm, 71, rfl⟩
abbrev main_call2_v5 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_call3_call0_cst : Ref sig .tc := ⟨.hbm, 82, rfl⟩
abbrev main_call3_call0_v0 : Ref sig .tc := ⟨.hbm, 83, rfl⟩
abbrev main_v50 : Ref sig .tc := ⟨.hbm, 84, rfl⟩
abbrev main_v51 : Ref sig .tc := ⟨.hbm, 85, rfl⟩
abbrev main_call4_call0_cst : Ref sig .tc := ⟨.hbm, 86, rfl⟩
abbrev main_call4_call0_v0 : Ref sig .tc := ⟨.hbm, 87, rfl⟩
abbrev main_v52 : Ref sig .tc := ⟨.hbm, 88, rfl⟩
abbrev main_v53 : Ref sig .tc := ⟨.hbm, 89, rfl⟩
abbrev main_c : Ref sig .tc := ⟨.hbm, 90, rfl⟩
abbrev main_v54 : Ref sig .tc := ⟨.hbm, 91, rfl⟩
abbrev main_call5_v0 : Ref sig .tc := ⟨.hbm, 92, rfl⟩
abbrev main_call5_c : Ref sig .tc := ⟨.hbm, 93, rfl⟩
abbrev main_call5_v1 : Ref sig .tc := ⟨.hbm, 94, rfl⟩
abbrev main_call5_v2 : Ref sig .tc := ⟨.hbm, 95, rfl⟩
abbrev main_call5_v3 : Ref sig .tc := ⟨.hbm, 96, rfl⟩
abbrev main_call5_v4 : Ref sig .tc := ⟨.hbm, 97, rfl⟩
abbrev main_call5_c_0 : Ref sig .tc := ⟨.hbm, 98, rfl⟩
abbrev main_call5_v5 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_cst_2 : Ref sig .tc := ⟨.hbm, 107, rfl⟩
abbrev main_call6_v0 : Ref sig .tc := ⟨.hbm, 108, rfl⟩
abbrev main_call6_v1 : Ref sig .tc := ⟨.hbm, 109, rfl⟩
abbrev main_call6_v2 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_cst_3 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_c_4 : Ref sig .tc := ⟨.hbm, 127, rfl⟩
abbrev main_v77 : Ref sig .tc := ⟨.hbm, 128, rfl⟩
abbrev main_call7_v0 : Ref sig .tc := ⟨.hbm, 129, rfl⟩
abbrev main_call7_c : Ref sig .tc := ⟨.hbm, 130, rfl⟩
abbrev main_call7_v1 : Ref sig .tc := ⟨.hbm, 131, rfl⟩
abbrev main_call7_v2 : Ref sig .tc := ⟨.hbm, 132, rfl⟩
abbrev main_call7_v3 : Ref sig .tc := ⟨.hbm, 133, rfl⟩
abbrev main_call7_v4 : Ref sig .tc := ⟨.hbm, 134, rfl⟩
abbrev main_call7_c_0 : Ref sig .tc := ⟨.hbm, 135, rfl⟩
abbrev main_call7_v5 : Ref sig .tc := ⟨.hbm, 136, rfl⟩
abbrev main_v78 : Ref sig .tc := ⟨.hbm, 137, rfl⟩
abbrev main_v79 : Ref sig .tc := ⟨.hbm, 138, rfl⟩
abbrev main_v80 : Ref sig .tc := ⟨.hbm, 139, rfl⟩
abbrev main_v81 : Ref sig .tc := ⟨.hbm, 140, rfl⟩
abbrev main_v82 : Ref sig .tc := ⟨.hbm, 141, rfl⟩
abbrev main_v83 : Ref sig .tc := ⟨.hbm, 142, rfl⟩
abbrev main_v84 : Ref sig .tc := ⟨.hbm, 143, rfl⟩
abbrev main_cst_5 : Ref sig .tc := ⟨.hbm, 144, rfl⟩
abbrev main_call8_v0 : Ref sig .tc := ⟨.hbm, 145, rfl⟩
abbrev main_call8_v1 : Ref sig .tc := ⟨.hbm, 146, rfl⟩
abbrev main_call8_v2 : Ref sig .tc := ⟨.hbm, 147, rfl⟩
abbrev main_v85 : Ref sig .tc := ⟨.hbm, 148, rfl⟩
abbrev main_v86 : Ref sig .tc := ⟨.hbm, 149, rfl⟩
abbrev main_v87 : Ref sig .tc := ⟨.hbm, 150, rfl⟩
abbrev main_v88 : Ref sig .tc := ⟨.hbm, 151, rfl⟩
abbrev main_v89 : Ref sig .tc := ⟨.hbm, 152, rfl⟩
abbrev main_v90 : Ref sig .tc := ⟨.hbm, 153, rfl⟩
abbrev main_v91 : Ref sig .tc := ⟨.hbm, 154, rfl⟩
abbrev main_v92 : Ref sig .tc := ⟨.hbm, 155, rfl⟩
abbrev main_cst_6 : Ref sig .tc := ⟨.hbm, 156, rfl⟩
abbrev main_v93 : Ref sig .tc := ⟨.hbm, 157, rfl⟩
abbrev main_v94 : Ref sig .tc := ⟨.hbm, 158, rfl⟩
abbrev main_v95 : Ref sig .tc := ⟨.hbm, 159, rfl⟩
abbrev main_v96 : Ref sig .tc := ⟨.hbm, 160, rfl⟩
abbrev main_cst_7 : Ref sig .tc := ⟨.hbm, 161, rfl⟩
abbrev main_v97 : Ref sig .tc := ⟨.hbm, 162, rfl⟩
abbrev main_v98 : Ref sig .tc := ⟨.hbm, 163, rfl⟩
abbrev main_v99 : Ref sig .tc := ⟨.hbm, 164, rfl⟩
abbrev main_v100 : Ref sig .tc := ⟨.hbm, 165, rfl⟩
abbrev main_v101 : Ref sig .tc := ⟨.hbm, 166, rfl⟩
abbrev main_v102 : Ref sig .tc := ⟨.hbm, 167, rfl⟩
abbrev main_v103 : Ref sig .tc := ⟨.hbm, 168, rfl⟩
abbrev main_c_8 : Ref sig .tc := ⟨.hbm, 169, rfl⟩
abbrev main_v104 : Ref sig .tc := ⟨.hbm, 170, rfl⟩
abbrev main_v105 : Ref sig .tc := ⟨.hbm, 171, rfl⟩
abbrev main_v106 : Ref sig .tc := ⟨.hbm, 172, rfl⟩
abbrev main_v107 : Ref sig .tc := ⟨.hbm, 173, rfl⟩
abbrev main_v108 : Ref sig .tc := ⟨.hbm, 174, rfl⟩
abbrev main_v109 : Ref sig .tc := ⟨.hbm, 175, rfl⟩
abbrev main_v110 : Ref sig .tc := ⟨.hbm, 176, rfl⟩
abbrev main_v111 : Ref sig .tc := ⟨.hbm, 177, rfl⟩
abbrev main_v112 : Ref sig .tc := ⟨.hbm, 178, rfl⟩
abbrev main_v113 : Ref sig .tc := ⟨.hbm, 179, rfl⟩
abbrev main_v114 : Ref sig .tc := ⟨.hbm, 180, rfl⟩
abbrev main_cst_9 : Ref sig .tc := ⟨.hbm, 181, rfl⟩
abbrev main_call9_v0 : Ref sig .tc := ⟨.hbm, 182, rfl⟩
abbrev main_call9_v1 : Ref sig .tc := ⟨.hbm, 183, rfl⟩
abbrev main_call9_v2 : Ref sig .tc := ⟨.hbm, 184, rfl⟩
abbrev main_v115 : Ref sig .tc := ⟨.hbm, 185, rfl⟩
abbrev main_v116 : Ref sig .tc := ⟨.hbm, 186, rfl⟩
abbrev main_v117 : Ref sig .tc := ⟨.hbm, 187, rfl⟩
abbrev main_v118 : Ref sig .tc := ⟨.hbm, 188, rfl⟩
abbrev main_v119 : Ref sig .tc := ⟨.hbm, 189, rfl⟩
abbrev main_v120 : Ref sig .tc := ⟨.hbm, 190, rfl⟩
abbrev main_v121 : Ref sig .tc := ⟨.hbm, 191, rfl⟩
abbrev main_v122_0 : Ref sig .tc := ⟨.hbm, 192, rfl⟩
abbrev main_v122_1 : Ref sig .tc := ⟨.hbm, 193, rfl⟩
abbrev main_v122_2 : Ref sig .tc := ⟨.hbm, 194, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨1, ![16], ![false]⟩

def k0_mult1 : BitVec 32 :=
  let c3_i32 : BitVec 32 := 3#32
  let c0_i32_4 : BitVec 32 := 0#32
  let v22 : BitVec 32 := Scalar.subi c3_i32 c0_i32_4
  let c128_i32 : BitVec 32 := 128#32
  let v23 : BitVec 32 := Scalar.muli v22 c128_i32
  v23
def k0_off1 (c0_i32_4 : BitVec 32) : Fin 2 → Nat :=
  let c3_i32 : BitVec 32 := 3#32
  let v22 : BitVec 32 := Scalar.subi c3_i32 c0_i32_4
  let c128_i32 : BitVec 32 := 128#32
  let v23 : BitVec 32 := Scalar.muli v22 c128_i32
  let v24 : BitVec 32 := v23
  let v25 : Index := Scalar.indexCast v24
  let c0_5 : Index := 0#32
  ![v25.toNat, 0]
def k0_off2 (c0_i32_4 : BitVec 32) : Fin 2 → Nat :=
  let c3_i32 : BitVec 32 := 3#32
  let v22 : BitVec 32 := Scalar.subi c3_i32 c0_i32_4
  let c128_i32 : BitVec 32 := 128#32
  let v23 : BitVec 32 := Scalar.muli v22 c128_i32
  let v24 : BitVec 32 := v23
  let v27 : Index := Scalar.indexCast v24
  let c128 : Index := 128#32
  ![v27.toNat, 128]
def k0_off3 (c0_i32_4 : BitVec 32) : Fin 2 → Nat :=
  let c3_i32 : BitVec 32 := 3#32
  let v22 : BitVec 32 := Scalar.subi c3_i32 c0_i32_4
  let c128_i32 : BitVec 32 := 128#32
  let v23 : BitVec 32 := Scalar.muli v22 c128_i32
  let v24 : BitVec 32 := v23
  let v29 : Index := Scalar.indexCast v24
  let c256 : Index := 256#32
  ![v29.toNat, 256]
def k0_off4 (c0_i32_4 : BitVec 32) : Fin 2 → Nat :=
  let c3_i32 : BitVec 32 := 3#32
  let v22 : BitVec 32 := Scalar.subi c3_i32 c0_i32_4
  let c128_i32 : BitVec 32 := 128#32
  let v23 : BitVec 32 := Scalar.muli v22 c128_i32
  let v24 : BitVec 32 := v23
  let v31 : Index := Scalar.indexCast v24
  let c384 : Index := 384#32
  ![v31.toNat, 384]
def k0_off5 (c0_i32_4 : BitVec 32) : Fin 2 → Nat :=
  let c3_i32 : BitVec 32 := 3#32
  let v22 : BitVec 32 := Scalar.subi c3_i32 c0_i32_4
  let c128_i32 : BitVec 32 := 128#32
  let v23 : BitVec 32 := Scalar.muli v22 c128_i32
  let v24 : BitVec 32 := v23
  let v33 : Index := Scalar.indexCast v24
  let c512 : Index := 512#32
  ![v33.toNat, 512]
def k0_off6 (c0_i32_4 : BitVec 32) : Fin 2 → Nat :=
  let c3_i32 : BitVec 32 := 3#32
  let v22 : BitVec 32 := Scalar.subi c3_i32 c0_i32_4
  let c128_i32 : BitVec 32 := 128#32
  let v23 : BitVec 32 := Scalar.muli v22 c128_i32
  let v24 : BitVec 32 := v23
  let v35 : Index := Scalar.indexCast v24
  let c640 : Index := 640#32
  ![v35.toNat, 640]
def k0_off7 (c0_i32_4 : BitVec 32) : Fin 2 → Nat :=
  let c3_i32 : BitVec 32 := 3#32
  let v22 : BitVec 32 := Scalar.subi c3_i32 c0_i32_4
  let c128_i32 : BitVec 32 := 128#32
  let v23 : BitVec 32 := Scalar.muli v22 c128_i32
  let v24 : BitVec 32 := v23
  let v37 : Index := Scalar.indexCast v24
  let c768 : Index := 768#32
  ![v37.toNat, 768]
def k0_off8 (c0_i32_4 : BitVec 32) : Fin 2 → Nat :=
  let c3_i32 : BitVec 32 := 3#32
  let v22 : BitVec 32 := Scalar.subi c3_i32 c0_i32_4
  let c128_i32 : BitVec 32 := 128#32
  let v23 : BitVec 32 := Scalar.muli v22 c128_i32
  let v24 : BitVec 32 := v23
  let v39 : Index := Scalar.indexCast v24
  let c896 : Index := 896#32
  ![v39.toNat, 896]
def k0_off9 (c0_i32_4 : BitVec 32) : Fin 2 → Nat :=
  let c3_i32 : BitVec 32 := 3#32
  let v22 : BitVec 32 := Scalar.subi c3_i32 c0_i32_4
  let c128_i32 : BitVec 32 := 128#32
  let v23 : BitVec 32 := Scalar.muli v22 c128_i32
  let v24 : BitVec 32 := v23
  let v41 : Index := Scalar.indexCast v24
  let c1024 : Index := 1024#32
  ![v41.toNat, 1024]
def k0_off10 (c0_i32_4 : BitVec 32) : Fin 2 → Nat :=
  let c3_i32 : BitVec 32 := 3#32
  let v22 : BitVec 32 := Scalar.subi c3_i32 c0_i32_4
  let c128_i32 : BitVec 32 := 128#32
  let v23 : BitVec 32 := Scalar.muli v22 c128_i32
  let v24 : BitVec 32 := v23
  let v43 : Index := Scalar.indexCast v24
  let c1152 : Index := 1152#32
  ![v43.toNat, 1152]
def k0_off11 (c0_i32_4 : BitVec 32) : Fin 2 → Nat :=
  let c3_i32 : BitVec 32 := 3#32
  let v22 : BitVec 32 := Scalar.subi c3_i32 c0_i32_4
  let c128_i32 : BitVec 32 := 128#32
  let v23 : BitVec 32 := Scalar.muli v22 c128_i32
  let v24 : BitVec 32 := v23
  let v45 : Index := Scalar.indexCast v24
  let c1280 : Index := 1280#32
  ![v45.toNat, 1280]
def k0_off12 (c0_i32_4 : BitVec 32) : Fin 2 → Nat :=
  let c3_i32 : BitVec 32 := 3#32
  let v22 : BitVec 32 := Scalar.subi c3_i32 c0_i32_4
  let c128_i32 : BitVec 32 := 128#32
  let v23 : BitVec 32 := Scalar.muli v22 c128_i32
  let v24 : BitVec 32 := v23
  let v47 : Index := Scalar.indexCast v24
  let c1408 : Index := 1408#32
  ![v47.toNat, 1408]
def k0_off13 (c0_i32_4 : BitVec 32) : Fin 2 → Nat :=
  let c3_i32 : BitVec 32 := 3#32
  let v22 : BitVec 32 := Scalar.subi c3_i32 c0_i32_4
  let c128_i32 : BitVec 32 := 128#32
  let v23 : BitVec 32 := Scalar.muli v22 c128_i32
  let v24 : BitVec 32 := v23
  let v53 : Index := Scalar.indexCast v24
  let c0_6 : Index := 0#32
  ![v53.toNat, 0]
def k0_off14 (c0_i32_4 : BitVec 32) : Fin 2 → Nat :=
  let c3_i32 : BitVec 32 := 3#32
  let v22 : BitVec 32 := Scalar.subi c3_i32 c0_i32_4
  let c128_i32 : BitVec 32 := 128#32
  let v23 : BitVec 32 := Scalar.muli v22 c128_i32
  let v24 : BitVec 32 := v23
  let v81 : Index := Scalar.indexCast v24
  let c128_15 : Index := 128#32
  ![v81.toNat, 128]
def k0_off15 (c0_i32_4 : BitVec 32) : Fin 2 → Nat :=
  let c3_i32 : BitVec 32 := 3#32
  let v22 : BitVec 32 := Scalar.subi c3_i32 c0_i32_4
  let c128_i32 : BitVec 32 := 128#32
  let v23 : BitVec 32 := Scalar.muli v22 c128_i32
  let v24 : BitVec 32 := v23
  let v109 : Index := Scalar.indexCast v24
  let c256_24 : Index := 256#32
  ![v109.toNat, 256]
def k0_off16 (c0_i32_4 : BitVec 32) : Fin 2 → Nat :=
  let c3_i32 : BitVec 32 := 3#32
  let v22 : BitVec 32 := Scalar.subi c3_i32 c0_i32_4
  let c128_i32 : BitVec 32 := 128#32
  let v23 : BitVec 32 := Scalar.muli v22 c128_i32
  let v24 : BitVec 32 := v23
  let v137 : Index := Scalar.indexCast v24
  let c384_33 : Index := 384#32
  ![v137.toNat, 384]
def k0_off17 (c0_i32_4 : BitVec 32) : Fin 4 → Nat :=
  let c3_i32 : BitVec 32 := 3#32
  let v22 : BitVec 32 := Scalar.subi c3_i32 c0_i32_4
  let v593 : Index := Scalar.indexCast v22
  let c0_82 : Index := 0#32
  let c0_83 : Index := 0#32
  let c0_84 : Index := 0#32
  ![v593.toNat, 0, 0, 0]
def k0_off18 (c0_i32_4 : BitVec 32) : Fin 4 → Nat :=
  let c3_i32 : BitVec 32 := 3#32
  let v22 : BitVec 32 := Scalar.subi c3_i32 c0_i32_4
  let v596 : Index := Scalar.indexCast v22
  let c1 : Index := 1#32
  let c0_85 : Index := 0#32
  let c0_86 : Index := 0#32
  ![v596.toNat, 1, 0, 0]
def k0_off19 (c0_i32_4 : BitVec 32) : Fin 4 → Nat :=
  let c3_i32 : BitVec 32 := 3#32
  let v22 : BitVec 32 := Scalar.subi c3_i32 c0_i32_4
  let v599 : Index := Scalar.indexCast v22
  let c2 : Index := 2#32
  let c0_87 : Index := 0#32
  let c0_88 : Index := 0#32
  ![v599.toNat, 2, 0, 0]
def k0_off20 (c0_i32_4 : BitVec 32) : Fin 4 → Nat :=
  let c3_i32 : BitVec 32 := 3#32
  let v22 : BitVec 32 := Scalar.subi c3_i32 c0_i32_4
  let v602 : Index := Scalar.indexCast v22
  let c3 : Index := 3#32
  let c0_89 : Index := 0#32
  let c0_90 : Index := 0#32
  ![v602.toNat, 3, 0, 0]
def k0_off21 (c0_i32_4 : BitVec 32) : Fin 2 → Nat :=
  let c3_i32 : BitVec 32 := 3#32
  let v22 : BitVec 32 := Scalar.subi c3_i32 c0_i32_4
  let c128_i32 : BitVec 32 := 128#32
  let v23 : BitVec 32 := Scalar.muli v22 c128_i32
  let v24 : BitVec 32 := v23
  let v653 : Index := Scalar.indexCast v24
  let c1536 : Index := 1536#32
  ![v653.toNat, 1536]
def k0_off22 (c0_i32_4 : BitVec 32) : Fin 2 → Nat :=
  let c3_i32 : BitVec 32 := 3#32
  let v22 : BitVec 32 := Scalar.subi c3_i32 c0_i32_4
  let c128_i32 : BitVec 32 := 128#32
  let v23 : BitVec 32 := Scalar.muli v22 c128_i32
  let v24 : BitVec 32 := v23
  let v709 : Index := Scalar.indexCast v24
  let c1664 : Index := 1664#32
  ![v709.toNat, 1664]
def k0_off23 (c0_i32_4 : BitVec 32) : Fin 2 → Nat :=
  let c3_i32 : BitVec 32 := 3#32
  let v22 : BitVec 32 := Scalar.subi c3_i32 c0_i32_4
  let c128_i32 : BitVec 32 := 128#32
  let v23 : BitVec 32 := Scalar.muli v22 c128_i32
  let v24 : BitVec 32 := v23
  let v765 : Index := Scalar.indexCast v24
  let c1792 : Index := 1792#32
  ![v765.toNat, 1792]
def k0_off24 (c0_i32_4 : BitVec 32) : Fin 2 → Nat :=
  let c3_i32 : BitVec 32 := 3#32
  let v22 : BitVec 32 := Scalar.subi c3_i32 c0_i32_4
  let c128_i32 : BitVec 32 := 128#32
  let v23 : BitVec 32 := Scalar.muli v22 c128_i32
  let v24 : BitVec 32 := v23
  let v821 : Index := Scalar.indexCast v24
  let c1920 : Index := 1920#32
  ![v821.toNat, 1920]
def k0_mult2 : BitVec 32 :=
  let c3_i32_383 : BitVec 32 := 3#32
  let c1_i32 : BitVec 32 := 1#32
  let v1745 : BitVec 32 := Scalar.subi c3_i32_383 c1_i32
  let c128_i32_384 : BitVec 32 := 128#32
  let v1746 : BitVec 32 := Scalar.muli v1745 c128_i32_384
  v1746
def k0_mult3 : BitVec 32 :=
  let c3_i32_781 : BitVec 32 := 3#32
  let c2_i32 : BitVec 32 := 2#32
  let v3468 : BitVec 32 := Scalar.subi c3_i32_781 c2_i32
  let c128_i32_782 : BitVec 32 := 128#32
  let v3469 : BitVec 32 := Scalar.muli v3468 c128_i32_782
  v3469
def k0_mult4 : BitVec 32 :=
  let c3_i32_1180 : BitVec 32 := 3#32
  let c3_i32_1179 : BitVec 32 := 3#32
  let v5191 : BitVec 32 := Scalar.subi c3_i32_1180 c3_i32_1179
  let c128_i32_1181 : BitVec 32 := 128#32
  let v5192 : BitVec 32 := Scalar.muli v5191 c128_i32_1181
  v5192
def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_4 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x4x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S2x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S8192x2048 : Shape := ⟨2, ![8192, 2048]⟩
abbrev S2x512 : Shape := ⟨2, ![2, 512]⟩
abbrev S1x512 : Shape := ⟨2, ![1, 512]⟩
abbrev S8192x512 : Shape := ⟨2, ![8192, 512]⟩
abbrev S_ : Shape := ⟨0, ![]⟩
abbrev S512 : Shape := ⟨1, ![512]⟩
abbrev S8192x4x128 : Shape := ⟨3, ![8192, 4, 128]⟩
abbrev S4x8192x128 : Shape := ⟨3, ![4, 8192, 128]⟩
abbrev S8192x8192 : Shape := ⟨2, ![8192, 8192]⟩
abbrev S8192x8192x1 : Shape := ⟨3, ![8192, 8192, 1]⟩
abbrev S4x8192x1x128 : Shape := ⟨4, ![4, 8192, 1, 128]⟩
abbrev S4x1x8192x128 : Shape := ⟨4, ![4, 1, 8192, 128]⟩
abbrev S4x8192x8192x128 : Shape := ⟨4, ![4, 8192, 8192, 128]⟩
abbrev S4x8192x8192 : Shape := ⟨3, ![4, 8192, 8192]⟩
abbrev S8192x4 : Shape := ⟨2, ![8192, 4]⟩
abbrev S8192x4x1 : Shape := ⟨3, ![8192, 4, 1]⟩
abbrev S4x128x8192 : Shape := ⟨3, ![4, 128, 8192]⟩

abbrev nBuf : Space → Nat
  | .hbm => 378
  | .vmem => 0
  | .smem => 0
  | _ => 0

abbrev hbmTy0_0 (i : Nat) : BufTy := match i % 128 with
  | 0 => ⟨S8192x2048, .f32⟩
  | 1 => ⟨S2x512, .f32⟩
  | 2 => ⟨S1x512, .f32⟩
  | 3 => ⟨S8192x512, .f32⟩
  | 4 => ⟨S_, .f32⟩
  | 5 => ⟨S512, .f32⟩
  | 6 => ⟨S1x512, .f32⟩
  | 7 => ⟨S2x512, .f32⟩
  | 8 => ⟨S2x512, .i1⟩
  | 9 => ⟨S2x512, .f32⟩
  | 10 => ⟨S_, .f32⟩
  | 11 => ⟨S512, .f32⟩
  | 12 => ⟨S_, .f32⟩
  | 13 => ⟨S512, .f32⟩
  | 14 => ⟨S512, .f32⟩
  | 15 => ⟨S_, .f32⟩
  | 16 => ⟨S512, .f32⟩
  | 17 => ⟨S512, .i1⟩
  | 18 => ⟨S_, .f32⟩
  | 19 => ⟨S512, .f32⟩
  | 20 => ⟨S512, .i1⟩
  | 21 => ⟨S_, .f32⟩
  | 22 => ⟨S512, .f32⟩
  | 23 => ⟨S_, .f32⟩
  | 24 => ⟨S512, .f32⟩
  | 25 => ⟨S_, .f32⟩
  | 26 => ⟨S512, .f32⟩
  | 27 => ⟨S512, .f32⟩
  | 28 => ⟨S512, .f32⟩
  | 29 => ⟨S1x512, .f32⟩
  | 30 => ⟨S2x512, .f32⟩
  | 31 => ⟨S2x512, .f32⟩
  | 32 => ⟨S2x512, .f32⟩
  | 33 => ⟨S_, .f32⟩
  | 34 => ⟨S512, .f32⟩
  | 35 => ⟨S1x512, .f32⟩
  | 36 => ⟨S2x512, .f32⟩
  | 37 => ⟨S2x512, .f32⟩
  | 38 => ⟨S1x512, .f32⟩
  | 39 => ⟨S_, .f32⟩
  | 40 => ⟨S1x512, .f32⟩
  | 41 => ⟨S1x512, .f32⟩
  | 42 => ⟨S_, .f32⟩
  | 43 => ⟨S_, .f32⟩
  | 44 => ⟨S2x512, .f32⟩
  | 45 => ⟨S8192x512, .f32⟩
  | 46 => ⟨S8192x512, .f32⟩
  | 47 => ⟨S8192x512, .f32⟩
  | 48 => ⟨S8192x512, .f32⟩
  | 49 => ⟨S1x512, .f32⟩
  | 50 => ⟨S512, .f32⟩
  | 51 => ⟨S512, .f32⟩
  | 52 => ⟨S512, .f32⟩
  | 53 => ⟨S512, .f32⟩
  | 54 => ⟨S_, .f32⟩
  | 55 => ⟨S512, .f32⟩
  | 56 => ⟨S512, .f32⟩
  | 57 => ⟨S8192x512, .f32⟩
  | 58 => ⟨S_, .f32⟩
  | 59 => ⟨S8192x512, .f32⟩
  | 60 => ⟨S8192x512, .f32⟩
  | 61 => ⟨S8192x512, .f32⟩
  | 62 => ⟨S8192x512, .f32⟩
  | 63 => ⟨S8192x512, .i1⟩
  | 64 => ⟨S8192x512, .f32⟩
  | 65 => ⟨S8192x512, .f32⟩
  | 66 => ⟨S8192x512, .f32⟩
  | 67 => ⟨S8192x512, .f32⟩
  | 68 => ⟨S8192x512, .f32⟩
  | 69 => ⟨S8192x512, .f32⟩
  | 70 => ⟨S8192x512, .f32⟩
  | 71 => ⟨S8192x512, .f32⟩
  | 72 => ⟨S_, .f32⟩
  | 73 => ⟨S8192x512, .f32⟩
  | 74 => ⟨S8192x512, .i1⟩
  | 75 => ⟨S_, .f32⟩
  | 76 => ⟨S8192x512, .f32⟩
  | 77 => ⟨S8192x512, .f32⟩
  | 78 => ⟨S_, .f32⟩
  | 79 => ⟨S8192x512, .f32⟩
  | 80 => ⟨S8192x512, .i1⟩
  | 81 => ⟨S_, .f32⟩
  | 82 => ⟨S8192x512, .f32⟩
  | 83 => ⟨S8192x512, .f32⟩
  | 84 => ⟨S8192x512, .f32⟩
  | 85 => ⟨S8192x512, .f32⟩
  | 86 => ⟨S_, .f32⟩
  | 87 => ⟨S_, .f32⟩
  | 88 => ⟨S_, .i1⟩
  | 89 => ⟨S_, .f32⟩
  | 90 => ⟨S_, .f32⟩
  | 91 => ⟨S_, .f32⟩
  | 92 => ⟨S_, .f32⟩
  | 93 => ⟨S8192x512, .f32⟩
  | 94 => ⟨S8192x512, .i1⟩
  | 95 => ⟨S_, .f32⟩
  | 96 => ⟨S8192x512, .f32⟩
  | 97 => ⟨S8192x512, .f32⟩
  | 98 => ⟨S8192x512, .f32⟩
  | 99 => ⟨S8192x512, .f32⟩
  | 100 => ⟨S8192x512, .f32⟩
  | 101 => ⟨S_, .f32⟩
  | 102 => ⟨S8192x512, .f32⟩
  | 103 => ⟨S8192x512, .f32⟩
  | 104 => ⟨S8192x512, .f32⟩
  | 105 => ⟨S1x512, .f32⟩
  | 106 => ⟨S8192x512, .f32⟩
  | 107 => ⟨S8192x512, .f32⟩
  | 108 => ⟨S1x512, .f32⟩
  | 109 => ⟨S8192x512, .f32⟩
  | 110 => ⟨S8192x512, .f32⟩
  | 111 => ⟨S8192x512, .f32⟩
  | 112 => ⟨S8192x512, .f32⟩
  | 113 => ⟨S8192x512, .i1⟩
  | 114 => ⟨S8192x512, .f32⟩
  | 115 => ⟨S8192x512, .f32⟩
  | 116 => ⟨S8192x512, .f32⟩
  | 117 => ⟨S8192x512, .f32⟩
  | 118 => ⟨S8192x512, .f32⟩
  | 119 => ⟨S8192x512, .f32⟩
  | 120 => ⟨S8192x512, .f32⟩
  | 121 => ⟨S8192x512, .f32⟩
  | 122 => ⟨S_, .f32⟩
  | 123 => ⟨S1x512, .f32⟩
  | 124 => ⟨S1x512, .i1⟩
  | 125 => ⟨S_, .f32⟩
  | 126 => ⟨S1x512, .f32⟩
  | 127 => ⟨S1x512, .f32⟩
  | _ => ⟨S8192x2048, .f32⟩

abbrev hbmTy0_1 (i : Nat) : BufTy := match i % 128 with
  | 0 => ⟨S_, .f32⟩
  | 1 => ⟨S8192x512, .f32⟩
  | 2 => ⟨S8192x512, .i1⟩
  | 3 => ⟨S_, .f32⟩
  | 4 => ⟨S8192x512, .f32⟩
  | 5 => ⟨S8192x512, .f32⟩
  | 6 => ⟨S8192x512, .f32⟩
  | 7 => ⟨S8192x512, .f32⟩
  | 8 => ⟨S8192x512, .f32⟩
  | 9 => ⟨S_, .f32⟩
  | 10 => ⟨S8192x512, .f32⟩
  | 11 => ⟨S8192x512, .i1⟩
  | 12 => ⟨S_, .f32⟩
  | 13 => ⟨S8192x512, .f32⟩
  | 14 => ⟨S8192x512, .f32⟩
  | 15 => ⟨S_, .f32⟩
  | 16 => ⟨S8192x512, .f32⟩
  | 17 => ⟨S8192x512, .i1⟩
  | 18 => ⟨S_, .f32⟩
  | 19 => ⟨S8192x512, .f32⟩
  | 20 => ⟨S8192x512, .f32⟩
  | 21 => ⟨S8192x512, .f32⟩
  | 22 => ⟨S8192x512, .f32⟩
  | 23 => ⟨S8192x512, .f32⟩
  | 24 => ⟨S8192x512, .f32⟩
  | 25 => ⟨S8192x512, .f32⟩
  | 26 => ⟨S8192x512, .f32⟩
  | 27 => ⟨S8192x512, .f32⟩
  | 28 => ⟨S_, .f32⟩
  | 29 => ⟨S8192x512, .f32⟩
  | 30 => ⟨S8192x512, .f32⟩
  | 31 => ⟨S_, .f32⟩
  | 32 => ⟨S8192x512, .f32⟩
  | 33 => ⟨S8192x512, .f32⟩
  | 34 => ⟨S_, .f32⟩
  | 35 => ⟨S8192x512, .f32⟩
  | 36 => ⟨S8192x512, .f32⟩
  | 37 => ⟨S8192x512, .f32⟩
  | 38 => ⟨S8192x512, .f32⟩
  | 39 => ⟨S8192x4x128, .f32⟩
  | 40 => ⟨S4x8192x128, .f32⟩
  | 41 => ⟨S8192x4x128, .f32⟩
  | 42 => ⟨S4x8192x128, .f32⟩
  | 43 => ⟨S8192x4x128, .f32⟩
  | 44 => ⟨S4x8192x128, .f32⟩
  | 45 => ⟨S8192x4x128, .f32⟩
  | 46 => ⟨S4x8192x128, .f32⟩
  | 47 => ⟨S_, .f32⟩
  | 48 => ⟨S_, .f32⟩
  | 49 => ⟨S4x8192x128, .f32⟩
  | 50 => ⟨S_, .i1⟩
  | 51 => ⟨S8192x8192, .i1⟩
  | 52 => ⟨S8192x8192, .i32⟩
  | 53 => ⟨S_, .i32⟩
  | 54 => ⟨S8192x8192, .i32⟩
  | 55 => ⟨S8192x8192, .i32⟩
  | 56 => ⟨S8192x8192, .i32⟩
  | 57 => ⟨S8192x8192, .i1⟩
  | 58 => ⟨S_, .i1⟩
  | 59 => ⟨S8192x8192, .i1⟩
  | 60 => ⟨S8192x8192, .i1⟩
  | 61 => ⟨S8192x8192x1, .i1⟩
  | 62 => ⟨S4x8192x1x128, .f32⟩
  | 63 => ⟨S4x1x8192x128, .f32⟩
  | 64 => ⟨S4x8192x8192x128, .f32⟩
  | 65 => ⟨S4x8192x8192x128, .f32⟩
  | 66 => ⟨S4x8192x8192x128, .f32⟩
  | 67 => ⟨S_, .f32⟩
  | 68 => ⟨S_, .f32⟩
  | 69 => ⟨S4x8192x8192x128, .i1⟩
  | 70 => ⟨S4x8192x8192x128, .f32⟩
  | 71 => ⟨S4x8192x8192x128, .f32⟩
  | 72 => ⟨S_, .f32⟩
  | 73 => ⟨S4x8192x8192x128, .f32⟩
  | 74 => ⟨S4x8192x8192x128, .f32⟩
  | 75 => ⟨S4x8192x1x128, .f32⟩
  | 76 => ⟨S4x1x8192x128, .f32⟩
  | 77 => ⟨S4x8192x8192x128, .f32⟩
  | 78 => ⟨S4x8192x8192x128, .f32⟩
  | 79 => ⟨S4x8192x8192x128, .f32⟩
  | 80 => ⟨S4x8192x8192x128, .f32⟩
  | 81 => ⟨S_, .f32⟩
  | 82 => ⟨S4x8192x8192, .f32⟩
  | 83 => ⟨S4x8192x128, .f32⟩
  | 84 => ⟨S8192x4x128, .f32⟩
  | 85 => ⟨S8192x4x128, .f32⟩
  | 86 => ⟨S_, .f32⟩
  | 87 => ⟨S8192x4, .f32⟩
  | 88 => ⟨S8192x4x1, .f32⟩
  | 89 => ⟨S_, .f32⟩
  | 90 => ⟨S8192x4x1, .f32⟩
  | 91 => ⟨S8192x4x1, .f32⟩
  | 92 => ⟨S_, .f32⟩
  | 93 => ⟨S8192x4x1, .f32⟩
  | 94 => ⟨S8192x4x1, .f32⟩
  | 95 => ⟨S8192x4x1, .f32⟩
  | 96 => ⟨S8192x4x1, .f32⟩
  | 97 => ⟨S_, .f32⟩
  | 98 => ⟨S8192x4x1, .f32⟩
  | 99 => ⟨S8192x4x1, .f32⟩
  | 100 => ⟨S8192x4x128, .f32⟩
  | 101 => ⟨S8192x4x128, .f32⟩
  | 102 => ⟨S8192x512, .f32⟩
  | 103 => ⟨S512, .f32⟩
  | 104 => ⟨S1x512, .f32⟩
  | 105 => ⟨S8192x512, .f32⟩
  | 106 => ⟨S8192x512, .f32⟩
  | 107 => ⟨S8192x512, .f32⟩
  | 108 => ⟨S8192x512, .f32⟩
  | 109 => ⟨S_, .f32⟩
  | 110 => ⟨S8192x512, .f32⟩
  | 111 => ⟨S8192x512, .f32⟩
  | 112 => ⟨S_, .f32⟩
  | 113 => ⟨S8192x512, .f32⟩
  | 114 => ⟨S8192x512, .f32⟩
  | 115 => ⟨S_, .f32⟩
  | 116 => ⟨S8192x512, .f32⟩
  | 117 => ⟨S8192x512, .f32⟩
  | 118 => ⟨S8192x512, .f32⟩
  | 119 => ⟨S8192x512, .f32⟩
  | 120 => ⟨S8192x512, .f32⟩
  | 121 => ⟨S8192x512, .f32⟩
  | 122 => ⟨S8192x512, .f32⟩
  | 123 => ⟨S8192x512, .f32⟩
  | 124 => ⟨S8192x512, .f32⟩
  | 125 => ⟨S8192x512, .f32⟩
  | 126 => ⟨S8192x512, .f32⟩
  | 127 => ⟨S8192x512, .f32⟩
  | _ => ⟨S8192x2048, .f32⟩

abbrev hbmTy0_2 (i : Nat) : BufTy := match i % 128 with
  | 0 => ⟨S_, .f32⟩
  | 1 => ⟨S512, .f32⟩
  | 2 => ⟨S1x512, .f32⟩
  | 3 => ⟨S8192x512, .f32⟩
  | 4 => ⟨S8192x512, .f32⟩
  | 5 => ⟨S_, .f32⟩
  | 6 => ⟨S512, .f32⟩
  | 7 => ⟨S1x512, .f32⟩
  | 8 => ⟨S8192x4x128, .f32⟩
  | 9 => ⟨S8192x4x128, .f32⟩
  | 10 => ⟨S_, .f32⟩
  | 11 => ⟨S8192x4, .f32⟩
  | 12 => ⟨S8192x4x1, .f32⟩
  | 13 => ⟨S8192x4x128, .f32⟩
  | 14 => ⟨S8192x4x128, .f32⟩
  | 15 => ⟨S8192x4x1, .f32⟩
  | 16 => ⟨S_, .f32⟩
  | 17 => ⟨S8192x4x1, .f32⟩
  | 18 => ⟨S8192x4x1, .f32⟩
  | 19 => ⟨S_, .f32⟩
  | 20 => ⟨S8192x4, .f32⟩
  | 21 => ⟨S8192x4x128, .f32⟩
  | 22 => ⟨S8192x4x128, .f32⟩
  | 23 => ⟨S8192x4x128, .f32⟩
  | 24 => ⟨S8192x4x128, .f32⟩
  | 25 => ⟨S8192x4x128, .f32⟩
  | 26 => ⟨S4x8192x128, .f32⟩
  | 27 => ⟨S4x128x8192, .f32⟩
  | 28 => ⟨S4x8192x128, .f32⟩
  | 29 => ⟨S4x8192x8192, .f32⟩
  | 30 => ⟨S4x8192x8192x128, .f32⟩
  | 31 => ⟨S4x8192x8192x128, .f32⟩
  | 32 => ⟨S4x8192x8192x128, .f32⟩
  | 33 => ⟨S4x8192x8192x128, .f32⟩
  | 34 => ⟨S4x8192x8192x128, .f32⟩
  | 35 => ⟨S_, .f32⟩
  | 36 => ⟨S4x8192x128, .f32⟩
  | 37 => ⟨S4x1x8192x128, .f32⟩
  | 38 => ⟨S4x8192x8192x128, .f32⟩
  | 39 => ⟨S4x8192x8192x128, .f32⟩
  | 40 => ⟨S_, .f32⟩
  | 41 => ⟨S4x8192x128, .f32⟩
  | 42 => ⟨S4x8192x1x128, .f32⟩
  | 43 => ⟨S_, .f32⟩
  | 44 => ⟨S4x8192x128, .f32⟩
  | 45 => ⟨S_, .f32⟩
  | 46 => ⟨S4x8192x128, .f32⟩
  | 47 => ⟨S4x8192x8192x128, .f32⟩
  | 48 => ⟨S_, .f32⟩
  | 49 => ⟨S4x8192x8192x128, .f32⟩
  | 50 => ⟨S4x8192x8192x128, .f32⟩
  | 51 => ⟨S_, .f32⟩
  | 52 => ⟨S4x8192x128, .f32⟩
  | 53 => ⟨S4x8192x1x128, .f32⟩
  | 54 => ⟨S4x8192x8192x128, .f32⟩
  | 55 => ⟨S_, .f32⟩
  | 56 => ⟨S4x8192x128, .f32⟩
  | 57 => ⟨S4x1x8192x128, .f32⟩
  | 58 => ⟨S_, .f32⟩
  | 59 => ⟨S4x8192x128, .f32⟩
  | 60 => ⟨S_, .f32⟩
  | 61 => ⟨S4x8192x128, .f32⟩
  | 62 => ⟨S4x8192x128, .f32⟩
  | 63 => ⟨S_, .f32⟩
  | 64 => ⟨S_, .f32⟩
  | 65 => ⟨S4x8192x128, .f32⟩
  | 66 => ⟨S8192x4x128, .f32⟩
  | 67 => ⟨S8192x512, .f32⟩
  | 68 => ⟨S8192x4x128, .f32⟩
  | 69 => ⟨S8192x512, .f32⟩
  | 70 => ⟨S8192x4x128, .f32⟩
  | 71 => ⟨S8192x512, .f32⟩
  | 72 => ⟨S8192x4x128, .f32⟩
  | 73 => ⟨S8192x512, .f32⟩
  | 74 => ⟨S8192x512, .f32⟩
  | 75 => ⟨S8192x512, .f32⟩
  | 76 => ⟨S8192x512, .f32⟩
  | 77 => ⟨S8192x512, .f32⟩
  | 78 => ⟨S8192x512, .f32⟩
  | 79 => ⟨S8192x512, .f32⟩
  | 80 => ⟨S8192x512, .f32⟩
  | 81 => ⟨S8192x512, .f32⟩
  | 82 => ⟨S8192x512, .f32⟩
  | 83 => ⟨S_, .f32⟩
  | 84 => ⟨S512, .f32⟩
  | 85 => ⟨S1x512, .f32⟩
  | 86 => ⟨S_, .f32⟩
  | 87 => ⟨S512, .f32⟩
  | 88 => ⟨S_, .f32⟩
  | 89 => ⟨S512, .f32⟩
  | 90 => ⟨S1x512, .f32⟩
  | 91 => ⟨S_, .f32⟩
  | 92 => ⟨S512, .f32⟩
  | 93 => ⟨S8192x512, .f32⟩
  | 94 => ⟨S8192x512, .f32⟩
  | 95 => ⟨S8192x512, .f32⟩
  | 96 => ⟨S512, .f32⟩
  | 97 => ⟨S512, .f32⟩
  | 98 => ⟨S512, .f32⟩
  | 99 => ⟨S512, .f32⟩
  | 100 => ⟨S1x512, .f32⟩
  | 101 => ⟨S_, .f32⟩
  | 102 => ⟨S2x512, .f32⟩
  | 103 => ⟨S8192x2048, .f32⟩
  | 104 => ⟨S_, .f32⟩
  | 105 => ⟨S_, .f32⟩
  | 106 => ⟨S2x512, .f32⟩
  | 107 => ⟨S2x512, .f32⟩
  | 108 => ⟨S2x512, .f32⟩
  | 109 => ⟨S2x512, .f32⟩
  | 110 => ⟨S_, .f32⟩
  | 111 => ⟨S512, .f32⟩
  | 112 => ⟨S1x512, .f32⟩
  | 113 => ⟨S1x512, .f32⟩
  | 114 => ⟨S2x512, .f32⟩
  | 115 => ⟨S2x512, .f32⟩
  | 116 => ⟨S_, .f32⟩
  | 117 => ⟨S512, .f32⟩
  | 118 => ⟨S2x512, .f32⟩
  | 119 => ⟨S2x512, .f32⟩
  | 120 => ⟨S2x512, .f32⟩
  | 121 => ⟨S8192x2048, .bf16⟩
  | _ => ⟨S8192x2048, .f32⟩

abbrev hbmTy (i : Nat) : BufTy := match i / 128 with
  | 0 => hbmTy0_0 i
  | 1 => hbmTy0_1 i
  | 2 => hbmTy0_2 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_cst_5 : Ref sig .tc := ⟨.hbm, 23, rfl⟩
abbrev main_v13 : Ref sig .tc := ⟨.hbm, 24, rfl⟩
abbrev main_cst_6 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_8 : Ref sig .tc := ⟨.hbm, 39, rfl⟩
abbrev main_v26 : Ref sig .tc := ⟨.hbm, 40, rfl⟩
abbrev main_v27 : Ref sig .tc := ⟨.hbm, 41, rfl⟩
abbrev main_call0_call0_cst : Ref sig .tc := ⟨.hbm, 42, rfl⟩
abbrev main_call0_call0_v0 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_9 : Ref sig .tc := ⟨.hbm, 54, rfl⟩
abbrev main_v38 : Ref sig .tc := ⟨.hbm, 55, rfl⟩
abbrev main_v39 : Ref sig .tc := ⟨.hbm, 56, rfl⟩
abbrev main_call1_v0 : Ref sig .tc := ⟨.hbm, 57, rfl⟩
abbrev main_call1_call0_cst : Ref sig .tc := ⟨.hbm, 58, rfl⟩
abbrev main_call1_call0_v0 : Ref sig .tc := ⟨.hbm, 59, rfl⟩
abbrev main_call1_call0_v1 : Ref sig .tc := ⟨.hbm, 60, rfl⟩
abbrev main_call1_call0_v2 : Ref sig .tc := ⟨.hbm, 61, rfl⟩
abbrev main_call1_call0_v3 : Ref sig .tc := ⟨.hbm, 62, rfl⟩
abbrev main_call1_call0_v4 : Ref sig .tc := ⟨.hbm, 63, rfl⟩
abbrev main_call1_call0_v5 : Ref sig .tc := ⟨.hbm, 64, rfl⟩
abbrev main_call1_call0_v6 : Ref sig .tc := ⟨.hbm, 65, rfl⟩
abbrev main_call1_call0_v7 : Ref sig .tc := ⟨.hbm, 66, rfl⟩
abbrev main_call1_call0_v8 : Ref sig .tc := ⟨.hbm, 67, rfl⟩
abbrev main_call1_call0_v9 : Ref sig .tc := ⟨.hbm, 68, rfl⟩
abbrev main_call1_call0_v10 : Ref sig .tc := ⟨.hbm, 69, rfl⟩
abbrev main_call1_call0_v11 : Ref sig .tc := ⟨.hbm, 70, rfl⟩
abbrev main_call1_v1_0 : Ref sig .tc := ⟨.hbm, 71, rfl⟩
abbrev main_call1_call0_cst_0 : Ref sig .tc := ⟨.hbm, 72, rfl⟩
abbrev main_call1_call0_v13 : Ref sig .tc := ⟨.hbm, 73, rfl⟩
abbrev main_call1_call0_v14 : Ref sig .tc := ⟨.hbm, 74, rfl⟩
abbrev main_call1_call0_cst_1 : Ref sig .tc := ⟨.hbm, 75, rfl⟩
abbrev main_call1_call0_v15 : Ref sig .tc := ⟨.hbm, 76, rfl⟩
abbrev main_call1_call0_v16 : Ref sig .tc := ⟨.hbm, 77, rfl⟩
abbrev main_call1_call0_cst_2 : Ref sig .tc := ⟨.hbm, 78, rfl⟩
abbrev main_call1_call0_v17 : Ref sig .tc := ⟨.hbm, 79, rfl⟩
abbrev main_call1_call0_v18 : Ref sig .tc := ⟨.hbm, 80, rfl⟩
abbrev main_call1_call0_cst_3 : Ref sig .tc := ⟨.hbm, 81, rfl⟩
abbrev main_call1_call0_v19 : Ref sig .tc := ⟨.hbm, 82, rfl⟩
abbrev main_call1_call0_v20 : Ref sig .tc := ⟨.hbm, 83, rfl⟩
abbrev main_call1_call0_v21 : Ref sig .tc := ⟨.hbm, 84, rfl⟩
abbrev main_v40_1 : Ref sig .tc := ⟨.hbm, 85, rfl⟩
abbrev main_call1_call0_cst_4 : Ref sig .tc := ⟨.hbm, 86, rfl⟩
abbrev main_call1_call0_cst_5 : Ref sig .tc := ⟨.hbm, 87, rfl⟩
abbrev main_call1_call0_v23 : Ref sig .tc := ⟨.hbm, 88, rfl⟩
abbrev main_call1_call0_cst_6 : Ref sig .tc := ⟨.hbm, 89, rfl⟩
abbrev main_call1_call0_cst_7 : Ref sig .tc := ⟨.hbm, 90, rfl⟩
abbrev main_call1_call0_v24 : Ref sig .tc := ⟨.hbm, 91, rfl⟩
abbrev main_call1_call0_cst_8 : Ref sig .tc := ⟨.hbm, 92, rfl⟩
abbrev main_call1_call0_v25 : Ref sig .tc := ⟨.hbm, 93, rfl⟩
abbrev main_call1_call0_v26 : Ref sig .tc := ⟨.hbm, 94, rfl⟩
abbrev main_call1_call0_cst_9 : Ref sig .tc := ⟨.hbm, 95, rfl⟩
abbrev main_call1_call0_v27 : Ref sig .tc := ⟨.hbm, 96, rfl⟩
abbrev main_call1_call0_v28 : Ref sig .tc := ⟨.hbm, 97, rfl⟩
abbrev main_call1_call0_v29 : Ref sig .tc := ⟨.hbm, 98, rfl⟩
abbrev main_call1_call0_v30 : Ref sig .tc := ⟨.hbm, 99, rfl⟩
abbrev main_call1_call0_v31 : Ref sig .tc := ⟨.hbm, 100, rfl⟩
abbrev main_call1_call0_cst_10 : Ref sig .tc := ⟨.hbm, 101, rfl⟩
abbrev main_call1_call0_v32 : Ref sig .tc := ⟨.hbm, 102, rfl⟩
abbrev main_v40_2 : Ref sig .tc := ⟨.hbm, 103, rfl⟩
abbrev main_v40_0 : Ref sig .tc := ⟨.hbm, 104, rfl⟩
abbrev main_v41 : Ref sig .tc := ⟨.hbm, 105, rfl⟩
abbrev main_v42 : Ref sig .tc := ⟨.hbm, 106, rfl⟩
abbrev main_v43 : Ref sig .tc := ⟨.hbm, 107, rfl⟩
abbrev main_v44 : Ref sig .tc := ⟨.hbm, 108, rfl⟩
abbrev main_v45 : Ref sig .tc := ⟨.hbm, 109, rfl⟩
abbrev main_v46 : Ref sig .tc := ⟨.hbm, 110, rfl⟩
abbrev main_v47 : Ref sig .tc := ⟨.hbm, 111, rfl⟩
abbrev main_v48 : Ref sig .tc := ⟨.hbm, 112, rfl⟩
abbrev main_v49 : Ref sig .tc := ⟨.hbm, 113, rfl⟩
abbrev main_v50 : Ref sig .tc := ⟨.hbm, 114, rfl⟩
abbrev main_v51 : Ref sig .tc := ⟨.hbm, 115, rfl⟩
abbrev main_v52 : Ref sig .tc := ⟨.hbm, 116, rfl⟩
abbrev main_v53 : Ref sig .tc := ⟨.hbm, 117, rfl⟩
abbrev main_v54 : Ref sig .tc := ⟨.hbm, 118, rfl⟩
abbrev main_v55 : Ref sig .tc := ⟨.hbm, 119, rfl⟩
abbrev main_v56 : Ref sig .tc := ⟨.hbm, 120, rfl⟩
abbrev main_v57 : Ref sig .tc := ⟨.hbm, 121, rfl⟩
abbrev main_cst_10 : Ref sig .tc := ⟨.hbm, 122, rfl⟩
abbrev main_v58 : Ref sig .tc := ⟨.hbm, 123, rfl⟩
abbrev main_v59 : Ref sig .tc := ⟨.hbm, 124, rfl⟩
abbrev main_cst_11 : Ref sig .tc := ⟨.hbm, 125, rfl⟩
abbrev main_v60 : Ref sig .tc := ⟨.hbm, 126, rfl⟩
abbrev main_v61 : Ref sig .tc := ⟨.hbm, 127, rfl⟩
abbrev main_cst_12 : Ref sig .tc := ⟨.hbm, 128, rfl⟩
abbrev main_v62 : Ref sig .tc := ⟨.hbm, 129, rfl⟩
abbrev main_v63 : Ref sig .tc := ⟨.hbm, 130, rfl⟩
abbrev main_cst_13 : Ref sig .tc := ⟨.hbm, 131, rfl⟩
abbrev main_v64 : Ref sig .tc := ⟨.hbm, 132, rfl⟩
abbrev main_v65 : Ref sig .tc := ⟨.hbm, 133, rfl⟩
abbrev main_v66 : Ref sig .tc := ⟨.hbm, 134, rfl⟩
abbrev main_v67 : Ref sig .tc := ⟨.hbm, 135, rfl⟩
abbrev main_v68 : Ref sig .tc := ⟨.hbm, 136, rfl⟩
abbrev main_cst_14 : Ref sig .tc := ⟨.hbm, 137, rfl⟩
abbrev main_v69 : Ref sig .tc := ⟨.hbm, 138, rfl⟩
abbrev main_v70 : Ref sig .tc := ⟨.hbm, 139, rfl⟩
abbrev main_cst_15 : Ref sig .tc := ⟨.hbm, 140, rfl⟩
abbrev main_v71 : Ref sig .tc := ⟨.hbm, 141, rfl⟩
abbrev main_v72 : Ref sig .tc := ⟨.hbm, 142, rfl⟩
abbrev main_cst_16 : Ref sig .tc := ⟨.hbm, 143, rfl⟩
abbrev main_v73 : Ref sig .tc := ⟨.hbm, 144, rfl⟩
abbrev main_v74 : Ref sig .tc := ⟨.hbm, 145, rfl⟩
abbrev main_cst_17 : Ref sig .tc := ⟨.hbm, 146, rfl⟩
abbrev main_v75 : Ref sig .tc := ⟨.hbm, 147, rfl⟩
abbrev main_v76 : Ref sig .tc := ⟨.hbm, 148, rfl⟩
abbrev main_v77 : Ref sig .tc := ⟨.hbm, 149, rfl⟩
abbrev main_v78 : Ref sig .tc := ⟨.hbm, 150, rfl⟩
abbrev main_v79 : Ref sig .tc := ⟨.hbm, 151, rfl⟩
abbrev main_v80 : Ref sig .tc := ⟨.hbm, 152, rfl⟩
abbrev main_v81 : Ref sig .tc := ⟨.hbm, 153, rfl⟩
abbrev main_call2_v0 : Ref sig .tc := ⟨.hbm, 154, rfl⟩
abbrev main_call2_v1 : Ref sig .tc := ⟨.hbm, 155, rfl⟩
abbrev main_call2_cst : Ref sig .tc := ⟨.hbm, 156, rfl⟩
abbrev main_call2_v2 : Ref sig .tc := ⟨.hbm, 157, rfl⟩
abbrev main_call2_v3 : Ref sig .tc := ⟨.hbm, 158, rfl⟩
abbrev main_call2_cst_0 : Ref sig .tc := ⟨.hbm, 159, rfl⟩
abbrev main_call2_v4 : Ref sig .tc := ⟨.hbm, 160, rfl⟩
abbrev main_v82_2 : Ref sig .tc := ⟨.hbm, 161, rfl⟩
abbrev main_call2_cst_1 : Ref sig .tc := ⟨.hbm, 162, rfl⟩
abbrev main_call2_v6 : Ref sig .tc := ⟨.hbm, 163, rfl⟩
abbrev main_call2_v7 : Ref sig .tc := ⟨.hbm, 164, rfl⟩
abbrev main_v82_1 : Ref sig .tc := ⟨.hbm, 165, rfl⟩
abbrev main_v82_0 : Ref sig .tc := ⟨.hbm, 166, rfl⟩
abbrev main_v83 : Ref sig .tc := ⟨.hbm, 167, rfl⟩
abbrev main_v84 : Ref sig .tc := ⟨.hbm, 168, rfl⟩
abbrev main_v85 : Ref sig .tc := ⟨.hbm, 169, rfl⟩
abbrev main_v86 : Ref sig .tc := ⟨.hbm, 170, rfl⟩
abbrev main_v87 : Ref sig .tc := ⟨.hbm, 171, rfl⟩
abbrev main_v88 : Ref sig .tc := ⟨.hbm, 172, rfl⟩
abbrev main_v89 : Ref sig .tc := ⟨.hbm, 173, rfl⟩
abbrev main_v90 : Ref sig .tc := ⟨.hbm, 174, rfl⟩
abbrev main_call3_call0_cst : Ref sig .tc := ⟨.hbm, 175, rfl⟩
abbrev main_call3_call0_v0 : Ref sig .tc := ⟨.hbm, 176, rfl⟩
abbrev main_v91 : Ref sig .tc := ⟨.hbm, 177, rfl⟩
abbrev main_c : Ref sig .tc := ⟨.hbm, 178, rfl⟩
abbrev main_v92 : Ref sig .tc := ⟨.hbm, 179, rfl⟩
abbrev main_call4_v0 : Ref sig .tc := ⟨.hbm, 180, rfl⟩
abbrev main_call4_c : Ref sig .tc := ⟨.hbm, 181, rfl⟩
abbrev main_call4_v1 : Ref sig .tc := ⟨.hbm, 182, rfl⟩
abbrev main_call4_v2 : Ref sig .tc := ⟨.hbm, 183, rfl⟩
abbrev main_call4_v3 : Ref sig .tc := ⟨.hbm, 184, rfl⟩
abbrev main_call4_v4 : Ref sig .tc := ⟨.hbm, 185, rfl⟩
abbrev main_call4_c_0 : Ref sig .tc := ⟨.hbm, 186, rfl⟩
abbrev main_call4_v5 : Ref sig .tc := ⟨.hbm, 187, rfl⟩
abbrev main_v93 : Ref sig .tc := ⟨.hbm, 188, rfl⟩
abbrev main_v94 : Ref sig .tc := ⟨.hbm, 189, rfl⟩
abbrev main_v95 : Ref sig .tc := ⟨.hbm, 190, rfl⟩
abbrev main_v96 : Ref sig .tc := ⟨.hbm, 191, rfl⟩
abbrev main_v97 : Ref sig .tc := ⟨.hbm, 192, rfl⟩
abbrev main_v98 : Ref sig .tc := ⟨.hbm, 193, rfl⟩
abbrev main_v99 : Ref sig .tc := ⟨.hbm, 194, rfl⟩
abbrev main_cst_18 : Ref sig .tc := ⟨.hbm, 195, rfl⟩
abbrev main_call5_v0 : Ref sig .tc := ⟨.hbm, 196, rfl⟩
abbrev main_v100_1 : Ref sig .tc := ⟨.hbm, 197, rfl⟩
abbrev main_call5_v2 : Ref sig .tc := ⟨.hbm, 198, rfl⟩
abbrev main_v100_0 : Ref sig .tc := ⟨.hbm, 199, rfl⟩
abbrev main_call5_cst : Ref sig .tc := ⟨.hbm, 200, rfl⟩
abbrev main_v100_2 : Ref sig .tc := ⟨.hbm, 201, rfl⟩
abbrev main_v101 : Ref sig .tc := ⟨.hbm, 202, rfl⟩
abbrev main_v102 : Ref sig .tc := ⟨.hbm, 203, rfl⟩
abbrev main_v103 : Ref sig .tc := ⟨.hbm, 204, rfl⟩
abbrev main_v104 : Ref sig .tc := ⟨.hbm, 205, rfl⟩
abbrev main_v105 : Ref sig .tc := ⟨.hbm, 206, rfl⟩
abbrev main_v106 : Ref sig .tc := ⟨.hbm, 207, rfl⟩
abbrev main_v107 : Ref sig .tc := ⟨.hbm, 208, rfl⟩
abbrev main_cst_19 : Ref sig .tc := ⟨.hbm, 209, rfl⟩
abbrev main_v108 : Ref sig .tc := ⟨.hbm, 210, rfl⟩
abbrev main_v109 : Ref sig .tc := ⟨.hbm, 211, rfl⟩
abbrev main_v110 : Ref sig .tc := ⟨.hbm, 212, rfl⟩
abbrev main_v111 : Ref sig .tc := ⟨.hbm, 213, rfl⟩
abbrev main_cst_20 : Ref sig .tc := ⟨.hbm, 214, rfl⟩
abbrev main_v112 : Ref sig .tc := ⟨.hbm, 215, rfl⟩
abbrev main_v113 : Ref sig .tc := ⟨.hbm, 216, rfl⟩
abbrev main_cst_21 : Ref sig .tc := ⟨.hbm, 217, rfl⟩
abbrev main_v114 : Ref sig .tc := ⟨.hbm, 218, rfl⟩
abbrev main_v115 : Ref sig .tc := ⟨.hbm, 219, rfl⟩
abbrev main_cst_22 : Ref sig .tc := ⟨.hbm, 220, rfl⟩
abbrev main_v116 : Ref sig .tc := ⟨.hbm, 221, rfl⟩
abbrev main_v117 : Ref sig .tc := ⟨.hbm, 222, rfl⟩
abbrev main_v118 : Ref sig .tc := ⟨.hbm, 223, rfl⟩
abbrev main_v119 : Ref sig .tc := ⟨.hbm, 224, rfl⟩
abbrev main_cst_23 : Ref sig .tc := ⟨.hbm, 225, rfl⟩
abbrev main_v120 : Ref sig .tc := ⟨.hbm, 226, rfl⟩
abbrev main_v121 : Ref sig .tc := ⟨.hbm, 227, rfl⟩
abbrev main_v122 : Ref sig .tc := ⟨.hbm, 228, rfl⟩
abbrev main_v123 : Ref sig .tc := ⟨.hbm, 229, rfl⟩
abbrev main_v124 : Ref sig .tc := ⟨.hbm, 230, rfl⟩
abbrev main_v125 : Ref sig .tc := ⟨.hbm, 231, rfl⟩
abbrev main_v126 : Ref sig .tc := ⟨.hbm, 232, rfl⟩
abbrev main_v127 : Ref sig .tc := ⟨.hbm, 233, rfl⟩
abbrev main_v128 : Ref sig .tc := ⟨.hbm, 234, rfl⟩
abbrev main_call6_v0 : Ref sig .tc := ⟨.hbm, 235, rfl⟩
abbrev main_call6_v1 : Ref sig .tc := ⟨.hbm, 236, rfl⟩
abbrev main_call6_cst : Ref sig .tc := ⟨.hbm, 237, rfl⟩
abbrev main_call6_v2 : Ref sig .tc := ⟨.hbm, 238, rfl⟩
abbrev main_call6_v3 : Ref sig .tc := ⟨.hbm, 239, rfl⟩
abbrev main_call6_cst_0 : Ref sig .tc := ⟨.hbm, 240, rfl⟩
abbrev main_call6_v4 : Ref sig .tc := ⟨.hbm, 241, rfl⟩
abbrev main_v129_2 : Ref sig .tc := ⟨.hbm, 242, rfl⟩
abbrev main_call6_cst_1 : Ref sig .tc := ⟨.hbm, 243, rfl⟩
abbrev main_call6_v6 : Ref sig .tc := ⟨.hbm, 244, rfl⟩
abbrev main_call6_v7 : Ref sig .tc := ⟨.hbm, 245, rfl⟩
abbrev main_v129_1 : Ref sig .tc := ⟨.hbm, 246, rfl⟩
abbrev main_v129_0 : Ref sig .tc := ⟨.hbm, 247, rfl⟩
abbrev main_v130 : Ref sig .tc := ⟨.hbm, 248, rfl⟩
abbrev main_v131 : Ref sig .tc := ⟨.hbm, 249, rfl⟩
abbrev main_v132 : Ref sig .tc := ⟨.hbm, 250, rfl⟩
abbrev main_call7_v0 : Ref sig .tc := ⟨.hbm, 251, rfl⟩
abbrev main_call7_v1 : Ref sig .tc := ⟨.hbm, 252, rfl⟩
abbrev main_call7_v2 : Ref sig .tc := ⟨.hbm, 253, rfl⟩
abbrev main_v133 : Ref sig .tc := ⟨.hbm, 254, rfl⟩
abbrev main_v134 : Ref sig .tc := ⟨.hbm, 255, rfl⟩
abbrev main_cst_24 : Ref sig .tc := ⟨.hbm, 256, rfl⟩
abbrev main_v135 : Ref sig .tc := ⟨.hbm, 257, rfl⟩
abbrev main_v136 : Ref sig .tc := ⟨.hbm, 258, rfl⟩
abbrev main_v137 : Ref sig .tc := ⟨.hbm, 259, rfl⟩
abbrev main_v138 : Ref sig .tc := ⟨.hbm, 260, rfl⟩
abbrev main_cst_25 : Ref sig .tc := ⟨.hbm, 261, rfl⟩
abbrev main_v139 : Ref sig .tc := ⟨.hbm, 262, rfl⟩
abbrev main_v140 : Ref sig .tc := ⟨.hbm, 263, rfl⟩
abbrev main_v141 : Ref sig .tc := ⟨.hbm, 264, rfl⟩
abbrev main_v142 : Ref sig .tc := ⟨.hbm, 265, rfl⟩
abbrev main_cst_26 : Ref sig .tc := ⟨.hbm, 266, rfl⟩
abbrev main_v143 : Ref sig .tc := ⟨.hbm, 267, rfl⟩
abbrev main_v144 : Ref sig .tc := ⟨.hbm, 268, rfl⟩
abbrev main_v145 : Ref sig .tc := ⟨.hbm, 269, rfl⟩
abbrev main_v146 : Ref sig .tc := ⟨.hbm, 270, rfl⟩
abbrev main_v147 : Ref sig .tc := ⟨.hbm, 271, rfl⟩
abbrev main_cst_27 : Ref sig .tc := ⟨.hbm, 272, rfl⟩
abbrev main_v148 : Ref sig .tc := ⟨.hbm, 273, rfl⟩
abbrev main_v149 : Ref sig .tc := ⟨.hbm, 274, rfl⟩
abbrev main_cst_28 : Ref sig .tc := ⟨.hbm, 275, rfl⟩
abbrev main_v150 : Ref sig .tc := ⟨.hbm, 276, rfl⟩
abbrev main_v151 : Ref sig .tc := ⟨.hbm, 277, rfl⟩
abbrev main_v152 : Ref sig .tc := ⟨.hbm, 278, rfl⟩
abbrev main_v153 : Ref sig .tc := ⟨.hbm, 279, rfl⟩
abbrev main_v154 : Ref sig .tc := ⟨.hbm, 280, rfl⟩
abbrev main_v155 : Ref sig .tc := ⟨.hbm, 281, rfl⟩
abbrev main_v156 : Ref sig .tc := ⟨.hbm, 282, rfl⟩
abbrev main_v157 : Ref sig .tc := ⟨.hbm, 283, rfl⟩
abbrev main_v158 : Ref sig .tc := ⟨.hbm, 284, rfl⟩
abbrev main_v159 : Ref sig .tc := ⟨.hbm, 285, rfl⟩
abbrev main_v160 : Ref sig .tc := ⟨.hbm, 286, rfl⟩
abbrev main_v161 : Ref sig .tc := ⟨.hbm, 287, rfl⟩
abbrev main_v162 : Ref sig .tc := ⟨.hbm, 288, rfl⟩
abbrev main_v163 : Ref sig .tc := ⟨.hbm, 289, rfl⟩
abbrev main_v164 : Ref sig .tc := ⟨.hbm, 290, rfl⟩
abbrev main_cst_29 : Ref sig .tc := ⟨.hbm, 291, rfl⟩
abbrev main_v165 : Ref sig .tc := ⟨.hbm, 292, rfl⟩
abbrev main_v166 : Ref sig .tc := ⟨.hbm, 293, rfl⟩
abbrev main_v167 : Ref sig .tc := ⟨.hbm, 294, rfl⟩
abbrev main_v168 : Ref sig .tc := ⟨.hbm, 295, rfl⟩
abbrev main_cst_30 : Ref sig .tc := ⟨.hbm, 296, rfl⟩
abbrev main_v169 : Ref sig .tc := ⟨.hbm, 297, rfl⟩
abbrev main_v170 : Ref sig .tc := ⟨.hbm, 298, rfl⟩
abbrev main_cst_31 : Ref sig .tc := ⟨.hbm, 299, rfl⟩
abbrev main_v171 : Ref sig .tc := ⟨.hbm, 300, rfl⟩
abbrev main_cst_32 : Ref sig .tc := ⟨.hbm, 301, rfl⟩
abbrev main_v172 : Ref sig .tc := ⟨.hbm, 302, rfl⟩
abbrev main_v173 : Ref sig .tc := ⟨.hbm, 303, rfl⟩
abbrev main_call8_cst : Ref sig .tc := ⟨.hbm, 304, rfl⟩
abbrev main_call8_v0 : Ref sig .tc := ⟨.hbm, 305, rfl⟩
abbrev main_v174 : Ref sig .tc := ⟨.hbm, 306, rfl⟩
abbrev main_cst_33 : Ref sig .tc := ⟨.hbm, 307, rfl⟩
abbrev main_v175 : Ref sig .tc := ⟨.hbm, 308, rfl⟩
abbrev main_v176 : Ref sig .tc := ⟨.hbm, 309, rfl⟩
abbrev main_v177 : Ref sig .tc := ⟨.hbm, 310, rfl⟩
abbrev main_cst_34 : Ref sig .tc := ⟨.hbm, 311, rfl⟩
abbrev main_v178 : Ref sig .tc := ⟨.hbm, 312, rfl⟩
abbrev main_v179 : Ref sig .tc := ⟨.hbm, 313, rfl⟩
abbrev main_cst_35 : Ref sig .tc := ⟨.hbm, 314, rfl⟩
abbrev main_v180 : Ref sig .tc := ⟨.hbm, 315, rfl⟩
abbrev main_cst_36 : Ref sig .tc := ⟨.hbm, 316, rfl⟩
abbrev main_v181 : Ref sig .tc := ⟨.hbm, 317, rfl⟩
abbrev main_v182 : Ref sig .tc := ⟨.hbm, 318, rfl⟩
abbrev main_call9_call0_cst : Ref sig .tc := ⟨.hbm, 319, rfl⟩
abbrev main_call9_call0_v0 : Ref sig .tc := ⟨.hbm, 320, rfl⟩
abbrev main_v183 : Ref sig .tc := ⟨.hbm, 321, rfl⟩
abbrev main_v184 : Ref sig .tc := ⟨.hbm, 322, rfl⟩
abbrev main_v185 : Ref sig .tc := ⟨.hbm, 323, rfl⟩
abbrev main_v186 : Ref sig .tc := ⟨.hbm, 324, rfl⟩
abbrev main_v187 : Ref sig .tc := ⟨.hbm, 325, rfl⟩
abbrev main_v188 : Ref sig .tc := ⟨.hbm, 326, rfl⟩
abbrev main_v189 : Ref sig .tc := ⟨.hbm, 327, rfl⟩
abbrev main_v190 : Ref sig .tc := ⟨.hbm, 328, rfl⟩
abbrev main_v191 : Ref sig .tc := ⟨.hbm, 329, rfl⟩
abbrev main_call10_v0 : Ref sig .tc := ⟨.hbm, 330, rfl⟩
abbrev main_call10_v1 : Ref sig .tc := ⟨.hbm, 331, rfl⟩
abbrev main_call10_v2 : Ref sig .tc := ⟨.hbm, 332, rfl⟩
abbrev main_v192 : Ref sig .tc := ⟨.hbm, 333, rfl⟩
abbrev main_v193 : Ref sig .tc := ⟨.hbm, 334, rfl⟩
abbrev main_v194 : Ref sig .tc := ⟨.hbm, 335, rfl⟩
abbrev main_v195 : Ref sig .tc := ⟨.hbm, 336, rfl⟩
abbrev main_v196 : Ref sig .tc := ⟨.hbm, 337, rfl⟩
abbrev main_v197 : Ref sig .tc := ⟨.hbm, 338, rfl⟩
abbrev main_cst_37 : Ref sig .tc := ⟨.hbm, 339, rfl⟩
abbrev main_v198 : Ref sig .tc := ⟨.hbm, 340, rfl⟩
abbrev main_v199 : Ref sig .tc := ⟨.hbm, 341, rfl⟩
abbrev main_cst_38 : Ref sig .tc := ⟨.hbm, 342, rfl⟩
abbrev main_v200 : Ref sig .tc := ⟨.hbm, 343, rfl⟩
abbrev main_cst_39 : Ref sig .tc := ⟨.hbm, 344, rfl⟩
abbrev main_v201 : Ref sig .tc := ⟨.hbm, 345, rfl⟩
abbrev main_v202 : Ref sig .tc := ⟨.hbm, 346, rfl⟩
abbrev main_cst_40 : Ref sig .tc := ⟨.hbm, 347, rfl⟩
abbrev main_v203 : Ref sig .tc := ⟨.hbm, 348, rfl⟩
abbrev main_call11_v0 : Ref sig .tc := ⟨.hbm, 349, rfl⟩
abbrev main_call11_v1 : Ref sig .tc := ⟨.hbm, 350, rfl⟩
abbrev main_v204 : Ref sig .tc := ⟨.hbm, 351, rfl⟩
abbrev main_v205 : Ref sig .tc := ⟨.hbm, 352, rfl⟩
abbrev main_v206 : Ref sig .tc := ⟨.hbm, 353, rfl⟩
abbrev main_v207 : Ref sig .tc := ⟨.hbm, 354, rfl⟩
abbrev main_v208 : Ref sig .tc := ⟨.hbm, 355, rfl⟩
abbrev main_v209 : Ref sig .tc := ⟨.hbm, 356, rfl⟩
abbrev main_cst_41 : Ref sig .tc := ⟨.hbm, 357, rfl⟩
abbrev main_v210 : Ref sig .tc := ⟨.hbm, 358, rfl⟩
abbrev main_v211 : Ref sig .tc := ⟨.hbm, 359, rfl⟩
abbrev main_call12_call0_cst : Ref sig .tc := ⟨.hbm, 360, rfl⟩
abbrev main_call12_call0_v0 : Ref sig .tc := ⟨.hbm, 361, rfl⟩
abbrev main_v212 : Ref sig .tc := ⟨.hbm, 362, rfl⟩
abbrev main_v213 : Ref sig .tc := ⟨.hbm, 363, rfl⟩
abbrev main_v214 : Ref sig .tc := ⟨.hbm, 364, rfl⟩
abbrev main_v215 : Ref sig .tc := ⟨.hbm, 365, rfl⟩
abbrev main_cst_42 : Ref sig .tc := ⟨.hbm, 366, rfl⟩
abbrev main_v216 : Ref sig .tc := ⟨.hbm, 367, rfl⟩
abbrev main_v217 : Ref sig .tc := ⟨.hbm, 368, rfl⟩
abbrev main_v218 : Ref sig .tc := ⟨.hbm, 369, rfl⟩
abbrev main_v219 : Ref sig .tc := ⟨.hbm, 370, rfl⟩
abbrev main_v220 : Ref sig .tc := ⟨.hbm, 371, rfl⟩
abbrev main_cst_43 : Ref sig .tc := ⟨.hbm, 372, rfl⟩
abbrev main_v221 : Ref sig .tc := ⟨.hbm, 373, rfl⟩
abbrev main_v222 : Ref sig .tc := ⟨.hbm, 374, rfl⟩
abbrev main_v223 : Ref sig .tc := ⟨.hbm, 375, rfl⟩
abbrev main_v224 : Ref sig .tc := ⟨.hbm, 376, rfl⟩
abbrev main_v225 : Ref sig .tc := ⟨.hbm, 377, rfl⟩

abbrev nD : Nat := 1
abbrev τ : Topo := Topo.v7x

variable {F : FTy → Type} [FloatOps F]
-- ==== WgradFfn.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .f32⟩
  | .hbm, ⟨3, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .bf16⟩
  | .local _ .vmem, ⟨7, _⟩ => ⟨S1408x1024, .bf16⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== WgradFfnRefIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 12
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S_, .f32⟩
  | .hbm, ⟨3, _⟩ => ⟨S2816x1024, .f32⟩
  | .hbm, ⟨4, _⟩ => ⟨S8192x1024, .f32⟩
  | .hbm, ⟨5, _⟩ => ⟨S1024x2816, .f32⟩
  | .hbm, ⟨6, _⟩ => ⟨S8192x2816, .f32⟩
  | .hbm, ⟨7, _⟩ => ⟨S8192x2816, .f32⟩
  | .hbm, ⟨8, _⟩ => ⟨S2816x1024, .f32⟩
  | .hbm, ⟨9, _⟩ => ⟨S1024x2816, .f32⟩
  | .hbm, ⟨10, _⟩ => ⟨S2816x1024, .f32⟩
  | .hbm, ⟨11, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== WgradDown.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S2816x1024, .f32⟩
  | .hbm, ⟨3, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .f32⟩
  | .local _ .vmem, ⟨3, _⟩ => ⟨S2048x1024, .f32⟩
  | .local _ .vmem, ⟨4, _⟩ => ⟨S1408x1024, .f32⟩
  | .local _ .vmem, ⟨5, _⟩ => ⟨S1408x1024, .f32⟩
  | .local _ .vmem, ⟨6, _⟩ => ⟨S1408x1024, .bf16⟩
  | .local _ .vmem, ⟨7, _⟩ => ⟨S1408x1024, .bf16⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== WgradDownRefIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S1024x2816, .f32⟩
  | .hbm, ⟨7, _⟩ => ⟨S2816x1024, .f32⟩
  | .hbm, ⟨8, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== WgradOut.lean ====
abbrev S8192x512 : Shape := ⟨2, ![8192, 512]⟩
abbrev S8192x1024 : Shape := ⟨2, ![8192, 1024]⟩
abbrev S512x1024 : Shape := ⟨2, ![512, 1024]⟩
abbrev S2048x512 : Shape := ⟨2, ![2048, 512]⟩
abbrev S2048x1024 : Shape := ⟨2, ![2048, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S8192x1024, .f32⟩
  | .hbm, ⟨2, _⟩ => ⟨S512x1024, .f32⟩
  | .hbm, ⟨3, _⟩ => ⟨S512x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .f32⟩
  | .local _ .vmem, ⟨3, _⟩ => ⟨S2048x1024, .f32⟩
  | .local _ .vmem, ⟨4, _⟩ => ⟨S512x1024, .f32⟩
  | .local _ .vmem, ⟨5, _⟩ => ⟨S512x1024, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]
-- ==== WgradOutRefIdeal.lean ====
abbrev S8192x512 : Shape := ⟨2, ![8192, 512]⟩
abbrev S8192x1024 : Shape := ⟨2, ![8192, 1024]⟩
abbrev S_ : Shape := ⟨0, ![]⟩
abbrev S512x1024 : Shape := ⟨2, ![512, 1024]⟩
abbrev S1024x512 : Shape := ⟨2, ![1024, 512]⟩

abbrev nBuf : Space → Nat
  | .hbm => 9
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x1024, .f32⟩
  | .hbm, ⟨2, _⟩ => ⟨S_, .f32⟩
  | .hbm, ⟨3, _⟩ => ⟨S512x1024, .f32⟩
  | .hbm, ⟨4, _⟩ => ⟨S8192x512, .f32⟩
  | .hbm, ⟨5, _⟩ => ⟨S8192x1024, .f32⟩
  | .hbm, ⟨6, _⟩ => ⟨S1024x512, .f32⟩
  | .hbm, ⟨7, _⟩ => ⟨S512x1024, .f32⟩
  | .hbm, ⟨8, _⟩ => ⟨S512x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== WgradProj.lean ====
abbrev S8192x256 : Shape := ⟨2, ![8192, 256]⟩
abbrev S8192x1024 : Shape := ⟨2, ![8192, 1024]⟩
abbrev S256x1024 : Shape := ⟨2, ![256, 1024]⟩
abbrev S2048x256 : Shape := ⟨2, ![2048, 256]⟩
abbrev S2048x1024 : Shape := ⟨2, ![2048, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x256, .f32⟩
  | .hbm, ⟨1, _⟩ => ⟨S8192x1024, .bf16⟩
  | .hbm, ⟨2, _⟩ => ⟨S256x1024, .f32⟩
  | .hbm, ⟨3, _⟩ => ⟨S256x1024, .bf16⟩
  | .local _ .vmem, ⟨0, _⟩ => ⟨S2048x256, .f32⟩
  | .local _ .vmem, ⟨1, _⟩ => ⟨S2048x256, .f32⟩
  | .local _ .vmem, ⟨2, _⟩ => ⟨S2048x1024, .bf16⟩
  | .local _ .vmem, ⟨3, _⟩ => ⟨S2048x1024, .bf16⟩
  | .local _ .vmem, ⟨4, _⟩ => ⟨S256x1024, .f32⟩
  | .local _ .vmem, ⟨5, _⟩ => ⟨S256x1024, .bf16⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]
-- ==== WgradProjRefIdeal.lean ====
abbrev S8192x256 : Shape := ⟨2, ![8192, 256]⟩
abbrev S8192x1024 : Shape := ⟨2, ![8192, 1024]⟩
abbrev S_ : Shape := ⟨0, ![]⟩
abbrev S256x1024 : Shape := ⟨2, ![256, 1024]⟩
abbrev S1024x256 : Shape := ⟨2, ![1024, 256]⟩

abbrev nBuf : Space → Nat
  | .hbm => 9
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x1024, .bf16⟩
  | .hbm, ⟨2, _⟩ => ⟨S_, .f32⟩
  | .hbm, ⟨3, _⟩ => ⟨S256x1024, .f32⟩
  | .hbm, ⟨4, _⟩ => ⟨S8192x1024, .f32⟩
  | .hbm, ⟨5, _⟩ => ⟨S8192x1024, .f32⟩
  | .hbm, ⟨6, _⟩ => ⟨S1024x256, .f32⟩
  | .hbm, ⟨7, _⟩ => ⟨S256x1024, .f32⟩
  | .hbm, ⟨8, _⟩ => ⟨S256x1024, .bf16⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== WgradGate.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .hbm, ⟨3, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]
-- ==== WgradGateRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== WgradHg.lean ====
abbrev S8192x2048 : Shape := ⟨2, ![8192, 2048]⟩
abbrev S8192x1024 : Shape := ⟨2, ![8192, 1024]⟩
abbrev S2048x1024 : Shape := ⟨2, ![2048, 1024]⟩
abbrev S1x2048 : Shape := ⟨2, ![1, 2048]⟩
abbrev S1024x1024 : Shape := ⟨2, ![1024, 1024]⟩
abbrev S1x1024 : Shape := ⟨2, ![1, 1024]⟩
abbrev S1024 : Shape := ⟨1, ![1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S2048x1024, .f32⟩
  | .hbm, ⟨3, _⟩ => ⟨S1x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]
-- ==== WgradHgRefIdeal.lean ====
abbrev S8192x2048 : Shape := ⟨2, ![8192, 2048]⟩
abbrev S8192x1024 : Shape := ⟨2, ![8192, 1024]⟩
abbrev S_ : Shape := ⟨0, ![]⟩
abbrev S2048x1024 : Shape := ⟨2, ![2048, 1024]⟩
abbrev S1x2048 : Shape := ⟨2, ![1, 2048]⟩
abbrev S1024x2048 : Shape := ⟨2, ![1024, 2048]⟩
abbrev S2048 : Shape := ⟨1, ![2048]⟩

abbrev nBuf : Space → Nat
  | .hbm => 18
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S_, .f32⟩
  | .hbm, ⟨3, _⟩ => ⟨S2048x1024, .f32⟩
  | .hbm, ⟨4, _⟩ => ⟨S_, .f32⟩
  | .hbm, ⟨5, _⟩ => ⟨S1x2048, .f32⟩
  | .hbm, ⟨6, _⟩ => ⟨S8192x1024, .f32⟩
  | .hbm, ⟨7, _⟩ => ⟨S1024x2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S2048, .f32⟩
  | .hbm, ⟨14, _⟩ => ⟨S1x2048, .f32⟩
  | .hbm, ⟨15, _⟩ => ⟨S2048x1024, .f32⟩
  | .hbm, ⟨16, _⟩ => ⟨S1024x2048, .f32⟩
  | .hbm, ⟨17, _⟩ => ⟨S2048x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== WgradMl.lean ====
abbrev S8192x1664 : Shape := ⟨2, ![8192, 1664]⟩
abbrev S8192x1024 : Shape := ⟨2, ![8192, 1024]⟩
abbrev S1664x1024 : Shape := ⟨2, ![1664, 1024]⟩
abbrev S1x1664 : Shape := ⟨2, ![1, 1664]⟩
abbrev S2048x1664 : Shape := ⟨2, ![2048, 1664]⟩
abbrev S2048x1024 : Shape := ⟨2, ![2048, 1024]⟩
abbrev S1664 : Shape := ⟨1, ![1664]⟩

abbrev nBuf : Space → Nat
  | .hbm => 4
  | .vmem => 6
  | .smem => 0
  | _ => 0

abbrev bufTy : (tb : Table) → Fin (tcTables nBuf tb) → BufTy
  | .hbm, ⟨0, _⟩ => ⟨S8192x1664, .bf16⟩
  | .hbm, ⟨1, _⟩ => ⟨S8192x1024, .bf16⟩
  | .hbm, ⟨2, _⟩ => ⟨S1664x1024, .f32⟩
  | .hbm, ⟨3, _⟩ => ⟨S1x1664, .f32⟩
  | .local _ .vmem, ⟨0, _⟩ => ⟨S2048x1664, .bf16⟩
  | .local _ .vmem, ⟨1, _⟩ => ⟨S2048x1664, .bf16⟩
  | .local _ .vmem, ⟨2, _⟩ => ⟨S2048x1024, .bf16⟩
  | .local _ .vmem, ⟨3, _⟩ => ⟨S2048x1024, .bf16⟩
  | .local _ .vmem, ⟨4, _⟩ => ⟨S1664x1024, .f32⟩
  | .local _ .vmem, ⟨5, _⟩ => ⟨S1x1664, .f32⟩
  | _, _ => ⟨S8192x1664, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨3, ![1, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage0_0 : Fin 2 → Memref sig .tc .vmem S2048x1664 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1664x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 1 → Memref sig .tc .vmem S1x1664 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false, false]
-- ==== WgradMlRefIdeal.lean ====
abbrev S8192x1664 : Shape := ⟨2, ![8192, 1664]⟩
abbrev S8192x1024 : Shape := ⟨2, ![8192, 1024]⟩
abbrev S_ : Shape := ⟨0, ![]⟩
abbrev S1664x1024 : Shape := ⟨2, ![1664, 1024]⟩
abbrev S1x1664 : Shape := ⟨2, ![1, 1664]⟩
abbrev S1024x1664 : Shape := ⟨2, ![1024, 1664]⟩
abbrev S1664 : Shape := ⟨1, ![1664]⟩

abbrev nBuf : Space → Nat
  | .hbm => 18
  | .vmem => 0
  | .smem => 0
  | _ => 0

abbrev bufTy : (tb : Table) → Fin (tcTables nBuf tb) → BufTy
  | .hbm, ⟨0, _⟩ => ⟨S8192x1664, .bf16⟩
  | .hbm, ⟨1, _⟩ => ⟨S8192x1024, .bf16⟩
  | .hbm, ⟨2, _⟩ => ⟨S_, .f32⟩
  | .hbm, ⟨3, _⟩ => ⟨S1664x1024, .f32⟩
  | .hbm, ⟨4, _⟩ => ⟨S_, .f32⟩
  | .hbm, ⟨5, _⟩ => ⟨S1x1664, .f32⟩
  | .hbm, ⟨6, _⟩ => ⟨S8192x1024, .f32⟩
  | .hbm, ⟨7, _⟩ => ⟨S1024x1664, .f32⟩
  | .hbm, ⟨8, _⟩ => ⟨S8192x1664, .f32⟩
  | .hbm, ⟨9, _⟩ => ⟨S8192x1664, .f32⟩
  | .hbm, ⟨10, _⟩ => ⟨S8192x1664, .f32⟩
  | .hbm, ⟨11, _⟩ => ⟨S8192x1664, .f32⟩
  | .hbm, ⟨12, _⟩ => ⟨S_, .f32⟩
  | .hbm, ⟨13, _⟩ => ⟨S1664, .f32⟩
  | .hbm, ⟨14, _⟩ => ⟨S1x1664, .f32⟩
  | .hbm, ⟨15, _⟩ => ⟨S1664x1024, .f32⟩
  | .hbm, ⟨16, _⟩ => ⟨S1024x1664, .f32⟩
  | .hbm, ⟨17, _⟩ => ⟨S1664x1024, .f32⟩
  | _, _ => ⟨S8192x1664, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== FfnUp.lean ====
abbrev S8192x1024 : Shape := ⟨2, ![8192, 1024]⟩
abbrev S2816x1024 : Shape := ⟨2, ![2816, 1024]⟩
abbrev S8192x2816 : Shape := ⟨2, ![8192, 2816]⟩
abbrev S512x1024 : Shape := ⟨2, ![512, 1024]⟩
abbrev S512x2816 : Shape := ⟨2, ![512, 2816]⟩

abbrev nBuf : Space → Nat
  | .hbm => 6
  | .vmem => 10
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S2816x1024, .bf16⟩
  | .hbm, ⟨3, _⟩ => ⟨S8192x2816, .bf16⟩
  | .hbm, ⟨4, _⟩ => ⟨S8192x2816, .bf16⟩
  | .hbm, ⟨5, _⟩ => ⟨S8192x2816, .bf16⟩
  | .local _ .vmem, ⟨0, _⟩ => ⟨S512x1024, .bf16⟩
  | .local _ .vmem, ⟨1, _⟩ => ⟨S512x1024, .bf16⟩
  | .local _ .vmem, ⟨2, _⟩ => ⟨S2816x1024, .bf16⟩
  | .local _ .vmem, ⟨3, _⟩ => ⟨S2816x1024, .bf16⟩
  | .local _ .vmem, ⟨4, _⟩ => ⟨S512x2816, .bf16⟩
  | .local _ .vmem, ⟨5, _⟩ => ⟨S512x2816, .bf16⟩
  | .local _ .vmem, ⟨6, _⟩ => ⟨S512x2816, .bf16⟩
  | .local _ .vmem, ⟨7, _⟩ => ⟨S512x2816, .bf16⟩
  | .local _ .vmem, ⟨8, _⟩ => ⟨S512x2816, .bf16⟩
  | .local _ .vmem, ⟨9, _⟩ => ⟨S512x2816, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnUpRefIdeal.lean ====
abbrev S8192x1024 : Shape := ⟨2, ![8192, 1024]⟩
abbrev S2816x1024 : Shape := ⟨2, ![2816, 1024]⟩
abbrev S1024x2816 : Shape := ⟨2, ![1024, 2816]⟩
abbrev S8192x2816 : Shape := ⟨2, ![8192, 2816]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S2816x1024, .bf16⟩
  | .hbm, ⟨3, _⟩ => ⟨S8192x1024, .f32⟩
  | .hbm, ⟨4, _⟩ => ⟨S2816x1024, .f32⟩
  | .hbm, ⟨5, _⟩ => ⟨S2816x1024, .f32⟩
  | .hbm, ⟨6, _⟩ => ⟨S1024x2816, .f32⟩
  | .hbm, ⟨7, _⟩ => ⟨S8192x2816, .f32⟩
  | .hbm, ⟨8, _⟩ => ⟨S1024x2816, .f32⟩
  | .hbm, ⟨9, _⟩ => ⟨S8192x2816, .f32⟩
  | .hbm, ⟨10, _⟩ => ⟨S8192x2816, .bf16⟩
  | .hbm, ⟨11, _⟩ => ⟨S8192x2816, .bf16⟩
  | .hbm, ⟨12, _⟩ => ⟨S8192x2816, .f32⟩
  | .hbm, ⟨13, _⟩ => ⟨S8192x2816, .f32⟩
  | .hbm, ⟨14, _⟩ => ⟨S_, .f32⟩
  | .hbm, ⟨15, _⟩ => ⟨S8192x2816, .f32⟩
  | .hbm, ⟨16, _⟩ => ⟨S8192x2816, .f32⟩
  | .hbm, ⟨17, _⟩ => ⟨S_, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩

abbrev nD : Nat := 1
abbrev τ : Topo := Topo.v7x

variable {F : FTy → Type} [FloatOps F]
-- ==== FfnDown.lean ====
abbrev S8192x2816 : Shape := ⟨2, ![8192, 2816]⟩
abbrev S8192x1024 : Shape := ⟨2, ![8192, 1024]⟩
abbrev S2816x1024 : Shape := ⟨2, ![2816, 1024]⟩
abbrev S1x1024 : Shape := ⟨2, ![1, 1024]⟩
abbrev S8192x1 : Shape := ⟨2, ![8192, 1]⟩
abbrev S1024x2816 : Shape := ⟨2, ![1024, 2816]⟩
abbrev S1024x1024 : Shape := ⟨2, ![1024, 1024]⟩
abbrev S1024x1 : Shape := ⟨2, ![1024, 1]⟩
abbrev S1024 : Shape := ⟨1, ![1024]⟩

abbrev nBuf : Space → Nat
  | .hbm => 9
  | .vmem => 15
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S2816x1024, .bf16⟩
  | .hbm, ⟨3, _⟩ => ⟨S1x1024, .f32⟩
  | .hbm, ⟨4, _⟩ => ⟨S1x1024, .f32⟩
  | .hbm, ⟨5, _⟩ => ⟨S8192x1024, .f32⟩
  | .hbm, ⟨6, _⟩ => ⟨S8192x1024, .bf16⟩
  | .hbm, ⟨7, _⟩ => ⟨S8192x1, .f32⟩
  | .hbm, ⟨8, _⟩ => ⟨S8192x1024, .bf16⟩
  | .local _ .vmem, ⟨0, _⟩ => ⟨S1024x2816, .bf16⟩
  | .local _ .vmem, ⟨1, _⟩ => ⟨S1024x2816, .bf16⟩
  | .local _ .vmem, ⟨2, _⟩ => ⟨S1024x1024, .f32⟩
  | .local _ .vmem, ⟨3, _⟩ => ⟨S1024x1024, .f32⟩
  | .local _ .vmem, ⟨4, _⟩ => ⟨S2816x1024, .bf16⟩
  | .local _ .vmem, ⟨5, _⟩ => ⟨S1x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | .local _ .vmem, ⟨11, _⟩ => ⟨S1024x1, .f32⟩
  | .local _ .vmem, ⟨12, _⟩ => ⟨S1024x1, .f32⟩
  | .local _ .vmem, ⟨13, _⟩ => ⟨S1024x1024, .bf16⟩
  | .local _ .vmem, ⟨14, _⟩ => ⟨S1024x1024, .bf16⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FfnDownRefIdeal.lean ====
abbrev S8192x2816 : Shape := ⟨2, ![8192, 2816]⟩
abbrev S8192x1024 : Shape := ⟨2, ![8192, 1024]⟩
abbrev S2816x1024 : Shape := ⟨2, ![2816, 1024]⟩
abbrev S1x1024 : Shape := ⟨2, ![1, 1024]⟩
abbrev S_ : Shape := ⟨0, ![]⟩
abbrev S1024 : Shape := ⟨1, ![1024]⟩
abbrev S8192 : Shape := ⟨1, ![8192]⟩
abbrev S8192x1 : Shape := ⟨2, ![8192, 1]⟩

abbrev nBuf : Space → Nat
  | .hbm => 45
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S2816x1024, .bf16⟩
  | .hbm, ⟨3, _⟩ => ⟨S1x1024, .f32⟩
  | .hbm, ⟨4, _⟩ => ⟨S1x1024, .f32⟩
  | .hbm, ⟨5, _⟩ => ⟨S8192x2816, .f32⟩
  | .hbm, ⟨6, _⟩ => ⟨S2816x1024, .f32⟩
  | .hbm, ⟨7, _⟩ => ⟨S8192x1024, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S1024, .f32⟩
  | .hbm, ⟨13, _⟩ => ⟨S1024, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S1x1024, .f32⟩
  | .hbm, ⟨38, _⟩ => ⟨S8192x1024, .f32⟩
  | .hbm, ⟨39, _⟩ => ⟨S8192x1024, .f32⟩
  | .hbm, ⟨40, _⟩ => ⟨S1x1024, .f32⟩
  | .hbm, ⟨41, _⟩ => ⟨S8192x1024, .f32⟩
  | .hbm, ⟨42, _⟩ => ⟨S8192x1024, .f32⟩
  | .hbm, ⟨43, _⟩ => ⟨S8192x1024, .bf16⟩
  | .hbm, ⟨44, _⟩ => ⟨S8192x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]
-- ==== Outproj.lean ====
abbrev S8192x512 : Shape := ⟨2, ![8192, 512]⟩
abbrev S8192x1024 : Shape := ⟨2, ![8192, 1024]⟩
abbrev S1024x1024 : Shape := ⟨2, ![1024, 1024]⟩
abbrev S1x1024 : Shape := ⟨2, ![1, 1024]⟩
abbrev S8192x1 : Shape := ⟨2, ![8192, 1]⟩
abbrev S1024x512 : Shape := ⟨2, ![1024, 512]⟩
abbrev S1024x1 : Shape := ⟨2, ![1024, 1]⟩
abbrev S512x1024 : Shape := ⟨2, ![512, 1024]⟩
abbrev S1024 : Shape := ⟨1, ![1024]⟩

abbrev nBuf : Space → Nat
  | .hbm => 10
  | .vmem => 17
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x1024, .f32⟩
  | .hbm, ⟨3, _⟩ => ⟨S1024x1024, .bf16⟩
  | .hbm, ⟨4, _⟩ => ⟨S1x1024, .f32⟩
  | .hbm, ⟨5, _⟩ => ⟨S1x1024, .f32⟩
  | .hbm, ⟨6, _⟩ => ⟨S8192x1024, .f32⟩
  | .hbm, ⟨7, _⟩ => ⟨S8192x1024, .bf16⟩
  | .hbm, ⟨8, _⟩ => ⟨S8192x1, .f32⟩
  | .hbm, ⟨9, _⟩ => ⟨S8192x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S1024x1, .f32⟩
  | .local _ .vmem, ⟨14, _⟩ => ⟨S1024x1, .f32⟩
  | .local _ .vmem, ⟨15, _⟩ => ⟨S1024x1024, .bf16⟩
  | .local _ .vmem, ⟨16, _⟩ => ⟨S1024x1024, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== OutprojRefIdeal.lean ====
abbrev S8192x512 : Shape := ⟨2, ![8192, 512]⟩
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩
abbrev S1024 : Shape := ⟨1, ![1024]⟩
abbrev S8192 : Shape := ⟨1, ![8192]⟩
abbrev S8192x1 : Shape := ⟨2, ![8192, 1]⟩

abbrev nBuf : Space → Nat
  | .hbm => 47
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x1024, .f32⟩
  | .hbm, ⟨3, _⟩ => ⟨S1024x1024, .bf16⟩
  | .hbm, ⟨4, _⟩ => ⟨S1x1024, .f32⟩
  | .hbm, ⟨5, _⟩ => ⟨S1x1024, .f32⟩
  | .hbm, ⟨6, _⟩ => ⟨S8192x1024, .bf16⟩
  | .hbm, ⟨7, _⟩ => ⟨S8192x1024, .f32⟩
  | .hbm, ⟨8, _⟩ => ⟨S1024x1024, .f32⟩
  | .hbm, ⟨9, _⟩ => ⟨S8192x1024, .f32⟩
  | .hbm, ⟨10, _⟩ => ⟨S_, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S1024, .f32⟩
  | .hbm, ⟨15, _⟩ => ⟨S1024, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x1, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S1x1024, .f32⟩
  | .hbm, ⟨40, _⟩ => ⟨S8192x1024, .f32⟩
  | .hbm, ⟨41, _⟩ => ⟨S8192x1024, .f32⟩
  | .hbm, ⟨42, _⟩ => ⟨S1x1024, .f32⟩
  | .hbm, ⟨43, _⟩ => ⟨S8192x1024, .f32⟩
  | .hbm, ⟨44, _⟩ => ⟨S8192x1024, .f32⟩
  | .hbm, ⟨45, _⟩ => ⟨S8192x1024, .bf16⟩
  | .hbm, ⟨46, _⟩ => ⟨S8192x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Inproj.lean ====
abbrev S8192x1024 : Shape := ⟨2, ![8192, 1024]⟩
abbrev S2048x1024 : Shape := ⟨2, ![2048, 1024]⟩
abbrev S1664x1024 : Shape := ⟨2, ![1664, 1024]⟩
abbrev S1x2048 : Shape := ⟨2, ![1, 2048]⟩
abbrev S1x1664 : Shape := ⟨2, ![1, 1664]⟩
abbrev S8192x2048 : Shape := ⟨2, ![8192, 2048]⟩
abbrev S8192x1664 : Shape := ⟨2, ![8192, 1664]⟩
abbrev S512x1024 : Shape := ⟨2, ![512, 1024]⟩
abbrev S512x2048 : Shape := ⟨2, ![512, 2048]⟩
abbrev S512x1664 : Shape := ⟨2, ![512, 1664]⟩

abbrev nBuf : Space → Nat
  | .hbm => 8
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S2048x1024, .bf16⟩
  | .hbm, ⟨2, _⟩ => ⟨S1664x1024, .bf16⟩
  | .hbm, ⟨3, _⟩ => ⟨S1x2048, .f32⟩
  | .hbm, ⟨4, _⟩ => ⟨S1x1664, .f32⟩
  | .hbm, ⟨5, _⟩ => ⟨S8192x2048, .f32⟩
  | .hbm, ⟨6, _⟩ => ⟨S8192x1664, .f32⟩
  | .hbm, ⟨7, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S2048x1024, .bf16⟩
  | .local _ .vmem, ⟨3, _⟩ => ⟨S1664x1024, .bf16⟩
  | .local _ .vmem, ⟨4, _⟩ => ⟨S1x2048, .f32⟩
  | .local _ .vmem, ⟨5, _⟩ => ⟨S1x1664, .f32⟩
  | .local _ .vmem, ⟨6, _⟩ => ⟨S512x2048, .f32⟩
  | .local _ .vmem, ⟨7, _⟩ => ⟨S512x2048, .f32⟩
  | .local _ .vmem, ⟨8, _⟩ => ⟨S512x1664, .f32⟩
  | .local _ .vmem, ⟨9, _⟩ => ⟨S512x1664, .f32⟩
  | .local _ .vmem, ⟨10, _⟩ => ⟨S512x1024, .bf16⟩
  | .local _ .vmem, ⟨11, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1664x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1664 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1664 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== InprojRefIdeal.lean ====
abbrev S8192x1024 : Shape := ⟨2, ![8192, 1024]⟩
abbrev S2048x1024 : Shape := ⟨2, ![2048, 1024]⟩
abbrev S1664x1024 : Shape := ⟨2, ![1664, 1024]⟩
abbrev S1x2048 : Shape := ⟨2, ![1, 2048]⟩
abbrev S1x1664 : Shape := ⟨2, ![1, 1664]⟩
abbrev S1024x2048 : Shape := ⟨2, ![1024, 2048]⟩
abbrev S8192x2048 : Shape := ⟨2, ![8192, 2048]⟩
abbrev S2048 : Shape := ⟨1, ![2048]⟩
abbrev S1024x1664 : Shape := ⟨2, ![1024, 1664]⟩
abbrev S8192x1664 : Shape := ⟨2, ![8192, 1664]⟩
abbrev S1664 : Shape := ⟨1, ![1664]⟩

abbrev nBuf : Space → Nat
  | .hbm => 20
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2048x1024, .bf16⟩
  | .hbm, ⟨2, _⟩ => ⟨S1664x1024, .bf16⟩
  | .hbm, ⟨3, _⟩ => ⟨S1x2048, .f32⟩
  | .hbm, ⟨4, _⟩ => ⟨S1x1664, .f32⟩
  | .hbm, ⟨5, _⟩ => ⟨S2048x1024, .f32⟩
  | .hbm, ⟨6, _⟩ => ⟨S1024x2048, .f32⟩
  | .hbm, ⟨7, _⟩ => ⟨S8192x2048, .f32⟩
  | .hbm, ⟨8, _⟩ => ⟨S2048, .f32⟩
  | .hbm, ⟨9, _⟩ => ⟨S1x2048, .f32⟩
  | .hbm, ⟨10, _⟩ => ⟨S8192x2048, .f32⟩
  | .hbm, ⟨11, _⟩ => ⟨S8192x2048, .f32⟩
  | .hbm, ⟨12, _⟩ => ⟨S1664x1024, .f32⟩
  | .hbm, ⟨13, _⟩ => ⟨S1024x1664, .f32⟩
  | .hbm, ⟨14, _⟩ => ⟨S8192x1664, .f32⟩
  | .hbm, ⟨15, _⟩ => ⟨S1664, .f32⟩
  | .hbm, ⟨16, _⟩ => ⟨S1x1664, .f32⟩
  | .hbm, ⟨17, _⟩ => ⟨S8192x1664, .f32⟩
  | .hbm, ⟨18, _⟩ => ⟨S8192x1664, .f32⟩
  | .hbm, ⟨19, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== InprojBwd.lean ====
abbrev S8192x1024 : Shape := ⟨2, ![8192, 1024]⟩
abbrev S8192x2048 : Shape := ⟨2, ![8192, 2048]⟩
abbrev S8192x512 : Shape := ⟨2, ![8192, 512]⟩
abbrev S8192x128 : Shape := ⟨2, ![8192, 128]⟩
abbrev S2048x1024 : Shape := ⟨2, ![2048, 1024]⟩
abbrev S1664x1024 : Shape := ⟨2, ![1664, 1024]⟩
abbrev S8192x1664 : Shape := ⟨2, ![8192, 1664]⟩
abbrev S512x1024 : Shape := ⟨2, ![512, 1024]⟩
abbrev S512x2048 : Shape := ⟨2, ![512, 2048]⟩
abbrev S512x512 : Shape := ⟨2, ![512, 512]⟩
abbrev S512x128 : Shape := ⟨2, ![512, 128]⟩
abbrev S512x1664 : Shape := ⟨2, ![512, 1664]⟩

abbrev nBuf : Space → Nat
  | .hbm => 10
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S8192x2048, .bf16⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S8192x128, .bf16⟩
  | .hbm, ⟨6, _⟩ => ⟨S2048x1024, .bf16⟩
  | .hbm, ⟨7, _⟩ => ⟨S1664x1024, .bf16⟩
  | .hbm, ⟨8, _⟩ => ⟨S8192x1024, .f32⟩
  | .hbm, ⟨9, _⟩ => ⟨S8192x1664, .bf16⟩
  | .local _ .vmem, ⟨0, _⟩ => ⟨S512x1024, .f32⟩
  | .local _ .vmem, ⟨1, _⟩ => ⟨S512x1024, .f32⟩
  | .local _ .vmem, ⟨2, _⟩ => ⟨S512x2048, .bf16⟩
  | .local _ .vmem, ⟨3, _⟩ => ⟨S512x2048, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x128, .bf16⟩
  | .local _ .vmem, ⟨11, _⟩ => ⟨S512x128, .bf16⟩
  | .local _ .vmem, ⟨12, _⟩ => ⟨S2048x1024, .bf16⟩
  | .local _ .vmem, ⟨13, _⟩ => ⟨S1664x1024, .bf16⟩
  | .local _ .vmem, ⟨14, _⟩ => ⟨S512x1024, .f32⟩
  | .local _ .vmem, ⟨15, _⟩ => ⟨S512x1024, .f32⟩
  | .local _ .vmem, ⟨16, _⟩ => ⟨S512x1664, .bf16⟩
  | .local _ .vmem, ⟨17, _⟩ => ⟨S512x1664, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2048x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1664x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1664 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== InprojBwdRefIdeal.lean ====
abbrev S8192x1024 : Shape := ⟨2, ![8192, 1024]⟩
abbrev S8192x2048 : Shape := ⟨2, ![8192, 2048]⟩
abbrev S8192x512 : Shape := ⟨2, ![8192, 512]⟩
abbrev S8192x128 : Shape := ⟨2, ![8192, 128]⟩
abbrev S2048x1024 : Shape := ⟨2, ![2048, 1024]⟩
abbrev S1664x1024 : Shape := ⟨2, ![1664, 1024]⟩
abbrev S8192x1664 : Shape := ⟨2, ![8192, 1664]⟩
abbrev S_ : Shape := ⟨0, ![]⟩
abbrev S1024x2048 : Shape := ⟨2, ![1024, 2048]⟩
abbrev S1024x1664 : Shape := ⟨2, ![1024, 1664]⟩

abbrev nBuf : Space → Nat
  | .hbm => 30
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2048, .bf16⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S8192x128, .bf16⟩
  | .hbm, ⟨6, _⟩ => ⟨S2048x1024, .bf16⟩
  | .hbm, ⟨7, _⟩ => ⟨S1664x1024, .bf16⟩
  | .hbm, ⟨8, _⟩ => ⟨S8192x128, .f32⟩
  | .hbm, ⟨9, _⟩ => ⟨S8192x1664, .f32⟩
  | .hbm, ⟨10, _⟩ => ⟨S_, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S2048x1024, .f32⟩
  | .hbm, ⟨16, _⟩ => ⟨S1024x2048, .f32⟩
  | .hbm, ⟨17, _⟩ => ⟨S8192x2048, .f32⟩
  | .hbm, ⟨18, _⟩ => ⟨S1664x1024, .f32⟩
  | .hbm, ⟨19, _⟩ => ⟨S1024x1664, .f32⟩
  | .hbm, ⟨20, _⟩ => ⟨S8192x1664, .f32⟩
  | .hbm, ⟨21, _⟩ => ⟨S8192x2048, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1664, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩

abbrev nD : Nat := 1
abbrev τ : Topo := Topo.v7x

variable {F : FTy → Type} [FloatOps F]
-- ==== FfnBwd.lean ====
abbrev S8192x1024 : Shape := ⟨2, ![8192, 1024]⟩
abbrev S1x1024 : Shape := ⟨2, ![1, 1024]⟩
abbrev S2816x1024 : Shape := ⟨2, ![2816, 1024]⟩
abbrev S1024x1024 : Shape := ⟨2, ![1024, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x2816 : Shape := ⟨2, ![1024, 2816]⟩
abbrev S8192x2816 : Shape := ⟨2, ![8192, 2816]⟩
abbrev S8192x512 : Shape := ⟨2, ![8192, 512]⟩
abbrev S256x1024 : Shape := ⟨2, ![256, 1024]⟩
abbrev S256x2816 : Shape := ⟨2, ![256, 2816]⟩
abbrev S256x1 : Shape := ⟨2, ![256, 1]⟩
abbrev S256x512 : Shape := ⟨2, ![256, 512]⟩
abbrev S256 : Shape := ⟨1, ![256]⟩

abbrev nBuf : Space → Nat
  | .hbm => 55
  | .vmem => 27
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S2816x1024, .bf16⟩
  | .hbm, ⟨5, _⟩ => ⟨S2816x1024, .bf16⟩
  | .hbm, ⟨6, _⟩ => ⟨S2816x1024, .bf16⟩
  | .hbm, ⟨7, _⟩ => ⟨S1024x1024, .bf16⟩
  | .hbm, ⟨8, _⟩ => ⟨S1024, .f32⟩
  | .hbm, ⟨9, _⟩ => ⟨S1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S1x1024, .f32⟩
  | .hbm, ⟨37, _⟩ => ⟨S8192x1024, .f32⟩
  | .hbm, ⟨38, _⟩ => ⟨S8192x1024, .f32⟩
  | .hbm, ⟨39, _⟩ => ⟨S2816x1024, .f32⟩
  | .hbm, ⟨40, _⟩ => ⟨S1024x2816, .f32⟩
  | .hbm, ⟨41, _⟩ => ⟨S8192x2816, .f32⟩
  | .hbm, ⟨42, _⟩ => ⟨S2816x1024, .f32⟩
  | .hbm, ⟨43, _⟩ => ⟨S1024x2816, .f32⟩
  | .hbm, ⟨44, _⟩ => ⟨S8192x2816, .f32⟩
  | .hbm, ⟨45, _⟩ => ⟨S8192x2816, .bf16⟩
  | .hbm, ⟨46, _⟩ => ⟨S8192x2816, .bf16⟩
  | .hbm, ⟨47, _⟩ => ⟨S8192x1024, .bf16⟩
  | .hbm, ⟨48, _⟩ => ⟨S8192x1024, .f32⟩
  | .hbm, ⟨49, _⟩ => ⟨S8192x2816, .bf16⟩
  | .hbm, ⟨50, _⟩ => ⟨S8192x2816, .bf16⟩
  | .hbm, ⟨51, _⟩ => ⟨S1x1024, .f32⟩
  | .hbm, ⟨52, _⟩ => ⟨S1x1024, .f32⟩
  | .hbm, ⟨53, _⟩ => ⟨S8192x512, .f32⟩
  | .hbm, ⟨54, _⟩ => ⟨S8192x512, .f32⟩
  | .local _ .vmem, ⟨0, _⟩ => ⟨S256x1024, .f32⟩
  | .local _ .vmem, ⟨1, _⟩ => ⟨S256x1024, .f32⟩
  | .local _ .vmem, ⟨2, _⟩ => ⟨S256x2816, .bf16⟩
  | .local _ .vmem, ⟨3, _⟩ => ⟨S256x2816, .bf16⟩
  | .local _ .vmem, ⟨4, _⟩ => ⟨S256x2816, .bf16⟩
  | .local _ .vmem, ⟨5, _⟩ => ⟨S256x2816, .bf16⟩
  | .local _ .vmem, ⟨6, _⟩ => ⟨S256x1024, .bf16⟩
  | .local _ .vmem, ⟨7, _⟩ => ⟨S256x1024, .bf16⟩
  | .local _ .vmem, ⟨8, _⟩ => ⟨S256x1, .f32⟩
  | .local _ .vmem, ⟨9, _⟩ => ⟨S256x1, .f32⟩
  | .local _ .vmem, ⟨10, _⟩ => ⟨S2816x1024, .bf16⟩
  | .local _ .vmem, ⟨11, _⟩ => ⟨S2816x1024, .bf16⟩
  | .local _ .vmem, ⟨12, _⟩ => ⟨S2816x1024, .bf16⟩
  | .local _ .vmem, ⟨13, _⟩ => ⟨S1x1024, .f32⟩
  | .local _ .vmem, ⟨14, _⟩ => ⟨S1024x1024, .bf16⟩
  | .local _ .vmem, ⟨15, _⟩ => ⟨S256x1024, .f32⟩
  | .local _ .vmem, ⟨16, _⟩ => ⟨S256x1024, .f32⟩
  | .local _ .vmem, ⟨17, _⟩ => ⟨S256x2816, .bf16⟩
  | .local _ .vmem, ⟨18, _⟩ => ⟨S256x2816, .bf16⟩
  | .local _ .vmem, ⟨19, _⟩ => ⟨S256x2816, .bf16⟩
  | .local _ .vmem, ⟨20, _⟩ => ⟨S256x2816, .bf16⟩
  | .local _ .vmem, ⟨21, _⟩ => ⟨S1x1024, .f32⟩
  | .local _ .vmem, ⟨22, _⟩ => ⟨S1x1024, .f32⟩
  | .local _ .vmem, ⟨23, _⟩ => ⟨S256x512, .f32⟩
  | .local _ .vmem, ⟨24, _⟩ => ⟨S256x512, .f32⟩
  | .local _ .vmem, ⟨25, _⟩ => ⟨S256x512, .f32⟩
  | .local _ .vmem, ⟨26, _⟩ => ⟨S256x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35_0 : Ref sig .tc := ⟨.hbm, 48, rfl⟩
abbrev main_v35_1 : Ref sig .tc := ⟨.hbm, 49, rfl⟩
abbrev main_v35_2 : Ref sig .tc := ⟨.hbm, 50, rfl⟩
abbrev main_v35_3 : Ref sig .tc := ⟨.hbm, 51, rfl⟩
abbrev main_v35_4 : Ref sig .tc := ⟨.hbm, 52, rfl⟩
abbrev main_v35_5 : Ref sig .tc := ⟨.hbm, 53, rfl⟩
abbrev main_v35_6 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem14_0 : DmaSem sig := 22
abbrev cc0_sem15_0 : DmaSem sig := 23
abbrev cc0_sem15_1 : DmaSem sig := 24
abbrev cc0_sem16_0 : DmaSem sig := 25
abbrev cc0_sem16_1 : DmaSem sig := 26

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2816 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2816 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== FfnBwdRefIdeal.lean ====
abbrev S8192x1024 : Shape := ⟨2, ![8192, 1024]⟩
abbrev S1x1024 : Shape := ⟨2, ![1, 1024]⟩
abbrev S2816x1024 : Shape := ⟨2, ![2816, 1024]⟩
abbrev S1024x1024 : Shape := ⟨2, ![1024, 1024]⟩
abbrev S_ : Shape := ⟨0, ![]⟩
abbrev S8192x2816 : Shape := ⟨2, ![8192, 2816]⟩
abbrev S1024 : Shape := ⟨1, ![1024]⟩
abbrev S8192 : Shape := ⟨1, ![8192]⟩
abbrev S8192x1 : Shape := ⟨2, ![8192, 1]⟩
abbrev S1024x2816 : Shape := ⟨2, ![1024, 2816]⟩
abbrev S8192x512 : Shape := ⟨2, ![8192, 512]⟩

abbrev nBuf : Space → Nat
  | .hbm => 147
  | .vmem => 0
  | .smem => 0
  | _ => 0

abbrev hbmTy0_0 (i : Nat) : BufTy := match i % 128 with
  | 0 => ⟨S8192x1024, .f32⟩
  | 1 => ⟨S8192x1024, .f32⟩
  | 2 => ⟨S1x1024, .f32⟩
  | 3 => ⟨S1x1024, .f32⟩
  | 4 => ⟨S2816x1024, .bf16⟩
  | 5 => ⟨S2816x1024, .bf16⟩
  | 6 => ⟨S2816x1024, .bf16⟩
  | 7 => ⟨S1024x1024, .bf16⟩
  | 8 => ⟨S2816x1024, .f32⟩
  | 9 => ⟨S2816x1024, .f32⟩
  | 10 => ⟨S2816x1024, .f32⟩
  | 11 => ⟨S_, .f32⟩
  | 12 => ⟨S8192x2816, .f32⟩
  | 13 => ⟨S1024, .f32⟩
  | 14 => ⟨S1024, .f32⟩
  | 15 => ⟨S_, .f32⟩
  | 16 => ⟨S8192, .f32⟩
  | 17 => ⟨S8192x1, .f32⟩
  | 18 => ⟨S_, .f32⟩
  | 19 => ⟨S8192x1, .f32⟩
  | 20 => ⟨S8192x1, .f32⟩
  | 21 => ⟨S8192x1024, .f32⟩
  | 22 => ⟨S8192x1024, .f32⟩
  | 23 => ⟨S8192x1024, .f32⟩
  | 24 => ⟨S_, .f32⟩
  | 25 => ⟨S8192x1024, .f32⟩
  | 26 => ⟨S8192x1024, .f32⟩
  | 27 => ⟨S_, .f32⟩
  | 28 => ⟨S8192, .f32⟩
  | 29 => ⟨S8192x1, .f32⟩
  | 30 => ⟨S_, .f32⟩
  | 31 => ⟨S8192x1, .f32⟩
  | 32 => ⟨S8192x1, .f32⟩
  | 33 => ⟨S_, .f32⟩
  | 34 => ⟨S8192x1, .f32⟩
  | 35 => ⟨S8192x1, .f32⟩
  | 36 => ⟨S8192x1, .f32⟩
  | 37 => ⟨S8192x1, .f32⟩
  | 38 => ⟨S_, .f32⟩
  | 39 => ⟨S8192x1, .f32⟩
  | 40 => ⟨S8192x1, .f32⟩
  | 41 => ⟨S8192x1024, .f32⟩
  | 42 => ⟨S8192x1024, .f32⟩
  | 43 => ⟨S8192x1024, .f32⟩
  | 44 => ⟨S8192x1024, .f32⟩
  | 45 => ⟨S1x1024, .f32⟩
  | 46 => ⟨S8192x1024, .f32⟩
  | 47 => ⟨S8192x1024, .f32⟩
  | 48 => ⟨S1x1024, .f32⟩
  | 49 => ⟨S8192x1024, .f32⟩
  | 50 => ⟨S8192x1024, .f32⟩
  | 51 => ⟨S1024x2816, .f32⟩
  | 52 => ⟨S8192x2816, .f32⟩
  | 53 => ⟨S8192x2816, .f32⟩
  | 54 => ⟨S1024x2816, .f32⟩
  | 55 => ⟨S8192x2816, .f32⟩
  | 56 => ⟨S8192x2816, .f32⟩
  | 57 => ⟨S_, .f32⟩
  | 58 => ⟨S8192x1024, .f32⟩
  | 59 => ⟨S8192x1024, .f32⟩
  | 60 => ⟨S8192x2816, .f32⟩
  | 61 => ⟨S8192x2816, .f32⟩
  | 62 => ⟨S_, .f32⟩
  | 63 => ⟨S8192x2816, .f32⟩
  | 64 => ⟨S8192x2816, .f32⟩
  | 65 => ⟨S_, .f32⟩
  | 66 => ⟨S8192x2816, .f32⟩
  | 67 => ⟨S8192x2816, .f32⟩
  | 68 => ⟨S_, .f32⟩
  | 69 => ⟨S8192x2816, .f32⟩
  | 70 => ⟨S8192x2816, .f32⟩
  | 71 => ⟨S8192x2816, .f32⟩
  | 72 => ⟨S8192x2816, .f32⟩
  | 73 => ⟨S8192x2816, .f32⟩
  | 74 => ⟨S8192x1024, .f32⟩
  | 75 => ⟨S8192x1024, .f32⟩
  | 76 => ⟨S8192x1024, .f32⟩
  | 77 => ⟨S8192x1024, .f32⟩
  | 78 => ⟨S8192x2816, .f32⟩
  | 79 => ⟨S8192x2816, .f32⟩
  | 80 => ⟨S8192x2816, .f32⟩
  | 81 => ⟨S8192x2816, .f32⟩
  | 82 => ⟨S8192x2816, .f32⟩
  | 83 => ⟨S8192x2816, .f32⟩
  | 84 => ⟨S8192x2816, .f32⟩
  | 85 => ⟨S_, .f32⟩
  | 86 => ⟨S8192x1024, .f32⟩
  | 87 => ⟨S8192x1024, .f32⟩
  | 88 => ⟨S8192x1024, .f32⟩
  | 89 => ⟨S8192x1024, .f32⟩
  | 90 => ⟨S8192x1024, .f32⟩
  | 91 => ⟨S8192x1024, .f32⟩
  | 92 => ⟨S_, .f32⟩
  | 93 => ⟨S1024, .f32⟩
  | 94 => ⟨S1x1024, .f32⟩
  | 95 => ⟨S_, .f32⟩
  | 96 => ⟨S1024, .f32⟩
  | 97 => ⟨S8192x1024, .f32⟩
  | 98 => ⟨S_, .f32⟩
  | 99 => ⟨S1024, .f32⟩
  | 100 => ⟨S1x1024, .f32⟩
  | 101 => ⟨S8192x1024, .f32⟩
  | 102 => ⟨S8192x1024, .f32⟩
  | 103 => ⟨S_, .f32⟩
  | 104 => ⟨S1024, .f32⟩
  | 105 => ⟨S8192x1024, .f32⟩
  | 106 => ⟨S_, .f32⟩
  | 107 => ⟨S8192, .f32⟩
  | 108 => ⟨S8192x1, .f32⟩
  | 109 => ⟨S8192x1024, .f32⟩
  | 110 => ⟨S8192x1024, .f32⟩
  | 111 => ⟨S8192x1024, .f32⟩
  | 112 => ⟨S_, .f32⟩
  | 113 => ⟨S8192, .f32⟩
  | 114 => ⟨S8192x1, .f32⟩
  | 115 => ⟨S8192x1, .f32⟩
  | 116 => ⟨S_, .f32⟩
  | 117 => ⟨S8192x1, .f32⟩
  | 118 => ⟨S8192x1, .f32⟩
  | 119 => ⟨S_, .f32⟩
  | 120 => ⟨S8192, .f32⟩
  | 121 => ⟨S8192x1024, .f32⟩
  | 122 => ⟨S8192x1024, .f32⟩
  | 123 => ⟨S8192x1024, .f32⟩
  | 124 => ⟨S_, .f32⟩
  | 125 => ⟨S8192, .f32⟩
  | 126 => ⟨S8192x1, .f32⟩
  | 127 => ⟨S8192x1024, .f32⟩
  | _ => ⟨S8192x1024, .f32⟩

abbrev hbmTy0_1 (i : Nat) : BufTy := match i % 128 with
  | 0 => ⟨S8192x1, .f32⟩
  | 1 => ⟨S_, .f32⟩
  | 2 => ⟨S8192x1, .f32⟩
  | 3 => ⟨S8192x1, .f32⟩
  | 4 => ⟨S_, .f32⟩
  | 5 => ⟨S8192, .f32⟩
  | 6 => ⟨S8192x1024, .f32⟩
  | 7 => ⟨S8192x1024, .f32⟩
  | 8 => ⟨S1x1024, .f32⟩
  | 9 => ⟨S1x1024, .f32⟩
  | 10 => ⟨S_, .f32⟩
  | 11 => ⟨S8192x1024, .f32⟩
  | 12 => ⟨S1024x1024, .f32⟩
  | 13 => ⟨S8192x1024, .f32⟩
  | 14 => ⟨S8192x1024, .f32⟩
  | 15 => ⟨S8192x2816, .bf16⟩
  | 16 => ⟨S8192x2816, .bf16⟩
  | 17 => ⟨S8192x512, .f32⟩
  | 18 => ⟨S8192x512, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_v18 : Ref sig .tc := ⟨.hbm, 32, rfl⟩
abbrev main_cst_5 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_6 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_7 : Ref sig .tc := ⟨.hbm, 57, rfl⟩
abbrev main_v41 : Ref sig .tc := ⟨.hbm, 58, rfl⟩
abbrev main_v42 : Ref sig .tc := ⟨.hbm, 59, rfl⟩
abbrev main_call0_v0 : Ref sig .tc := ⟨.hbm, 60, rfl⟩
abbrev main_call0_v1 : Ref sig .tc := ⟨.hbm, 61, rfl⟩
abbrev main_call0_cst : Ref sig .tc := ⟨.hbm, 62, rfl⟩
abbrev main_call0_v2 : Ref sig .tc := ⟨.hbm, 63, rfl⟩
abbrev main_call0_v3 : Ref sig .tc := ⟨.hbm, 64, rfl⟩
abbrev main_call0_cst_0 : Ref sig .tc := ⟨.hbm, 65, rfl⟩
abbrev main_call0_v4 : Ref sig .tc := ⟨.hbm, 66, rfl⟩
abbrev main_v43_2 : Ref sig .tc := ⟨.hbm, 67, rfl⟩
abbrev main_call0_cst_1 : Ref sig .tc := ⟨.hbm, 68, rfl⟩
abbrev main_call0_v6 : Ref sig .tc := ⟨.hbm, 69, rfl⟩
abbrev main_call0_v7 : Ref sig .tc := ⟨.hbm, 70, rfl⟩
abbrev main_v43_1 : Ref sig .tc := ⟨.hbm, 71, rfl⟩
abbrev main_v43_0 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_call1_v0 : Ref sig .tc := ⟨.hbm, 81, rfl⟩
abbrev main_call1_v1 : Ref sig .tc := ⟨.hbm, 82, rfl⟩
abbrev main_call1_v2 : Ref sig .tc := ⟨.hbm, 83, rfl⟩
abbrev main_v52 : Ref sig .tc := ⟨.hbm, 84, rfl⟩
abbrev main_cst_8 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_cst_9 : Ref sig .tc := ⟨.hbm, 92, rfl⟩
abbrev main_v59 : Ref sig .tc := ⟨.hbm, 93, rfl⟩
abbrev main_v60 : Ref sig .tc := ⟨.hbm, 94, rfl⟩
abbrev main_cst_10 : Ref sig .tc := ⟨.hbm, 95, rfl⟩
abbrev main_v61 : Ref sig .tc := ⟨.hbm, 96, rfl⟩
abbrev main_v62 : Ref sig .tc := ⟨.hbm, 97, rfl⟩
abbrev main_cst_11 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_cst_12 : Ref sig .tc := ⟨.hbm, 103, rfl⟩
abbrev main_v67 : Ref sig .tc := ⟨.hbm, 104, rfl⟩
abbrev main_v68 : Ref sig .tc := ⟨.hbm, 105, rfl⟩
abbrev main_cst_13 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_cst_14 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_cst_15 : Ref sig .tc := ⟨.hbm, 116, rfl⟩
abbrev main_v77 : Ref sig .tc := ⟨.hbm, 117, rfl⟩
abbrev main_v78 : Ref sig .tc := ⟨.hbm, 118, rfl⟩
abbrev main_cst_16 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_cst_17 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_cst_18 : Ref sig .tc := ⟨.hbm, 129, rfl⟩
abbrev main_v87 : Ref sig .tc := ⟨.hbm, 130, rfl⟩
abbrev main_v88 : Ref sig .tc := ⟨.hbm, 131, rfl⟩
abbrev main_cst_19 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_cst_20 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩

abbrev nD : Nat := 1
abbrev τ : Topo := Topo.v7x

variable {F : FTy → Type} [FloatOps F]
-- ==== ConvFwd.lean ====
abbrev S8192x1664 : Shape := ⟨2, ![8192, 1664]⟩
abbrev S4x512 : Shape := ⟨2, ![4, 512]⟩
abbrev S1x512 : Shape := ⟨2, ![1, 512]⟩
abbrev S8192x512 : Shape := ⟨2, ![8192, 512]⟩
abbrev S1024x512 : Shape := ⟨2, ![1024, 512]⟩
abbrev S1032x512 : Shape := ⟨2, ![1032, 512]⟩
abbrev S8x512 : Shape := ⟨2, ![8, 512]⟩

abbrev nBuf : Space → Nat
  | .hbm => 5
  | .vmem => 9
  | .smem => 0
  | _ => 0

abbrev bufTy : (tb : Table) → Fin (tcTables nBuf tb) → BufTy
  | .hbm, ⟨0, _⟩ => ⟨S8192x1664, .f32⟩
  | .hbm, ⟨1, _⟩ => ⟨S4x512, .f32⟩
  | .hbm, ⟨2, _⟩ => ⟨S1x512, .f32⟩
  | .hbm, ⟨3, _⟩ => ⟨S8192x512, .f32⟩
  | .hbm, ⟨4, _⟩ => ⟨S8192x512, .f32⟩
  | .local _ .vmem, ⟨0, _⟩ => ⟨S1024x512, .f32⟩
  | .local _ .vmem, ⟨1, _⟩ => ⟨S1024x512, .f32⟩
  | .local _ .vmem, ⟨2, _⟩ => ⟨S4x512, .f32⟩
  | .local _ .vmem, ⟨3, _⟩ => ⟨S1x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1032x512, .f32⟩
  | _, _ => ⟨S8192x1664, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ConvFwdRefIdeal.lean ====
abbrev S8192x1664 : Shape := ⟨2, ![8192, 1664]⟩
abbrev S4x512 : Shape := ⟨2, ![4, 512]⟩
abbrev S1x512 : Shape := ⟨2, ![1, 512]⟩
abbrev S8192x512 : Shape := ⟨2, ![8192, 512]⟩
abbrev S512 : Shape := ⟨1, ![512]⟩
abbrev S_ : Shape := ⟨0, ![]⟩
abbrev S3x512 : Shape := ⟨2, ![3, 512]⟩
abbrev S8195x512 : Shape := ⟨2, ![8195, 512]⟩

abbrev nBuf : Space → Nat
  | .hbm => 47
  | .vmem => 0
  | .smem => 0
  | _ => 0

abbrev bufTy : (tb : Table) → Fin (tcTables nBuf tb) → BufTy
  | .hbm, ⟨0, _⟩ => ⟨S8192x1664, .f32⟩
  | .hbm, ⟨1, _⟩ => ⟨S4x512, .f32⟩
  | .hbm, ⟨2, _⟩ => ⟨S1x512, .f32⟩
  | .hbm, ⟨3, _⟩ => ⟨S8192x512, .f32⟩
  | .hbm, ⟨4, _⟩ => ⟨S512, .f32⟩
  | .hbm, ⟨5, _⟩ => ⟨S_, .f32⟩
  | .hbm, ⟨6, _⟩ => ⟨S3x512, .f32⟩
  | .hbm, ⟨7, _⟩ => ⟨S8195x512, .f32⟩
  | .hbm, ⟨8, _⟩ => ⟨S8192x512, .f32⟩
  | .hbm, ⟨9, _⟩ => ⟨S1x512, .f32⟩
  | .hbm, ⟨10, _⟩ => ⟨S512, .f32⟩
  | .hbm, ⟨11, _⟩ => ⟨S1x512, .f32⟩
  | .hbm, ⟨12, _⟩ => ⟨S8192x512, .f32⟩
  | .hbm, ⟨13, _⟩ => ⟨S8192x512, .f32⟩
  | .hbm, ⟨14, _⟩ => ⟨S8192x512, .f32⟩
  | .hbm, ⟨15, _⟩ => ⟨S1x512, .f32⟩
  | .hbm, ⟨16, _⟩ => ⟨S512, .f32⟩
  | .hbm, ⟨17, _⟩ => ⟨S1x512, .f32⟩
  | .hbm, ⟨18, _⟩ => ⟨S8192x512, .f32⟩
  | .hbm, ⟨19, _⟩ => ⟨S8192x512, .f32⟩
  | .hbm, ⟨20, _⟩ => ⟨S8192x512, .f32⟩
  | .hbm, ⟨21, _⟩ => ⟨S8192x512, .f32⟩
  | .hbm, ⟨22, _⟩ => ⟨S1x512, .f32⟩
  | .hbm, ⟨23, _⟩ => ⟨S512, .f32⟩
  | .hbm, ⟨24, _⟩ => ⟨S1x512, .f32⟩
  | .hbm, ⟨25, _⟩ => ⟨S8192x512, .f32⟩
  | .hbm, ⟨26, _⟩ => ⟨S8192x512, .f32⟩
  | .hbm, ⟨27, _⟩ => ⟨S8192x512, .f32⟩
  | .hbm, ⟨28, _⟩ => ⟨S8192x512, .f32⟩
  | .hbm, ⟨29, _⟩ => ⟨S1x512, .f32⟩
  | .hbm, ⟨30, _⟩ => ⟨S512, .f32⟩
  | .hbm, ⟨31, _⟩ => ⟨S1x512, .f32⟩
  | .hbm, ⟨32, _⟩ => ⟨S8192x512, .f32⟩
  | .hbm, ⟨33, _⟩ => ⟨S8192x512, .f32⟩
  | .hbm, ⟨34, _⟩ => ⟨S8192x512, .f32⟩
  | .hbm, ⟨35, _⟩ => ⟨S1x512, .f32⟩
  | .hbm, ⟨36, _⟩ => ⟨S8192x512, .f32⟩
  | .hbm, ⟨37, _⟩ => ⟨S8192x512, .f32⟩
  | .hbm, ⟨38, _⟩ => ⟨S8192x512, .f32⟩
  | .hbm, ⟨39, _⟩ => ⟨S8192x512, .f32⟩
  | .hbm, ⟨40, _⟩ => ⟨S_, .f32⟩
  | .hbm, ⟨41, _⟩ => ⟨S8192x512, .f32⟩
  | .hbm, ⟨42, _⟩ => ⟨S8192x512, .f32⟩
  | .hbm, ⟨43, _⟩ => ⟨S_, .f32⟩
  | .hbm, ⟨44, _⟩ => ⟨S8192x512, .f32⟩
  | .hbm, ⟨45, _⟩ => ⟨S8192x512, .f32⟩
  | .hbm, ⟨46, _⟩ => ⟨S8192x512, .f32⟩
  | _, _ => ⟨S8192x1664, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== ConvBwd.lean ====
abbrev S8192x1664 : Shape := ⟨2, ![8192, 1664]⟩
abbrev S4x512 : Shape := ⟨2, ![4, 512]⟩
abbrev S1x512 : Shape := ⟨2, ![1, 512]⟩
abbrev S8192x512 : Shape := ⟨2, ![8192, 512]⟩
abbrev S512 : Shape := ⟨1, ![512]⟩
abbrev S_ : Shape := ⟨0, ![]⟩
abbrev S3x512 : Shape := ⟨2, ![3, 512]⟩
abbrev S8195x512 : Shape := ⟨2, ![8195, 512]⟩
abbrev S1024x512 : Shape := ⟨2, ![1024, 512]⟩
abbrev S8x512 : Shape := ⟨2, ![8, 512]⟩
abbrev S1032x512 : Shape := ⟨2, ![1032, 512]⟩

abbrev nBuf : Space → Nat
  | .hbm => 42
  | .vmem => 15
  | .smem => 0
  | _ => 0

abbrev bufTy : (tb : Table) → Fin (tcTables nBuf tb) → BufTy
  | .hbm, ⟨0, _⟩ => ⟨S8192x1664, .f32⟩
  | .hbm, ⟨1, _⟩ => ⟨S4x512, .f32⟩
  | .hbm, ⟨2, _⟩ => ⟨S1x512, .f32⟩
  | .hbm, ⟨3, _⟩ => ⟨S8192x512, .f32⟩
  | .hbm, ⟨4, _⟩ => ⟨S8192x512, .f32⟩
  | .hbm, ⟨5, _⟩ => ⟨S512, .f32⟩
  | .hbm, ⟨6, _⟩ => ⟨S_, .f32⟩
  | .hbm, ⟨7, _⟩ => ⟨S3x512, .f32⟩
  | .hbm, ⟨8, _⟩ => ⟨S8195x512, .f32⟩
  | .hbm, ⟨9, _⟩ => ⟨S8192x512, .f32⟩
  | .hbm, ⟨10, _⟩ => ⟨S1x512, .f32⟩
  | .hbm, ⟨11, _⟩ => ⟨S512, .f32⟩
  | .hbm, ⟨12, _⟩ => ⟨S1x512, .f32⟩
  | .hbm, ⟨13, _⟩ => ⟨S8192x512, .f32⟩
  | .hbm, ⟨14, _⟩ => ⟨S8192x512, .f32⟩
  | .hbm, ⟨15, _⟩ => ⟨S8192x512, .f32⟩
  | .hbm, ⟨16, _⟩ => ⟨S1x512, .f32⟩
  | .hbm, ⟨17, _⟩ => ⟨S512, .f32⟩
  | .hbm, ⟨18, _⟩ => ⟨S1x512, .f32⟩
  | .hbm, ⟨19, _⟩ => ⟨S8192x512, .f32⟩
  | .hbm, ⟨20, _⟩ => ⟨S8192x512, .f32⟩
  | .hbm, ⟨21, _⟩ => ⟨S8192x512, .f32⟩
  | .hbm, ⟨22, _⟩ => ⟨S8192x512, .f32⟩
  | .hbm, ⟨23, _⟩ => ⟨S1x512, .f32⟩
  | .hbm, ⟨24, _⟩ => ⟨S512, .f32⟩
  | .hbm, ⟨25, _⟩ => ⟨S1x512, .f32⟩
  | .hbm, ⟨26, _⟩ => ⟨S8192x512, .f32⟩
  | .hbm, ⟨27, _⟩ => ⟨S8192x512, .f32⟩
  | .hbm, ⟨28, _⟩ => ⟨S8192x512, .f32⟩
  | .hbm, ⟨29, _⟩ => ⟨S8192x512, .f32⟩
  | .hbm, ⟨30, _⟩ => ⟨S1x512, .f32⟩
  | .hbm, ⟨31, _⟩ => ⟨S512, .f32⟩
  | .hbm, ⟨32, _⟩ => ⟨S1x512, .f32⟩
  | .hbm, ⟨33, _⟩ => ⟨S8192x512, .f32⟩
  | .hbm, ⟨34, _⟩ => ⟨S8192x512, .f32⟩
  | .hbm, ⟨35, _⟩ => ⟨S8192x512, .f32⟩
  | .hbm, ⟨36, _⟩ => ⟨S1x512, .f32⟩
  | .hbm, ⟨37, _⟩ => ⟨S8192x512, .f32⟩
  | .hbm, ⟨38, _⟩ => ⟨S8192x512, .f32⟩
  | .hbm, ⟨39, _⟩ => ⟨S8192x512, .bf16⟩
  | .hbm, ⟨40, _⟩ => ⟨S4x512, .f32⟩
  | .hbm, ⟨41, _⟩ => ⟨S1x512, .f32⟩
  | .local _ .vmem, ⟨0, _⟩ => ⟨S1024x512, .f32⟩
  | .local _ .vmem, ⟨1, _⟩ => ⟨S1024x512, .f32⟩
  | .local _ .vmem, ⟨2, _⟩ => ⟨S8x512, .f32⟩
  | .local _ .vmem, ⟨3, _⟩ => ⟨S8x512, .f32⟩
  | .local _ .vmem, ⟨4, _⟩ => ⟨S4x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .bf16⟩
  | .local _ .vmem, ⟨10, _⟩ => ⟨S1024x512, .bf16⟩
  | .local _ .vmem, ⟨11, _⟩ => ⟨S4x512, .f32⟩
  | .local _ .vmem, ⟨12, _⟩ => ⟨S1x512, .f32⟩
  | .local _ .vmem, ⟨13, _⟩ => ⟨S1032x512, .f32⟩
  | .local _ .vmem, ⟨14, _⟩ => ⟨S1032x512, .f32⟩
  | _, _ => ⟨S8192x1664, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34_0 : Ref sig .tc := ⟨.hbm, 39, rfl⟩
abbrev main_v34_1 : Ref sig .tc := ⟨.hbm, 40, rfl⟩
abbrev main_v34_2 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c128_i32 : BitVec 32 := 128#32
  let v1 : BitVec 32 := Scalar.muli v0 c128_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ConvBwdRefIdeal.lean ====
abbrev S8192x1664 : Shape := ⟨2, ![8192, 1664]⟩
abbrev S4x512 : Shape := ⟨2, ![4, 512]⟩
abbrev S1x512 : Shape := ⟨2, ![1, 512]⟩
abbrev S8192x512 : Shape := ⟨2, ![8192, 512]⟩
abbrev S512 : Shape := ⟨1, ![512]⟩
abbrev S_ : Shape := ⟨0, ![]⟩
abbrev S3x512 : Shape := ⟨2, ![3, 512]⟩
abbrev S8195x512 : Shape := ⟨2, ![8195, 512]⟩

abbrev nBuf : Space → Nat
  | .hbm => 125
  | .vmem => 0
  | .smem => 0
  | _ => 0

abbrev bufTy : (tb : Table) → Fin (tcTables nBuf tb) → BufTy
  | .hbm, ⟨0, _⟩ => ⟨S8192x1664, .f32⟩
  | .hbm, ⟨1, _⟩ => ⟨S4x512, .f32⟩
  | .hbm, ⟨2, _⟩ => ⟨S1x512, .f32⟩
  | .hbm, ⟨3, _⟩ => ⟨S8192x512, .f32⟩
  | .hbm, ⟨4, _⟩ => ⟨S8192x512, .f32⟩
  | .hbm, ⟨5, _⟩ => ⟨S512, .f32⟩
  | .hbm, ⟨6, _⟩ => ⟨S_, .f32⟩
  | .hbm, ⟨7, _⟩ => ⟨S3x512, .f32⟩
  | .hbm, ⟨8, _⟩ => ⟨S8195x512, .f32⟩
  | .hbm, ⟨9, _⟩ => ⟨S_, .f32⟩
  | .hbm, ⟨10, _⟩ => ⟨S3x512, .f32⟩
  | .hbm, ⟨11, _⟩ => ⟨S8192x512, .f32⟩
  | .hbm, ⟨12, _⟩ => ⟨S1x512, .f32⟩
  | .hbm, ⟨13, _⟩ => ⟨S512, .f32⟩
  | .hbm, ⟨14, _⟩ => ⟨S1x512, .f32⟩
  | .hbm, ⟨15, _⟩ => ⟨S8192x512, .f32⟩
  | .hbm, ⟨16, _⟩ => ⟨S8192x512, .f32⟩
  | .hbm, ⟨17, _⟩ => ⟨S8192x512, .f32⟩
  | .hbm, ⟨18, _⟩ => ⟨S1x512, .f32⟩
  | .hbm, ⟨19, _⟩ => ⟨S512, .f32⟩
  | .hbm, ⟨20, _⟩ => ⟨S1x512, .f32⟩
  | .hbm, ⟨21, _⟩ => ⟨S8192x512, .f32⟩
  | .hbm, ⟨22, _⟩ => ⟨S8192x512, .f32⟩
  | .hbm, ⟨23, _⟩ => ⟨S8192x512, .f32⟩
  | .hbm, ⟨24, _⟩ => ⟨S8192x512, .f32⟩
  | .hbm, ⟨25, _⟩ => ⟨S1x512, .f32⟩
  | .hbm, ⟨26, _⟩ => ⟨S512, .f32⟩
  | .hbm, ⟨27, _⟩ => ⟨S1x512, .f32⟩
  | .hbm, ⟨28, _⟩ => ⟨S8192x512, .f32⟩
  | .hbm, ⟨29, _⟩ => ⟨S8192x512, .f32⟩
  | .hbm, ⟨30, _⟩ => ⟨S8192x512, .f32⟩
  | .hbm, ⟨31, _⟩ => ⟨S8192x512, .f32⟩
  | .hbm, ⟨32, _⟩ => ⟨S1x512, .f32⟩
  | .hbm, ⟨33, _⟩ => ⟨S512, .f32⟩
  | .hbm, ⟨34, _⟩ => ⟨S1x512, .f32⟩
  | .hbm, ⟨35, _⟩ => ⟨S8192x512, .f32⟩
  | .hbm, ⟨36, _⟩ => ⟨S8192x512, .f32⟩
  | .hbm, ⟨37, _⟩ => ⟨S8192x512, .f32⟩
  | .hbm, ⟨38, _⟩ => ⟨S1x512, .f32⟩
  | .hbm, ⟨39, _⟩ => ⟨S8192x512, .f32⟩
  | .hbm, ⟨40, _⟩ => ⟨S8192x512, .f32⟩
  | .hbm, ⟨41, _⟩ => ⟨S8192x512, .f32⟩
  | .hbm, ⟨42, _⟩ => ⟨S8192x512, .f32⟩
  | .hbm, ⟨43, _⟩ => ⟨S_, .f32⟩
  | .hbm, ⟨44, _⟩ => ⟨S8192x512, .f32⟩
  | .hbm, ⟨45, _⟩ => ⟨S8192x512, .f32⟩
  | .hbm, ⟨46, _⟩ => ⟨S_, .f32⟩
  | .hbm, ⟨47, _⟩ => ⟨S8192x512, .f32⟩
  | .hbm, ⟨48, _⟩ => ⟨S8192x512, .f32⟩
  | .hbm, ⟨49, _⟩ => ⟨S_, .f32⟩
  | .hbm, ⟨50, _⟩ => ⟨S8192x512, .f32⟩
  | .hbm, ⟨51, _⟩ => ⟨S8192x512, .f32⟩
  | .hbm, ⟨52, _⟩ => ⟨S8192x512, .f32⟩
  | .hbm, ⟨53, _⟩ => ⟨S8192x512, .f32⟩
  | .hbm, ⟨54, _⟩ => ⟨S8192x512, .f32⟩
  | .hbm, ⟨55, _⟩ => ⟨S8192x512, .f32⟩
  | .hbm, ⟨56, _⟩ => ⟨S8192x512, .f32⟩
  | .hbm, ⟨57, _⟩ => ⟨S8192x512, .f32⟩
  | .hbm, ⟨58, _⟩ => ⟨S_, .f32⟩
  | .hbm, ⟨59, _⟩ => ⟨S512, .f32⟩
  | .hbm, ⟨60, _⟩ => ⟨S1x512, .f32⟩
  | .hbm, ⟨61, _⟩ => ⟨S_, .f32⟩
  | .hbm, ⟨62, _⟩ => ⟨S512, .f32⟩
  | .hbm, ⟨63, _⟩ => ⟨S8192x512, .f32⟩
  | .hbm, ⟨64, _⟩ => ⟨S_, .f32⟩
  | .hbm, ⟨65, _⟩ => ⟨S512, .f32⟩
  | .hbm, ⟨66, _⟩ => ⟨S1x512, .f32⟩
  | .hbm, ⟨67, _⟩ => ⟨S8192x512, .f32⟩
  | .hbm, ⟨68, _⟩ => ⟨S8192x512, .f32⟩
  | .hbm, ⟨69, _⟩ => ⟨S_, .f32⟩
  | .hbm, ⟨70, _⟩ => ⟨S512, .f32⟩
  | .hbm, ⟨71, _⟩ => ⟨S1x512, .f32⟩
  | .hbm, ⟨72, _⟩ => ⟨S_, .f32⟩
  | .hbm, ⟨73, _⟩ => ⟨S4x512, .f32⟩
  | .hbm, ⟨74, _⟩ => ⟨S_, .f32⟩
  | .hbm, ⟨75, _⟩ => ⟨S8195x512, .f32⟩
  | .hbm, ⟨76, _⟩ => ⟨S8192x512, .f32⟩
  | .hbm, ⟨77, _⟩ => ⟨S_, .f32⟩
  | .hbm, ⟨78, _⟩ => ⟨S512, .f32⟩
  | .hbm, ⟨79, _⟩ => ⟨S1x512, .f32⟩
  | .hbm, ⟨80, _⟩ => ⟨S8192x512, .f32⟩
  | .hbm, ⟨81, _⟩ => ⟨S8192x512, .f32⟩
  | .hbm, ⟨82, _⟩ => ⟨S_, .f32⟩
  | .hbm, ⟨83, _⟩ => ⟨S512, .f32⟩
  | .hbm, ⟨84, _⟩ => ⟨S1x512, .f32⟩
  | .hbm, ⟨85, _⟩ => ⟨S_, .f32⟩
  | .hbm, ⟨86, _⟩ => ⟨S4x512, .f32⟩
  | .hbm, ⟨87, _⟩ => ⟨S4x512, .f32⟩
  | .hbm, ⟨88, _⟩ => ⟨S_, .f32⟩
  | .hbm, ⟨89, _⟩ => ⟨S8195x512, .f32⟩
  | .hbm, ⟨90, _⟩ => ⟨S8195x512, .f32⟩
  | .hbm, ⟨91, _⟩ => ⟨S8192x512, .f32⟩
  | .hbm, ⟨92, _⟩ => ⟨S_, .f32⟩
  | .hbm, ⟨93, _⟩ => ⟨S512, .f32⟩
  | .hbm, ⟨94, _⟩ => ⟨S1x512, .f32⟩
  | .hbm, ⟨95, _⟩ => ⟨S8192x512, .f32⟩
  | .hbm, ⟨96, _⟩ => ⟨S8192x512, .f32⟩
  | .hbm, ⟨97, _⟩ => ⟨S_, .f32⟩
  | .hbm, ⟨98, _⟩ => ⟨S512, .f32⟩
  | .hbm, ⟨99, _⟩ => ⟨S1x512, .f32⟩
  | .hbm, ⟨100, _⟩ => ⟨S_, .f32⟩
  | .hbm, ⟨101, _⟩ => ⟨S4x512, .f32⟩
  | .hbm, ⟨102, _⟩ => ⟨S4x512, .f32⟩
  | .hbm, ⟨103, _⟩ => ⟨S_, .f32⟩
  | .hbm, ⟨104, _⟩ => ⟨S8195x512, .f32⟩
  | .hbm, ⟨105, _⟩ => ⟨S8195x512, .f32⟩
  | .hbm, ⟨106, _⟩ => ⟨S8192x512, .f32⟩
  | .hbm, ⟨107, _⟩ => ⟨S_, .f32⟩
  | .hbm, ⟨108, _⟩ => ⟨S512, .f32⟩
  | .hbm, ⟨109, _⟩ => ⟨S1x512, .f32⟩
  | .hbm, ⟨110, _⟩ => ⟨S8192x512, .f32⟩
  | .hbm, ⟨111, _⟩ => ⟨S8192x512, .f32⟩
  | .hbm, ⟨112, _⟩ => ⟨S_, .f32⟩
  | .hbm, ⟨113, _⟩ => ⟨S512, .f32⟩
  | .hbm, ⟨114, _⟩ => ⟨S1x512, .f32⟩
  | .hbm, ⟨115, _⟩ => ⟨S_, .f32⟩
  | .hbm, ⟨116, _⟩ => ⟨S4x512, .f32⟩
  | .hbm, ⟨117, _⟩ => ⟨S4x512, .f32⟩
  | .hbm, ⟨118, _⟩ => ⟨S_, .f32⟩
  | .hbm, ⟨119, _⟩ => ⟨S8195x512, .f32⟩
  | .hbm, ⟨120, _⟩ => ⟨S8195x512, .f32⟩
  | .hbm, ⟨121, _⟩ => ⟨S3x512, .f32⟩
  | .hbm, ⟨122, _⟩ => ⟨S8192x512, .f32⟩
  | .hbm, ⟨123, _⟩ => ⟨S1x512, .f32⟩
  | .hbm, ⟨124, _⟩ => ⟨S8192x512, .bf16⟩
  | _, _ => ⟨S8192x1664, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_v35_2 : Ref sig .tc := ⟨.hbm, 48, rfl⟩
abbrev main_call0_cst_1 : Ref sig .tc := ⟨.hbm, 49, rfl⟩
abbrev main_call0_v6 : Ref sig .tc := ⟨.hbm, 50, rfl⟩
abbrev main_call0_v7 : Ref sig .tc := ⟨.hbm, 51, rfl⟩
abbrev main_v35_1 : Ref sig .tc := ⟨.hbm, 52, rfl⟩
abbrev main_v35_0 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v36 : Ref sig .tc := ⟨.hbm, 57, rfl⟩
abbrev main_cst_1 : Ref sig .tc := ⟨.hbm, 58, rfl⟩
abbrev main_v37 : Ref sig .tc := ⟨.hbm, 59, rfl⟩
abbrev main_v38 : Ref sig .tc := ⟨.hbm, 60, rfl⟩
abbrev main_cst_2 : Ref sig .tc := ⟨.hbm, 61, rfl⟩
abbrev main_v39 : Ref sig .tc := ⟨.hbm, 62, rfl⟩
abbrev main_v40 : Ref sig .tc := ⟨.hbm, 63, rfl⟩
abbrev main_cst_3 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_4 : Ref sig .tc := ⟨.hbm, 69, rfl⟩
abbrev main_v45 : Ref sig .tc := ⟨.hbm, 70, rfl⟩
abbrev main_v46 : Ref sig .tc := ⟨.hbm, 71, rfl⟩
abbrev main_cst_5 : Ref sig .tc := ⟨.hbm, 72, rfl⟩
abbrev main_v47 : Ref sig .tc := ⟨.hbm, 73, rfl⟩
abbrev main_cst_6 : Ref sig .tc := ⟨.hbm, 74, rfl⟩
abbrev main_v48 : Ref sig .tc := ⟨.hbm, 75, rfl⟩
abbrev main_v49 : Ref sig .tc := ⟨.hbm, 76, rfl⟩
abbrev main_cst_7 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_8 : Ref sig .tc := ⟨.hbm, 82, rfl⟩
abbrev main_v54 : Ref sig .tc := ⟨.hbm, 83, rfl⟩
abbrev main_v55 : Ref sig .tc := ⟨.hbm, 84, rfl⟩
abbrev main_cst_9 : Ref sig .tc := ⟨.hbm, 85, rfl⟩
abbrev main_v56 : Ref sig .tc := ⟨.hbm, 86, rfl⟩
abbrev main_v57 : Ref sig .tc := ⟨.hbm, 87, rfl⟩
abbrev main_cst_10 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_11 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_12 : Ref sig .tc := ⟨.hbm, 97, rfl⟩
abbrev main_v65 : Ref sig .tc := ⟨.hbm, 98, rfl⟩
abbrev main_v66 : Ref sig .tc := ⟨.hbm, 99, rfl⟩
abbrev main_cst_13 : Ref sig .tc := ⟨.hbm, 100, rfl⟩
abbrev main_v67 : Ref sig .tc := ⟨.hbm, 101, rfl⟩
abbrev main_v68 : Ref sig .tc := ⟨.hbm, 102, rfl⟩
abbrev main_cst_14 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_cst_15 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_cst_16 : Ref sig .tc := ⟨.hbm, 112, rfl⟩
abbrev main_v76 : Ref sig .tc := ⟨.hbm, 113, rfl⟩
abbrev main_v77 : Ref sig .tc := ⟨.hbm, 114, rfl⟩
abbrev main_cst_17 : Ref sig .tc := ⟨.hbm, 115, rfl⟩
abbrev main_v78 : Ref sig .tc := ⟨.hbm, 116, rfl⟩
abbrev main_v79 : Ref sig .tc := ⟨.hbm, 117, rfl⟩
abbrev main_cst_18 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩

abbrev nD : Nat := 1
abbrev τ : Topo := Topo.v7x

variable {F : FTy → Type} [FloatOps F]
-- ==== HeadBwd.lean ====
abbrev S8192x1024 : Shape := ⟨2, ![8192, 1024]⟩
abbrev S8192x256 : Shape := ⟨2, ![8192, 256]⟩
abbrev S1024x1024 : Shape := ⟨2, ![1024, 1024]⟩
abbrev S1x1024 : Shape := ⟨2, ![1, 1024]⟩
abbrev S256x1024 : Shape := ⟨2, ![256, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1 : Shape := ⟨2, ![1, 1]⟩
abbrev S1024x1 : Shape := ⟨2, ![1024, 1]⟩
abbrev S1024x256 : Shape := ⟨2, ![1024, 256]⟩
abbrev S1 : Shape := ⟨1, ![1]⟩

abbrev nBuf : Space → Nat
  | .hbm => 47
  | .vmem => 24
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S8192x1024, .f32⟩
  | .hbm, ⟨3, _⟩ => ⟨S1024x1024, .bf16⟩
  | .hbm, ⟨4, _⟩ => ⟨S1x1024, .f32⟩
  | .hbm, ⟨5, _⟩ => ⟨S256x1024, .bf16⟩
  | .hbm, ⟨6, _⟩ => ⟨S1x1024, .f32⟩
  | .hbm, ⟨7, _⟩ => ⟨S1x1024, .f32⟩
  | .hbm, ⟨8, _⟩ => ⟨S1024, .f32⟩
  | .hbm, ⟨9, _⟩ => ⟨S1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S1x1024, .f32⟩
  | .hbm, ⟨37, _⟩ => ⟨S8192x1024, .f32⟩
  | .hbm, ⟨38, _⟩ => ⟨S8192x1024, .f32⟩
  | .hbm, ⟨39, _⟩ => ⟨S8192x1024, .bf16⟩
  | .hbm, ⟨40, _⟩ => ⟨S8192x1024, .f32⟩
  | .hbm, ⟨41, _⟩ => ⟨S8192x1024, .bf16⟩
  | .hbm, ⟨42, _⟩ => ⟨S8192x1024, .bf16⟩
  | .hbm, ⟨43, _⟩ => ⟨S1x1, .f32⟩
  | .hbm, ⟨44, _⟩ => ⟨S1x1024, .f32⟩
  | .hbm, ⟨45, _⟩ => ⟨S1x1024, .f32⟩
  | .hbm, ⟨46, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1, .f32⟩
  | .local _ .vmem, ⟨5, _⟩ => ⟨S1024x1, .f32⟩
  | .local _ .vmem, ⟨6, _⟩ => ⟨S1024x256, .f32⟩
  | .local _ .vmem, ⟨7, _⟩ => ⟨S1024x256, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1x1024, .f32⟩
  | .local _ .vmem, ⟨12, _⟩ => ⟨S256x1024, .bf16⟩
  | .local _ .vmem, ⟨13, _⟩ => ⟨S1x1024, .f32⟩
  | .local _ .vmem, ⟨14, _⟩ => ⟨S1024x1024, .f32⟩
  | .local _ .vmem, ⟨15, _⟩ => ⟨S1024x1024, .f32⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | .local _ .vmem, ⟨19, _⟩ => ⟨S1024x1024, .bf16⟩
  | .local _ .vmem, ⟨20, _⟩ => ⟨S1x1, .f32⟩
  | .local _ .vmem, ⟨21, _⟩ => ⟨S1x1024, .f32⟩
  | .local _ .vmem, ⟨22, _⟩ => ⟨S1x1024, .f32⟩
  | .local _ .vmem, ⟨23, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27_0 : Ref sig .tc := ⟨.hbm, 40, rfl⟩
abbrev main_v27_1 : Ref sig .tc := ⟨.hbm, 41, rfl⟩
abbrev main_v27_2 : Ref sig .tc := ⟨.hbm, 42, rfl⟩
abbrev main_v27_3 : Ref sig .tc := ⟨.hbm, 43, rfl⟩
abbrev main_v27_4 : Ref sig .tc := ⟨.hbm, 44, rfl⟩
abbrev main_v27_5 : Ref sig .tc := ⟨.hbm, 45, rfl⟩
abbrev main_v27_6 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem13_0 : DmaSem sig := 21
abbrev cc0_sem14_0 : DmaSem sig := 22
abbrev cc0_sem15_0 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== HeadBwdRefIdeal.lean ====
abbrev S8192x1024 : Shape := ⟨2, ![8192, 1024]⟩
abbrev S8192x256 : Shape := ⟨2, ![8192, 256]⟩
abbrev S1024x1024 : Shape := ⟨2, ![1024, 1024]⟩
abbrev S1x1024 : Shape := ⟨2, ![1, 1024]⟩
abbrev S256x1024 : Shape := ⟨2, ![256, 1024]⟩
abbrev S_ : Shape := ⟨0, ![]⟩
abbrev S1024 : Shape := ⟨1, ![1024]⟩
abbrev S8192 : Shape := ⟨1, ![8192]⟩
abbrev S8192x1 : Shape := ⟨2, ![8192, 1]⟩
abbrev S1x1 : Shape := ⟨2, ![1, 1]⟩

abbrev nBuf : Space → Nat
  | .hbm => 155
  | .vmem => 0
  | .smem => 0
  | _ => 0

abbrev hbmTy0_0 (i : Nat) : BufTy := match i % 128 with
  | 0 => ⟨S8192x1024, .f32⟩
  | 1 => ⟨S8192x256, .f32⟩
  | 2 => ⟨S8192x1024, .f32⟩
  | 3 => ⟨S1024x1024, .bf16⟩
  | 4 => ⟨S1x1024, .f32⟩
  | 5 => ⟨S256x1024, .bf16⟩
  | 6 => ⟨S1x1024, .f32⟩
  | 7 => ⟨S1x1024, .f32⟩
  | 8 => ⟨S1024x1024, .f32⟩
  | 9 => ⟨S256x1024, .f32⟩
  | 10 => ⟨S_, .f32⟩
  | 11 => ⟨S8192x1024, .f32⟩
  | 12 => ⟨S1024, .f32⟩
  | 13 => ⟨S1024, .f32⟩
  | 14 => ⟨S_, .f32⟩
  | 15 => ⟨S8192, .f32⟩
  | 16 => ⟨S8192x1, .f32⟩
  | 17 => ⟨S_, .f32⟩
  | 18 => ⟨S8192x1, .f32⟩
  | 19 => ⟨S8192x1, .f32⟩
  | 20 => ⟨S8192x1024, .f32⟩
  | 21 => ⟨S8192x1024, .f32⟩
  | 22 => ⟨S8192x1024, .f32⟩
  | 23 => ⟨S_, .f32⟩
  | 24 => ⟨S8192x1024, .f32⟩
  | 25 => ⟨S8192x1024, .f32⟩
  | 26 => ⟨S_, .f32⟩
  | 27 => ⟨S8192, .f32⟩
  | 28 => ⟨S8192x1, .f32⟩
  | 29 => ⟨S_, .f32⟩
  | 30 => ⟨S8192x1, .f32⟩
  | 31 => ⟨S8192x1, .f32⟩
  | 32 => ⟨S_, .f32⟩
  | 33 => ⟨S8192x1, .f32⟩
  | 34 => ⟨S8192x1, .f32⟩
  | 35 => ⟨S8192x1, .f32⟩
  | 36 => ⟨S8192x1, .f32⟩
  | 37 => ⟨S_, .f32⟩
  | 38 => ⟨S8192x1, .f32⟩
  | 39 => ⟨S8192x1, .f32⟩
  | 40 => ⟨S8192x1024, .f32⟩
  | 41 => ⟨S8192x1024, .f32⟩
  | 42 => ⟨S8192x1024, .f32⟩
  | 43 => ⟨S8192x1024, .f32⟩
  | 44 => ⟨S1x1024, .f32⟩
  | 45 => ⟨S8192x1024, .f32⟩
  | 46 => ⟨S8192x1024, .f32⟩
  | 47 => ⟨S1x1024, .f32⟩
  | 48 => ⟨S8192x1024, .f32⟩
  | 49 => ⟨S8192x1024, .f32⟩
  | 50 => ⟨S8192x1024, .f32⟩
  | 51 => ⟨S1024, .f32⟩
  | 52 => ⟨S1x1024, .f32⟩
  | 53 => ⟨S8192x1024, .f32⟩
  | 54 => ⟨S8192x1024, .f32⟩
  | 55 => ⟨S8192x1024, .f32⟩
  | 56 => ⟨S8192x1024, .f32⟩
  | 57 => ⟨S8192x1024, .f32⟩
  | 58 => ⟨S_, .f32⟩
  | 59 => ⟨S8192x1024, .f32⟩
  | 60 => ⟨S8192x1024, .f32⟩
  | 61 => ⟨S_, .f32⟩
  | 62 => ⟨S8192x1024, .f32⟩
  | 63 => ⟨S8192x1024, .f32⟩
  | 64 => ⟨S_, .f32⟩
  | 65 => ⟨S8192x1024, .f32⟩
  | 66 => ⟨S8192x1024, .f32⟩
  | 67 => ⟨S8192x1024, .f32⟩
  | 68 => ⟨S8192x1024, .f32⟩
  | 69 => ⟨S8192x1024, .f32⟩
  | 70 => ⟨S8192x1024, .f32⟩
  | 71 => ⟨S8192x1024, .f32⟩
  | 72 => ⟨S8192x1024, .f32⟩
  | 73 => ⟨S8192x1024, .f32⟩
  | 74 => ⟨S_, .f32⟩
  | 75 => ⟨S8192x1024, .f32⟩
  | 76 => ⟨S8192x1024, .f32⟩
  | 77 => ⟨S_, .f32⟩
  | 78 => ⟨S8192, .f32⟩
  | 79 => ⟨S_, .f32⟩
  | 80 => ⟨S8192, .f32⟩
  | 81 => ⟨S8192, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S8192, .f32⟩
  | 90 => ⟨S_, .f32⟩
  | 91 => ⟨S8192, .f32⟩
  | 92 => ⟨S8192, .f32⟩
  | 93 => ⟨S8192x1024, .f32⟩
  | 94 => ⟨S8192x1024, .f32⟩
  | 95 => ⟨S8192x1024, .f32⟩
  | 96 => ⟨S8192x1024, .f32⟩
  | 97 => ⟨S8192x1024, .f32⟩
  | 98 => ⟨S_, .f32⟩
  | 99 => ⟨S1024, .f32⟩
  | 100 => ⟨S1x1024, .f32⟩
  | 101 => ⟨S_, .f32⟩
  | 102 => ⟨S1024, .f32⟩
  | 103 => ⟨S1x1024, .f32⟩
  | 104 => ⟨S8192x1024, .f32⟩
  | 105 => ⟨S8192x1024, .f32⟩
  | 106 => ⟨S_, .f32⟩
  | 107 => ⟨S1024, .f32⟩
  | 108 => ⟨S1x1024, .f32⟩
  | 109 => ⟨S_, .f32⟩
  | 110 => ⟨S1024, .f32⟩
  | 111 => ⟨S8192x1024, .f32⟩
  | 112 => ⟨S_, .f32⟩
  | 113 => ⟨S1024, .f32⟩
  | 114 => ⟨S1x1024, .f32⟩
  | 115 => ⟨S8192x1024, .f32⟩
  | 116 => ⟨S8192x1024, .f32⟩
  | 117 => ⟨S_, .f32⟩
  | 118 => ⟨S1024, .f32⟩
  | 119 => ⟨S8192x1024, .f32⟩
  | 120 => ⟨S_, .f32⟩
  | 121 => ⟨S8192, .f32⟩
  | 122 => ⟨S8192x1, .f32⟩
  | 123 => ⟨S8192x1024, .f32⟩
  | 124 => ⟨S8192x1024, .f32⟩
  | 125 => ⟨S8192x1024, .f32⟩
  | 126 => ⟨S_, .f32⟩
  | 127 => ⟨S8192, .f32⟩
  | _ => ⟨S8192x1024, .f32⟩

abbrev hbmTy0_1 (i : Nat) : BufTy := match i % 128 with
  | 0 => ⟨S8192x1, .f32⟩
  | 1 => ⟨S8192x1, .f32⟩
  | 2 => ⟨S_, .f32⟩
  | 3 => ⟨S8192x1, .f32⟩
  | 4 => ⟨S8192x1, .f32⟩
  | 5 => ⟨S_, .f32⟩
  | 6 => ⟨S8192, .f32⟩
  | 7 => ⟨S8192x1024, .f32⟩
  | 8 => ⟨S8192x1024, .f32⟩
  | 9 => ⟨S8192x1024, .f32⟩
  | 10 => ⟨S_, .f32⟩
  | 11 => ⟨S8192, .f32⟩
  | 12 => ⟨S8192x1, .f32⟩
  | 13 => ⟨S8192x1024, .f32⟩
  | 14 => ⟨S8192x1, .f32⟩
  | 15 => ⟨S_, .f32⟩
  | 16 => ⟨S8192x1, .f32⟩
  | 17 => ⟨S8192x1, .f32⟩
  | 18 => ⟨S_, .f32⟩
  | 19 => ⟨S8192, .f32⟩
  | 20 => ⟨S8192x1024, .f32⟩
  | 21 => ⟨S8192x1024, .f32⟩
  | 22 => ⟨S1x1024, .f32⟩
  | 23 => ⟨S1x1024, .f32⟩
  | 24 => ⟨S8192x1024, .bf16⟩
  | 25 => ⟨S8192x1024, .bf16⟩
  | 26 => ⟨S1x1, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_cst_5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_6 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_7 : Ref sig .tc := ⟨.hbm, 58, rfl⟩
abbrev main_v42 : Ref sig .tc := ⟨.hbm, 59, rfl⟩
abbrev main_v43 : Ref sig .tc := ⟨.hbm, 60, rfl⟩
abbrev main_cst_8 : Ref sig .tc := ⟨.hbm, 61, rfl⟩
abbrev main_v44 : Ref sig .tc := ⟨.hbm, 62, rfl⟩
abbrev main_v45 : Ref sig .tc := ⟨.hbm, 63, rfl⟩
abbrev main_cst_9 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_10 : Ref sig .tc := ⟨.hbm, 74, rfl⟩
abbrev main_v55 : Ref sig .tc := ⟨.hbm, 75, rfl⟩
abbrev main_v56 : Ref sig .tc := ⟨.hbm, 76, rfl⟩
abbrev main_cst_11 : Ref sig .tc := ⟨.hbm, 77, rfl⟩
abbrev main_v57 : Ref sig .tc := ⟨.hbm, 78, rfl⟩
abbrev main_cst_12 : Ref sig .tc := ⟨.hbm, 79, rfl⟩
abbrev main_v58 : Ref sig .tc := ⟨.hbm, 80, rfl⟩
abbrev main_v59 : Ref sig .tc := ⟨.hbm, 81, rfl⟩
abbrev main_cst_13 : Ref sig .tc := ⟨.hbm, 82, rfl⟩
abbrev main_v60 : Ref sig .tc := ⟨.hbm, 83, rfl⟩
abbrev main_cst_14 : Ref sig .tc := ⟨.hbm, 84, rfl⟩
abbrev main_v61 : Ref sig .tc := ⟨.hbm, 85, rfl⟩
abbrev main_cst_15 : Ref sig .tc := ⟨.hbm, 86, rfl⟩
abbrev main_cst_16 : Ref sig .tc := ⟨.hbm, 87, rfl⟩
abbrev main_v62 : Ref sig .tc := ⟨.hbm, 88, rfl⟩
abbrev main_v63 : Ref sig .tc := ⟨.hbm, 89, rfl⟩
abbrev main_cst_17 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_cst_18 : Ref sig .tc := ⟨.hbm, 98, rfl⟩
abbrev main_v71 : Ref sig .tc := ⟨.hbm, 99, rfl⟩
abbrev main_v72 : Ref sig .tc := ⟨.hbm, 100, rfl⟩
abbrev main_cst_19 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_cst_20 : Ref sig .tc := ⟨.hbm, 106, rfl⟩
abbrev main_v77 : Ref sig .tc := ⟨.hbm, 107, rfl⟩
abbrev main_v78 : Ref sig .tc := ⟨.hbm, 108, rfl⟩
abbrev main_cst_21 : Ref sig .tc := ⟨.hbm, 109, rfl⟩
abbrev main_v79 : Ref sig .tc := ⟨.hbm, 110, rfl⟩
abbrev main_v80 : Ref sig .tc := ⟨.hbm, 111, rfl⟩
abbrev main_cst_22 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_cst_23 : Ref sig .tc := ⟨.hbm, 117, rfl⟩
abbrev main_v85 : Ref sig .tc := ⟨.hbm, 118, rfl⟩
abbrev main_v86 : Ref sig .tc := ⟨.hbm, 119, rfl⟩
abbrev main_cst_24 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_cst_25 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_cst_26 : Ref sig .tc := ⟨.hbm, 130, rfl⟩
abbrev main_v95 : Ref sig .tc := ⟨.hbm, 131, rfl⟩
abbrev main_v96 : Ref sig .tc := ⟨.hbm, 132, rfl⟩
abbrev main_cst_27 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_cst_28 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_cst_29 : Ref sig .tc := ⟨.hbm, 143, rfl⟩
abbrev main_v105 : Ref sig .tc := ⟨.hbm, 144, rfl⟩
abbrev main_v106 : Ref sig .tc := ⟨.hbm, 145, rfl⟩
abbrev main_cst_30 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩

abbrev nD : Nat := 1
abbrev τ : Topo := Topo.v7x

variable {F : FTy → Type} [FloatOps F]
-- ==== SumSmall.lean ====
abbrev S8x16x1024 : Shape := ⟨3, ![8, 16, 1024]⟩
abbrev S16x1024 : Shape := ⟨2, ![16, 1024]⟩
abbrev S1x16x1024 : Shape := ⟨3, ![1, 16, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x16x1024, .f32⟩
  | .hbm, ⟨1, _⟩ => ⟨S16x1024, .f32⟩
  | .local _ .vmem, ⟨0, _⟩ => ⟨S8x16x1024, .f32⟩
  | .local _ .vmem, ⟨1, _⟩ => ⟨S16x1024, .f32⟩
  | _, _ => ⟨S8x16x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumSmallRefIdeal.lean ====
abbrev S8x16x1024 : Shape := ⟨3, ![8, 16, 1024]⟩
abbrev S_ : Shape := ⟨0, ![]⟩
abbrev S16x1024 : Shape := ⟨2, ![16, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x16x1024, .f32⟩
  | .hbm, ⟨1, _⟩ => ⟨S_, .f32⟩
  | .hbm, ⟨2, _⟩ => ⟨S16x1024, .f32⟩
  | _, _ => ⟨S8x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== AdamwSmall.lean ====
abbrev S1x16x1024 : Shape := ⟨3, ![1, 16, 1024]⟩
abbrev S16x1024 : Shape := ⟨2, ![16, 1024]⟩

abbrev nBuf : Space → Nat
  | .hbm => 8
  | .vmem => 8
  | .smem => 0
  | _ => 0

abbrev bufTy : (tb : Table) → Fin (tcTables nBuf tb) → BufTy
  | .hbm, ⟨0, _⟩ => ⟨S1x16x1024, .f32⟩
  | .hbm, ⟨1, _⟩ => ⟨S16x1024, .f32⟩
  | .hbm, ⟨2, _⟩ => ⟨S16x1024, .f32⟩
  | .hbm, ⟨3, _⟩ => ⟨S16x1024, .f32⟩
  | .hbm, ⟨4, _⟩ => ⟨S16x1024, .f32⟩
  | .hbm, ⟨5, _⟩ => ⟨S16x1024, .f32⟩
  | .hbm, ⟨6, _⟩ => ⟨S16x1024, .f32⟩
  | .hbm, ⟨7, _⟩ => ⟨S16x1024, .f32⟩
  | .local _ .vmem, ⟨0, _⟩ => ⟨S1x16x1024, .f32⟩
  | .local _ .vmem, ⟨1, _⟩ => ⟨S16x1024, .f32⟩
  | .local _ .vmem, ⟨2, _⟩ => ⟨S16x1024, .f32⟩
  | .local _ .vmem, ⟨3, _⟩ => ⟨S16x1024, .f32⟩
  | .local _ .vmem, ⟨4, _⟩ => ⟨S16x1024, .f32⟩
  | .local _ .vmem, ⟨5, _⟩ => ⟨S16x1024, .f32⟩
  | .local _ .vmem, ⟨6, _⟩ => ⟨S16x1024, .f32⟩
  | .local _ .vmem, ⟨7, _⟩ => ⟨S16x1024, .f32⟩
  | _, _ => ⟨S1x16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1x16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S16x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S16x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S16x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S16x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S16x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdamwSmallRefIdeal.lean ====
abbrev S1x16x1024 : Shape := ⟨3, ![1, 16, 1024]⟩
abbrev S16x1024 : Shape := ⟨2, ![16, 1024]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1x16x1024, .f32⟩
  | .hbm, ⟨1, _⟩ => ⟨S16x1024, .f32⟩
  | .hbm, ⟨2, _⟩ => ⟨S16x1024, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S_, .f32⟩
  | .hbm, ⟨13, _⟩ => ⟨S16x1024, .f32⟩
  | .hbm, ⟨14, _⟩ => ⟨S16x1024, .f32⟩
  | .hbm, ⟨15, _⟩ => ⟨S16x1024, .f32⟩
  | .hbm, ⟨16, _⟩ => ⟨S_, .f32⟩
  | .hbm, ⟨17, _⟩ => ⟨S16x1024, .f32⟩
  | .hbm, ⟨18, _⟩ => ⟨S16x1024, .f32⟩
  | .hbm, ⟨19, _⟩ => ⟨S16x1024, .f32⟩
  | .hbm, ⟨20, _⟩ => ⟨S_, .f32⟩
  | .hbm, ⟨21, _⟩ => ⟨S16x1024, .f32⟩
  | .hbm, ⟨22, _⟩ => ⟨S16x1024, .f32⟩
  | .hbm, ⟨23, _⟩ => ⟨S_, .f32⟩
  | .hbm, ⟨24, _⟩ => ⟨S16x1024, .f32⟩
  | .hbm, ⟨25, _⟩ => ⟨S16x1024, .f32⟩
  | .hbm, ⟨26, _⟩ => ⟨S16x1024, .f32⟩
  | .hbm, ⟨27, _⟩ => ⟨S_, .f32⟩
  | .hbm, ⟨28, _⟩ => ⟨S16x1024, .f32⟩
  | .hbm, ⟨29, _⟩ => ⟨S16x1024, .f32⟩
  | .hbm, ⟨30, _⟩ => ⟨S16x1024, .f32⟩
  | .hbm, ⟨31, _⟩ => ⟨S_, .f32⟩
  | .hbm, ⟨32, _⟩ => ⟨S16x1024, .f32⟩
  | .hbm, ⟨33, _⟩ => ⟨S16x1024, .f32⟩
  | .hbm, ⟨34, _⟩ => ⟨S16x1024, .f32⟩
  | .hbm, ⟨35, _⟩ => ⟨S_, .f32⟩
  | .hbm, ⟨36, _⟩ => ⟨S16x1024, .f32⟩
  | .hbm, ⟨37, _⟩ => ⟨S16x1024, .f32⟩
  | _, _ => ⟨S1x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== HgrnFwd.lean ====
abbrev S8192x2048 : Shape := ⟨2, ![8192, 2048]⟩
abbrev S2x512 : Shape := ⟨2, ![2, 512]⟩
abbrev S1x512 : Shape := ⟨2, ![1, 512]⟩
abbrev S8192x512 : Shape := ⟨2, ![8192, 512]⟩
abbrev S64x4x128x128 : Shape := ⟨4, ![64, 4, 128, 128]⟩
abbrev S512x2048 : Shape := ⟨2, ![512, 2048]⟩
abbrev S512x512 : Shape := ⟨2, ![512, 512]⟩
abbrev S4x4x128x128 : Shape := ⟨4, ![4, 4, 128, 128]⟩
abbrev S4x128x128 : Shape := ⟨3, ![4, 128, 128]⟩
abbrev S128x128 : Shape := ⟨2, ![128, 128]⟩
abbrev S1x128 : Shape := ⟨2, ![1, 128]⟩
abbrev S16x128 : Shape := ⟨2, ![16, 128]⟩
abbrev S1x128x128 : Shape := ⟨3, ![1, 128, 128]⟩
abbrev S1x1x128x128 : Shape := ⟨4, ![1, 1, 128, 128]⟩
abbrev S128 : Shape := ⟨1, ![128]⟩
abbrev S128x1 : Shape := ⟨2, ![128, 1]⟩

abbrev nBuf : Space → Nat
  | .hbm => 8
  | .vmem => 15
  | .smem => 0
  | _ => 0

abbrev bufTy : (tb : Table) → Fin (tcTables nBuf tb) → BufTy
  | .hbm, ⟨0, _⟩ => ⟨S8192x2048, .f32⟩
  | .hbm, ⟨1, _⟩ => ⟨S2x512, .f32⟩
  | .hbm, ⟨2, _⟩ => ⟨S1x512, .f32⟩
  | .hbm, ⟨3, _⟩ => ⟨S8192x512, .bf16⟩
  | .hbm, ⟨4, _⟩ => ⟨S64x4x128x128, .f32⟩
  | .hbm, ⟨5, _⟩ => ⟨S8192x512, .f32⟩
  | .hbm, ⟨6, _⟩ => ⟨S8192x512, .bf16⟩
  | .hbm, ⟨7, _⟩ => ⟨S8192x512, .f32⟩
  | .local _ .vmem, ⟨0, _⟩ => ⟨S512x2048, .f32⟩
  | .local _ .vmem, ⟨1, _⟩ => ⟨S512x2048, .f32⟩
  | .local _ .vmem, ⟨2, _⟩ => ⟨S2x512, .f32⟩
  | .local _ .vmem, ⟨3, _⟩ => ⟨S1x512, .f32⟩
  | .local _ .vmem, ⟨4, _⟩ => ⟨S512x512, .bf16⟩
  | .local _ .vmem, ⟨5, _⟩ => ⟨S512x512, .bf16⟩
  | .local _ .vmem, ⟨6, _⟩ => ⟨S4x4x128x128, .f32⟩
  | .local _ .vmem, ⟨7, _⟩ => ⟨S4x4x128x128, .f32⟩
  | .local _ .vmem, ⟨8, _⟩ => ⟨S512x512, .f32⟩
  | .local _ .vmem, ⟨9, _⟩ => ⟨S512x512, .f32⟩
  | .local _ .vmem, ⟨10, _⟩ => ⟨S512x512, .bf16⟩
  | .local _ .vmem, ⟨11, _⟩ => ⟨S512x512, .bf16⟩
  | .local _ .vmem, ⟨12, _⟩ => ⟨S512x512, .f32⟩
  | .local _ .vmem, ⟨13, _⟩ => ⟨S512x512, .f32⟩
  | .local _ .vmem, ⟨14, _⟩ => ⟨S4x128x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![16], ![false]⟩

def k0_mult1 : BitVec 32 :=
  let c0_i32_4 : BitVec 32 := 0#32
  let c128_i32 : BitVec 32 := 128#32
  let v19 : BitVec 32 := Scalar.muli c0_i32_4 c128_i32
  v19
def k0_off1 (c0_i32_4 : BitVec 32) : Fin 2 → Nat :=
  let c128_i32 : BitVec 32 := 128#32
  let v19 : BitVec 32 := Scalar.muli c0_i32_4 c128_i32
  let v20 : BitVec 32 := v19
  let v21 : Index := Scalar.indexCast v20
  let c1024 : Index := 1024#32
  ![v21.toNat, 1024]
def k0_off2 (c0_i32_4 : BitVec 32) : Fin 2 → Nat :=
  let c128_i32 : BitVec 32 := 128#32
  let v19 : BitVec 32 := Scalar.muli c0_i32_4 c128_i32
  let v20 : BitVec 32 := v19
  let v23 : Index := Scalar.indexCast v20
  let c1152 : Index := 1152#32
  ![v23.toNat, 1152]
def k0_off3 (c0_i32_4 : BitVec 32) : Fin 2 → Nat :=
  let c128_i32 : BitVec 32 := 128#32
  let v19 : BitVec 32 := Scalar.muli c0_i32_4 c128_i32
  let v20 : BitVec 32 := v19
  let v25 : Index := Scalar.indexCast v20
  let c1280 : Index := 1280#32
  ![v25.toNat, 1280]
def k0_off4 (c0_i32_4 : BitVec 32) : Fin 2 → Nat :=
  let c128_i32 : BitVec 32 := 128#32
  let v19 : BitVec 32 := Scalar.muli c0_i32_4 c128_i32
  let v20 : BitVec 32 := v19
  let v27 : Index := Scalar.indexCast v20
  let c1408 : Index := 1408#32
  ![v27.toNat, 1408]
def k0_off5 (c0_i32_4 : BitVec 32) : Fin 2 → Nat :=
  let c128_i32 : BitVec 32 := 128#32
  let v19 : BitVec 32 := Scalar.muli c0_i32_4 c128_i32
  let v20 : BitVec 32 := v19
  let v29 : Index := Scalar.indexCast v20
  let c0_5 : Index := 0#32
  ![v29.toNat, 0]
def k0_off6 (c0_i32_4 : BitVec 32) : Fin 2 → Nat :=
  let c128_i32 : BitVec 32 := 128#32
  let v19 : BitVec 32 := Scalar.muli c0_i32_4 c128_i32
  let v20 : BitVec 32 := v19
  let v31 : Index := Scalar.indexCast v20
  let c512 : Index := 512#32
  ![v31.toNat, 512]
def k0_off7 (c0_i32_4 : BitVec 32) : Fin 2 → Nat :=
  let c128_i32 : BitVec 32 := 128#32
  let v19 : BitVec 32 := Scalar.muli c0_i32_4 c128_i32
  let v20 : BitVec 32 := v19
  let v75 : Index := Scalar.indexCast v20
  let c128 : Index := 128#32
  ![v75.toNat, 128]
def k0_off8 (c0_i32_4 : BitVec 32) : Fin 2 → Nat :=
  let c128_i32 : BitVec 32 := 128#32
  let v19 : BitVec 32 := Scalar.muli c0_i32_4 c128_i32
  let v20 : BitVec 32 := v19
  let v77 : Index := Scalar.indexCast v20
  let c640 : Index := 640#32
  ![v77.toNat, 640]
def k0_off9 (c0_i32_4 : BitVec 32) : Fin 2 → Nat :=
  let c128_i32 : BitVec 32 := 128#32
  let v19 : BitVec 32 := Scalar.muli c0_i32_4 c128_i32
  let v20 : BitVec 32 := v19
  let v121 : Index := Scalar.indexCast v20
  let c256 : Index := 256#32
  ![v121.toNat, 256]
def k0_off10 (c0_i32_4 : BitVec 32) : Fin 2 → Nat :=
  let c128_i32 : BitVec 32 := 128#32
  let v19 : BitVec 32 := Scalar.muli c0_i32_4 c128_i32
  let v20 : BitVec 32 := v19
  let v123 : Index := Scalar.indexCast v20
  let c768 : Index := 768#32
  ![v123.toNat, 768]
def k0_off11 (c0_i32_4 : BitVec 32) : Fin 2 → Nat :=
  let c128_i32 : BitVec 32 := 128#32
  let v19 : BitVec 32 := Scalar.muli c0_i32_4 c128_i32
  let v20 : BitVec 32 := v19
  let v167 : Index := Scalar.indexCast v20
  let c384 : Index := 384#32
  ![v167.toNat, 384]
def k0_off12 (c0_i32_4 : BitVec 32) : Fin 2 → Nat :=
  let c128_i32 : BitVec 32 := 128#32
  let v19 : BitVec 32 := Scalar.muli c0_i32_4 c128_i32
  let v20 : BitVec 32 := v19
  let v169 : Index := Scalar.indexCast v20
  let c896 : Index := 896#32
  ![v169.toNat, 896]
def k0_off13 (c0_i32_4 : BitVec 32) : Fin 2 → Nat :=
  let c128_i32 : BitVec 32 := 128#32
  let v19 : BitVec 32 := Scalar.muli c0_i32_4 c128_i32
  let v20 : BitVec 32 := v19
  let v836 : Index := Scalar.indexCast v20
  let c0_153 : Index := 0#32
  ![v836.toNat, 0]
def k0_off14 (c0_i32_4 : BitVec 32) : Fin 2 → Nat :=
  let c128_i32 : BitVec 32 := 128#32
  let v19 : BitVec 32 := Scalar.muli c0_i32_4 c128_i32
  let v20 : BitVec 32 := v19
  let v843 : Index := Scalar.indexCast v20
  let c1536 : Index := 1536#32
  ![v843.toNat, 1536]
def k0_off15 (c0_i32_4 : BitVec 32) : Fin 2 → Nat :=
  let c128_i32 : BitVec 32 := 128#32
  let v19 : BitVec 32 := Scalar.muli c0_i32_4 c128_i32
  let v20 : BitVec 32 := v19
  let v877 : Index := Scalar.indexCast v20
  let c128_171 : Index := 128#32
  ![v877.toNat, 128]
def k0_off16 (c0_i32_4 : BitVec 32) : Fin 2 → Nat :=
  let c128_i32 : BitVec 32 := 128#32
  let v19 : BitVec 32 := Scalar.muli c0_i32_4 c128_i32
  let v20 : BitVec 32 := v19
  let v884 : Index := Scalar.indexCast v20
  let c1664 : Index := 1664#32
  ![v884.toNat, 1664]
def k0_off17 (c0_i32_4 : BitVec 32) : Fin 2 → Nat :=
  let c128_i32 : BitVec 32 := 128#32
  let v19 : BitVec 32 := Scalar.muli c0_i32_4 c128_i32
  let v20 : BitVec 32 := v19
  let v918 : Index := Scalar.indexCast v20
  let c256_189 : Index := 256#32
  ![v918.toNat, 256]
def k0_off18 (c0_i32_4 : BitVec 32) : Fin 2 → Nat :=
  let c128_i32 : BitVec 32 := 128#32
  let v19 : BitVec 32 := Scalar.muli c0_i32_4 c128_i32
  let v20 : BitVec 32 := v19
  let v925 : Index := Scalar.indexCast v20
  let c1792 : Index := 1792#32
  ![v925.toNat, 1792]
def k0_off19 (c0_i32_4 : BitVec 32) : Fin 2 → Nat :=
  let c128_i32 : BitVec 32 := 128#32
  let v19 : BitVec 32 := Scalar.muli c0_i32_4 c128_i32
  let v20 : BitVec 32 := v19
  let v959 : Index := Scalar.indexCast v20
  let c384_207 : Index := 384#32
  ![v959.toNat, 384]
def k0_off20 (c0_i32_4 : BitVec 32) : Fin 2 → Nat :=
  let c128_i32 : BitVec 32 := 128#32
  let v19 : BitVec 32 := Scalar.muli c0_i32_4 c128_i32
  let v20 : BitVec 32 := v19
  let v966 : Index := Scalar.indexCast v20
  let c1920 : Index := 1920#32
  ![v966.toNat, 1920]
def k0_mult2 : BitVec 32 :=
  let c1_i32 : BitVec 32 := 1#32
  let c128_i32_219 : BitVec 32 := 128#32
  let v993 : BitVec 32 := Scalar.muli c1_i32 c128_i32_219
  v993
def k0_mult3 : BitVec 32 :=
  let c2_i32 : BitVec 32 := 2#32
  let c128_i32_452 : BitVec 32 := 128#32
  let v1967 : BitVec 32 := Scalar.muli c2_i32 c128_i32_452
  v1967
def k0_mult4 : BitVec 32 :=
  let c3_i32 : BitVec 32 := 3#32
  let c128_i32_685 : BitVec 32 := 128#32
  let v2941 : BitVec 32 := Scalar.muli c3_i32 c128_i32_685
  v2941
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x4x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== HgrnFwdRefIdeal.lean ====
abbrev S8192x2048 : Shape := ⟨2, ![8192, 2048]⟩
abbrev S2x512 : Shape := ⟨2, ![2, 512]⟩
abbrev S1x512 : Shape := ⟨2, ![1, 512]⟩
abbrev S_ : Shape := ⟨0, ![]⟩
abbrev S512 : Shape := ⟨1, ![512]⟩
abbrev S8192x512 : Shape := ⟨2, ![8192, 512]⟩
abbrev S8192x4x128 : Shape := ⟨3, ![8192, 4, 128]⟩
abbrev S4x8192x128 : Shape := ⟨3, ![4, 8192, 128]⟩
abbrev S8192x8192 : Shape := ⟨2, ![8192, 8192]⟩
abbrev S8192x8192x1 : Shape := ⟨3, ![8192, 8192, 1]⟩
abbrev S4x8192x1x128 : Shape := ⟨4, ![4, 8192, 1, 128]⟩
abbrev S4x1x8192x128 : Shape := ⟨4, ![4, 1, 8192, 128]⟩
abbrev S4x8192x8192x128 : Shape := ⟨4, ![4, 8192, 8192, 128]⟩
abbrev S4x8192x8192 : Shape := ⟨3, ![4, 8192, 8192]⟩
abbrev S8192x4 : Shape := ⟨2, ![8192, 4]⟩
abbrev S8192x4x1 : Shape := ⟨3, ![8192, 4, 1]⟩
abbrev S64x128x512 : Shape := ⟨3, ![64, 128, 512]⟩
abbrev S64x128x4x128 : Shape := ⟨4, ![64, 128, 4, 128]⟩
abbrev S128x128 : Shape := ⟨2, ![128, 128]⟩
abbrev S128x128x1x1 : Shape := ⟨4, ![128, 128, 1, 1]⟩
abbrev S64x128x1x4x128 : Shape := ⟨5, ![64, 128, 1, 4, 128]⟩
abbrev S64x1x128x4x128 : Shape := ⟨5, ![64, 1, 128, 4, 128]⟩
abbrev S64x128x128x4x128 : Shape := ⟨5, ![64, 128, 128, 4, 128]⟩
abbrev S64x128x128x4 : Shape := ⟨4, ![64, 128, 128, 4]⟩
abbrev S4x1x128 : Shape := ⟨3, ![4, 1, 128]⟩
abbrev S4x63x128 : Shape := ⟨3, ![4, 63, 128]⟩
abbrev S4x64x128 : Shape := ⟨3, ![4, 64, 128]⟩
abbrev S8192 : Shape := ⟨1, ![8192]⟩
abbrev S1x8192 : Shape := ⟨2, ![1, 8192]⟩
abbrev S64 : Shape := ⟨1, ![64]⟩
abbrev S64x1 : Shape := ⟨2, ![64, 1]⟩
abbrev S64x8192 : Shape := ⟨2, ![64, 8192]⟩
abbrev S64x8192x1 : Shape := ⟨3, ![64, 8192, 1]⟩
abbrev S4x64x1x128 : Shape := ⟨4, ![4, 64, 1, 128]⟩
abbrev S4x64x8192x128 : Shape := ⟨4, ![4, 64, 8192, 128]⟩
abbrev S4x64x128x128 : Shape := ⟨4, ![4, 64, 128, 128]⟩
abbrev S64x4x128x128 : Shape := ⟨4, ![64, 4, 128, 128]⟩

abbrev nBuf : Space → Nat
  | .hbm => 334
  | .vmem => 0
  | .smem => 0
  | _ => 0

abbrev hbmTy0_0 (i : Nat) : BufTy := match i % 128 with
  | 0 => ⟨S8192x2048, .f32⟩
  | 1 => ⟨S2x512, .f32⟩
  | 2 => ⟨S1x512, .f32⟩
  | 3 => ⟨S_, .f32⟩
  | 4 => ⟨S512, .f32⟩
  | 5 => ⟨S_, .f32⟩
  | 6 => ⟨S512, .f32⟩
  | 7 => ⟨S512, .f32⟩
  | 8 => ⟨S1x512, .f32⟩
  | 9 => ⟨S2x512, .f32⟩
  | 10 => ⟨S2x512, .f32⟩
  | 11 => ⟨S2x512, .f32⟩
  | 12 => ⟨S_, .f32⟩
  | 13 => ⟨S512, .f32⟩
  | 14 => ⟨S1x512, .f32⟩
  | 15 => ⟨S2x512, .f32⟩
  | 16 => ⟨S2x512, .f32⟩
  | 17 => ⟨S_, .f32⟩
  | 18 => ⟨S_, .f32⟩
  | 19 => ⟨S2x512, .f32⟩
  | 20 => ⟨S8192x512, .f32⟩
  | 21 => ⟨S8192x512, .f32⟩
  | 22 => ⟨S8192x512, .f32⟩
  | 23 => ⟨S8192x512, .f32⟩
  | 24 => ⟨S1x512, .f32⟩
  | 25 => ⟨S512, .f32⟩
  | 26 => ⟨S512, .f32⟩
  | 27 => ⟨S512, .f32⟩
  | 28 => ⟨S512, .f32⟩
  | 29 => ⟨S8192x512, .f32⟩
  | 30 => ⟨S_, .f32⟩
  | 31 => ⟨S8192x512, .f32⟩
  | 32 => ⟨S8192x512, .f32⟩
  | 33 => ⟨S8192x512, .f32⟩
  | 34 => ⟨S8192x512, .f32⟩
  | 35 => ⟨S8192x512, .i1⟩
  | 36 => ⟨S8192x512, .f32⟩
  | 37 => ⟨S8192x512, .f32⟩
  | 38 => ⟨S8192x512, .f32⟩
  | 39 => ⟨S8192x512, .f32⟩
  | 40 => ⟨S8192x512, .f32⟩
  | 41 => ⟨S8192x512, .f32⟩
  | 42 => ⟨S8192x512, .f32⟩
  | 43 => ⟨S8192x512, .f32⟩
  | 44 => ⟨S8192x512, .f32⟩
  | 45 => ⟨S1x512, .f32⟩
  | 46 => ⟨S8192x512, .f32⟩
  | 47 => ⟨S8192x512, .f32⟩
  | 48 => ⟨S1x512, .f32⟩
  | 49 => ⟨S8192x512, .f32⟩
  | 50 => ⟨S8192x512, .f32⟩
  | 51 => ⟨S8192x512, .f32⟩
  | 52 => ⟨S8192x512, .f32⟩
  | 53 => ⟨S8192x512, .i1⟩
  | 54 => ⟨S8192x512, .f32⟩
  | 55 => ⟨S8192x512, .f32⟩
  | 56 => ⟨S8192x512, .f32⟩
  | 57 => ⟨S8192x512, .f32⟩
  | 58 => ⟨S8192x512, .f32⟩
  | 59 => ⟨S8192x512, .f32⟩
  | 60 => ⟨S8192x512, .f32⟩
  | 61 => ⟨S8192x512, .f32⟩
  | 62 => ⟨S8192x512, .f32⟩
  | 63 => ⟨S8192x512, .f32⟩
  | 64 => ⟨S8192x512, .f32⟩
  | 65 => ⟨S8192x512, .f32⟩
  | 66 => ⟨S_, .f32⟩
  | 67 => ⟨S8192x512, .f32⟩
  | 68 => ⟨S8192x512, .f32⟩
  | 69 => ⟨S_, .f32⟩
  | 70 => ⟨S8192x512, .f32⟩
  | 71 => ⟨S8192x512, .f32⟩
  | 72 => ⟨S8192x512, .f32⟩
  | 73 => ⟨S8192x4x128, .f32⟩
  | 74 => ⟨S4x8192x128, .f32⟩
  | 75 => ⟨S8192x4x128, .f32⟩
  | 76 => ⟨S4x8192x128, .f32⟩
  | 77 => ⟨S8192x4x128, .f32⟩
  | 78 => ⟨S4x8192x128, .f32⟩
  | 79 => ⟨S8192x4x128, .f32⟩
  | 80 => ⟨S4x8192x128, .f32⟩
  | 81 => ⟨S_, .f32⟩
  | 82 => ⟨S_, .f32⟩
  | 83 => ⟨S4x8192x128, .f32⟩
  | 84 => ⟨S_, .i1⟩
  | 85 => ⟨S8192x8192, .i1⟩
  | 86 => ⟨S8192x8192, .i32⟩
  | 87 => ⟨S_, .i32⟩
  | 88 => ⟨S8192x8192, .i32⟩
  | 89 => ⟨S8192x8192, .i32⟩
  | 90 => ⟨S8192x8192, .i32⟩
  | 91 => ⟨S8192x8192, .i1⟩
  | 92 => ⟨S_, .i1⟩
  | 93 => ⟨S8192x8192, .i1⟩
  | 94 => ⟨S8192x8192, .i1⟩
  | 95 => ⟨S8192x8192x1, .i1⟩
  | 96 => ⟨S4x8192x1x128, .f32⟩
  | 97 => ⟨S4x1x8192x128, .f32⟩
  | 98 => ⟨S4x8192x8192x128, .f32⟩
  | 99 => ⟨S4x8192x8192x128, .f32⟩
  | 100 => ⟨S4x8192x8192x128, .f32⟩
  | 101 => ⟨S_, .f32⟩
  | 102 => ⟨S_, .f32⟩
  | 103 => ⟨S4x8192x8192x128, .i1⟩
  | 104 => ⟨S4x8192x8192x128, .f32⟩
  | 105 => ⟨S4x8192x8192x128, .f32⟩
  | 106 => ⟨S4x8192x8192x128, .f32⟩
  | 107 => ⟨S4x8192x1x128, .f32⟩
  | 108 => ⟨S4x1x8192x128, .f32⟩
  | 109 => ⟨S4x8192x8192x128, .f32⟩
  | 110 => ⟨S4x8192x8192x128, .f32⟩
  | 111 => ⟨S4x8192x8192x128, .f32⟩
  | 112 => ⟨S4x8192x8192x128, .f32⟩
  | 113 => ⟨S_, .f32⟩
  | 114 => ⟨S4x8192x8192, .f32⟩
  | 115 => ⟨S4x8192x128, .f32⟩
  | 116 => ⟨S8192x4x128, .f32⟩
  | 117 => ⟨S8192x4x128, .f32⟩
  | 118 => ⟨S_, .f32⟩
  | 119 => ⟨S8192x4, .f32⟩
  | 120 => ⟨S8192x4x1, .f32⟩
  | 121 => ⟨S_, .f32⟩
  | 122 => ⟨S8192x4x1, .f32⟩
  | 123 => ⟨S8192x4x1, .f32⟩
  | 124 => ⟨S_, .f32⟩
  | 125 => ⟨S8192x4x1, .f32⟩
  | 126 => ⟨S8192x4x1, .f32⟩
  | 127 => ⟨S8192x4x1, .f32⟩
  | _ => ⟨S8192x2048, .f32⟩

abbrev hbmTy0_1 (i : Nat) : BufTy := match i % 128 with
  | 0 => ⟨S8192x4x128, .f32⟩
  | 1 => ⟨S8192x4x128, .f32⟩
  | 2 => ⟨S8192x512, .f32⟩
  | 3 => ⟨S512, .f32⟩
  | 4 => ⟨S1x512, .f32⟩
  | 5 => ⟨S8192x512, .f32⟩
  | 6 => ⟨S8192x512, .f32⟩
  | 7 => ⟨S8192x512, .f32⟩
  | 8 => ⟨S8192x512, .f32⟩
  | 9 => ⟨S_, .f32⟩
  | 10 => ⟨S8192x512, .f32⟩
  | 11 => ⟨S8192x512, .f32⟩
  | 12 => ⟨S_, .f32⟩
  | 13 => ⟨S8192x512, .f32⟩
  | 14 => ⟨S8192x512, .f32⟩
  | 15 => ⟨S8192x512, .f32⟩
  | 16 => ⟨S8192x512, .f32⟩
  | 17 => ⟨S8192x512, .bf16⟩
  | 18 => ⟨S_, .f32⟩
  | 19 => ⟨S512, .f32⟩
  | 20 => ⟨S_, .f32⟩
  | 21 => ⟨S512, .f32⟩
  | 22 => ⟨S512, .f32⟩
  | 23 => ⟨S1x512, .f32⟩
  | 24 => ⟨S2x512, .f32⟩
  | 25 => ⟨S2x512, .f32⟩
  | 26 => ⟨S2x512, .f32⟩
  | 27 => ⟨S_, .f32⟩
  | 28 => ⟨S512, .f32⟩
  | 29 => ⟨S1x512, .f32⟩
  | 30 => ⟨S2x512, .f32⟩
  | 31 => ⟨S2x512, .f32⟩
  | 32 => ⟨S_, .f32⟩
  | 33 => ⟨S_, .f32⟩
  | 34 => ⟨S2x512, .f32⟩
  | 35 => ⟨S1x512, .f32⟩
  | 36 => ⟨S512, .f32⟩
  | 37 => ⟨S8192x512, .f32⟩
  | 38 => ⟨S8192x512, .f32⟩
  | 39 => ⟨S8192x512, .f32⟩
  | 40 => ⟨S8192x512, .f32⟩
  | 41 => ⟨S512, .f32⟩
  | 42 => ⟨S512, .f32⟩
  | 43 => ⟨S512, .f32⟩
  | 44 => ⟨S8192x512, .f32⟩
  | 45 => ⟨S_, .f32⟩
  | 46 => ⟨S8192x512, .f32⟩
  | 47 => ⟨S8192x512, .f32⟩
  | 48 => ⟨S8192x512, .f32⟩
  | 49 => ⟨S8192x512, .f32⟩
  | 50 => ⟨S8192x512, .i1⟩
  | 51 => ⟨S8192x512, .f32⟩
  | 52 => ⟨S8192x512, .f32⟩
  | 53 => ⟨S8192x512, .f32⟩
  | 54 => ⟨S8192x512, .f32⟩
  | 55 => ⟨S8192x512, .f32⟩
  | 56 => ⟨S8192x512, .f32⟩
  | 57 => ⟨S8192x512, .f32⟩
  | 58 => ⟨S8192x512, .f32⟩
  | 59 => ⟨S8192x512, .f32⟩
  | 60 => ⟨S1x512, .f32⟩
  | 61 => ⟨S8192x512, .f32⟩
  | 62 => ⟨S8192x512, .f32⟩
  | 63 => ⟨S1x512, .f32⟩
  | 64 => ⟨S8192x512, .f32⟩
  | 65 => ⟨S8192x512, .f32⟩
  | 66 => ⟨S8192x512, .f32⟩
  | 67 => ⟨S8192x512, .f32⟩
  | 68 => ⟨S8192x512, .i1⟩
  | 69 => ⟨S8192x512, .f32⟩
  | 70 => ⟨S8192x512, .f32⟩
  | 71 => ⟨S8192x512, .f32⟩
  | 72 => ⟨S8192x512, .f32⟩
  | 73 => ⟨S8192x512, .f32⟩
  | 74 => ⟨S8192x512, .f32⟩
  | 75 => ⟨S8192x512, .f32⟩
  | 76 => ⟨S8192x512, .f32⟩
  | 77 => ⟨S8192x512, .f32⟩
  | 78 => ⟨S8192x512, .f32⟩
  | 79 => ⟨S8192x512, .f32⟩
  | 80 => ⟨S8192x512, .f32⟩
  | 81 => ⟨S_, .f32⟩
  | 82 => ⟨S8192x512, .f32⟩
  | 83 => ⟨S8192x512, .f32⟩
  | 84 => ⟨S_, .f32⟩
  | 85 => ⟨S8192x512, .f32⟩
  | 86 => ⟨S8192x512, .f32⟩
  | 87 => ⟨S8192x512, .f32⟩
  | 88 => ⟨S8192x4x128, .f32⟩
  | 89 => ⟨S4x8192x128, .f32⟩
  | 90 => ⟨S8192x4x128, .f32⟩
  | 91 => ⟨S4x8192x128, .f32⟩
  | 92 => ⟨S8192x4x128, .f32⟩
  | 93 => ⟨S4x8192x128, .f32⟩
  | 94 => ⟨S8192x4x128, .f32⟩
  | 95 => ⟨S4x8192x128, .f32⟩
  | 96 => ⟨S_, .f32⟩
  | 97 => ⟨S_, .f32⟩
  | 98 => ⟨S4x8192x128, .f32⟩
  | 99 => ⟨S64x128x512, .f32⟩
  | 100 => ⟨S_, .f32⟩
  | 101 => ⟨S_, .f32⟩
  | 102 => ⟨S64x128x512, .f32⟩
  | 103 => ⟨S8192x512, .f32⟩
  | 104 => ⟨S_, .i1⟩
  | 105 => ⟨S8192x8192, .i1⟩
  | 106 => ⟨S8192x8192, .i32⟩
  | 107 => ⟨S_, .i32⟩
  | 108 => ⟨S8192x8192, .i32⟩
  | 109 => ⟨S8192x8192, .i32⟩
  | 110 => ⟨S8192x8192, .i32⟩
  | 111 => ⟨S8192x8192, .i1⟩
  | 112 => ⟨S_, .i1⟩
  | 113 => ⟨S8192x8192, .i1⟩
  | 114 => ⟨S8192x8192, .i1⟩
  | 115 => ⟨S8192x8192x1, .i1⟩
  | 116 => ⟨S4x8192x1x128, .f32⟩
  | 117 => ⟨S4x1x8192x128, .f32⟩
  | 118 => ⟨S4x8192x8192x128, .f32⟩
  | 119 => ⟨S4x8192x8192x128, .f32⟩
  | 120 => ⟨S4x8192x8192x128, .f32⟩
  | 121 => ⟨S_, .f32⟩
  | 122 => ⟨S_, .f32⟩
  | 123 => ⟨S4x8192x8192x128, .i1⟩
  | 124 => ⟨S4x8192x8192x128, .f32⟩
  | 125 => ⟨S4x8192x8192x128, .f32⟩
  | 126 => ⟨S4x8192x8192x128, .f32⟩
  | 127 => ⟨S4x8192x1x128, .f32⟩
  | _ => ⟨S8192x2048, .f32⟩

abbrev hbmTy0_2 (i : Nat) : BufTy := match i % 128 with
  | 0 => ⟨S4x1x8192x128, .f32⟩
  | 1 => ⟨S4x8192x8192x128, .f32⟩
  | 2 => ⟨S4x8192x8192x128, .f32⟩
  | 3 => ⟨S4x8192x8192x128, .f32⟩
  | 4 => ⟨S4x8192x8192x128, .f32⟩
  | 5 => ⟨S_, .f32⟩
  | 6 => ⟨S4x8192x8192, .f32⟩
  | 7 => ⟨S4x8192x128, .f32⟩
  | 8 => ⟨S8192x4x128, .f32⟩
  | 9 => ⟨S8192x512, .f32⟩
  | 10 => ⟨S64x128x4x128, .f32⟩
  | 11 => ⟨S64x128x4x128, .f32⟩
  | 12 => ⟨S64x128x4x128, .f32⟩
  | 13 => ⟨S_, .i1⟩
  | 14 => ⟨S128x128, .i1⟩
  | 15 => ⟨S128x128, .i32⟩
  | 16 => ⟨S_, .i32⟩
  | 17 => ⟨S128x128, .i32⟩
  | 18 => ⟨S128x128, .i32⟩
  | 19 => ⟨S128x128, .i32⟩
  | 20 => ⟨S128x128, .i1⟩
  | 21 => ⟨S_, .i1⟩
  | 22 => ⟨S128x128, .i1⟩
  | 23 => ⟨S128x128, .i1⟩
  | 24 => ⟨S128x128x1x1, .i1⟩
  | 25 => ⟨S64x128x1x4x128, .f32⟩
  | 26 => ⟨S64x1x128x4x128, .f32⟩
  | 27 => ⟨S64x128x128x4x128, .f32⟩
  | 28 => ⟨S64x128x128x4x128, .f32⟩
  | 29 => ⟨S64x128x128x4x128, .f32⟩
  | 30 => ⟨S_, .f32⟩
  | 31 => ⟨S_, .f32⟩
  | 32 => ⟨S64x128x128x4x128, .i1⟩
  | 33 => ⟨S64x128x128x4x128, .f32⟩
  | 34 => ⟨S64x128x128x4x128, .f32⟩
  | 35 => ⟨S64x128x128x4x128, .f32⟩
  | 36 => ⟨S64x128x1x4x128, .f32⟩
  | 37 => ⟨S64x1x128x4x128, .f32⟩
  | 38 => ⟨S64x128x128x4x128, .f32⟩
  | 39 => ⟨S64x128x128x4x128, .f32⟩
  | 40 => ⟨S64x128x128x4x128, .f32⟩
  | 41 => ⟨S64x128x128x4x128, .f32⟩
  | 42 => ⟨S_, .f32⟩
  | 43 => ⟨S64x128x128x4, .f32⟩
  | 44 => ⟨S64x128x4x128, .f32⟩
  | 45 => ⟨S8192x512, .f32⟩
  | 46 => ⟨S8192x512, .bf16⟩
  | 47 => ⟨S_, .f32⟩
  | 48 => ⟨S4x1x128, .f32⟩
  | 49 => ⟨S4x63x128, .f32⟩
  | 50 => ⟨S4x64x128, .f32⟩
  | 51 => ⟨S8192, .i32⟩
  | 52 => ⟨S1x8192, .i32⟩
  | 53 => ⟨S64, .i32⟩
  | 54 => ⟨S64x1, .i32⟩
  | 55 => ⟨S_, .i32⟩
  | 56 => ⟨S64x1, .i32⟩
  | 57 => ⟨S64x1, .i32⟩
  | 58 => ⟨S64x8192, .i32⟩
  | 59 => ⟨S64x8192, .i32⟩
  | 60 => ⟨S64x8192, .i1⟩
  | 61 => ⟨S64x8192x1, .i1⟩
  | 62 => ⟨S4x64x1x128, .f32⟩
  | 63 => ⟨S4x1x8192x128, .f32⟩
  | 64 => ⟨S4x64x8192x128, .f32⟩
  | 65 => ⟨S4x64x8192x128, .f32⟩
  | 66 => ⟨S4x64x8192x128, .f32⟩
  | 67 => ⟨S_, .f32⟩
  | 68 => ⟨S_, .f32⟩
  | 69 => ⟨S4x64x8192x128, .i1⟩
  | 70 => ⟨S4x64x8192x128, .f32⟩
  | 71 => ⟨S4x64x8192x128, .f32⟩
  | 72 => ⟨S4x64x8192x128, .f32⟩
  | 73 => ⟨S4x1x8192x128, .f32⟩
  | 74 => ⟨S4x64x8192x128, .f32⟩
  | 75 => ⟨S4x64x8192x128, .f32⟩
  | 76 => ⟨S4x64x128x128, .f32⟩
  | 77 => ⟨S64x4x128x128, .f32⟩
  | _ => ⟨S8192x2048, .f32⟩

abbrev hbmTy (i : Nat) : BufTy := match i / 128 with
  | 0 => hbmTy0_0 i
  | 1 => hbmTy0_1 i
  | 2 => hbmTy0_2 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_call0_call0_cst : Ref sig .tc := ⟨.hbm, 17, rfl⟩
abbrev main_call0_call0_v0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_call1_v0 : Ref sig .tc := ⟨.hbm, 29, rfl⟩
abbrev main_call1_call0_cst : Ref sig .tc := ⟨.hbm, 30, rfl⟩
abbrev main_call1_call0_v0 : Ref sig .tc := ⟨.hbm, 31, rfl⟩
abbrev main_call1_call0_v1 : Ref sig .tc := ⟨.hbm, 32, rfl⟩
abbrev main_call1_call0_v2 : Ref sig .tc := ⟨.hbm, 33, rfl⟩
abbrev main_call1_call0_v3 : Ref sig .tc := ⟨.hbm, 34, rfl⟩
abbrev main_call1_call0_v4 : Ref sig .tc := ⟨.hbm, 35, rfl⟩
abbrev main_call1_call0_v5 : Ref sig .tc := ⟨.hbm, 36, rfl⟩
abbrev main_call1_call0_v6 : Ref sig .tc := ⟨.hbm, 37, rfl⟩
abbrev main_call1_call0_v7 : Ref sig .tc := ⟨.hbm, 38, rfl⟩
abbrev main_call1_call0_v8 : Ref sig .tc := ⟨.hbm, 39, rfl⟩
abbrev main_call1_call0_v9 : Ref sig .tc := ⟨.hbm, 40, rfl⟩
abbrev main_call1_call0_v10 : Ref sig .tc := ⟨.hbm, 41, rfl⟩
abbrev main_call1_call0_v11 : Ref sig .tc := ⟨.hbm, 42, rfl⟩
abbrev main_call1_v1 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_call2_v0 : Ref sig .tc := ⟨.hbm, 64, rfl⟩
abbrev main_call2_v1 : Ref sig .tc := ⟨.hbm, 65, rfl⟩
abbrev main_call2_cst : Ref sig .tc := ⟨.hbm, 66, rfl⟩
abbrev main_call2_v2 : Ref sig .tc := ⟨.hbm, 67, rfl⟩
abbrev main_call2_v3 : Ref sig .tc := ⟨.hbm, 68, rfl⟩
abbrev main_call2_cst_0 : Ref sig .tc := ⟨.hbm, 69, rfl⟩
abbrev main_call2_v4 : Ref sig .tc := ⟨.hbm, 70, rfl⟩
abbrev main_call2_v5 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_call3_call0_cst : Ref sig .tc := ⟨.hbm, 81, rfl⟩
abbrev main_call3_call0_v0 : Ref sig .tc := ⟨.hbm, 82, rfl⟩
abbrev main_v50 : Ref sig .tc := ⟨.hbm, 83, rfl⟩
abbrev main_c : Ref sig .tc := ⟨.hbm, 84, rfl⟩
abbrev main_v51 : Ref sig .tc := ⟨.hbm, 85, rfl⟩
abbrev main_call4_v0 : Ref sig .tc := ⟨.hbm, 86, rfl⟩
abbrev main_call4_c : Ref sig .tc := ⟨.hbm, 87, rfl⟩
abbrev main_call4_v1 : Ref sig .tc := ⟨.hbm, 88, rfl⟩
abbrev main_call4_v2 : Ref sig .tc := ⟨.hbm, 89, rfl⟩
abbrev main_call4_v3 : Ref sig .tc := ⟨.hbm, 90, rfl⟩
abbrev main_call4_v4 : Ref sig .tc := ⟨.hbm, 91, rfl⟩
abbrev main_call4_c_0 : Ref sig .tc := ⟨.hbm, 92, rfl⟩
abbrev main_call4_v5 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_cst_2 : Ref sig .tc := ⟨.hbm, 101, rfl⟩
abbrev main_call5_v0 : Ref sig .tc := ⟨.hbm, 102, rfl⟩
abbrev main_call5_v1 : Ref sig .tc := ⟨.hbm, 103, rfl⟩
abbrev main_call5_v2 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_cst_3 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_cst_4 : Ref sig .tc := ⟨.hbm, 118, rfl⟩
abbrev main_v71 : Ref sig .tc := ⟨.hbm, 119, rfl⟩
abbrev main_v72 : Ref sig .tc := ⟨.hbm, 120, rfl⟩
abbrev main_cst_5 : Ref sig .tc := ⟨.hbm, 121, rfl⟩
abbrev main_v73 : Ref sig .tc := ⟨.hbm, 122, rfl⟩
abbrev main_v74 : Ref sig .tc := ⟨.hbm, 123, rfl⟩
abbrev main_cst_6 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_call6_v0 : Ref sig .tc := ⟨.hbm, 135, rfl⟩
abbrev main_call6_v1 : Ref sig .tc := ⟨.hbm, 136, rfl⟩
abbrev main_call6_cst : Ref sig .tc := ⟨.hbm, 137, rfl⟩
abbrev main_call6_v2 : Ref sig .tc := ⟨.hbm, 138, rfl⟩
abbrev main_call6_v3 : Ref sig .tc := ⟨.hbm, 139, rfl⟩
abbrev main_call6_cst_0 : Ref sig .tc := ⟨.hbm, 140, rfl⟩
abbrev main_call6_v4 : Ref sig .tc := ⟨.hbm, 141, rfl⟩
abbrev main_call6_v5 : Ref sig .tc := ⟨.hbm, 142, rfl⟩
abbrev main_v85 : Ref sig .tc := ⟨.hbm, 143, rfl⟩
abbrev main_v86 : Ref sig .tc := ⟨.hbm, 144, rfl⟩
abbrev main_v87 : Ref sig .tc := ⟨.hbm, 145, rfl⟩
abbrev main_cst_7 : Ref sig .tc := ⟨.hbm, 146, rfl⟩
abbrev main_v88 : Ref sig .tc := ⟨.hbm, 147, rfl⟩
abbrev main_cst_8 : Ref sig .tc := ⟨.hbm, 148, rfl⟩
abbrev main_v89 : Ref sig .tc := ⟨.hbm, 149, rfl⟩
abbrev main_v90 : Ref sig .tc := ⟨.hbm, 150, rfl⟩
abbrev main_v91 : Ref sig .tc := ⟨.hbm, 151, rfl⟩
abbrev main_v92 : Ref sig .tc := ⟨.hbm, 152, rfl⟩
abbrev main_v93 : Ref sig .tc := ⟨.hbm, 153, rfl⟩
abbrev main_v94 : Ref sig .tc := ⟨.hbm, 154, rfl⟩
abbrev main_cst_9 : Ref sig .tc := ⟨.hbm, 155, rfl⟩
abbrev main_v95 : Ref sig .tc := ⟨.hbm, 156, rfl⟩
abbrev main_v96 : Ref sig .tc := ⟨.hbm, 157, rfl⟩
abbrev main_v97 : Ref sig .tc := ⟨.hbm, 158, rfl⟩
abbrev main_v98 : Ref sig .tc := ⟨.hbm, 159, rfl⟩
abbrev main_call7_call0_cst : Ref sig .tc := ⟨.hbm, 160, rfl⟩
abbrev main_call7_call0_v0 : Ref sig .tc := ⟨.hbm, 161, rfl⟩
abbrev main_v99 : Ref sig .tc := ⟨.hbm, 162, rfl⟩
abbrev main_v100 : Ref sig .tc := ⟨.hbm, 163, rfl⟩
abbrev main_v101 : Ref sig .tc := ⟨.hbm, 164, rfl⟩
abbrev main_v102 : Ref sig .tc := ⟨.hbm, 165, rfl⟩
abbrev main_v103 : Ref sig .tc := ⟨.hbm, 166, rfl⟩
abbrev main_v104 : Ref sig .tc := ⟨.hbm, 167, rfl⟩
abbrev main_v105 : Ref sig .tc := ⟨.hbm, 168, rfl⟩
abbrev main_v106 : Ref sig .tc := ⟨.hbm, 169, rfl⟩
abbrev main_v107 : Ref sig .tc := ⟨.hbm, 170, rfl⟩
abbrev main_v108 : Ref sig .tc := ⟨.hbm, 171, rfl⟩
abbrev main_call8_v0 : Ref sig .tc := ⟨.hbm, 172, rfl⟩
abbrev main_call8_call0_cst : Ref sig .tc := ⟨.hbm, 173, rfl⟩
abbrev main_call8_call0_v0 : Ref sig .tc := ⟨.hbm, 174, rfl⟩
abbrev main_call8_call0_v1 : Ref sig .tc := ⟨.hbm, 175, rfl⟩
abbrev main_call8_call0_v2 : Ref sig .tc := ⟨.hbm, 176, rfl⟩
abbrev main_call8_call0_v3 : Ref sig .tc := ⟨.hbm, 177, rfl⟩
abbrev main_call8_call0_v4 : Ref sig .tc := ⟨.hbm, 178, rfl⟩
abbrev main_call8_call0_v5 : Ref sig .tc := ⟨.hbm, 179, rfl⟩
abbrev main_call8_call0_v6 : Ref sig .tc := ⟨.hbm, 180, rfl⟩
abbrev main_call8_call0_v7 : Ref sig .tc := ⟨.hbm, 181, rfl⟩
abbrev main_call8_call0_v8 : Ref sig .tc := ⟨.hbm, 182, rfl⟩
abbrev main_call8_call0_v9 : Ref sig .tc := ⟨.hbm, 183, rfl⟩
abbrev main_call8_call0_v10 : Ref sig .tc := ⟨.hbm, 184, rfl⟩
abbrev main_call8_call0_v11 : Ref sig .tc := ⟨.hbm, 185, rfl⟩
abbrev main_call8_v1 : Ref sig .tc := ⟨.hbm, 186, rfl⟩
abbrev main_v109 : Ref sig .tc := ⟨.hbm, 187, rfl⟩
abbrev main_v110 : Ref sig .tc := ⟨.hbm, 188, rfl⟩
abbrev main_v111 : Ref sig .tc := ⟨.hbm, 189, rfl⟩
abbrev main_v112 : Ref sig .tc := ⟨.hbm, 190, rfl⟩
abbrev main_v113 : Ref sig .tc := ⟨.hbm, 191, rfl⟩
abbrev main_v114 : Ref sig .tc := ⟨.hbm, 192, rfl⟩
abbrev main_v115 : Ref sig .tc := ⟨.hbm, 193, rfl⟩
abbrev main_v116 : Ref sig .tc := ⟨.hbm, 194, rfl⟩
abbrev main_v117 : Ref sig .tc := ⟨.hbm, 195, rfl⟩
abbrev main_v118 : Ref sig .tc := ⟨.hbm, 196, rfl⟩
abbrev main_v119 : Ref sig .tc := ⟨.hbm, 197, rfl⟩
abbrev main_v120 : Ref sig .tc := ⟨.hbm, 198, rfl⟩
abbrev main_v121 : Ref sig .tc := ⟨.hbm, 199, rfl⟩
abbrev main_v122 : Ref sig .tc := ⟨.hbm, 200, rfl⟩
abbrev main_v123 : Ref sig .tc := ⟨.hbm, 201, rfl⟩
abbrev main_v124 : Ref sig .tc := ⟨.hbm, 202, rfl⟩
abbrev main_v125 : Ref sig .tc := ⟨.hbm, 203, rfl⟩
abbrev main_v126 : Ref sig .tc := ⟨.hbm, 204, rfl⟩
abbrev main_v127 : Ref sig .tc := ⟨.hbm, 205, rfl⟩
abbrev main_v128 : Ref sig .tc := ⟨.hbm, 206, rfl⟩
abbrev main_call9_v0 : Ref sig .tc := ⟨.hbm, 207, rfl⟩
abbrev main_call9_v1 : Ref sig .tc := ⟨.hbm, 208, rfl⟩
abbrev main_call9_cst : Ref sig .tc := ⟨.hbm, 209, rfl⟩
abbrev main_call9_v2 : Ref sig .tc := ⟨.hbm, 210, rfl⟩
abbrev main_call9_v3 : Ref sig .tc := ⟨.hbm, 211, rfl⟩
abbrev main_call9_cst_0 : Ref sig .tc := ⟨.hbm, 212, rfl⟩
abbrev main_call9_v4 : Ref sig .tc := ⟨.hbm, 213, rfl⟩
abbrev main_call9_v5 : Ref sig .tc := ⟨.hbm, 214, rfl⟩
abbrev main_v129 : Ref sig .tc := ⟨.hbm, 215, rfl⟩
abbrev main_v130 : Ref sig .tc := ⟨.hbm, 216, rfl⟩
abbrev main_v131 : Ref sig .tc := ⟨.hbm, 217, rfl⟩
abbrev main_v132 : Ref sig .tc := ⟨.hbm, 218, rfl⟩
abbrev main_v133 : Ref sig .tc := ⟨.hbm, 219, rfl⟩
abbrev main_v134 : Ref sig .tc := ⟨.hbm, 220, rfl⟩
abbrev main_v135 : Ref sig .tc := ⟨.hbm, 221, rfl⟩
abbrev main_v136 : Ref sig .tc := ⟨.hbm, 222, rfl⟩
abbrev main_v137 : Ref sig .tc := ⟨.hbm, 223, rfl⟩
abbrev main_call10_call0_cst : Ref sig .tc := ⟨.hbm, 224, rfl⟩
abbrev main_call10_call0_v0 : Ref sig .tc := ⟨.hbm, 225, rfl⟩
abbrev main_v138 : Ref sig .tc := ⟨.hbm, 226, rfl⟩
abbrev main_v139 : Ref sig .tc := ⟨.hbm, 227, rfl⟩
abbrev main_call11_call0_cst : Ref sig .tc := ⟨.hbm, 228, rfl⟩
abbrev main_call11_call0_v0 : Ref sig .tc := ⟨.hbm, 229, rfl⟩
abbrev main_v140 : Ref sig .tc := ⟨.hbm, 230, rfl⟩
abbrev main_v141 : Ref sig .tc := ⟨.hbm, 231, rfl⟩
abbrev main_c_10 : Ref sig .tc := ⟨.hbm, 232, rfl⟩
abbrev main_v142 : Ref sig .tc := ⟨.hbm, 233, rfl⟩
abbrev main_call12_v0 : Ref sig .tc := ⟨.hbm, 234, rfl⟩
abbrev main_call12_c : Ref sig .tc := ⟨.hbm, 235, rfl⟩
abbrev main_call12_v1 : Ref sig .tc := ⟨.hbm, 236, rfl⟩
abbrev main_call12_v2 : Ref sig .tc := ⟨.hbm, 237, rfl⟩
abbrev main_call12_v3 : Ref sig .tc := ⟨.hbm, 238, rfl⟩
abbrev main_call12_v4 : Ref sig .tc := ⟨.hbm, 239, rfl⟩
abbrev main_call12_c_0 : Ref sig .tc := ⟨.hbm, 240, rfl⟩
abbrev main_call12_v5 : Ref sig .tc := ⟨.hbm, 241, rfl⟩
abbrev main_v143 : Ref sig .tc := ⟨.hbm, 242, rfl⟩
abbrev main_v144 : Ref sig .tc := ⟨.hbm, 243, rfl⟩
abbrev main_v145 : Ref sig .tc := ⟨.hbm, 244, rfl⟩
abbrev main_v146 : Ref sig .tc := ⟨.hbm, 245, rfl⟩
abbrev main_v147 : Ref sig .tc := ⟨.hbm, 246, rfl⟩
abbrev main_v148 : Ref sig .tc := ⟨.hbm, 247, rfl⟩
abbrev main_v149 : Ref sig .tc := ⟨.hbm, 248, rfl⟩
abbrev main_cst_11 : Ref sig .tc := ⟨.hbm, 249, rfl⟩
abbrev main_call13_v0 : Ref sig .tc := ⟨.hbm, 250, rfl⟩
abbrev main_call13_v1 : Ref sig .tc := ⟨.hbm, 251, rfl⟩
abbrev main_call13_v2 : Ref sig .tc := ⟨.hbm, 252, rfl⟩
abbrev main_v150 : Ref sig .tc := ⟨.hbm, 253, rfl⟩
abbrev main_v151 : Ref sig .tc := ⟨.hbm, 254, rfl⟩
abbrev main_v152 : Ref sig .tc := ⟨.hbm, 255, rfl⟩
abbrev main_v153 : Ref sig .tc := ⟨.hbm, 256, rfl⟩
abbrev main_v154 : Ref sig .tc := ⟨.hbm, 257, rfl⟩
abbrev main_v155 : Ref sig .tc := ⟨.hbm, 258, rfl⟩
abbrev main_v156 : Ref sig .tc := ⟨.hbm, 259, rfl⟩
abbrev main_v157 : Ref sig .tc := ⟨.hbm, 260, rfl⟩
abbrev main_cst_12 : Ref sig .tc := ⟨.hbm, 261, rfl⟩
abbrev main_v158 : Ref sig .tc := ⟨.hbm, 262, rfl⟩
abbrev main_v159 : Ref sig .tc := ⟨.hbm, 263, rfl⟩
abbrev main_v160 : Ref sig .tc := ⟨.hbm, 264, rfl⟩
abbrev main_v161 : Ref sig .tc := ⟨.hbm, 265, rfl⟩
abbrev main_v162 : Ref sig .tc := ⟨.hbm, 266, rfl⟩
abbrev main_v163 : Ref sig .tc := ⟨.hbm, 267, rfl⟩
abbrev main_v164 : Ref sig .tc := ⟨.hbm, 268, rfl⟩
abbrev main_c_13 : Ref sig .tc := ⟨.hbm, 269, rfl⟩
abbrev main_v165 : Ref sig .tc := ⟨.hbm, 270, rfl⟩
abbrev main_call14_v0 : Ref sig .tc := ⟨.hbm, 271, rfl⟩
abbrev main_call14_c : Ref sig .tc := ⟨.hbm, 272, rfl⟩
abbrev main_call14_v1 : Ref sig .tc := ⟨.hbm, 273, rfl⟩
abbrev main_call14_v2 : Ref sig .tc := ⟨.hbm, 274, rfl⟩
abbrev main_call14_v3 : Ref sig .tc := ⟨.hbm, 275, rfl⟩
abbrev main_call14_v4 : Ref sig .tc := ⟨.hbm, 276, rfl⟩
abbrev main_call14_c_0 : Ref sig .tc := ⟨.hbm, 277, rfl⟩
abbrev main_call14_v5 : Ref sig .tc := ⟨.hbm, 278, rfl⟩
abbrev main_v166 : Ref sig .tc := ⟨.hbm, 279, rfl⟩
abbrev main_v167 : Ref sig .tc := ⟨.hbm, 280, rfl⟩
abbrev main_v168 : Ref sig .tc := ⟨.hbm, 281, rfl⟩
abbrev main_v169 : Ref sig .tc := ⟨.hbm, 282, rfl⟩
abbrev main_v170 : Ref sig .tc := ⟨.hbm, 283, rfl⟩
abbrev main_v171 : Ref sig .tc := ⟨.hbm, 284, rfl⟩
abbrev main_v172 : Ref sig .tc := ⟨.hbm, 285, rfl⟩
abbrev main_cst_14 : Ref sig .tc := ⟨.hbm, 286, rfl⟩
abbrev main_call15_v0 : Ref sig .tc := ⟨.hbm, 287, rfl⟩
abbrev main_call15_v1 : Ref sig .tc := ⟨.hbm, 288, rfl⟩
abbrev main_call15_v2 : Ref sig .tc := ⟨.hbm, 289, rfl⟩
abbrev main_v173 : Ref sig .tc := ⟨.hbm, 290, rfl⟩
abbrev main_v174 : Ref sig .tc := ⟨.hbm, 291, rfl⟩
abbrev main_v175 : Ref sig .tc := ⟨.hbm, 292, rfl⟩
abbrev main_v176 : Ref sig .tc := ⟨.hbm, 293, rfl⟩
abbrev main_v177 : Ref sig .tc := ⟨.hbm, 294, rfl⟩
abbrev main_v178 : Ref sig .tc := ⟨.hbm, 295, rfl⟩
abbrev main_v179 : Ref sig .tc := ⟨.hbm, 296, rfl⟩
abbrev main_v180 : Ref sig .tc := ⟨.hbm, 297, rfl⟩
abbrev main_cst_15 : Ref sig .tc := ⟨.hbm, 298, rfl⟩
abbrev main_v181 : Ref sig .tc := ⟨.hbm, 299, rfl⟩
abbrev main_v182 : Ref sig .tc := ⟨.hbm, 300, rfl⟩
abbrev main_v183 : Ref sig .tc := ⟨.hbm, 301, rfl⟩
abbrev main_v184 : Ref sig .tc := ⟨.hbm, 302, rfl⟩
abbrev main_cst_16 : Ref sig .tc := ⟨.hbm, 303, rfl⟩
abbrev main_v185 : Ref sig .tc := ⟨.hbm, 304, rfl⟩
abbrev main_v186 : Ref sig .tc := ⟨.hbm, 305, rfl⟩
abbrev main_v187 : Ref sig .tc := ⟨.hbm, 306, rfl⟩
abbrev main_v188 : Ref sig .tc := ⟨.hbm, 307, rfl⟩
abbrev main_v189 : Ref sig .tc := ⟨.hbm, 308, rfl⟩
abbrev main_v190 : Ref sig .tc := ⟨.hbm, 309, rfl⟩
abbrev main_v191 : Ref sig .tc := ⟨.hbm, 310, rfl⟩
abbrev main_c_17 : Ref sig .tc := ⟨.hbm, 311, rfl⟩
abbrev main_v192 : Ref sig .tc := ⟨.hbm, 312, rfl⟩
abbrev main_v193 : Ref sig .tc := ⟨.hbm, 313, rfl⟩
abbrev main_v194 : Ref sig .tc := ⟨.hbm, 314, rfl⟩
abbrev main_v195 : Ref sig .tc := ⟨.hbm, 315, rfl⟩
abbrev main_v196 : Ref sig .tc := ⟨.hbm, 316, rfl⟩
abbrev main_v197 : Ref sig .tc := ⟨.hbm, 317, rfl⟩
abbrev main_v198 : Ref sig .tc := ⟨.hbm, 318, rfl⟩
abbrev main_v199 : Ref sig .tc := ⟨.hbm, 319, rfl⟩
abbrev main_v200 : Ref sig .tc := ⟨.hbm, 320, rfl⟩
abbrev main_v201 : Ref sig .tc := ⟨.hbm, 321, rfl⟩
abbrev main_v202 : Ref sig .tc := ⟨.hbm, 322, rfl⟩
abbrev main_cst_18 : Ref sig .tc := ⟨.hbm, 323, rfl⟩
abbrev main_call16_v0 : Ref sig .tc := ⟨.hbm, 324, rfl⟩
abbrev main_call16_v1 : Ref sig .tc := ⟨.hbm, 325, rfl⟩
abbrev main_call16_v2 : Ref sig .tc := ⟨.hbm, 326, rfl⟩
abbrev main_v203 : Ref sig .tc := ⟨.hbm, 327, rfl⟩
abbrev main_v204 : Ref sig .tc := ⟨.hbm, 328, rfl⟩
abbrev main_v205 : Ref sig .tc := ⟨.hbm, 329, rfl⟩
abbrev main_v206 : Ref sig .tc := ⟨.hbm, 330, rfl⟩
abbrev main_v207 : Ref sig .tc := ⟨.hbm, 331, rfl⟩
abbrev main_v208 : Ref sig .tc := ⟨.hbm, 332, rfl⟩
abbrev main_v209 : Ref sig .tc := ⟨.hbm, 333, rfl⟩

abbrev nD : Nat := 1
abbrev τ : Topo := Topo.v7x

variable {F : FTy → Type} [FloatOps F]
-- ==== Proof.Fold.lean ====
/-
  A reset followed by three steps of a grid, each adding one point's share at an index, is the sum of the four shares.
-/
module

public import Idealize.ShloMosaic.Lib.Pointwise
public import Idealize.ShloMosaic.Lib.Pipeline.ValueKit
public import Idealize.ShloMosaic.Lib.Pipeline.ReadBack

@[expose] public section

open Idealize.ShloMosaic

namespace Fold

/-- The fold of a run of four points, read at an index. -/
theorem four {N : ℕ} {ι : Type} (reset : (n : ℕ) → n < N → ι → EReal) (step : (n : ℕ) → n < N → (ι → EReal) → ι → EReal)
    (part : (n : ℕ) → n < N → EReal) (i : ι) (b : ℕ) (h : b + 3 < N)
    (h0 : ∀ h, reset b h i = part b h)
    (hs : ∀ n h acc, step n h acc i = acc i + part n h) :
    Pipeline.accAt reset step b 3 h i = ∑ s : Fin 4, part (b + s.val) (by omega) := by
  rw [Pipeline.accAt_succ, hs, Pipeline.accAt_succ, hs, Pipeline.accAt_succ, hs, Pipeline.accAt_zero, h0, Fin.sum_univ_four]
  rfl

end Fold
-- ==== Proof.WgradFfn.lean ====
/-
  The weight gradients of the channel mixer's first two products: for each half of the columns, four row blocks of the
  product, summed on the grid, are the product over all rows; the second result is the same numbers in bf16.
-/
module

public import proofs.«01_k».proof.Defs
public import proofs.«01_k».proof.Proof.Fold
public import proofs.«01_k».proof.Proof.Gen.WgradFfnIdeal.Value
public import proofs.«01_k».proof.Proof.Gen.WgradFfnRefIdeal.Read

@[expose] public section

set_option maxRecDepth 16384

noncomputable section

namespace Cert.WgradFfnIdeal.Sum

open Cert.WgradFfnIdeal Cert.WgradFfnIdeal.Gen Cert.WgradFfnIdeal.Value Idealize.ShloMosaic Idealize.ShloMosaic.TcCoe Idealize.SL.Sem
open Cert.WgradFfnRefIdeal.Read (val_main_v1 val_main_v4 val_main_v5 val_main_v6 val_main_v7 val_main_v8)

variable (m : (ℓ : Loc nD τ sig) → Buf (Elt Ideal) ℓ)

/-- Where the windows' blocks lie. -/
theorem idx : ∀ t : Fin cfg0.N, win0_0.index t (0 : Fin 2) = t.val % 4 ∧ win0_0.index t (1 : Fin 2) = t.val / 4
    ∧ win0_1.index t (0 : Fin 2) = t.val % 4 ∧ win0_1.index t (1 : Fin 2) = 0
    ∧ win0_2.index t (0 : Fin 2) = t.val / 4 ∧ win0_2.index t (1 : Fin 2) = 0
    ∧ win0_3.index t (0 : Fin 2) = t.val / 4 ∧ win0_3.index t (1 : Fin 2) = 0 :=
  (by decide +kernel : ∀ t : Fin grid0.N, _)

/-- One row block's share of the product. -/
def prod (x : Vec Ideal S2048x1408 .bf16) (y : Vec Ideal S2048x1024 .bf16) (i : S1408x1024.Idx) : EReal :=
  ∑ k : Fin 2048, x (ix2 k (i 0)) * y (ix2 k (i 1))

theorem pay2 (x : Vec Ideal S2048x1408 .bf16) (acc : Vec Ideal S1408x1024 .f32) (y : Vec Ideal S2048x1024 .bf16) (i : S1408x1024.Idx) :
    k0_pay2 (F := Ideal) x acc y i = acc i + prod x y i := by
  pointwise [k0_pay2, prod]

theorem pay1 (i : S1408x1024.Idx) : k0_pay1 (F := Ideal) i = 0 := by
  pointwise [k0_pay1]

theorem pay3 (x : Vec Ideal S1408x1024 .f32) (i : S1408x1024.Idx) : k0_pay3 (F := Ideal) x i = x i := by
  pointwise [k0_pay3]

/-- What the accumulator holds when a run of four points ends. -/
theorem acc (c : Dev nD) (t : Fin cfg0.N) (ht : t.val % 4 = 3) (j : S1408x1024.Idx) :
    (outsAt0 m c t.val t.isLt).1 j = ∑ s : Fin 4, prod (iblk m c 0 ⟨4 * (t.val / 4) + s.val, by have := t.isLt; have := Nat.div_add_mod t.val 4; omega⟩)
      (iblk m c 1 ⟨4 * (t.val / 4) + s.val, by have := t.isLt; have := Nat.div_add_mod t.val 4; omega⟩) j := by
  rw [Pipeline.eq_sum_fin_of_reset_step_apply_of_flush (fun n h => (outsAt0 m c n h).1) 4 (fun _ => (0 : EReal))
    (fun t j => prod (iblk m c 0 t) (iblk m c 1 t) j)
    (fun t h j => by
      rw [outsAt0_A m c t h (by omega)]; frame_out; rw [pay2, pay1])
    (fun t h j => by
      by_cases h3 : t.val % 4 = 3
      · rw [outsAt0_C m c t h h3]; frame_out; rw [pay2]
      · rw [outsAt0_B m c t h h3]; frame_out; rw [pay2]) t ht j, zero_add]

/-- The four blocks' shares are the reference's product. -/
theorem whole (c : Dev nD) (t : Fin cfg0.N) (ht : t.val % 4 = 3) (y : S1408x1024.Idx) (i : S2816x1024.Idx)
    (h0 : (i 0).val = t.val / 4 * 1408 + (y 0).val) (h1 : (i 1).val = (y 1).val) :
    (outsAt0 m c t.val t.isLt).1 y
      = val_main_v7 (F := Ideal) (m ((c : Thread nD τ).loc main_arg0)) (m ((c : Thread nD τ).loc main_arg1)) i := by
  rw [acc m c t ht y]
  pointwise [prod, val_main_v7, val_main_v6, val_main_v5, val_main_v4, val_main_v1]
  refine Fin.sum_mul_add_congr fun s k hl => ?_
  have hs : 4 * (t.val / 4) + s.val < cfg0.N := by have := t.isLt; omega
  obtain ⟨e0, e1, e2, e3, -⟩ := idx ⟨_, hs⟩
  blk_point [iblk, V, idx ⟨_, hs⟩]

theorem dw (c : Dev nD) : (dats m 0 c).arrAt 2 cfg0.N
    = val_main_v7 (F := Ideal) (m ((c : Thread nD τ).loc main_arg0)) (m ((c : Thread nD τ).loc main_arg1)) := by
  refine (dats m 0 c).arrAt_eq_of_covers 2 _ (by decide +kernel) fun t hf y => ?_
  have ht := (flush0_2 t).mp hf
  obtain ⟨-, -, -, -, e4, e5, -⟩ := idx t
  blk_simp
  rw [after0_2]
  exact whole m c t ht y _ (by blk_simp [e4]) (by blk_simp [e5])

theorem dwb (c : Dev nD) : (dats m 0 c).arrAt 3 cfg0.N
    = val_main_v8 (F := Ideal) (m ((c : Thread nD τ).loc main_arg0)) (m ((c : Thread nD τ).loc main_arg1)) := by
  refine (dats m 0 c).arrAt_eq_of_covers 3 _ (by decide +kernel) fun t hf y => ?_
  have ht := (flush0_3 t).mp hf
  obtain ⟨-, -, -, -, -, -, e6, e7⟩ := idx t
  blk_simp
  rw [after0_3]
  have hw := whole m c t ht y (((cfg0.win 3).blk t).view.emb y) (by blk_simp [e6]) (by blk_simp [e7])
  rw [outsAt0_C m c t (by omega) ht] at hw ⊢
  revert hw
  frame_out
  intro hw
  pointwise [k0_pay3, val_main_v8]
  exact hw

end Cert.WgradFfnIdeal.Sum

namespace Cert.WgradFfnIdeal

open Idealize.ShloMosaic Idealize.ShloMosaic.TcCoe Idealize.SL.Sem

theorem agrees : Cert.algebraic_WgradFfnIdeal_WgradFfnRefIdeal := by
  intro m g m' g' _ hargs
  refine ⟨fun c => Cert.WgradFfnRefIdeal.Read.val_main_v7 (F := Ideal) (m ((c : Thread nD τ).loc main_arg0)) (m ((c : Thread nD τ).loc main_arg1)),
    fun c => Cert.WgradFfnRefIdeal.Read.val_main_v8 (F := Ideal) (m ((c : Thread nD τ).loc main_arg0)) (m ((c : Thread nD τ).loc main_arg1)), ?_, ?_⟩
  · refine (θ_run Cert.WgradFfnIdeal.defs _ _).mono (fun r h c => ?_) (Value.run_blocks m g)
    exact ⟨(h c).1.trans (Sum.dw m c), (h c).2.1.trans (Sum.dwb m c), (h c).2.2⟩
  · refine (θ_run Cert.WgradFfnRefIdeal.defs _ _).mono (fun r h c => ?_) (Cert.WgradFfnRefIdeal.Value.run (F := Ideal) m' g')
    obtain ⟨h0, h1⟩ := hargs c
    refine ⟨(h c).1.trans ?_, (h c).2.1.trans ?_, (h c).2.2⟩
    · rw [Cert.WgradFfnRefIdeal.Read.val_main_v7_eq, h0, h1]
    · rw [Cert.WgradFfnRefIdeal.Read.val_main_v8_eq, h0, h1]

end Cert.WgradFfnIdeal
-- ==== Proof.WgradDown.lean ====
/-
  The weight gradient of the channel mixer's last product: the row blocks of the product, summed on the grid,
  are the product over all rows; the second result is the same numbers in bf16.
-/
module

public import proofs.«01_k».proof.Defs
public import proofs.«01_k».proof.Proof.Fold
public import proofs.«01_k».proof.Proof.Gen.WgradDownIdeal.Value
public import proofs.«01_k».proof.Proof.Gen.WgradDownRefIdeal.Read

@[expose] public section

set_option maxRecDepth 16384

noncomputable section

namespace Cert.WgradDownIdeal.Sum

open Cert.WgradDownIdeal Cert.WgradDownIdeal.Gen Cert.WgradDownIdeal.Value Idealize.ShloMosaic Idealize.ShloMosaic.TcCoe Idealize.SL.Sem
open Cert.WgradDownRefIdeal.Read (val_main_v1 val_main_v3 val_main_v4 val_main_v5)

variable (m : (ℓ : Loc nD τ sig) → Buf (Elt Ideal) ℓ)

/-- Where the windows' blocks lie. -/
theorem idx : ∀ t : Fin cfg0.N, win0_0.index t (0 : Fin 2) = t.val % 4 ∧ win0_0.index t (1 : Fin 2) = t.val / 4
    ∧ win0_1.index t (0 : Fin 2) = t.val % 4 ∧ win0_1.index t (1 : Fin 2) = 0
    ∧ win0_2.index t (0 : Fin 2) = t.val / 4 ∧ win0_2.index t (1 : Fin 2) = 0
    ∧ win0_3.index t (0 : Fin 2) = t.val / 4 ∧ win0_3.index t (1 : Fin 2) = 0 :=
  (by decide +kernel : ∀ t : Fin grid0.N, _)

/-- One row block's share of the product. -/
def prod (x : Vec Ideal S2048x1408 .bf16) (y : Vec Ideal S2048x1024 .f32) (i : S1408x1024.Idx) : EReal :=
  ∑ k : Fin 2048, x (ix2 k (i 0)) * y (ix2 k (i 1))

theorem pay2 (x : Vec Ideal S2048x1408 .bf16) (acc : Vec Ideal S1408x1024 .f32) (y : Vec Ideal S2048x1024 .f32) (i : S1408x1024.Idx) :
    k0_pay2 (F := Ideal) x acc y i = acc i + prod x y i := by
  pointwise [k0_pay2, prod]

theorem pay1 (i : S1408x1024.Idx) : k0_pay1 (F := Ideal) i = 0 := by
  pointwise [k0_pay1]

theorem pay3 (x : Vec Ideal S1408x1024 .f32) (i : S1408x1024.Idx) : k0_pay3 (F := Ideal) x i = x i := by
  pointwise [k0_pay3]

/-- What the accumulator holds when a run of four points ends. -/
theorem acc (c : Dev nD) (t : Fin cfg0.N) (ht : t.val % 4 = 3) (j : S1408x1024.Idx) :
    (outsAt0 m c t.val t.isLt).1 j = ∑ s : Fin 4, prod (iblk m c 0 ⟨4 * (t.val / 4) + s.val, by have := t.isLt; have := Nat.div_add_mod t.val 4; omega⟩)
      (iblk m c 1 ⟨4 * (t.val / 4) + s.val, by have := t.isLt; have := Nat.div_add_mod t.val 4; omega⟩) j := by
  rw [Pipeline.eq_sum_fin_of_reset_step_apply_of_flush (fun n h => (outsAt0 m c n h).1) 4 (fun _ => (0 : EReal))
    (fun t j => prod (iblk m c 0 t) (iblk m c 1 t) j)
    (fun t h j => by
      rw [outsAt0_A m c t h (by omega)]; frame_out; rw [pay2, pay1])
    (fun t h j => by
      by_cases h3 : t.val % 4 = 3
      · rw [outsAt0_C m c t h h3]; frame_out; rw [pay2]
      · rw [outsAt0_B m c t h h3]; frame_out; rw [pay2]) t ht j, zero_add]

/-- The four blocks' shares are the reference's product. -/
theorem whole (c : Dev nD) (t : Fin cfg0.N) (ht : t.val % 4 = 3) (y : S1408x1024.Idx) (i : S2816x1024.Idx)
    (h0 : (i 0).val = t.val / 4 * 1408 + (y 0).val) (h1 : (i 1).val = (y 1).val) :
    (outsAt0 m c t.val t.isLt).1 y
      = val_main_v4 (F := Ideal) (m ((c : Thread nD τ).loc main_arg0)) (m ((c : Thread nD τ).loc main_arg1)) i := by
  rw [acc m c t ht y]
  pointwise [prod, val_main_v4, val_main_v3, val_main_v1]
  refine Fin.sum_mul_add_congr fun s k hl => ?_
  have hs : 4 * (t.val / 4) + s.val < cfg0.N := by have := t.isLt; omega
  obtain ⟨e0, e1, e2, e3, -⟩ := idx ⟨_, hs⟩
  rw [mul_comm]
  blk_point [iblk, V, idx ⟨_, hs⟩]

theorem dw (c : Dev nD) : (dats m 0 c).arrAt 2 cfg0.N
    = val_main_v4 (F := Ideal) (m ((c : Thread nD τ).loc main_arg0)) (m ((c : Thread nD τ).loc main_arg1)) := by
  refine (dats m 0 c).arrAt_eq_of_covers 2 _ (by decide +kernel) fun t hf y => ?_
  have ht := (flush0_2 t).mp hf
  obtain ⟨-, -, -, -, e4, e5, -⟩ := idx t
  blk_simp
  rw [after0_2]
  exact whole m c t ht y _ (by blk_simp [e4]) (by blk_simp [e5])

theorem dwb (c : Dev nD) : (dats m 0 c).arrAt 3 cfg0.N
    = val_main_v5 (F := Ideal) (m ((c : Thread nD τ).loc main_arg0)) (m ((c : Thread nD τ).loc main_arg1)) := by
  refine (dats m 0 c).arrAt_eq_of_covers 3 _ (by decide +kernel) fun t hf y => ?_
  have ht := (flush0_3 t).mp hf
  obtain ⟨-, -, -, -, -, -, e6, e7⟩ := idx t
  blk_simp
  rw [after0_3]
  have hw := whole m c t ht y (((cfg0.win 3).blk t).view.emb y) (by blk_simp [e6]) (by blk_simp [e7])
  rw [outsAt0_C m c t (by omega) ht] at hw ⊢
  revert hw
  frame_out
  intro hw
  pointwise [k0_pay3, val_main_v5]
  exact hw

end Cert.WgradDownIdeal.Sum

namespace Cert.WgradDownIdeal

open Idealize.ShloMosaic Idealize.ShloMosaic.TcCoe Idealize.SL.Sem

theorem agrees : Cert.algebraic_WgradDownIdeal_WgradDownRefIdeal := by
  intro m g m' g' _ hargs
  refine ⟨fun c => Cert.WgradDownRefIdeal.Read.val_main_v4 (F := Ideal) (m ((c : Thread nD τ).loc main_arg0)) (m ((c : Thread nD τ).loc main_arg1)),
    fun c => Cert.WgradDownRefIdeal.Read.val_main_v5 (F := Ideal) (m ((c : Thread nD τ).loc main_arg0)) (m ((c : Thread nD τ).loc main_arg1)), ?_, ?_⟩
  · refine (θ_run Cert.WgradDownIdeal.defs _ _).mono (fun r h c => ?_) (Value.run_blocks m g)
    exact ⟨(h c).1.trans (Sum.dw m c), (h c).2.1.trans (Sum.dwb m c), (h c).2.2⟩
  · refine (θ_run Cert.WgradDownRefIdeal.defs _ _).mono (fun r h c => ?_) (Cert.WgradDownRefIdeal.Value.run (F := Ideal) m' g')
    obtain ⟨h0, h1⟩ := hargs c
    refine ⟨(h c).1.trans ?_, (h c).2.1.trans ?_, (h c).2.2⟩
    · rw [Cert.WgradDownRefIdeal.Read.val_main_v4_eq, h0, h1]
    · rw [Cert.WgradDownRefIdeal.Read.val_main_v5_eq, h0, h1]

end Cert.WgradDownIdeal
-- ==== Proof.WgradOut.lean ====
/-
  The weight gradients of the two mixers' output products: the row blocks of the product, summed on the grid,
  are the product over all rows; the second result is the same numbers in bf16.
-/
module

public import proofs.«01_k».proof.Defs
public import proofs.«01_k».proof.Proof.Fold
public import proofs.«01_k».proof.Proof.Gen.WgradOutIdeal.Value
public import proofs.«01_k».proof.Proof.Gen.WgradOutRefIdeal.Read

@[expose] public section

set_option maxRecDepth 16384

noncomputable section

namespace Cert.WgradOutIdeal.Sum

open Cert.WgradOutIdeal Cert.WgradOutIdeal.Gen Cert.WgradOutIdeal.Value Idealize.ShloMosaic Idealize.ShloMosaic.TcCoe Idealize.SL.Sem
open Cert.WgradOutRefIdeal.Read (val_main_v1 val_main_v3 val_main_v4 val_main_v5)

variable (m : (ℓ : Loc nD τ sig) → Buf (Elt Ideal) ℓ)

/-- Where the windows' blocks lie. -/
theorem idx : ∀ t : Fin cfg0.N, win0_0.index t (0 : Fin 2) = t.val % 4 ∧ win0_0.index t (1 : Fin 2) = 0
    ∧ win0_1.index t (0 : Fin 2) = t.val % 4 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- One row block's share of the product. -/
def prod (x : Vec Ideal S2048x512 .bf16) (y : Vec Ideal S2048x1024 .f32) (i : S512x1024.Idx) : EReal :=
  ∑ k : Fin 2048, x (ix2 k (i 0)) * y (ix2 k (i 1))

theorem pay2 (x : Vec Ideal S2048x512 .bf16) (acc : Vec Ideal S512x1024 .f32) (y : Vec Ideal S2048x1024 .f32) (i : S512x1024.Idx) :
    k0_pay2 (F := Ideal) x acc y i = acc i + prod x y i := by
  pointwise [k0_pay2, prod]

theorem pay1 (i : S512x1024.Idx) : k0_pay1 (F := Ideal) i = 0 := by
  pointwise [k0_pay1]

theorem pay3 (x : Vec Ideal S512x1024 .f32) (i : S512x1024.Idx) : k0_pay3 (F := Ideal) x i = x i := by
  pointwise [k0_pay3]

/-- What the accumulator holds when a run of four points ends. -/
theorem acc (c : Dev nD) (t : Fin cfg0.N) (ht : t.val % 4 = 3) (j : S512x1024.Idx) :
    (outsAt0 m c t.val t.isLt).1 j = ∑ s : Fin 4, prod (iblk m c 0 ⟨4 * (t.val / 4) + s.val, by have := t.isLt; have := Nat.div_add_mod t.val 4; omega⟩)
      (iblk m c 1 ⟨4 * (t.val / 4) + s.val, by have := t.isLt; have := Nat.div_add_mod t.val 4; omega⟩) j := by
  rw [Pipeline.eq_sum_fin_of_reset_step_apply_of_flush (fun n h => (outsAt0 m c n h).1) 4 (fun _ => (0 : EReal))
    (fun t j => prod (iblk m c 0 t) (iblk m c 1 t) j)
    (fun t h j => by
      rw [outsAt0_A m c t h (by omega)]; frame_out; rw [pay2, pay1])
    (fun t h j => by
      by_cases h3 : t.val % 4 = 3
      · rw [outsAt0_C m c t h h3]; frame_out; rw [pay2]
      · rw [outsAt0_B m c t h h3]; frame_out; rw [pay2]) t ht j, zero_add]

/-- The four blocks' shares are the reference's product. -/
theorem whole (c : Dev nD) (t : Fin cfg0.N) (ht : t.val % 4 = 3) (y : S512x1024.Idx) (i : S512x1024.Idx)
    (h0 : (i 0).val = (y 0).val) (h1 : (i 1).val = (y 1).val) :
    (outsAt0 m c t.val t.isLt).1 y
      = val_main_v4 (F := Ideal) (m ((c : Thread nD τ).loc main_arg0)) (m ((c : Thread nD τ).loc main_arg1)) i := by
  rw [acc m c t ht y]
  pointwise [prod, val_main_v4, val_main_v3, val_main_v1]
  refine Fin.sum_mul_add_congr fun s k hl => ?_
  have hq : t.val / 4 = 0 := by have := t.isLt; have hn : cfg0.N = 4 := N_0; omega
  have hs : 4 * (t.val / 4) + s.val < cfg0.N := by have := t.isLt; omega
  obtain ⟨e0, e1, e2, e3, -⟩ := idx ⟨_, hs⟩
  rw [mul_comm]
  blk_point [iblk, V, idx ⟨_, hs⟩]

theorem dw (c : Dev nD) : (dats m 0 c).arrAt 2 cfg0.N
    = val_main_v4 (F := Ideal) (m ((c : Thread nD τ).loc main_arg0)) (m ((c : Thread nD τ).loc main_arg1)) := by
  refine (dats m 0 c).arrAt_eq_of_covers 2 _ (by decide +kernel) fun t hf y => ?_
  have ht := (flush0_2 t).mp hf
  obtain ⟨-, -, -, -, e4, e5, -⟩ := idx t
  blk_simp
  rw [after0_2]
  exact whole m c t ht y _ (by blk_simp [e4]) (by blk_simp [e5])

theorem dwb (c : Dev nD) : (dats m 0 c).arrAt 3 cfg0.N
    = val_main_v5 (F := Ideal) (m ((c : Thread nD τ).loc main_arg0)) (m ((c : Thread nD τ).loc main_arg1)) := by
  refine (dats m 0 c).arrAt_eq_of_covers 3 _ (by decide +kernel) fun t hf y => ?_
  have ht := (flush0_3 t).mp hf
  obtain ⟨-, -, -, -, -, -, e6, e7⟩ := idx t
  blk_simp
  rw [after0_3]
  have hw := whole m c t ht y (((cfg0.win 3).blk t).view.emb y) (by blk_simp [e6]) (by blk_simp [e7])
  rw [outsAt0_C m c t (by omega) ht] at hw ⊢
  revert hw
  frame_out
  intro hw
  pointwise [k0_pay3, val_main_v5]
  exact hw

end Cert.WgradOutIdeal.Sum

namespace Cert.WgradOutIdeal

open Idealize.ShloMosaic Idealize.ShloMosaic.TcCoe Idealize.SL.Sem

theorem agrees : Cert.algebraic_WgradOutIdeal_WgradOutRefIdeal := by
  intro m g m' g' _ hargs
  refine ⟨fun c => Cert.WgradOutRefIdeal.Read.val_main_v4 (F := Ideal) (m ((c : Thread nD τ).loc main_arg0)) (m ((c : Thread nD τ).loc main_arg1)),
    fun c => Cert.WgradOutRefIdeal.Read.val_main_v5 (F := Ideal) (m ((c : Thread nD τ).loc main_arg0)) (m ((c : Thread nD τ).loc main_arg1)), ?_, ?_⟩
  · refine (θ_run Cert.WgradOutIdeal.defs _ _).mono (fun r h c => ?_) (Value.run_blocks m g)
    exact ⟨(h c).1.trans (Sum.dw m c), (h c).2.1.trans (Sum.dwb m c), (h c).2.2⟩
  · refine (θ_run Cert.WgradOutRefIdeal.defs _ _).mono (fun r h c => ?_) (Cert.WgradOutRefIdeal.Value.run (F := Ideal) m' g')
    obtain ⟨h0, h1⟩ := hargs c
    refine ⟨(h c).1.trans ?_, (h c).2.1.trans ?_, (h c).2.2⟩
    · rw [Cert.WgradOutRefIdeal.Read.val_main_v4_eq, h0, h1]
    · rw [Cert.WgradOutRefIdeal.Read.val_main_v5_eq, h0, h1]

end Cert.WgradOutIdeal
-- ==== Proof.WgradProj.lean ====
/-
  The weight gradient of the per-layer projection: the row blocks of the product, summed on the grid,
  are the product over all rows; the second result is the same numbers in bf16.
-/
module

public import proofs.«01_k».proof.Defs
public import proofs.«01_k».proof.Proof.Fold
public import proofs.«01_k».proof.Proof.Gen.WgradProjIdeal.Value
public import proofs.«01_k».proof.Proof.Gen.WgradProjRefIdeal.Read

@[expose] public section

set_option maxRecDepth 16384

noncomputable section

namespace Cert.WgradProjIdeal.Sum

open Cert.WgradProjIdeal Cert.WgradProjIdeal.Gen Cert.WgradProjIdeal.Value Idealize.ShloMosaic Idealize.ShloMosaic.TcCoe Idealize.SL.Sem
open Cert.WgradProjRefIdeal.Read (val_main_v2 val_main_v3 val_main_v4 val_main_v5)

variable (m : (ℓ : Loc nD τ sig) → Buf (Elt Ideal) ℓ)

/-- Where the windows' blocks lie. -/
theorem idx : ∀ t : Fin cfg0.N, win0_0.index t (0 : Fin 2) = t.val % 4 ∧ win0_0.index t (1 : Fin 2) = 0
    ∧ win0_1.index t (0 : Fin 2) = t.val % 4 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- One row block's share of the product. -/
def prod (x : Vec Ideal S2048x256 .f32) (y : Vec Ideal S2048x1024 .bf16) (i : S256x1024.Idx) : EReal :=
  ∑ k : Fin 2048, x (ix2 k (i 0)) * y (ix2 k (i 1))

theorem pay2 (x : Vec Ideal S2048x256 .f32) (acc : Vec Ideal S256x1024 .f32) (y : Vec Ideal S2048x1024 .bf16) (i : S256x1024.Idx) :
    k0_pay2 (F := Ideal) x acc y i = acc i + prod x y i := by
  pointwise [k0_pay2, prod]

theorem pay1 (i : S256x1024.Idx) : k0_pay1 (F := Ideal) i = 0 := by
  pointwise [k0_pay1]

theorem pay3 (x : Vec Ideal S256x1024 .f32) (i : S256x1024.Idx) : k0_pay3 (F := Ideal) x i = x i := by
  pointwise [k0_pay3]

/-- What the accumulator holds when a run of four points ends. -/
theorem acc (c : Dev nD) (t : Fin cfg0.N) (ht : t.val % 4 = 3) (j : S256x1024.Idx) :
    (outsAt0 m c t.val t.isLt).1 j = ∑ s : Fin 4, prod (iblk m c 0 ⟨4 * (t.val / 4) + s.val, by have := t.isLt; have := Nat.div_add_mod t.val 4; omega⟩)
      (iblk m c 1 ⟨4 * (t.val / 4) + s.val, by have := t.isLt; have := Nat.div_add_mod t.val 4; omega⟩) j := by
  rw [Pipeline.eq_sum_fin_of_reset_step_apply_of_flush (fun n h => (outsAt0 m c n h).1) 4 (fun _ => (0 : EReal))
    (fun t j => prod (iblk m c 0 t) (iblk m c 1 t) j)
    (fun t h j => by
      rw [outsAt0_A m c t h (by omega)]; frame_out; rw [pay2, pay1])
    (fun t h j => by
      by_cases h3 : t.val % 4 = 3
      · rw [outsAt0_C m c t h h3]; frame_out; rw [pay2]
      · rw [outsAt0_B m c t h h3]; frame_out; rw [pay2]) t ht j, zero_add]

/-- The four blocks' shares are the reference's product. -/
theorem whole (c : Dev nD) (t : Fin cfg0.N) (ht : t.val % 4 = 3) (y : S256x1024.Idx) (i : S256x1024.Idx)
    (h0 : (i 0).val = (y 0).val) (h1 : (i 1).val = (y 1).val) :
    (outsAt0 m c t.val t.isLt).1 y
      = val_main_v4 (F := Ideal) (m ((c : Thread nD τ).loc main_arg0)) (m ((c : Thread nD τ).loc main_arg1)) i := by
  rw [acc m c t ht y]
  pointwise [prod, val_main_v4, val_main_v3, val_main_v2]
  refine Fin.sum_mul_add_congr fun s k hl => ?_
  have hq : t.val / 4 = 0 := by have := t.isLt; have hn : cfg0.N = 4 := N_0; omega
  have hs : 4 * (t.val / 4) + s.val < cfg0.N := by have := t.isLt; omega
  obtain ⟨e0, e1, e2, e3, -⟩ := idx ⟨_, hs⟩
  rw [mul_comm]
  blk_point [iblk, V, idx ⟨_, hs⟩]

theorem dw (c : Dev nD) : (dats m 0 c).arrAt 2 cfg0.N
    = val_main_v4 (F := Ideal) (m ((c : Thread nD τ).loc main_arg0)) (m ((c : Thread nD τ).loc main_arg1)) := by
  refine (dats m 0 c).arrAt_eq_of_covers 2 _ (by decide +kernel) fun t hf y => ?_
  have ht := (flush0_2 t).mp hf
  obtain ⟨-, -, -, -, e4, e5, -⟩ := idx t
  blk_simp
  rw [after0_2]
  exact whole m c t ht y _ (by blk_simp [e4]) (by blk_simp [e5])

theorem dwb (c : Dev nD) : (dats m 0 c).arrAt 3 cfg0.N
    = val_main_v5 (F := Ideal) (m ((c : Thread nD τ).loc main_arg0)) (m ((c : Thread nD τ).loc main_arg1)) := by
  refine (dats m 0 c).arrAt_eq_of_covers 3 _ (by decide +kernel) fun t hf y => ?_
  have ht := (flush0_3 t).mp hf
  obtain ⟨-, -, -, -, -, -, e6, e7⟩ := idx t
  blk_simp
  rw [after0_3]
  have hw := whole m c t ht y (((cfg0.win 3).blk t).view.emb y) (by blk_simp [e6]) (by blk_simp [e7])
  rw [outsAt0_C m c t (by omega) ht] at hw ⊢
  revert hw
  frame_out
  intro hw
  pointwise [k0_pay3, val_main_v5]
  exact hw

end Cert.WgradProjIdeal.Sum

namespace Cert.WgradProjIdeal

open Idealize.ShloMosaic Idealize.ShloMosaic.TcCoe Idealize.SL.Sem

theorem agrees : Cert.algebraic_WgradProjIdeal_WgradProjRefIdeal := by
  intro m g m' g' _ hargs
  refine ⟨fun c => Cert.WgradProjRefIdeal.Read.val_main_v4 (F := Ideal) (m ((c : Thread nD τ).loc main_arg0)) (m ((c : Thread nD τ).loc main_arg1)),
    fun c => Cert.WgradProjRefIdeal.Read.val_main_v5 (F := Ideal) (m ((c : Thread nD τ).loc main_arg0)) (m ((c : Thread nD τ).loc main_arg1)), ?_, ?_⟩
  · refine (θ_run Cert.WgradProjIdeal.defs _ _).mono (fun r h c => ?_) (Value.run_blocks m g)
    exact ⟨(h c).1.trans (Sum.dw m c), (h c).2.1.trans (Sum.dwb m c), (h c).2.2⟩
  · refine (θ_run Cert.WgradProjRefIdeal.defs _ _).mono (fun r h c => ?_) (Cert.WgradProjRefIdeal.Value.run (F := Ideal) m' g')
    obtain ⟨h0, h1⟩ := hargs c
    refine ⟨(h c).1.trans ?_, (h c).2.1.trans ?_, (h c).2.2⟩
    · rw [Cert.WgradProjRefIdeal.Read.val_main_v4_eq, h0, h1]
    · rw [Cert.WgradProjRefIdeal.Read.val_main_v5_eq, h0, h1]

end Cert.WgradProjIdeal
-- ==== Proof.WgradGate.lean ====
/-
  The weight gradient of the per-layer gate: the row blocks of the product, summed on the grid,
  are the product over all rows; the second result is the same numbers in bf16.
-/
module

public import proofs.«01_k».proof.Defs
public import proofs.«01_k».proof.Proof.Fold
public import proofs.«01_k».proof.Proof.Gen.WgradGateIdeal.Value
public import proofs.«01_k».proof.Proof.Gen.WgradGateRefIdeal.Read

@[expose] public section

set_option maxRecDepth 16384

noncomputable section

namespace Cert.WgradGateIdeal.Sum

open Cert.WgradGateIdeal Cert.WgradGateIdeal.Gen Cert.WgradGateIdeal.Value Idealize.ShloMosaic Idealize.ShloMosaic.TcCoe Idealize.SL.Sem
open Cert.WgradGateRefIdeal.Read (val_main_v1 val_main_v3 val_main_v4 val_main_v5 val_main_v6)

variable (m : (ℓ : Loc nD τ sig) → Buf (Elt Ideal) ℓ)

/-- Where the windows' blocks lie. -/
theorem idx : ∀ t : Fin cfg0.N, win0_0.index t (0 : Fin 2) = t.val % 4 ∧ win0_0.index t (1 : Fin 2) = 0
    ∧ win0_1.index t (0 : Fin 2) = t.val % 4 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- One row block's share of the product. -/
def prod (x : Vec Ideal S2048x1024 .bf16) (y : Vec Ideal S2048x1024 .bf16) (i : S1024x1024.Idx) : EReal :=
  ∑ k : Fin 2048, x (ix2 k (i 0)) * y (ix2 k (i 1))

theorem pay2 (x : Vec Ideal S2048x1024 .bf16) (acc : Vec Ideal S1024x1024 .f32) (y : Vec Ideal S2048x1024 .bf16) (i : S1024x1024.Idx) :
    k0_pay2 (F := Ideal) x acc y i = acc i + prod x y i := by
  pointwise [k0_pay2, prod]

theorem pay1 (i : S1024x1024.Idx) : k0_pay1 (F := Ideal) i = 0 := by
  pointwise [k0_pay1]

theorem pay3 (x : Vec Ideal S1024x1024 .f32) (i : S1024x1024.Idx) : k0_pay3 (F := Ideal) x i = x i := by
  pointwise [k0_pay3]

/-- What the accumulator holds when a run of four points ends. -/
theorem acc (c : Dev nD) (t : Fin cfg0.N) (ht : t.val % 4 = 3) (j : S1024x1024.Idx) :
    (outsAt0 m c t.val t.isLt).1 j = ∑ s : Fin 4, prod (iblk m c 0 ⟨4 * (t.val / 4) + s.val, by have := t.isLt; have := Nat.div_add_mod t.val 4; omega⟩)
      (iblk m c 1 ⟨4 * (t.val / 4) + s.val, by have := t.isLt; have := Nat.div_add_mod t.val 4; omega⟩) j := by
  rw [Pipeline.eq_sum_fin_of_reset_step_apply_of_flush (fun n h => (outsAt0 m c n h).1) 4 (fun _ => (0 : EReal))
    (fun t j => prod (iblk m c 0 t) (iblk m c 1 t) j)
    (fun t h j => by
      rw [outsAt0_A m c t h (by omega)]; frame_out; rw [pay2, pay1])
    (fun t h j => by
      by_cases h3 : t.val % 4 = 3
      · rw [outsAt0_C m c t h h3]; frame_out; rw [pay2]
      · rw [outsAt0_B m c t h h3]; frame_out; rw [pay2]) t ht j, zero_add]

/-- The four blocks' shares are the reference's product. -/
theorem whole (c : Dev nD) (t : Fin cfg0.N) (ht : t.val % 4 = 3) (y : S1024x1024.Idx) (i : S1024x1024.Idx)
    (h0 : (i 0).val = (y 0).val) (h1 : (i 1).val = (y 1).val) :
    (outsAt0 m c t.val t.isLt).1 y
      = val_main_v5 (F := Ideal) (m ((c : Thread nD τ).loc main_arg0)) (m ((c : Thread nD τ).loc main_arg1)) i := by
  rw [acc m c t ht y]
  pointwise [prod, val_main_v5, val_main_v4, val_main_v3, val_main_v1]
  refine Fin.sum_mul_add_congr fun s k hl => ?_
  have hq : t.val / 4 = 0 := by have := t.isLt; have hn : cfg0.N = 4 := N_0; omega
  have hs : 4 * (t.val / 4) + s.val < cfg0.N := by have := t.isLt; omega
  obtain ⟨e0, e1, e2, e3, -⟩ := idx ⟨_, hs⟩
  rw [mul_comm]
  blk_point [iblk, V, idx ⟨_, hs⟩]

theorem dw (c : Dev nD) : (dats m 0 c).arrAt 2 cfg0.N
    = val_main_v5 (F := Ideal) (m ((c : Thread nD τ).loc main_arg0)) (m ((c : Thread nD τ).loc main_arg1)) := by
  refine (dats m 0 c).arrAt_eq_of_covers 2 _ (by decide +kernel) fun t hf y => ?_
  have ht := (flush0_2 t).mp hf
  obtain ⟨-, -, -, -, e4, e5, -⟩ := idx t
  blk_simp
  rw [after0_2]
  exact whole m c t ht y _ (by blk_simp [e4]) (by blk_simp [e5])

theorem dwb (c : Dev nD) : (dats m 0 c).arrAt 3 cfg0.N
    = val_main_v6 (F := Ideal) (m ((c : Thread nD τ).loc main_arg0)) (m ((c : Thread nD τ).loc main_arg1)) := by
  refine (dats m 0 c).arrAt_eq_of_covers 3 _ (by decide +kernel) fun t hf y => ?_
  have ht := (flush0_3 t).mp hf
  obtain ⟨-, -, -, -, -, -, e6, e7⟩ := idx t
  blk_simp
  rw [after0_3]
  have hw := whole m c t ht y (((cfg0.win 3).blk t).view.emb y) (by blk_simp [e6]) (by blk_simp [e7])
  rw [outsAt0_C m c t (by omega) ht] at hw ⊢
  revert hw
  frame_out
  intro hw
  pointwise [k0_pay3, val_main_v6]
  exact hw

end Cert.WgradGateIdeal.Sum

namespace Cert.WgradGateIdeal

open Idealize.ShloMosaic Idealize.ShloMosaic.TcCoe Idealize.SL.Sem

theorem agrees : Cert.algebraic_WgradGateIdeal_WgradGateRefIdeal := by
  intro m g m' g' _ hargs
  refine ⟨fun c => Cert.WgradGateRefIdeal.Read.val_main_v5 (F := Ideal) (m ((c : Thread nD τ).loc main_arg0)) (m ((c : Thread nD τ).loc main_arg1)),
    fun c => Cert.WgradGateRefIdeal.Read.val_main_v6 (F := Ideal) (m ((c : Thread nD τ).loc main_arg0)) (m ((c : Thread nD τ).loc main_arg1)), ?_, ?_⟩
  · refine (θ_run Cert.WgradGateIdeal.defs _ _).mono (fun r h c => ?_) (Value.run_blocks m g)
    exact ⟨(h c).1.trans (Sum.dw m c), (h c).2.1.trans (Sum.dwb m c), (h c).2.2⟩
  · refine (θ_run Cert.WgradGateRefIdeal.defs _ _).mono (fun r h c => ?_) (Cert.WgradGateRefIdeal.Value.run (F := Ideal) m' g')
    obtain ⟨h0, h1⟩ := hargs c
    refine ⟨(h c).1.trans ?_, (h c).2.1.trans ?_, (h c).2.2⟩
    · rw [Cert.WgradGateRefIdeal.Read.val_main_v5_eq, h0, h1]
    · rw [Cert.WgradGateRefIdeal.Read.val_main_v6_eq, h0, h1]

end Cert.WgradGateIdeal
-- ==== Proof.WgradHg.lean ====
/-
  The weight gradient of the first input projection: for each half of the columns, four row blocks of the products, summed on the grid, are the
  product over all rows; the column sums likewise.
-/
module

public import proofs.«01_k».proof.Defs
public import proofs.«01_k».proof.Proof.Fold
public import proofs.«01_k».proof.Proof.Gen.WgradHgIdeal.Value
public import proofs.«01_k».proof.Proof.Gen.WgradHgRefIdeal.Read

@[expose] public section

set_option maxRecDepth 16384

noncomputable section

namespace Cert.WgradHgIdeal.Sum

open Cert.WgradHgIdeal Cert.WgradHgIdeal.Gen Cert.WgradHgIdeal.Value Idealize.ShloMosaic Idealize.ShloMosaic.TcCoe Idealize.SL.Sem

variable (m : (ℓ : Loc nD τ sig) → Buf (Elt Ideal) ℓ)

/-- Where the windows' blocks lie. -/
theorem idx : ∀ t : Fin cfg0.N, win0_0.index t (0 : Fin 2) = t.val % 4 ∧ win0_0.index t (1 : Fin 2) = t.val / 4
    ∧ win0_1.index t (0 : Fin 2) = t.val % 4 ∧ win0_1.index t (1 : Fin 2) = 0 :=
  (by decide +kernel : ∀ t : Fin grid0.N, _)

/-- One row block's share of the product. -/
def prod (x : Vec Ideal S2048x1024 .bf16) (y : Vec Ideal S2048x1024 .bf16) (i : S1024x1024.Idx) : EReal :=
  ∑ k : Fin 2048, x (ix2 k (i 0)) * y (ix2 k (i 1))

/-- One row block's share of the column sums. -/
def cols (x : Vec Ideal S2048x1024 .bf16) (i : S1x1024.Idx) : EReal :=
  ∑ k : Fin 2048, x (ix2 k (i 1))

theorem pay3 (x : Vec Ideal S2048x1024 .bf16) (acc : Vec Ideal S1024x1024 .f32) (y : Vec Ideal S2048x1024 .bf16) (i : S1024x1024.Idx) :
    k0_pay3 (F := Ideal) x acc y i = acc i + prod x y i := by
  pointwise [k0_pay3, prod]

theorem pay1 (i : S1024x1024.Idx) : k0_pay1 (F := Ideal) i = 0 := by
  pointwise [k0_pay1]

theorem pay4 (x : Vec Ideal S2048x1024 .bf16) (acc : Vec Ideal S1x1024 .f32) (i : S1x1024.Idx) :
    k0_pay4 (F := Ideal) x acc i = acc i + cols x i := by
  pointwise [k0_pay4, cols]

theorem pay2 (i : S1x1024.Idx) : k0_pay2 (F := Ideal) i = 0 := by
  pointwise [k0_pay2]

theorem dw (c : Dev nD) :
    G2 m c = Cert.WgradHgRefIdeal.Read.val_main_v12 (F := Ideal) (m ((c : Thread nD τ).loc main_arg0)) (m ((c : Thread nD τ).loc main_arg1)) := by
  funext i
  have hi0 : (i 0).val < 2048 := (i 0).isLt
  have hi1 : (i 1).val < 1024 := (i 1).isLt
  have hr : run2Of i = (i 0).val / 1024 := by show 1 * ((i 0).val / 1024 - 0) + 1 * ((i 1).val / 1024 - 0) = _; omega
  unfold G2
  rw [dif_pos (by rw [hr, show cfg0.N = 8 from N_0]; omega)]
  rw [Fold.four (reset2 m c) (step2 m c) (fun n h => prod (iblk m c 0 ⟨n, h⟩) (iblk m c 1 ⟨n, h⟩) (loc2Of i)) (loc2Of i) _ _
    (fun h => by unfold reset2; rw [pay3, pay1, zero_add]) (fun n h acc => by unfold step2; rw [pay3])]
  pointwise [prod, Cert.WgradHgRefIdeal.Read.val_main_v12, Cert.WgradHgRefIdeal.Read.val_main_v11, Cert.WgradHgRefIdeal.Read.val_main_v10,
    Cert.WgradHgRefIdeal.Read.val_main_v7, Cert.WgradHgRefIdeal.Read.val_main_v2]
  refine Fin.sum_mul_add_congr fun s k hl => ?_
  have hs : 4 * run2Of i + s.val < cfg0.N := by rw [hr, show cfg0.N = 8 from N_0]; omega
  obtain ⟨e0, e1, e2, e3⟩ := idx ⟨_, hs⟩
  blk_point [iblk, V, idx ⟨_, hs⟩]

theorem db (c : Dev nD) :
    G3 m c = Cert.WgradHgRefIdeal.Read.val_main_v9 (F := Ideal) (m ((c : Thread nD τ).loc main_arg0)) := by
  funext i
  have hi0 : (i 0).val < 1 := (i 0).isLt
  have hi1 : (i 1).val < 2048 := (i 1).isLt
  have hr : run3Of i = (i 1).val / 1024 := by show 2 * ((i 0).val / 1 - 0) + 1 * ((i 1).val / 1024 - 0) = _; omega
  unfold G3
  rw [dif_pos (by rw [hr, show cfg0.N = 8 from N_0]; omega)]
  rw [Fold.four (reset3 m c) (step3 m c) (fun n h => cols (iblk m c 0 ⟨n, h⟩) (loc3Of i)) (loc3Of i) _ _
    (fun h => by unfold reset3; rw [pay4, pay2, zero_add]) (fun n h acc => by unfold step3; rw [pay4])]
  pointwise [cols, Cert.WgradHgRefIdeal.Read.val_main_v9, Cert.WgradHgRefIdeal.Read.val_main_v8, Cert.WgradHgRefIdeal.Read.val_main_cst_1,
    Cert.WgradHgRefIdeal.Read.val_main_v7]
  refine Fin.sum_mul_add_congr fun s k hl => ?_
  have hs : 4 * run3Of i + s.val < cfg0.N := by rw [hr, show cfg0.N = 8 from N_0]; omega
  obtain ⟨e0, e1, e2, e3⟩ := idx ⟨_, hs⟩
  blk_point [iblk, V, idx ⟨_, hs⟩]

end Cert.WgradHgIdeal.Sum

namespace Cert.WgradHgIdeal

open Idealize.ShloMosaic Idealize.ShloMosaic.TcCoe Idealize.SL.Sem

theorem agrees : Cert.algebraic_WgradHgIdeal_WgradHgRefIdeal := by
  intro m g m' g' _ hargs
  refine ⟨fun c => Value.G2 m c, fun c => Value.G3 m c, ?_, ?_⟩
  · exact Value.run m g
  · refine (θ_run Cert.WgradHgRefIdeal.defs _ _).mono (fun r h c => ?_) (Cert.WgradHgRefIdeal.Value.run (F := Ideal) m' g')
    obtain ⟨h0, h1⟩ := hargs c
    refine ⟨(h c).1.trans ?_, (h c).2.1.trans ?_, (h c).2.2⟩
    · rw [Cert.WgradHgRefIdeal.Read.val_main_v12_eq, h0, h1]; exact (Sum.dw m c).symm
    · rw [Cert.WgradHgRefIdeal.Read.val_main_v9_eq, h0]; exact (Sum.db m c).symm

end Cert.WgradHgIdeal
-- ==== Proof.WgradMl.lean ====
/-
  The weight gradient of the second input projection: four row blocks of the products, summed on the grid, are the
  product over all rows; the column sums likewise.
-/
module

public import proofs.«01_k».proof.Defs
public import proofs.«01_k».proof.Proof.Fold
public import proofs.«01_k».proof.Proof.Gen.WgradMlIdeal.Value
public import proofs.«01_k».proof.Proof.Gen.WgradMlRefIdeal.Read

@[expose] public section

set_option maxRecDepth 16384

noncomputable section

namespace Cert.WgradMlIdeal.Sum

open Cert.WgradMlIdeal Cert.WgradMlIdeal.Gen Cert.WgradMlIdeal.Value Idealize.ShloMosaic Idealize.ShloMosaic.TcCoe Idealize.SL.Sem

variable (m : (ℓ : Loc nD τ sig) → Buf (Elt Ideal) ℓ)

/-- Where the windows' blocks lie. -/
theorem idx : ∀ t : Fin cfg0.N, win0_0.index t (0 : Fin 2) = t.val % 4 ∧ win0_0.index t (1 : Fin 2) = 0
    ∧ win0_1.index t (0 : Fin 2) = t.val % 4 ∧ win0_1.index t (1 : Fin 2) = 0 :=
  (by decide +kernel : ∀ t : Fin grid0.N, _)

/-- One row block's share of the product. -/
def prod (x : Vec Ideal S2048x1664 .bf16) (y : Vec Ideal S2048x1024 .bf16) (i : S1664x1024.Idx) : EReal :=
  ∑ k : Fin 2048, x (ix2 k (i 0)) * y (ix2 k (i 1))

/-- One row block's share of the column sums. -/
def cols (x : Vec Ideal S2048x1664 .bf16) (i : S1x1664.Idx) : EReal :=
  ∑ k : Fin 2048, x (ix2 k (i 1))

theorem pay3 (x : Vec Ideal S2048x1664 .bf16) (acc : Vec Ideal S1664x1024 .f32) (y : Vec Ideal S2048x1024 .bf16) (i : S1664x1024.Idx) :
    k0_pay3 (F := Ideal) x acc y i = acc i + prod x y i := by
  pointwise [k0_pay3, prod]

theorem pay1 (i : S1664x1024.Idx) : k0_pay1 (F := Ideal) i = 0 := by
  pointwise [k0_pay1]

theorem pay4 (x : Vec Ideal S2048x1664 .bf16) (acc : Vec Ideal S1x1664 .f32) (i : S1x1664.Idx) :
    k0_pay4 (F := Ideal) x acc i = acc i + cols x i := by
  pointwise [k0_pay4, cols]

theorem pay2 (i : S1x1664.Idx) : k0_pay2 (F := Ideal) i = 0 := by
  pointwise [k0_pay2]

theorem dw (c : Dev nD) :
    G2 m c = Cert.WgradMlRefIdeal.Read.val_main_v12 (F := Ideal) (m ((c : Thread nD τ).loc main_arg0)) (m ((c : Thread nD τ).loc main_arg1)) := by
  funext i
  have hi0 : (i 0).val < 1664 := (i 0).isLt
  have hi1 : (i 1).val < 1024 := (i 1).isLt
  have hr : run2Of i = 0 := by show 1 * ((i 0).val / 1664 - 0) + 1 * ((i 1).val / 1024 - 0) = 0; omega
  have hl : loc2Of i = i := by
    funext a; apply Fin.ext
    match a with
    | ⟨0, _⟩ => show (i 0).val % 1664 = (i 0).val; omega
    | ⟨1, _⟩ => show (i 1).val % 1024 = (i 1).val; omega
  unfold G2
  rw [dif_pos (by rw [hr, show cfg0.N = 4 from N_0]; decide), hl]
  rw [Fold.four (reset2 m c) (step2 m c) (fun n h => prod (iblk m c 0 ⟨n, h⟩) (iblk m c 1 ⟨n, h⟩) i) i _ _
    (fun h => by unfold reset2; rw [pay3, pay1, zero_add]) (fun n h acc => by unfold step2; rw [pay3])]
  pointwise [prod, Cert.WgradMlRefIdeal.Read.val_main_v12, Cert.WgradMlRefIdeal.Read.val_main_v11, Cert.WgradMlRefIdeal.Read.val_main_v10,
    Cert.WgradMlRefIdeal.Read.val_main_v7, Cert.WgradMlRefIdeal.Read.val_main_v2]
  refine Fin.sum_mul_add_congr fun s k hl => ?_
  have hs : 4 * run2Of i + s.val < cfg0.N := by rw [hr, show cfg0.N = 4 from N_0]; omega
  obtain ⟨e0, e1, e2, e3⟩ := idx ⟨_, hs⟩
  blk_point [iblk, V, idx ⟨_, hs⟩]

theorem db (c : Dev nD) :
    G3 m c = Cert.WgradMlRefIdeal.Read.val_main_v9 (F := Ideal) (m ((c : Thread nD τ).loc main_arg0)) := by
  funext i
  have hi0 : (i 0).val < 1 := (i 0).isLt
  have hi1 : (i 1).val < 1664 := (i 1).isLt
  have hr : run3Of i = 0 := by show 1 * ((i 0).val / 1 - 0) + 1 * ((i 1).val / 1664 - 0) = 0; omega
  have hl : loc3Of i = i := by
    funext a; apply Fin.ext
    match a with
    | ⟨0, _⟩ => show (i 0).val % 1 = (i 0).val; omega
    | ⟨1, _⟩ => show (i 1).val % 1664 = (i 1).val; omega
  unfold G3
  rw [dif_pos (by rw [hr, show cfg0.N = 4 from N_0]; decide), hl]
  rw [Fold.four (reset3 m c) (step3 m c) (fun n h => cols (iblk m c 0 ⟨n, h⟩) i) i _ _
    (fun h => by unfold reset3; rw [pay4, pay2, zero_add]) (fun n h acc => by unfold step3; rw [pay4])]
  pointwise [cols, Cert.WgradMlRefIdeal.Read.val_main_v9, Cert.WgradMlRefIdeal.Read.val_main_v8, Cert.WgradMlRefIdeal.Read.val_main_cst_1,
    Cert.WgradMlRefIdeal.Read.val_main_v7]
  refine Fin.sum_mul_add_congr fun s k hl => ?_
  have hs : 4 * run3Of i + s.val < cfg0.N := by rw [hr, show cfg0.N = 4 from N_0]; omega
  obtain ⟨e0, e1, e2, e3⟩ := idx ⟨_, hs⟩
  blk_point [iblk, V, idx ⟨_, hs⟩]

end Cert.WgradMlIdeal.Sum

namespace Cert.WgradMlIdeal

open Idealize.ShloMosaic Idealize.ShloMosaic.TcCoe Idealize.SL.Sem

theorem agrees : Cert.algebraic_WgradMlIdeal_WgradMlRefIdeal := by
  intro m g m' g' _ hargs
  refine ⟨fun c => Value.G2 m c, fun c => Value.G3 m c, ?_, ?_⟩
  · exact Value.run m g
  · refine (θ_run Cert.WgradMlRefIdeal.defs _ _).mono (fun r h c => ?_) (Cert.WgradMlRefIdeal.Value.run (F := Ideal) m' g')
    obtain ⟨h0, h1⟩ := hargs c
    refine ⟨(h c).1.trans ?_, (h c).2.1.trans ?_, (h c).2.2⟩
    · rw [Cert.WgradMlRefIdeal.Read.val_main_v12_eq, h0, h1]; exact (Sum.dw m c).symm
    · rw [Cert.WgradMlRefIdeal.Read.val_main_v9_eq, h0]; exact (Sum.db m c).symm

end Cert.WgradMlIdeal
-- ==== Proof.FfnUp.lean ====
/-
  The channel mixer's first half, forward: each block of rows of the two products and of the gated product is the
  reference's, whose rows are independent of one another.
-/
module

public import proofs.«01_k».proof.Defs
public import proofs.«01_k».proof.Proof.Fold
public import proofs.«01_k».proof.Proof.Gen.FfnUpIdeal.Value
public import proofs.«01_k».proof.Proof.Gen.FfnUpRefIdeal.Read

@[expose] public section

set_option maxRecDepth 16384

noncomputable section

namespace Cert.FfnUpIdeal.Rows

open Cert.FfnUpIdeal Cert.FfnUpIdeal.Gen Cert.FfnUpIdeal.Value Idealize.ShloMosaic Idealize.ShloMosaic.TcCoe Idealize.SL.Sem
open Cert.FfnUpRefIdeal.Read

variable (m : (ℓ : Loc nD τ sig) → Buf (Elt Ideal) ℓ) (c : Dev nD)

abbrev a0 := m ((c : Thread nD τ).loc main_arg0)
abbrev a1 := m ((c : Thread nD τ).loc main_arg1)
abbrev a2 := m ((c : Thread nD τ).loc main_arg2)

/-- Where the windows' blocks lie. -/
theorem idx : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0) :=
  (by decide +kernel : ∀ t : Fin grid0.N, _)

variable (t : Fin cfg0.N) (y : S512x2816.Idx) (i : S8192x2816.Idx) (h0 : (i 0).val = t.val * 512 + (y 0).val) (h1 : (i 1).val = (y 1).val)
include h0 h1

theorem gate : k0_pay1 (F := Ideal) (iblk m c 0 t) (iblk m c 1 t) y = val_main_v4 (F := Ideal) (a0 m c) (a1 m c) i := by
  pointwise [k0_pay1, val_main_v4, val_main_v3, val_main_v1, val_main_v0]
  refine Finset.sum_congr rfl fun k _ => ?_
  obtain ⟨⟨e0, e1⟩, ⟨e2, e3⟩, -⟩ := idx t
  blk_point [iblk, V, idx t]

theorem up : k0_pay2 (F := Ideal) (iblk m c 0 t) (iblk m c 2 t) y = val_main_v6 (F := Ideal) (a0 m c) (a2 m c) i := by
  pointwise [k0_pay2, val_main_v6, val_main_v5, val_main_v2, val_main_v0]
  refine Finset.sum_congr rfl fun k _ => ?_
  obtain ⟨⟨e0, e1⟩, -, ⟨e2, e3⟩, -⟩ := idx t
  blk_point [iblk, V, idx t]

theorem act : k0_pay5 (F := Ideal) (iblk m c 0 t) (iblk m c 1 t) (iblk m c 2 t) y
    = val_main_v11 (F := Ideal) (a0 m c) (a1 m c) (a2 m c) i := by
  have hg := gate m c t y i h0 h1
  have hu := up m c t y i h0 h1
  pointwise [k0_pay5, val_main_v11, val_main_v10, val_main_v9, val_main_call0_v5, val_main_call0_v4, val_main_call0_v3, val_main_call0_v2,
    val_main_call0_v1, val_main_call0_v0, val_main_call0_cst, val_main_call0_cst_0]
  rw [hg, hu, zero_sub]

end Cert.FfnUpIdeal.Rows

namespace Cert.FfnUpIdeal.Rows

open Cert.FfnUpIdeal Cert.FfnUpIdeal.Gen Cert.FfnUpIdeal.Value Idealize.ShloMosaic Idealize.ShloMosaic.TcCoe Idealize.SL.Sem
open Cert.FfnUpRefIdeal.Read

variable (m : (ℓ : Loc nD τ sig) → Buf (Elt Ideal) ℓ) (c : Dev nD)

theorem r0 : (dats m 0 c).arrAt 3 cfg0.N = val_main_v7 (F := Ideal) (a0 m c) (a1 m c) := by
  refine (dats m 0 c).arrAt_eq_of_covers 3 _ (by decide +kernel) fun t hf y => ?_
  obtain ⟨-, -, -, ⟨e0, e1⟩, -⟩ := idx t
  blk_simp
  rw [after0_3]
  frame_out
  exact gate m c t y _ (by blk_simp [e0]) (by blk_simp [e1])

theorem r1 : (dats m 0 c).arrAt 4 cfg0.N = val_main_v8 (F := Ideal) (a0 m c) (a2 m c) := by
  refine (dats m 0 c).arrAt_eq_of_covers 4 _ (by decide +kernel) fun t hf y => ?_
  obtain ⟨-, -, -, -, ⟨e0, e1⟩, -⟩ := idx t
  blk_simp
  rw [after0_4]
  frame_out
  exact up m c t y _ (by blk_simp [e0]) (by blk_simp [e1])

theorem r2 : (dats m 0 c).arrAt 5 cfg0.N = val_main_v11 (F := Ideal) (a0 m c) (a1 m c) (a2 m c) := by
  refine (dats m 0 c).arrAt_eq_of_covers 5 _ (by decide +kernel) fun t hf y => ?_
  obtain ⟨-, -, -, -, -, ⟨e0, e1⟩⟩ := idx t
  blk_simp
  rw [after0_5]
  frame_out
  exact act m c t y _ (by blk_simp [e0]) (by blk_simp [e1])

end Cert.FfnUpIdeal.Rows

namespace Cert.FfnUpIdeal

open Idealize.ShloMosaic Idealize.ShloMosaic.TcCoe Idealize.SL.Sem
open Cert.FfnUpRefIdeal.Read

theorem agrees : Cert.algebraic_FfnUpIdeal_FfnUpRefIdeal := by
  intro m g m' g' _ hargs
  refine ⟨fun c => val_main_v7 (F := Ideal) (Rows.a0 m c) (Rows.a1 m c), fun c => val_main_v8 (F := Ideal) (Rows.a0 m c) (Rows.a2 m c),
    fun c => val_main_v11 (F := Ideal) (Rows.a0 m c) (Rows.a1 m c) (Rows.a2 m c), ?_, ?_⟩
  · refine (θ_run Cert.FfnUpIdeal.defs _ _).mono (fun r h c => ?_) (Value.run_blocks m g)
    exact ⟨(h c).1.trans (Rows.r0 m c), (h c).2.1.trans (Rows.r1 m c), (h c).2.2.1.trans (Rows.r2 m c), (h c).2.2.2⟩
  · refine (θ_run Cert.FfnUpRefIdeal.defs _ _).mono (fun r h c => ?_) (Cert.FfnUpRefIdeal.Value.run (F := Ideal) m' g')
    obtain ⟨h0, h1, h2⟩ := hargs c
    refine ⟨(h c).1.trans ?_, (h c).2.1.trans ?_, (h c).2.2.1.trans ?_, (h c).2.2.2⟩
    · rw [val_main_v7_eq, h0, h1]
    · rw [val_main_v8_eq, h0, h2]
    · rw [val_main_v11_eq, h0, h1, h2]

end Cert.FfnUpIdeal
-- ==== Proof.FfnDown.lean ====
/-
  The channel mixer's last product and the normalisation after it, forward: each block of rows is the reference's.
-/
module

public import proofs.«01_k».proof.Defs
public import proofs.«01_k».proof.Proof.Fold
public import proofs.«01_k».proof.Proof.Gen.FfnDownIdeal.Value
public import proofs.«01_k».proof.Proof.Gen.FfnDownRefIdeal.Read

@[expose] public section

set_option maxRecDepth 16384

noncomputable section

namespace Cert.FfnDownIdeal.Rows

open Cert.FfnDownIdeal Cert.FfnDownIdeal.Gen Cert.FfnDownIdeal.Value Idealize.ShloMosaic Idealize.ShloMosaic.TcCoe Idealize.SL.Sem
open Cert.FfnDownRefIdeal.Read

variable (m : (ℓ : Loc nD τ sig) → Buf (Elt Ideal) ℓ) (c : Dev nD)

abbrev a0 := m ((c : Thread nD τ).loc main_arg0)
abbrev a1 := m ((c : Thread nD τ).loc main_arg1)
abbrev a2 := m ((c : Thread nD τ).loc main_arg2)
abbrev a3 := m ((c : Thread nD τ).loc main_arg3)
abbrev a4 := m ((c : Thread nD τ).loc main_arg4)

/-- Where the windows' blocks lie. -/
theorem idx : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0) :=
  (by decide +kernel : ∀ t : Fin grid0.N, _)

/-- What the normalisation is given, at an index of a block. -/
def pre (v0 : Vec Ideal S1024x2816 .bf16) (v1 : Vec Ideal S2816x1024 .bf16) (v3 : Vec Ideal S1024x1024 .f32) (y : S1024x1024.Idx) : EReal :=
  Ideal.ofBits FTy.f32 1066940400#32 * v3 y + ∑ k : Fin 2816, v0 (ix2 (y 0) k) * v1 (ix2 k (y 1))

theorem cen_at (v0 : Vec Ideal S1024x2816 .bf16) (v1 : Vec Ideal S2816x1024 .bf16) (v3 : Vec Ideal S1024x1024 .f32) (y : S1024x1024.Idx) :
    k0_pay1 (F := Ideal) v0 v1 v3 y
      = pre v0 v1 v3 y - Ideal.div (∑ k : Fin 1024, pre v0 v1 v3 (ix2 (y 0) k)) (Ideal.ofBits FTy.f32 1149239296#32) := by
  pointwise [k0_pay1, pre]

theorem pre_eq (t : Fin cfg0.N) (y : S1024x1024.Idx) (i : S8192x1024.Idx) (h0 : (i 0).val = t.val * 1024 + (y 0).val)
    (h1 : (i 1).val = (y 1).val) : pre (iblk m c 0 t) (iblk m c 2 t) (iblk m c 1 t) y = val_main_v5 (F := Ideal) (a0 m c) (a1 m c) (a2 m c) i := by
  pointwise [pre, val_main_v5, val_main_v4, val_main_v3, val_main_cst, val_main_v2, val_main_v1, val_main_v0]
  obtain ⟨⟨e0, e1⟩, ⟨e2, e3⟩, ⟨e4, e5⟩, -⟩ := idx t
  refine congrArg₂ (· + ·) (congrArg₂ (· * ·) rfl ?_) (Finset.sum_congr rfl fun k _ => ?_)
  · blk_point [iblk, V, idx t]
  · blk_point [iblk, V, idx t]

theorem cen_eq (t : Fin cfg0.N) (y : S1024x1024.Idx) (i : S8192x1024.Idx) (h0 : (i 0).val = t.val * 1024 + (y 0).val)
    (h1 : (i 1).val = (y 1).val) : k0_pay1 (F := Ideal) (iblk m c 0 t) (iblk m c 2 t) (iblk m c 1 t) y = val_main_v13 (F := Ideal) (a0 m c) (a1 m c) (a2 m c) i := by
  rw [cen_at, pre_eq m c t y i h0 h1, Finset.sum_congr rfl fun k _ => pre_eq m c t (ix2 (y 0) k) (ix2 (i 0) k) h0 rfl]
  pointwise [val_main_v13, val_main_v12, val_main_v11, val_main_v10, val_main_cst_1, val_main_v9, val_main_v8, val_main_cst_0]

theorem cen_eq' (t : Fin cfg0.N) (y : S1024x1024.Idx) (i : S8192x1024.Idx) (h0 : (i 0).val = t.val * 1024 + (y 0).val)
    (h1 : (i 1).val = (y 1).val) : k0_pay1 (F := Ideal) (iblk m c 0 t) (iblk m c 2 t) (iblk m c 1 t) y = val_main_v23 (F := Ideal) (a0 m c) (a1 m c) (a2 m c) i := by
  rw [cen_at, pre_eq m c t y i h0 h1, Finset.sum_congr rfl fun k _ => pre_eq m c t (ix2 (y 0) k) (ix2 (i 0) k) h0 rfl]
  pointwise [val_main_v23, val_main_v22, val_main_v11, val_main_v10, val_main_cst_1, val_main_v9, val_main_v8, val_main_cst_0]

theorem scale_eq (t : Fin cfg0.N) (y : S1024x1.Idx) (i : S8192x1.Idx) (h0 : (i 0).val = t.val * 1024 + (y 0).val) :
    k0_pay2 (F := Ideal) (iblk m c 0 t) (iblk m c 2 t) (iblk m c 1 t) y = val_main_v21 (F := Ideal) (a0 m c) (a1 m c) (a2 m c) i := by
  pointwise [k0_pay2, val_main_v21, val_main_v20, val_main_v19, val_main_cst_4, val_main_v18, val_main_v17, val_main_cst_3, val_main_v16, val_main_v15, val_main_cst_2, val_main_v14]
  rw [Finset.sum_congr rfl fun k _ => congrArg₂ (· * ·) (cen_eq m c t (ix2 (y 0) k) (ix2 (i 0) k) h0 rfl) (cen_eq m c t (ix2 (y 0) k) (ix2 (i 0) k) h0 rfl)]

theorem norm_eq (t : Fin cfg0.N) (y : S1024x1024.Idx) (i : S8192x1024.Idx) (h0 : (i 0).val = t.val * 1024 + (y 0).val)
    (h1 : (i 1).val = (y 1).val) : k0_pay3 (F := Ideal) (iblk m c 0 t) (iblk m c 2 t) (iblk m c 1 t) y = val_main_v25 (F := Ideal) (a0 m c) (a1 m c) (a2 m c) i := by
  pointwise [k0_pay3, val_main_v25, val_main_v24]
  rw [cen_eq' m c t y i h0 h1, scale_eq m c t (ix2 (y 0) 0) (ix2 (i 0) 0) h0]

theorem res_eq (t : Fin cfg0.N) (y : S1024x1024.Idx) (i : S8192x1024.Idx) (h0 : (i 0).val = t.val * 1024 + (y 0).val)
    (h1 : (i 1).val = (y 1).val) : k0_pay4 (F := Ideal) (iblk m c 0 t) (iblk m c 2 t) (iblk m c 1 t) (iblk m c 3 t) (iblk m c 4 t) y = val_main_v31 (F := Ideal) (a0 m c) (a1 m c) (a2 m c) (a3 m c) (a4 m c) i := by
  pointwise [k0_pay4, val_main_v31, val_main_v30, val_main_v29, val_main_v7, val_main_v28, val_main_v27, val_main_v26, val_main_v6]
  rw [norm_eq m c t y i h0 h1]
  obtain ⟨-, -, -, ⟨g3, k3⟩, ⟨g4, k4⟩, -⟩ := idx t
  refine congrArg₂ (· + ·) (congrArg₂ (· * ·) rfl ?_) ?_
  · blk_point [iblk, V, idx t]
  · blk_point [iblk, V, idx t]

theorem r0 : (dats m 0 c).arrAt 5 cfg0.N = val_main_v31 (F := Ideal) (a0 m c) (a1 m c) (a2 m c) (a3 m c) (a4 m c) := by
  refine (dats m 0 c).arrAt_eq_of_covers 5 _ (by decide +kernel) fun t hf y => ?_
  obtain ⟨-, -, -, -, -, ⟨e0, e1⟩, -⟩ := idx t
  blk_simp
  rw [after0_5]
  frame_out
  exact res_eq m c t y _ (by blk_simp [e0]) (by blk_simp [e1])

theorem r1 : (dats m 0 c).arrAt 6 cfg0.N = val_main_v32 (F := Ideal) (a0 m c) (a1 m c) (a2 m c) := by
  refine (dats m 0 c).arrAt_eq_of_covers 6 _ (by decide +kernel) fun t hf y => ?_
  obtain ⟨-, -, -, -, -, -, ⟨e0, e1⟩, -⟩ := idx t
  blk_simp
  rw [after0_6]
  frame_out
  exact norm_eq m c t y _ (by blk_simp [e0]) (by blk_simp [e1])

theorem r2 : (dats m 0 c).arrAt 7 cfg0.N = val_main_v21 (F := Ideal) (a0 m c) (a1 m c) (a2 m c) := by
  refine (dats m 0 c).arrAt_eq_of_covers 7 _ (by decide +kernel) fun t hf y => ?_
  obtain ⟨-, -, -, -, -, -, -, ⟨e0, e1⟩, -⟩ := idx t
  blk_simp
  rw [after0_7]
  frame_out
  exact scale_eq m c t y _ (by blk_simp [e0])

theorem r3 : (dats m 0 c).arrAt 8 cfg0.N = val_main_v33 (F := Ideal) (a0 m c) (a1 m c) (a2 m c) (a3 m c) (a4 m c) := by
  refine (dats m 0 c).arrAt_eq_of_covers 8 _ (by decide +kernel) fun t hf y => ?_
  obtain ⟨-, -, -, -, -, -, -, -, ⟨e0, e1⟩⟩ := idx t
  blk_simp
  rw [after0_8]
  frame_out
  exact res_eq m c t y _ (by blk_simp [e0]) (by blk_simp [e1])

end Cert.FfnDownIdeal.Rows

namespace Cert.FfnDownIdeal

open Idealize.ShloMosaic Idealize.ShloMosaic.TcCoe Idealize.SL.Sem
open Cert.FfnDownRefIdeal.Read

theorem agrees : Cert.algebraic_FfnDownIdeal_FfnDownRefIdeal := by
  intro m g m' g' _ hargs
  refine ⟨fun c => val_main_v31 (F := Ideal) (Rows.a0 m c) (Rows.a1 m c) (Rows.a2 m c) (Rows.a3 m c) (Rows.a4 m c),
    fun c => val_main_v32 (F := Ideal) (Rows.a0 m c) (Rows.a1 m c) (Rows.a2 m c),
    fun c => val_main_v21 (F := Ideal) (Rows.a0 m c) (Rows.a1 m c) (Rows.a2 m c),
    fun c => val_main_v33 (F := Ideal) (Rows.a0 m c) (Rows.a1 m c) (Rows.a2 m c) (Rows.a3 m c) (Rows.a4 m c), ?_, ?_⟩
  · refine (θ_run Cert.FfnDownIdeal.defs _ _).mono (fun r h c => ?_) (Value.run_blocks m g)
    exact ⟨(h c).1.trans (Rows.r0 m c), (h c).2.1.trans (Rows.r1 m c), (h c).2.2.1.trans (Rows.r2 m c), (h c).2.2.2.1.trans (Rows.r3 m c),
      (h c).2.2.2.2⟩
  · refine (θ_run Cert.FfnDownRefIdeal.defs _ _).mono (fun r h c => ?_) (Cert.FfnDownRefIdeal.Value.run (F := Ideal) m' g')
    obtain ⟨h0, h1, h2, h3, h4⟩ := hargs c
    refine ⟨(h c).1.trans ?_, (h c).2.1.trans ?_, (h c).2.2.1.trans ?_, (h c).2.2.2.1.trans ?_, (h c).2.2.2.2⟩
    · rw [val_main_v31_eq, h0, h1, h2, h3, h4]
    · rw [val_main_v32_eq, h0, h1, h2]
    · rw [val_main_v21_eq, h0, h1, h2]
    · rw [val_main_v33_eq, h0, h1, h2, h3, h4]

end Cert.FfnDownIdeal
-- ==== Proof.Outproj.lean ====
/-
  The output projection of the two mixers and the normalisation after it, forward: each block of rows is the reference's.
-/
module

public import proofs.«01_k».proof.Defs
public import proofs.«01_k».proof.Proof.Fold
public import proofs.«01_k».proof.Proof.Gen.OutprojIdeal.Value
public import proofs.«01_k».proof.Proof.Gen.OutprojRefIdeal.Read

@[expose] public section

set_option maxRecDepth 16384

noncomputable section

namespace Cert.OutprojIdeal.Rows

open Cert.OutprojIdeal Cert.OutprojIdeal.Gen Cert.OutprojIdeal.Value Idealize.ShloMosaic Idealize.ShloMosaic.TcCoe Idealize.SL.Sem
open Cert.OutprojRefIdeal.Read

variable (m : (ℓ : Loc nD τ sig) → Buf (Elt Ideal) ℓ) (c : Dev nD)

abbrev a0 := m ((c : Thread nD τ).loc main_arg0)
abbrev a1 := m ((c : Thread nD τ).loc main_arg1)
abbrev a2 := m ((c : Thread nD τ).loc main_arg2)
abbrev a3 := m ((c : Thread nD τ).loc main_arg3)
abbrev a4 := m ((c : Thread nD τ).loc main_arg4)
abbrev a5 := m ((c : Thread nD τ).loc main_arg5)

/-- Where the windows' blocks lie. -/
theorem idx : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0) :=
  (by decide +kernel : ∀ t : Fin grid0.N, _)

/-- What the normalisation is given, at an index of a block. -/
def pre (v0 : Vec Ideal S1024x512 .bf16) (v1 : Vec Ideal S512x1024 .bf16) (v3 : Vec Ideal S1024x512 .bf16) (v4 : Vec Ideal S512x1024 .bf16) (v7 : Vec Ideal S1024x1024 .f32) (y : S1024x1024.Idx) : EReal :=
  Ideal.ofBits FTy.f32 1066940400#32 * v7 y + (∑ k : Fin 512, v0 (ix2 (y 0) k) * v1 (ix2 k (y 1)) + ∑ k : Fin 512, v3 (ix2 (y 0) k) * v4 (ix2 k (y 1)))

theorem cen_at (v0 : Vec Ideal S1024x512 .bf16) (v1 : Vec Ideal S512x1024 .bf16) (v3 : Vec Ideal S1024x512 .bf16) (v4 : Vec Ideal S512x1024 .bf16) (v7 : Vec Ideal S1024x1024 .f32) (y : S1024x1024.Idx) :
    k0_pay3 (F := Ideal) v0 v1 v3 v4 v7 y
      = pre v0 v1 v3 v4 v7 y - Ideal.div (∑ k : Fin 1024, pre v0 v1 v3 v4 v7 (ix2 (y 0) k)) (Ideal.ofBits FTy.f32 1149239296#32) := by
  pointwise [k0_pay3, pre]

theorem pre_eq (t : Fin cfg0.N) (y : S1024x1024.Idx) (i : S8192x1024.Idx) (h0 : (i 0).val = t.val * 1024 + (y 0).val)
    (h1 : (i 1).val = (y 1).val) : pre (iblk m c 0 t) (View.ld (iblk m c 3 t) r0_1) (iblk m c 1 t) (View.ld (iblk m c 3 t) r0_2) (iblk m c 2 t) y = val_main_v6 (F := Ideal) (a0 m c) (a1 m c) (a2 m c) (a3 m c) i := by
  pointwise [pre, val_main_v6, val_main_v5, val_main_v4, val_main_cst, val_main_v3, val_main_v2, val_main_v1, val_main_v0]
  obtain ⟨⟨e0, e1⟩, ⟨e2, e3⟩, ⟨e4, e5⟩, ⟨e6, e7⟩, -⟩ := idx t
  refine congrArg₂ (· + ·) (congrArg₂ (· * ·) rfl ?_) ?_
  · blk_point [iblk, V, idx t]
  refine congrArg₂ (· + ·) (Finset.sum_congr rfl fun k _ => ?_) (Finset.sum_congr rfl fun k _ => ?_)
  · blk_point [iblk, V, idx t]
  · blk_point [iblk, V, idx t]

theorem cen_eq (t : Fin cfg0.N) (y : S1024x1024.Idx) (i : S8192x1024.Idx) (h0 : (i 0).val = t.val * 1024 + (y 0).val)
    (h1 : (i 1).val = (y 1).val) : k0_pay3 (F := Ideal) (iblk m c 0 t) (View.ld (iblk m c 3 t) r0_1) (iblk m c 1 t) (View.ld (iblk m c 3 t) r0_2) (iblk m c 2 t) y = val_main_v14 (F := Ideal) (a0 m c) (a1 m c) (a2 m c) (a3 m c) i := by
  rw [cen_at, pre_eq m c t y i h0 h1, Finset.sum_congr rfl fun k _ => pre_eq m c t (ix2 (y 0) k) (ix2 (i 0) k) h0 rfl]
  pointwise [val_main_v14, val_main_v13, val_main_v12, val_main_v11, val_main_cst_1, val_main_v10, val_main_v9, val_main_cst_0]

theorem cen_eq' (t : Fin cfg0.N) (y : S1024x1024.Idx) (i : S8192x1024.Idx) (h0 : (i 0).val = t.val * 1024 + (y 0).val)
    (h1 : (i 1).val = (y 1).val) : k0_pay3 (F := Ideal) (iblk m c 0 t) (View.ld (iblk m c 3 t) r0_1) (iblk m c 1 t) (View.ld (iblk m c 3 t) r0_2) (iblk m c 2 t) y = val_main_v24 (F := Ideal) (a0 m c) (a1 m c) (a2 m c) (a3 m c) i := by
  rw [cen_at, pre_eq m c t y i h0 h1, Finset.sum_congr rfl fun k _ => pre_eq m c t (ix2 (y 0) k) (ix2 (i 0) k) h0 rfl]
  pointwise [val_main_v24, val_main_v23, val_main_v12, val_main_v11, val_main_cst_1, val_main_v10, val_main_v9, val_main_cst_0]

theorem scale_eq (t : Fin cfg0.N) (y : S1024x1.Idx) (i : S8192x1.Idx) (h0 : (i 0).val = t.val * 1024 + (y 0).val) :
    k0_pay4 (F := Ideal) (iblk m c 0 t) (View.ld (iblk m c 3 t) r0_1) (iblk m c 1 t) (View.ld (iblk m c 3 t) r0_2) (iblk m c 2 t) y = val_main_v22 (F := Ideal) (a0 m c) (a1 m c) (a2 m c) (a3 m c) i := by
  pointwise [k0_pay4, val_main_v22, val_main_v21, val_main_v20, val_main_cst_4, val_main_v19, val_main_v18, val_main_cst_3, val_main_v17, val_main_v16, val_main_cst_2, val_main_v15]
  rw [Finset.sum_congr rfl fun k _ => congrArg₂ (· * ·) (cen_eq m c t (ix2 (y 0) k) (ix2 (i 0) k) h0 rfl) (cen_eq m c t (ix2 (y 0) k) (ix2 (i 0) k) h0 rfl)]

theorem norm_eq (t : Fin cfg0.N) (y : S1024x1024.Idx) (i : S8192x1024.Idx) (h0 : (i 0).val = t.val * 1024 + (y 0).val)
    (h1 : (i 1).val = (y 1).val) : k0_pay5 (F := Ideal) (iblk m c 0 t) (View.ld (iblk m c 3 t) r0_1) (iblk m c 1 t) (View.ld (iblk m c 3 t) r0_2) (iblk m c 2 t) y = val_main_v26 (F := Ideal) (a0 m c) (a1 m c) (a2 m c) (a3 m c) i := by
  pointwise [k0_pay5, val_main_v26, val_main_v25]
  rw [cen_eq' m c t y i h0 h1, scale_eq m c t (ix2 (y 0) 0) (ix2 (i 0) 0) h0]

theorem res_eq (t : Fin cfg0.N) (y : S1024x1024.Idx) (i : S8192x1024.Idx) (h0 : (i 0).val = t.val * 1024 + (y 0).val)
    (h1 : (i 1).val = (y 1).val) : k0_pay6 (F := Ideal) (iblk m c 0 t) (View.ld (iblk m c 3 t) r0_1) (iblk m c 1 t) (View.ld (iblk m c 3 t) r0_2) (iblk m c 2 t) (iblk m c 4 t) (iblk m c 5 t) y = val_main_v32 (F := Ideal) (a0 m c) (a1 m c) (a2 m c) (a3 m c) (a4 m c) (a5 m c) i := by
  pointwise [k0_pay6, val_main_v32, val_main_v31, val_main_v30, val_main_v8, val_main_v29, val_main_v28, val_main_v27, val_main_v7]
  rw [norm_eq m c t y i h0 h1]
  obtain ⟨-, -, -, -, ⟨g4, k4⟩, ⟨g5, k5⟩, -⟩ := idx t
  refine congrArg₂ (· + ·) (congrArg₂ (· * ·) rfl ?_) ?_
  · blk_point [iblk, V, idx t]
  · blk_point [iblk, V, idx t]

theorem r0 : (dats m 0 c).arrAt 6 cfg0.N = val_main_v32 (F := Ideal) (a0 m c) (a1 m c) (a2 m c) (a3 m c) (a4 m c) (a5 m c) := by
  refine (dats m 0 c).arrAt_eq_of_covers 6 _ (by decide +kernel) fun t hf y => ?_
  obtain ⟨-, -, -, -, -, -, ⟨e0, e1⟩, -⟩ := idx t
  blk_simp
  rw [after0_6]
  frame_out
  exact res_eq m c t y _ (by blk_simp [e0]) (by blk_simp [e1])

theorem r1 : (dats m 0 c).arrAt 7 cfg0.N = val_main_v33 (F := Ideal) (a0 m c) (a1 m c) (a2 m c) (a3 m c) := by
  refine (dats m 0 c).arrAt_eq_of_covers 7 _ (by decide +kernel) fun t hf y => ?_
  obtain ⟨-, -, -, -, -, -, -, ⟨e0, e1⟩, -⟩ := idx t
  blk_simp
  rw [after0_7]
  frame_out
  exact norm_eq m c t y _ (by blk_simp [e0]) (by blk_simp [e1])

theorem r2 : (dats m 0 c).arrAt 8 cfg0.N = val_main_v22 (F := Ideal) (a0 m c) (a1 m c) (a2 m c) (a3 m c) := by
  refine (dats m 0 c).arrAt_eq_of_covers 8 _ (by decide +kernel) fun t hf y => ?_
  obtain ⟨-, -, -, -, -, -, -, -, ⟨e0, e1⟩, -⟩ := idx t
  blk_simp
  rw [after0_8]
  frame_out
  exact scale_eq m c t y _ (by blk_simp [e0])

theorem r3 : (dats m 0 c).arrAt 9 cfg0.N = val_main_v34 (F := Ideal) (a0 m c) (a1 m c) (a2 m c) (a3 m c) (a4 m c) (a5 m c) := by
  refine (dats m 0 c).arrAt_eq_of_covers 9 _ (by decide +kernel) fun t hf y => ?_
  obtain ⟨-, -, -, -, -, -, -, -, -, ⟨e0, e1⟩⟩ := idx t
  blk_simp
  rw [after0_9]
  frame_out
  exact res_eq m c t y _ (by blk_simp [e0]) (by blk_simp [e1])

end Cert.OutprojIdeal.Rows

namespace Cert.OutprojIdeal

open Idealize.ShloMosaic Idealize.ShloMosaic.TcCoe Idealize.SL.Sem
open Cert.OutprojRefIdeal.Read

theorem agrees : Cert.algebraic_OutprojIdeal_OutprojRefIdeal := by
  intro m g m' g' _ hargs
  refine ⟨fun c => val_main_v32 (F := Ideal) (Rows.a0 m c) (Rows.a1 m c) (Rows.a2 m c) (Rows.a3 m c) (Rows.a4 m c) (Rows.a5 m c),
    fun c => val_main_v33 (F := Ideal) (Rows.a0 m c) (Rows.a1 m c) (Rows.a2 m c) (Rows.a3 m c),
    fun c => val_main_v22 (F := Ideal) (Rows.a0 m c) (Rows.a1 m c) (Rows.a2 m c) (Rows.a3 m c),
    fun c => val_main_v34 (F := Ideal) (Rows.a0 m c) (Rows.a1 m c) (Rows.a2 m c) (Rows.a3 m c) (Rows.a4 m c) (Rows.a5 m c), ?_, ?_⟩
  · refine (θ_run Cert.OutprojIdeal.defs _ _).mono (fun r h c => ?_) (Value.run_blocks m g)
    exact ⟨(h c).1.trans (Rows.r0 m c), (h c).2.1.trans (Rows.r1 m c), (h c).2.2.1.trans (Rows.r2 m c), (h c).2.2.2.1.trans (Rows.r3 m c),
      (h c).2.2.2.2⟩
  · refine (θ_run Cert.OutprojRefIdeal.defs _ _).mono (fun r h c => ?_) (Cert.OutprojRefIdeal.Value.run (F := Ideal) m' g')
    obtain ⟨h0, h1, h2, h3, h4, h5⟩ := hargs c
    refine ⟨(h c).1.trans ?_, (h c).2.1.trans ?_, (h c).2.2.1.trans ?_, (h c).2.2.2.1.trans ?_, (h c).2.2.2.2⟩
    · rw [val_main_v32_eq, h0, h1, h2, h3, h4, h5]
    · rw [val_main_v33_eq, h0, h1, h2, h3]
    · rw [val_main_v22_eq, h0, h1, h2, h3]
    · rw [val_main_v34_eq, h0, h1, h2, h3, h4, h5]

end Cert.OutprojIdeal
-- ==== Proof.Inproj.lean ====
/-
  The two input projections, forward: each block of rows of the two products is the reference's.
-/
module

public import proofs.«01_k».proof.Defs
public import proofs.«01_k».proof.Proof.Fold
public import proofs.«01_k».proof.Proof.Gen.InprojIdeal.Value
public import proofs.«01_k».proof.Proof.Gen.InprojRefIdeal.Read

@[expose] public section

set_option maxRecDepth 16384

noncomputable section

namespace Cert.InprojIdeal.Rows

open Cert.InprojIdeal Cert.InprojIdeal.Gen Cert.InprojIdeal.Value Idealize.ShloMosaic Idealize.ShloMosaic.TcCoe Idealize.SL.Sem
open Cert.InprojRefIdeal.Read

variable (m : (ℓ : Loc nD τ sig) → Buf (Elt Ideal) ℓ) (c : Dev nD)

abbrev a0 := m ((c : Thread nD τ).loc main_arg0)
abbrev a1 := m ((c : Thread nD τ).loc main_arg1)
abbrev a2 := m ((c : Thread nD τ).loc main_arg2)
abbrev a3 := m ((c : Thread nD τ).loc main_arg3)
abbrev a4 := m ((c : Thread nD τ).loc main_arg4)

/-- Where the windows' blocks lie. -/
theorem idx : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0) :=
  (by decide +kernel : ∀ t : Fin grid0.N, _)

theorem hg (t : Fin cfg0.N) (y : S512x2048.Idx) (i : S8192x2048.Idx) (h0 : (i 0).val = t.val * 512 + (y 0).val) (h1 : (i 1).val = (y 1).val) :
    k0_pay2 (F := Ideal) (iblk m c 0 t) (iblk m c 1 t) (iblk m c 3 t) y = val_main_v6 (F := Ideal) (a0 m c) (a1 m c) (a3 m c) i := by
  obtain ⟨⟨e0, k0⟩, ⟨e1, k1⟩, ⟨e2, k2⟩, ⟨e3, k3⟩, ⟨e4, k4⟩, ⟨e5, k5⟩, ⟨e6, k6⟩, ⟨e7, k7⟩⟩ := idx t
  pointwise [k0_pay2, k0_pay1, val_main_v6, val_main_v5, val_main_v4, val_main_v3, val_main_v2, val_main_v1, val_main_v0]
  refine congrArg₂ (· + ·) (Finset.sum_congr rfl fun k _ => ?_) ?_
  · blk_point [iblk, V, idx t]
  · blk_point [iblk, V, idx t]

theorem ml (t : Fin cfg0.N) (y : S512x1664.Idx) (i : S8192x1664.Idx) (h0 : (i 0).val = t.val * 512 + (y 0).val) (h1 : (i 1).val = (y 1).val) :
    k0_pay3 (F := Ideal) (iblk m c 0 t) (iblk m c 2 t) (iblk m c 4 t) y = val_main_v13 (F := Ideal) (a0 m c) (a2 m c) (a4 m c) i := by
  obtain ⟨⟨e0, k0⟩, ⟨e1, k1⟩, ⟨e2, k2⟩, ⟨e3, k3⟩, ⟨e4, k4⟩, ⟨e5, k5⟩, ⟨e6, k6⟩, ⟨e7, k7⟩⟩ := idx t
  pointwise [k0_pay3, k0_pay1, val_main_v13, val_main_v12, val_main_v11, val_main_v10, val_main_v9, val_main_v8, val_main_v7]
  refine congrArg₂ (· + ·) (Finset.sum_congr rfl fun k _ => ?_) ?_
  · blk_point [iblk, V, idx t]
  · blk_point [iblk, V, idx t]

theorem low (t : Fin cfg0.N) (y : S512x1024.Idx) (i : S8192x1024.Idx) (h0 : (i 0).val = t.val * 512 + (y 0).val) (h1 : (i 1).val = (y 1).val) :
    k0_pay1 (F := Ideal) (iblk m c 0 t) y = val_main_v14 (F := Ideal) (a0 m c) i := by
  obtain ⟨⟨e0, k0⟩, ⟨e1, k1⟩, ⟨e2, k2⟩, ⟨e3, k3⟩, ⟨e4, k4⟩, ⟨e5, k5⟩, ⟨e6, k6⟩, ⟨e7, k7⟩⟩ := idx t
  pointwise [k0_pay1, val_main_v14]
  blk_point [iblk, V, idx t]

theorem r0 : (dats m 0 c).arrAt 5 cfg0.N = val_main_v6 (F := Ideal) (a0 m c) (a1 m c) (a3 m c) := by
  refine (dats m 0 c).arrAt_eq_of_covers 5 _ (by decide +kernel) fun t hf y => ?_
  obtain ⟨⟨e0, k0⟩, ⟨e1, k1⟩, ⟨e2, k2⟩, ⟨e3, k3⟩, ⟨e4, k4⟩, ⟨e5, k5⟩, ⟨e6, k6⟩, ⟨e7, k7⟩⟩ := idx t
  blk_simp
  rw [after0_5]
  frame_out
  exact hg m c t y _ (by blk_simp [e5]) (by blk_simp [k5])

theorem r1 : (dats m 0 c).arrAt 6 cfg0.N = val_main_v13 (F := Ideal) (a0 m c) (a2 m c) (a4 m c) := by
  refine (dats m 0 c).arrAt_eq_of_covers 6 _ (by decide +kernel) fun t hf y => ?_
  obtain ⟨⟨e0, k0⟩, ⟨e1, k1⟩, ⟨e2, k2⟩, ⟨e3, k3⟩, ⟨e4, k4⟩, ⟨e5, k5⟩, ⟨e6, k6⟩, ⟨e7, k7⟩⟩ := idx t
  blk_simp
  rw [after0_6]
  frame_out
  exact ml m c t y _ (by blk_simp [e6]) (by blk_simp [k6])

theorem r2 : (dats m 0 c).arrAt 7 cfg0.N = val_main_v14 (F := Ideal) (a0 m c) := by
  refine (dats m 0 c).arrAt_eq_of_covers 7 _ (by decide +kernel) fun t hf y => ?_
  obtain ⟨⟨e0, k0⟩, ⟨e1, k1⟩, ⟨e2, k2⟩, ⟨e3, k3⟩, ⟨e4, k4⟩, ⟨e5, k5⟩, ⟨e6, k6⟩, ⟨e7, k7⟩⟩ := idx t
  blk_simp
  rw [after0_7]
  frame_out
  exact low m c t y _ (by blk_simp [e7]) (by blk_simp [k7])

end Cert.InprojIdeal.Rows

namespace Cert.InprojIdeal

open Idealize.ShloMosaic Idealize.ShloMosaic.TcCoe Idealize.SL.Sem
open Cert.InprojRefIdeal.Read

theorem agrees : Cert.algebraic_InprojIdeal_InprojRefIdeal := by
  intro m g m' g' _ hargs
  refine ⟨fun c => val_main_v6 (F := Ideal) (Rows.a0 m c) (Rows.a1 m c) (Rows.a3 m c),
    fun c => val_main_v13 (F := Ideal) (Rows.a0 m c) (Rows.a2 m c) (Rows.a4 m c),
    fun c => val_main_v14 (F := Ideal) (Rows.a0 m c), ?_, ?_⟩
  · refine (θ_run Cert.InprojIdeal.defs _ _).mono (fun r h c => ?_) (Value.run_blocks m g)
    exact ⟨(h c).1.trans (Rows.r0 m c), (h c).2.1.trans (Rows.r1 m c), (h c).2.2.1.trans (Rows.r2 m c), (h c).2.2.2⟩
  · refine (θ_run Cert.InprojRefIdeal.defs _ _).mono (fun r h c => ?_) (Cert.InprojRefIdeal.Value.run (F := Ideal) m' g')
    obtain ⟨h0, h1, h2, h3, h4⟩ := hargs c
    refine ⟨(h c).1.trans ?_, (h c).2.1.trans ?_, (h c).2.2.1.trans ?_, (h c).2.2.2⟩
    · rw [val_main_v6_eq, h0, h1, h3]
    · rw [val_main_v13_eq, h0, h2, h4]
    · rw [val_main_v14_eq, h0]

end Cert.InprojIdeal
-- ==== Proof.InprojBwd.lean ====
/-
  The gradient of the two input projections by what they multiply: each block of rows is the reference's.
-/
module

public import proofs.«01_k».proof.Defs
public import proofs.«01_k».proof.Proof.Fold
public import proofs.«01_k».proof.Proof.Gen.InprojBwdIdeal.Value
public import proofs.«01_k».proof.Proof.Gen.InprojBwdRefIdeal.Read

@[expose] public section

set_option maxRecDepth 16384

noncomputable section

namespace Cert.InprojBwdIdeal.Rows

open Cert.InprojBwdIdeal Cert.InprojBwdIdeal.Gen Cert.InprojBwdIdeal.Value Idealize.ShloMosaic Idealize.ShloMosaic.TcCoe Idealize.SL.Sem
open Cert.InprojBwdRefIdeal.Read

variable (m : (ℓ : Loc nD τ sig) → Buf (Elt Ideal) ℓ) (c : Dev nD)

abbrev a0 := m ((c : Thread nD τ).loc main_arg0)
abbrev a1 := m ((c : Thread nD τ).loc main_arg1)
abbrev a2 := m ((c : Thread nD τ).loc main_arg2)
abbrev a3 := m ((c : Thread nD τ).loc main_arg3)
abbrev a4 := m ((c : Thread nD τ).loc main_arg4)
abbrev a5 := m ((c : Thread nD τ).loc main_arg5)
abbrev a6 := m ((c : Thread nD τ).loc main_arg6)
abbrev a7 := m ((c : Thread nD τ).loc main_arg7)

/-- Where the windows' blocks lie. -/
theorem idx : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0) :=
  (by decide +kernel : ∀ t : Fin grid0.N, _)

theorem cat (t : Fin cfg0.N) (y : S512x1664.Idx) (i : S8192x1664.Idx) (h0 : (i 0).val = t.val * 512 + (y 0).val) (h1 : (i 1).val = (y 1).val) :
    k0_pay1 (F := Ideal) (iblk m c 2 t) (iblk m c 3 t) (iblk m c 4 t) (iblk m c 5 t) y = val_main_v18 (F := Ideal) (a2 m c) (a3 m c) (a4 m c) (a5 m c) i := by
  obtain ⟨⟨e0, k0⟩, ⟨e1, k1⟩, ⟨e2, k2⟩, ⟨e3, k3⟩, ⟨e4, k4⟩, ⟨e5, k5⟩, ⟨e6, k6⟩, ⟨e7, k7⟩, ⟨e8, k8⟩, ⟨e9, k9⟩⟩ := idx t
  pointwise [k0_pay1, val_main_v18, val_main_v1, val_main_v0]
  have h2 : (i 1).val - 512 = (y 1).val - 512 := congrArg (· - 512) h1
  have h3 : (i 1).val - 512 - 512 = (y 1).val - 512 - 512 := congrArg (· - 512) h2
  by_cases b1 : (y 1).val < 512
  · rw [dif_pos b1, dif_pos (lt_of_eq_of_lt h1 b1)]
    blk_point [iblk, V, idx t]
  rw [dif_neg b1, dif_neg (fun h => b1 (lt_of_eq_of_lt h1.symm h))]
  by_cases b2 : (y 1).val - 512 < 512
  · rw [dif_pos b2, dif_pos (lt_of_eq_of_lt h2 b2)]
    blk_point [iblk, V, idx t]
  rw [dif_neg b2, dif_neg (fun h => b2 (lt_of_eq_of_lt h2.symm h))]
  by_cases b3 : (y 1).val - 512 - 512 < 512
  · rw [dif_pos b3, dif_pos (lt_of_eq_of_lt h3 b3)]
    blk_point [iblk, V, idx t]
  rw [dif_neg b3, dif_neg (fun h => b3 (lt_of_eq_of_lt h3.symm h))]
  blk_point [iblk, V, idx t]

theorem dx (t : Fin cfg0.N) (y : S512x1024.Idx) (i : S8192x1024.Idx) (h0 : (i 0).val = t.val * 512 + (y 0).val) (h1 : (i 1).val = (y 1).val) :
    k0_pay2 (F := Ideal) (iblk m c 2 t) (iblk m c 3 t) (iblk m c 4 t) (iblk m c 5 t) (iblk m c 0 t) (iblk m c 1 t) (iblk m c 6 t) (iblk m c 7 t) y = val_main_v17 (F := Ideal) (a0 m c) (a1 m c) (a2 m c) (a3 m c) (a4 m c) (a5 m c) (a6 m c) (a7 m c) i := by
  obtain ⟨⟨e0, k0⟩, ⟨e1, k1⟩, ⟨e2, k2⟩, ⟨e3, k3⟩, ⟨e4, k4⟩, ⟨e5, k5⟩, ⟨e6, k6⟩, ⟨e7, k7⟩, ⟨e8, k8⟩, ⟨e9, k9⟩⟩ := idx t
  pointwise [k0_pay2, val_main_v17, val_main_v16, val_main_v15, val_main_cst_1, val_main_v14, val_main_v13, val_main_v12, val_main_v11, val_main_v9, val_main_v8, val_main_v6, val_main_v5]
  have sw : ∀ p q r : EReal, p + q + r = r + q + p := fun p q r => by rw [add_comm, add_comm p, ← add_assoc]
  refine Eq.trans ?_ (sw _ _ _)
  refine congrArg₂ (· + ·) (congrArg₂ (· + ·) (congrArg₂ (· * ·) rfl ?_) (Finset.sum_congr rfl fun k _ => ?_)) (Finset.sum_congr rfl fun k _ => ?_)
  · blk_point [iblk, V, idx t]
  · blk_point [iblk, V, idx t]
  · refine congrArg₂ (· * ·) (cat m c t (ix2 (y 0) k) (ix2 (i 0) k) h0 rfl) ?_
    blk_point [iblk, V, idx t]

theorem r0 : (dats m 0 c).arrAt 8 cfg0.N = val_main_v17 (F := Ideal) (a0 m c) (a1 m c) (a2 m c) (a3 m c) (a4 m c) (a5 m c) (a6 m c) (a7 m c) := by
  refine (dats m 0 c).arrAt_eq_of_covers 8 _ (by decide +kernel) fun t hf y => ?_
  obtain ⟨⟨e0, k0⟩, ⟨e1, k1⟩, ⟨e2, k2⟩, ⟨e3, k3⟩, ⟨e4, k4⟩, ⟨e5, k5⟩, ⟨e6, k6⟩, ⟨e7, k7⟩, ⟨e8, k8⟩, ⟨e9, k9⟩⟩ := idx t
  blk_simp
  rw [after0_8]
  frame_out
  exact dx m c t y _ (by blk_simp [e8]) (by blk_simp [k8])

theorem r1 : (dats m 0 c).arrAt 9 cfg0.N = val_main_v18 (F := Ideal) (a2 m c) (a3 m c) (a4 m c) (a5 m c) := by
  refine (dats m 0 c).arrAt_eq_of_covers 9 _ (by decide +kernel) fun t hf y => ?_
  obtain ⟨⟨e0, k0⟩, ⟨e1, k1⟩, ⟨e2, k2⟩, ⟨e3, k3⟩, ⟨e4, k4⟩, ⟨e5, k5⟩, ⟨e6, k6⟩, ⟨e7, k7⟩, ⟨e8, k8⟩, ⟨e9, k9⟩⟩ := idx t
  blk_simp
  rw [after0_9]
  frame_out
  exact cat m c t y _ (by blk_simp [e9]) (by blk_simp [k9])

end Cert.InprojBwdIdeal.Rows

namespace Cert.InprojBwdIdeal

open Idealize.ShloMosaic Idealize.ShloMosaic.TcCoe Idealize.SL.Sem
open Cert.InprojBwdRefIdeal.Read

theorem agrees : Cert.algebraic_InprojBwdIdeal_InprojBwdRefIdeal := by
  intro m g m' g' _ hargs
  refine ⟨fun c => val_main_v17 (F := Ideal) (Rows.a0 m c) (Rows.a1 m c) (Rows.a2 m c) (Rows.a3 m c) (Rows.a4 m c) (Rows.a5 m c) (Rows.a6 m c) (Rows.a7 m c),
    fun c => val_main_v18 (F := Ideal) (Rows.a2 m c) (Rows.a3 m c) (Rows.a4 m c) (Rows.a5 m c), ?_, ?_⟩
  · refine (θ_run Cert.InprojBwdIdeal.defs _ _).mono (fun r h c => ?_) (Value.run_blocks m g)
    exact ⟨(h c).1.trans (Rows.r0 m c), (h c).2.1.trans (Rows.r1 m c), (h c).2.2⟩
  · refine (θ_run Cert.InprojBwdRefIdeal.defs _ _).mono (fun r h c => ?_) (Cert.InprojBwdRefIdeal.Value.run (F := Ideal) m' g')
    obtain ⟨h0, h1, h2, h3, h4, h5, h6, h7⟩ := hargs c
    refine ⟨(h c).1.trans ?_, (h c).2.1.trans ?_, (h c).2.2⟩
    · rw [val_main_v17_eq, h0, h1, h2, h3, h4, h5, h6, h7]
    · rw [val_main_v18_eq, h2, h3, h4, h5]

end Cert.InprojBwdIdeal
-- ==== Proof.Real.lean ====
/-
  Extended reals that are numbers: the operations of the programs keep them numbers, and a few printed constants.
-/
module

public import Idealize.ShloMosaic.Lib.IdealHost
public import Idealize.ShloMosaic.Lib.StableHlo
public import Idealize.ShloMosaic.PureOps

@[expose] public section

open Idealize.ShloMosaic

namespace Num

/-- An extended real that is a number. -/
def IsR (z : EReal) : Prop := ∃ x : ℝ, z = (x : EReal)

theorem IsR.coe (x : ℝ) : IsR (x : EReal) := ⟨x, rfl⟩
theorem IsR.add {a b : EReal} : IsR a → IsR b → IsR (a + b) := by
  rintro ⟨x, rfl⟩ ⟨y, rfl⟩; exact ⟨x + y, (EReal.coe_add x y).symm⟩
theorem IsR.sub {a b : EReal} : IsR a → IsR b → IsR (a - b) := by
  rintro ⟨x, rfl⟩ ⟨y, rfl⟩; exact ⟨x - y, (EReal.coe_sub x y).symm⟩
theorem IsR.mul {a b : EReal} : IsR a → IsR b → IsR (a * b) := by
  rintro ⟨x, rfl⟩ ⟨y, rfl⟩; exact ⟨x * y, (EReal.coe_mul x y).symm⟩
theorem IsR.neg {a : EReal} : IsR a → IsR (-a) := by
  rintro ⟨x, rfl⟩; exact ⟨-x, (EReal.coe_neg x).symm⟩
theorem IsR.zero : IsR 0 := ⟨0, rfl⟩
theorem IsR.one : IsR 1 := ⟨1, rfl⟩

/-- A sum of numbers, as the number that it is. -/
theorem coe_sum {ι : Type} (s : Finset ι) (f : ι → ℝ) : ∑ k ∈ s, (f k : EReal) = ((∑ k ∈ s, f k : ℝ) : EReal) := by
  classical
  induction s using Finset.induction_on with
  | empty => rfl
  | insert a s ha ih => rw [Finset.sum_insert ha, Finset.sum_insert ha, ih, EReal.coe_add]

theorem IsR.sum {ι : Type} (s : Finset ι) {f : ι → EReal} (h : ∀ k ∈ s, IsR (f k)) : IsR (∑ k ∈ s, f k) := by
  classical
  induction s using Finset.induction_on with
  | empty => exact IsR.zero
  | insert a s ha ih =>
    rw [Finset.sum_insert ha]
    exact (h a (Finset.mem_insert_self a s)).add (ih fun k hk => h k (Finset.mem_insert_of_mem hk))

/-- Division by a number that is not zero. -/
theorem div_coe {y : ℝ} (h : y ≠ 0) (x : ℝ) : Ideal.div (x : EReal) (y : EReal) = ((x / y : ℝ) : EReal) := by
  rw [Ideal.div_coe h, ← EReal.coe_mul, mul_one_div]

theorem rsqrt_coe {y : ℝ} (h : 0 < y) : Ideal.rsqrt (y : EReal) = (((Real.sqrt y)⁻¹ : ℝ) : EReal) := by
  rw [Ideal.rsqrt_coe, if_neg (not_lt.2 h.le), if_neg h.ne']

theorem word_1024 : Ideal.ofBits .f32 0x44800000#32 = ((1024 : ℝ) : EReal) := by
  simp [Ideal.ofBits, Ideal.ieee, -EReal.coe_mul]; norm_num
theorem word_two : Ideal.ofBits .f32 0x40000000#32 = ((2 : ℝ) : EReal) := by
  simp [Ideal.ofBits, Ideal.ieee, -EReal.coe_mul]; norm_num
theorem word_neg_half : Ideal.ofBits .f32 0xBF000000#32 = ((-(1 / 2) : ℝ) : EReal) := by
  simp [Ideal.ofBits, Ideal.ieee, -EReal.coe_mul, -EReal.coe_neg]; norm_num
/-- The normalisation's small constant is a positive number. -/
theorem word_eps : ∃ e : ℝ, 0 < e ∧ Ideal.ofBits .f32 0x3727C5AC#32 = (e : EReal) := by
  refine ⟨_, ?_, by simp [Ideal.ofBits, Ideal.ieee, -EReal.coe_mul]; rfl⟩
  positivity
/-- The residual's factor is a number. -/
theorem word_alpha : IsR (Ideal.ofBits .f32 0x3F9837F0#32) :=
  ⟨_, by simp [Ideal.ofBits, Ideal.ieee, -EReal.coe_mul]; rfl⟩

/-- The logistic function of a number, as the programs write it. -/
theorem sigma {h : EReal} (hr : IsR h) : IsR (Ideal.div 1 (1 + Ideal.exp (-h))) := by
  obtain ⟨x, rfl⟩ := hr
  have : (1 : EReal) = ((1 : ℝ) : EReal) := rfl
  rw [← EReal.coe_neg, Ideal.exp_coe, this, ← EReal.coe_add, div_coe (by positivity)]
  exact ⟨_, rfl⟩

/-- What a bound below infinity says of a value. -/
theorem of_finite (x : Ideal .f32)
    (h : FloatOps.cmpf .olt (FloatOps.hostAbsf x) (FloatOps.ofBits (F := Ideal) .f32 0x7F800000#32) = 1#1) : IsR x := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  induction x using EReal.rec with
  | bot => simp [Ideal.cmp] at h
  | top => simp [Ideal.cmp] at h
  | coe r => exact ⟨r, rfl⟩

end Num
-- ==== Proof.FfnRef.lean ====
/-
  The gradient of a row's normalisation, and of the channel mixer behind it, at arguments that are numbers: every value of
  the reference is a number, and the two ways of writing the normalisation's gradient agree.
-/
module

public import proofs.«01_k».proof.Proof.Fold
public import proofs.«01_k».proof.Proof.Real
public import proofs.«01_k».proof.Proof.Gen.FfnBwdRefIdeal.Read

@[expose] public section

set_option maxRecDepth 16384

noncomputable section

namespace Norm

open Idealize.ShloMosaic Num

/-- The normalisation's gradient over the reals: the reference's sum of the paths through the value, the variance and the
    mean is the value less its mean less its component along the normalised row. -/
theorem row_real (x d : Fin 1024 → ℝ) (v : ℝ) (hv : 0 < v) (j : Fin 1024) (xc : Fin 1024 → ℝ)
    (hc : ∀ k, xc k = x k - (∑ k, x k) / 1024) (r B : ℝ) (hr : r = (Real.sqrt v)⁻¹)
    (hB : B = (∑ k, xc k * d k) * (-(1 / 2) * (r / v)) / 1024) :
    r * ((d j - (∑ k, d k) / 1024) - xc j * r * ((∑ k, d k * (xc k * r)) / 1024))
      = d j * r + B * (2 * xc j) + (∑ k, -(d k * r) + ∑ k, -(B * (2 * xc k))) / 1024 := by
  have hz : ∑ k, xc k = 0 := by
    simp only [hc, Finset.sum_sub_distrib, Finset.sum_const, Finset.card_univ, Fintype.card_fin, nsmul_eq_mul]
    push_cast; ring
  have e1 : ∑ k, -(B * (2 * xc k)) = 0 := by
    rw [Finset.sum_congr rfl fun k _ => show -(B * (2 * xc k)) = (-2 * B) * xc k by ring, ← Finset.mul_sum, hz, mul_zero]
  have e2 : ∑ k, -(d k * r) = -r * ∑ k, d k := by
    rw [Finset.mul_sum]; exact Finset.sum_congr rfl fun k _ => by ring
  have e3 : ∑ k, d k * (xc k * r) = r * ∑ k, xc k * d k := by
    rw [Finset.mul_sum]; exact Finset.sum_congr rfl fun k _ => by ring
  have e4 : r / v = r * r * r := by
    have : v = Real.sqrt v * Real.sqrt v := (Real.mul_self_sqrt hv.le).symm
    have hs : Real.sqrt v ≠ 0 := (Real.sqrt_pos.2 hv).ne'
    rw [hr]; nth_rw 2 [this]; field_simp
  rw [e1, e2, e3, hB, e4]; ring

/-- The same with the programs' operations, at values that are numbers. -/
theorem row {x d xc : Fin 1024 → EReal} {v : EReal} (hx : ∀ k, IsR (x k)) (hd : ∀ k, IsR (d k))
    (hv : ∃ w : ℝ, 0 < w ∧ v = (w : EReal))
    (hc : ∀ k, xc k = x k - Ideal.div (∑ k, x k) (Ideal.ofBits FTy.f32 1149239296#32)) (j : Fin 1024) :
    Ideal.rsqrt v * ((d j - Ideal.div (∑ k, d k) (Ideal.ofBits FTy.f32 1149239296#32))
        - xc j * Ideal.rsqrt v * Ideal.div (∑ k, d k * (xc k * Ideal.rsqrt v)) (Ideal.ofBits FTy.f32 1149239296#32))
      = d j * Ideal.rsqrt v
        + Ideal.div ((∑ k, xc k * d k) * (Ideal.ofBits FTy.f32 3204448256#32 * Ideal.div (Ideal.rsqrt v) v))
            (Ideal.ofBits FTy.f32 1149239296#32) * (Ideal.ofBits FTy.f32 1073741824#32 * xc j)
        + Ideal.div (∑ k, -(d k * Ideal.rsqrt v)
            + ∑ k, -(Ideal.div ((∑ k, xc k * d k) * (Ideal.ofBits FTy.f32 3204448256#32 * Ideal.div (Ideal.rsqrt v) v))
                (Ideal.ofBits FTy.f32 1149239296#32) * (Ideal.ofBits FTy.f32 1073741824#32 * xc k)))
            (Ideal.ofBits FTy.f32 1149239296#32) := by
  obtain ⟨w, hw, rfl⟩ := hv
  choose X hX using hx
  choose D hD using hd
  have n : (1024 : ℝ) ≠ 0 := by norm_num
  have eC : ∀ k, xc k = ((X k - (∑ k, X k) / 1024 : ℝ) : EReal) := fun k => by
    rw [hc, word_1024, Finset.sum_congr rfl fun k _ => hX k, coe_sum, div_coe n, hX, EReal.coe_sub]
  rw [word_1024, word_two, word_neg_half, rsqrt_coe hw, div_coe hw.ne']
  simp only [hD, eC, ← EReal.coe_mul, coe_sum, div_coe n, ← EReal.coe_sub, ← EReal.coe_add, ← EReal.coe_neg]
  exact congrArg _ (row_real X D w hw j _ (fun k => rfl) _ _ rfl rfl)

end Norm

namespace Cert.FfnBwdRefIdeal.Math

open Cert.FfnBwdRefIdeal Cert.FfnBwdRefIdeal.Read Idealize.ShloMosaic Num

variable {x0 x1 : (⟨S8192x1024, .f32⟩ : BufTy).Contents (Elt Ideal)} {x2 x3 : (⟨S1x1024, .f32⟩ : BufTy).Contents (Elt Ideal)}
  {x4 x5 x6 : (⟨S2816x1024, .bf16⟩ : BufTy).Contents (Elt Ideal)}
  (h0 : ∀ i, IsR (x0 i)) (h1 : ∀ i, IsR (x1 i)) (h2 : ∀ i, IsR (x2 i)) (h3 : ∀ i, IsR (x3 i))
  (h4 : ∀ i, IsR (x4 i)) (h5 : ∀ i, IsR (x5 i)) (h6 : ∀ i, IsR (x6 i))

theorem cen_at (x1 : (⟨S8192x1024, .f32⟩ : BufTy).Contents (Elt Ideal)) (i : S8192x1024.Idx) : val_main_v26 (F := Ideal) x1 i
    = x1 i - Ideal.div (∑ k, x1 (ix2 (i 0) k)) (Ideal.ofBits FTy.f32 1149239296#32) := by
  pointwise [val_main_v26, val_main_v25, val_main_v9, val_main_v8, val_main_cst_1, val_main_v7, val_main_v6, val_main_cst_0]

theorem cen_at' (x1 : (⟨S8192x1024, .f32⟩ : BufTy).Contents (Elt Ideal)) (i : S8192x1024.Idx) :
    val_main_v11 (F := Ideal) x1 i = val_main_v26 (F := Ideal) x1 i := by
  rw [cen_at]
  pointwise [val_main_v11, val_main_v10, val_main_v9, val_main_v8, val_main_cst_1, val_main_v7, val_main_v6, val_main_cst_0]

include h1 in
theorem cen (i : S8192x1024.Idx) : IsR (val_main_v26 (F := Ideal) x1 i) := by
  rw [cen_at, word_1024]
  obtain ⟨s, hs⟩ := IsR.sum Finset.univ fun (k : Fin 1024) _ => h1 (ix2 (i 0) k)
  rw [hs, div_coe (by norm_num)]
  exact (h1 i).sub (IsR.coe _)

include h1 in
/-- The variance and its small constant: a positive number. -/
theorem var (i : S8192x1.Idx) : ∃ w : ℝ, 0 < w ∧ val_main_v20 (F := Ideal) x1 i = (w : EReal) := by
  choose X hX using fun k => cen h1 (ix2 (i 0) k)
  obtain ⟨e, he, hw⟩ := word_eps
  refine ⟨(∑ k, X k * X k) / 1024 + e, by have := Finset.sum_nonneg fun k (_ : k ∈ Finset.univ) => mul_self_nonneg (X k); positivity, ?_⟩
  pointwise [val_main_v20, val_main_v19, val_main_cst_5, val_main_v18, val_main_v17, val_main_cst_4, val_main_v16, val_main_v15, val_main_cst_3, val_main_v12]
  rw [word_1024]
  simp only [cen_at', hX, ← EReal.coe_mul, coe_sum]
  rw [div_coe (by norm_num), EReal.coe_add, ← hw]

theorem rs_at (i : S8192x1.Idx) : val_main_v21 (F := Ideal) x1 i = Ideal.rsqrt (val_main_v20 (F := Ideal) x1 i) := by
  pointwise [val_main_v21]

include h1 in
theorem rs (i : S8192x1.Idx) : IsR (val_main_v21 (F := Ideal) x1 i) := by
  obtain ⟨w, hw, e⟩ := var h1 i
  rw [rs_at, e, rsqrt_coe hw]; exact IsR.coe _

theorem xh_at (i : S8192x1024.Idx) : val_main_v28 (F := Ideal) x1 i = val_main_v26 (F := Ideal) x1 i * val_main_v21 (F := Ideal) x1 (ix2 (i 0) 0) := by
  pointwise [val_main_v28, val_main_v27]

include h1 h2 h3 in
theorem x1_num (i : S8192x1024.Idx) : IsR (val_main_v34 (F := Ideal) x1 x2 x3 i) := by
  pointwise [val_main_v34, val_main_v33, val_main_v32, val_main_v31, val_main_v30, val_main_v29, val_main_v4, val_main_v5, val_main_v28, val_main_v27]
  exact (((cen h1 _).mul (rs h1 _)).mul (h2 _)).add (h3 _)

include h1 h2 h3 h4 in
theorem h_num (i : S8192x2816.Idx) : IsR (val_main_v37 (F := Ideal) x1 x2 x3 x4 i) := by
  pointwise [val_main_v37, val_main_v36, val_main_v35, val_main_v3, val_main_cst, val_main_v0]
  exact IsR.sum _ fun k _ => (x1_num h1 h2 h3 _).mul (h4 _)

include h1 h2 h3 h5 in
theorem up_num (i : S8192x2816.Idx) : IsR (val_main_v40 (F := Ideal) x1 x2 x3 x5 i) := by
  pointwise [val_main_v40, val_main_v39, val_main_v38, val_main_v3, val_main_cst, val_main_v1]
  exact IsR.sum _ fun k _ => (x1_num h1 h2 h3 _).mul (h5 _)

theorem sg_at (i : S8192x2816.Idx) : val_main_v43_2 (F := Ideal) x1 x2 x3 x4 i = Ideal.div 1 (1 + Ideal.exp (-val_main_v37 (F := Ideal) x1 x2 x3 x4 i)) := by
  pointwise [val_main_v43_2, val_main_call0_v4, val_main_call0_cst_0, val_main_call0_v3, val_main_call0_v2, val_main_call0_cst, val_main_call0_v1, val_main_call0_v0]

include h1 h2 h3 h4 in
theorem sg_num (i : S8192x2816.Idx) : IsR (val_main_v43_2 (F := Ideal) x1 x2 x3 x4 i) := by
  rw [sg_at]; exact sigma (h_num h1 h2 h3 h4 i)

include h0 h6 in
theorem dm_num (i : S8192x2816.Idx) : IsR (val_main_v49 (F := Ideal) x0 x6 i) := by
  pointwise [val_main_v49, val_main_v48, val_main_v2]
  exact IsR.sum _ fun k _ => (h0 _).mul (h6 _)

theorem dh_at (i : S8192x2816.Idx) : val_main_v52 (F := Ideal) x0 x1 x2 x3 x4 x5 x6 i
    = val_main_v49 (F := Ideal) x0 x6 i * val_main_v40 (F := Ideal) x1 x2 x3 x5 i * val_main_v43_2 (F := Ideal) x1 x2 x3 x4 i +
      val_main_v37 (F := Ideal) x1 x2 x3 x4 i * (val_main_v49 (F := Ideal) x0 x6 i * val_main_v40 (F := Ideal) x1 x2 x3 x5 i) *
        (val_main_v43_2 (F := Ideal) x1 x2 x3 x4 i * (1 - val_main_v43_2 (F := Ideal) x1 x2 x3 x4 i)) := by
  pointwise [val_main_v52, val_main_call1_v2, val_main_call1_v1, val_main_call1_v0, val_main_v51, val_main_v43_1, val_main_call0_v7, val_main_call0_v6, val_main_call0_cst_1]

include h0 h1 h2 h3 h4 h5 h6 in
theorem dh_num (i : S8192x2816.Idx) : IsR (val_main_v52 (F := Ideal) x0 x1 x2 x3 x4 x5 x6 i) := by
  rw [dh_at]
  have a := (dm_num h0 h6 i).mul (up_num h1 h2 h3 h5 i)
  have s := sg_num h1 h2 h3 h4 i
  exact (a.mul s).add (((h_num h1 h2 h3 h4 i).mul a).mul (s.mul (IsR.one.sub s)))

include h0 h1 h2 h3 h4 h5 h6 in
/-- The kernel's way of writing the activation's gradient. -/
theorem dh_eq (i : S8192x2816.Idx) : val_main_v52 (F := Ideal) x0 x1 x2 x3 x4 x5 x6 i
    = val_main_v49 (F := Ideal) x0 x6 i * val_main_v40 (F := Ideal) x1 x2 x3 x5 i * (val_main_v43_2 (F := Ideal) x1 x2 x3 x4 i *
        (1 + val_main_v37 (F := Ideal) x1 x2 x3 x4 i * (1 - val_main_v43_2 (F := Ideal) x1 x2 x3 x4 i))) := by
  rw [dh_at]
  obtain ⟨a, ha⟩ := (dm_num h0 h6 i).mul (up_num h1 h2 h3 h5 i)
  obtain ⟨s, hs⟩ := sg_num h1 h2 h3 h4 i
  obtain ⟨h, hh⟩ := h_num h1 h2 h3 h4 i
  have e1 : (1 : EReal) = ((1 : ℝ) : EReal) := rfl
  rw [ha, hs, hh, e1]
  simp only [← EReal.coe_mul, ← EReal.coe_sub, ← EReal.coe_add]
  exact congrArg _ (by ring)

include h0 h1 h2 h3 h4 h6 in
theorem du_num (i : S8192x2816.Idx) : IsR (val_main_v50 (F := Ideal) x0 x1 x2 x3 x4 x6 i) := by
  pointwise [val_main_v50, val_main_v43_0]
  exact ((h_num h1 h2 h3 h4 i).mul (sg_num h1 h2 h3 h4 i)).mul (dm_num h0 h6 i)

theorem dx_at (i : S8192x1024.Idx) : val_main_v58 (F := Ideal) x0 x1 x2 x3 x4 x5 x6 i
    = Ideal.ofBits FTy.f32 1066940400#32 * x0 i + ∑ k : Fin 2816, val_main_v50 (F := Ideal) x0 x1 x2 x3 x4 x6 (ix2 (i 0) k) * x5 (ix2 k (i 1))
      + ∑ k : Fin 2816, val_main_v52 (F := Ideal) x0 x1 x2 x3 x4 x5 x6 (ix2 (i 0) k) * x4 (ix2 k (i 1)) := by
  pointwise [val_main_v58, val_main_v57, val_main_v56, val_main_v55, val_main_v54, val_main_v53, val_main_cst_8, val_main_v47, val_main_v38, val_main_v35, val_main_v1, val_main_v0]

include h0 h1 h2 h3 h4 h5 h6 in
theorem dxh_num (i : S8192x1024.Idx) : IsR (val_main_v66 (F := Ideal) x0 x1 x2 x3 x4 x5 x6 i) := by
  pointwise [val_main_v66, val_main_v65, val_main_v29, val_main_v4]
  rw [dx_at]
  exact (((word_alpha.mul (h0 _)).add (IsR.sum _ fun k _ => (du_num h0 h1 h2 h3 h4 h6 _).mul (h5 _))).add
    (IsR.sum _ fun k _ => (dh_num h0 h1 h2 h3 h4 h5 h6 _).mul (h4 _))).mul (h2 _)

include h0 h1 h2 h3 h4 h5 h6 in
/-- The kernel's way of writing the normalisation's gradient. -/
theorem dr_eq (i : S8192x1024.Idx) : val_main_v91 (F := Ideal) x0 x1 x2 x3 x4 x5 x6 i
    = val_main_v21 (F := Ideal) x1 (ix2 (i 0) 0) * ((val_main_v66 (F := Ideal) x0 x1 x2 x3 x4 x5 x6 i
        - Ideal.div (∑ k, val_main_v66 (F := Ideal) x0 x1 x2 x3 x4 x5 x6 (ix2 (i 0) k)) (Ideal.ofBits FTy.f32 1149239296#32))
        - val_main_v28 (F := Ideal) x1 i * Ideal.div (∑ k, val_main_v66 (F := Ideal) x0 x1 x2 x3 x4 x5 x6 (ix2 (i 0) k) * val_main_v28 (F := Ideal) x1 (ix2 (i 0) k))
            (Ideal.ofBits FTy.f32 1149239296#32)) := by
  have key := Norm.row (fun k => h1 (ix2 (i 0) k)) (fun k => dxh_num h0 h1 h2 h3 h4 h5 h6 (ix2 (i 0) k)) (var h1 (ix2 (i 0) 0))
    (fun k => cen_at x1 (ix2 (i 0) k)) (i 1)
  obtain ⟨p, q, rfl⟩ : ∃ p q, i = ix2 p q := ⟨i 0, i 1, by funext d; fin_cases d <;> rfl⟩
  pointwise [val_main_v91, val_main_v90, val_main_v89, val_main_cst_19, val_main_v88, val_main_v87, val_main_cst_18, val_main_v86, val_main_v85, val_main_v84, val_main_v83, val_main_cst_17, val_main_v82, val_main_v81, val_main_v80, val_main_v79, val_main_cst_16, val_main_v78, val_main_v77, val_main_cst_15, val_main_v76, val_main_v75, val_main_v74, val_main_cst_14, val_main_v73, val_main_v72, val_main_v71, val_main_v70, val_main_v69, val_main_cst_13, val_main_v68, val_main_v24, val_main_v23, val_main_cst_6, val_main_v22, val_main_v14, val_main_v13, val_main_cst_2]
  simp only [xh_at, Fin.sum_univ_one, cen_at', rs_at]
  exact key.symm

end Cert.FfnBwdRefIdeal.Math
-- ==== Proof.FfnBwd.lean ====
/-
  The channel mixer's gradient.
-/
module

public import proofs.«01_k».proof.Defs
public import proofs.«01_k».proof.Proof.Fold
public import proofs.«01_k».proof.Proof.Real
public import proofs.«01_k».proof.Proof.FfnRef
public import proofs.«01_k».proof.Pre_numbers
public import proofs.«01_k».proof.Proof.Gen.Pre_numbers
public import proofs.«01_k».proof.Proof.Gen.FfnBwdIdeal.Value
public import proofs.«01_k».proof.Proof.Gen.FfnBwdRefIdeal.Read
public import proofs.«01_k».proof.Proof.Gen.FfnBwdRefIdeal.Run

@[expose] public section

set_option maxRecDepth 16384

noncomputable section

namespace Cert.FfnBwdIdeal.Rows

open Cert.FfnBwdIdeal Cert.FfnBwdIdeal.Gen Cert.FfnBwdIdeal.Value Idealize.ShloMosaic Idealize.ShloMosaic.TcCoe Idealize.SL.Sem
open Cert.FfnBwdRefIdeal.Read

variable (m : (ℓ : Loc nD τ sig) → Buf (Elt Ideal) ℓ) (c : Dev nD)

abbrev a0 := m ((c : Thread nD τ).loc main_arg0)
abbrev a1 := m ((c : Thread nD τ).loc main_arg1)
abbrev a2 := m ((c : Thread nD τ).loc main_arg2)
abbrev a3 := m ((c : Thread nD τ).loc main_arg3)
abbrev a4 := m ((c : Thread nD τ).loc main_arg4)
abbrev a5 := m ((c : Thread nD τ).loc main_arg5)
abbrev a6 := m ((c : Thread nD τ).loc main_arg6)
abbrev a7 := m ((c : Thread nD τ).loc main_arg7)

theorem V_h : V m c main_v32 = val_main_v36 (F := Ideal) (a1 m c) (a2 m c) (a3 m c) (a4 m c) := by
  unfold V
  after_results <;> rfl
theorem V_up : V m c main_v33 = val_main_v39 (F := Ideal) (a1 m c) (a2 m c) (a3 m c) (a5 m c) := by
  unfold V
  after_results <;> rfl
theorem V_xh : V m c main_v34 = val_main_v28 (F := Ideal) (a1 m c) := by
  unfold V
  after_results <;> rfl
theorem V_rs : V m c main_v15 = val_main_v21 (F := Ideal) (a1 m c) := by
  unfold V
  after_results <;> rfl
theorem V_dr : V m c main_arg0 = a0 m c := by
  unfold V
  after_results <;> rfl

theorem idx : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0) :=
  (by decide +kernel : ∀ t : Fin grid0.N, _)

/-- Where the results' blocks lie. -/
theorem idx' : ∀ t : Fin cfg0.N, (win0_10.index t (0 : Fin 2) = t.val ∧ win0_10.index t (1 : Fin 2) = 0)
    ∧ (win0_11.index t (0 : Fin 2) = t.val ∧ win0_11.index t (1 : Fin 2) = 0)
    ∧ (win0_12.index t (0 : Fin 2) = t.val ∧ win0_12.index t (1 : Fin 2) = 0)
    ∧ (win0_15.index t (0 : Fin 2) = t.val ∧ win0_15.index t (1 : Fin 2) = 0)
    ∧ (win0_16.index t (0 : Fin 2) = t.val ∧ win0_16.index t (1 : Fin 2) = 0)
    ∧ (win0_13.index t (0 : Fin 2) = 0 ∧ win0_13.index t (1 : Fin 2) = 0)
    ∧ (win0_14.index t (0 : Fin 2) = 0 ∧ win0_14.index t (1 : Fin 2) = 0) :=
  (by decide +kernel : ∀ t : Fin grid0.N, _)

theorem b_h (t : Fin cfg0.N) (y : S256x2816.Idx) (i : S8192x2816.Idx) (h0 : (i 0).val = t.val * 256 + (y 0).val)
    (h1 : (i 1).val = (y 1).val) : (iblk m c 1 t : Vec Ideal S256x2816 .bf16) y = val_main_v36 (F := Ideal) (a1 m c) (a2 m c) (a3 m c) (a4 m c) i := by
  obtain ⟨-, ⟨e0, e1⟩, -⟩ := idx t
  rw [← V_h]
  blk_point [iblk, idx t]

theorem b_dr (t : Fin cfg0.N) (y : S256x1024.Idx) (i : S8192x1024.Idx) (h0 : (i 0).val = t.val * 256 + (y 0).val)
    (h1 : (i 1).val = (y 1).val) : (iblk m c 0 t : Vec Ideal S256x1024 .f32) y = (a0 m c : Vec Ideal S8192x1024 .f32) i := by
  obtain ⟨⟨e0, e1⟩, -⟩ := idx t
  rw [← V_dr]
  blk_point [iblk, idx t]

theorem b_up (t : Fin cfg0.N) (y : S256x2816.Idx) (i : S8192x2816.Idx) (h0 : (i 0).val = t.val * 256 + (y 0).val)
    (h1 : (i 1).val = (y 1).val) : (iblk m c 2 t : Vec Ideal S256x2816 .bf16) y = val_main_v39 (F := Ideal) (a1 m c) (a2 m c) (a3 m c) (a5 m c) i := by
  obtain ⟨-, -, ⟨e0, e1⟩, -⟩ := idx t
  rw [← V_up]
  blk_point [iblk, idx t]

theorem b_xh (t : Fin cfg0.N) (y : S256x1024.Idx) (i : S8192x1024.Idx) (h0 : (i 0).val = t.val * 256 + (y 0).val)
    (h1 : (i 1).val = (y 1).val) : (iblk m c 3 t : Vec Ideal S256x1024 .bf16) y = val_main_v28 (F := Ideal) (a1 m c) i := by
  obtain ⟨-, -, -, ⟨e0, e1⟩, -⟩ := idx t
  rw [← V_xh]
  blk_point [iblk, idx t]

theorem b_rs (t : Fin cfg0.N) (y : S256x1.Idx) (i : S8192x1.Idx) (h0 : (i 0).val = t.val * 256 + (y 0).val)
    (h1 : (i 1).val = (y 1).val) : (iblk m c 4 t : Vec Ideal S256x1 .f32) y = val_main_v21 (F := Ideal) (a1 m c) i := by
  obtain ⟨-, -, -, -, ⟨e0, e1⟩, -⟩ := idx t
  rw [← V_rs]
  blk_point [iblk, idx t]

theorem b_wd (t : Fin cfg0.N) (y : S2816x1024.Idx) : (iblk m c 5 t : Vec Ideal S2816x1024 .bf16) y = (a6 m c : Vec Ideal S2816x1024 .bf16) y := by
  obtain ⟨-, -, -, -, -, ⟨e0, e1⟩, -⟩ := idx t
  blk_point [iblk, V, idx t]

theorem b_wg (t : Fin cfg0.N) (y : S2816x1024.Idx) : (iblk m c 6 t : Vec Ideal S2816x1024 .bf16) y = (a4 m c : Vec Ideal S2816x1024 .bf16) y := by
  obtain ⟨-, -, -, -, -, -, ⟨e0, e1⟩, -⟩ := idx t
  blk_point [iblk, V, idx t]

theorem b_wu (t : Fin cfg0.N) (y : S2816x1024.Idx) : (iblk m c 7 t : Vec Ideal S2816x1024 .bf16) y = (a5 m c : Vec Ideal S2816x1024 .bf16) y := by
  obtain ⟨-, -, -, -, -, -, -, ⟨e0, e1⟩, -⟩ := idx t
  blk_point [iblk, V, idx t]

theorem b_g (t : Fin cfg0.N) (y : S1x1024.Idx) : (iblk m c 8 t : Vec Ideal S1x1024 .f32) y = (a2 m c : Vec Ideal S1x1024 .f32) y := by
  obtain ⟨-, -, -, -, -, -, -, -, ⟨e0, e1⟩, -⟩ := idx t
  blk_point [iblk, V, idx t]

theorem b_wo (t : Fin cfg0.N) (y : S1024x1024.Idx) : (iblk m c 9 t : Vec Ideal S1024x1024 .bf16) y = (a7 m c : Vec Ideal S1024x1024 .bf16) y := by
  obtain ⟨-, -, -, -, -, -, -, -, -, ⟨e0, e1⟩⟩ := idx t
  blk_point [iblk, V, idx t]

/-- The gradient of the gated product. -/
theorem dm (t : Fin cfg0.N) (y : S256x2816.Idx) (i : S8192x2816.Idx) (h0 : (i 0).val = t.val * 256 + (y 0).val)
    (h1 : (i 1).val = (y 1).val) : k0_pay7 (F := Ideal) (iblk m c 0 t) (iblk m c 5 t) y = val_main_v49 (F := Ideal) (a0 m c) (a6 m c) i := by
  pointwise [k0_pay7, val_main_v49, val_main_v48, val_main_v2]
  refine Finset.sum_congr rfl fun k _ => ?_
  refine congrArg₂ (· * ·) (b_dr m c t _ _ h0 rfl) ((b_wd m c t _).trans ?_)
  exact congrArg _ (funext fun d => by fin_cases d <;> first | exact Fin.ext h1.symm | rfl)

theorem xh (t : Fin cfg0.N) (y : S256x1024.Idx) (i : S8192x1024.Idx) (h0 : (i 0).val = t.val * 256 + (y 0).val)
    (h1 : (i 1).val = (y 1).val) : k0_pay16 (F := Ideal) (iblk m c 3 t) y = val_main_v28 (F := Ideal) (a1 m c) i := by
  pointwise [k0_pay16]
  exact b_xh m c t y i h0 h1

/-- The gate's sigmoid. -/
theorem sg (t : Fin cfg0.N) (y : S256x2816.Idx) (i : S8192x2816.Idx) (h0 : (i 0).val = t.val * 256 + (y 0).val)
    (h1 : (i 1).val = (y 1).val) : k0_pay9 (F := Ideal) (iblk m c 1 t) y = val_main_v43_2 (F := Ideal) (a1 m c) (a2 m c) (a3 m c) (a4 m c) i := by
  rw [Cert.FfnBwdRefIdeal.Math.sg_at]
  pointwise [k0_pay9, k0_pay8, val_main_v37, val_main_v3, val_main_cst]
  rw [b_h m c t y i h0 h1, zero_sub]

theorem hh (t : Fin cfg0.N) (y : S256x2816.Idx) (i : S8192x2816.Idx) (h0 : (i 0).val = t.val * 256 + (y 0).val)
    (h1 : (i 1).val = (y 1).val) : k0_pay8 (F := Ideal) (iblk m c 1 t) y = val_main_v37 (F := Ideal) (a1 m c) (a2 m c) (a3 m c) (a4 m c) i := by
  pointwise [k0_pay8, val_main_v37, val_main_v3, val_main_cst]
  exact b_h m c t y i h0 h1

theorem uu (t : Fin cfg0.N) (y : S256x2816.Idx) (i : S8192x2816.Idx) (h0 : (i 0).val = t.val * 256 + (y 0).val)
    (h1 : (i 1).val = (y 1).val) : (iblk m c 2 t : Vec Ideal S256x2816 .bf16) y = val_main_v40 (F := Ideal) (a1 m c) (a2 m c) (a3 m c) (a5 m c) i := by
  pointwise [val_main_v40, val_main_v3, val_main_cst]
  exact b_up m c t y i h0 h1

theorem du (t : Fin cfg0.N) (y : S256x2816.Idx) (i : S8192x2816.Idx) (h0 : (i 0).val = t.val * 256 + (y 0).val)
    (h1 : (i 1).val = (y 1).val) : k0_pay11 (F := Ideal) (iblk m c 0 t) (iblk m c 5 t) (iblk m c 1 t) y
      = val_main_v50 (F := Ideal) (a0 m c) (a1 m c) (a2 m c) (a3 m c) (a4 m c) (a6 m c) i := by
  pointwise [k0_pay11, val_main_v50, val_main_v43_0]
  rw [dm m c t y i h0 h1, hh m c t y i h0 h1, sg m c t y i h0 h1, mul_comm]

/-- The arguments are numbers. -/
structure Nums : Prop where
  n0 : ∀ i, Num.IsR ((a0 m c : Vec Ideal S8192x1024 .f32) i)
  n1 : ∀ i, Num.IsR ((a1 m c : Vec Ideal S8192x1024 .f32) i)
  n2 : ∀ i, Num.IsR ((a2 m c : Vec Ideal S1x1024 .f32) i)
  n3 : ∀ i, Num.IsR ((a3 m c : Vec Ideal S1x1024 .f32) i)
  n4 : ∀ i, Num.IsR ((a4 m c : Vec Ideal S2816x1024 .bf16) i)
  n5 : ∀ i, Num.IsR ((a5 m c : Vec Ideal S2816x1024 .bf16) i)
  n6 : ∀ i, Num.IsR ((a6 m c : Vec Ideal S2816x1024 .bf16) i)

variable {m c}

theorem dh (n : Nums m c) (t : Fin cfg0.N) (y : S256x2816.Idx) (i : S8192x2816.Idx) (h0 : (i 0).val = t.val * 256 + (y 0).val)
    (h1 : (i 1).val = (y 1).val) : k0_pay10 (F := Ideal) (iblk m c 0 t) (iblk m c 5 t) (iblk m c 1 t) (iblk m c 2 t) y
      = val_main_v52 (F := Ideal) (a0 m c) (a1 m c) (a2 m c) (a3 m c) (a4 m c) (a5 m c) (a6 m c) i := by
  rw [Cert.FfnBwdRefIdeal.Math.dh_eq n.n0 n.n1 n.n2 n.n3 n.n4 n.n5 n.n6]
  pointwise [k0_pay10]
  rw [dm m c t y i h0 h1, hh m c t y i h0 h1, sg m c t y i h0 h1, uu m c t y i h0 h1]

/-- The gradient of the normalised rows. -/
theorem dx (n : Nums m c) (t : Fin cfg0.N) (y : S256x1024.Idx) (i : S8192x1024.Idx) (h0 : (i 0).val = t.val * 256 + (y 0).val)
    (h1 : (i 1).val = (y 1).val) :
    k0_pay15 (F := Ideal) (iblk m c 0 t) (k0_pay10 (iblk m c 0 t) (iblk m c 5 t) (iblk m c 1 t) (iblk m c 2 t)) (k0_pay11 (iblk m c 0 t) (iblk m c 5 t) (iblk m c 1 t))
      k0_pay14 (iblk m c 6 t) (iblk m c 7 t) y
      = val_main_v58 (F := Ideal) (a0 m c) (a1 m c) (a2 m c) (a3 m c) (a4 m c) (a5 m c) (a6 m c) i := by
  rw [Cert.FfnBwdRefIdeal.Math.dx_at]
  pointwise [k0_pay15, k0_pay14]
  rw [add_right_comm]
  refine congrArg₂ (· + ·) (congrArg₂ (· + ·) (congrArg₂ (· * ·) rfl (b_dr m c t y i h0 h1)) (Finset.sum_congr rfl fun k _ => ?_)) (Finset.sum_congr rfl fun k _ => ?_)
  · refine congrArg₂ (· * ·) (du m c t _ _ h0 rfl) ((b_wu m c t _).trans ?_)
    exact congrArg _ (funext fun d => by fin_cases d <;> first | exact Fin.ext h1.symm | rfl)
  · refine congrArg₂ (· * ·) (dh n t _ _ h0 rfl) ((b_wg m c t _).trans ?_)
    exact congrArg _ (funext fun d => by fin_cases d <;> first | exact Fin.ext h1.symm | rfl)

theorem dxh (n : Nums m c) (t : Fin cfg0.N) (y : S256x1024.Idx) (i : S8192x1024.Idx) (h0 : (i 0).val = t.val * 256 + (y 0).val)
    (h1 : (i 1).val = (y 1).val) :
    k0_pay20 (F := Ideal) (iblk m c 0 t) (k0_pay10 (iblk m c 0 t) (iblk m c 5 t) (iblk m c 1 t) (iblk m c 2 t)) (k0_pay11 (iblk m c 0 t) (iblk m c 5 t) (iblk m c 1 t))
      k0_pay14 (iblk m c 6 t) (iblk m c 7 t) (iblk m c 8 t) y
      = val_main_v66 (F := Ideal) (a0 m c) (a1 m c) (a2 m c) (a3 m c) (a4 m c) (a5 m c) (a6 m c) i := by
  pointwise [k0_pay20, val_main_v66, val_main_v65, val_main_v29, val_main_v4]
  refine congrArg₂ (· * ·) (dx n t y i h0 h1) ((b_g m c t _).trans ?_)
  exact congrArg _ (funext fun d => by fin_cases d <;> first | exact Fin.ext h1.symm | rfl)

/-- The gradient of the rows before the norm. -/
theorem dr (n : Nums m c) (t : Fin cfg0.N) (y : S256x1024.Idx) (i : S8192x1024.Idx) (h0 : (i 0).val = t.val * 256 + (y 0).val)
    (h1 : (i 1).val = (y 1).val) :
    k0_pay1 (F := Ideal) (k0_pay16 (iblk m c 3 t)) (k0_pay19 (iblk m c 4 t))
      (k0_pay20 (iblk m c 0 t) (k0_pay10 (iblk m c 0 t) (iblk m c 5 t) (iblk m c 1 t) (iblk m c 2 t)) (k0_pay11 (iblk m c 0 t) (iblk m c 5 t) (iblk m c 1 t))
        k0_pay14 (iblk m c 6 t) (iblk m c 7 t) (iblk m c 8 t))
      (k0_pay21 (iblk m c 0 t) (k0_pay10 (iblk m c 0 t) (iblk m c 5 t) (iblk m c 1 t) (iblk m c 2 t)) (k0_pay11 (iblk m c 0 t) (iblk m c 5 t) (iblk m c 1 t))
        k0_pay14 (iblk m c 6 t) (iblk m c 7 t) (iblk m c 8 t)) y
      = val_main_v91 (F := Ideal) (a0 m c) (a1 m c) (a2 m c) (a3 m c) (a4 m c) (a5 m c) (a6 m c) i := by
  rw [Cert.FfnBwdRefIdeal.Math.dr_eq n.n0 n.n1 n.n2 n.n3 n.n4 n.n5 n.n6]
  pointwise [k0_pay1, k0_pay16, k0_pay19, k0_pay21]
  refine congrArg₂ (· * ·) (b_rs m c t _ _ h0 rfl) (congrArg₂ (· - ·) (congrArg₂ (· - ·) (dxh n t y i h0 h1)
    (congrArg₂ Ideal.div (Finset.sum_congr rfl fun k _ => dxh n t _ _ h0 rfl) rfl))
    (congrArg₂ (· * ·) (b_xh m c t y i h0 h1) (congrArg₂ Ideal.div (Finset.sum_congr rfl fun k _ =>
      congrArg₂ (· * ·) (dxh n t _ _ h0 rfl) (b_xh m c t _ _ h0 rfl)) rfl)))

/-- What goes on to the mixers below, before it is cut in two. -/
theorem dmix (n : Nums m c) (t : Fin cfg0.N) (y : S256x1024.Idx) (i : S8192x1024.Idx) (h0 : (i 0).val = t.val * 256 + (y 0).val)
    (h1 : (i 1).val = (y 1).val) :
    k0_pay2 (F := Ideal) (k0_pay16 (iblk m c 3 t)) (k0_pay19 (iblk m c 4 t))
      (k0_pay20 (iblk m c 0 t) (k0_pay10 (iblk m c 0 t) (iblk m c 5 t) (iblk m c 1 t) (iblk m c 2 t)) (k0_pay11 (iblk m c 0 t) (iblk m c 5 t) (iblk m c 1 t))
        k0_pay14 (iblk m c 6 t) (iblk m c 7 t) (iblk m c 8 t))
      (k0_pay21 (iblk m c 0 t) (k0_pay10 (iblk m c 0 t) (iblk m c 5 t) (iblk m c 1 t) (iblk m c 2 t)) (k0_pay11 (iblk m c 0 t) (iblk m c 5 t) (iblk m c 1 t))
        k0_pay14 (iblk m c 6 t) (iblk m c 7 t) (iblk m c 8 t)) (iblk m c 9 t) y
      = val_main_v97 (F := Ideal) (a0 m c) (a1 m c) (a2 m c) (a3 m c) (a4 m c) (a5 m c) (a6 m c) (a7 m c) i := by
  pointwise [k0_pay2, val_main_v97, val_main_v95]
  refine Finset.sum_congr rfl fun k _ => ?_
  refine congrArg₂ (· * ·) (dr n t _ _ h0 rfl) ((b_wo m c t _).trans ?_)
  exact congrArg _ (funext fun d => by fin_cases d <;> first | exact Fin.ext h1.symm | rfl)

theorem lo (n : Nums m c) (t : Fin cfg0.N) (y : S256x512.Idx) (i : S8192x512.Idx) (h0 : (i 0).val = t.val * 256 + (y 0).val)
    (h1 : (i 1).val = (y 1).val) :
    k0_pay3 (F := Ideal) (k0_pay16 (iblk m c 3 t)) (k0_pay19 (iblk m c 4 t))
      (k0_pay20 (iblk m c 0 t) (k0_pay10 (iblk m c 0 t) (iblk m c 5 t) (iblk m c 1 t) (iblk m c 2 t)) (k0_pay11 (iblk m c 0 t) (iblk m c 5 t) (iblk m c 1 t))
        k0_pay14 (iblk m c 6 t) (iblk m c 7 t) (iblk m c 8 t))
      (k0_pay21 (iblk m c 0 t) (k0_pay10 (iblk m c 0 t) (iblk m c 5 t) (iblk m c 1 t) (iblk m c 2 t)) (k0_pay11 (iblk m c 0 t) (iblk m c 5 t) (iblk m c 1 t))
        k0_pay14 (iblk m c 6 t) (iblk m c 7 t) (iblk m c 8 t)) (iblk m c 9 t) y
      = val_main_v100 (F := Ideal) (a0 m c) (a1 m c) (a2 m c) (a3 m c) (a4 m c) (a5 m c) (a6 m c) (a7 m c) i := by
  pointwise [k0_pay3, val_main_v100]
  exact dmix n t _ _ (by simpa using h0) (by simpa using h1)

theorem hi (n : Nums m c) (t : Fin cfg0.N) (y : S256x512.Idx) (i : S8192x512.Idx) (h0 : (i 0).val = t.val * 256 + (y 0).val)
    (h1 : (i 1).val = (y 1).val) :
    k0_pay4 (F := Ideal) (k0_pay16 (iblk m c 3 t)) (k0_pay19 (iblk m c 4 t))
      (k0_pay20 (iblk m c 0 t) (k0_pay10 (iblk m c 0 t) (iblk m c 5 t) (iblk m c 1 t) (iblk m c 2 t)) (k0_pay11 (iblk m c 0 t) (iblk m c 5 t) (iblk m c 1 t))
        k0_pay14 (iblk m c 6 t) (iblk m c 7 t) (iblk m c 8 t))
      (k0_pay21 (iblk m c 0 t) (k0_pay10 (iblk m c 0 t) (iblk m c 5 t) (iblk m c 1 t) (iblk m c 2 t)) (k0_pay11 (iblk m c 0 t) (iblk m c 5 t) (iblk m c 1 t))
        k0_pay14 (iblk m c 6 t) (iblk m c 7 t) (iblk m c 8 t)) (iblk m c 9 t) y
      = val_main_v101 (F := Ideal) (a0 m c) (a1 m c) (a2 m c) (a3 m c) (a4 m c) (a5 m c) (a6 m c) (a7 m c) i := by
  pointwise [k0_pay4, val_main_v101]
  exact dmix n t _ _ (by simpa using h0) (by simpa using h1)

theorem r10 (n : Nums m c) : (dats m 0 c).arrAt 10 cfg0.N = val_main_v91 (F := Ideal) (a0 m c) (a1 m c) (a2 m c) (a3 m c) (a4 m c) (a5 m c) (a6 m c) := by
  refine (dats m 0 c).arrAt_eq_of_covers 10 _ (by decide +kernel) fun t hf y => ?_
  obtain ⟨e0, e1⟩ := (idx' t).1
  blk_simp
  rw [after0_10]
  by_cases h : t.val % 32 = 0
  · rw [outsAt0_A m c t h]; frame_out
    exact dr n t y _ (by blk_simp [e0]) (by blk_simp [e1])
  · rw [outsAt0_B m c t h]; frame_out
    exact dr n t y _ (by blk_simp [e0]) (by blk_simp [e1])

theorem r11 (n : Nums m c) : (dats m 0 c).arrAt 11 cfg0.N = val_main_v98 (F := Ideal) (a0 m c) (a1 m c) (a2 m c) (a3 m c) (a4 m c) (a5 m c) (a6 m c) := by
  refine (dats m 0 c).arrAt_eq_of_covers 11 _ (by decide +kernel) fun t hf y => ?_
  obtain ⟨e0, e1⟩ := (idx' t).2.1
  blk_simp
  rw [after0_11]
  by_cases h : t.val % 32 = 0
  · rw [outsAt0_A m c t h]; frame_out
    pointwise [k0_pay12, val_main_v98]
    exact dh n t y _ (by blk_simp [e0]) (by blk_simp [e1])
  · rw [outsAt0_B m c t h]; frame_out
    pointwise [k0_pay12, val_main_v98]
    exact dh n t y _ (by blk_simp [e0]) (by blk_simp [e1])

theorem r12 : (dats m 0 c).arrAt 12 cfg0.N = val_main_v99 (F := Ideal) (a0 m c) (a1 m c) (a2 m c) (a3 m c) (a4 m c) (a6 m c) := by
  refine (dats m 0 c).arrAt_eq_of_covers 12 _ (by decide +kernel) fun t hf y => ?_
  obtain ⟨e0, e1⟩ := (idx' t).2.2.1
  blk_simp
  rw [after0_12]
  by_cases h : t.val % 32 = 0
  · rw [outsAt0_A m c t h]; frame_out
    pointwise [k0_pay13, val_main_v99]
    exact du m c t y _ (by blk_simp [e0]) (by blk_simp [e1])
  · rw [outsAt0_B m c t h]; frame_out
    pointwise [k0_pay13, val_main_v99]
    exact du m c t y _ (by blk_simp [e0]) (by blk_simp [e1])

theorem r15 (n : Nums m c) : (dats m 0 c).arrAt 15 cfg0.N = val_main_v100 (F := Ideal) (a0 m c) (a1 m c) (a2 m c) (a3 m c) (a4 m c) (a5 m c) (a6 m c) (a7 m c) := by
  refine (dats m 0 c).arrAt_eq_of_covers 15 _ (by decide +kernel) fun t hf y => ?_
  obtain ⟨e0, e1⟩ := (idx' t).2.2.2.1
  blk_simp
  rw [after0_15]
  by_cases h : t.val % 32 = 0
  · rw [outsAt0_A m c t h]; frame_out
    exact lo n t y _ (by blk_simp [e0]) (by blk_simp [e1])
  · rw [outsAt0_B m c t h]; frame_out
    exact lo n t y _ (by blk_simp [e0]) (by blk_simp [e1])

theorem r16 (n : Nums m c) : (dats m 0 c).arrAt 16 cfg0.N = val_main_v101 (F := Ideal) (a0 m c) (a1 m c) (a2 m c) (a3 m c) (a4 m c) (a5 m c) (a6 m c) (a7 m c) := by
  refine (dats m 0 c).arrAt_eq_of_covers 16 _ (by decide +kernel) fun t hf y => ?_
  obtain ⟨e0, e1⟩ := (idx' t).2.2.2.2.1
  blk_simp
  rw [after0_16]
  by_cases h : t.val % 32 = 0
  · rw [outsAt0_A m c t h]; frame_out
    exact hi n t y _ (by blk_simp [e0]) (by blk_simp [e1])
  · rw [outsAt0_B m c t h]; frame_out
    exact hi n t y _ (by blk_simp [e0]) (by blk_simp [e1])

/-- A block's share of the scale's gradient, and of the shift's. -/
def gpart (t : Fin cfg0.N) (y : S1x1024.Idx) : EReal := ∑ k : Fin 256,
  k0_pay15 (F := Ideal) (iblk m c 0 t) (k0_pay10 (iblk m c 0 t) (iblk m c 5 t) (iblk m c 1 t) (iblk m c 2 t)) (k0_pay11 (iblk m c 0 t) (iblk m c 5 t) (iblk m c 1 t))
        k0_pay14 (iblk m c 6 t) (iblk m c 7 t) (ix2 k (y 1))
    * k0_pay16 (F := Ideal) (iblk m c 3 t) (ix2 k (y 1))

def bpart (t : Fin cfg0.N) (y : S1x1024.Idx) : EReal := ∑ k : Fin 256,
  k0_pay15 (F := Ideal) (iblk m c 0 t) (k0_pay10 (iblk m c 0 t) (iblk m c 5 t) (iblk m c 1 t) (iblk m c 2 t)) (k0_pay11 (iblk m c 0 t) (iblk m c 5 t) (iblk m c 1 t))
        k0_pay14 (iblk m c 6 t) (iblk m c 7 t) (ix2 k (y 1))

theorem pay17 (t : Fin cfg0.N) (acc : Vec Ideal S1x1024 .f32) (y : S1x1024.Idx) :
    k0_pay17 (F := Ideal) (iblk m c 0 t) (k0_pay10 (iblk m c 0 t) (iblk m c 5 t) (iblk m c 1 t) (iblk m c 2 t)) (k0_pay11 (iblk m c 0 t) (iblk m c 5 t) (iblk m c 1 t))
        k0_pay14 (iblk m c 6 t) (iblk m c 7 t) (iblk m c 3 t) acc y
      = acc y + gpart (m := m) (c := c) t y := by
  pointwise [k0_pay17, gpart]

theorem pay18 (t : Fin cfg0.N) (acc : Vec Ideal S1x1024 .f32) (y : S1x1024.Idx) :
    k0_pay18 (F := Ideal) (iblk m c 0 t) (k0_pay10 (iblk m c 0 t) (iblk m c 5 t) (iblk m c 1 t) (iblk m c 2 t)) (k0_pay11 (iblk m c 0 t) (iblk m c 5 t) (iblk m c 1 t))
        k0_pay14 (iblk m c 6 t) (iblk m c 7 t) acc y
      = acc y + bpart (m := m) (c := c) t y := by
  pointwise [k0_pay18, bpart]

theorem accg (t : Fin cfg0.N) (ht : t.val % 32 = 31) (y : S1x1024.Idx) :
    (outsAt0 m c t.val t.isLt).2.2.2.1 y = ∑ s : Fin 32, gpart (m := m) (c := c) ⟨32 * (t.val / 32) + s.val, by have := t.isLt; have := Nat.div_add_mod t.val 32; omega⟩ y := by
  rw [Pipeline.eq_sum_fin_of_reset_step_apply_of_flush (fun n h => (outsAt0 m c n h).2.2.2.1) 32 (fun _ => (0 : EReal))
    (fun t y => gpart (m := m) (c := c) t y)
    (fun t h y => by
      rw [outsAt0_A m c t h]; frame_out; rw [pay17]; pointwise [k0_pay5])
    (fun t h y => by
      rw [outsAt0_B m c t h]; frame_out; rw [pay17]) t ht y, zero_add]

theorem accb (t : Fin cfg0.N) (ht : t.val % 32 = 31) (y : S1x1024.Idx) :
    (outsAt0 m c t.val t.isLt).2.2.2.2.1 y = ∑ s : Fin 32, bpart (m := m) (c := c) ⟨32 * (t.val / 32) + s.val, by have := t.isLt; have := Nat.div_add_mod t.val 32; omega⟩ y := by
  rw [Pipeline.eq_sum_fin_of_reset_step_apply_of_flush (fun n h => (outsAt0 m c n h).2.2.2.2.1) 32 (fun _ => (0 : EReal))
    (fun t y => bpart (m := m) (c := c) t y)
    (fun t h y => by
      rw [outsAt0_A m c t h]; frame_out; rw [pay18]; pointwise [k0_pay6])
    (fun t h y => by
      rw [outsAt0_B m c t h]; frame_out; rw [pay18]) t ht y, zero_add]

theorem r13 (n : Nums m c) : (dats m 0 c).arrAt 13 cfg0.N = val_main_v93 (F := Ideal) (a0 m c) (a1 m c) (a2 m c) (a3 m c) (a4 m c) (a5 m c) (a6 m c) := by
  refine (dats m 0 c).arrAt_eq_of_covers 13 _ (by decide +kernel) fun t hf y => ?_
  have ht := (flush0_13 t).mp hf
  obtain ⟨e0, e1⟩ := (idx' t).2.2.2.2.2.1
  blk_simp
  rw [after0_13, accg t ht]
  have hn : cfg0.N = 32 := N_0
  have hz : t.val / 32 = 0 := by have := t.isLt; omega
  pointwise [val_main_v93, val_main_v67, val_main_cst_12, val_main_v64, val_main_v63, val_main_cst_11, val_main_v62]
  rw [Fin.sum_univ_one]
  refine Fin.sum_mul_add_congr fun s k hl => ?_
  have hr : s.val * 256 + k.val = (32 * (t.val / 32) + s.val) * 256 + k.val := by rw [hz]; omega
  rw [mul_comm]
  refine congrArg₂ (· * ·) (xh m c _ _ _ hr ?_) (dx n _ _ _ hr ?_) <;> blk_simp [e1]

theorem r14 (n : Nums m c) : (dats m 0 c).arrAt 14 cfg0.N = val_main_v92 (F := Ideal) (a0 m c) (a1 m c) (a2 m c) (a3 m c) (a4 m c) (a5 m c) (a6 m c) := by
  refine (dats m 0 c).arrAt_eq_of_covers 14 _ (by decide +kernel) fun t hf y => ?_
  have ht := (flush0_14 t).mp hf
  obtain ⟨e0, e1⟩ := (idx' t).2.2.2.2.2.2
  blk_simp
  rw [after0_14, accb t ht]
  have hn : cfg0.N = 32 := N_0
  have hz : t.val / 32 = 0 := by have := t.isLt; omega
  pointwise [val_main_v92, val_main_v61, val_main_cst_10, val_main_v60, val_main_v59, val_main_cst_9]
  rw [Fin.sum_univ_one]
  refine Fin.sum_mul_add_congr fun s k hl => ?_
  have hr : s.val * 256 + k.val = (32 * (t.val / 32) + s.val) * 256 + k.val := by rw [hz]; omega
  refine dx n _ _ _ hr ?_ <;> blk_simp [e1]

end Cert.FfnBwdIdeal.Rows

namespace Cert.FfnBwdIdeal

open Idealize.ShloMosaic Idealize.ShloMosaic.TcCoe Idealize.SL.Sem
open Cert.FfnBwdRefIdeal.Read

theorem nums {m : (ℓ : Loc nD τ sig) → Buf (Elt Ideal) ℓ} (h : Pre_FfnBwdIdeal_numbers m) (c : Dev nD) : Rows.Nums m c := by
  obtain ⟨p0, p1, p2, p3, p4, p5, p6⟩ := h c
  exact ⟨fun i => Num.of_finite _ (congrFun p0 i), fun i => Num.of_finite _ (congrFun p1 i), fun i => Num.of_finite _ (congrFun p2 i),
    fun i => Num.of_finite _ (congrFun p3 i), fun i => Num.of_finite _ (congrFun p4 i), fun i => Num.of_finite _ (congrFun p5 i),
    fun i => Num.of_finite _ (congrFun p6 i)⟩

set_option maxHeartbeats 2000000 in
theorem agrees : Cert.algebraic_FfnBwdIdeal_FfnBwdRefIdeal_pre_numbers := by
  intro m g m' g' hp hargs
  have n := fun c => nums hp c
  refine ⟨fun c => val_main_v91 (F := Ideal) (Rows.a0 m c) (Rows.a1 m c) (Rows.a2 m c) (Rows.a3 m c) (Rows.a4 m c) (Rows.a5 m c) (Rows.a6 m c), fun c => val_main_v98 (F := Ideal) (Rows.a0 m c) (Rows.a1 m c) (Rows.a2 m c) (Rows.a3 m c) (Rows.a4 m c) (Rows.a5 m c) (Rows.a6 m c),
    fun c => val_main_v99 (F := Ideal) (Rows.a0 m c) (Rows.a1 m c) (Rows.a2 m c) (Rows.a3 m c) (Rows.a4 m c) (Rows.a6 m c),
    fun c => val_main_v93 (F := Ideal) (Rows.a0 m c) (Rows.a1 m c) (Rows.a2 m c) (Rows.a3 m c) (Rows.a4 m c) (Rows.a5 m c) (Rows.a6 m c), fun c => val_main_v92 (F := Ideal) (Rows.a0 m c) (Rows.a1 m c) (Rows.a2 m c) (Rows.a3 m c) (Rows.a4 m c) (Rows.a5 m c) (Rows.a6 m c),
    fun c => val_main_v100 (F := Ideal) (Rows.a0 m c) (Rows.a1 m c) (Rows.a2 m c) (Rows.a3 m c) (Rows.a4 m c) (Rows.a5 m c) (Rows.a6 m c) (Rows.a7 m c), fun c => val_main_v101 (F := Ideal) (Rows.a0 m c) (Rows.a1 m c) (Rows.a2 m c) (Rows.a3 m c) (Rows.a4 m c) (Rows.a5 m c) (Rows.a6 m c) (Rows.a7 m c), ?_, ?_⟩
  · refine (θ_run Cert.FfnBwdIdeal.defs _ _).mono (fun r h c => ?_) (Value.run_blocks m g)
    obtain ⟨k0, k1, k2, k3, k4, k5, k6, k⟩ := h c
    exact ⟨k0.trans (Rows.r10 (n c)), k1.trans (Rows.r11 (n c)), k2.trans Rows.r12, k3.trans (Rows.r13 (n c)), k4.trans (Rows.r14 (n c)),
      k5.trans (Rows.r15 (n c)), k6.trans (Rows.r16 (n c)), k⟩
  · refine (θ_run Cert.FfnBwdRefIdeal.defs _ _).mono (fun r h c => ?_) (Cert.FfnBwdRefIdeal.Value.run (F := Ideal) m' g')
    obtain ⟨h0, h1, h2, h3, h4, h5, h6, h7⟩ := hargs c
    obtain ⟨k0, k1, k2, k3, k4, k5, k6, k⟩ := h c
    refine ⟨k0.trans ?_, k1.trans ?_, k2.trans ?_, k3.trans ?_, k4.trans ?_, k5.trans ?_, k6.trans ?_, k⟩
    · rw [val_main_v91_eq, h0, h1, h2, h3, h4, h5, h6]
    · rw [val_main_v98_eq, h0, h1, h2, h3, h4, h5, h6]
    · rw [val_main_v99_eq, h0, h1, h2, h3, h4, h6]
    · rw [val_main_v93_eq, h0, h1, h2, h3, h4, h5, h6]
    · rw [val_main_v92_eq, h0, h1, h2, h3, h4, h5, h6]
    · rw [val_main_v100_eq, h0, h1, h2, h3, h4, h5, h6, h7]
    · rw [val_main_v101_eq, h0, h1, h2, h3, h4, h5, h6, h7]

end Cert.FfnBwdIdeal
-- ==== Proof.Shift.lean ====
/-
  Rows of an array counted from before its first row, with zeros where there is no row.
-/
module

public import proofs.«01_k».proof.Proof.Fold

@[expose] public section

noncomputable section

namespace Cert.Shift

open Idealize.ShloMosaic

variable {n k : ℕ} (x : (⟨2, ![n, k]⟩ : Shape).Idx → EReal) (pad : ℕ)

/-- Row `r`, counted from `pad` rows before the first, at column `ch`. -/
def rowsAt (r ch : ℕ) : EReal :=
  if h : pad ≤ r ∧ r < n + pad ∧ ch < k then x (ix2 (⟨r - pad, by omega⟩ : Fin n) (⟨ch, h.2.2⟩ : Fin k)) else 0

theorem rowsAt_hit {r ch : ℕ} (i : (⟨2, ![n, k]⟩ : Shape).Idx) (h0 : r = (i 0).val + pad) (h1 : ch = (i 1).val) : rowsAt x pad r ch = x i := by
  have b0 : (i 0).val < n := (i 0).isLt
  have b1 : (i 1).val < k := (i 1).isLt
  unfold rowsAt
  rw [dif_pos ⟨by omega, by omega, by omega⟩]
  refine congrArg x (funext fun d => ?_)
  fin_cases d
  · exact Fin.ext (show r - pad = (i 0).val by omega)
  · exact Fin.ext h1

theorem rowsAt_low {r ch : ℕ} (h : r < pad) : rowsAt x pad r ch = 0 := by
  unfold rowsAt
  rw [dif_neg (by omega)]

theorem rowsAt_high {r ch : ℕ} (h : n + pad ≤ r) : rowsAt x pad r ch = 0 := by
  unfold rowsAt
  rw [dif_neg (by omega)]

/-- A row times a factor, or nothing past the last row. -/
theorem dif_rowsAt {P : Prop} [Decidable P] {r ch : ℕ} {w : EReal} (j : P → (⟨2, ![n, k]⟩ : Shape).Idx) (hP : ¬ P → n + 0 ≤ r)
    (h0 : ∀ h, r = (j h 0).val + 0) (h1 : ∀ h, ch = (j h 1).val) : (if h : P then x (j h) * w else 0) = rowsAt x 0 r ch * w := by
  by_cases h : P
  · rw [dif_pos h, rowsAt_hit x 0 (j h) (h0 h) (h1 h)]
  · rw [dif_neg h, rowsAt_high x 0 (hP h), zero_mul]

/-- A sum over eight blocks of 1024 rows, the last block first. -/
theorem sum_rev (f : ℕ → EReal) : ∑ s : Fin 8, ∑ j : Fin 1024, f ((7 - s.val) * 1024 + j.val) = ∑ r : Fin 8192, f r.val := by
  rw [← Equiv.sum_comp Fin.revPerm]
  refine Fin.sum_mul_add_congr fun s k hl => ?_
  have e : 7 - (Fin.revPerm s).val = s.val := by
    rw [Fin.revPerm_apply, Fin.val_rev]; omega
  rw [e]

/-- Of the four rows of the taps' gradient, each padded to all four, the one that is not padding. -/
theorem pick (k : ℕ) (hk : k < 4) (f : ℕ → EReal) {A B C E : EReal} (hA : A = f 3) (hB : B = f 2) (hC : C = f 1) (hE : E = f 0) :
    ((((if _h : 3 ≤ k ∧ k - 3 < 1 then A else 0) + if _h : 2 ≤ k ∧ k - 2 < 1 then B else 0) + if _h : 1 ≤ k ∧ k - 1 < 1 then C else 0)
      + if _h : k < 1 then E else 0) = f k := by
  interval_cases k <;> simp [hA, hB, hC, hE]

end Cert.Shift

end
-- ==== Proof.ConvFwd.lean ====
/-
  The causal convolution and its activation.
-/
module

public import proofs.«01_k».proof.Defs
public import proofs.«01_k».proof.Proof.Fold
public import proofs.«01_k».proof.Proof.Real
public import proofs.«01_k».proof.Proof.Shift
public import proofs.«01_k».proof.Proof.Gen.ConvFwd.Frame
public import proofs.«01_k».proof.Proof.Gen.ConvFwdIdeal.Value
public import proofs.«01_k».proof.Proof.Gen.ConvFwdRefIdeal.Read
public import proofs.«01_k».proof.Proof.Gen.ConvFwdRefIdeal.Run

@[expose] public section

set_option maxRecDepth 16384

noncomputable section

namespace Cert.ConvFwdIdeal.Rows

open Cert.ConvFwdIdeal Cert.ConvFwdIdeal.Gen Cert.ConvFwdIdeal.Value Idealize.ShloMosaic Idealize.ShloMosaic.TcCoe Idealize.SL.Sem
open Cert.ConvFwdRefIdeal.Read

variable (m : (ℓ : Loc nD τ sig) → Buf (Elt Ideal) ℓ) (c : Dev nD)

abbrev a0 := m ((c : Thread nD τ).loc main_arg0)
abbrev a1 := m ((c : Thread nD τ).loc main_arg1)
abbrev a2 := m ((c : Thread nD τ).loc main_arg2)

theorem idx : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0) :=
  (by decide +kernel : ∀ t : Fin grid0.N, _)

theorem b_w (t : Fin cfg0.N) (y : S4x512.Idx) : (iblk m c 1 t : Vec Ideal S4x512 .f32) y = (a1 m c : Vec Ideal S4x512 .f32) y := by
  obtain ⟨-, ⟨e0, e1⟩, -⟩ := idx t
  blk_point [iblk, V, idx t]

theorem b_b (t : Fin cfg0.N) (y : S1x512.Idx) : (iblk m c 2 t : Vec Ideal S1x512 .f32) y = (a2 m c : Vec Ideal S1x512 .f32) y := by
  obtain ⟨-, -, ⟨e0, e1⟩, -⟩ := idx t
  blk_point [iblk, V, idx t]

theorem b_x (t : Fin cfg0.N) (y : S1024x512.Idx) (i : S8192x1664.Idx) (h0 : (i 0).val = t.val * 1024 + (y 0).val)
    (h1 : (i 1).val = (y 1).val) : (X0_0 m c t : Vec Ideal S1024x512 .f32) y = (a0 m c : Vec Ideal S8192x1664 .f32) i := by
  obtain ⟨⟨e0, e1⟩, -⟩ := idx t
  unfold X0_0 Pipeline.Window.fill
  rw [dif_pos (moved0_0 t y)]
  blk_point [iblk, V, idx t]

/-- The input's rows, counted from eight rows before the first. -/
abbrev xr (r ch : ℕ) : EReal := Shift.rowsAt (a0 m c : Vec Ideal S8192x1664 .f32) 8 r ch

/-- The scratch after point `t`: the eight rows before the block, and the block. -/
def G (t : ℕ) : FVec Ideal S1032x512 .f32 := fun y => xr m c (t * 1024 + (y 0).val) (y 1).val
/-- The scratch's rows from `k` on. -/
def X (t k : ℕ) : FVec Ideal S1024x512 .f32 := fun y => xr m c (t * 1024 + (k + (y 0).val)) (y 1).val

abbrev Pieces := List (View.Piece (Elt Ideal) S1032x512 .f32)
abbrev two (p : FVec Ideal S1024x512 .f32) (q : FVec Ideal S8x512 .f32) (L : Pieces) : Pieces :=
  ⟨Rect.unit ![8, 0] ![1024, 512] inb_S1032x512_S1024x512_8_0, p⟩ :: ⟨Rect.unit ![0, 0] ![8, 512] inb_S1032x512_S8x512_0_0, q⟩ :: L

theorem canon_two (t : Fin cfg0.N) (q : FVec Ideal S8x512 .f32) (L : Pieces) (hq : ∀ x : S8x512.Idx, q x = xr m c (t.val * 1024 + (x 0).val) (x 1).val) :
    View.canon (two (k0_pay5 (X0_0 m c t)) q L) = G m c t.val := by
  have ht : t.val < 8 := t.isLt.trans_eq N_0
  funext y
  refine View.canon_append_of_piecesOf (G m c t.val) L (two (k0_pay5 (X0_0 m c t)) q []) ⟨fun x => ?_, fun x => ?_, trivial⟩ y
    (View.cover_of_tiledBy (two (k0_pay5 (X0_0 m c t)) q []) ![8, 512] (by sl_kernel_rfl) y)
  · have h0 : (x 0).val < 1024 := (x 0).isLt
    have h1 : (x 1).val < 512 := (x 1).isLt
    show _ = xr m c (t.val * 1024 + (8 + 1 * (x 0).val)) (0 + 1 * (x 1).val)
    pointwise [k0_pay5]
    rw [b_x m c t x (fun a => match a with
      | ⟨0, _⟩ => ⟨t.val * 1024 + (x 0).val, show t.val * 1024 + (x 0).val < 8192 by omega⟩
      | ⟨1, _⟩ => ⟨(x 1).val, show (x 1).val < 1664 by omega⟩) rfl rfl]
    refine (Shift.rowsAt_hit _ _ _ ?_ ?_).symm
    · show _ = t.val * 1024 + (x 0).val + 8; omega
    · show _ = (x 1).val; omega
  · show _ = xr m c (t.val * 1024 + (0 + 1 * (x 0).val)) (0 + 1 * (x 1).val)
    rw [zero_add, zero_add, one_mul, one_mul]
    exact hq x

theorem load_k (t : Fin cfg0.N) (q : FVec Ideal S8x512 .f32) (L : Pieces) (v : View sig .tc .vmem S1032x512 .f32) (k : ℕ)
    (inb : ∀ a, (![k, 0] : Fin 2 → ℕ) a + S1024x512.size a ≤ S1032x512.size a) (hq : ∀ x : S8x512.Idx, q x = xr m c (t.val * 1024 + (x 0).val) (x 1).val) :
    v.readCov (two (k0_pay5 (X0_0 m c t)) q L) (Rect.unit (s := S1032x512) ![k, 0] S1024x512.size inb).toLoadRect = X m c t.val k := by
  rw [View.readCov_eq_canon', canon_two m c t q L hq]
  funext j
  show xr m c (t.val * 1024 + (k + 1 * (j 0).val)) (0 + 1 * (j 1).val) = _
  rw [one_mul, one_mul, zero_add]
  rfl

theorem s_step (t : Fin cfg0.N) (h : ¬ t.val % 8 = 0) (ih : (outsAt0 m c (t.val - 1) (Nat.lt_of_le_of_lt (Nat.sub_le _ _) t.isLt)).2.2 = G m c (t.val - 1)) (x : S8x512.Idx) :
    k0_pay4 (View.ld (View.read (Elt Ideal) (View.whole cc0_scratch0)
                    ((Memref.isWhole_whole cc0_scratch0).unread (outsAt0 m c (t.val - 1) (Nat.lt_of_le_of_lt (Nat.sub_le _ _) t.isLt)).2.2))
                  (Rect.unit ![1024, 0] ![8, 512] inb_S1032x512_S8x512_1024_0)) x = xr m c (t.val * 1024 + (x 0).val) (x 1).val := by
  have h0 : (x 0).val < 8 := (x 0).isLt
  rw [ih]
  pointwise [k0_pay4]
  rw [(Memref.isWhole_whole cc0_scratch0).read_unread]
  show xr m c ((t.val - 1) * 1024 + (1024 + (x 0).val)) (x 1).val = _
  rw [show (t.val - 1) * 1024 + (1024 + (x 0).val) = t.val * 1024 + (x 0).val by omega]

theorem a_step (v : View sig .tc .vmem S1032x512 .f32) (t : Fin cfg0.N) (h : t.val % 8 = 0) (x : S8x512.Idx) :
    k0_pay4 (F := Ideal) (v.readCov ([⟨Rect.unit ![0, 0] ![1032, 512] inb_S1032x512_S1032x512_0_0, k0_pay3 (F := Ideal)⟩] : Pieces)
      (Rect.unit (s := S1032x512) ![1024, 0] ![8, 512] inb_S1032x512_S8x512_1024_0).toLoadRect) x = xr m c (t.val * 1024 + (x 0).val) (x 1).val := by
  have h0 : (x 0).val < 8 := (x 0).isLt
  have ht : t.val < 8 := t.isLt.trans_eq N_0
  rw [View.readCov_fill v inb_S1032x512_S1032x512_0_0 _ _ _ (by decide)]
  refine Eq.trans ?_ (Shift.rowsAt_low _ _ (by omega)).symm
  pointwise [k0_pay4, k0_pay3]

theorem sA (t : Fin cfg0.N) (h : t.val % 8 = 0) : (outsAt0 m c t.val t.isLt).2.2 = G m c t.val := by
  rw [outsAt0_A m c t h]
  frame_out [sout0_A_0, kernelRun0_A]
  exact canon_two m c t _ _ (a_step m c _ t h)

theorem sB (t : Fin cfg0.N) (h : ¬ t.val % 8 = 0) (ih : (outsAt0 m c (t.val - 1) (Nat.lt_of_le_of_lt (Nat.sub_le _ _) t.isLt)).2.2 = G m c (t.val - 1)) :
    (outsAt0 m c t.val t.isLt).2.2 = G m c t.val := by
  rw [outsAt0_B m c t h]
  frame_out [sout0_B_0, kernelRun0_B]
  exact canon_two m c t _ _ (s_step m c t h ih)

theorem scr (n : ℕ) (hn : n < cfg0.N) : (outsAt0 m c n hn).2.2 = G m c n := by
  have hN : cfg0.N = 8 := N_0
  induction n with
  | zero => exact sA m c ⟨0, hn⟩ rfl
  | succ n ih => exact sB m c ⟨n + 1, hn⟩ (by show ¬ (n + 1) % 8 = 0; omega) (ih _)

/-- A block's convolution, and its activation. -/
abbrev W (t : Fin cfg0.N) (k : ℕ) (inb : ∀ a, (![k, 0] : Fin 2 → ℕ) a + S1x512.size a ≤ S4x512.size a) : FVec Ideal S1x512 .f32 :=
  View.ld (iblk m c 1 t) (Rect.unit (s := S4x512) ![k, 0] S1x512.size inb)
abbrev Q (t : Fin cfg0.N) : FVec Ideal S1024x512 .f32 :=
  k0_pay6 (iblk m c 2 t) (W m c t 0 inb_S4x512_S1x512_0_0) (X m c t.val 5) (W m c t 1 inb_S4x512_S1x512_1_0) (X m c t.val 6)
    (W m c t 2 inb_S4x512_S1x512_2_0) (X m c t.val 7)

theorem out3 (t : Fin cfg0.N) : (outsAt0 m c t.val t.isLt).1 = k0_pay1 (Q m c t) (W m c t 3 inb_S4x512_S1x512_3_0) (X m c t.val 8) := by
  by_cases h : t.val % 8 = 0
  · rw [outsAt0_A m c t h]
    frame_out [out0_A_3, kernelRun0_A]
    rw [load_k m c t _ _ _ 5, load_k m c t _ _ _ 6, load_k m c t _ _ _ 7, load_k m c t _ _ _ 8]
    · rfl
    all_goals exact a_step m c _ t h
  · rw [outsAt0_B m c t h]
    frame_out [out0_B_3, kernelRun0_B]
    rw [load_k m c t _ _ _ 5, load_k m c t _ _ _ 6, load_k m c t _ _ _ 7, load_k m c t _ _ _ 8]
    · rfl
    all_goals exact s_step m c t h (scr m c _ _)

theorem out4 (t : Fin cfg0.N) : (outsAt0 m c t.val t.isLt).2.1 = k0_pay2 (Q m c t) (W m c t 3 inb_S4x512_S1x512_3_0) (X m c t.val 8) := by
  by_cases h : t.val % 8 = 0
  · rw [outsAt0_A m c t h]
    frame_out [out0_A_4, kernelRun0_A]
    rw [load_k m c t _ _ _ 5, load_k m c t _ _ _ 6, load_k m c t _ _ _ 7, load_k m c t _ _ _ 8]
    · rfl
    all_goals exact a_step m c _ t h
  · rw [outsAt0_B m c t h]
    frame_out [out0_B_4, kernelRun0_B]
    rw [load_k m c t _ _ _ 5, load_k m c t _ _ _ 6, load_k m c t _ _ _ 7, load_k m c t _ _ _ 8]
    · rfl
    all_goals exact s_step m c t h (scr m c _ _)

theorem x3_at (y : Cert.ConvFwdRefIdeal.S8195x512.Idx) (r : ℕ) (hr : r = 5 + (y 0).val) : val_main_v3 (F := Ideal) (a0 m c) y = xr m c r (y 1).val := by
  have h0 : (y 0).val < 8195 := (y 0).isLt
  have h1 : (y 1).val < 512 := (y 1).isLt
  pointwise [val_main_v3, val_main_v2, val_main_cst, val_main_v0]
  by_cases h : (y 0).val < 3
  · rw [dif_pos h]
    exact (Shift.rowsAt_low _ _ (by omega)).symm
  · rw [dif_neg h]
    refine (Shift.rowsAt_hit _ _ _ ?_ rfl).symm
    show r = (y 0).val - 3 + 8
    omega

theorem pre_at (i : S8192x512.Idx) : val_main_v33 (F := Ideal) (a0 m c) (a1 m c) (a2 m c) i
    = xr m c (5 + (i 0).val) (i 1).val * (a1 m c : Vec Ideal S4x512 .f32) (ix2 0 (i 1)) + xr m c (6 + (i 0).val) (i 1).val * (a1 m c : Vec Ideal S4x512 .f32) (ix2 1 (i 1))
      + xr m c (7 + (i 0).val) (i 1).val * (a1 m c : Vec Ideal S4x512 .f32) (ix2 2 (i 1)) + xr m c (8 + (i 0).val) (i 1).val * (a1 m c : Vec Ideal S4x512 .f32) (ix2 3 (i 1))
      + (a2 m c : Vec Ideal S1x512 .f32) (ix2 0 (i 1)) := by
  pointwise [val_main_v33, val_main_v32, val_main_v31, val_main_v30, val_main_v29, val_main_v28, val_main_v27, val_main_v26, val_main_v25, val_main_v24,
    val_main_v23, val_main_v22, val_main_v21, val_main_v20, val_main_v19, val_main_v18, val_main_v17, val_main_v16, val_main_v15, val_main_v14, val_main_v13,
    val_main_v12, val_main_v11, val_main_v10, val_main_v9, val_main_v8, val_main_v7, val_main_v6, val_main_v5, val_main_v4, val_main_v1]
  rw [x3_at m c _ (5 + (i 0).val) rfl, x3_at m c _ (6 + (i 0).val) (by show _ = 5 + (1 + (i 0).val); omega),
    x3_at m c _ (7 + (i 0).val) (by show _ = 5 + (2 + (i 0).val); omega), x3_at m c _ (8 + (i 0).val) (by show _ = 5 + (3 + (i 0).val); omega)]
  rfl

theorem taps (b w0 w1 w2 w3 x0 x1 x2 x3 : EReal) :
    b + w0 * x0 + w1 * x1 + w2 * x2 + w3 * x3 = x0 * w0 + x1 * w1 + x2 * w2 + x3 * w3 + b := by
  ac_rfl

theorem pre_blk (t : Fin cfg0.N) (y : S1024x512.Idx) (i : S8192x512.Idx) (h0 : (i 0).val = t.val * 1024 + (y 0).val)
    (h1 : (i 1).val = (y 1).val) : k0_pay1 (Q m c t) (W m c t 3 inb_S4x512_S1x512_3_0) (X m c t.val 8) y
      = val_main_v33 (F := Ideal) (a0 m c) (a1 m c) (a2 m c) i := by
  rw [pre_at, h0, h1]
  have e : i 1 = y 1 := Fin.ext h1
  pointwise [Q, W, k0_pay1, k0_pay6]
  rw [b_b, b_w, b_w, b_w, b_w, e]
  unfold X
  rw [show 5 + (t.val * 1024 + (y 0).val) = t.val * 1024 + (5 + (y 0).val) by omega, show 6 + (t.val * 1024 + (y 0).val) = t.val * 1024 + (6 + (y 0).val) by omega,
    show 7 + (t.val * 1024 + (y 0).val) = t.val * 1024 + (7 + (y 0).val) by omega, show 8 + (t.val * 1024 + (y 0).val) = t.val * 1024 + (8 + (y 0).val) by omega]
  exact taps _ _ _ _ _ _ _ _ _

theorem act_blk (t : Fin cfg0.N) (y : S1024x512.Idx) (i : S8192x512.Idx) (h0 : (i 0).val = t.val * 1024 + (y 0).val)
    (h1 : (i 1).val = (y 1).val) : k0_pay2 (Q m c t) (W m c t 3 inb_S4x512_S1x512_3_0) (X m c t.val 8) y
      = val_main_v34 (F := Ideal) (a0 m c) (a1 m c) (a2 m c) i := by
  pointwise [k0_pay2, val_main_v34, val_main_call0_v5, val_main_call0_v4, val_main_call0_cst_0, val_main_call0_v3, val_main_call0_v2,
    val_main_call0_cst, val_main_call0_v1, val_main_call0_v0]
  rw [pre_blk m c t y i h0 h1, zero_sub]

theorem r3 : (dats m 0 c).arrAt 3 cfg0.N = val_main_v33 (F := Ideal) (a0 m c) (a1 m c) (a2 m c) := by
  refine (dats m 0 c).arrAt_eq_of_covers 3 _ (by decide +kernel) fun t hf y => ?_
  obtain ⟨e0, e1⟩ := (idx t).2.2.2.1
  blk_simp
  rw [after0_3, out3]
  refine pre_blk m c t _ _ ?_ ?_ <;> blk_simp [e0, e1]

theorem r4 : (dats m 0 c).arrAt 4 cfg0.N = val_main_v34 (F := Ideal) (a0 m c) (a1 m c) (a2 m c) := by
  refine (dats m 0 c).arrAt_eq_of_covers 4 _ (by decide +kernel) fun t hf y => ?_
  obtain ⟨e0, e1⟩ := (idx t).2.2.2.2
  blk_simp
  rw [after0_4, out4]
  refine act_blk m c t _ _ ?_ ?_ <;> blk_simp [e0, e1]

end Cert.ConvFwdIdeal.Rows

namespace Cert.ConvFwdIdeal

open Idealize.ShloMosaic Idealize.ShloMosaic.TcCoe Idealize.SL.Sem
open Cert.ConvFwdRefIdeal.Read

theorem agrees : Cert.algebraic_ConvFwdIdeal_ConvFwdRefIdeal := by
  intro m g m' g' _ hargs
  refine ⟨fun c => val_main_v33 (F := Ideal) (Rows.a0 m c) (Rows.a1 m c) (Rows.a2 m c),
    fun c => val_main_v34 (F := Ideal) (Rows.a0 m c) (Rows.a1 m c) (Rows.a2 m c), ?_, ?_⟩
  · refine (θ_run Cert.ConvFwdIdeal.defs _ _).mono (fun r h c => ?_) (Value.run_blocks m g)
    obtain ⟨k0, k1, k⟩ := h c
    exact ⟨k0.trans (Rows.r3 m c), k1.trans (Rows.r4 m c), k⟩
  · refine (θ_run Cert.ConvFwdRefIdeal.defs _ _).mono (fun r h c => ?_) (Cert.ConvFwdRefIdeal.Value.run (F := Ideal) m' g')
    obtain ⟨h0, h1, h2⟩ := hargs c
    obtain ⟨k0, k1, k⟩ := h c
    refine ⟨k0.trans ?_, k1.trans ?_, k⟩
    · rw [val_main_v33_eq, h0, h1, h2]
    · rw [val_main_v34_eq, h0, h1, h2]

end Cert.ConvFwdIdeal

end
-- ==== Proof.ConvBwd.lean ====
/-
  The causal convolution's backward call. The kernel takes the blocks of 1024 rows from the last one to the first; a
  scratch holds the block's gradient followed by the first eight rows of the block after it, another holds the block's
  input preceded by the eight rows before it. The gradients of the taps and of the bias are added up over the blocks.
-/
module

public import proofs.«01_k».proof.Defs
public import proofs.«01_k».proof.Proof.Fold
public import proofs.«01_k».proof.Proof.Real
public import proofs.«01_k».proof.Proof.Shift
public import proofs.«01_k».proof.Pre_conv_numbers
public import proofs.«01_k».proof.Proof.Gen.Pre_conv_numbers
public import proofs.«01_k».proof.Proof.Gen.ConvBwd.Frame
public import proofs.«01_k».proof.Proof.Gen.ConvBwdIdeal.Value
public import proofs.«01_k».proof.Proof.Gen.ConvBwdRefIdeal.Read
public import proofs.«01_k».proof.Proof.Gen.ConvBwdRefIdeal.Run

@[expose] public section

set_option maxRecDepth 16384

noncomputable section

namespace Cert.ConvBwdIdeal.Rows

open Cert.ConvBwdIdeal Cert.ConvBwdIdeal.Gen Cert.ConvBwdIdeal.Value Idealize.ShloMosaic Idealize.ShloMosaic.TcCoe Idealize.SL.Sem
open Cert.ConvBwdRefIdeal.Read

variable (m : (ℓ : Loc nD τ sig) → Buf (Elt Ideal) ℓ) (c : Dev nD)

abbrev a0 := m ((c : Thread nD τ).loc main_arg0)
abbrev a1 := m ((c : Thread nD τ).loc main_arg1)
abbrev a2 := m ((c : Thread nD τ).loc main_arg2)
abbrev a3 := m ((c : Thread nD τ).loc main_arg3)

theorem V_pre : V m c main_v33 = val_main_v34 (F := Ideal) (a0 m c) (a1 m c) (a2 m c) := by
  unfold V
  after_results <;> rfl
theorem V_dact : V m c main_arg3 = a3 m c := by
  unfold V
  after_results <;> rfl

theorem idx : ∀ t : Fin cfg0.N, (win0_0.index t (0 : Fin 2) = 7 - t.val ∧ win0_0.index t (1 : Fin 2) = 0)
    ∧ (win0_1.index t (0 : Fin 2) = (7 - t.val) * 128 - 1 ∧ win0_1.index t (1 : Fin 2) = 0)
    ∧ (win0_2.index t (0 : Fin 2) = 0 ∧ win0_2.index t (1 : Fin 2) = 0)
    ∧ (win0_3.index t (0 : Fin 2) = 7 - t.val ∧ win0_3.index t (1 : Fin 2) = 0)
    ∧ (win0_4.index t (0 : Fin 2) = 7 - t.val ∧ win0_4.index t (1 : Fin 2) = 0)
    ∧ (win0_5.index t (0 : Fin 2) = 7 - t.val ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0) :=
  (by decide +kernel : ∀ t : Fin grid0.N, _)

/-- The factor on the eight rows before the block: zero at the first block, one elsewhere. -/
theorem before_first : ∀ t : Fin cfg0.N, (Scalar.extui (Scalar.cmpi .slt (BitVec.ofNat 32 (grid0.coords t 0).val) 7#32) : BitVec 32)
    = if t.val < 7 then 1#32 else 0#32 :=
  (by decide +kernel : ∀ t : Fin grid0.N, _)

theorem b_x (t : Fin cfg0.N) (y : S1024x512.Idx) (i : S8192x1664.Idx) (h0 : (i 0).val = (7 - t.val) * 1024 + (y 0).val)
    (h1 : (i 1).val = (y 1).val) : (X0_0 m c t : Vec Ideal S1024x512 .f32) y = (a0 m c : Vec Ideal S8192x1664 .f32) i := by
  obtain ⟨⟨e0, e1⟩, -⟩ := idx t
  unfold X0_0 Pipeline.Window.fill
  rw [dif_pos (moved0_0 t y)]
  blk_point [iblk, V, idx t]

theorem b_halo (t : Fin cfg0.N) (y : S8x512.Idx) (i : S8192x1664.Idx) (h0 : (i 0).val = ((7 - t.val) * 128 - 1) * 8 + (y 0).val)
    (h1 : (i 1).val = (y 1).val) : (X0_1 m c t : Vec Ideal S8x512 .f32) y = (a0 m c : Vec Ideal S8192x1664 .f32) i := by
  obtain ⟨-, ⟨e0, e1⟩, -⟩ := idx t
  unfold X0_1 Pipeline.Window.fill
  rw [dif_pos (moved0_1 t y)]
  blk_point [iblk, V, idx t]

theorem b_w (t : Fin cfg0.N) (y : S4x512.Idx) : (iblk m c 2 t : Vec Ideal S4x512 .f32) y = (a1 m c : Vec Ideal S4x512 .f32) y := by
  obtain ⟨-, -, ⟨e0, e1⟩, -⟩ := idx t
  blk_point [iblk, V, idx t]

theorem b_pre (t : Fin cfg0.N) (y : S1024x512.Idx) (i : S8192x512.Idx) (h0 : (i 0).val = (7 - t.val) * 1024 + (y 0).val)
    (h1 : (i 1).val = (y 1).val) : (iblk m c 3 t : Vec Ideal S1024x512 .f32) y = val_main_v34 (F := Ideal) (a0 m c) (a1 m c) (a2 m c) i := by
  obtain ⟨-, -, -, ⟨e0, e1⟩, -⟩ := idx t
  rw [← V_pre]
  blk_point [iblk, idx t]

theorem b_dact (t : Fin cfg0.N) (y : S1024x512.Idx) (i : S8192x512.Idx) (h0 : (i 0).val = (7 - t.val) * 1024 + (y 0).val)
    (h1 : (i 1).val = (y 1).val) : (iblk m c 4 t : Vec Ideal S1024x512 .f32) y = (a3 m c : Vec Ideal S8192x512 .f32) i := by
  obtain ⟨-, -, -, -, ⟨e0, e1⟩, -⟩ := idx t
  rw [← V_dact]
  blk_point [iblk, idx t]

/-- The gradient arriving is made of numbers. -/
def Nums : Prop := ∀ i, Num.IsR ((a3 m c : Vec Ideal S8192x512 .f32) i)

/-- The two ways of writing the gradient through `p` times its logistic function, whatever `p` is. -/
theorem silu_grad (p : EReal) {d : EReal} (hd : Num.IsR d) :
    d * (Ideal.div 1 (1 + Ideal.exp (-p)) * (1 + p * (1 - Ideal.div 1 (1 + Ideal.exp (-p)))))
      = d * Ideal.div 1 (1 + Ideal.exp (-p)) + p * d * (Ideal.div 1 (1 + Ideal.exp (-p)) * (1 - Ideal.div 1 (1 + Ideal.exp (-p)))) := by
  obtain ⟨d, rfl⟩ := hd
  have one : (1 : EReal) = ((1 : ℝ) : EReal) := rfl
  induction p using EReal.rec with
  | bot =>
    have e : Ideal.div 1 (1 + Ideal.exp (-⊥)) = 0 := by
      rw [EReal.neg_bot, show Ideal.exp ⊤ = ⊤ from rfl, one, EReal.coe_add_top]; simp [Ideal.div]
    rw [e]; simp
  | top =>
    have e : Ideal.div 1 (1 + Ideal.exp (-⊤)) = 1 := by
      rw [EReal.neg_top, show Ideal.exp ⊥ = 0 from rfl, add_zero, one, Num.div_coe one_ne_zero, div_one]
    have z : (1 : EReal) - 1 = 0 := by rw [one, ← EReal.coe_sub, sub_self]; rfl
    rw [e, z]; simp
  | coe p =>
    obtain ⟨s, hs⟩ := Num.sigma (Num.IsR.coe p)
    rw [hs, one]
    norm_cast
    ring

/-- The gradient before the activation by its rows, zero after the last one; the input's rows counted from eight before the first. -/
abbrev dr (r ch : ℕ) : EReal := Shift.rowsAt (val_main_v36 (F := Ideal) (a0 m c) (a1 m c) (a2 m c) (a3 m c) : Vec Ideal S8192x512 .f32) 0 r ch
abbrev xr (r ch : ℕ) : EReal := Shift.rowsAt (a0 m c : Vec Ideal S8192x1664 .f32) 8 r ch

/-- What the two scratches hold at point `t`, from row `k` on. -/
def D0 (t : ℕ) : FVec Ideal S1032x512 .f32 := fun y => dr m c ((7 - t) * 1024 + (y 0).val) (y 1).val
def D (t k : ℕ) : FVec Ideal S1024x512 .f32 := fun y => dr m c ((7 - t) * 1024 + (k + (y 0).val)) (y 1).val
def X0 (t : ℕ) : FVec Ideal S1032x512 .f32 := fun y => xr m c ((7 - t) * 1024 + (y 0).val) (y 1).val
def X (t k : ℕ) : FVec Ideal S1024x512 .f32 := fun y => xr m c ((7 - t) * 1024 + (k + (y 0).val)) (y 1).val

variable {m c}

theorem v36_at (n : Nums m c) (t : Fin cfg0.N) (y : S1024x512.Idx) (i : S8192x512.Idx) (h0 : (i 0).val = (7 - t.val) * 1024 + (y 0).val)
    (h1 : (i 1).val = (y 1).val) : k0_pay5 (iblk m c 3 t) (iblk m c 4 t) y = val_main_v36 (F := Ideal) (a0 m c) (a1 m c) (a2 m c) (a3 m c) i := by
  pointwise [k0_pay5, val_main_v36, val_main_call1_v2, val_main_call1_v1, val_main_call1_v0, val_main_v35_2, val_main_v35_1, val_main_call0_v7,
    val_main_call0_v6, val_main_call0_v4, val_main_call0_v3, val_main_call0_v2, val_main_call0_v1, val_main_call0_v0, val_main_call0_cst,
    val_main_call0_cst_0, val_main_call0_cst_1]
  rw [b_pre m c t y i h0 h1, b_dact m c t y i h0 h1, zero_sub]
  exact silu_grad _ (n i)

theorem dpre (n : Nums m c) (t : Fin cfg0.N) : k0_pay5 (iblk m c 3 t) (iblk m c 4 t) = D m c t.val 0 := by
  have ht : t.val < 8 := t.isLt.trans_eq N_0
  funext y
  have h0 : (y 0).val < 1024 := (y 0).isLt
  have h1 : (y 1).val < 512 := (y 1).isLt
  rw [v36_at n t y (fun a => match a with
      | ⟨0, _⟩ => ⟨(7 - t.val) * 1024 + (y 0).val, show (7 - t.val) * 1024 + (y 0).val < 8192 by omega⟩
      | ⟨1, _⟩ => ⟨(y 1).val, show (y 1).val < 512 by omega⟩) rfl rfl]
  refine (Shift.rowsAt_hit _ _ _ ?_ rfl).symm
  show (7 - t.val) * 1024 + (0 + (y 0).val) = (7 - t.val) * 1024 + (y 0).val + 0
  omega

abbrev Pieces := List (View.Piece (Elt Ideal) S1032x512 .f32)
abbrev twoD (p : FVec Ideal S1024x512 .f32) (q : FVec Ideal S8x512 .f32) (L : Pieces) : Pieces :=
  ⟨Rect.unit ![0, 0] ![1024, 512] inb_S1032x512_S1024x512_0_0, p⟩ :: ⟨Rect.unit ![1024, 0] ![8, 512] inb_S1032x512_S8x512_1024_0, q⟩ :: L
abbrev twoX (p : FVec Ideal S1024x512 .f32) (q : FVec Ideal S8x512 .f32) (L : Pieces) : Pieces :=
  ⟨Rect.unit ![8, 0] ![1024, 512] inb_S1032x512_S1024x512_8_0, p⟩ :: ⟨Rect.unit ![0, 0] ![8, 512] inb_S1032x512_S8x512_0_0, q⟩ :: L

theorem canon_d (n : Nums m c) (t : Fin cfg0.N) (q : FVec Ideal S8x512 .f32) (L : Pieces)
    (hq : ∀ x : S8x512.Idx, q x = dr m c ((7 - t.val) * 1024 + (1024 + (x 0).val)) (x 1).val) :
    View.canon (twoD (k0_pay7 (iblk m c 3 t) (iblk m c 4 t)) q L) = D0 m c t.val := by
  funext y
  refine View.canon_append_of_piecesOf (D0 m c t.val) L (twoD (k0_pay7 (iblk m c 3 t) (iblk m c 4 t)) q []) ⟨fun x => ?_, fun x => ?_, trivial⟩ y
    (View.cover_of_tiledBy (twoD (k0_pay7 (iblk m c 3 t) (iblk m c 4 t)) q []) ![8, 512] (by sl_kernel_rfl) y)
  · show _ = dr m c ((7 - t.val) * 1024 + (0 + 1 * (x 0).val)) (0 + 1 * (x 1).val)
    pointwise [k0_pay7]
    rw [dpre n t]
    show dr m c ((7 - t.val) * 1024 + (0 + (x 0).val)) (x 1).val = _
    rw [zero_add]
  · show _ = dr m c ((7 - t.val) * 1024 + (1024 + 1 * (x 0).val)) (0 + 1 * (x 1).val)
    rw [zero_add, one_mul, one_mul]
    exact hq x

theorem load_d (n : Nums m c) (t : Fin cfg0.N) (q : FVec Ideal S8x512 .f32) (L : Pieces) (v : View sig .tc .vmem S1032x512 .f32) (k : ℕ)
    (inb : ∀ a, (![k, 0] : Fin 2 → ℕ) a + S1024x512.size a ≤ S1032x512.size a)
    (hq : ∀ x : S8x512.Idx, q x = dr m c ((7 - t.val) * 1024 + (1024 + (x 0).val)) (x 1).val) :
    v.readCov (twoD (k0_pay7 (iblk m c 3 t) (iblk m c 4 t)) q L) (Rect.unit (s := S1032x512) ![k, 0] S1024x512.size inb).toLoadRect = D m c t.val k := by
  rw [View.readCov_eq_canon', canon_d n t q L hq]
  funext j
  show dr m c ((7 - t.val) * 1024 + (k + 1 * (j 0).val)) (0 + 1 * (j 1).val) = _
  rw [one_mul, one_mul, zero_add]
  rfl

theorem halo (t : Fin cfg0.N) (x : S8x512.Idx) :
    k0_pay9 (k0_pay8 (grid0.coords t) (X0_1 m c t)) x = xr m c ((7 - t.val) * 1024 + (x 0).val) (x 1).val := by
  have ht : t.val < 8 := t.isLt.trans_eq N_0
  have h0 : (x 0).val < 8 := (x 0).isLt
  have h1 : (x 1).val < 512 := (x 1).isLt
  pointwise [k0_pay9, k0_pay8]
  rw [before_first t]
  by_cases h : t.val < 7
  · rw [if_pos h, b_halo m c t x (fun a => match a with
      | ⟨0, _⟩ => ⟨((7 - t.val) * 128 - 1) * 8 + (x 0).val, show ((7 - t.val) * 128 - 1) * 8 + (x 0).val < 8192 by omega⟩
      | ⟨1, _⟩ => ⟨(x 1).val, show (x 1).val < 1664 by omega⟩) rfl rfl]
    rw [show ((1#32 : BitVec 32).toInt : ℝ) = 1 by norm_num, EReal.coe_one, mul_one]
    refine (Shift.rowsAt_hit _ _ _ ?_ ?_).symm
    · show (7 - t.val) * 1024 + (x 0).val = ((7 - t.val) * 128 - 1) * 8 + (x 0).val + 8
      omega
    · rfl
  · rw [if_neg h]
    refine Eq.trans ?_ (Shift.rowsAt_low _ _ (by omega)).symm
    rw [show ((0#32 : BitVec 32).toInt : ℝ) = 0 by norm_num, EReal.coe_zero, mul_zero]

theorem canon_x (t : Fin cfg0.N) (L : Pieces) :
    View.canon (twoX (k0_pay10 (X0_0 m c t)) (k0_pay9 (k0_pay8 (grid0.coords t) (X0_1 m c t))) L) = X0 m c t.val := by
  have ht : t.val < 8 := t.isLt.trans_eq N_0
  funext y
  refine View.canon_append_of_piecesOf (X0 m c t.val) L (twoX (k0_pay10 (X0_0 m c t)) (k0_pay9 (k0_pay8 (grid0.coords t) (X0_1 m c t))) [])
    ⟨fun x => ?_, fun x => ?_, trivial⟩ y
    (View.cover_of_tiledBy (twoX (k0_pay10 (X0_0 m c t)) (k0_pay9 (k0_pay8 (grid0.coords t) (X0_1 m c t))) []) ![8, 512] (by sl_kernel_rfl) y)
  · have h0 : (x 0).val < 1024 := (x 0).isLt
    have h1 : (x 1).val < 512 := (x 1).isLt
    show _ = xr m c ((7 - t.val) * 1024 + (8 + 1 * (x 0).val)) (0 + 1 * (x 1).val)
    pointwise [k0_pay10]
    rw [b_x m c t x (fun a => match a with
      | ⟨0, _⟩ => ⟨(7 - t.val) * 1024 + (x 0).val, show (7 - t.val) * 1024 + (x 0).val < 8192 by omega⟩
      | ⟨1, _⟩ => ⟨(x 1).val, show (x 1).val < 1664 by omega⟩) rfl rfl]
    refine (Shift.rowsAt_hit _ _ _ ?_ ?_).symm
    · show _ = (7 - t.val) * 1024 + (x 0).val + 8; omega
    · show _ = (x 1).val; omega
  · show _ = xr m c ((7 - t.val) * 1024 + (0 + 1 * (x 0).val)) (0 + 1 * (x 1).val)
    rw [zero_add, zero_add, one_mul, one_mul]
    exact halo t x

theorem load_x (t : Fin cfg0.N) (L : Pieces) (v : View sig .tc .vmem S1032x512 .f32) (k : ℕ)
    (inb : ∀ a, (![k, 0] : Fin 2 → ℕ) a + S1024x512.size a ≤ S1032x512.size a) :
    v.readCov (twoX (k0_pay10 (X0_0 m c t)) (k0_pay9 (k0_pay8 (grid0.coords t) (X0_1 m c t))) L)
      (Rect.unit (s := S1032x512) ![k, 0] S1024x512.size inb).toLoadRect = X m c t.val k := by
  rw [View.readCov_eq_canon', canon_x t L]
  funext j
  show xr m c ((7 - t.val) * 1024 + (k + 1 * (j 0).val)) (0 + 1 * (j 1).val) = _
  rw [one_mul, one_mul, zero_add]
  rfl

theorem s_step (t : Fin cfg0.N) (h : ¬ t.val % 8 = 0) (ih : (outsAt0 m c (t.val - 1) (Nat.lt_of_le_of_lt (Nat.sub_le _ _) t.isLt)).2.2.2 = D0 m c (t.val - 1)) (x : S8x512.Idx) :
    k0_pay6 (View.ld (View.read (Elt Ideal) (View.whole cc0_scratch0)
                    ((Memref.isWhole_whole cc0_scratch0).unread (outsAt0 m c (t.val - 1) (Nat.lt_of_le_of_lt (Nat.sub_le _ _) t.isLt)).2.2.2))
                  (Rect.unit ![0, 0] ![8, 512] inb_S1032x512_S8x512_0_0)) x = dr m c ((7 - t.val) * 1024 + (1024 + (x 0).val)) (x 1).val := by
  have ht : t.val < 8 := t.isLt.trans_eq N_0
  rw [ih]
  pointwise [k0_pay6]
  rw [(Memref.isWhole_whole cc0_scratch0).read_unread]
  show dr m c ((7 - (t.val - 1)) * 1024 + (x 0).val) (x 1).val = _
  rw [show (7 - (t.val - 1)) * 1024 + (x 0).val = (7 - t.val) * 1024 + (1024 + (x 0).val) by omega]

theorem a_step (v : View sig .tc .vmem S1032x512 .f32) (t : Fin cfg0.N) (h : t.val % 8 = 0) (x : S8x512.Idx) :
    k0_pay6 (F := Ideal) (v.readCov ([⟨Rect.unit ![0, 0] ![1032, 512] inb_S1032x512_S1032x512_0_0, k0_pay2 (F := Ideal)⟩] : Pieces)
      (Rect.unit (s := S1032x512) ![0, 0] ![8, 512] inb_S1032x512_S8x512_0_0).toLoadRect) x = dr m c ((7 - t.val) * 1024 + (1024 + (x 0).val)) (x 1).val := by
  have ht : t.val < 8 := t.isLt.trans_eq N_0
  rw [View.readCov_fill v inb_S1032x512_S1032x512_0_0 _ _ _ (by decide)]
  refine Eq.trans ?_ (Shift.rowsAt_high _ _ (by omega)).symm
  pointwise [k0_pay6, k0_pay2]

theorem sA (n : Nums m c) (t : Fin cfg0.N) (h : t.val % 8 = 0) : (outsAt0 m c t.val t.isLt).2.2.2 = D0 m c t.val := by
  rw [outsAt0_A m c t h]
  frame_out [sout0_A_0, kernelRun0_A]
  exact canon_d n t _ _ (a_step _ t h)

theorem sB (n : Nums m c) (t : Fin cfg0.N) (h : ¬ t.val % 8 = 0)
    (ih : (outsAt0 m c (t.val - 1) (Nat.lt_of_le_of_lt (Nat.sub_le _ _) t.isLt)).2.2.2 = D0 m c (t.val - 1)) :
    (outsAt0 m c t.val t.isLt).2.2.2 = D0 m c t.val := by
  rw [outsAt0_B m c t h]
  frame_out [sout0_B_0, kernelRun0_B]
  exact canon_d n t _ _ (s_step t h ih)

theorem scr (n : Nums m c) (k : ℕ) (hk : k < cfg0.N) : (outsAt0 m c k hk).2.2.2 = D0 m c k := by
  have hN : cfg0.N = 8 := N_0
  induction k with
  | zero => exact sA n ⟨0, hk⟩ rfl
  | succ k ih => exact sB n ⟨k + 1, hk⟩ (by show ¬ (k + 1) % 8 = 0; omega) (ih _)

abbrev W (t : Fin cfg0.N) (k : ℕ) (inb : ∀ a, (![k, 0] : Fin 2 → ℕ) a + S1x512.size a ≤ S4x512.size a) : FVec Ideal S1x512 .f32 :=
  View.ld (iblk m c 2 t) (Rect.unit (s := S4x512) ![k, 0] S1x512.size inb)

theorem out5 (n : Nums m c) (t : Fin cfg0.N) : (outsAt0 m c t.val t.isLt).1
    = k0_pay16 (F := Ideal) (k0_pay12 (W (m := m) (c := c) t 0 inb_S4x512_S1x512_0_0) (D m c t.val 3) (W (m := m) (c := c) t 1 inb_S4x512_S1x512_1_0) (D m c t.val 2))
      (W (m := m) (c := c) t 2 inb_S4x512_S1x512_2_0) (D m c t.val 1) (W (m := m) (c := c) t 3 inb_S4x512_S1x512_3_0) (D m c t.val 0) := by
  by_cases h : t.val % 8 = 0
  · rw [outsAt0_A m c t h]
    frame_out [out0_A_5, kernelRun0_A]
    rw [load_d n t _ _ _ 3, load_d n t _ _ _ 2, load_d n t _ _ _ 1, load_d n t _ _ _ 0]
    · rfl
    all_goals exact a_step _ t h
  · rw [outsAt0_B m c t h]
    frame_out [out0_B_5, kernelRun0_B]
    rw [load_d n t _ _ _ 3, load_d n t _ _ _ 2, load_d n t _ _ _ 1, load_d n t _ _ _ 0]
    · rfl
    all_goals exact s_step t h (scr n _ _)

/-- The taps' gradient: its four rows, each with a block's share added to it. -/
abbrev WPieces := List (View.Piece (Elt Ideal) S4x512 .f32)
abbrev row (k : ℕ) (inb : ∀ a, (![k, 0] : Fin 2 → ℕ) a + (![1, 512] : Fin 2 → ℕ) a ≤ S4x512.size a) : Rect S4x512 := Rect.unit ![k, 0] ![1, 512] inb
theorem row_emb (k : ℕ) (hk : k < 4) (inb : ∀ a, (![k, 0] : Fin 2 → ℕ) a + (![1, 512] : Fin 2 → ℕ) a ≤ S4x512.size a) (x : S1x512.Idx) :
    (row k inb).emb x = ix2 (⟨k, hk⟩ : Fin 4) (x 1) := by
  have h0 : (x 0).val < 1 := (x 0).isLt
  funext d
  fin_cases d
  · exact Fin.ext (show k + 1 * (x 0).val = k by omega)
  · exact Fin.ext (show 0 + 1 * (x 1).val = (x 1).val by omega)
abbrev fill : WPieces := [⟨Rect.unit ![0, 0] ![4, 512] inb_S4x512_S4x512_0_0, k0_pay3 (F := Ideal)⟩]
abbrev four (t : Fin cfg0.N) (P : FVec Ideal S4x512 .f32) (L : WPieces) : WPieces :=
  ⟨row 3 inb_S4x512_S1x512_3_0, k0_pay15 (D m c t.val 0) (View.ld P (row 3 inb_S4x512_S1x512_3_0)) (X m c t.val 8)⟩
  :: ⟨row 2 inb_S4x512_S1x512_2_0, k0_pay14 (D m c t.val 0) (View.ld P (row 2 inb_S4x512_S1x512_2_0)) (X m c t.val 7)⟩
  :: ⟨row 1 inb_S4x512_S1x512_1_0, k0_pay13 (D m c t.val 0) (View.ld P (row 1 inb_S4x512_S1x512_1_0)) (X m c t.val 6)⟩
  :: ⟨row 0 inb_S4x512_S1x512_0_0, k0_pay11 (D m c t.val 0) (View.ld P (row 0 inb_S4x512_S1x512_0_0)) (X m c t.val 5)⟩ :: L

def wpart (t : Fin cfg0.N) (y : S4x512.Idx) : EReal := ∑ j : Fin 1024, D m c t.val 0 (ix2 j (y 1)) * X m c t.val (5 + (y 0).val) (ix2 j (y 1))
def bpart (t : Fin cfg0.N) (y : S1x512.Idx) : EReal := ∑ j : Fin 1024, D m c t.val 0 (ix2 j (y 1))

theorem canon_four (t : Fin cfg0.N) (P : FVec Ideal S4x512 .f32) (L : WPieces) (y : S4x512.Idx) :
    View.canon (four (m := m) (c := c) t P L) y = P y + wpart (m := m) (c := c) t y := by
  refine View.canon_append_of_piecesOf (fun y => P y + wpart (m := m) (c := c) t y) L (four (m := m) (c := c) t P [])
    ⟨fun x => ?_, fun x => ?_, fun x => ?_, fun x => ?_, trivial⟩ y (View.cover_of_tiledBy (four (m := m) (c := c) t P []) ![1, 512] (by sl_kernel_rfl) y)
  · rw [row_emb 3 (by decide)]; pointwise [wpart, k0_pay15]
  · rw [row_emb 2 (by decide)]; pointwise [wpart, k0_pay14]
  · rw [row_emb 1 (by decide)]; pointwise [wpart, k0_pay13]
  · rw [row_emb 0 (by decide)]; pointwise [wpart, k0_pay11]

variable (v : View sig .tc .vmem S4x512 .f32)

theorem w_load0 : v.readCov fill (row 0 inb_S4x512_S1x512_0_0).toLoadRect = View.ld (k0_pay3 (F := Ideal)) (row 0 inb_S4x512_S1x512_0_0) :=
  View.readCov_fill v inb_S4x512_S4x512_0_0 _ _ _ (by decide)
theorem w_load1 (p : FVec Ideal S1x512 .f32) : v.readCov (⟨row 0 inb_S4x512_S1x512_0_0, p⟩ :: fill) (row 1 inb_S4x512_S1x512_1_0).toLoadRect
    = View.ld (k0_pay3 (F := Ideal)) (row 1 inb_S4x512_S1x512_1_0) := by
  rw [View.readCov_skip v _ _ _ _ (by decide), View.readCov_fill v inb_S4x512_S4x512_0_0 _ _ _ (by decide)]
theorem w_load2 (p q : FVec Ideal S1x512 .f32) : v.readCov (⟨row 1 inb_S4x512_S1x512_1_0, q⟩ :: ⟨row 0 inb_S4x512_S1x512_0_0, p⟩ :: fill)
    (row 2 inb_S4x512_S1x512_2_0).toLoadRect = View.ld (k0_pay3 (F := Ideal)) (row 2 inb_S4x512_S1x512_2_0) := by
  rw [View.readCov_skip v _ _ _ _ (by decide), View.readCov_skip v _ _ _ _ (by decide), View.readCov_fill v inb_S4x512_S4x512_0_0 _ _ _ (by decide)]
theorem w_load3 (p q r : FVec Ideal S1x512 .f32) : v.readCov (⟨row 2 inb_S4x512_S1x512_2_0, r⟩ :: ⟨row 1 inb_S4x512_S1x512_1_0, q⟩ :: ⟨row 0 inb_S4x512_S1x512_0_0, p⟩ :: fill)
    (row 3 inb_S4x512_S1x512_3_0).toLoadRect = View.ld (k0_pay3 (F := Ideal)) (row 3 inb_S4x512_S1x512_3_0) := by
  rw [View.readCov_skip v _ _ _ _ (by decide), View.readCov_skip v _ _ _ _ (by decide), View.readCov_skip v _ _ _ _ (by decide),
    View.readCov_fill v inb_S4x512_S4x512_0_0 _ _ _ (by decide)]

theorem accw (n : Nums m c) (t : Fin cfg0.N) (ht : t.val % 8 = 7) (y : S4x512.Idx) :
    (outsAt0 m c t.val t.isLt).2.1 y = ∑ s : Fin 8, wpart (m := m) (c := c) ⟨8 * (t.val / 8) + s.val, by have := t.isLt; have := Nat.div_add_mod t.val 8; omega⟩ y := by
  rw [Pipeline.eq_sum_fin_of_reset_step_apply_of_flush (fun n h => (outsAt0 m c n h).2.1) 8 (fun _ => (0 : EReal))
    (fun t y => wpart (m := m) (c := c) t y)
    (fun t h y => by
      rw [outsAt0_A m c t h]
      frame_out [out0_A_6, kernelRun0_A]
      simp only [dpre n t, load_x t]
      simp only [w_load0, w_load1, w_load2, w_load3]
      refine (canon_four t k0_pay3 _ y).trans ?_
      pointwise [k0_pay3])
    (fun t h y => by
      rw [outsAt0_B m c t h]
      frame_out [out0_B_6, kernelRun0_B]
      simp only [dpre n t, load_x t]
      exact canon_four t _ _ y) t ht y, zero_add]

theorem accb (n : Nums m c) (t : Fin cfg0.N) (ht : t.val % 8 = 7) (y : S1x512.Idx) :
    (outsAt0 m c t.val t.isLt).2.2.1 y = ∑ s : Fin 8, bpart (m := m) (c := c) ⟨8 * (t.val / 8) + s.val, by have := t.isLt; have := Nat.div_add_mod t.val 8; omega⟩ y := by
  rw [Pipeline.eq_sum_fin_of_reset_step_apply_of_flush (fun n h => (outsAt0 m c n h).2.2.1) 8 (fun _ => (0 : EReal))
    (fun t y => bpart (m := m) (c := c) t y)
    (fun t h y => by
      rw [outsAt0_A m c t h]
      frame_out [out0_A_7, kernelRun0_A]
      rw [dpre n t]
      pointwise [k0_pay1, k0_pay4, bpart])
    (fun t h y => by
      rw [outsAt0_B m c t h]
      frame_out [out0_B_7, kernelRun0_B]
      rw [dpre n t]
      pointwise [k0_pay1, bpart]) t ht y, zero_add]

theorem x3_at (y : Cert.ConvBwdRefIdeal.S8195x512.Idx) (r : ℕ) (hr : r = 5 + (y 0).val) : val_main_v3 (F := Ideal) (a0 m c) y = xr m c r (y 1).val := by
  have h0 : (y 0).val < 8195 := (y 0).isLt
  have h1 : (y 1).val < 512 := (y 1).isLt
  pointwise [val_main_v3, val_main_v2, val_main_cst, val_main_v0]
  by_cases h : (y 0).val < 3
  · rw [dif_pos h]
    exact (Shift.rowsAt_low _ _ (by omega)).symm
  · rw [dif_neg h]
    refine (Shift.rowsAt_hit _ _ _ ?_ rfl).symm
    show r = (y 0).val - 3 + 8
    omega

theorem dr_at (i : S8192x512.Idx) : dr m c (i 0).val (i 1).val = val_main_v36 (F := Ideal) (a0 m c) (a1 m c) (a2 m c) (a3 m c) i :=
  Shift.rowsAt_hit _ _ _ rfl rfl

theorem dx_at (i : S8192x512.Idx) : val_main_v85 (F := Ideal) (a0 m c) (a1 m c) (a2 m c) (a3 m c) i
    = dr m c (i 0).val (i 1).val * (a1 m c : Vec Ideal S4x512 .f32) (ix2 3 (i 1)) + dr m c (1 + (i 0).val) (i 1).val * (a1 m c : Vec Ideal S4x512 .f32) (ix2 2 (i 1))
      + dr m c (2 + (i 0).val) (i 1).val * (a1 m c : Vec Ideal S4x512 .f32) (ix2 1 (i 1)) + dr m c (3 + (i 0).val) (i 1).val * (a1 m c : Vec Ideal S4x512 .f32) (ix2 0 (i 1)) := by
  have h0 : (i 0).val < 8192 := (i 0).isLt
  pointwise [val_main_v85, val_main_v84, val_main_v83, val_main_v82, val_main_v81, val_main_v80, val_main_v79, val_main_v78, val_main_v77, val_main_v76, val_main_v75, val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18,
    val_main_v28, val_main_v21, val_main_v14, val_main_v8, val_main_v27, val_main_v26, val_main_v20, val_main_v19, val_main_v13, val_main_v12, val_main_v7, val_main_v6, val_main_v25, val_main_v24, val_main_v18, val_main_v17, val_main_v11, val_main_v10, val_main_v5, val_main_v4]
  refine congrArg₂ (· + ·) (congrArg₂ (· + ·) (congrArg₂ (· + ·) ?_ ?_) ?_) ?_
  · exact congrArg (· * _) (dr_at i).symm
  · exact Shift.dif_rowsAt _ _ (by omega) (fun h => show _ = 3 + (i 0).val - 2 + 0 by omega) (fun _ => rfl)
  · exact Shift.dif_rowsAt _ _ (by omega) (fun h => show _ = 3 + (i 0).val - 1 + 0 by omega) (fun _ => rfl)
  · exact Shift.dif_rowsAt _ _ (by omega) (fun h => show _ = 3 + (i 0).val + 0 by omega) (fun _ => rfl)

/-- One tap's gradient at one channel, and the term a row brings to it. -/
abbrev tap (k ch r : ℕ) : EReal := dr m c r ch * xr m c (r + (5 + k)) ch

theorem tap_sum (k : ℕ) (ch : Fin 512) (z : Fin 8192 → Cert.ConvBwdRefIdeal.S8195x512.Idx) (hz : ∀ r, (z r 0).val = k + r.val) (hc : ∀ r, z r 1 = ch) :
    (∑ _x : Fin 1, ∑ r : Fin 8192, val_main_v3 (F := Ideal) (a0 m c) (z r) * val_main_v36 (F := Ideal) (a0 m c) (a1 m c) (a2 m c) (a3 m c) (ix2 r ch))
      = ∑ r : Fin 8192, tap (m := m) (c := c) k ch.val r.val := by
  rw [Fin.sum_univ_one]
  refine Finset.sum_congr rfl fun r _ => ?_
  rw [x3_at (z r) (r.val + (5 + k)) (by rw [hz]; omega), hc, ← dr_at, mul_comm]
  rfl

theorem dw_at (i : S4x512.Idx) : val_main_v79 (F := Ideal) (a0 m c) (a1 m c) (a2 m c) (a3 m c) i
    = ∑ r : Fin 8192, tap (m := m) (c := c) (i 0).val (i 1).val r.val := by
  pointwise [val_main_v85, val_main_v84, val_main_v83, val_main_v82, val_main_v81, val_main_v80, val_main_v79, val_main_v78, val_main_v77, val_main_v76, val_main_v75, val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18,
    val_main_v28, val_main_v21, val_main_v14, val_main_v8, val_main_v27, val_main_v26, val_main_v20, val_main_v19, val_main_v13, val_main_v12, val_main_v7, val_main_v6, val_main_v25, val_main_v24, val_main_v18, val_main_v17, val_main_v11, val_main_v10, val_main_v5, val_main_v4]
  refine Shift.pick (i 0).val (i 0).isLt (fun k => ∑ r : Fin 8192, tap (m := m) (c := c) k (i 1).val r.val) ?_ ?_ ?_ ?_
  · exact tap_sum 3 (i 1) _ (fun _ => rfl) (fun _ => rfl)
  · exact tap_sum 2 (i 1) _ (fun _ => rfl) (fun _ => rfl)
  · exact tap_sum 1 (i 1) _ (fun _ => rfl) (fun _ => rfl)
  · exact tap_sum 0 (i 1) _ (fun _ => (zero_add _).symm) (fun _ => rfl)

theorem db_at (i : S1x512.Idx) : val_main_v84 (F := Ideal) (a0 m c) (a1 m c) (a2 m c) (a3 m c) i = ∑ r : Fin 8192, dr m c r.val (i 1).val := by
  pointwise [val_main_v85, val_main_v84, val_main_v83, val_main_v82, val_main_v81, val_main_v80, val_main_v79, val_main_v78, val_main_v77, val_main_v76, val_main_v75, val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18,
    val_main_v28, val_main_v21, val_main_v14, val_main_v8, val_main_v27, val_main_v26, val_main_v20, val_main_v19, val_main_v13, val_main_v12, val_main_v7, val_main_v6, val_main_v25, val_main_v24, val_main_v18, val_main_v17, val_main_v11, val_main_v10, val_main_v5, val_main_v4]
  rw [Fin.sum_univ_one]
  exact Finset.sum_congr rfl fun r _ => (dr_at (ix2 r (i 1))).symm

theorem taps (w0 w1 w2 w3 d0 d1 d2 d3 : EReal) : w0 * d3 + w1 * d2 + w2 * d1 + w3 * d0 = d0 * w3 + d1 * w2 + d2 * w1 + d3 * w0 := by
  ac_rfl

theorem dx_blk (t : Fin cfg0.N) (y : S1024x512.Idx) (i : S8192x512.Idx) (h0 : (i 0).val = (7 - t.val) * 1024 + (y 0).val)
    (h1 : (i 1).val = (y 1).val) :
    k0_pay16 (F := Ideal) (k0_pay12 (W (m := m) (c := c) t 0 inb_S4x512_S1x512_0_0) (D m c t.val 3) (W (m := m) (c := c) t 1 inb_S4x512_S1x512_1_0) (D m c t.val 2))
      (W (m := m) (c := c) t 2 inb_S4x512_S1x512_2_0) (D m c t.val 1) (W (m := m) (c := c) t 3 inb_S4x512_S1x512_3_0) (D m c t.val 0) y
    = val_main_v85 (F := Ideal) (a0 m c) (a1 m c) (a2 m c) (a3 m c) i := by
  rw [dx_at, h0, h1]
  have e : i 1 = y 1 := Fin.ext h1
  pointwise [W, k0_pay16, k0_pay12]
  rw [b_w, b_w, b_w, b_w, e]
  unfold D
  rw [zero_add (y 0).val, show 1 + ((7 - t.val) * 1024 + (y 0).val) = (7 - t.val) * 1024 + (1 + (y 0).val) by omega,
    show 2 + ((7 - t.val) * 1024 + (y 0).val) = (7 - t.val) * 1024 + (2 + (y 0).val) by omega, show 3 + ((7 - t.val) * 1024 + (y 0).val) = (7 - t.val) * 1024 + (3 + (y 0).val) by omega]
  exact taps _ _ _ _ _ _ _ _

theorem r5 (n : Nums m c) : (dats m 0 c).arrAt 5 cfg0.N = val_main_v85 (F := Ideal) (a0 m c) (a1 m c) (a2 m c) (a3 m c) := by
  refine (dats m 0 c).arrAt_eq_of_covers 5 _ (by decide +kernel) fun t hf y => ?_
  obtain ⟨e0, e1⟩ := (idx t).2.2.2.2.2.1
  blk_simp
  rw [after0_5, out5 n]
  refine dx_blk t _ _ ?_ ?_ <;> blk_simp [e0, e1]

theorem out6 (n : Nums m c) (t : Fin cfg0.N) (ht : t.val % 8 = 7) (y i : S4x512.Idx) (h0 : (i 0).val = (y 0).val) (h1 : (i 1).val = (y 1).val) :
    (outsAt0 m c t.val t.isLt).2.1 y = val_main_v79 (F := Ideal) (a0 m c) (a1 m c) (a2 m c) (a3 m c) i := by
  have hz : t.val / 8 = 0 := by have := t.isLt.trans_eq N_0; omega
  rw [accw n t ht, dw_at, h0, h1, ← Shift.sum_rev (fun r => tap (m := m) (c := c) (y 0).val (y 1).val r)]
  refine Finset.sum_congr rfl fun s _ => Finset.sum_congr rfl fun j _ => ?_
  show dr m c ((7 - (8 * (t.val / 8) + s.val)) * 1024 + (0 + j.val)) (y 1).val
    * xr m c ((7 - (8 * (t.val / 8) + s.val)) * 1024 + (5 + (y 0).val + j.val)) (y 1).val = _
  rw [hz, show 8 * 0 + s.val = s.val by omega, zero_add,
    show (7 - s.val) * 1024 + (5 + (y 0).val + j.val) = (7 - s.val) * 1024 + j.val + (5 + (y 0).val) by omega]

theorem out7 (n : Nums m c) (t : Fin cfg0.N) (ht : t.val % 8 = 7) (y i : S1x512.Idx) (h1 : (i 1).val = (y 1).val) :
    (outsAt0 m c t.val t.isLt).2.2.1 y = val_main_v84 (F := Ideal) (a0 m c) (a1 m c) (a2 m c) (a3 m c) i := by
  have hz : t.val / 8 = 0 := by have := t.isLt.trans_eq N_0; omega
  rw [accb n t ht, db_at, h1, ← Shift.sum_rev (fun r => dr m c r (y 1).val)]
  refine Finset.sum_congr rfl fun s _ => Finset.sum_congr rfl fun j _ => ?_
  show dr m c ((7 - (8 * (t.val / 8) + s.val)) * 1024 + (0 + j.val)) (y 1).val = _
  rw [hz, show 8 * 0 + s.val = s.val by omega, zero_add]

theorem r6 (n : Nums m c) : (dats m 0 c).arrAt 6 cfg0.N = val_main_v79 (F := Ideal) (a0 m c) (a1 m c) (a2 m c) (a3 m c) := by
  refine (dats m 0 c).arrAt_eq_of_covers 6 _ (by decide +kernel) fun t hf y => ?_
  obtain ⟨e0, e1⟩ := (idx t).2.2.2.2.2.2.1
  blk_simp
  rw [after0_6]
  refine out6 n t ((flush0_6 t).mp hf) _ _ ?_ ?_ <;> blk_simp [e0, e1]

theorem r7 (n : Nums m c) : (dats m 0 c).arrAt 7 cfg0.N = val_main_v84 (F := Ideal) (a0 m c) (a1 m c) (a2 m c) (a3 m c) := by
  refine (dats m 0 c).arrAt_eq_of_covers 7 _ (by decide +kernel) fun t hf y => ?_
  obtain ⟨e0, e1⟩ := (idx t).2.2.2.2.2.2.2
  blk_simp
  rw [after0_7]
  refine out7 n t ((flush0_7 t).mp hf) _ _ ?_ <;> blk_simp [e1]

end Cert.ConvBwdIdeal.Rows

namespace Cert.ConvBwdIdeal

open Idealize.ShloMosaic Idealize.ShloMosaic.TcCoe Idealize.SL.Sem
open Cert.ConvBwdRefIdeal.Read

theorem nums {m : (ℓ : Loc nD τ sig) → Buf (Elt Ideal) ℓ} (h : Pre_ConvBwdIdeal_conv_numbers m) (c : Dev nD) : Rows.Nums m c :=
  fun i => Num.of_finite _ (congrFun (h c) i)

theorem agrees : Cert.algebraic_ConvBwdIdeal_ConvBwdRefIdeal_pre_conv_numbers := by
  intro m g m' g' hp hargs
  have n := fun c => nums hp c
  refine ⟨fun c => val_main_v85 (F := Ideal) (Rows.a0 m c) (Rows.a1 m c) (Rows.a2 m c) (Rows.a3 m c),
    fun c => val_main_v79 (F := Ideal) (Rows.a0 m c) (Rows.a1 m c) (Rows.a2 m c) (Rows.a3 m c),
    fun c => val_main_v84 (F := Ideal) (Rows.a0 m c) (Rows.a1 m c) (Rows.a2 m c) (Rows.a3 m c), ?_, ?_⟩
  · refine (θ_run Cert.ConvBwdIdeal.defs _ _).mono (fun r h c => ?_) (Value.run_blocks m g)
    obtain ⟨k0, k1, k2, k⟩ := h c
    exact ⟨k0.trans (Rows.r5 (n c)), k1.trans (Rows.r6 (n c)), k2.trans (Rows.r7 (n c)), k⟩
  · refine (θ_run Cert.ConvBwdRefIdeal.defs _ _).mono (fun r h c => ?_) (Cert.ConvBwdRefIdeal.Value.run (F := Ideal) m' g')
    obtain ⟨h0, h1, h2, h3⟩ := hargs c
    obtain ⟨k0, k1, k2, k⟩ := h c
    refine ⟨k0.trans ?_, k1.trans ?_, k2.trans ?_, k⟩
    · rw [val_main_v85_eq, h0, h1, h2, h3]
    · rw [val_main_v79_eq, h0, h1, h2, h3]
    · rw [val_main_v84_eq, h0, h1, h2, h3]

end Cert.ConvBwdIdeal

end
-- ==== Proof.HeadRef.lean ====
/-
  The loss head's gradient at arguments that are numbers: every value of the reference is a number, and the two ways of
  writing the difference's gradient and the normalisation's agree.
-/
module

public import proofs.«01_k».proof.Proof.Fold
public import proofs.«01_k».proof.Proof.Real
public import proofs.«01_k».proof.Proof.FfnRef
public import proofs.«01_k».proof.Proof.Gen.HeadBwdRefIdeal.Read

@[expose] public section

set_option maxRecDepth 16384

noncomputable section

namespace Cert.HeadBwdRefIdeal.Math

open Cert.HeadBwdRefIdeal Cert.HeadBwdRefIdeal.Read Idealize.ShloMosaic Num

theorem word_half : Ideal.ofBits .f32 0x3F000000#32 = ((1 / 2 : ℝ) : EReal) := by
  simp [Ideal.ofBits, Ideal.ieee, -EReal.coe_mul]; norm_num

theorem word_rec : Ideal.ofBits .f32 0x3A800000#32 = ((1 / 1024 : ℝ) : EReal) := by
  simp [Ideal.ofBits, Ideal.ieee, -EReal.coe_mul]; norm_num

variable {x0 x2 : (⟨S8192x1024, .f32⟩ : BufTy).Contents (Elt Ideal)} {x1 : (⟨S8192x256, .f32⟩ : BufTy).Contents (Elt Ideal)}
  {x3 : (⟨S1024x1024, .bf16⟩ : BufTy).Contents (Elt Ideal)} {x4 x6 x7 : (⟨S1x1024, .f32⟩ : BufTy).Contents (Elt Ideal)}
  {x5 : (⟨S256x1024, .bf16⟩ : BufTy).Contents (Elt Ideal)}
  (h0 : ∀ i, IsR (x0 i)) (h1 : ∀ i, IsR (x1 i)) (h2 : ∀ i, IsR (x2 i)) (h3 : ∀ i, IsR (x3 i))
  (h4 : ∀ i, IsR (x4 i)) (h5 : ∀ i, IsR (x5 i)) (h6 : ∀ i, IsR (x6 i)) (h7 : ∀ i, IsR (x7 i))

theorem cen_at (x0 : (⟨S8192x1024, .f32⟩ : BufTy).Contents (Elt Ideal)) (i : S8192x1024.Idx) : val_main_v25 (F := Ideal) x0 i
    = x0 i - Ideal.div (∑ k, x0 (ix2 (i 0) k)) (Ideal.ofBits FTy.f32 1149239296#32) := by
  pointwise [val_main_v25, val_main_v24, val_main_v8, val_main_v7, val_main_cst_1, val_main_v6, val_main_v5, val_main_cst_0]

theorem cen_at' (x0 : (⟨S8192x1024, .f32⟩ : BufTy).Contents (Elt Ideal)) (i : S8192x1024.Idx) :
    val_main_v10 (F := Ideal) x0 i = val_main_v25 (F := Ideal) x0 i := by
  rw [cen_at]
  pointwise [val_main_v10, val_main_v9, val_main_v8, val_main_v7, val_main_cst_1, val_main_v6, val_main_v5, val_main_cst_0]

include h0 in
theorem cen (i : S8192x1024.Idx) : IsR (val_main_v25 (F := Ideal) x0 i) := by
  rw [cen_at, word_1024]
  obtain ⟨s, hs⟩ := IsR.sum Finset.univ fun (k : Fin 1024) _ => h0 (ix2 (i 0) k)
  rw [hs, div_coe (by norm_num)]
  exact (h0 i).sub (IsR.coe _)

include h0 in
/-- The variance and its small constant: a positive number. -/
theorem var (i : S8192x1.Idx) : ∃ w : ℝ, 0 < w ∧ val_main_v19 (F := Ideal) x0 i = (w : EReal) := by
  choose X hX using fun k => cen h0 (ix2 (i 0) k)
  obtain ⟨e, he, hw⟩ := word_eps
  refine ⟨(∑ k, X k * X k) / 1024 + e, by have := Finset.sum_nonneg fun k (_ : k ∈ Finset.univ) => mul_self_nonneg (X k); positivity, ?_⟩
  pointwise [val_main_v19, val_main_v18, val_main_cst_5, val_main_v17, val_main_v16, val_main_cst_4, val_main_v15, val_main_v14, val_main_cst_3, val_main_v11]
  rw [word_1024]
  simp only [cen_at', hX, ← EReal.coe_mul, coe_sum]
  rw [div_coe (by norm_num), EReal.coe_add, ← hw]

theorem rs_at (i : S8192x1.Idx) : val_main_v20 (F := Ideal) x0 i = Ideal.rsqrt (val_main_v19 (F := Ideal) x0 i) := by
  pointwise [val_main_v20]

include h0 in
theorem rs (i : S8192x1.Idx) : IsR (val_main_v20 (F := Ideal) x0 i) := by
  obtain ⟨w, hw, e⟩ := var h0 i
  rw [rs_at, e, rsqrt_coe hw]; exact IsR.coe _

theorem xh_at (i : S8192x1024.Idx) : val_main_v27 (F := Ideal) x0 i = val_main_v25 (F := Ideal) x0 i * val_main_v20 (F := Ideal) x0 (ix2 (i 0) 0) := by
  pointwise [val_main_v27, val_main_v26]

include h0 h6 h7 in
theorem x_num (i : S8192x1024.Idx) : IsR (val_main_v33 (F := Ideal) x0 x6 x7 i) := by
  pointwise [val_main_v33, val_main_v32, val_main_v31, val_main_v30, val_main_v29, val_main_v28, val_main_v3, val_main_v4, val_main_v27, val_main_v26]
  exact (((cen h0 _).mul (rs h0 _)).mul (h6 _)).add (h7 _)

/-- What the gate's sigmoid is taken of. -/
theorem z_at (i : S8192x1024.Idx) : val_main_v39 (F := Ideal) x0 x3 x4 x6 x7 i
    = ∑ k : Fin 1024, val_main_v33 (F := Ideal) x0 x6 x7 (ix2 (i 0) k) * x3 (ix2 k (i 1)) + x4 (ix2 0 (i 1)) := by
  pointwise [val_main_v39, val_main_v38, val_main_v37, val_main_v36, val_main_v35, val_main_v34, val_main_v2, val_main_cst, val_main_v0]

theorem sg_at (i : S8192x1024.Idx) : val_main_v45 (F := Ideal) x0 x3 x4 x6 x7 i = Ideal.div 1 (1 + Ideal.exp (-val_main_v39 (F := Ideal) x0 x3 x4 x6 x7 i)) := by
  pointwise [val_main_v45, val_main_v44, val_main_cst_8, val_main_v43, val_main_v42, val_main_cst_7, val_main_v41, val_main_v40]

include h0 h3 h4 h6 h7 in
theorem sg_num (i : S8192x1024.Idx) : IsR (val_main_v45 (F := Ideal) x0 x3 x4 x6 x7 i) := by
  rw [sg_at]; refine sigma ?_
  rw [z_at]
  exact (IsR.sum _ fun k _ => (x_num h0 h6 h7 _).mul (h3 _)).add (h4 _)

theorem e_at (i : S8192x1024.Idx) : val_main_v50 (F := Ideal) x1 x5 i = ∑ k : Fin 256, x1 (ix2 (i 0) k) * x5 (ix2 k (i 1)) := by
  pointwise [val_main_v50, val_main_v49, val_main_v2, val_main_cst, val_main_v1]

include h1 h5 in
theorem e_num (i : S8192x1024.Idx) : IsR (val_main_v50 (F := Ideal) x1 x5 i) := by
  rw [e_at]; exact IsR.sum _ fun k _ => (h1 _).mul (h5 _)

include h0 h1 h2 h3 h4 h5 h6 h7 in
theorem diff_num (i : S8192x1024.Idx) : IsR (val_main_v53 (F := Ideal) x0 x1 x2 x3 x4 x5 x6 x7 i) := by
  pointwise [val_main_v53, val_main_v52, val_main_v51]
  exact ((x_num h0 h6 h7 _).add ((sg_num h0 h3 h4 h6 h7 _).mul (e_num h1 h5 _))).sub (h2 _)

include h0 h1 h2 h3 h4 h5 h6 h7 in
/-- The kernel's way of writing the difference's gradient. -/
theorem dy_eq (i : S8192x1024.Idx) : val_main_v67 (F := Ideal) x0 x1 x2 x3 x4 x5 x6 x7 i
    = val_main_v53 (F := Ideal) x0 x1 x2 x3 x4 x5 x6 x7 i * Ideal.ofBits .f32 0x3A800000#32 := by
  obtain ⟨d, hd⟩ := diff_num h0 h1 h2 h3 h4 h5 h6 h7 i
  pointwise [val_main_v67, val_main_v66, val_main_v65, val_main_v64, val_main_cst_17, val_main_v63, val_main_v62, val_main_cst_16, val_main_cst_15, val_main_v56, val_main_v55, val_main_cst_10]
  rw [hd, word_half, word_1024, word_two, word_rec, div_coe (by norm_num)]
  simp only [← EReal.coe_mul]
  exact congrArg _ (by ring)

include h0 h1 h2 h3 h4 h5 h6 h7 in
theorem dy_num (i : S8192x1024.Idx) : IsR (val_main_v67 (F := Ideal) x0 x1 x2 x3 x4 x5 x6 x7 i) := by
  rw [dy_eq h0 h1 h2 h3 h4 h5 h6 h7, word_rec]
  exact (diff_num h0 h1 h2 h3 h4 h5 h6 h7 i).mul (IsR.coe _)

theorem dz_at (i : S8192x1024.Idx) : val_main_v70 (F := Ideal) x0 x1 x2 x3 x4 x5 x6 x7 i
    = val_main_v67 (F := Ideal) x0 x1 x2 x3 x4 x5 x6 x7 i * val_main_v50 (F := Ideal) x1 x5 i *
      (val_main_v45 (F := Ideal) x0 x3 x4 x6 x7 i * (1 - val_main_v45 (F := Ideal) x0 x3 x4 x6 x7 i)) := by
  pointwise [val_main_v70, val_main_v69, val_main_v48, val_main_v47, val_main_v46, val_main_cst_9]

include h0 h1 h2 h3 h4 h5 h6 h7 in
theorem dz_num (i : S8192x1024.Idx) : IsR (val_main_v70 (F := Ideal) x0 x1 x2 x3 x4 x5 x6 x7 i) := by
  rw [dz_at]
  have s := sg_num h0 h3 h4 h6 h7 i
  exact ((dy_num h0 h1 h2 h3 h4 h5 h6 h7 i).mul (e_num h1 h5 i)).mul (s.mul (IsR.one.sub s))

theorem dx_at (i : S8192x1024.Idx) : val_main_v76 (F := Ideal) x0 x1 x2 x3 x4 x5 x6 x7 i
    = val_main_v67 (F := Ideal) x0 x1 x2 x3 x4 x5 x6 x7 i
      + ∑ k : Fin 1024, val_main_v70 (F := Ideal) x0 x1 x2 x3 x4 x5 x6 x7 (ix2 (i 0) k) * x3 (ix2 (i 1) k) := by
  pointwise [val_main_v76, val_main_v75, val_main_v0]

include h0 h1 h2 h3 h4 h5 h6 h7 in
theorem dxh_num (i : S8192x1024.Idx) : IsR (val_main_v84 (F := Ideal) x0 x1 x2 x3 x4 x5 x6 x7 i) := by
  pointwise [val_main_v84, val_main_v83, val_main_v28, val_main_v3]
  rw [dx_at]
  exact ((dy_num h0 h1 h2 h3 h4 h5 h6 h7 _).add (IsR.sum _ fun k _ => (dz_num h0 h1 h2 h3 h4 h5 h6 h7 _).mul (h3 _))).mul (h6 _)

include h0 h1 h2 h3 h4 h5 h6 h7 in
/-- The kernel's way of writing the normalisation's gradient. -/
theorem dr_eq (i : S8192x1024.Idx) : val_main_v109 (F := Ideal) x0 x1 x2 x3 x4 x5 x6 x7 i
    = val_main_v20 (F := Ideal) x0 (ix2 (i 0) 0) * ((val_main_v84 (F := Ideal) x0 x1 x2 x3 x4 x5 x6 x7 i
        - Ideal.div (∑ k, val_main_v84 (F := Ideal) x0 x1 x2 x3 x4 x5 x6 x7 (ix2 (i 0) k)) (Ideal.ofBits FTy.f32 1149239296#32))
        - val_main_v27 (F := Ideal) x0 i * Ideal.div (∑ k, val_main_v84 (F := Ideal) x0 x1 x2 x3 x4 x5 x6 x7 (ix2 (i 0) k) * val_main_v27 (F := Ideal) x0 (ix2 (i 0) k))
            (Ideal.ofBits FTy.f32 1149239296#32)) := by
  have key := Norm.row (fun k => h0 (ix2 (i 0) k)) (fun k => dxh_num h0 h1 h2 h3 h4 h5 h6 h7 (ix2 (i 0) k)) (var h0 (ix2 (i 0) 0))
    (fun k => cen_at x0 (ix2 (i 0) k)) (i 1)
  obtain ⟨p, q, rfl⟩ : ∃ p q, i = ix2 p q := ⟨i 0, i 1, by funext d; fin_cases d <;> rfl⟩
  pointwise [val_main_v109, val_main_v108, val_main_v107, val_main_cst_30, val_main_v106, val_main_v105, val_main_cst_29, val_main_v104, val_main_v103, val_main_v102, val_main_v101, val_main_cst_28, val_main_v100, val_main_v99, val_main_v98, val_main_v97, val_main_cst_27, val_main_v96, val_main_v95, val_main_cst_26, val_main_v94, val_main_v93, val_main_v92, val_main_cst_25, val_main_v91, val_main_v90, val_main_v89, val_main_v88, val_main_v87, val_main_cst_24, val_main_v86, val_main_v23, val_main_v22, val_main_cst_6, val_main_v21, val_main_v13, val_main_v12, val_main_cst_2]
  simp only [xh_at, Fin.sum_univ_one, cen_at', rs_at]
  exact key.symm

/-- The loss: half the sum of the rows' mean squares. -/
theorem loss_at (i : S1x1.Idx) : val_main_v114 (F := Ideal) x0 x1 x2 x3 x4 x5 x6 x7 i
    = Ideal.ofBits .f32 0x3F000000#32 * ∑ k : Fin 8192, Ideal.div (∑ j : Fin 1024, val_main_v53 (F := Ideal) x0 x1 x2 x3 x4 x5 x6 x7 (ix2 k j)
        * val_main_v53 (F := Ideal) x0 x1 x2 x3 x4 x5 x6 x7 (ix2 k j)) (Ideal.ofBits FTy.f32 1149239296#32) := by
  pointwise [val_main_v114, val_main_v61, val_main_cst_14, val_main_v60, val_main_cst_13, val_main_v59, val_main_v58, val_main_cst_12, val_main_v57, val_main_cst_11, val_main_v54]

end Cert.HeadBwdRefIdeal.Math
-- ==== Proof.HeadBwd.lean ====
/-
  The loss head and its gradient.
-/
module

public import proofs.«01_k».proof.Defs
public import proofs.«01_k».proof.Proof.Fold
public import proofs.«01_k».proof.Proof.Real
public import proofs.«01_k».proof.Proof.HeadRef
public import proofs.«01_k».proof.Pre_head_numbers
public import proofs.«01_k».proof.Proof.Gen.Pre_head_numbers
public import proofs.«01_k».proof.Proof.Gen.HeadBwd.Frame
public import proofs.«01_k».proof.Proof.Gen.HeadBwdIdeal.Value
public import proofs.«01_k».proof.Proof.Gen.HeadBwdRefIdeal.Read
public import proofs.«01_k».proof.Proof.Gen.HeadBwdRefIdeal.Run

@[expose] public section

set_option maxRecDepth 16384

noncomputable section

namespace Cert.HeadBwdIdeal.Rows

open Cert.HeadBwdIdeal Cert.HeadBwdIdeal.Gen Cert.HeadBwdIdeal.Value Idealize.ShloMosaic Idealize.ShloMosaic.TcCoe Idealize.SL.Sem
open Cert.HeadBwdRefIdeal.Read

variable (m : (ℓ : Loc nD τ sig) → Buf (Elt Ideal) ℓ) (c : Dev nD)

abbrev a0 := m ((c : Thread nD τ).loc main_arg0)
abbrev a1 := m ((c : Thread nD τ).loc main_arg1)
abbrev a2 := m ((c : Thread nD τ).loc main_arg2)
abbrev a3 := m ((c : Thread nD τ).loc main_arg3)
abbrev a4 := m ((c : Thread nD τ).loc main_arg4)
abbrev a5 := m ((c : Thread nD τ).loc main_arg5)
abbrev a6 := m ((c : Thread nD τ).loc main_arg6)
abbrev a7 := m ((c : Thread nD τ).loc main_arg7)

theorem V_x : V m c main_v25 = val_main_v33 (F := Ideal) (a0 m c) (a6 m c) (a7 m c) := by
  unfold V
  after_results <;> rfl
theorem V_xh : V m c main_v26 = val_main_v27 (F := Ideal) (a0 m c) := by
  unfold V
  after_results <;> rfl
theorem V_rs : V m c main_v15 = val_main_v20 (F := Ideal) (a0 m c) := by
  unfold V
  after_results <;> rfl
theorem V_p : V m c main_arg1 = a1 m c := by
  unfold V
  after_results <;> rfl
theorem V_tgt : V m c main_arg2 = a2 m c := by
  unfold V
  after_results <;> rfl

theorem idx : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0) :=
  (by decide +kernel : ∀ t : Fin grid0.N, _)

/-- Where the results' blocks lie. -/
theorem idx' : ∀ t : Fin cfg0.N, (win0_9.index t (0 : Fin 2) = t.val ∧ win0_9.index t (1 : Fin 2) = 0)
    ∧ (win0_10.index t (0 : Fin 2) = t.val ∧ win0_10.index t (1 : Fin 2) = 0)
    ∧ (win0_11.index t (0 : Fin 2) = t.val ∧ win0_11.index t (1 : Fin 2) = 0)
    ∧ (win0_12.index t (0 : Fin 2) = 0 ∧ win0_12.index t (1 : Fin 2) = 0)
    ∧ (win0_13.index t (0 : Fin 2) = 0 ∧ win0_13.index t (1 : Fin 2) = 0)
    ∧ (win0_14.index t (0 : Fin 2) = 0 ∧ win0_14.index t (1 : Fin 2) = 0)
    ∧ (win0_15.index t (0 : Fin 2) = 0 ∧ win0_15.index t (1 : Fin 2) = 0) :=
  (by decide +kernel : ∀ t : Fin grid0.N, _)

theorem b_x (t : Fin cfg0.N) (y : S1024x1024.Idx) (i : S8192x1024.Idx) (h0 : (i 0).val = t.val * 1024 + (y 0).val)
    (h1 : (i 1).val = (y 1).val) : (iblk m c 0 t : Vec Ideal S1024x1024 .f32) y = val_main_v33 (F := Ideal) (a0 m c) (a6 m c) (a7 m c) i := by
  obtain ⟨⟨e0, e1⟩, -⟩ := idx t
  rw [← V_x]
  blk_point [iblk, idx t]

theorem b_xh (t : Fin cfg0.N) (y : S1024x1024.Idx) (i : S8192x1024.Idx) (h0 : (i 0).val = t.val * 1024 + (y 0).val)
    (h1 : (i 1).val = (y 1).val) : (iblk m c 1 t : Vec Ideal S1024x1024 .bf16) y = val_main_v27 (F := Ideal) (a0 m c) i := by
  obtain ⟨-, ⟨e0, e1⟩, -⟩ := idx t
  rw [← V_xh]
  blk_point [iblk, idx t]

theorem b_rs (t : Fin cfg0.N) (y : S1024x1.Idx) (i : S8192x1.Idx) (h0 : (i 0).val = t.val * 1024 + (y 0).val)
    (h1 : (i 1).val = (y 1).val) : (iblk m c 2 t : Vec Ideal S1024x1 .f32) y = val_main_v20 (F := Ideal) (a0 m c) i := by
  obtain ⟨-, -, ⟨e0, e1⟩, -⟩ := idx t
  rw [← V_rs]
  blk_point [iblk, idx t]

theorem b_p (t : Fin cfg0.N) (y : S1024x256.Idx) (i : S8192x256.Idx) (h0 : (i 0).val = t.val * 1024 + (y 0).val)
    (h1 : (i 1).val = (y 1).val) : (iblk m c 3 t : Vec Ideal S1024x256 .f32) y = (a1 m c : Vec Ideal S8192x256 .f32) i := by
  obtain ⟨-, -, -, ⟨e0, e1⟩, -⟩ := idx t
  rw [← V_p]
  blk_point [iblk, idx t]

theorem b_tgt (t : Fin cfg0.N) (y : S1024x1024.Idx) (i : S8192x1024.Idx) (h0 : (i 0).val = t.val * 1024 + (y 0).val)
    (h1 : (i 1).val = (y 1).val) : (iblk m c 4 t : Vec Ideal S1024x1024 .f32) y = (a2 m c : Vec Ideal S8192x1024 .f32) i := by
  obtain ⟨-, -, -, -, ⟨e0, e1⟩, -⟩ := idx t
  rw [← V_tgt]
  blk_point [iblk, idx t]

theorem b_wg (t : Fin cfg0.N) (y : S1024x1024.Idx) : (iblk m c 5 t : Vec Ideal S1024x1024 .bf16) y = (a3 m c : Vec Ideal S1024x1024 .bf16) y := by
  obtain ⟨-, -, -, -, -, ⟨e0, e1⟩, -⟩ := idx t
  blk_point [iblk, V, idx t]

theorem b_bg (t : Fin cfg0.N) (y : S1x1024.Idx) : (iblk m c 6 t : Vec Ideal S1x1024 .f32) y = (a4 m c : Vec Ideal S1x1024 .f32) y := by
  obtain ⟨-, -, -, -, -, -, ⟨e0, e1⟩, -⟩ := idx t
  blk_point [iblk, V, idx t]

theorem b_wp (t : Fin cfg0.N) (y : S256x1024.Idx) : (iblk m c 7 t : Vec Ideal S256x1024 .bf16) y = (a5 m c : Vec Ideal S256x1024 .bf16) y := by
  obtain ⟨-, -, -, -, -, -, -, ⟨e0, e1⟩, -⟩ := idx t
  blk_point [iblk, V, idx t]

theorem b_g (t : Fin cfg0.N) (y : S1x1024.Idx) : (iblk m c 8 t : Vec Ideal S1x1024 .f32) y = (a6 m c : Vec Ideal S1x1024 .f32) y := by
  obtain ⟨-, -, -, -, -, -, -, -, ⟨e0, e1⟩⟩ := idx t
  blk_point [iblk, V, idx t]

/-- A block's product of the small embedding, its gate, and its difference from the target. -/
abbrev kE (t : Fin cfg0.N) : FVec Ideal S1024x1024 .f32 := k0_pay9 (iblk m c 3 t) (iblk m c 7 t)
abbrev kS (t : Fin cfg0.N) : FVec Ideal S1024x1024 .f32 := k0_pay10 (iblk m c 0 t) (iblk m c 5 t) (iblk m c 6 t)
abbrev kD (t : Fin cfg0.N) : FVec Ideal S1024x1024 .f32 :=
  k0_pay11 (iblk m c 0 t) (iblk m c 5 t) (iblk m c 6 t) (iblk m c 3 t) (iblk m c 7 t) (iblk m c 4 t)

theorem ee (t : Fin cfg0.N) (y : S1024x1024.Idx) (i : S8192x1024.Idx) (h0 : (i 0).val = t.val * 1024 + (y 0).val)
    (h1 : (i 1).val = (y 1).val) : kE m c t y = val_main_v50 (F := Ideal) (a1 m c) (a5 m c) i := by
  rw [Cert.HeadBwdRefIdeal.Math.e_at]
  pointwise [kE, k0_pay9]
  refine Finset.sum_congr rfl fun k _ => congrArg₂ (· * ·) (b_p m c t _ _ h0 rfl) ((b_wp m c t _).trans ?_)
  exact congrArg _ (funext fun d => by fin_cases d <;> first | exact Fin.ext h1.symm | rfl)

theorem sg (t : Fin cfg0.N) (y : S1024x1024.Idx) (i : S8192x1024.Idx) (h0 : (i 0).val = t.val * 1024 + (y 0).val)
    (h1 : (i 1).val = (y 1).val) : kS m c t y = val_main_v45 (F := Ideal) (a0 m c) (a3 m c) (a4 m c) (a6 m c) (a7 m c) i := by
  rw [Cert.HeadBwdRefIdeal.Math.sg_at, Cert.HeadBwdRefIdeal.Math.z_at]
  pointwise [kS, k0_pay10, k0_pay8]
  rw [zero_sub]
  refine congrArg (fun z => Ideal.div 1 (1 + Ideal.exp (-z))) (congrArg₂ (· + ·) (Finset.sum_congr rfl fun k _ =>
    congrArg₂ (· * ·) (b_x m c t _ _ h0 rfl) ((b_wg m c t _).trans ?_)) ((b_bg m c t _).trans ?_))
  all_goals exact congrArg _ (funext fun d => by fin_cases d <;> first | exact Fin.ext h1.symm | rfl)

theorem diff (t : Fin cfg0.N) (y : S1024x1024.Idx) (i : S8192x1024.Idx) (h0 : (i 0).val = t.val * 1024 + (y 0).val)
    (h1 : (i 1).val = (y 1).val) : kD m c t y
      = val_main_v53 (F := Ideal) (a0 m c) (a1 m c) (a2 m c) (a3 m c) (a4 m c) (a5 m c) (a6 m c) (a7 m c) i := by
  pointwise [kD, k0_pay11, k0_pay8, val_main_v53, val_main_v52, val_main_v51]
  exact congrArg₂ (· - ·) (congrArg₂ (· + ·) (b_x m c t y i h0 h1) (congrArg₂ (· * ·) (sg m c t y i h0 h1) (ee m c t y i h0 h1)))
    (b_tgt m c t y i h0 h1)

theorem xh (t : Fin cfg0.N) (y : S1024x1024.Idx) (i : S8192x1024.Idx) (h0 : (i 0).val = t.val * 1024 + (y 0).val)
    (h1 : (i 1).val = (y 1).val) : k0_pay21 (F := Ideal) (iblk m c 1 t) y = val_main_v27 (F := Ideal) (a0 m c) i := by
  pointwise [k0_pay21]
  exact b_xh m c t y i h0 h1

/-- The arguments are numbers. -/
structure Nums : Prop where
  n0 : ∀ i, Num.IsR ((a0 m c : Vec Ideal S8192x1024 .f32) i)
  n1 : ∀ i, Num.IsR ((a1 m c : Vec Ideal S8192x256 .f32) i)
  n2 : ∀ i, Num.IsR ((a2 m c : Vec Ideal S8192x1024 .f32) i)
  n3 : ∀ i, Num.IsR ((a3 m c : Vec Ideal S1024x1024 .bf16) i)
  n4 : ∀ i, Num.IsR ((a4 m c : Vec Ideal S1x1024 .f32) i)
  n5 : ∀ i, Num.IsR ((a5 m c : Vec Ideal S256x1024 .bf16) i)
  n6 : ∀ i, Num.IsR ((a6 m c : Vec Ideal S1x1024 .f32) i)
  n7 : ∀ i, Num.IsR ((a7 m c : Vec Ideal S1x1024 .f32) i)

variable {m c}

theorem dy (n : Nums m c) (t : Fin cfg0.N) (y : S1024x1024.Idx) (i : S8192x1024.Idx) (h0 : (i 0).val = t.val * 1024 + (y 0).val)
    (h1 : (i 1).val = (y 1).val) : k0_pay15 (F := Ideal) (kD m c t) y
      = val_main_v67 (F := Ideal) (a0 m c) (a1 m c) (a2 m c) (a3 m c) (a4 m c) (a5 m c) (a6 m c) (a7 m c) i := by
  rw [Cert.HeadBwdRefIdeal.Math.dy_eq n.n0 n.n1 n.n2 n.n3 n.n4 n.n5 n.n6 n.n7]
  pointwise [k0_pay15]
  exact congrArg (· * _) (diff m c t y i h0 h1)

/-- The gradient of what the gate's sigmoid is taken of. -/
theorem dz (n : Nums m c) (t : Fin cfg0.N) (y : S1024x1024.Idx) (i : S8192x1024.Idx) (h0 : (i 0).val = t.val * 1024 + (y 0).val)
    (h1 : (i 1).val = (y 1).val) : k0_pay17 (F := Ideal) (kE m c t) (kS m c t) (kD m c t) y
      = val_main_v70 (F := Ideal) (a0 m c) (a1 m c) (a2 m c) (a3 m c) (a4 m c) (a5 m c) (a6 m c) (a7 m c) i := by
  rw [Cert.HeadBwdRefIdeal.Math.dz_at]
  pointwise [k0_pay17]
  have s := sg m c t y i h0 h1
  exact congrArg₂ (· * ·) (congrArg₂ (· * ·) (dy n t y i h0 h1) (ee m c t y i h0 h1)) (congrArg₂ (· * ·) s (congrArg (1 - ·) s))

theorem de (n : Nums m c) (t : Fin cfg0.N) (y : S1024x1024.Idx) (i : S8192x1024.Idx) (h0 : (i 0).val = t.val * 1024 + (y 0).val)
    (h1 : (i 1).val = (y 1).val) : k0_pay16 (F := Ideal) (kS m c t) (kD m c t) y
      = val_main_v112 (F := Ideal) (a0 m c) (a1 m c) (a2 m c) (a3 m c) (a4 m c) (a5 m c) (a6 m c) (a7 m c) i := by
  pointwise [k0_pay16, val_main_v112, val_main_v68]
  rw [mul_comm]
  exact congrArg₂ (· * ·) (sg m c t y i h0 h1) (dy n t y i h0 h1)

theorem dz' (n : Nums m c) (t : Fin cfg0.N) (y : S1024x1024.Idx) (i : S8192x1024.Idx) (h0 : (i 0).val = t.val * 1024 + (y 0).val)
    (h1 : (i 1).val = (y 1).val) : k0_pay18 (F := Ideal) (kE m c t) (kS m c t) (kD m c t) y
      = val_main_v113 (F := Ideal) (a0 m c) (a1 m c) (a2 m c) (a3 m c) (a4 m c) (a5 m c) (a6 m c) (a7 m c) i := by
  pointwise [k0_pay18, val_main_v113]
  exact dz n t y i h0 h1

/-- The gradient of the normalised rows. -/
theorem dx (n : Nums m c) (t : Fin cfg0.N) (y : S1024x1024.Idx) (i : S8192x1024.Idx) (h0 : (i 0).val = t.val * 1024 + (y 0).val)
    (h1 : (i 1).val = (y 1).val) : k0_pay20 (F := Ideal) (kE m c t) (kS m c t) (kD m c t) (iblk m c 5 t) y
      = val_main_v76 (F := Ideal) (a0 m c) (a1 m c) (a2 m c) (a3 m c) (a4 m c) (a5 m c) (a6 m c) (a7 m c) i := by
  rw [Cert.HeadBwdRefIdeal.Math.dx_at]
  pointwise [k0_pay20]
  refine congrArg₂ (· + ·) (dy n t y i h0 h1) (Finset.sum_congr rfl fun k _ => congrArg₂ (· * ·) (dz n t _ _ h0 rfl) ((b_wg m c t _).trans ?_))
  exact congrArg _ (funext fun d => by fin_cases d <;> first | exact Fin.ext h1.symm | rfl)

theorem dxh (n : Nums m c) (t : Fin cfg0.N) (y : S1024x1024.Idx) (i : S8192x1024.Idx) (h0 : (i 0).val = t.val * 1024 + (y 0).val)
    (h1 : (i 1).val = (y 1).val) :
    k0_pay20 (F := Ideal) (kE m c t) (kS m c t) (kD m c t) (iblk m c 5 t) y * (iblk m c 8 t : Vec Ideal S1x1024 .f32) (ix2 0 (y 1))
      = val_main_v84 (F := Ideal) (a0 m c) (a1 m c) (a2 m c) (a3 m c) (a4 m c) (a5 m c) (a6 m c) (a7 m c) i := by
  pointwise [val_main_v84, val_main_v83, val_main_v28, val_main_v3]
  refine congrArg₂ (· * ·) (dx n t y i h0 h1) ((b_g m c t _).trans ?_)
  exact congrArg _ (funext fun d => by fin_cases d <;> first | exact Fin.ext h1.symm | rfl)

/-- The gradient of the rows before the norm. -/
theorem dr (n : Nums m c) (t : Fin cfg0.N) (y : S1024x1024.Idx) (i : S8192x1024.Idx) (h0 : (i 0).val = t.val * 1024 + (y 0).val)
    (h1 : (i 1).val = (y 1).val) :
    k0_pay3 (F := Ideal) (k0_pay20 (kE m c t) (kS m c t) (kD m c t) (iblk m c 5 t)) (k0_pay21 (iblk m c 1 t)) (iblk m c 2 t) (iblk m c 8 t) y
      = val_main_v109 (F := Ideal) (a0 m c) (a1 m c) (a2 m c) (a3 m c) (a4 m c) (a5 m c) (a6 m c) (a7 m c) i := by
  rw [Cert.HeadBwdRefIdeal.Math.dr_eq n.n0 n.n1 n.n2 n.n3 n.n4 n.n5 n.n6 n.n7]
  pointwise [k0_pay3]
  refine congrArg₂ (· * ·) (b_rs m c t _ _ h0 rfl) (congrArg₂ (· - ·) (congrArg₂ (· - ·) (dxh n t y i h0 h1)
    (congrArg₂ Ideal.div (Finset.sum_congr rfl fun k _ => dxh n t (ix2 (y 0) k) _ h0 rfl) rfl))
    (congrArg₂ (· * ·) (xh m c t y i h0 h1) (congrArg₂ Ideal.div (Finset.sum_congr rfl fun k _ =>
      congrArg₂ (· * ·) (dxh n t (ix2 (y 0) k) _ h0 rfl) (xh m c t _ _ h0 rfl)) rfl)))

theorem r9 (n : Nums m c) : (dats m 0 c).arrAt 9 cfg0.N = val_main_v109 (F := Ideal) (a0 m c) (a1 m c) (a2 m c) (a3 m c) (a4 m c) (a5 m c) (a6 m c) (a7 m c) := by
  refine (dats m 0 c).arrAt_eq_of_covers 9 _ (by decide +kernel) fun t hf y => ?_
  obtain ⟨e0, e1⟩ := (idx' t).1
  blk_simp
  rw [after0_9]
  by_cases h : t.val % 8 = 0
  · rw [outsAt0_A m c t h]; frame_out
    exact dr n t y _ (by blk_simp [e0]) (by blk_simp [e1])
  · rw [outsAt0_B m c t h]; frame_out
    exact dr n t y _ (by blk_simp [e0]) (by blk_simp [e1])

theorem r10 (n : Nums m c) : (dats m 0 c).arrAt 10 cfg0.N = val_main_v112 (F := Ideal) (a0 m c) (a1 m c) (a2 m c) (a3 m c) (a4 m c) (a5 m c) (a6 m c) (a7 m c) := by
  refine (dats m 0 c).arrAt_eq_of_covers 10 _ (by decide +kernel) fun t hf y => ?_
  obtain ⟨e0, e1⟩ := (idx' t).2.1
  blk_simp
  rw [after0_10]
  by_cases h : t.val % 8 = 0
  · rw [outsAt0_A m c t h]; frame_out
    exact de n t y _ (by blk_simp [e0]) (by blk_simp [e1])
  · rw [outsAt0_B m c t h]; frame_out
    exact de n t y _ (by blk_simp [e0]) (by blk_simp [e1])

theorem r11 (n : Nums m c) : (dats m 0 c).arrAt 11 cfg0.N = val_main_v113 (F := Ideal) (a0 m c) (a1 m c) (a2 m c) (a3 m c) (a4 m c) (a5 m c) (a6 m c) (a7 m c) := by
  refine (dats m 0 c).arrAt_eq_of_covers 11 _ (by decide +kernel) fun t hf y => ?_
  obtain ⟨e0, e1⟩ := (idx' t).2.2.1
  blk_simp
  rw [after0_11]
  by_cases h : t.val % 8 = 0
  · rw [outsAt0_A m c t h]; frame_out
    exact dz' n t y _ (by blk_simp [e0]) (by blk_simp [e1])
  · rw [outsAt0_B m c t h]; frame_out
    exact dz' n t y _ (by blk_simp [e0]) (by blk_simp [e1])

/-- A block's share of the loss. -/
def lpart (t : Fin cfg0.N) (_ : S1x1.Idx) : EReal := Ideal.ofBits .f32 0x3F000000#32 *
  ∑ k : Fin 1024, Ideal.div (∑ j : Fin 1024, kD m c t (ix2 k j) * kD m c t (ix2 k j)) (Ideal.ofBits FTy.f32 1149239296#32)

/-- A block's share of the gate's bias gradient, and of the scale's and the shift's. -/
def zpart (t : Fin cfg0.N) (y : S1x1024.Idx) : EReal := ∑ k : Fin 1024,
  k0_pay17 (F := Ideal) (kE m c t) (kS m c t) (kD m c t) (ix2 k (y 1))

def gpart (t : Fin cfg0.N) (y : S1x1024.Idx) : EReal := ∑ k : Fin 1024,
  k0_pay20 (F := Ideal) (kE m c t) (kS m c t) (kD m c t) (iblk m c 5 t) (ix2 k (y 1)) * k0_pay21 (F := Ideal) (iblk m c 1 t) (ix2 k (y 1))

def bpart (t : Fin cfg0.N) (y : S1x1024.Idx) : EReal := ∑ k : Fin 1024,
  k0_pay20 (F := Ideal) (kE m c t) (kS m c t) (kD m c t) (iblk m c 5 t) (ix2 k (y 1))

theorem pay14 (t : Fin cfg0.N) (acc : Vec Ideal S1x1 .f32) (y : S1x1.Idx) :
    k0_pay14 (F := Ideal) (k0_pay12 acc) (k0_pay13 (iblk m c 0 t) (iblk m c 5 t) (iblk m c 6 t) (iblk m c 3 t) (iblk m c 7 t) (iblk m c 4 t)) y
      = acc y + lpart (m := m) (c := c) t y := by
  pointwise [k0_pay14, k0_pay12, k0_pay13, lpart]

theorem pay19 (t : Fin cfg0.N) (acc : Vec Ideal S1x1024 .f32) (y : S1x1024.Idx) :
    k0_pay19 (F := Ideal) (kE m c t) (kS m c t) (kD m c t) acc y = acc y + zpart (m := m) (c := c) t y := by
  pointwise [k0_pay19, zpart]

theorem pay1 (t : Fin cfg0.N) (acc : Vec Ideal S1x1024 .f32) (y : S1x1024.Idx) :
    k0_pay1 (F := Ideal) (k0_pay22 acc) (k0_pay23 (kE m c t) (kS m c t) (kD m c t) (iblk m c 5 t) (iblk m c 1 t)) y
      = acc y + gpart (m := m) (c := c) t y := by
  pointwise [k0_pay1, k0_pay22, k0_pay23, gpart]

theorem pay2 (t : Fin cfg0.N) (acc : Vec Ideal S1x1024 .f32) (y : S1x1024.Idx) :
    k0_pay2 (F := Ideal) (k0_pay20 (kE m c t) (kS m c t) (kD m c t) (iblk m c 5 t)) acc y = acc y + bpart (m := m) (c := c) t y := by
  pointwise [k0_pay2, bpart]

theorem accl (t : Fin cfg0.N) (ht : t.val % 8 = 7) (y : S1x1.Idx) :
    (outsAt0 m c t.val t.isLt).2.2.2.1 y = ∑ s : Fin 8, lpart (m := m) (c := c) ⟨8 * (t.val / 8) + s.val, by have := t.isLt; have := Nat.div_add_mod t.val 8; omega⟩ y := by
  rw [Pipeline.eq_sum_fin_of_reset_step_apply_of_flush (fun n h => (outsAt0 m c n h).2.2.2.1) 8 (fun _ => (0 : EReal))
    (fun t y => lpart (m := m) (c := c) t y)
    (fun t h y => by
      rw [outsAt0_A m c t h]; frame_out; rw [pay14]; pointwise [k0_pay4])
    (fun t h y => by
      rw [outsAt0_B m c t h]; frame_out; rw [pay14]) t ht y, zero_add]

theorem accz (t : Fin cfg0.N) (ht : t.val % 8 = 7) (y : S1x1024.Idx) :
    (outsAt0 m c t.val t.isLt).2.2.2.2.1 y = ∑ s : Fin 8, zpart (m := m) (c := c) ⟨8 * (t.val / 8) + s.val, by have := t.isLt; have := Nat.div_add_mod t.val 8; omega⟩ y := by
  rw [Pipeline.eq_sum_fin_of_reset_step_apply_of_flush (fun n h => (outsAt0 m c n h).2.2.2.2.1) 8 (fun _ => (0 : EReal))
    (fun t y => zpart (m := m) (c := c) t y)
    (fun t h y => by
      rw [outsAt0_A m c t h]; frame_out; rw [pay19]; pointwise [k0_pay5])
    (fun t h y => by
      rw [outsAt0_B m c t h]; frame_out; rw [pay19]) t ht y, zero_add]

theorem accg (t : Fin cfg0.N) (ht : t.val % 8 = 7) (y : S1x1024.Idx) :
    (outsAt0 m c t.val t.isLt).2.2.2.2.2.1 y = ∑ s : Fin 8, gpart (m := m) (c := c) ⟨8 * (t.val / 8) + s.val, by have := t.isLt; have := Nat.div_add_mod t.val 8; omega⟩ y := by
  rw [Pipeline.eq_sum_fin_of_reset_step_apply_of_flush (fun n h => (outsAt0 m c n h).2.2.2.2.2.1) 8 (fun _ => (0 : EReal))
    (fun t y => gpart (m := m) (c := c) t y)
    (fun t h y => by
      rw [outsAt0_A m c t h]; frame_out; rw [pay1]; pointwise [k0_pay6])
    (fun t h y => by
      rw [outsAt0_B m c t h]; frame_out; rw [pay1]) t ht y, zero_add]

theorem accb (t : Fin cfg0.N) (ht : t.val % 8 = 7) (y : S1x1024.Idx) :
    (outsAt0 m c t.val t.isLt).2.2.2.2.2.2 y = ∑ s : Fin 8, bpart (m := m) (c := c) ⟨8 * (t.val / 8) + s.val, by have := t.isLt; have := Nat.div_add_mod t.val 8; omega⟩ y := by
  rw [Pipeline.eq_sum_fin_of_reset_step_apply_of_flush (fun n h => (outsAt0 m c n h).2.2.2.2.2.2) 8 (fun _ => (0 : EReal))
    (fun t y => bpart (m := m) (c := c) t y)
    (fun t h y => by
      rw [outsAt0_A m c t h]; frame_out; rw [pay2]; pointwise [k0_pay7])
    (fun t h y => by
      rw [outsAt0_B m c t h]; frame_out; rw [pay2]) t ht y, zero_add]

/-- A row's mean square is a number. -/
theorem msq (n : Nums m c) (k : Fin 8192) : Num.IsR (Ideal.div (∑ j : Fin 1024,
    val_main_v53 (F := Ideal) (a0 m c) (a1 m c) (a2 m c) (a3 m c) (a4 m c) (a5 m c) (a6 m c) (a7 m c) (ix2 k j)
      * val_main_v53 (F := Ideal) (a0 m c) (a1 m c) (a2 m c) (a3 m c) (a4 m c) (a5 m c) (a6 m c) (a7 m c) (ix2 k j)) (Ideal.ofBits FTy.f32 1149239296#32)) := by
  have d := Cert.HeadBwdRefIdeal.Math.diff_num n.n0 n.n1 n.n2 n.n3 n.n4 n.n5 n.n6 n.n7
  obtain ⟨s, hs⟩ := Num.IsR.sum Finset.univ fun (j : Fin 1024) _ => (d (ix2 k j)).mul (d (ix2 k j))
  rw [hs, Num.word_1024, Num.div_coe (by norm_num)]
  exact Num.IsR.coe _

/-- A factor that is a number goes into a sum of numbers. -/
theorem mul_sum {ι : Type} (s : Finset ι) (r : ℝ) {f : ι → EReal} (h : ∀ k, Num.IsR (f k)) : (r : EReal) * ∑ k ∈ s, f k = ∑ k ∈ s, (r : EReal) * f k := by
  choose X hX using h
  simp only [hX, Num.coe_sum, ← EReal.coe_mul, Finset.mul_sum]

theorem r12 (n : Nums m c) : (dats m 0 c).arrAt 12 cfg0.N = val_main_v114 (F := Ideal) (a0 m c) (a1 m c) (a2 m c) (a3 m c) (a4 m c) (a5 m c) (a6 m c) (a7 m c) := by
  refine (dats m 0 c).arrAt_eq_of_covers 12 _ (by decide +kernel) fun t hf y => ?_
  have ht := (flush0_12 t).mp hf
  obtain ⟨e0, e1⟩ := (idx' t).2.2.2.1
  blk_simp
  rw [after0_12, accl t ht, Cert.HeadBwdRefIdeal.Math.loss_at]
  have hn : cfg0.N = 8 := N_0
  have hz : t.val / 8 = 0 := by have := t.isLt; omega
  rw [Cert.HeadBwdRefIdeal.Math.word_half, mul_sum _ _ (msq n)]
  have hk : ∀ (s : Fin 8) (k : Fin 1024), s.val * 1024 + k.val < 8192 := fun s k => by omega
  have e : ∀ s : Fin 8, lpart (m := m) (c := c) ⟨8 * (t.val / 8) + s.val, by have := t.isLt; omega⟩ y
      = ∑ k : Fin 1024, ((1 / 2 : ℝ) : EReal) * Ideal.div (∑ j : Fin 1024,
          val_main_v53 (F := Ideal) (a0 m c) (a1 m c) (a2 m c) (a3 m c) (a4 m c) (a5 m c) (a6 m c) (a7 m c) (ix2 ⟨s.val * 1024 + k.val, hk s k⟩ j)
            * val_main_v53 (F := Ideal) (a0 m c) (a1 m c) (a2 m c) (a3 m c) (a4 m c) (a5 m c) (a6 m c) (a7 m c) (ix2 ⟨s.val * 1024 + k.val, hk s k⟩ j))
          (Ideal.ofBits FTy.f32 1149239296#32) := fun s => by
    rw [← mul_sum _ _ fun k => msq n _, lpart, Cert.HeadBwdRefIdeal.Math.word_half]
    refine congrArg (_ * ·) (Finset.sum_congr rfl fun k _ => congrArg (Ideal.div · _) (Finset.sum_congr rfl fun j _ => ?_))
    have hd := diff m c ⟨8 * (t.val / 8) + s.val, by have := t.isLt; omega⟩ (ix2 k j) (ix2 ⟨s.val * 1024 + k.val, hk s k⟩ j)
      (by change s.val * 1024 + k.val = (8 * (t.val / 8) + s.val) * 1024 + k.val; rw [hz]; omega) rfl
    rw [hd]
  rw [Finset.sum_congr rfl fun s _ => e s]
  exact Fin.sum_mul_add_congr fun s k hl => rfl

theorem r13 (n : Nums m c) : (dats m 0 c).arrAt 13 cfg0.N = val_main_v74 (F := Ideal) (a0 m c) (a1 m c) (a2 m c) (a3 m c) (a4 m c) (a5 m c) (a6 m c) (a7 m c) := by
  refine (dats m 0 c).arrAt_eq_of_covers 13 _ (by decide +kernel) fun t hf y => ?_
  have ht := (flush0_13 t).mp hf
  obtain ⟨e0, e1⟩ := (idx' t).2.2.2.2.1
  blk_simp
  rw [after0_13, accz t ht]
  have hn : cfg0.N = 8 := N_0
  have hz : t.val / 8 = 0 := by have := t.isLt; omega
  pointwise [val_main_v74, val_main_v73, val_main_cst_19, val_main_v72, val_main_v71, val_main_cst_18]
  rw [Fin.sum_univ_one]
  refine Fin.sum_mul_add_congr fun s k hl => ?_
  have hr : s.val * 1024 + k.val = (8 * (t.val / 8) + s.val) * 1024 + k.val := by rw [hz]; omega
  refine dz n _ _ _ hr ?_ <;> blk_simp [e1]

theorem r14 (n : Nums m c) : (dats m 0 c).arrAt 14 cfg0.N = val_main_v111 (F := Ideal) (a0 m c) (a1 m c) (a2 m c) (a3 m c) (a4 m c) (a5 m c) (a6 m c) (a7 m c) := by
  refine (dats m 0 c).arrAt_eq_of_covers 14 _ (by decide +kernel) fun t hf y => ?_
  have ht := (flush0_14 t).mp hf
  obtain ⟨e0, e1⟩ := (idx' t).2.2.2.2.2.1
  blk_simp
  rw [after0_14, accg t ht]
  have hn : cfg0.N = 8 := N_0
  have hz : t.val / 8 = 0 := by have := t.isLt; omega
  pointwise [val_main_v111, val_main_v85, val_main_cst_23, val_main_v82, val_main_v81, val_main_cst_22, val_main_v80]
  rw [Fin.sum_univ_one]
  refine Fin.sum_mul_add_congr fun s k hl => ?_
  have hr : s.val * 1024 + k.val = (8 * (t.val / 8) + s.val) * 1024 + k.val := by rw [hz]; omega
  rw [mul_comm]
  refine congrArg₂ (· * ·) (xh m c _ _ _ hr ?_) (dx n _ _ _ hr ?_) <;> blk_simp [e1]

theorem r15 (n : Nums m c) : (dats m 0 c).arrAt 15 cfg0.N = val_main_v110 (F := Ideal) (a0 m c) (a1 m c) (a2 m c) (a3 m c) (a4 m c) (a5 m c) (a6 m c) (a7 m c) := by
  refine (dats m 0 c).arrAt_eq_of_covers 15 _ (by decide +kernel) fun t hf y => ?_
  have ht := (flush0_15 t).mp hf
  obtain ⟨e0, e1⟩ := (idx' t).2.2.2.2.2.2
  blk_simp
  rw [after0_15, accb t ht]
  have hn : cfg0.N = 8 := N_0
  have hz : t.val / 8 = 0 := by have := t.isLt; omega
  pointwise [val_main_v110, val_main_v79, val_main_cst_21, val_main_v78, val_main_v77, val_main_cst_20]
  rw [Fin.sum_univ_one]
  refine Fin.sum_mul_add_congr fun s k hl => ?_
  have hr : s.val * 1024 + k.val = (8 * (t.val / 8) + s.val) * 1024 + k.val := by rw [hz]; omega
  refine dx n _ _ _ hr ?_ <;> blk_simp [e1]

end Cert.HeadBwdIdeal.Rows

namespace Cert.HeadBwdIdeal

open Idealize.ShloMosaic Idealize.ShloMosaic.TcCoe Idealize.SL.Sem
open Cert.HeadBwdRefIdeal.Read

theorem nums {m : (ℓ : Loc nD τ sig) → Buf (Elt Ideal) ℓ} (h : Pre_HeadBwdIdeal_head_numbers m) (c : Dev nD) : Rows.Nums m c := by
  obtain ⟨p0, p1, p2, p3, p4, p5, p6, p7⟩ := h c
  exact ⟨fun i => Num.of_finite _ (congrFun p0 i), fun i => Num.of_finite _ (congrFun p1 i), fun i => Num.of_finite _ (congrFun p2 i),
    fun i => Num.of_finite _ (congrFun p3 i), fun i => Num.of_finite _ (congrFun p4 i), fun i => Num.of_finite _ (congrFun p5 i),
    fun i => Num.of_finite _ (congrFun p6 i), fun i => Num.of_finite _ (congrFun p7 i)⟩

set_option maxHeartbeats 2000000 in
theorem agrees : Cert.algebraic_HeadBwdIdeal_HeadBwdRefIdeal_pre_head_numbers := by
  intro m g m' g' hp hargs
  have n := fun c => nums hp c
  refine ⟨fun c => val_main_v109 (F := Ideal) (Rows.a0 m c) (Rows.a1 m c) (Rows.a2 m c) (Rows.a3 m c) (Rows.a4 m c) (Rows.a5 m c) (Rows.a6 m c) (Rows.a7 m c),
    fun c => val_main_v112 (F := Ideal) (Rows.a0 m c) (Rows.a1 m c) (Rows.a2 m c) (Rows.a3 m c) (Rows.a4 m c) (Rows.a5 m c) (Rows.a6 m c) (Rows.a7 m c),
    fun c => val_main_v113 (F := Ideal) (Rows.a0 m c) (Rows.a1 m c) (Rows.a2 m c) (Rows.a3 m c) (Rows.a4 m c) (Rows.a5 m c) (Rows.a6 m c) (Rows.a7 m c),
    fun c => val_main_v114 (F := Ideal) (Rows.a0 m c) (Rows.a1 m c) (Rows.a2 m c) (Rows.a3 m c) (Rows.a4 m c) (Rows.a5 m c) (Rows.a6 m c) (Rows.a7 m c),
    fun c => val_main_v74 (F := Ideal) (Rows.a0 m c) (Rows.a1 m c) (Rows.a2 m c) (Rows.a3 m c) (Rows.a4 m c) (Rows.a5 m c) (Rows.a6 m c) (Rows.a7 m c),
    fun c => val_main_v111 (F := Ideal) (Rows.a0 m c) (Rows.a1 m c) (Rows.a2 m c) (Rows.a3 m c) (Rows.a4 m c) (Rows.a5 m c) (Rows.a6 m c) (Rows.a7 m c),
    fun c => val_main_v110 (F := Ideal) (Rows.a0 m c) (Rows.a1 m c) (Rows.a2 m c) (Rows.a3 m c) (Rows.a4 m c) (Rows.a5 m c) (Rows.a6 m c) (Rows.a7 m c), ?_, ?_⟩
  · refine (θ_run Cert.HeadBwdIdeal.defs _ _).mono (fun r h c => ?_) (Value.run_blocks m g)
    obtain ⟨k0, k1, k2, k3, k4, k5, k6, k⟩ := h c
    exact ⟨k0.trans (Rows.r9 (n c)), k1.trans (Rows.r10 (n c)), k2.trans (Rows.r11 (n c)), k3.trans (Rows.r12 (n c)), k4.trans (Rows.r13 (n c)),
      k5.trans (Rows.r14 (n c)), k6.trans (Rows.r15 (n c)), k⟩
  · refine (θ_run Cert.HeadBwdRefIdeal.defs _ _).mono (fun r h c => ?_) (Cert.HeadBwdRefIdeal.Value.run (F := Ideal) m' g')
    obtain ⟨h0, h1, h2, h3, h4, h5, h6, h7⟩ := hargs c
    obtain ⟨k0, k1, k2, k3, k4, k5, k6, k⟩ := h c
    refine ⟨k0.trans ?_, k1.trans ?_, k2.trans ?_, k3.trans ?_, k4.trans ?_, k5.trans ?_, k6.trans ?_, k⟩
    · rw [val_main_v109_eq, h0, h1, h2, h3, h4, h5, h6, h7]
    · rw [val_main_v112_eq, h0, h1, h2, h3, h4, h5, h6, h7]
    · rw [val_main_v113_eq, h0, h1, h2, h3, h4, h5, h6, h7]
    · rw [val_main_v114_eq, h0, h1, h2, h3, h4, h5, h6, h7]
    · rw [val_main_v74_eq, h0, h1, h2, h3, h4, h5, h6, h7]
    · rw [val_main_v111_eq, h0, h1, h2, h3, h4, h5, h6, h7]
    · rw [val_main_v110_eq, h0, h1, h2, h3, h4, h5, h6, h7]

end Cert.HeadBwdIdeal
-- ==== Proof.Chunk.lean ====
/-
  One chunk of 128 rows and one head of the backward pass of the gated scan, written as functions of the blocks read: the gradient
  of each input of the chunk, in the order and with the roundings of the kernel, and the lists of stores these make over one grid
  point's four chunks and four heads. The chunks of a point run from the last to the first, carrying the gradient of the state.
-/
module

public import proofs.«01_k».proof.Proof.Gen.KernelIdeal.Frame

@[expose] public section

set_option maxRecDepth 16384

noncomputable section

namespace Cert.KernelIdeal.Chunk

open Cert.KernelIdeal Cert.KernelIdeal.Gen Idealize Idealize.ShloMosaic

section

variable {F : FTy → Type} [FloatOps F]

/-- A square block of ones, of zeros. -/
def one : FVec F S128x128 .f32 := broadcast S128x128 (Scalar.ofBits .f32 0x3F800000#32)
def zero : FVec F S128x128 .f32 := broadcast S128x128 (Scalar.ofBits .f32 0x00000000#32)
def acc : FVec F S128x128 .f32 := constant S128x128 .f32 0x00000000#32
def acc16 : FVec F S16x128 .f32 := constant S16x128 .f32 0x00000000#32

/-- The logistic function of a block. -/
def sg (x : FVec F S128x128 .f32) : FVec F S128x128 .f32 := divf one (addf one (exp (subf zero x)))

/-- The sum of each row as a column, and of each column as a row. -/
def rowSum (x : FVec F S128x128 .f32) : FVec F S128x1 .f32 :=
  shapeCast S128x1 (multiReduction .add [1] S128 x 0x00000000#32 reduces_S128x128_S128 (.inl rfl) rfl) shapeCasts_S128_S128x1
def colSum (x : FVec F S128x128 .f32) : FVec F S1x128 .f32 :=
  shapeCast S1x128 (multiReduction .add [0] S128 x 0x00000000#32 reduces_S128x128_S128_2 (.inl rfl) rfl) shapeCasts_S128_S1x128

/-- A row repeated over the block. -/
def down (r : FVec F S1x128 .f32) : FVec F S128x128 .f32 := broadcastTo S128x128 r broadcasts_S1x128_S128x128
def across (r : FVec F S128x1 .f32) : FVec F S128x128 .f32 := broadcastTo S128x128 r broadcasts_S128x1_S128x128

def w128 : FVec F S128x1 .f32 := broadcast S128x1 (Scalar.ofBits .f32 0x43000000#32)

/-- The reciprocal root mean square of each row of the output `o`, and the normalised output. -/
def rs (o : FVec F S128x128 .f32) : FVec F S128x128 .f32 :=
  across (rsqrt (addf (divf (rowSum (mulf o o)) w128) (broadcast S128x1 (Scalar.ofBits .f32 0x358637BD#32))))
def oh (o : FVec F S128x128 .f32) : FVec F S128x128 .f32 := mulf o (rs o)

/-- The gradient of the gated normalised output, of the normalised output, and of the output. -/
def dy (dog hg : FVec F S128x128 .f32) : FVec F S128x128 .f32 := mulf dog (mulf hg (sg hg))
def doh (dog hg : FVec F S128x128 .f32) (gn : FVec F S1x128 .f32) : FVec F S128x128 .f32 := mulf (dy dog hg) (down gn)
def dO (o dog hg : FVec F S128x128 .f32) (gn : FVec F S1x128 .f32) : FVec F S128x128 .f32 :=
  mulf (rs o) (subf (doh dog hg gn) (mulf (oh o) (across (divf (rowSum (mulf (doh dog hg gn) (oh o))) w128))))
def dOb (o dog hg : FVec F S128x128 .f32) (gn : FVec F S1x128 .f32) : FVec F S128x128 .bf16 := truncf .bf16 (dO o dog hg gn) bitsLt_bf16_f32

/-- The lower bound of the forget gate from its two rows of logits. -/
def lb (LG : FVec F S2x512 .f32) : FVec F S1x512 .f32 :=
  divf (broadcast S1x512 (Scalar.ofBits .f32 0x3F800000#32)) (addf (broadcast S1x512 (Scalar.ofBits .f32 0x3F800000#32))
    (exp (subf (broadcast S1x512 (Scalar.ofBits .f32 0x00000000#32))
      (subf (extractStridedSlice S1x512 ![0, 0] LG slices_S2x512_o0_0_S1x512) (extractStridedSlice S1x512 ![1, 0] LG slices_S2x512_o1_0_S1x512)))))

def lbs (LG : FVec F S2x512 .f32) : Fin 4 → FVec F S1x128 .f32 :=
  ![extractStridedSlice S1x128 ![0, 0] (lb LG) slices_S1x512_o0_0_S1x128, extractStridedSlice S1x128 ![0, 128] (lb LG) slices_S1x512_o0_128_S1x128,
    extractStridedSlice S1x128 ![0, 256] (lb LG) slices_S1x512_o0_256_S1x128, extractStridedSlice S1x128 ![0, 384] (lb LG) slices_S1x512_o0_384_S1x128]

/-- One less the lower bound; the key; the query. -/
def om1 (l : FVec F S1x128 .f32) : FVec F S1x128 .f32 := subf (broadcast S1x128 (Scalar.ofBits .f32 0x3F800000#32)) l
def om (l : FVec F S1x128 .f32) : FVec F S128x128 .f32 := down (om1 l)
def kk (l : FVec F S1x128 .f32) (hf : FVec F S128x128 .f32) : FVec F S128x128 .f32 := mulf (om l) (subf one (sg hf))
def qq (hq : FVec F S128x128 .f32) : FVec F S128x128 .f32 := mulf hq (sg hq)

/-- The last row of the running log decay, and the decay from each row to the end of the chunk. -/
def bl (b : FVec F S128x128 .f32) : FVec F S1x128 .f32 := extractStridedSlice S1x128 ![127, 0] b slices_S128x128_o127_0_S1x128
def ekl (b : FVec F S128x128 .f32) : FVec F S128x128 .f32 := exp (subf (down (bl b)) b)

def tb (x : FVec F S128x128 .f32) : FVec F S128x128 .bf16 := truncf .bf16 x bitsLt_bf16_f32

/-- The gradient of the value. -/
def dv (a : FVec F S128x128 .bf16) (d : FVec F S128x128 .bf16) (k b dst : FVec F S128x128 .f32) : FVec F S128x128 .f32 :=
  addf (matmul dot_S128x128_S128x128_S128x128_0_0_1_1_n_n none a d acc)
    (matmul dot_S128x128_S128x128_S128x128_1_1_0_0_n_n none (tb (mulf k (ekl b))) (tb dst) acc)

/-- The parts of the gradients of the query and the key that go through the state. -/
def dq0 (d : FVec F S128x128 .bf16) (b st : FVec F S128x128 .f32) : FVec F S128x128 .f32 :=
  mulf (matmul dot_S128x128_S128x128_S128x128_1_0_0_1_n_n none d (tb st) acc) (exp b)
def dk0 (hv b dst : FVec F S128x128 .f32) : FVec F S128x128 .f32 :=
  mulf (matmul dot_S128x128_S128x128_S128x128_1_0_0_1_n_n none (tb hv) (tb dst) acc) (ekl b)

/-- The gradient of the scores of the chunk, below and on the diagonal. -/
def da (d : FVec F S128x128 .bf16) (hv : FVec F S128x128 .f32) : FVec F S128x128 .f32 :=
  select (cmpi .sle (iota .tc S128x128 32 [1] iota_S128x128_d1_w32) (iota .tc S128x128 32 [0] iota_S128x128_d0_w32))
    (matmul dot_S128x128_S128x128_S128x128_1_1_0_0_n_n none d (tb hv) acc) zero

/-- Sixteen rows of a block, and the row before them (none before the first). -/
def rows (x : FVec F S128x128 .f32) : Fin 8 → FVec F S16x128 .f32 :=
  ![extractStridedSlice S16x128 ![0, 0] x slices_S128x128_o0_0_S16x128, extractStridedSlice S16x128 ![16, 0] x slices_S128x128_o16_0_S16x128,
    extractStridedSlice S16x128 ![32, 0] x slices_S128x128_o32_0_S16x128, extractStridedSlice S16x128 ![48, 0] x slices_S128x128_o48_0_S16x128,
    extractStridedSlice S16x128 ![64, 0] x slices_S128x128_o64_0_S16x128, extractStridedSlice S16x128 ![80, 0] x slices_S128x128_o80_0_S16x128,
    extractStridedSlice S16x128 ![96, 0] x slices_S128x128_o96_0_S16x128, extractStridedSlice S16x128 ![112, 0] x slices_S128x128_o112_0_S16x128]
def ref (b : FVec F S128x128 .f32) : Fin 8 → FVec F S1x128 .f32 :=
  ![broadcast S1x128 (Scalar.ofBits .f32 0x00000000#32), extractStridedSlice S1x128 ![15, 0] b slices_S128x128_o15_0_S1x128,
    extractStridedSlice S1x128 ![31, 0] b slices_S128x128_o31_0_S1x128, extractStridedSlice S1x128 ![47, 0] b slices_S128x128_o47_0_S1x128,
    extractStridedSlice S1x128 ![63, 0] b slices_S128x128_o63_0_S1x128, extractStridedSlice S1x128 ![79, 0] b slices_S128x128_o79_0_S1x128,
    extractStridedSlice S1x128 ![95, 0] b slices_S128x128_o95_0_S1x128, extractStridedSlice S1x128 ![111, 0] b slices_S128x128_o111_0_S1x128]

/-- Key and query of a sub-block measured from the row before it, and the products with the scores' gradient. -/
def ek (b : FVec F S128x128 .f32) (i : Fin 8) : FVec F S128x128 .f32 :=
  exp (minimumf (subf (down (ref b i)) b) (broadcast S128x128 (Scalar.ofBits .f32 0x42A00000#32)))
def kt (k b : FVec F S128x128 .f32) (i : Fin 8) : FVec F S128x128 .bf16 := tb (mulf k (ek b i))
def eq (b : FVec F S128x128 .f32) (i : Fin 8) : FVec F S16x128 .f32 := exp (subf (rows b i) (broadcastTo S16x128 (ref b i) broadcasts_S1x128_S16x128))
def qt (q b : FVec F S128x128 .f32) (i : Fin 8) : FVec F S16x128 .bf16 := truncf .bf16 (mulf (rows q i) (eq b i)) bitsLt_bf16_f32
def dai (A : FVec F S128x128 .f32) (i : Fin 8) : FVec F S16x128 .bf16 := truncf .bf16 (rows A i) bitsLt_bf16_f32
def gk (A q b : FVec F S128x128 .f32) (i : Fin 8) : FVec F S128x128 .f32 :=
  matmul dot_S16x128_S16x128_S128x128_0_0_1_1_n_n none (dai A i) (qt q b i) acc
def gq (A k b : FVec F S128x128 .f32) (i : Fin 8) : FVec F S16x128 .f32 :=
  matmul dot_S16x128_S128x128_S16x128_1_0_0_1_n_n none (dai A i) (kt k b i) acc16

/-- Eight sub-blocks stacked, and eight blocks taken away from or added to a ninth in turn. -/
def stack (x : Fin 8 → FVec F S16x128 .f32) : FVec F S128x128 .f32 :=
  concatenate S128x128 0 [⟨S16x128, x 0⟩, ⟨S16x128, x 1⟩, ⟨S16x128, x 2⟩, ⟨S16x128, x 3⟩, ⟨S16x128, x 4⟩, ⟨S16x128, x 5⟩, ⟨S16x128, x 6⟩, ⟨S16x128, x 7⟩]
    concatenates_S16x128_S16x128_S16x128_S16x128_S16x128_S16x128_S16x128_S16x128_S128x128_d0
def less (y : FVec F S128x128 .f32) (x : Fin 8 → FVec F S128x128 .f32) : FVec F S128x128 .f32 :=
  subf (subf (subf (subf (subf (subf (subf (subf y (x 0)) (x 1)) (x 2)) (x 3)) (x 4)) (x 5)) (x 6)) (x 7)
def plus (y : FVec F S128x128 .f32) (x : Fin 8 → FVec F S128x128 .f32) : FVec F S128x128 .f32 :=
  addf (addf (addf (addf (addf (addf (addf (addf y (x 0)) (x 1)) (x 2)) (x 3)) (x 4)) (x 5)) (x 6)) (x 7)

/-- The gradients of the query, the key and the running log decay of the chunk. -/
def dq (d : FVec F S128x128 .bf16) (hv k b st : FVec F S128x128 .f32) : FVec F S128x128 .f32 :=
  addf (dq0 d b st) (stack fun i => mulf (gq (da d hv) k b i) (eq b i))
def dk (d : FVec F S128x128 .bf16) (hv q b dst : FVec F S128x128 .f32) : FVec F S128x128 .f32 :=
  plus (dk0 hv b dst) fun i => mulf (gk (da d hv) q b i) (ek b i)
def dB (d : FVec F S128x128 .bf16) (hv q k b st dst : FVec F S128x128 .f32) : FVec F S128x128 .f32 :=
  addf (less (subf (mulf q (dq0 d b st)) (mulf k (dk0 hv b dst))) fun i => mulf (extf .f32 (kt k b i) bitsLt_bf16_f32) (gk (da d hv) q b i))
    (stack fun i => mulf (extf .f32 (qt q b i) bitsLt_bf16_f32) (gq (da d hv) k b i))

/-- A block summed from each row to the last: a product with the upper triangle of ones, in three roundings. -/
def triu : FVec F S128x128 .bf16 :=
  truncf .bf16 (sitofp .f32 (extui 32 (cmpi .sge (iota .tc S128x128 32 [1] iota_S128x128_d1_w32) (iota .tc S128x128 32 [0] iota_S128x128_d0_w32)) natLt_1_32)) bitsLt_bf16_f32
def tri (x : FVec F S128x128 .bf16) : FVec F S128x128 .f32 := matmul dot_S128x128_S128x128_S128x128_1_0_0_1_n_n none triu x acc
def rest (x : FVec F S128x128 .f32) : FVec F S128x128 .f32 := subf x (extf .f32 (tb x) bitsLt_bf16_f32)
def suffix (x : FVec F S128x128 .f32) : FVec F S128x128 .f32 :=
  addf (addf (addf zero (tri (tb x))) (tri (tb (rest x)))) (tri (tb (rest (rest x))))

/-- What the later chunks and the end state give the log decay of every row of the chunk. -/
def dlast (hv k b st dst : FVec F S128x128 .f32) : FVec F S1x128 .f32 :=
  addf (colSum (mulf k (dk0 hv b dst))) (mulf (exp (bl b)) (colSum (mulf dst st)))
def dg (d : FVec F S128x128 .bf16) (hv q k b st dst : FVec F S128x128 .f32) : FVec F S128x128 .f32 :=
  addf (suffix (dB d hv q k b st dst)) (down (dlast hv k b st dst))

/-- The gradient of the forget gate through the log decay, less that through the key. -/
def dfk (d : FVec F S128x128 .bf16) (l : FVec F S1x128 .f32) (hf hv q k b st dst : FVec F S128x128 .f32) : FVec F S128x128 .f32 :=
  subf (divf (dg d hv q k b st dst) (addf (down l) (mulf (om l) (sg hf)))) (dk d hv q b dst)

/-- What is stored: the gradients of the four projections, of the two rows of logits, and of the norm's weight. -/
def duV (a : FVec F S128x128 .bf16) (d : FVec F S128x128 .bf16) (k b dst : FVec F S128x128 .f32) : FVec F S128x128 .bf16 := tb (dv a d k b dst)
def duF (d : FVec F S128x128 .bf16) (l : FVec F S1x128 .f32) (hf hv q k b st dst : FVec F S128x128 .f32) : FVec F S128x128 .bf16 :=
  tb (mulf (mulf (mulf (om l) (dfk d l hf hv q k b st dst)) (sg hf)) (subf one (sg hf)))
def duQ (d : FVec F S128x128 .bf16) (hq hv k b st : FVec F S128x128 .f32) : FVec F S128x128 .bf16 :=
  tb (mulf (dq d hv k b st) (mulf (sg hq) (addf one (mulf hq (subf one (sg hq))))))
def duG (o dog hg : FVec F S128x128 .f32) (gn : FVec F S1x128 .f32) : FVec F S128x128 .bf16 :=
  tb (mulf (mulf dog (mulf (oh o) (down gn))) (mulf (sg hg) (addf one (mulf hg (subf one (sg hg))))))
def dlb (d : FVec F S128x128 .bf16) (l : FVec F S1x128 .f32) (hf hv q k b st dst : FVec F S128x128 .f32) : FVec F S1x128 .f32 :=
  mulf (colSum (mulf (subf one (sg hf)) (dfk d l hf hv q k b st dst))) (mulf l (om1 l))
def dgn (o dog hg : FVec F S128x128 .f32) : FVec F S1x128 .f32 := colSum (mulf (dy dog hg) (oh o))

/-- The gradient of the state before the chunk from that after it. -/
def dst' (d : FVec F S128x128 .bf16) (q b dst : FVec F S128x128 .f32) : FVec F S128x128 .f32 :=
  addf (mulf dst (down (exp (bl b)))) (matmul dot_S128x128_S128x128_S128x128_0_0_1_1_n_n none d (tb (mulf q (exp b))) acc)

/-- What one chunk of one head reads. -/
structure In (F : FTy → Type) where
  hq : FVec F S128x128 .f32
  hf : FVec F S128x128 .f32
  hv : FVec F S128x128 .f32
  hg : FVec F S128x128 .f32
  l : FVec F S1x128 .f32
  gn : FVec F S1x128 .f32
  st : FVec F S128x128 .f32
  b : FVec F S128x128 .f32
  a : FVec F S128x128 .bf16
  o : FVec F S128x128 .f32
  dog : FVec F S128x128 .f32

namespace In

variable (I : In F) (dst : FVec F S128x128 .f32)

def d : FVec F S128x128 .bf16 := dOb I.o I.dog I.hg I.gn
def k : FVec F S128x128 .f32 := kk I.l I.hf
def q : FVec F S128x128 .f32 := qq I.hq
def oV : FVec F S128x128 .bf16 := duV I.a I.d I.k I.b dst
def oF : FVec F S128x128 .bf16 := duF I.d I.l I.hf I.hv I.q I.k I.b I.st dst
def oQ : FVec F S128x128 .bf16 := duQ I.d I.hq I.hv I.k I.b I.st
def oG : FVec F S128x128 .bf16 := duG I.o I.dog I.hg I.gn
def oL : FVec F S1x128 .f32 := dlb I.d I.l I.hf I.hv I.q I.k I.b I.st dst
def oN : FVec F S1x128 .f32 := dgn I.o I.dog I.hg
def oS : FVec F S128x128 .f32 := dst' I.d I.q I.b dst

end In

/-! ## The loads and stores of one grid point -/

theorem inb_u (o : ℕ) (ho : o ≤ 1536) (c h : Fin 4) : ∀ a, ![128 * c.val, o + 128 * h.val] a + S128x128.size a ≤ S512x2048.size a := by
  intro a; fin_cases a <;> simp [Shape.size] <;> omega
theorem inb_x (c h : Fin 4) : ∀ a, ![128 * c.val, 128 * h.val] a + S128x128.size a ≤ S512x512.size a := by
  intro a; fin_cases a <;> simp [Shape.size] <;> omega
theorem inb_g (h : Fin 4) : ∀ a, ![0, 128 * h.val] a + S1x128.size a ≤ S1x512.size a := by
  intro a; fin_cases a <;> simp [Shape.size] <;> omega
theorem inb_l (r : Fin 2) (h : Fin 4) : ∀ a, ![r.val, 128 * h.val] a + S1x128.size a ≤ S2x512.size a := by
  intro a; fin_cases a <;> simp [Shape.size] <;> omega
theorem inb_st (c h : Fin 4) : ∀ a, ![c.val, h.val, 0, 0] a + S1x1x128x128.size a ≤ S4x4x128x128.size a := by
  intro a; fin_cases a <;> simp [Shape.size] <;> omega
theorem inb_s (h : Fin 4) : ∀ a, ![h.val, 0, 0] a + S1x128x128.size a ≤ S4x128x128.size a := by
  intro a; fin_cases a <;> simp [Shape.size] <;> omega
theorem inb_LG : ∀ a, ![0, 0] a + S2x512.size a ≤ S2x512.size a := by
  intro a; fin_cases a <;> simp [Shape.size]

def rU (o : ℕ) (ho : o ≤ 1536) (c h : Fin 4) : Rect S512x2048 := Rect.unit ![128 * c.val, o + 128 * h.val] S128x128.size (inb_u o ho c h)
def rX (c h : Fin 4) : Rect S512x512 := Rect.unit ![128 * c.val, 128 * h.val] S128x128.size (inb_x c h)
def rG (h : Fin 4) : Rect S1x512 := Rect.unit ![0, 128 * h.val] S1x128.size (inb_g h)
def rL (r : Fin 2) (h : Fin 4) : Rect S2x512 := Rect.unit ![r.val, 128 * h.val] S1x128.size (inb_l r h)
def rT (c h : Fin 4) : Rect S4x4x128x128 := Rect.unit ![c.val, h.val, 0, 0] S1x1x128x128.size (inb_st c h)
def rS (h : Fin 4) : Rect S4x128x128 := Rect.unit ![h.val, 0, 0] S1x128x128.size (inb_s h)

section

variable (arg1 : Memref sig .tc .vmem S512x2048 .f32) (harg1 : arg1.IsWhole) (arg2 : Memref sig .tc .vmem S2x512 .f32) (harg2 : arg2.IsWhole)
  (arg3 : Memref sig .tc .vmem S1x512 .f32) (harg3 : arg3.IsWhole) (arg4 : Memref sig .tc .vmem S4x4x128x128 .f32) (harg4 : arg4.IsWhole)
  (arg5 : Memref sig .tc .vmem S512x512 .f32) (harg5 : arg5.IsWhole) (arg6 : Memref sig .tc .vmem S512x512 .bf16) (harg6 : arg6.IsWhole)
  (arg7 : Memref sig .tc .vmem S512x512 .f32) (harg7 : arg7.IsWhole) (arg8 : Memref sig .tc .vmem S512x512 .f32) (harg8 : arg8.IsWhole)
  (arg10 : Memref sig .tc .vmem S2x512 .f32) (arg11 : Memref sig .tc .vmem S1x512 .f32) (arg12 : Memref sig .tc .vmem S4x128x128 .f32)
  (x0 : Vec F S512x2048 .f32) (x1 : Vec F S2x512 .f32) (x2 : Vec F S1x512 .f32) (x3 : Vec F S4x4x128x128 .f32) (x4 : Vec F S512x512 .f32)
  (x5 : Vec F S512x512 .bf16) (x6 : Vec F S512x512 .f32) (x7 : Vec F S512x512 .f32)

/-- What chunk `c` of head `h` reads of the blocks of a grid point. -/
def inp (c h : Fin 4) : In F where
  hq := arg1.view.readAt (Elt F) (rU 0 (by omega) c h).toLoadRect (harg1.unread x0)
  hf := arg1.view.readAt (Elt F) (rU 512 (by omega) c h).toLoadRect (harg1.unread x0)
  hv := arg1.view.readAt (Elt F) (rU 1024 (by omega) c h).toLoadRect (harg1.unread x0)
  hg := arg1.view.readAt (Elt F) (rU 1536 (by omega) c h).toLoadRect (harg1.unread x0)
  l := lbs (arg2.view.readAt (Elt F) (Rect.unit (s := S2x512) ![0, 0] S2x512.size inb_LG).toLoadRect (harg2.unread x1)) h
  gn := arg3.view.readAt (Elt F) (rG h).toLoadRect (harg3.unread x2)
  st := shapeCast S128x128 (arg4.view.readAt (Elt F) (rT c h).toLoadRect (harg4.unread x3)) shapeCasts_S1x1x128x128_S128x128
  b := shapeCast S128x128 (arg5.view.readAt (Elt F) (rX c h).toLoadRect (harg5.unread x4)) shapeCasts_S128x128_S128x128
  a := shapeCast S128x128 (arg6.view.readAt (Elt F) (rX c h).toLoadRect (harg6.unread x5)) shapeCasts_S128x128_S128x128
  o := shapeCast S128x128 (arg7.view.readAt (Elt F) (rX c h).toLoadRect (harg7.unread x6)) shapeCasts_S128x128_S128x128
  dog := arg8.view.readAt (Elt F) (rX c h).toLoadRect (harg8.unread x7)

end

/-- The stores to the state's gradient after a chunk, newest first. -/
def pS (I : Fin 4 → In F) (t : Fin 4 → FVec F S1x128x128 .f32) (h : Fin 4) : View.Piece (Elt F) S4x128x128 .f32 :=
  ⟨rS h, shapeCast S1x128x128 ((I h).oS (shapeCast S128x128 (t h) shapeCasts_S1x128x128_S128x128)) shapeCasts_S128x128_S1x128x128⟩
def stepS (I : Fin 4 → In F) (t : Fin 4 → FVec F S1x128x128 .f32) (L : List (View.Piece (Elt F) S4x128x128 .f32)) :
    List (View.Piece (Elt F) S4x128x128 .f32) := pS I t 3 :: pS I t 2 :: pS I t 1 :: pS I t 0 :: L

/-- The stores of the projections' gradients of one chunk, newest first. -/
def pU (c : Fin 4) (I : Fin 4 → In F) (t : Fin 4 → FVec F S1x128x128 .f32) : List (View.Piece (Elt F) S512x2048 .bf16) :=
  let D h := shapeCast S128x128 (t h) shapeCasts_S1x128x128_S128x128
  [⟨rU 1024 (by omega) c 3, (I 3).oV (D 3)⟩, ⟨rU 512 (by omega) c 3, (I 3).oF (D 3)⟩, ⟨rU 0 (by omega) c 3, (I 3).oQ⟩,
   ⟨rU 1024 (by omega) c 2, (I 2).oV (D 2)⟩, ⟨rU 512 (by omega) c 2, (I 2).oF (D 2)⟩, ⟨rU 0 (by omega) c 2, (I 2).oQ⟩,
   ⟨rU 1024 (by omega) c 1, (I 1).oV (D 1)⟩, ⟨rU 512 (by omega) c 1, (I 1).oF (D 1)⟩, ⟨rU 0 (by omega) c 1, (I 1).oQ⟩,
   ⟨rU 1024 (by omega) c 0, (I 0).oV (D 0)⟩, ⟨rU 512 (by omega) c 0, (I 0).oF (D 0)⟩, ⟨rU 0 (by omega) c 0, (I 0).oQ⟩,
   ⟨rU 1536 (by omega) c 3, (I 3).oG⟩, ⟨rU 1536 (by omega) c 2, (I 2).oG⟩, ⟨rU 1536 (by omega) c 1, (I 1).oG⟩, ⟨rU 1536 (by omega) c 0, (I 0).oG⟩]

/-- What the load of head `h` finds of the state's gradient after the stores `L`. -/
def again (arg12 : Memref sig .tc .vmem S4x128x128 .f32) (L : List (View.Piece (Elt F) S4x128x128 .f32)) (h : Fin 4) : FVec F S1x128x128 .f32 :=
  arg12.view.readCov L (rS h).toLoadRect

/-- The state's gradient before each of the four chunks of a point, by the stores so far. -/
def L1 (I : Fin 4 → Fin 4 → In F) (t0 : Fin 4 → FVec F S1x128x128 .f32) (L0 : List (View.Piece (Elt F) S4x128x128 .f32)) := stepS (I 3) t0 L0
def L2 (arg12 : Memref sig .tc .vmem S4x128x128 .f32) (I : Fin 4 → Fin 4 → In F) (t0 : Fin 4 → FVec F S1x128x128 .f32) (L0 : List (View.Piece (Elt F) S4x128x128 .f32)) :=
  stepS (I 2) (again arg12 (L1 I t0 L0)) (L1 I t0 L0)
def L3 (arg12 : Memref sig .tc .vmem S4x128x128 .f32) (I : Fin 4 → Fin 4 → In F) (t0 : Fin 4 → FVec F S1x128x128 .f32) (L0 : List (View.Piece (Elt F) S4x128x128 .f32)) :=
  stepS (I 1) (again arg12 (L2 arg12 I t0 L0)) (L2 arg12 I t0 L0)
def L4 (arg12 : Memref sig .tc .vmem S4x128x128 .f32) (I : Fin 4 → Fin 4 → In F) (t0 : Fin 4 → FVec F S1x128x128 .f32) (L0 : List (View.Piece (Elt F) S4x128x128 .f32)) :=
  stepS (I 0) (again arg12 (L3 arg12 I t0 L0)) (L3 arg12 I t0 L0)

def listU (arg12 : Memref sig .tc .vmem S4x128x128 .f32) (I : Fin 4 → Fin 4 → In F) (t0 : Fin 4 → FVec F S1x128x128 .f32) (L0 : List (View.Piece (Elt F) S4x128x128 .f32)) :
    List (View.Piece (Elt F) S512x2048 .bf16) :=
  pU 0 (I 0) (again arg12 (L3 arg12 I t0 L0)) ++ (pU 1 (I 1) (again arg12 (L2 arg12 I t0 L0)) ++
    (pU 2 (I 2) (again arg12 (L1 I t0 L0)) ++ pU 3 (I 3) t0))

/-- One head's stores to the gradient of the logits: the first row gains what the second loses. `ld` is what a load finds after the
    stores before it. -/
def oneL (ld : List (View.Piece (Elt F) S2x512 .f32) → Fin 2 → Fin 4 → FVec F S1x128 .f32) (w : FVec F S1x128 .f32) (h : Fin 4)
    (L : List (View.Piece (Elt F) S2x512 .f32)) : List (View.Piece (Elt F) S2x512 .f32) :=
  let M : List (View.Piece (Elt F) S2x512 .f32) := ⟨rL 0 h, addf (shapeCast S1x128 (ld L 0 h) shapeCasts_S1x128_S1x128) w⟩ :: L
  ⟨rL 1 h, subf (shapeCast S1x128 (ld M 1 h) shapeCasts_S1x128_S1x128) w⟩ :: M
def stepL (ld : List (View.Piece (Elt F) S2x512 .f32) → Fin 2 → Fin 4 → FVec F S1x128 .f32) (w : Fin 4 → FVec F S1x128 .f32)
    (L : List (View.Piece (Elt F) S2x512 .f32)) : List (View.Piece (Elt F) S2x512 .f32) :=
  oneL ld (w 3) 3 (oneL ld (w 2) 2 (oneL ld (w 1) 1 (oneL ld (w 0) 0 L)))

/-- The stores to the gradient of the norm's weight, likewise. -/
def oneN (ld : List (View.Piece (Elt F) S1x512 .f32) → Fin 4 → FVec F S1x128 .f32) (w : FVec F S1x128 .f32) (h : Fin 4)
    (L : List (View.Piece (Elt F) S1x512 .f32)) : List (View.Piece (Elt F) S1x512 .f32) :=
  ⟨rG h, addf (shapeCast S1x128 (ld L h) shapeCasts_S1x128_S1x128) w⟩ :: L
def stepN (ld : List (View.Piece (Elt F) S1x512 .f32) → Fin 4 → FVec F S1x128 .f32) (w : Fin 4 → FVec F S1x128 .f32)
    (L : List (View.Piece (Elt F) S1x512 .f32)) : List (View.Piece (Elt F) S1x512 .f32) :=
  oneN ld (w 3) 3 (oneN ld (w 2) 2 (oneN ld (w 1) 1 (oneN ld (w 0) 0 L)))

/-- The loads that find the stores so far. -/
def ldL (arg10 : Memref sig .tc .vmem S2x512 .f32) (L : List (View.Piece (Elt F) S2x512 .f32)) (r : Fin 2) (h : Fin 4) : FVec F S1x128 .f32 :=
  arg10.view.readCov L (rL r h).toLoadRect
def ldN (arg11 : Memref sig .tc .vmem S1x512 .f32) (L : List (View.Piece (Elt F) S1x512 .f32)) (h : Fin 4) : FVec F S1x128 .f32 :=
  arg11.view.readCov L (rG h).toLoadRect

def rowL (I : Fin 4 → In F) (t : Fin 4 → FVec F S1x128x128 .f32) (h : Fin 4) : FVec F S1x128 .f32 :=
  (I h).oL (shapeCast S128x128 (t h) shapeCasts_S1x128x128_S128x128)

def listL (arg10 : Memref sig .tc .vmem S2x512 .f32) (arg12 : Memref sig .tc .vmem S4x128x128 .f32) (I : Fin 4 → Fin 4 → In F)
    (t0 : Fin 4 → FVec F S1x128x128 .f32) (L0 : List (View.Piece (Elt F) S4x128x128 .f32))
    (ld : List (View.Piece (Elt F) S2x512 .f32) → Fin 2 → Fin 4 → FVec F S1x128 .f32) (M0 : List (View.Piece (Elt F) S2x512 .f32)) :
    List (View.Piece (Elt F) S2x512 .f32) :=
  stepL (ldL arg10) (rowL (I 0) (again arg12 (L3 arg12 I t0 L0))) (stepL (ldL arg10) (rowL (I 1) (again arg12 (L2 arg12 I t0 L0)))
    (stepL (ldL arg10) (rowL (I 2) (again arg12 (L1 I t0 L0))) (stepL ld (rowL (I 3) t0) M0)))

def listN (arg11 : Memref sig .tc .vmem S1x512 .f32) (I : Fin 4 → Fin 4 → In F)
    (ld : List (View.Piece (Elt F) S1x512 .f32) → Fin 4 → FVec F S1x128 .f32) (M0 : List (View.Piece (Elt F) S1x512 .f32)) :
    List (View.Piece (Elt F) S1x512 .f32) :=
  stepN (ldN arg11) (fun h => (I 0 h).oN) (stepN (ldN arg11) (fun h => (I 1 h).oN) (stepN (ldN arg11) (fun h => (I 2 h).oN) (stepN ld (fun h => (I 3 h).oN) M0)))

/-- The fills of the first point. -/
theorem inb_S : ∀ a, ![0, 0, 0] a + S4x128x128.size a ≤ S4x128x128.size a := by intro a; fin_cases a <;> simp [Shape.size]
theorem inb_N : ∀ a, ![0, 0] a + S1x512.size a ≤ S1x512.size a := by intro a; fin_cases a <;> simp [Shape.size]
def fillS : List (View.Piece (Elt F) S4x128x128 .f32) :=
  [⟨Rect.unit ![0, 0, 0] S4x128x128.size inb_S, shapeCast S4x128x128 (broadcast S4x128x128 (Scalar.ofBits .f32 0x00000000#32)) shapeCasts_S4x128x128_S4x128x128⟩]
def fillL : List (View.Piece (Elt F) S2x512 .f32) := [⟨Rect.unit ![0, 0] S2x512.size inb_LG, broadcast S2x512 (Scalar.ofBits .f32 0x00000000#32)⟩]
def fillN : List (View.Piece (Elt F) S1x512 .f32) := [⟨Rect.unit ![0, 0] S1x512.size inb_N, broadcast S1x512 (Scalar.ofBits .f32 0x00000000#32)⟩]

end

end Cert.KernelIdeal.Chunk

end
-- ==== Proof.Stores.lean ====
/-
  The stores of one grid point are the lists of Proof.Chunk: the first point starts the carried gradients from zero, the others from
  what the point before left.
-/
module

public import proofs.«01_k».proof.Proof.Chunk

@[expose] public section

set_option maxRecDepth 65536

noncomputable section

namespace Cert.KernelIdeal.Chunk

open Cert.KernelIdeal Cert.KernelIdeal.Gen Idealize Idealize.ShloMosaic Idealize.ShloMosaic.TcCoe

variable {F : FTy → Type} [FloatOps F]

theorem listU_A (c : Dev nD) (i : grid0.Coords) (arg1 : Memref sig .tc .vmem S512x2048 .f32) (harg1 : arg1.IsWhole) (arg2 : Memref sig .tc .vmem S2x512 .f32) (harg2 : arg2.IsWhole) (arg3 : Memref sig .tc .vmem S1x512 .f32) (harg3 : arg3.IsWhole) (arg4 : Memref sig .tc .vmem S4x4x128x128 .f32) (harg4 : arg4.IsWhole) (arg5 : Memref sig .tc .vmem S512x512 .f32) (harg5 : arg5.IsWhole) (arg6 : Memref sig .tc .vmem S512x512 .bf16) (harg6 : arg6.IsWhole) (arg7 : Memref sig .tc .vmem S512x512 .f32) (harg7 : arg7.IsWhole) (arg8 : Memref sig .tc .vmem S512x512 .f32) (harg8 : arg8.IsWhole) (arg9 : Memref sig .tc .vmem S512x2048 .bf16) (harg9 : arg9.IsWhole) (arg10 : Memref sig .tc .vmem S2x512 .f32) (harg10 : arg10.IsWhole) (arg11 : Memref sig .tc .vmem S1x512 .f32) (harg11 : arg11.IsWhole) (arg12 : Memref sig .tc .vmem S4x128x128 .f32) (harg12 : arg12.IsWhole) (hc0 : cond0_0 i)
    (x0 : Vec F S512x2048 .f32) (x1 : Vec F S2x512 .f32) (x2 : Vec F S1x512 .f32) (x3 : Vec F S4x4x128x128 .f32) (x4 : Vec F S512x512 .f32) (x5 : Vec F S512x512 .bf16) (x6 : Vec F S512x512 .f32) (x7 : Vec F S512x512 .f32) :
    ((kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7).1) = listU arg12 (inp arg1 harg1 arg2 harg2 arg3 harg3 arg4 harg4 arg5 harg5 arg6 harg6 arg7 harg7 arg8 harg8 x0 x1 x2 x3 x4 x5 x6 x7) (again arg12 fillS) fillS := by
  sl_kernel_rfl

theorem listL_A (c : Dev nD) (i : grid0.Coords) (arg1 : Memref sig .tc .vmem S512x2048 .f32) (harg1 : arg1.IsWhole) (arg2 : Memref sig .tc .vmem S2x512 .f32) (harg2 : arg2.IsWhole) (arg3 : Memref sig .tc .vmem S1x512 .f32) (harg3 : arg3.IsWhole) (arg4 : Memref sig .tc .vmem S4x4x128x128 .f32) (harg4 : arg4.IsWhole) (arg5 : Memref sig .tc .vmem S512x512 .f32) (harg5 : arg5.IsWhole) (arg6 : Memref sig .tc .vmem S512x512 .bf16) (harg6 : arg6.IsWhole) (arg7 : Memref sig .tc .vmem S512x512 .f32) (harg7 : arg7.IsWhole) (arg8 : Memref sig .tc .vmem S512x512 .f32) (harg8 : arg8.IsWhole) (arg9 : Memref sig .tc .vmem S512x2048 .bf16) (harg9 : arg9.IsWhole) (arg10 : Memref sig .tc .vmem S2x512 .f32) (harg10 : arg10.IsWhole) (arg11 : Memref sig .tc .vmem S1x512 .f32) (harg11 : arg11.IsWhole) (arg12 : Memref sig .tc .vmem S4x128x128 .f32) (harg12 : arg12.IsWhole) (hc0 : cond0_0 i)
    (x0 : Vec F S512x2048 .f32) (x1 : Vec F S2x512 .f32) (x2 : Vec F S1x512 .f32) (x3 : Vec F S4x4x128x128 .f32) (x4 : Vec F S512x512 .f32) (x5 : Vec F S512x512 .bf16) (x6 : Vec F S512x512 .f32) (x7 : Vec F S512x512 .f32) :
    ((kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7).2.1) = listL arg10 arg12 (inp arg1 harg1 arg2 harg2 arg3 harg3 arg4 harg4 arg5 harg5 arg6 harg6 arg7 harg7 arg8 harg8 x0 x1 x2 x3 x4 x5 x6 x7) (again arg12 fillS) fillS (ldL arg10) fillL := by
  sl_kernel_rfl

theorem listN_A (c : Dev nD) (i : grid0.Coords) (arg1 : Memref sig .tc .vmem S512x2048 .f32) (harg1 : arg1.IsWhole) (arg2 : Memref sig .tc .vmem S2x512 .f32) (harg2 : arg2.IsWhole) (arg3 : Memref sig .tc .vmem S1x512 .f32) (harg3 : arg3.IsWhole) (arg4 : Memref sig .tc .vmem S4x4x128x128 .f32) (harg4 : arg4.IsWhole) (arg5 : Memref sig .tc .vmem S512x512 .f32) (harg5 : arg5.IsWhole) (arg6 : Memref sig .tc .vmem S512x512 .bf16) (harg6 : arg6.IsWhole) (arg7 : Memref sig .tc .vmem S512x512 .f32) (harg7 : arg7.IsWhole) (arg8 : Memref sig .tc .vmem S512x512 .f32) (harg8 : arg8.IsWhole) (arg9 : Memref sig .tc .vmem S512x2048 .bf16) (harg9 : arg9.IsWhole) (arg10 : Memref sig .tc .vmem S2x512 .f32) (harg10 : arg10.IsWhole) (arg11 : Memref sig .tc .vmem S1x512 .f32) (harg11 : arg11.IsWhole) (arg12 : Memref sig .tc .vmem S4x128x128 .f32) (harg12 : arg12.IsWhole) (hc0 : cond0_0 i)
    (x0 : Vec F S512x2048 .f32) (x1 : Vec F S2x512 .f32) (x2 : Vec F S1x512 .f32) (x3 : Vec F S4x4x128x128 .f32) (x4 : Vec F S512x512 .f32) (x5 : Vec F S512x512 .bf16) (x6 : Vec F S512x512 .f32) (x7 : Vec F S512x512 .f32) :
    ((kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7).2.2.1) = listN arg11 (inp arg1 harg1 arg2 harg2 arg3 harg3 arg4 harg4 arg5 harg5 arg6 harg6 arg7 harg7 arg8 harg8 x0 x1 x2 x3 x4 x5 x6 x7) (ldN arg11) fillN := by
  sl_kernel_rfl

theorem listS_A (c : Dev nD) (i : grid0.Coords) (arg1 : Memref sig .tc .vmem S512x2048 .f32) (harg1 : arg1.IsWhole) (arg2 : Memref sig .tc .vmem S2x512 .f32) (harg2 : arg2.IsWhole) (arg3 : Memref sig .tc .vmem S1x512 .f32) (harg3 : arg3.IsWhole) (arg4 : Memref sig .tc .vmem S4x4x128x128 .f32) (harg4 : arg4.IsWhole) (arg5 : Memref sig .tc .vmem S512x512 .f32) (harg5 : arg5.IsWhole) (arg6 : Memref sig .tc .vmem S512x512 .bf16) (harg6 : arg6.IsWhole) (arg7 : Memref sig .tc .vmem S512x512 .f32) (harg7 : arg7.IsWhole) (arg8 : Memref sig .tc .vmem S512x512 .f32) (harg8 : arg8.IsWhole) (arg9 : Memref sig .tc .vmem S512x2048 .bf16) (harg9 : arg9.IsWhole) (arg10 : Memref sig .tc .vmem S2x512 .f32) (harg10 : arg10.IsWhole) (arg11 : Memref sig .tc .vmem S1x512 .f32) (harg11 : arg11.IsWhole) (arg12 : Memref sig .tc .vmem S4x128x128 .f32) (harg12 : arg12.IsWhole) (hc0 : cond0_0 i)
    (x0 : Vec F S512x2048 .f32) (x1 : Vec F S2x512 .f32) (x2 : Vec F S1x512 .f32) (x3 : Vec F S4x4x128x128 .f32) (x4 : Vec F S512x512 .f32) (x5 : Vec F S512x512 .bf16) (x6 : Vec F S512x512 .f32) (x7 : Vec F S512x512 .f32) :
    ((kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7).2.2.2.1) = L4 arg12 (inp arg1 harg1 arg2 harg2 arg3 harg3 arg4 harg4 arg5 harg5 arg6 harg6 arg7 harg7 arg8 harg8 x0 x1 x2 x3 x4 x5 x6 x7) (again arg12 fillS) fillS := by
  sl_kernel_rfl

theorem listU_B (c : Dev nD) (i : grid0.Coords) (arg1 : Memref sig .tc .vmem S512x2048 .f32) (harg1 : arg1.IsWhole) (arg2 : Memref sig .tc .vmem S2x512 .f32) (harg2 : arg2.IsWhole) (arg3 : Memref sig .tc .vmem S1x512 .f32) (harg3 : arg3.IsWhole) (arg4 : Memref sig .tc .vmem S4x4x128x128 .f32) (harg4 : arg4.IsWhole) (arg5 : Memref sig .tc .vmem S512x512 .f32) (harg5 : arg5.IsWhole) (arg6 : Memref sig .tc .vmem S512x512 .bf16) (harg6 : arg6.IsWhole) (arg7 : Memref sig .tc .vmem S512x512 .f32) (harg7 : arg7.IsWhole) (arg8 : Memref sig .tc .vmem S512x512 .f32) (harg8 : arg8.IsWhole) (arg9 : Memref sig .tc .vmem S512x2048 .bf16) (harg9 : arg9.IsWhole) (arg10 : Memref sig .tc .vmem S2x512 .f32) (harg10 : arg10.IsWhole) (arg11 : Memref sig .tc .vmem S1x512 .f32) (harg11 : arg11.IsWhole) (arg12 : Memref sig .tc .vmem S4x128x128 .f32) (harg12 : arg12.IsWhole) (hc0 : ¬cond0_0 i)
    (x0 : Vec F S512x2048 .f32) (x1 : Vec F S2x512 .f32) (x2 : Vec F S1x512 .f32) (x3 : Vec F S4x4x128x128 .f32) (x4 : Vec F S512x512 .f32) (x5 : Vec F S512x512 .bf16) (x6 : Vec F S512x512 .f32) (x7 : Vec F S512x512 .f32) (xo9 : Vec F S2x512 .f32) (xo10 : Vec F S1x512 .f32) (xs0 : Vec F S4x128x128 .f32) :
    ((kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 xo9 xo10 xs0).1) = listU arg12 (inp arg1 harg1 arg2 harg2 arg3 harg3 arg4 harg4 arg5 harg5 arg6 harg6 arg7 harg7 arg8 harg8 x0 x1 x2 x3 x4 x5 x6 x7) (fun h => arg12.view.readAt (Elt F) (rS h).toLoadRect (harg12.unread xs0)) [] := by
  sl_kernel_rfl

theorem listL_B (c : Dev nD) (i : grid0.Coords) (arg1 : Memref sig .tc .vmem S512x2048 .f32) (harg1 : arg1.IsWhole) (arg2 : Memref sig .tc .vmem S2x512 .f32) (harg2 : arg2.IsWhole) (arg3 : Memref sig .tc .vmem S1x512 .f32) (harg3 : arg3.IsWhole) (arg4 : Memref sig .tc .vmem S4x4x128x128 .f32) (harg4 : arg4.IsWhole) (arg5 : Memref sig .tc .vmem S512x512 .f32) (harg5 : arg5.IsWhole) (arg6 : Memref sig .tc .vmem S512x512 .bf16) (harg6 : arg6.IsWhole) (arg7 : Memref sig .tc .vmem S512x512 .f32) (harg7 : arg7.IsWhole) (arg8 : Memref sig .tc .vmem S512x512 .f32) (harg8 : arg8.IsWhole) (arg9 : Memref sig .tc .vmem S512x2048 .bf16) (harg9 : arg9.IsWhole) (arg10 : Memref sig .tc .vmem S2x512 .f32) (harg10 : arg10.IsWhole) (arg11 : Memref sig .tc .vmem S1x512 .f32) (harg11 : arg11.IsWhole) (arg12 : Memref sig .tc .vmem S4x128x128 .f32) (harg12 : arg12.IsWhole) (hc0 : ¬cond0_0 i)
    (x0 : Vec F S512x2048 .f32) (x1 : Vec F S2x512 .f32) (x2 : Vec F S1x512 .f32) (x3 : Vec F S4x4x128x128 .f32) (x4 : Vec F S512x512 .f32) (x5 : Vec F S512x512 .bf16) (x6 : Vec F S512x512 .f32) (x7 : Vec F S512x512 .f32) (xo9 : Vec F S2x512 .f32) (xo10 : Vec F S1x512 .f32) (xs0 : Vec F S4x128x128 .f32) :
    ((kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 xo9 xo10 xs0).2.1) = listL arg10 arg12 (inp arg1 harg1 arg2 harg2 arg3 harg3 arg4 harg4 arg5 harg5 arg6 harg6 arg7 harg7 arg8 harg8 x0 x1 x2 x3 x4 x5 x6 x7) (fun h => arg12.view.readAt (Elt F) (rS h).toLoadRect (harg12.unread xs0)) [] (fun _ r h => arg10.view.readAt (Elt F) (rL r h).toLoadRect (harg10.unread xo9)) [] := by
  sl_kernel_rfl

theorem listN_B (c : Dev nD) (i : grid0.Coords) (arg1 : Memref sig .tc .vmem S512x2048 .f32) (harg1 : arg1.IsWhole) (arg2 : Memref sig .tc .vmem S2x512 .f32) (harg2 : arg2.IsWhole) (arg3 : Memref sig .tc .vmem S1x512 .f32) (harg3 : arg3.IsWhole) (arg4 : Memref sig .tc .vmem S4x4x128x128 .f32) (harg4 : arg4.IsWhole) (arg5 : Memref sig .tc .vmem S512x512 .f32) (harg5 : arg5.IsWhole) (arg6 : Memref sig .tc .vmem S512x512 .bf16) (harg6 : arg6.IsWhole) (arg7 : Memref sig .tc .vmem S512x512 .f32) (harg7 : arg7.IsWhole) (arg8 : Memref sig .tc .vmem S512x512 .f32) (harg8 : arg8.IsWhole) (arg9 : Memref sig .tc .vmem S512x2048 .bf16) (harg9 : arg9.IsWhole) (arg10 : Memref sig .tc .vmem S2x512 .f32) (harg10 : arg10.IsWhole) (arg11 : Memref sig .tc .vmem S1x512 .f32) (harg11 : arg11.IsWhole) (arg12 : Memref sig .tc .vmem S4x128x128 .f32) (harg12 : arg12.IsWhole) (hc0 : ¬cond0_0 i)
    (x0 : Vec F S512x2048 .f32) (x1 : Vec F S2x512 .f32) (x2 : Vec F S1x512 .f32) (x3 : Vec F S4x4x128x128 .f32) (x4 : Vec F S512x512 .f32) (x5 : Vec F S512x512 .bf16) (x6 : Vec F S512x512 .f32) (x7 : Vec F S512x512 .f32) (xo9 : Vec F S2x512 .f32) (xo10 : Vec F S1x512 .f32) (xs0 : Vec F S4x128x128 .f32) :
    ((kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 xo9 xo10 xs0).2.2.1) = listN arg11 (inp arg1 harg1 arg2 harg2 arg3 harg3 arg4 harg4 arg5 harg5 arg6 harg6 arg7 harg7 arg8 harg8 x0 x1 x2 x3 x4 x5 x6 x7) (fun _ h => arg11.view.readAt (Elt F) (rG h).toLoadRect (harg11.unread xo10)) [] := by
  sl_kernel_rfl

theorem listS_B (c : Dev nD) (i : grid0.Coords) (arg1 : Memref sig .tc .vmem S512x2048 .f32) (harg1 : arg1.IsWhole) (arg2 : Memref sig .tc .vmem S2x512 .f32) (harg2 : arg2.IsWhole) (arg3 : Memref sig .tc .vmem S1x512 .f32) (harg3 : arg3.IsWhole) (arg4 : Memref sig .tc .vmem S4x4x128x128 .f32) (harg4 : arg4.IsWhole) (arg5 : Memref sig .tc .vmem S512x512 .f32) (harg5 : arg5.IsWhole) (arg6 : Memref sig .tc .vmem S512x512 .bf16) (harg6 : arg6.IsWhole) (arg7 : Memref sig .tc .vmem S512x512 .f32) (harg7 : arg7.IsWhole) (arg8 : Memref sig .tc .vmem S512x512 .f32) (harg8 : arg8.IsWhole) (arg9 : Memref sig .tc .vmem S512x2048 .bf16) (harg9 : arg9.IsWhole) (arg10 : Memref sig .tc .vmem S2x512 .f32) (harg10 : arg10.IsWhole) (arg11 : Memref sig .tc .vmem S1x512 .f32) (harg11 : arg11.IsWhole) (arg12 : Memref sig .tc .vmem S4x128x128 .f32) (harg12 : arg12.IsWhole) (hc0 : ¬cond0_0 i)
    (x0 : Vec F S512x2048 .f32) (x1 : Vec F S2x512 .f32) (x2 : Vec F S1x512 .f32) (x3 : Vec F S4x4x128x128 .f32) (x4 : Vec F S512x512 .f32) (x5 : Vec F S512x512 .bf16) (x6 : Vec F S512x512 .f32) (x7 : Vec F S512x512 .f32) (xo9 : Vec F S2x512 .f32) (xo10 : Vec F S1x512 .f32) (xs0 : Vec F S4x128x128 .f32) :
    ((kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 xo9 xo10 xs0).2.2.2.1) = L4 arg12 (inp arg1 harg1 arg2 harg2 arg3 harg3 arg4 harg4 arg5 harg5 arg6 harg6 arg7 harg7 arg8 harg8 x0 x1 x2 x3 x4 x5 x6 x7) (fun h => arg12.view.readAt (Elt F) (rS h).toLoadRect (harg12.unread xs0)) [] := by
  sl_kernel_rfl

end Cert.KernelIdeal.Chunk

end
-- ==== Proof.Lift.lean ====
/-
  Blocks whose entries are numbers, given as functions of the row and the lane: each operation of a chunk's backward pass takes such
  blocks to such a block.
-/
module

public import proofs.«01_k».proof.Proof.Chunk
public import proofs.«01_k».proof.Proof.Fold
public import proofs.«01_k».proof.Proof.Real

@[expose] public section

set_option maxRecDepth 16384

noncomputable section

namespace Cert.KernelIdeal.Chunk

open Cert.KernelIdeal Cert.KernelIdeal.Gen Idealize Idealize.ShloMosaic Finset

/-- The block of a function of row and lane. -/
def up {ty : FTy} (f : ℕ → ℕ → ℝ) : FVec Ideal S128x128 ty := fun ix => ((f (ix 0).val (ix 1).val : ℝ) : EReal)
def up16 {ty : FTy} (f : ℕ → ℕ → ℝ) : FVec Ideal S16x128 ty := fun ix => ((f (ix 0).val (ix 1).val : ℝ) : EReal)
def upr {ty : FTy} (f : ℕ → ℝ) : FVec Ideal S1x128 ty := fun ix => ((f (ix 1).val : ℝ) : EReal)
def upc {ty : FTy} (f : ℕ → ℝ) : FVec Ideal S128x1 ty := fun ix => ((f (ix 0).val : ℝ) : EReal)

/-- Sums of numbers over the lanes. -/
theorem fin_sum (n : ℕ) (F : ℕ → ℝ) : ∑ x : Fin n, (F x.val : EReal) = ((∑ x ∈ range n, F x : ℝ) : EReal) := by
  rw [Finset.sum_range, ← Num.coe_sum]
theorem fin_dot (n : ℕ) (F G : ℕ → ℝ) : ∑ x : Fin n, (F x.val : EReal) * (G x.val : EReal) = ((∑ x ∈ range n, F x * G x : ℝ) : EReal) := by
  rw [← fin_sum]
  exact Finset.sum_congr rfl fun _ _ => (EReal.coe_mul _ _).symm

variable (f g : ℕ → ℕ → ℝ) (r s : ℕ → ℝ)

theorem mul_up : mulf (up (ty := .f32) f) (up g) = up fun p d => f p d * g p d := funext fun _ => (EReal.coe_mul _ _).symm
theorem add_up : addf (up (ty := .f32) f) (up g) = up fun p d => f p d + g p d := funext fun _ => (EReal.coe_add _ _).symm
theorem sub_up : subf (up (ty := .f32) f) (up g) = up fun p d => f p d - g p d := funext fun _ => (EReal.coe_sub _ _).symm
theorem div_up (h : ∀ p d, g p d ≠ 0) : divf (up (ty := .f32) f) (up g) = up fun p d => f p d / g p d := funext fun _ => Num.div_coe (h _ _) _
theorem exp_up : exp (up (ty := .f32) f) = up fun p d => Real.exp (f p d) := funext fun _ => Ideal.exp_coe _
theorem mul_up16 : mulf (up16 (ty := .f32) f) (up16 g) = up16 fun p d => f p d * g p d := funext fun _ => (EReal.coe_mul _ _).symm
theorem sub_up16 : subf (up16 (ty := .f32) f) (up16 g) = up16 fun p d => f p d - g p d := funext fun _ => (EReal.coe_sub _ _).symm
theorem exp_up16 : exp (up16 (ty := .f32) f) = up16 fun p d => Real.exp (f p d) := funext fun _ => Ideal.exp_coe _
theorem mul_upr : mulf (upr (ty := .f32) r) (upr s) = upr fun d => r d * s d := funext fun _ => (EReal.coe_mul _ _).symm
theorem add_upr : addf (upr (ty := .f32) r) (upr s) = upr fun d => r d + s d := funext fun _ => (EReal.coe_add _ _).symm
theorem sub_upr : subf (upr (ty := .f32) r) (upr s) = upr fun d => r d - s d := funext fun _ => (EReal.coe_sub _ _).symm
theorem exp_upr : exp (upr (ty := .f32) r) = upr fun d => Real.exp (r d) := funext fun _ => Ideal.exp_coe _
theorem tb_up : tb (up f) = up f := rfl
theorem tr16_up : truncf .bf16 (up16 f) bitsLt_bf16_f32 = up16 f := rfl
theorem ext_up : extf .f32 (up (ty := .bf16) f) bitsLt_bf16_f32 = up f := rfl
theorem ext_up16 : extf .f32 (up16 (ty := .bf16) f) bitsLt_bf16_f32 = up16 f := rfl

theorem one_up : (one : FVec Ideal S128x128 .f32) = up fun _ _ => 1 := by funext ix; pointwise [one, up]; rfl
theorem zero_up : (zero : FVec Ideal S128x128 .f32) = up fun _ _ => 0 := by funext ix; pointwise [zero, up]; rfl

theorem down_up : down (upr r) = up fun _ d => r d := by funext ix; pointwise [down, upr, up]
theorem across_up : across (upc r) = up fun p _ => r p := by funext ix; pointwise [across, upc, up]

theorem rowSum_up : rowSum (up f) = upc fun p => ∑ d ∈ range 128, f p d := by
  funext ix; pointwise [rowSum, up, upc]; exact fin_sum 128 _
theorem colSum_up : colSum (up f) = upr fun d => ∑ p ∈ range 128, f p d := by
  funext ix; pointwise [colSum, up, upr]; exact fin_sum 128 fun x => f x _

theorem dot_tn : matmul dot_S128x128_S128x128_S128x128_0_0_1_1_n_n none (up (ty := .bf16) f) (up (ty := .bf16) g) acc = up fun p d => ∑ x ∈ range 128, f x p * g x d := by
  funext ix; pointwise [acc, up]; exact fin_dot 128 (fun x => f x _) fun x => g x _
theorem dot_nt : matmul dot_S128x128_S128x128_S128x128_1_1_0_0_n_n none (up (ty := .bf16) f) (up (ty := .bf16) g) acc = up fun p d => ∑ x ∈ range 128, f p x * g d x := by
  funext ix; pointwise [acc, up]; exact fin_dot 128 (fun x => f _ x) fun x => g _ x
theorem dot_nn : matmul dot_S128x128_S128x128_S128x128_1_0_0_1_n_n none (up (ty := .bf16) f) (up (ty := .bf16) g) acc = up fun p d => ∑ x ∈ range 128, f p x * g x d := by
  funext ix; pointwise [acc, up]; exact fin_dot 128 (fun x => f _ x) fun x => g x _
theorem dot_k : matmul dot_S16x128_S16x128_S128x128_0_0_1_1_n_n none (up16 (ty := .bf16) f) (up16 (ty := .bf16) g) acc = up fun p d => ∑ x ∈ range 16, f x p * g x d := by
  funext ix; pointwise [acc, up, up16]; exact fin_dot 16 (fun x => f x _) fun x => g x _
theorem dot_q : matmul dot_S16x128_S128x128_S16x128_1_0_0_1_n_n none (up16 (ty := .bf16) f) (up (ty := .bf16) g) acc16 = up16 fun p d => ∑ x ∈ range 128, f p x * g x d := by
  funext ix; pointwise [acc16, up, up16]; exact fin_dot 128 (fun x => f _ x) fun x => g x _

theorem cmp_le : ∀ a b : Fin 128, IntOp.cmpi .sle (BitVec.ofNat 32 a.val) (BitVec.ofNat 32 b.val) = if a.val ≤ b.val then 1#1 else 0#1 := by decide +kernel
theorem cmp_ge : ∀ a b : Fin 128, IntOp.cmpi .sge (BitVec.ofNat 32 a.val) (BitVec.ofNat 32 b.val) = if b.val ≤ a.val then 1#1 else 0#1 := by decide +kernel

theorem triu_up : (triu : FVec Ideal S128x128 .bf16) = up fun p d => if p ≤ d then 1 else 0 := by
  funext ix; pointwise [triu, up]
  have hc : IntOp.cmpi .sge (BitVec.ofNat 32 (ix 1).val) (BitVec.ofNat 32 (ix 0).val) = _ := cmp_ge (ix 1) (ix 0)
  rw [hc]
  by_cases h : (ix 0).val ≤ (ix 1).val
  · rw [if_pos h, if_pos h]; show (((BitVec.toInt _ : ℤ) : ℝ) : EReal) = _; norm_num
  · rw [if_neg h, if_neg h]; show (((BitVec.toInt _ : ℤ) : ℝ) : EReal) = _; norm_num

theorem da_up : da (up f) (up g) = up fun p d => if d ≤ p then ∑ x ∈ range 128, f p x * g d x else 0 := by
  unfold da
  rw [tb_up, dot_nt]
  funext ix; pointwise [up, zero]
  have hc : IntOp.cmpi .sle (BitVec.ofNat 32 (ix 1).val) (BitVec.ofNat 32 (ix 0).val) = _ := cmp_le (ix 1) (ix 0)
  rw [hc]
  by_cases h : (ix 1).val ≤ (ix 0).val
  · rw [if_pos h, if_pos h]; rfl
  · rw [if_neg h, if_neg h]; rfl

theorem rows_up (i : Fin 8) : rows (up f) i = up16 fun p d => f (16 * i.val + p) d := by
  fin_cases i <;> (funext ix; pointwise [rows, up, up16])
theorem ref_up (i : Fin 8) : ref (up f) i = upr fun d => if i.val = 0 then 0 else f (16 * i.val - 1) d := by
  fin_cases i <;> (funext ix; pointwise [ref, up, upr]; try rfl)
theorem bl_up : bl (up f) = upr fun d => f 127 d := by
  funext ix; pointwise [bl, up, upr]

theorem up_congr {ty : FTy} {f g : ℕ → ℕ → ℝ} (h : ∀ p < 128, ∀ d < 128, f p d = g p d) : (up f : FVec Ideal S128x128 ty) = up g :=
  funext fun ix => congrArg Real.toEReal (h _ (ix 0).isLt _ (ix 1).isLt)
theorem upr_congr {ty : FTy} {r s : ℕ → ℝ} (h : ∀ d < 128, r d = s d) : (upr r : FVec Ideal S1x128 ty) = upr s :=
  funext fun ix => congrArg Real.toEReal (h _ (ix 1).isLt)

theorem stack_up (F : Fin 8 → ℕ → ℕ → ℝ) (G : ℕ → ℕ → ℝ) (h : ∀ (i : Fin 8) p d, p < 16 → G (16 * i.val + p) d = F i p d) :
    stack (fun i => up16 (F i)) = up G := by
  funext ix
  have hp : (ix 0).val < 128 := (ix 0).isLt
  have key : ∀ (i : Fin 8) (p : ℕ) (hp : p < 16) (j : Fin 128), (ix 0).val = 16 * i.val + p → j.val = (ix 1).val →
      up16 (ty := .f32) (F i) (ix2 ⟨p, hp⟩ j) = ((G (ix 0).val (ix 1).val : ℝ) : EReal) := by
    intro i p hp j e e'
    rw [e, h i p _ hp, ← e']
    rfl
  pointwise [stack, up]
  by_cases h0 : (ix 0).val < 16
  · rw [dif_pos h0]; exact key 0 _ _ _ (by simp) rfl
  rw [dif_neg h0]
  by_cases h1 : (ix 0).val - 16 < 16
  · rw [dif_pos h1]; exact key 1 _ _ _ (by simp; omega) rfl
  rw [dif_neg h1]
  by_cases h2 : (ix 0).val - 16 - 16 < 16
  · rw [dif_pos h2]; exact key 2 _ _ _ (by simp; omega) rfl
  rw [dif_neg h2]
  by_cases h3 : (ix 0).val - 16 - 16 - 16 < 16
  · rw [dif_pos h3]; exact key 3 _ _ _ (by simp; omega) rfl
  rw [dif_neg h3]
  by_cases h4 : (ix 0).val - 16 - 16 - 16 - 16 < 16
  · rw [dif_pos h4]; exact key 4 _ _ _ (by simp; omega) rfl
  rw [dif_neg h4]
  by_cases h5 : (ix 0).val - 16 - 16 - 16 - 16 - 16 < 16
  · rw [dif_pos h5]; exact key 5 _ _ _ (by simp; omega) rfl
  rw [dif_neg h5]
  by_cases h6 : (ix 0).val - 16 - 16 - 16 - 16 - 16 - 16 < 16
  · rw [dif_pos h6]; exact key 6 _ _ _ (by simp; omega) rfl
  rw [dif_neg h6]
  exact key 7 _ _ _ (by simp; omega) rfl

end Cert.KernelIdeal.Chunk

end
-- ==== Proof.Recur.lean ====
/- The gated recurrence's backward pass over the reals, of one head: the gradients as sums over the whole sequence,
   and the same gradients chunk by chunk, with a state carried forward and a state's gradient carried back. -/
module

public import Mathlib.Analysis.SpecialFunctions.Exp
public import Mathlib.Algebra.BigOperators.Intervals
public import Mathlib.Tactic.Ring
public import Mathlib.Tactic.Linarith

@[expose] public section

namespace Recur

open Finset

/-- The sum of a lane's log decays before row `m`. -/
noncomputable def P (g : ℕ → ℕ → ℝ) (d m : ℕ) : ℝ := ∑ i ∈ range m, g i d

/-- The decay of lane `d` from row `s` to row `t`, nothing backwards. -/
noncomputable def E (g : ℕ → ℕ → ℝ) (t s d : ℕ) : ℝ :=
  if s ≤ t then Real.exp (P g d (t + 1) - P g d (s + 1)) else 0

/-- The scores. -/
noncomputable def sc (g q k : ℕ → ℕ → ℝ) (t s : ℕ) : ℝ := ∑ d ∈ range 128, q t d * k s d * E g t s d

/-- The scores' gradient. -/
noncomputable def ds (v w : ℕ → ℕ → ℝ) (t s : ℕ) : ℝ := ∑ x ∈ range 128, w t x * v s x

noncomputable def dv (T : ℕ) (g q k w : ℕ → ℕ → ℝ) (s x : ℕ) : ℝ := ∑ t ∈ range T, sc g q k t s * w t x

noncomputable def dq (T : ℕ) (g k v w : ℕ → ℕ → ℝ) (t d : ℕ) : ℝ :=
  ∑ s ∈ range T, ds v w t s * k s d * E g t s d

noncomputable def dk (T : ℕ) (g q v w : ℕ → ℕ → ℝ) (s d : ℕ) : ℝ :=
  ∑ t ∈ range T, ds v w t s * q t d * E g t s d

/-- The gradient by the exponent of the decay. -/
noncomputable def dd (g q k v w : ℕ → ℕ → ℝ) (t s d : ℕ) : ℝ := ds v w t s * (q t d * k s d) * E g t s d

/-- The gradient by the running sum of the log decays. -/
noncomputable def dB (T : ℕ) (g q k v w : ℕ → ℕ → ℝ) (t d : ℕ) : ℝ :=
  ∑ s ∈ range T, dd g q k v w t s d - ∑ s ∈ range T, dd g q k v w s t d

/-- The gradient by the log decay of one row. -/
noncomputable def dg (T : ℕ) (g q k v w : ℕ → ℕ → ℝ) (t d : ℕ) : ℝ := ∑ r ∈ Ico t T, dB T g q k v w r d

/-- The state before row `e`, transposed. -/
noncomputable def st (g k v : ℕ → ℕ → ℝ) (e x d : ℕ) : ℝ :=
  ∑ s ∈ range e, v s x * (Real.exp (P g d e - P g d (s + 1)) * k s d)

/-- The gradient by the state after row `m`. -/
noncomputable def dst (T : ℕ) (g q w : ℕ → ℕ → ℝ) (m x d : ℕ) : ℝ :=
  ∑ t ∈ Ico m T, w t x * (q t d * Real.exp (P g d (t + 1) - P g d m))

/-- The running sum of the log decays within the chunk that begins at `e`. -/
noncomputable def b (g : ℕ → ℕ → ℝ) (e p d : ℕ) : ℝ := ∑ i ∈ range (p + 1), g (e + i) d

variable {T : ℕ} {g q k v w : ℕ → ℕ → ℝ}

theorem P_add (d e p : ℕ) : P g d (e + (p + 1)) = P g d e + b g e p d := by
  unfold P b
  rw [sum_range_add]

theorem E_of_lt {t s d : ℕ} (h : t < s) : E g t s d = 0 := if_neg (by omega)

theorem E_of_le {t s d : ℕ} (h : s ≤ t) : E g t s d = Real.exp (P g d (t + 1) - P g d (s + 1)) := if_pos h

theorem sc_of_lt {t s : ℕ} (h : t < s) : sc g q k t s = 0 :=
  sum_eq_zero fun d _ => by rw [E_of_lt h, mul_zero]

/-- A decay within the chunk. -/
theorem E_chunk {e r p d : ℕ} (h : p ≤ r) : E g (e + r) (e + p) d = Real.exp (b g e r d - b g e p d) := by
  rw [E_of_le (by omega), add_assoc, add_assoc, P_add d e r, P_add d e p]
  congr 1; ring

/-- A decay out of the chunk factors at its end. -/
theorem E_out {e p t d : ℕ} (h : p < 128) (ht : e + 128 ≤ t) :
    E g t (e + p) d = Real.exp (b g e 127 d - b g e p d) * Real.exp (P g d (t + 1) - P g d (e + 128)) := by
  have h128 : P g d (e + 128) = P g d e + b g e 127 d := P_add d e 127
  rw [E_of_le (by omega), ← Real.exp_add, h128, add_assoc e p 1, P_add d e p]
  congr 1; ring

/-- A decay into the chunk factors at its start. -/
theorem E_in {e p s d : ℕ} (hs : s < e) :
    E g (e + p) s d = Real.exp (b g e p d) * Real.exp (P g d e - P g d (s + 1)) := by
  rw [E_of_le (by omega), ← Real.exp_add, add_assoc e p 1, P_add d e p]
  congr 1; ring

/-- A sum over the sequence: before the chunk, in it, after it. -/
theorem sum_split {e : ℕ} (he : e + 128 ≤ T) (f : ℕ → ℝ) :
    ∑ t ∈ range T, f t = ∑ t ∈ range e, f t + ∑ r ∈ range 128, f (e + r) + ∑ t ∈ Ico (e + 128) T, f t := by
  rw [← sum_range_add, sum_range_add_sum_Ico f he]

theorem sum_Ico_split {e p : ℕ} (hp : p < 128) (he : e + 128 ≤ T) (f : ℕ → ℝ) :
    ∑ t ∈ Ico (e + p) T, f t
      = ∑ r ∈ range 128, (if p ≤ r then f (e + r) else 0) + ∑ t ∈ Ico (e + 128) T, f t := by
  rw [← sum_Ico_consecutive f (show e + p ≤ e + 128 by omega) he]
  congr 1
  rw [← sum_filter, ← sum_image (g := fun r => e + r) (by intro a _ b _ h; exact Nat.add_left_cancel h)]
  refine sum_congr ?_ fun _ _ => rfl
  ext t
  simp only [mem_Ico, mem_image, mem_filter, mem_range]
  constructor
  · intro h; exact ⟨t - e, by omega, by omega⟩
  · rintro ⟨r, hr, rfl⟩; omega

theorem dv_chunk {e p x : ℕ} (hp : p < 128) (he : e + 128 ≤ T) :
    dv T g q k w (e + p) x
      = ∑ r ∈ range 128, sc g q k (e + r) (e + p) * w (e + r) x
        + ∑ d ∈ range 128, k (e + p) d * Real.exp (b g e 127 d - b g e p d) * dst T g q w (e + 128) x d := by
  unfold dv
  rw [sum_split he, sum_eq_zero (s := range e), zero_add]
  · congr 1
    simp only [dst, mul_sum]
    rw [sum_comm]
    refine sum_congr rfl fun t ht => ?_
    rw [sc, sum_mul]
    refine sum_congr rfl fun d _ => ?_
    rw [E_out hp (mem_Ico.mp ht).1]
    ring
  · intro t ht
    rw [sc_of_lt (by have := mem_range.mp ht; omega), zero_mul]

theorem dq_chunk {e p d : ℕ} (hp : p < 128) (he : e + 128 ≤ T) :
    dq T g k v w (e + p) d
      = (∑ x ∈ range 128, w (e + p) x * st g k v e x d) * Real.exp (b g e p d)
        + ∑ r ∈ range 128, (if r ≤ p then ds v w (e + p) (e + r) else 0)
            * (k (e + r) d * Real.exp (b g e p d - b g e r d)) := by
  unfold dq
  rw [sum_split he, sum_eq_zero (s := Ico (e + 128) T), add_zero]
  · congr 1
    · simp only [st, mul_sum, sum_mul]
      rw [sum_comm]
      refine sum_congr rfl fun s hs => ?_
      rw [E_in (mem_range.mp hs), ds, sum_mul, sum_mul]
      refine sum_congr rfl fun x _ => ?_
      ring
    · refine sum_congr rfl fun r _ => ?_
      split_ifs with h
      · rw [E_chunk h]; ring
      · rw [E_of_lt (by omega)]; ring
  · intro t ht
    rw [E_of_lt (by have := (mem_Ico.mp ht).1; omega), mul_zero]

/-- What the later chunks give to a key's gradient. -/
noncomputable def dkOut (T : ℕ) (g q v w : ℕ → ℕ → ℝ) (e p d : ℕ) : ℝ :=
  (∑ x ∈ range 128, v (e + p) x * dst T g q w (e + 128) x d) * Real.exp (b g e 127 d - b g e p d)

theorem dkOut_eq {e p d : ℕ} (hp : p < 128) :
    dkOut T g q v w e p d = ∑ t ∈ Ico (e + 128) T, ds v w t (e + p) * q t d * E g t (e + p) d := by
  unfold dkOut
  simp only [dst, mul_sum, sum_mul]
  rw [sum_comm]
  refine sum_congr rfl fun t ht => ?_
  rw [E_out hp (mem_Ico.mp ht).1, ds, sum_mul, sum_mul]
  refine sum_congr rfl fun x _ => ?_
  ring

theorem dk_chunk {e p d : ℕ} (hp : p < 128) (he : e + 128 ≤ T) :
    dk T g q v w (e + p) d
      = dkOut T g q v w e p d
        + ∑ r ∈ range 128, (if p ≤ r then ds v w (e + r) (e + p) else 0)
            * (q (e + r) d * Real.exp (b g e r d - b g e p d)) := by
  rw [dkOut_eq hp]
  unfold dk
  rw [sum_split he, sum_eq_zero (s := range e), zero_add, add_comm]
  · congr 1
    refine sum_congr rfl fun r _ => ?_
    split_ifs with h
    · rw [E_chunk h]; ring
    · rw [E_of_lt (by omega)]; ring
  · intro t ht
    rw [E_of_lt (by have := mem_range.mp ht; omega), mul_zero]

theorem dB_eq (t d : ℕ) : dB T g q k v w t d = q t d * dq T g k v w t d - k t d * dk T g q v w t d := by
  unfold dB dd dq dk
  rw [mul_sum, mul_sum]
  congr 1 <;> exact sum_congr rfl fun _ _ => by ring

theorem dst_chunk {e x d : ℕ} (he : e + 128 ≤ T) :
    dst T g q w e x d
      = dst T g q w (e + 128) x d * Real.exp (b g e 127 d)
        + ∑ r ∈ range 128, w (e + r) x * (q (e + r) d * Real.exp (b g e r d)) := by
  have h128 : P g d (e + 128) = P g d e + b g e 127 d := P_add d e 127
  have h := sum_Ico_split (p := 0) (by norm_num) he fun t => w t x * (q t d * Real.exp (P g d (t + 1) - P g d e))
  simp only [add_zero, Nat.zero_le, if_true] at h
  unfold dst
  rw [h, add_comm, sum_mul]
  congr 1
  · refine sum_congr rfl fun t _ => ?_
    have : P g d (t + 1) - P g d e = P g d (t + 1) - P g d (e + 128) + b g e 127 d := by rw [h128]; ring
    rw [this, Real.exp_add]; ring
  · refine sum_congr rfl fun r _ => ?_
    rw [add_assoc e r 1, P_add d e r]
    congr 3; ring

/-- What crosses the chunk's end: every later row's decay from every row before the end. -/
theorem cross_eq {e d : ℕ} (he : e + 128 ≤ T) :
    ∑ r ∈ range 128, k (e + r) d * dkOut T g q v w e r d
      + Real.exp (b g e 127 d) * ∑ x ∈ range 128, dst T g q w (e + 128) x d * st g k v e x d
      = ∑ t ∈ Ico (e + 128) T, dB T g q k v w t d := by
  have hz : ∀ t ∈ Ico (e + 128) T, ∑ s ∈ range T, dd g q k v w t s d
      = ∑ s ∈ range e, dd g q k v w t s d + ∑ r ∈ range 128, dd g q k v w t (e + r) d
        + ∑ s ∈ Ico (e + 128) T, dd g q k v w t s d := fun t _ => sum_split he _
  have hz' : ∀ t ∈ Ico (e + 128) T, ∑ s ∈ range T, dd g q k v w s t d = ∑ s ∈ Ico (e + 128) T, dd g q k v w s t d := by
    intro t ht
    rw [← sum_range_add_sum_Ico _ he, sum_eq_zero (s := range (e + 128)), zero_add]
    intro s hs
    rw [dd, E_of_lt (by have := mem_range.mp hs; have := (mem_Ico.mp ht).1; omega), mul_zero]
  have hB : ∑ t ∈ Ico (e + 128) T, dB T g q k v w t d
      = ∑ t ∈ Ico (e + 128) T, (∑ s ∈ range e, dd g q k v w t s d + ∑ r ∈ range 128, dd g q k v w t (e + r) d) := by
    unfold dB
    rw [sum_sub_distrib, sum_congr rfl hz, sum_congr rfl hz', sum_add_distrib,
      sum_comm (s := Ico (e + 128) T) (t := Ico (e + 128) T)]
    ring
  rw [hB, sum_add_distrib, add_comm]
  congr 1
  · have hx : ∀ x, dst T g q w (e + 128) x d * st g k v e x d = _ := fun x => sum_mul_sum _ _ _ _
    simp only [hx]
    rw [mul_sum]
    simp only [mul_sum]
    rw [sum_comm]
    refine sum_congr rfl fun t ht => ?_
    rw [sum_comm]
    refine sum_congr rfl fun s hs => ?_
    have ht := (mem_Ico.mp ht).1
    have hs := mem_range.mp hs
    have hE : E g t s d = Real.exp (b g e 127 d) * Real.exp (P g d (t + 1) - P g d (e + 128))
        * Real.exp (P g d e - P g d (s + 1)) := by
      have h128 : P g d (e + 128) = P g d e + b g e 127 d := P_add d e 127
      rw [E_of_le (by omega), ← Real.exp_add, ← Real.exp_add, h128]
      congr 1; ring
    rw [dd, hE, ds, sum_mul, sum_mul]
    refine sum_congr rfl fun x _ => ?_
    ring
  · rw [sum_comm]
    refine sum_congr rfl fun r hr => ?_
    rw [dkOut_eq (mem_range.mp hr), mul_sum]
    refine sum_congr rfl fun t _ => ?_
    unfold dd; ring

theorem dg_chunk {e p d : ℕ} (hp : p < 128) (he : e + 128 ≤ T) :
    dg T g q k v w (e + p) d
      = ∑ r ∈ range 128, (if p ≤ r then
            q (e + r) d * dq T g k v w (e + r) d - k (e + r) d * dk T g q v w (e + r) d else 0)
        + (∑ r ∈ range 128, k (e + r) d * dkOut T g q v w e r d
          + Real.exp (b g e 127 d) * ∑ x ∈ range 128, dst T g q w (e + 128) x d * st g k v e x d) := by
  rw [cross_eq he, dg, sum_Ico_split hp he]
  simp only [dB_eq]

/-! ## The chunk's own rows, sixteen at a time -/

/-- The running sum that the rows from `16 i` on are measured from. -/
noncomputable def rf (c : ℕ → ℕ → ℝ) (i d : ℕ) : ℝ := if i = 0 then 0 else c (16 * i - 1) d

/-- The queries' part, from keys measured against the sub-block's start. -/
theorem sub_q {c kk : ℕ → ℕ → ℝ} {m : ℕ → ℕ → ℝ} {p d : ℕ}
    (hm : ∀ r, p < r → m p r = 0) (hc : ∀ r, r ≤ p → rf c (p / 16) d - c r d ≤ 80) :
    (∑ r ∈ range 128, m p r * (kk r d * Real.exp (min (rf c (p / 16) d - c r d) 80))) * Real.exp (c p d - rf c (p / 16) d)
      = ∑ r ∈ range 128, m p r * (kk r d * Real.exp (c p d - c r d)) := by
  rw [sum_mul]
  refine sum_congr rfl fun r _ => ?_
  rcases Nat.lt_or_ge p r with h | h
  · rw [hm r h]; ring
  · rw [min_eq_left (hc r h)]
    have : Real.exp (c p d - c r d) = Real.exp (rf c (p / 16) d - c r d) * Real.exp (c p d - rf c (p / 16) d) := by
      rw [← Real.exp_add]; congr 1; ring
    rw [this]; ring

/-- The keys' part, from queries measured against each sub-block's start. -/
theorem sub_k {c qq : ℕ → ℕ → ℝ} {m : ℕ → ℕ → ℝ} {p d : ℕ}
    (hm : ∀ r, r < p → m r p = 0) (hc : ∀ r, p ≤ r → rf c (r / 16) d - c p d ≤ 80) :
    ∑ i ∈ range 8, (∑ r ∈ range 16, m (16 * i + r) p * (qq (16 * i + r) d * Real.exp (c (16 * i + r) d - rf c i d)))
        * Real.exp (min (rf c i d - c p d) 80)
      = ∑ r ∈ range 128, m r p * (qq r d * Real.exp (c r d - c p d)) := by
  have h128 : ∀ f : ℕ → ℝ, ∑ r ∈ range 128, f r = ∑ i ∈ range 8, ∑ r ∈ range 16, f (16 * i + r) := by
    intro f
    have key : ∀ n : ℕ, ∑ r ∈ range (16 * n), f r = ∑ i ∈ range n, ∑ r ∈ range 16, f (16 * i + r) := by
      intro n
      induction n with
      | zero => simp
      | succ n ih => rw [Nat.mul_succ, sum_range_add, ih, sum_range_succ (n := n)]
    exact key 8
  rw [h128]
  refine sum_congr rfl fun i _ => ?_
  rw [sum_mul]
  refine sum_congr rfl fun r hr => ?_
  have hr := mem_range.mp hr
  rcases Nat.lt_or_ge (16 * i + r) p with h | h
  · rw [hm _ h]; ring
  · have hi : (16 * i + r) / 16 = i := by omega
    have := hc _ h
    rw [hi] at this
    rw [min_eq_left this]
    have : Real.exp (c (16 * i + r) d - c p d)
        = Real.exp (rf c i d - c p d) * Real.exp (c (16 * i + r) d - rf c i d) := by
      rw [← Real.exp_add]; congr 1; ring
    rw [this]; ring

/-- A log decay between `-5` and `0` never reaches the cap within a sub-block. -/
theorem cap_le {e d : ℕ} (h0 : ∀ t, g t d ≤ 0) (h5 : ∀ t, -5 ≤ g t d) {p r : ℕ} (h : r ≤ p) :
    rf (b g e) (p / 16) d - b g e r d ≤ 80 := by
  have mono : ∀ n m : ℕ, ∑ i ∈ range (n + m), g (e + i) d ≤ ∑ i ∈ range n, g (e + i) d := by
    intro n m
    rw [sum_range_add]
    have := sum_nonpos (s := range m) (f := fun i => g (e + (n + i)) d) fun i _ => h0 _
    linarith
  have lo : ∀ n m : ℕ, ∑ i ∈ range n, g (e + i) d - 5 * m ≤ ∑ i ∈ range (n + m), g (e + i) d := by
    intro n m
    rw [sum_range_add]
    have := card_nsmul_le_sum (range m) (fun i => g (e + (n + i)) d) (-5) fun i _ => h5 _
    rw [card_range, nsmul_eq_mul] at this
    linarith
  have hrf : rf (b g e) (p / 16) d = ∑ i ∈ range (16 * (p / 16)), g (e + i) d := by
    unfold rf b
    split_ifs with hz
    · rw [hz]; simp
    · rw [show 16 * (p / 16) - 1 + 1 = 16 * (p / 16) by omega]
  rw [hrf, b]
  rcases Nat.lt_or_ge r (16 * (p / 16)) with hlt | hge
  · have := mono (r + 1) (16 * (p / 16) - (r + 1))
    rw [show r + 1 + (16 * (p / 16) - (r + 1)) = 16 * (p / 16) by omega] at this
    linarith
  · have := lo (16 * (p / 16)) (r + 1 - 16 * (p / 16))
    rw [show 16 * (p / 16) + (r + 1 - 16 * (p / 16)) = r + 1 by omega] at this
    have h16 : ((r + 1 - 16 * (p / 16) : ℕ) : ℝ) ≤ 16 := by
      have : r + 1 - 16 * (p / 16) ≤ 16 := by omega
      exact_mod_cast this
    linarith

end Recur

end
-- ==== Proof.Head.lean ====
/-
  One head of the gated scan over the whole sequence, in real numbers: what the backward pass is to give, from the projections, the
  gate's lower bound, the norm's weight, the forward's output and the gradient coming back.
-/
module

public import proofs.«01_k».proof.Proof.Recur
public import proofs.«01_k».proof.Proof.Real

@[expose] public section

noncomputable section

open Finset Idealize.ShloMosaic

/-- One head's data: projections of query, forget gate, value and output gate; the output and the gradient of its gated form; the
    gate's lower bound and the norm's weight. Rows are time, lanes the head's. -/
structure Head where
  hq : ℕ → ℕ → ℝ
  hf : ℕ → ℕ → ℝ
  hv : ℕ → ℕ → ℝ
  hg : ℕ → ℕ → ℝ
  o : ℕ → ℕ → ℝ
  dog : ℕ → ℕ → ℝ
  l : ℕ → ℝ
  gn : ℕ → ℝ

namespace Head

/-- The logistic function. -/
def lgs (x : ℝ) : ℝ := 1 / (1 + Real.exp (0 - x))

theorem lgs_pos (x : ℝ) : 0 < lgs x := by unfold lgs; positivity
theorem lgs_lt (x : ℝ) : lgs x < 1 := by
  unfold lgs
  rw [div_lt_one (by positivity)]
  linarith [Real.exp_pos (0 - x)]

/-- The norm's small constant. -/
def eps : ℝ := (Ideal.ofBits .f32 0x358637BD#32).toReal

theorem eps_spec : 0 < eps ∧ Ideal.ofBits .f32 0x358637BD#32 = ((eps : ℝ) : EReal) := by
  have h : ∃ e : ℝ, 0 < e ∧ Ideal.ofBits .f32 0x358637BD#32 = (e : EReal) := by
    refine ⟨_, ?_, by simp [Ideal.ofBits, Ideal.ieee, -EReal.coe_mul]; rfl⟩
    positivity
  obtain ⟨e, h0, he⟩ := h
  unfold eps
  rw [he]
  exact ⟨h0, rfl⟩

variable (H : Head)

/-- The forget gate, its logarithm, the key and the query. -/
def f (t d : ℕ) : ℝ := H.l d + (1 - H.l d) * lgs (H.hf t d)
def g (t d : ℕ) : ℝ := Real.log (H.f t d)
def k (t d : ℕ) : ℝ := (1 - H.l d) * (1 - lgs (H.hf t d))
def q (t d : ℕ) : ℝ := H.hq t d * lgs (H.hq t d)

/-- The reciprocal root mean square of a row of the output, and the gradient of the output. -/
def R (t : ℕ) : ℝ := (Real.sqrt ((∑ d ∈ range 128, H.o t d * H.o t d) / 128 + eps))⁻¹
def dy (t x : ℕ) : ℝ := H.dog t x * (H.hg t x * lgs (H.hg t x))
def w (t x : ℕ) : ℝ :=
  H.R t * (H.dy t x * H.gn x - H.o t x * H.R t * ((∑ y ∈ range 128, H.dy t y * H.gn y * (H.o t y * H.R t)) / 128))

/-- The gradient of the forget gate. -/
def df (T t d : ℕ) : ℝ := Recur.dg T H.g H.q H.k H.hv H.w t d / H.f t d - Recur.dk T H.g H.q H.hv H.w t d

/-- The results: gradients of the four projections, of the lower bound through its own slope, and of the norm's weight. -/
def gV (T t x : ℕ) : ℝ := Recur.dv T H.g H.q H.k H.w t x
def gF (T t d : ℕ) : ℝ := (1 - H.l d) * H.df T t d * lgs (H.hf t d) * (1 - lgs (H.hf t d))
def gQ (T t d : ℕ) : ℝ := Recur.dq T H.g H.k H.hv H.w t d * (lgs (H.hq t d) * (1 + H.hq t d * (1 - lgs (H.hq t d))))
def gG (t x : ℕ) : ℝ := H.dog t x * (H.o t x * H.R t * H.gn x) * (lgs (H.hg t x) * (1 + H.hg t x * (1 - lgs (H.hg t x))))
def tL (T t d : ℕ) : ℝ := (1 - lgs (H.hf t d)) * H.df T t d
def tN (t d : ℕ) : ℝ := H.dy t d * (H.o t d * H.R t)

end Head

end
-- ==== Proof.Local.lean ====
/-
  The chunk's backward pass on numbers: with the state before the chunk and the gradient of the state after it, what the kernel stores
  for a chunk are the rows of the whole sequence's gradients.
-/
module

public import proofs.«01_k».proof.Proof.Lift
public import proofs.«01_k».proof.Proof.Head

@[expose] public section

set_option maxRecDepth 16384

noncomputable section

namespace Cert.KernelIdeal.Chunk

open Cert.KernelIdeal Cert.KernelIdeal.Gen Idealize Idealize.ShloMosaic Finset

open Head (lgs)

/-- What the chunk that begins at row `e` reads of a head. -/
def inAt (H : Head) (e : ℕ) : In Ideal where
  hq := up fun p d => H.hq (e + p) d
  hf := up fun p d => H.hf (e + p) d
  hv := up fun p d => H.hv (e + p) d
  hg := up fun p d => H.hg (e + p) d
  l := upr H.l
  gn := upr H.gn
  st := up (Recur.st H.g H.k H.hv e)
  b := up (Recur.b H.g e)
  a := up fun r p => Recur.sc H.g H.q H.k (e + r) (e + p)
  o := up fun p d => H.o (e + p) d
  dog := up fun p d => H.dog (e + p) d

/-- The gradient of the state after row `m`. -/
def dstAt (H : Head) (T m : ℕ) : FVec Ideal S128x128 .f32 := up (Recur.dst T H.g H.q H.w m)

theorem sg_up (x : ℕ → ℕ → ℝ) : sg (up x) = up fun p d => lgs (x p d) := by
  unfold sg
  rw [zero_up, sub_up, exp_up, one_up, add_up, div_up _ _ fun _ _ => by positivity]
  rfl

theorem om1_up (l : ℕ → ℝ) : om1 (upr l) = upr fun d => 1 - l d := by
  have h : (broadcast S1x128 (Scalar.ofBits .f32 0x3F800000#32) : FVec Ideal S1x128 .f32) = upr fun _ => 1 := by
    funext ix; pointwise [upr]; rfl
  unfold om1
  rw [h, sub_upr]

theorem om_up (l : ℕ → ℝ) : om (upr l) = up fun _ d => 1 - l d := by unfold om; rw [om1_up, down_up]
theorem kk_up (l : ℕ → ℝ) (x : ℕ → ℕ → ℝ) : kk (upr l) (up x) = up fun p d => (1 - l d) * (1 - lgs (x p d)) := by
  unfold kk; rw [om_up, sg_up, one_up, sub_up, mul_up]
theorem qq_up (x : ℕ → ℕ → ℝ) : qq (up x) = up fun p d => x p d * lgs (x p d) := by unfold qq; rw [sg_up, mul_up]
theorem ekl_up (b : ℕ → ℕ → ℝ) : ekl (up b) = up fun p d => Real.exp (b 127 d - b p d) := by
  unfold ekl; rw [bl_up, down_up, sub_up, exp_up]

theorem w128_up : w128 (F := Ideal) = upc fun _ => 128 := by
  funext ix; pointwise [w128, upc]
  simp [Ideal.ofBits, Ideal.ieee, -EReal.coe_mul]; norm_num

theorem rs_up (o : ℕ → ℕ → ℝ) : rs (up o) = up fun p _ => (Real.sqrt ((∑ d ∈ range 128, o p d * o p d) / 128 + Head.eps))⁻¹ := by
  have h : rsqrt (addf (divf (upc fun p => ∑ d ∈ range 128, o p d * o p d) (upc fun _ => 128))
      (broadcast S128x1 (Scalar.ofBits .f32 0x358637BD#32)))
      = (upc fun p => (Real.sqrt ((∑ d ∈ range 128, o p d * o p d) / 128 + Head.eps))⁻¹ : FVec Ideal S128x1 .f32) := by
    funext ix; pointwise [upc]
    have hp : 0 < (∑ d ∈ range 128, o (ix 0).val d * o (ix 0).val d) / 128 + Head.eps :=
      add_pos_of_nonneg_of_pos (div_nonneg (sum_nonneg fun d _ => mul_self_nonneg _) (by norm_num)) Head.eps_spec.1
    rw [Head.eps_spec.2, Num.div_coe (by norm_num), ← EReal.coe_add, Num.rsqrt_coe hp]
  unfold rs
  rw [mul_up, rowSum_up, w128_up, h, across_up]

theorem less_up (y : ℕ → ℕ → ℝ) (x : Fin 8 → ℕ → ℕ → ℝ) : less (up y) (fun i => up (x i)) = up fun p d => y p d - ∑ i, x i p d := by
  unfold less
  simp only [sub_up, Fin.sum_univ_eight]
  refine congrArg up (funext fun p => funext fun d => ?_)
  ring
theorem plus_up (y : ℕ → ℕ → ℝ) (x : Fin 8 → ℕ → ℕ → ℝ) : plus (up y) (fun i => up (x i)) = up fun p d => y p d + ∑ i, x i p d := by
  unfold plus
  simp only [add_up, Fin.sum_univ_eight]
  refine congrArg up (funext fun p => funext fun d => ?_)
  ring

theorem suffix_up (x : ℕ → ℕ → ℝ) : suffix (up x) = up fun p d => ∑ r ∈ range 128, if p ≤ r then x r d else 0 := by
  have hr : ∀ y, rest (up y) = up fun _ _ => 0 := by
    intro y
    unfold rest
    rw [tb_up, ext_up, sub_up]
    simp only [sub_self]
  have ht : ∀ y, tri (up y) = up fun p d => ∑ r ∈ range 128, (if p ≤ r then 1 else 0) * y r d := by
    intro y
    unfold tri
    rw [triu_up, dot_nn]
  unfold suffix
  simp only [hr, tb_up, ht, zero_up, add_up]
  refine congrArg up (funext fun p => funext fun d => ?_)
  simp only [mul_zero, sum_const_zero, add_zero, zero_add, ite_mul, one_mul, zero_mul]

theorem ek_up (b : ℕ → ℕ → ℝ) (i : Fin 8) : ek (up b) i = up fun p d => Real.exp (min (Recur.rf b i d - b p d) 80) := by
  unfold ek
  rw [ref_up, down_up, sub_up]
  funext ix; pointwise [up]
  have h : Ideal.ofBits .f32 0x42A00000#32 = ((80 : ℝ) : EReal) := by
    simp [Ideal.ofBits, Ideal.ieee, -EReal.coe_mul]; norm_num
  rw [h]
  rfl

/-! ## The stores of a chunk -/

variable (H : Head) (T e : ℕ)

theorem d_up : (inAt H e).d = up fun p x => H.w (e + p) x := by
  simp only [In.d, inAt, dOb, dO, doh, dy, oh, rs_up, sg_up, mul_up, down_up, rowSum_up]
  have h : divf (upc fun p => ∑ y ∈ range 128, H.dog (e + p) y * (H.hg (e + p) y * lgs (H.hg (e + p) y)) * H.gn y
        * (H.o (e + p) y * (Real.sqrt ((∑ d ∈ range 128, H.o (e + p) d * H.o (e + p) d) / 128 + Head.eps))⁻¹)) w128
      = (upc fun p => (∑ y ∈ range 128, H.dy (e + p) y * H.gn y * (H.o (e + p) y * H.R (e + p))) / 128 : FVec Ideal S128x1 .f32) := by
    rw [w128_up]
    exact funext fun _ => Num.div_coe (by norm_num) _
  rw [h, across_up, mul_up, sub_up, mul_up]
  rfl

theorem k_up : (inAt H e).k = up fun p d => H.k (e + p) d := by
  simp only [In.k, inAt, kk_up]; rfl
theorem q_up : (inAt H e).q = up fun p d => H.q (e + p) d := by
  simp only [In.q, inAt, qq_up]; rfl

theorem oV_up (he : e + 128 ≤ T) : (inAt H e).oV (dstAt H T (e + 128)) = up fun p x => H.gV T (e + p) x := by
  unfold In.oV
  rw [d_up, k_up]
  simp only [inAt, dstAt, duV, dv, ekl_up, mul_up, tb_up, dot_tn, dot_nt, add_up]
  refine up_congr fun p hp x _ => ?_
  rw [Head.gV, Recur.dv_chunk hp he]

theorem oS_up (he : e + 128 ≤ T) : (inAt H e).oS (dstAt H T (e + 128)) = dstAt H T e := by
  unfold In.oS
  rw [d_up, q_up]
  simp only [inAt, dstAt, dst', bl_up, exp_upr, exp_up, down_up, mul_up, tb_up, dot_tn, add_up]
  refine up_congr fun x _ d _ => ?_
  rw [Recur.dst_chunk he]

theorem oG_up : (inAt H e).oG = up fun p x => H.gG (e + p) x := by
  simp only [In.oG, inAt, duG, oh, rs_up, sg_up, mul_up, down_up, one_up, sub_up, add_up, tb_up]
  rfl

theorem oN_up : (inAt H e).oN = upr fun d => ∑ p ∈ range 128, H.tN (e + p) d := by
  simp only [In.oN, inAt, dgn, dy, oh, rs_up, sg_up, mul_up, colSum_up]
  rfl

/-- The scores' gradient within the chunk. -/
def m (p r : ℕ) : ℝ := if r ≤ p then Recur.ds H.hv H.w (e + p) (e + r) else 0

theorem da_m : da (up fun p x => H.w (e + p) x) (up fun p d => H.hv (e + p) d) = up (m H e) := by
  rw [da_up]; rfl

theorem kt_up (k b : ℕ → ℕ → ℝ) (i : Fin 8) : kt (up k) (up b) i = up fun r d => k r d * Real.exp (min (Recur.rf b i d - b r d) 80) := by
  unfold kt; rw [ek_up, mul_up, tb_up]
theorem eq_up (b : ℕ → ℕ → ℝ) (i : Fin 8) : eq (up b) i = up16 fun p d => Real.exp (b (16 * i.val + p) d - Recur.rf b i d) := by
  have h : broadcastTo S16x128 (ref (up b) i) broadcasts_S1x128_S16x128 = (up16 fun _ d => Recur.rf b i d : FVec Ideal S16x128 .f32) := by
    rw [ref_up]
    funext ix; pointwise [upr, up16]
    rfl
  unfold eq
  rw [h, rows_up, sub_up16, exp_up16]
theorem qt_up (q b : ℕ → ℕ → ℝ) (i : Fin 8) :
    qt (up q) (up b) i = up16 fun p d => q (16 * i.val + p) d * Real.exp (b (16 * i.val + p) d - Recur.rf b i d) := by
  unfold qt; rw [eq_up, rows_up, mul_up16, tr16_up]
theorem gk_up (A q b : ℕ → ℕ → ℝ) (i : Fin 8) : gk (up A) (up q) (up b) i = up fun p d =>
    ∑ r ∈ range 16, A (16 * i.val + r) p * (q (16 * i.val + r) d * Real.exp (b (16 * i.val + r) d - Recur.rf b i d)) := by
  unfold gk dai; rw [qt_up, rows_up, tr16_up, dot_k]
theorem gq_up (A k b : ℕ → ℕ → ℝ) (i : Fin 8) : gq (up A) (up k) (up b) i = up16 fun p d =>
    ∑ r ∈ range 128, A (16 * i.val + p) r * (k r d * Real.exp (min (Recur.rf b i d - b r d) 80)) := by
  unfold gq dai; rw [kt_up, rows_up, tr16_up, dot_q]

variable {H T e}

/-- The queries' share of the chunk's own scores, at one row. -/
theorem point_q (h0 : ∀ t d, H.g t d ≤ 0) (h5 : ∀ t d, -5 ≤ H.g t d) (i : Fin 8) (p d : ℕ) (hp : p < 16) :
    (∑ r ∈ range 128, m H e (16 * i.val + p) r * (H.k (e + r) d * Real.exp (min (Recur.rf (Recur.b H.g e) i d - Recur.b H.g e r d) 80)))
        * Real.exp (Recur.b H.g e (16 * i.val + p) d - Recur.rf (Recur.b H.g e) i d)
      = ∑ r ∈ range 128, m H e (16 * i.val + p) r * (H.k (e + r) d * Real.exp (Recur.b H.g e (16 * i.val + p) d - Recur.b H.g e r d)) := by
  have hi : (16 * i.val + p) / 16 = i.val := by omega
  have := Recur.sub_q (c := Recur.b H.g e) (kk := fun r d => H.k (e + r) d) (m := m H e) (p := 16 * i.val + p) (d := d)
    (fun r hr => if_neg (by omega)) (fun r hr => Recur.cap_le (fun t => h0 t d) (fun t => h5 t d) hr)
  rwa [hi] at this

/-- The keys' share, summed over the sub-blocks. -/
theorem point_k (h0 : ∀ t d, H.g t d ≤ 0) (h5 : ∀ t d, -5 ≤ H.g t d) (p d : ℕ) :
    ∑ i : Fin 8, (∑ r ∈ range 16, m H e (16 * i.val + r) p * (H.q (e + (16 * i.val + r)) d
        * Real.exp (Recur.b H.g e (16 * i.val + r) d - Recur.rf (Recur.b H.g e) i d)))
        * Real.exp (min (Recur.rf (Recur.b H.g e) i d - Recur.b H.g e p d) 80)
      = ∑ r ∈ range 128, m H e r p * (H.q (e + r) d * Real.exp (Recur.b H.g e r d - Recur.b H.g e p d)) := by
  rw [← Recur.sub_k (c := Recur.b H.g e) (qq := fun r d => H.q (e + r) d) (m := m H e) (p := p) (d := d)
    (fun r hr => if_neg (by omega)) (fun r hr => Recur.cap_le (fun t => h0 t d) (fun t => h5 t d) hr), Finset.sum_range]

variable (h0 : ∀ t d, H.g t d ≤ 0) (h5 : ∀ t d, -5 ≤ H.g t d) (he : e + 128 ≤ T)

theorem dq0_up : dq0 (up fun p x => H.w (e + p) x) (up (Recur.b H.g e)) (up (Recur.st H.g H.k H.hv e))
    = up fun p d => (∑ x ∈ range 128, H.w (e + p) x * Recur.st H.g H.k H.hv e x d) * Real.exp (Recur.b H.g e p d) := by
  simp only [dq0, tb_up, dot_nn, exp_up, mul_up]

theorem dk0_up : dk0 (up fun p d => H.hv (e + p) d) (up (Recur.b H.g e)) (dstAt H T (e + 128))
    = up fun p d => Recur.dkOut T H.g H.q H.hv H.w e p d := by
  simp only [dk0, dstAt, tb_up, dot_nn, ekl_up, mul_up]
  rfl

include h0 h5 he in
theorem dq_up : dq (up fun p x => H.w (e + p) x) (up fun p d => H.hv (e + p) d) (up fun p d => H.k (e + p) d) (up (Recur.b H.g e))
    (up (Recur.st H.g H.k H.hv e)) = up fun p d => Recur.dq T H.g H.k H.hv H.w (e + p) d := by
  unfold dq
  simp only [da_m, gq_up, eq_up, mul_up16]
  rw [stack_up _ (fun p d => ∑ r ∈ range 128, m H e p r * (H.k (e + r) d * Real.exp (Recur.b H.g e p d - Recur.b H.g e r d)))
    fun i p d hp => (point_q h0 h5 i p d hp).symm, dq0_up, add_up]
  refine up_congr fun p hp d _ => ?_
  rw [Recur.dq_chunk hp he]
  rfl

include h0 h5 he in
theorem dk_up : dk (up fun p x => H.w (e + p) x) (up fun p d => H.hv (e + p) d) (up fun p d => H.q (e + p) d) (up (Recur.b H.g e))
    (dstAt H T (e + 128)) = up fun p d => Recur.dk T H.g H.q H.hv H.w (e + p) d := by
  unfold dk
  simp only [da_m, gk_up, ek_up, mul_up]
  rw [dk0_up, plus_up]
  refine up_congr fun p hp d _ => ?_
  rw [Recur.dk_chunk hp he, point_k h0 h5]
  rfl

include h0 h5 he in
theorem dB_up : dB (up fun p x => H.w (e + p) x) (up fun p d => H.hv (e + p) d) (up fun p d => H.q (e + p) d) (up fun p d => H.k (e + p) d)
    (up (Recur.b H.g e)) (up (Recur.st H.g H.k H.hv e)) (dstAt H T (e + 128))
      = up fun p d => H.q (e + p) d * Recur.dq T H.g H.k H.hv H.w (e + p) d - H.k (e + p) d * Recur.dk T H.g H.q H.hv H.w (e + p) d := by
  unfold dB
  simp only [da_m, gq_up, qt_up, gk_up, kt_up, ext_up, ext_up16, mul_up, mul_up16]
  rw [stack_up _ (fun p d => H.q (e + p) d * ∑ r ∈ range 128, m H e p r * (H.k (e + r) d * Real.exp (Recur.b H.g e p d - Recur.b H.g e r d)))
    fun i p d hp => by rw [← point_q h0 h5 i p d hp]; ring, dq0_up, dk0_up, mul_up, mul_up, sub_up, less_up, add_up]
  refine up_congr fun p hp d _ => ?_
  have hk := point_k (e := e) h0 h5 p d
  rw [Recur.dq_chunk hp he, Recur.dk_chunk hp he]
  change _ = _ * (_ + ∑ r ∈ range 128, m H e p r * _) - _ * (_ + ∑ r ∈ range 128, m H e r p * _)
  rw [← hk, mul_add, mul_add, mul_sum (s := univ)]
  have : ∀ i : Fin 8, H.k (e + p) d * Real.exp (min (Recur.rf (Recur.b H.g e) i d - Recur.b H.g e p d) 80)
      * ∑ r ∈ range 16, m H e (16 * i.val + r) p * (H.q (e + (16 * i.val + r)) d * Real.exp (Recur.b H.g e (16 * i.val + r) d - Recur.rf (Recur.b H.g e) i d))
      = H.k (e + p) d * ((∑ r ∈ range 16, m H e (16 * i.val + r) p * (H.q (e + (16 * i.val + r)) d
        * Real.exp (Recur.b H.g e (16 * i.val + r) d - Recur.rf (Recur.b H.g e) i d)))
        * Real.exp (min (Recur.rf (Recur.b H.g e) i d - Recur.b H.g e p d) 80)) := fun i => by ring
  simp only [this]
  ring

include h0 h5 he in
theorem dg_up : dg (up fun p x => H.w (e + p) x) (up fun p d => H.hv (e + p) d) (up fun p d => H.q (e + p) d) (up fun p d => H.k (e + p) d)
    (up (Recur.b H.g e)) (up (Recur.st H.g H.k H.hv e)) (dstAt H T (e + 128))
      = up fun p d => Recur.dg T H.g H.q H.k H.hv H.w (e + p) d := by
  unfold dg dlast
  rw [dB_up h0 h5 he, suffix_up, dk0_up, mul_up, colSum_up, bl_up, exp_upr, dstAt, mul_up, colSum_up, mul_upr, add_upr, down_up, add_up]
  refine up_congr fun p hp d _ => ?_
  rw [Recur.dg_chunk hp he]

variable (hl : ∀ d, 0 < H.l d ∧ H.l d < 1)

include hl in
theorem f_pos (t d : ℕ) : 0 < H.f t d :=
  add_pos_of_pos_of_nonneg (hl d).1 (mul_nonneg (by linarith [(hl d).2]) (Head.lgs_pos _).le)

include h0 h5 he hl in
theorem dfk_up : dfk (up fun p x => H.w (e + p) x) (upr H.l) (up fun p d => H.hf (e + p) d) (up fun p d => H.hv (e + p) d)
    (up fun p d => H.q (e + p) d) (up fun p d => H.k (e + p) d)
    (up (Recur.b H.g e)) (up (Recur.st H.g H.k H.hv e)) (dstAt H T (e + 128)) = up fun p d => H.df T (e + p) d := by
  unfold dfk
  rw [dg_up h0 h5 he, dk_up h0 h5 he, down_up, om_up, sg_up, mul_up, add_up,
    div_up (f := fun p d => Recur.dg T H.g H.q H.k H.hv H.w (e + p) d) (g := fun p d => H.l d + (1 - H.l d) * Head.lgs (H.hf (e + p) d)) (h := fun p d => (f_pos hl (e + p) d).ne'), sub_up]
  rfl

include h0 h5 he hl in
theorem oF_up : (inAt H e).oF (dstAt H T (e + 128)) = up fun p d => H.gF T (e + p) d := by
  unfold In.oF
  rw [d_up, k_up, q_up]
  simp only [inAt, duF]
  rw [dfk_up h0 h5 he hl, om_up, sg_up, one_up, mul_up, mul_up, sub_up, mul_up, tb_up]
  rfl

include h0 h5 he in
theorem oQ_up : (inAt H e).oQ = up fun p d => H.gQ T (e + p) d := by
  unfold In.oQ
  rw [d_up, k_up]
  simp only [inAt, duQ]
  rw [dq_up (T := T) h0 h5 he, sg_up, one_up, sub_up, mul_up, add_up, mul_up, mul_up, tb_up]
  rfl

include h0 h5 he hl in
theorem oL_up : (inAt H e).oL (dstAt H T (e + 128)) = upr fun d => (∑ p ∈ range 128, H.tL T (e + p) d) * (H.l d * (1 - H.l d)) := by
  unfold In.oL
  rw [d_up, k_up, q_up]
  simp only [inAt, dlb]
  rw [dfk_up h0 h5 he hl, sg_up, one_up, sub_up, mul_up, colSum_up, om1_up, mul_upr, mul_upr]
  rfl

end Cert.KernelIdeal.Chunk

end
-- ==== Proof.Contents.lean ====
/-
  What one grid point leaves: the stores of its four chunks are rows of the whole sequence's gradients, the state's gradient moves
  down by four chunks, and the gradients of the logits and of the norm's weight gain the four chunks' sums.
-/
module

public import proofs.«01_k».proof.Proof.Stores
public import proofs.«01_k».proof.Proof.Local

@[expose] public section

set_option maxRecDepth 16384

noncomputable section

namespace Cert.KernelIdeal.Chunk

open Cert.KernelIdeal Cert.KernelIdeal.Gen Idealize Idealize.ShloMosaic Finset

/-- What a head must satisfy: its decays lie between −5 and 0 and its lower bound between 0 and 1. -/
structure Ok (H : Head) : Prop where
  g0 : ∀ t d, H.g t d ≤ 0
  g5 : ∀ t d, -5 ≤ H.g t d
  l : ∀ d, 0 < H.l d ∧ H.l d < 1

/-- The gradient of the projections at a row and a lane: query, gate, value, output gate, four heads each. -/
def part (H : Head) (T : ℕ) : ℕ → ℕ → ℕ → ℝ
  | 0 => H.gQ T
  | 1 => H.gF T
  | 2 => H.gV T
  | _ => H.gG
def uAt (Hs : ℕ → Head) (T t c : ℕ) : ℝ := part (Hs (c / 128 % 4)) T (c / 512) t (c % 128)

theorem cast_there (x : FVec Ideal S128x128 .f32) :
    shapeCast S128x128 (shapeCast S1x128x128 x shapeCasts_S128x128_S1x128x128) shapeCasts_S1x128x128_S128x128 = x := by
  funext ix; pointwise []

theorem cast_back (x : FVec Ideal S1x128x128 .f32) :
    shapeCast S1x128x128 (shapeCast S128x128 x shapeCasts_S1x128x128_S128x128) shapeCasts_S128x128_S1x128x128 = x := by
  funext ix; pointwise []

variable (arg10 : Memref sig .tc .vmem S2x512 .f32) (arg11 : Memref sig .tc .vmem S1x512 .f32) (arg12 : Memref sig .tc .vmem S4x128x128 .f32)

theorem skip_s : ∀ h' h : Fin 4, h' ≠ h → LoadRect.disj (rS h') (rS h).toLoadRect = true := by decide
theorem again_skip (I : Fin 4 → In Ideal) (t : Fin 4 → FVec Ideal S1x128x128 .f32) (L : List (View.Piece (Elt Ideal) S4x128x128 .f32)) (h' h : Fin 4)
    (hn : h' ≠ h) : again arg12 (pS I t h' :: L) h = again arg12 L h := View.readCov_skip arg12.view (rS h') _ L (rS h).toLoadRect (skip_s h' h hn)
theorem again_hit (I : Fin 4 → In Ideal) (t : Fin 4 → FVec Ideal S1x128x128 .f32) (L : List (View.Piece (Elt Ideal) S4x128x128 .f32)) (h : Fin 4) :
    again arg12 (pS I t h :: L) h
      = shapeCast S1x128x128 ((I h).oS (shapeCast S128x128 (t h) shapeCasts_S1x128x128_S128x128)) shapeCasts_S128x128_S1x128x128 :=
  View.readCov_cons_toLoadRect arg12.view (rS h) _ L

/-- A load of the state's gradient after a chunk's stores. -/
theorem again_step (I : Fin 4 → In Ideal) (t : Fin 4 → FVec Ideal S1x128x128 .f32) (L : List (View.Piece (Elt Ideal) S4x128x128 .f32)) (h : Fin 4) :
    again arg12 (stepS I t L) h
      = shapeCast S1x128x128 ((I h).oS (shapeCast S128x128 (t h) shapeCasts_S1x128x128_S128x128)) shapeCasts_S128x128_S1x128x128 := by
  unfold stepS
  match h with
  | 0 => rw [again_skip _ _ _ _ 3 0 (by decide), again_skip _ _ _ _ 2 0 (by decide), again_skip _ _ _ _ 1 0 (by decide), again_hit]
  | 1 => rw [again_skip _ _ _ _ 3 1 (by decide), again_skip _ _ _ _ 2 1 (by decide), again_hit]
  | 2 => rw [again_skip _ _ _ _ 3 2 (by decide), again_hit]
  | 3 => rw [again_hit]

variable (Hs : ℕ → Head) (T E : ℕ) (I : Fin 4 → Fin 4 → In Ideal) (hI : ∀ c h : Fin 4, I c h = inAt (Hs h.val) (E + 128 * c.val)) (hE : E + 512 ≤ T)

/-- The loads `t` hold the state's gradient after row `m`. -/
def At (t : Fin 4 → FVec Ideal S1x128x128 .f32) (m : ℕ) : Prop :=
  ∀ h : Fin 4, shapeCast S128x128 (t h) shapeCasts_S1x128x128_S128x128 = dstAt (Hs h.val) T m

include hI hE in
theorem at_step (c : Fin 4) (t : Fin 4 → FVec Ideal S1x128x128 .f32) (L : List (View.Piece (Elt Ideal) S4x128x128 .f32))
    (ht : At Hs T t (E + 128 * (c.val + 1))) : At Hs T (again arg12 (stepS (I c) t L)) (E + 128 * c.val) := fun h => by
  rw [again_step, cast_there, ht h, hI, show E + 128 * (c.val + 1) = E + 128 * c.val + 128 by omega, oS_up _ _ _ (by omega)]

variable (t0 : Fin 4 → FVec Ideal S1x128x128 .f32) (L0 : List (View.Piece (Elt Ideal) S4x128x128 .f32)) (ht : At Hs T t0 (E + 512))

include hI hE ht in
theorem at_1 : At Hs T (again arg12 (L1 I t0 L0)) (E + 384) := at_step arg12 Hs T E I hI hE 3 _ _ ht
include hI hE ht in
theorem at_2 : At Hs T (again arg12 (L2 arg12 I t0 L0)) (E + 256) := at_step arg12 Hs T E I hI hE 2 _ _ (at_1 arg12 Hs T E I hI hE t0 L0 ht)
include hI hE ht in
theorem at_3 : At Hs T (again arg12 (L3 arg12 I t0 L0)) (E + 128) := at_step arg12 Hs T E I hI hE 1 _ _ (at_2 arg12 Hs T E I hI hE t0 L0 ht)
include hI hE ht in
theorem at_4 : At Hs T (again arg12 (L4 arg12 I t0 L0)) E := at_step arg12 Hs T E I hI hE 0 _ _ (at_3 arg12 Hs T E I hI hE t0 L0 ht)

/-- The block of the projections' gradients. -/
def uBlk : FVec Ideal S512x2048 .bf16 := fun y => ((uAt Hs T (E + (y 0).val) (y 1).val : ℝ) : EReal)

theorem piece_u (j : ℕ) (hj : j < 4) (c h : Fin 4) (e : ℕ) (he : e = E + 128 * c.val) (x : (rU (512 * j) (by omega) c h).shape.Idx) :
    (up fun p d => part (Hs h.val) T j (e + p) d : FVec Ideal S128x128 .bf16) x = uBlk Hs T E ((rU (512 * j) (by omega) c h).emb x) := by
  have h0 : (((rU (512 * j) (by omega) c h).emb x) 0).val = 128 * c.val + 1 * (x 0).val := rfl
  have h1 : (((rU (512 * j) (by omega) c h).emb x) 1).val = 512 * j + 128 * h.val + 1 * (x 1).val := rfl
  have hx : (x 1).val < 128 := (x 1).isLt
  unfold uBlk uAt up
  rw [h0, h1]
  generalize (x 1).val = d at *
  generalize (x 0).val = p at *
  have e1 : (512 * j + 128 * h.val + 1 * d) / 128 % 4 = h.val := by omega
  have e2 : (512 * j + 128 * h.val + 1 * d) / 512 = j := by omega
  have e3 : (512 * j + 128 * h.val + 1 * d) % 128 = d := by omega
  rw [e1, e2, e3, he, show E + (128 * c.val + 1 * p) = E + 128 * c.val + p by omega]

variable (hok : ∀ h, Ok (Hs h))

include hI hE hok in
theorem pieces_u (c : Fin 4) (t : Fin 4 → FVec Ideal S1x128x128 .f32) (ht : At Hs T t (E + 128 * (c.val + 1))) :
    View.PiecesOf (uBlk Hs T E) (pU c (I c) t) := by
  have ht' : ∀ h : Fin 4, shapeCast S128x128 (t h) shapeCasts_S1x128x128_S128x128 = dstAt (Hs h.val) T (E + 128 * c.val + 128) := by
    intro h; rw [ht h]; congr 1
  have hc : E + 128 * c.val + 128 ≤ T := by omega
  have V : ∀ h : Fin 4, (I c h).oV (shapeCast S128x128 (t h) shapeCasts_S1x128x128_S128x128) = up fun p d => part (Hs h.val) T 2 (E + 128 * c.val + p) d :=
    fun h => by rw [ht', hI, oV_up _ _ _ hc]; rfl
  have F : ∀ h : Fin 4, (I c h).oF (shapeCast S128x128 (t h) shapeCasts_S1x128x128_S128x128) = up fun p d => part (Hs h.val) T 1 (E + 128 * c.val + p) d :=
    fun h => by rw [ht', hI, oF_up (hok h).g0 (hok h).g5 hc (hok h).l]; rfl
  have Q : ∀ h : Fin 4, (I c h).oQ = up fun p d => part (Hs h.val) T 0 (E + 128 * c.val + p) d :=
    fun h => by rw [hI, oQ_up (T := T) (hok h).g0 (hok h).g5 hc]; rfl
  have G : ∀ h : Fin 4, (I c h).oG = up fun p d => part (Hs h.val) T 3 (E + 128 * c.val + p) d :=
    fun h => by rw [hI, oG_up]; rfl
  simp only [pU, V, F, Q, G]
  exact ⟨piece_u Hs T E 2 (by omega) c 3 _ rfl, piece_u Hs T E 1 (by omega) c 3 _ rfl, piece_u Hs T E 0 (by omega) c 3 _ rfl,
    piece_u Hs T E 2 (by omega) c 2 _ rfl, piece_u Hs T E 1 (by omega) c 2 _ rfl, piece_u Hs T E 0 (by omega) c 2 _ rfl,
    piece_u Hs T E 2 (by omega) c 1 _ rfl, piece_u Hs T E 1 (by omega) c 1 _ rfl, piece_u Hs T E 0 (by omega) c 1 _ rfl,
    piece_u Hs T E 2 (by omega) c 0 _ rfl, piece_u Hs T E 1 (by omega) c 0 _ rfl, piece_u Hs T E 0 (by omega) c 0 _ rfl,
    piece_u Hs T E 3 (by omega) c 3 _ rfl, piece_u Hs T E 3 (by omega) c 2 _ rfl, piece_u Hs T E 3 (by omega) c 1 _ rfl,
    piece_u Hs T E 3 (by omega) c 0 _ rfl, trivial⟩

include hI hE hok ht in
/-- The stores of the projections' gradients are blocks of the whole. -/
theorem mem_u (p : View.Piece (Elt Ideal) S512x2048 .bf16) (hp : p ∈ listU arg12 I t0 L0) (x : p.1.shape.Idx) :
    p.2 x = uBlk Hs T E (p.1.emb x) := by
  unfold listU at hp
  rcases List.mem_append.mp hp with h | hp
  · exact (pieces_u Hs T E I hI hE hok 0 _ (at_3 arg12 Hs T E I hI hE t0 L0 ht)).mem p h x
  rcases List.mem_append.mp hp with h | hp
  · exact (pieces_u Hs T E I hI hE hok 1 _ (at_2 arg12 Hs T E I hI hE t0 L0 ht)).mem p h x
  rcases List.mem_append.mp hp with h | h
  · exact (pieces_u Hs T E I hI hE hok 2 _ (at_1 arg12 Hs T E I hI hE t0 L0 ht)).mem p h x
  · exact (pieces_u Hs T E I hI hE hok 3 _ ht).mem p h x

include hI hE hok ht in
theorem canon_u (hc : ∀ y, ∃ p ∈ listU arg12 I t0 L0, y ∈ p.1.set) : View.canon (listU arg12 I t0 L0) = uBlk Hs T E :=
  funext fun y => View.canon_apply_of_pieces _ _ (mem_u arg12 Hs T E I hI hE t0 L0 ht hok) y (hc y)

/-- The block of the state's gradient. -/
def sBlk (m : ℕ) : FVec Ideal S4x128x128 .f32 := fun y => ((Recur.dst T (Hs (y 0).val).g (Hs (y 0).val).q (Hs (y 0).val).w m (y 1).val (y 2).val : ℝ) : EReal)

theorem exists_s (y : S4x128x128.Idx) : ∃ (h : Fin 4) (x : (rS h).shape.Idx), y = (rS h).emb x ∧ (x 1).val = (y 1).val ∧ (x 2).val = (y 2).val ∧ (x 0).val = 0 ∧ (y 0).val = h.val := by
  refine ⟨y 0, fun a => ⟨![0, (y 1).val, (y 2).val] a, ?_⟩, ?_, rfl, rfl, rfl, rfl⟩
  · have h1 := (y 1).isLt; have h2 := (y 2).isLt
    fin_cases a
    · exact Nat.one_pos
    · exact h1
    · exact h2
  · funext a
    apply Fin.ext
    fin_cases a
    · change _ = (y 0).val + 1 * 0; rfl
    · change _ = 0 + 1 * (y 1).val; simp
    · change _ = 0 + 1 * (y 2).val; simp

theorem canon_of_at (L : List (View.Piece (Elt Ideal) S4x128x128 .f32)) (m : ℕ) (h : At Hs T (again arg12 L) m) : View.canon L = sBlk Hs T m := by
  funext y
  obtain ⟨k, x, rfl, h1, h2, h3, h4⟩ := exists_s y
  have e : again arg12 L k x = View.canon L ((rS k).emb x) := by
    unfold again; rw [View.readCov_eq_canon']; rfl
  rw [← e]
  rw [← cast_back (again arg12 L k), h k]
  pointwise [dstAt, up, sBlk]
  rw [← h1, ← h2, h4]

/-! ## The logits' and the norm weight's gradients -/

theorem skip_l : ∀ (r' r : Fin 2) (h' h : Fin 4), (r', h') ≠ (r, h) → LoadRect.disj (rL r' h') (rL r h).toLoadRect = true := by decide
theorem skip_n : ∀ h' h : Fin 4, h' ≠ h → LoadRect.disj (rG h') (rG h).toLoadRect = true := by decide

/-- One store of a row. -/
def pl (r : Fin 2) (h : Fin 4) (w : FVec Ideal S1x128 .f32) : View.Piece (Elt Ideal) S2x512 .f32 := ⟨rL r h, w⟩
def pn (h : Fin 4) (w : FVec Ideal S1x128 .f32) : View.Piece (Elt Ideal) S1x512 .f32 := ⟨rG h, w⟩

/-- A load that does not see stores beside it. -/
def SkipL (ld : List (View.Piece (Elt Ideal) S2x512 .f32) → Fin 2 → Fin 4 → FVec Ideal S1x128 .f32) : Prop :=
  ∀ (r' r : Fin 2) (h' h : Fin 4) (w : FVec Ideal S1x128 .f32) (L : List (View.Piece (Elt Ideal) S2x512 .f32)), (r', h') ≠ (r, h) →
    ld (pl r' h' w :: L) r h = ld L r h
def SkipN (ld : List (View.Piece (Elt Ideal) S1x512 .f32) → Fin 4 → FVec Ideal S1x128 .f32) : Prop :=
  ∀ (h' h : Fin 4) (w : FVec Ideal S1x128 .f32) (L : List (View.Piece (Elt Ideal) S1x512 .f32)), h' ≠ h → ld (pn h' w :: L) h = ld L h

theorem skipL_ld : SkipL (ldL arg10) := fun r' r h' h _ L hn => View.readCov_skip arg10.view (rL r' h') _ L (rL r h).toLoadRect (skip_l r' r h' h hn)
theorem skipN_ld : SkipN (ldN arg11) := fun h' h _ L hn => View.readCov_skip arg11.view (rG h') _ L (rG h).toLoadRect (skip_n h' h hn)
theorem hitL (r : Fin 2) (h : Fin 4) (w : FVec Ideal S1x128 .f32) (L : List (View.Piece (Elt Ideal) S2x512 .f32)) :
    ldL arg10 (pl r h w :: L) r h = w := View.readCov_cons_toLoadRect arg10.view (rL r h) _ L
theorem hitN (h : Fin 4) (w : FVec Ideal S1x128 .f32) (L : List (View.Piece (Elt Ideal) S1x512 .f32)) :
    ldN arg11 (pn h w :: L) h = w := View.readCov_cons_toLoadRect arg11.view (rG h) _ L

theorem cast_row (x : FVec Ideal S1x128 .f32) : shapeCast S1x128 x shapeCasts_S1x128_S1x128 = x := by
  funext ix; pointwise []

variable (ld : List (View.Piece (Elt Ideal) S2x512 .f32) → Fin 2 → Fin 4 → FVec Ideal S1x128 .f32) (hld : SkipL ld)
  (ln : List (View.Piece (Elt Ideal) S1x512 .f32) → Fin 4 → FVec Ideal S1x128 .f32) (hln : SkipN ln)

theorem oneL_pl (w : FVec Ideal S1x128 .f32) (h : Fin 4) (L : List (View.Piece (Elt Ideal) S2x512 .f32)) :
    oneL ld w h L = pl 1 h (subf (ld (pl 0 h (addf (ld L 0 h) w) :: L) 1 h) w) :: pl 0 h (addf (ld L 0 h) w) :: L := by
  conv_rhs => rw [← cast_row (ld L 0 h), ← cast_row (ld (pl 0 h (addf (shapeCast S1x128 (ld L 0 h) shapeCasts_S1x128_S1x128) w) :: L) 1 h)]
  rfl
theorem oneN_pn (w : FVec Ideal S1x128 .f32) (h : Fin 4) (L : List (View.Piece (Elt Ideal) S1x512 .f32)) :
    oneN ln w h L = pn h (addf (ln L h) w) :: L := by
  conv_rhs => rw [← cast_row (ln L h)]
  rfl

include hld in
theorem stepL_0 (w : Fin 4 → FVec Ideal S1x128 .f32) (L : List (View.Piece (Elt Ideal) S2x512 .f32)) (h : Fin 4) :
    ldL arg10 (stepL ld w L) 0 h = addf (ld L 0 h) (w h) := by
  have hs := skipL_ld arg10
  unfold SkipL at hs hld
  unfold stepL
  match h with
  | 0 => simp (disch := decide) only [oneL_pl, hs, hld, hitL]
  | 1 => simp (disch := decide) only [oneL_pl, hs, hld, hitL]
  | 2 => simp (disch := decide) only [oneL_pl, hs, hld, hitL]
  | 3 => simp (disch := decide) only [oneL_pl, hs, hld, hitL]

include hld in
theorem stepL_1 (w : Fin 4 → FVec Ideal S1x128 .f32) (L : List (View.Piece (Elt Ideal) S2x512 .f32)) (h : Fin 4) :
    ldL arg10 (stepL ld w L) 1 h = subf (ld L 1 h) (w h) := by
  have hs := skipL_ld arg10
  unfold SkipL at hs hld
  unfold stepL
  match h with
  | 0 => simp (disch := decide) only [oneL_pl, hs, hld, hitL]
  | 1 => simp (disch := decide) only [oneL_pl, hs, hld, hitL]
  | 2 => simp (disch := decide) only [oneL_pl, hs, hld, hitL]
  | 3 => simp (disch := decide) only [oneL_pl, hs, hld, hitL]

include hln in
theorem stepN_ld (w : Fin 4 → FVec Ideal S1x128 .f32) (L : List (View.Piece (Elt Ideal) S1x512 .f32)) (h : Fin 4) :
    ldN arg11 (stepN ln w L) h = addf (ln L h) (w h) := by
  have hs := skipN_ld arg11
  unfold SkipN at hs hln
  unfold stepN
  match h with
  | 0 => simp (disch := decide) only [oneN_pn, hs, hln, hitN]
  | 1 => simp (disch := decide) only [oneN_pn, hs, hln, hitN]
  | 2 => simp (disch := decide) only [oneN_pn, hs, hln, hitN]
  | 3 => simp (disch := decide) only [oneN_pn, hs, hln, hitN]

/-- A sum over four chunks, the last first, is the sum over the point's rows. -/
theorem chunks (f : ℕ → ℝ) (E : ℕ) : (∑ p ∈ range 128, f (E + 384 + p)) + (∑ p ∈ range 128, f (E + 256 + p)) + (∑ p ∈ range 128, f (E + 128 + p))
    + (∑ p ∈ range 128, f (E + p)) = ∑ p ∈ range 512, f (E + p) := by
  rw [show 512 = 128 + 128 + 128 + 128 by rfl, sum_range_add, sum_range_add, sum_range_add]
  simp only [add_assoc, Nat.reduceAdd]
  ring

/-- The two rows' gradients so far, over the rows from `E` on, and the norm weight's. -/
def SL (H : Head) (E d : ℕ) : ℝ := (∑ p ∈ range (T - E), H.tL T (E + p) d) * (H.l d * (1 - H.l d))
def SN (H : Head) (E d : ℕ) : ℝ := ∑ p ∈ range (T - E), H.tN (E + p) d

include hE in
theorem sum_more (f : ℕ → ℝ) : ∑ p ∈ range (T - E), f (E + p) = (∑ p ∈ range (T - (E + 512)), f (E + 512 + p)) + ∑ p ∈ range 512, f (E + p) := by
  rw [show T - E = 512 + (T - (E + 512)) by omega, sum_range_add, add_comm]
  simp only [add_assoc]

include hI hE hok in
theorem rowL_up (c : Fin 4) (t : Fin 4 → FVec Ideal S1x128x128 .f32) (e : ℕ) (he : e = E + 128 * c.val) (ht : At Hs T t (e + 128)) (h : Fin 4) :
    rowL (I c) t h = upr fun d => (∑ p ∈ range 128, (Hs h.val).tL T (e + p) d) * ((Hs h.val).l d * (1 - (Hs h.val).l d)) := by
  unfold rowL
  rw [ht h, hI, ← he, oL_up (hok h).g0 (hok h).g5 (by omega) (hok h).l]

include hI hE hok ht hld in
/-- The rows of the logits' gradient after a point, from what its first loads found. -/
theorem ld_l (M0 : List (View.Piece (Elt Ideal) S2x512 .f32)) (h : Fin 4) (V : Fin 2 → ℕ → ℝ)
    (hV : ∀ r, ld M0 r h = upr (V r)) (hV0 : ∀ d, V 0 d = SL T (Hs h.val) (E + 512) d) (hV1 : ∀ d, V 1 d = -SL T (Hs h.val) (E + 512) d) :
    ldL arg10 (listL arg10 arg12 I t0 L0 ld M0) 0 h = upr (SL T (Hs h.val) E)
      ∧ ldL arg10 (listL arg10 arg12 I t0 L0 ld M0) 1 h = upr fun d => -SL T (Hs h.val) E d := by
  have r3 := rowL_up Hs T E I hI hE hok 3 t0 (E + 384) rfl ht h
  have r2 := rowL_up Hs T E I hI hE hok 2 _ (E + 256) rfl (at_1 arg12 Hs T E I hI hE t0 L0 ht) h
  have r1 := rowL_up Hs T E I hI hE hok 1 _ (E + 128) rfl (at_2 arg12 Hs T E I hI hE t0 L0 ht) h
  have r0 := rowL_up Hs T E I hI hE hok 0 _ E rfl (at_3 arg12 Hs T E I hI hE t0 L0 ht) h
  have hs := skipL_ld arg10
  have key : ∀ d, SL T (Hs h.val) E d = SL T (Hs h.val) (E + 512) d
      + ((∑ p ∈ range 128, (Hs h.val).tL T (E + 384 + p) d) + (∑ p ∈ range 128, (Hs h.val).tL T (E + 256 + p) d)
        + (∑ p ∈ range 128, (Hs h.val).tL T (E + 128 + p) d) + (∑ p ∈ range 128, (Hs h.val).tL T (E + p) d)) * ((Hs h.val).l d * (1 - (Hs h.val).l d)) := by
    intro d
    rw [chunks fun t => (Hs h.val).tL T t d]
    unfold SL
    rw [sum_more T E hE fun t => (Hs h.val).tL T t d]
    ring
  unfold listL
  rw [stepL_0 arg10 _ hs, stepL_0 arg10 _ hs, stepL_0 arg10 _ hs, stepL_0 arg10 _ hld,
    stepL_1 arg10 _ hs, stepL_1 arg10 _ hs, stepL_1 arg10 _ hs, stepL_1 arg10 _ hld, r3, r2, r1, r0, hV, hV]
  simp only [add_upr, sub_upr]
  constructor
  · refine upr_congr fun d _ => ?_
    rw [key, hV0]; ring
  · refine upr_congr fun d _ => ?_
    rw [key, hV1]; ring

include hI hE hln in
theorem ld_n (M0 : List (View.Piece (Elt Ideal) S1x512 .f32)) (h : Fin 4) (hV : ln M0 h = upr (SN T (Hs h.val) (E + 512))) :
    ldN arg11 (listN arg11 I ln M0) h = upr (SN T (Hs h.val) E) := by
  have hs := skipN_ld arg11
  unfold listN
  rw [stepN_ld arg11 _ hs, stepN_ld arg11 _ hs, stepN_ld arg11 _ hs, stepN_ld arg11 _ hln, hI, hI, hI, hI, oN_up, oN_up, oN_up, oN_up, hV]
  simp only [add_upr]
  refine upr_congr fun d _ => ?_
  unfold SN
  rw [sum_more T E hE fun t => (Hs h.val).tN t d, ← chunks fun t => (Hs h.val).tN t d]
  simp only [show ((3 : Fin 4).val) = 3 from rfl, show ((2 : Fin 4).val) = 2 from rfl, show ((1 : Fin 4).val) = 1 from rfl, show ((0 : Fin 4).val) = 0 from rfl,
    Nat.mul_zero, Nat.add_zero, Nat.reduceMul]
  ring

/-- The blocks of the two gradients. -/
def lBlk : FVec Ideal S2x512 .f32 := fun y =>
  (((if (y 0).val = 0 then 1 else -1) * SL T (Hs ((y 1).val / 128)) E ((y 1).val % 128) : ℝ) : EReal)
def nBlk : FVec Ideal S1x512 .f32 := fun y => ((SN T (Hs ((y 1).val / 128)) E ((y 1).val % 128) : ℝ) : EReal)

theorem canon_l (L : List (View.Piece (Elt Ideal) S2x512 .f32))
    (h : ∀ h : Fin 4, ldL arg10 L 0 h = upr (SL T (Hs h.val) E) ∧ ldL arg10 L 1 h = upr fun d => -SL T (Hs h.val) E d) :
    View.canon L = lBlk Hs T E := by
  funext y
  have hy : (y 1).val < 512 := (y 1).isLt
  have hy0 : (y 0).val < 2 := (y 0).isLt
  obtain ⟨r, hr⟩ : ∃ r : Fin 2, r.val = (y 0).val := ⟨⟨_, hy0⟩, rfl⟩
  obtain ⟨k, hk⟩ : ∃ k : Fin 4, k.val = (y 1).val / 128 := ⟨⟨(y 1).val / 128, by omega⟩, rfl⟩
  let x : (rL r k).shape.Idx := fun a => ⟨![0, (y 1).val % 128] a, by
    fin_cases a
    · exact Nat.one_pos
    · exact Nat.mod_lt _ (by norm_num)⟩
  have hx : (rL r k).emb x = y := by
    funext a; apply Fin.ext
    fin_cases a
    · change r.val + 1 * 0 = (y 0).val; omega
    · change 128 * k.val + 1 * ((y 1).val % 128) = (y 1).val; omega
  have e : ldL arg10 L r k x = View.canon L y := by
    rw [← hx]; unfold ldL; rw [View.readCov_eq_canon']; rfl
  rw [← e]
  have hx1 : (x 1).val = (y 1).val % 128 := rfl
  match r, hr with
  | 0, hr =>
    rw [(h k).1]
    change ((SL T (Hs k.val) E (x 1).val : ℝ) : EReal) = (((if (y 0).val = 0 then 1 else -1) * _ : ℝ) : EReal)
    have h0 : (y 0).val = 0 := hr.symm
    rw [if_pos h0, hx1, hk, one_mul]
  | 1, hr =>
    rw [(h k).2]
    change ((-SL T (Hs k.val) E (x 1).val : ℝ) : EReal) = (((if (y 0).val = 0 then 1 else -1) * _ : ℝ) : EReal)
    have h0 : ¬(y 0).val = 0 := by rw [← hr]; decide
    rw [if_neg h0, hx1, hk, neg_one_mul]

theorem canon_n (L : List (View.Piece (Elt Ideal) S1x512 .f32)) (h : ∀ h : Fin 4, ldN arg11 L h = upr (SN T (Hs h.val) E)) :
    View.canon L = nBlk Hs T E := by
  funext y
  have hy : (y 1).val < 512 := (y 1).isLt
  have hy0 : (y 0).val < 1 := (y 0).isLt
  obtain ⟨k, hk⟩ : ∃ k : Fin 4, k.val = (y 1).val / 128 := ⟨⟨(y 1).val / 128, by omega⟩, rfl⟩
  let x : (rG k).shape.Idx := fun a => ⟨![0, (y 1).val % 128] a, by
    fin_cases a
    · exact Nat.one_pos
    · exact Nat.mod_lt _ (by norm_num)⟩
  have hx : (rG k).emb x = y := by
    funext a; apply Fin.ext
    fin_cases a
    · change 0 + 1 * 0 = (y 0).val; omega
    · change 128 * k.val + 1 * ((y 1).val % 128) = (y 1).val; omega
  have e : ldN arg11 L k x = View.canon L y := by
    rw [← hx]; unfold ldN; rw [View.readCov_eq_canon']; rfl
  rw [← e, h k]
  change ((SN T (Hs k.val) E ((y 1).val % 128) : ℝ) : EReal) = _
  rw [hk]
  rfl

end Cert.KernelIdeal.Chunk

end
-- ==== Proof.Blocks.lean ====
/-
  The blocks of one grid point as numbers, and what a chunk reads of them: a head's data at the chunk's rows.
-/
module

public import proofs.«01_k».proof.Proof.Contents
public import Idealize.ShloMosaic.Lib.WholeRead

@[expose] public section

set_option maxRecDepth 16384

noncomputable section

namespace Cert.KernelIdeal.Chunk

open Cert.KernelIdeal Cert.KernelIdeal.Gen Idealize Idealize.ShloMosaic Finset

open Head (lgs)

/-- The arguments of the backward pass, as numbers: projections, logits, the norm's weight, the gradient of the gated output. -/
structure Args where
  u : ℕ → ℕ → ℝ
  lg : ℕ → ℕ → ℝ
  gn : ℕ → ℝ
  dog : ℕ → ℕ → ℝ

namespace Args

variable (A : Args)

/-- The lower bound of a lane. -/
def lb (c : ℕ) : ℝ := lgs (A.lg 0 c - A.lg 1 c)

/-- A head without its output. -/
def pre (h : ℕ) : Head where
  hq t d := A.u t (128 * h + d)
  hf t d := A.u t (512 + 128 * h + d)
  hv t d := A.u t (1024 + 128 * h + d)
  hg t d := A.u t (1536 + 128 * h + d)
  o _ _ := 0
  dog t d := A.dog t (128 * h + d)
  l d := A.lb (128 * h + d)
  gn d := A.gn (128 * h + d)

/-- A head with its output. -/
def head (h : ℕ) : Head :=
  { A.pre h with o := fun t x => ∑ s ∈ range 8192, Recur.sc (A.pre h).g (A.pre h).q (A.pre h).k t s * (A.pre h).hv s x }

/-- The blocks of the point whose first row is `E`. -/
def bU (E : ℕ) : FVec Ideal S512x2048 .f32 := fun y => ((A.u (E + (y 0).val) (y 1).val : ℝ) : EReal)
def bLG : FVec Ideal S2x512 .f32 := fun y => ((A.lg (y 0).val (y 1).val : ℝ) : EReal)
def bGN : FVec Ideal S1x512 .f32 := fun y => ((A.gn (y 1).val : ℝ) : EReal)
def bST (E : ℕ) : FVec Ideal S4x4x128x128 .f32 := fun y =>
  ((Recur.st (A.head (y 1).val).g (A.head (y 1).val).k (A.head (y 1).val).hv (E + 128 * (y 0).val) (y 2).val (y 3).val : ℝ) : EReal)
def bB (E : ℕ) : FVec Ideal S512x512 .f32 := fun y =>
  ((Recur.b (A.head ((y 1).val / 128)).g (E + 128 * ((y 0).val / 128)) ((y 0).val % 128) ((y 1).val % 128) : ℝ) : EReal)
def bA (E : ℕ) : FVec Ideal S512x512 .bf16 := fun y =>
  ((Recur.sc (A.head ((y 1).val / 128)).g (A.head ((y 1).val / 128)).q (A.head ((y 1).val / 128)).k (E + (y 0).val)
    (E + 128 * ((y 0).val / 128) + (y 1).val % 128) : ℝ) : EReal)
def bO (E : ℕ) : FVec Ideal S512x512 .f32 := fun y => (((A.head ((y 1).val / 128)).o (E + (y 0).val) ((y 1).val % 128) : ℝ) : EReal)
def bD (E : ℕ) : FVec Ideal S512x512 .f32 := fun y => ((A.dog (E + (y 0).val) (y 1).val : ℝ) : EReal)

theorem rU_0 (o : ℕ) (ho : o ≤ 1536) (c h : Fin 4) (x : (rU o ho c h).shape.Idx) : ((rU o ho c h).toLoadRect.idx x 0).val = 128 * c.val + (x 0).val := by
  change 128 * c.val + 1 * (x 0).val = _; omega
theorem rU_1 (o : ℕ) (ho : o ≤ 1536) (c h : Fin 4) (x : (rU o ho c h).shape.Idx) : ((rU o ho c h).toLoadRect.idx x 1).val = o + 128 * h.val + (x 1).val := by
  change o + 128 * h.val + 1 * (x 1).val = _; omega
theorem rX_0 (c h : Fin 4) (x : (rX c h).shape.Idx) : ((rX c h).toLoadRect.idx x 0).val = 128 * c.val + (x 0).val := by
  change 128 * c.val + 1 * (x 0).val = _; omega
theorem rX_1 (c h : Fin 4) (x : (rX c h).shape.Idx) : ((rX c h).toLoadRect.idx x 1).val = 128 * h.val + (x 1).val := by
  change 128 * h.val + 1 * (x 1).val = _; omega

theorem lb_up : Chunk.lb A.bLG = fun y => ((A.lb (y 1).val : ℝ) : EReal) := by
  funext y
  pointwise [Chunk.lb, bLG]
  rw [← EReal.coe_sub, show (0 : EReal) = ((0 : ℝ) : EReal) from rfl, ← EReal.coe_sub, Ideal.exp_coe, show (1 : EReal) = ((1 : ℝ) : EReal) from rfl,
    ← EReal.coe_add, Num.div_coe (by positivity)]
  rfl

theorem lbs_up (h : Fin 4) : lbs A.bLG h = upr fun d => A.lb (128 * h.val + d) := by
  match h with
  | 0 => unfold lbs; rw [lb_up]; funext ix; pointwise [upr]
  | 1 => unfold lbs; rw [lb_up]; funext ix; pointwise [upr]
  | 2 => unfold lbs; rw [lb_up]; funext ix; pointwise [upr]
  | 3 => unfold lbs; rw [lb_up]; funext ix; pointwise [upr]

theorem cast_four (f : ℕ → ℕ → EReal) : shapeCast S128x128 (fun x => f (x 2).val (x 3).val : FVec Ideal S1x1x128x128 .f32) shapeCasts_S1x1x128x128_S128x128
    = (fun x => f (x 0).val (x 1).val : FVec Ideal S128x128 .f32) := by
  funext ix; pointwise []

theorem cast_sq {ty : FTy} (x : FVec Ideal S128x128 ty) : shapeCast S128x128 x shapeCasts_S128x128_S128x128 = x := by
  funext ix; pointwise []

section

variable (arg1 : Memref sig .tc .vmem S512x2048 .f32) (harg1 : arg1.IsWhole) (arg2 : Memref sig .tc .vmem S2x512 .f32) (harg2 : arg2.IsWhole)
  (arg3 : Memref sig .tc .vmem S1x512 .f32) (harg3 : arg3.IsWhole) (arg4 : Memref sig .tc .vmem S4x4x128x128 .f32) (harg4 : arg4.IsWhole)
  (arg5 : Memref sig .tc .vmem S512x512 .f32) (harg5 : arg5.IsWhole) (arg6 : Memref sig .tc .vmem S512x512 .bf16) (harg6 : arg6.IsWhole)
  (arg7 : Memref sig .tc .vmem S512x512 .f32) (harg7 : arg7.IsWhole) (arg8 : Memref sig .tc .vmem S512x512 .f32) (harg8 : arg8.IsWhole)

theorem load_u (o : ℕ) (ho : o ≤ 1536) (E : ℕ) (c h : Fin 4) :
    arg1.view.readAt (Elt Ideal) (rU o ho c h).toLoadRect (harg1.unread (A.bU E))
      = (up fun p d => A.u (E + 128 * c.val + p) (o + 128 * h.val + d) : FVec Ideal S128x128 .f32) := by
  funext x
  rw [Memref.IsWhole.readAt_unread]
  unfold bU up
  rw [rU_0, rU_1, ← add_assoc E]

/-- What a chunk reads. -/
theorem inp_up (E : ℕ) (c h : Fin 4) :
    inp arg1 harg1 arg2 harg2 arg3 harg3 arg4 harg4 arg5 harg5 arg6 harg6 arg7 harg7 arg8 harg8
      (A.bU E) A.bLG A.bGN (A.bST E) (A.bB E) (A.bA E) (A.bO E) (A.bD E) c h = inAt (A.head h.val) (E + 128 * c.val) := by
  have hl : arg2.view.readAt (Elt Ideal) (Rect.unit (s := S2x512) ![0, 0] S2x512.size inb_LG).toLoadRect (harg2.unread A.bLG) = A.bLG := by
    funext x
    rw [Memref.IsWhole.readAt_unread]
    congr 1
    funext a; apply Fin.ext
    fin_cases a
    · change 0 + 1 * (x 0).val = _; simp
    · change 0 + 1 * (x 1).val = _; simp
  have hg : arg3.view.readAt (Elt Ideal) (rG h).toLoadRect (harg3.unread A.bGN) = (upr fun d => A.gn (128 * h.val + d) : FVec Ideal S1x128 .f32) := by
    funext x
    rw [Memref.IsWhole.readAt_unread]
    unfold bGN upr
    rw [show ((rG h).toLoadRect.idx x 1).val = 128 * h.val + (x 1).val by change 128 * h.val + 1 * (x 1).val = _; omega]
  have hs : shapeCast S128x128 (arg4.view.readAt (Elt Ideal) (rT c h).toLoadRect (harg4.unread (A.bST E))) shapeCasts_S1x1x128x128_S128x128
      = (up (Recur.st (A.head h.val).g (A.head h.val).k (A.head h.val).hv (E + 128 * c.val)) : FVec Ideal S128x128 .f32) := by
    have e : arg4.view.readAt (Elt Ideal) (rT c h).toLoadRect (harg4.unread (A.bST E))
        = (fun x => ((Recur.st (A.head h.val).g (A.head h.val).k (A.head h.val).hv (E + 128 * c.val) (x 2).val (x 3).val : ℝ) : EReal) : FVec Ideal S1x1x128x128 .f32) := by
      funext x
      rw [Memref.IsWhole.readAt_unread]
      have z0 : (x 0).val = 0 := Nat.lt_one_iff.1 (x 0).isLt
      have z1 : (x 1).val = 0 := Nat.lt_one_iff.1 (x 1).isLt
      unfold bST
      rw [show ((rT c h).toLoadRect.idx x 0).val = c.val by change c.val + 1 * (x 0).val = _; omega,
        show ((rT c h).toLoadRect.idx x 1).val = h.val by change h.val + 1 * (x 1).val = _; omega,
        show ((rT c h).toLoadRect.idx x 2).val = (x 2).val by change 0 + 1 * (x 2).val = _; omega,
        show ((rT c h).toLoadRect.idx x 3).val = (x 3).val by change 0 + 1 * (x 3).val = _; omega]
    rw [e]
    exact cast_four fun x d => ((Recur.st (A.head h.val).g (A.head h.val).k (A.head h.val).hv (E + 128 * c.val) x d : ℝ) : EReal)
  have m1 : ∀ x : (rX c h).shape.Idx, (x 0).val < 128 := fun x => (x 0).isLt
  have m2 : ∀ x : (rX c h).shape.Idx, (x 1).val < 128 := fun x => (x 1).isLt
  have d1 : ∀ x : (rX c h).shape.Idx, (128 * h.val + (x 1).val) / 128 = h.val := fun x => by have := m2 x; omega
  have d2 : ∀ x : (rX c h).shape.Idx, (128 * h.val + (x 1).val) % 128 = (x 1).val := fun x => by have := m2 x; omega
  have d3 : ∀ x : (rX c h).shape.Idx, (128 * c.val + (x 0).val) / 128 = c.val := fun x => by have := m1 x; omega
  have d4 : ∀ x : (rX c h).shape.Idx, (128 * c.val + (x 0).val) % 128 = (x 0).val := fun x => by have := m1 x; omega
  have hb : shapeCast S128x128 (arg5.view.readAt (Elt Ideal) (rX c h).toLoadRect (harg5.unread (A.bB E))) shapeCasts_S128x128_S128x128
      = (up (Recur.b (A.head h.val).g (E + 128 * c.val)) : FVec Ideal S128x128 .f32) := by
    refine (cast_sq _).trans ?_
    funext x
    rw [Memref.IsWhole.readAt_unread]
    unfold bB up
    rw [rX_0, rX_1, d1, d2, d3, d4]
  have ha : shapeCast S128x128 (arg6.view.readAt (Elt Ideal) (rX c h).toLoadRect (harg6.unread (A.bA E))) shapeCasts_S128x128_S128x128
      = (up fun r p => Recur.sc (A.head h.val).g (A.head h.val).q (A.head h.val).k (E + 128 * c.val + r) (E + 128 * c.val + p) : FVec Ideal S128x128 .bf16) := by
    refine (cast_sq _).trans ?_
    funext x
    rw [Memref.IsWhole.readAt_unread]
    unfold bA up
    rw [rX_0, rX_1, d1, d2, d3, ← add_assoc E]
  have ho : shapeCast S128x128 (arg7.view.readAt (Elt Ideal) (rX c h).toLoadRect (harg7.unread (A.bO E))) shapeCasts_S128x128_S128x128
      = (up fun p d => (A.head h.val).o (E + 128 * c.val + p) d : FVec Ideal S128x128 .f32) := by
    refine (cast_sq _).trans ?_
    funext x
    rw [Memref.IsWhole.readAt_unread]
    unfold bO up
    rw [rX_0, rX_1, d1, d2, ← add_assoc E]
  have hd : arg8.view.readAt (Elt Ideal) (rX c h).toLoadRect (harg8.unread (A.bD E))
      = (up fun p d => A.dog (E + 128 * c.val + p) (128 * h.val + d) : FVec Ideal S128x128 .f32) := by
    funext x
    rw [Memref.IsWhole.readAt_unread]
    unfold bD up
    rw [rX_0, rX_1, ← add_assoc E]
  unfold inp
  rw [load_u, load_u, load_u, load_u, hl, lbs_up, hg, hs, hb, ha, ho, hd]
  unfold inAt
  simp only [head, pre, Nat.zero_add]

end

end Args

end Cert.KernelIdeal.Chunk

end
-- ==== Proof.Grid.lean ====
/-
  The grid: after each point the blocks hold the gradients of the point's rows, and the carried ones those of all the rows from it on.
-/
module

public import proofs.«01_k».proof.Proof.Blocks

@[expose] public section

set_option maxRecDepth 16384

noncomputable section

namespace Cert.KernelIdeal.Chunk.Args

open Cert.KernelIdeal Cert.KernelIdeal.Gen Idealize Idealize.ShloMosaic Finset

variable (A : Args) (E : ℕ)

/-! ## What the first point starts from -/

section

variable (arg10 : Memref sig .tc .vmem S2x512 .f32) (arg11 : Memref sig .tc .vmem S1x512 .f32) (arg12 : Memref sig .tc .vmem S4x128x128 .f32)
  (hA : E + 512 = 8192)

theorem fill_l (r : Fin 2) (h : Fin 4) : ldL arg10 fillL r h = upr fun _ => 0 := by
  unfold ldL fillL
  rw [View.readCov_fill arg10.view inb_LG _ _ _ (by decide)]
  funext ix
  change (Ideal.ofBits .f32 0x00000000#32) = _
  simp [upr]
theorem fill_n (h : Fin 4) : ldN arg11 fillN h = upr fun _ => 0 := by
  unfold ldN fillN
  rw [View.readCov_fill arg11.view inb_N _ _ _ (by decide)]
  funext ix
  change (Ideal.ofBits .f32 0x00000000#32) = _
  simp [upr]

include hA in
theorem end_l (h d : ℕ) : SL 8192 (A.head h) (E + 512) d = 0 := by
  unfold SL; rw [hA]; simp
include hA in
theorem end_n (h d : ℕ) : SN 8192 (A.head h) (E + 512) d = 0 := by
  unfold SN; rw [hA]; simp
include hA in
theorem fill_at : At A.head 8192 (again arg12 fillS) (E + 512) := fun h => by
  have e : again (F := Ideal) arg12 fillS h = (fun _ => ((0 : ℝ) : EReal) : FVec Ideal S1x128x128 .f32) := by
    unfold again fillS
    rw [View.readCov_fill arg12.view inb_S _ _ _ (by decide)]
    funext ix
    change (Ideal.ofBits .f32 0x00000000#32) = _
    simp
  rw [e, hA]
  unfold dstAt
  refine Eq.trans ?_ (up_congr (f := fun _ _ => 0) fun x _ d _ => ?_)
  · funext ix; pointwise [up]
  · unfold Recur.dst; simp

end

/-! ## What the others start from -/

section

variable (arg10 : Memref sig .tc .vmem S2x512 .f32) (harg10 : arg10.IsWhole) (arg11 : Memref sig .tc .vmem S1x512 .f32) (harg11 : arg11.IsWhole)
  (arg12 : Memref sig .tc .vmem S4x128x128 .f32) (harg12 : arg12.IsWhole)

theorem read_l (r : Fin 2) (h : Fin 4) : arg10.view.readAt (Elt Ideal) (rL r h).toLoadRect (harg10.unread (lBlk A.head 8192 (E + 512)))
    = upr (ty := .f32) fun d => if r.val = 0 then SL 8192 (A.head h.val) (E + 512) d else -SL 8192 (A.head h.val) (E + 512) d := by
  funext x
  rw [Memref.IsWhole.readAt_unread]
  have x0 : (x 0).val = 0 := Nat.lt_one_iff.1 (x 0).isLt
  have x1 : (x 1).val < 128 := (x 1).isLt
  unfold lBlk
  rw [show ((rL r h).toLoadRect.idx x 0).val = r.val by change r.val + 1 * (x 0).val = _; omega,
    show ((rL r h).toLoadRect.idx x 1).val = 128 * h.val + (x 1).val by change 128 * h.val + 1 * (x 1).val = _; omega,
    show (128 * h.val + (x 1).val) / 128 = h.val by omega, show (128 * h.val + (x 1).val) % 128 = (x 1).val by omega]
  by_cases hr : r.val = 0
  · rw [if_pos hr, one_mul]; exact (congrArg Real.toEReal (if_pos hr)).symm
  · rw [if_neg hr, neg_one_mul]; exact (congrArg Real.toEReal (if_neg hr)).symm

theorem read_n (h : Fin 4) : arg11.view.readAt (Elt Ideal) (rG h).toLoadRect (harg11.unread (nBlk A.head 8192 (E + 512)))
    = upr (ty := .f32) (SN 8192 (A.head h.val) (E + 512)) := by
  funext x
  rw [Memref.IsWhole.readAt_unread]
  have x1 : (x 1).val < 128 := (x 1).isLt
  unfold nBlk
  rw [show ((rG h).toLoadRect.idx x 1).val = 128 * h.val + (x 1).val by change 128 * h.val + 1 * (x 1).val = _; omega,
    show (128 * h.val + (x 1).val) / 128 = h.val by omega, show (128 * h.val + (x 1).val) % 128 = (x 1).val by omega]
  rfl

theorem cast_three (f : ℕ → ℕ → EReal) : shapeCast S128x128 (fun x => f (x 1).val (x 2).val : FVec Ideal S1x128x128 .f32) shapeCasts_S1x128x128_S128x128
    = (fun x => f (x 0).val (x 1).val : FVec Ideal S128x128 .f32) := by
  funext ix; pointwise []

theorem read_at : At A.head 8192 (fun h => arg12.view.readAt (Elt Ideal) (rS h).toLoadRect (harg12.unread (sBlk A.head 8192 (E + 512)))) (E + 512) := fun h => by
  have e : arg12.view.readAt (Elt Ideal) (rS h).toLoadRect (harg12.unread (sBlk A.head 8192 (E + 512)))
      = (fun x => ((Recur.dst 8192 (A.head h.val).g (A.head h.val).q (A.head h.val).w (E + 512) (x 1).val (x 2).val : ℝ) : EReal) : FVec Ideal S1x128x128 .f32) := by
    funext x
    rw [Memref.IsWhole.readAt_unread]
    have x0 : (x 0).val = 0 := Nat.lt_one_iff.1 (x 0).isLt
    unfold sBlk
    rw [show ((rS h).toLoadRect.idx x 0).val = h.val by change h.val + 1 * (x 0).val = _; omega,
      show ((rS h).toLoadRect.idx x 1).val = (x 1).val by change 0 + 1 * (x 1).val = _; omega,
      show ((rS h).toLoadRect.idx x 2).val = (x 2).val by change 0 + 1 * (x 2).val = _; omega]
  refine (congrArg (fun v => shapeCast S128x128 v shapeCasts_S1x128x128_S128x128) e).trans ?_
  exact cast_three fun x d => ((Recur.dst 8192 (A.head h.val).g (A.head h.val).q (A.head h.val).w (E + 512) x d : ℝ) : EReal)

end

/-! ## What a point leaves -/

section

variable (c : Dev nD) (i : grid0.Coords) (arg1 : Memref sig .tc .vmem S512x2048 .f32) (harg1 : arg1.IsWhole)
  (arg2 : Memref sig .tc .vmem S2x512 .f32) (harg2 : arg2.IsWhole) (arg3 : Memref sig .tc .vmem S1x512 .f32) (harg3 : arg3.IsWhole)
  (arg4 : Memref sig .tc .vmem S4x4x128x128 .f32) (harg4 : arg4.IsWhole) (arg5 : Memref sig .tc .vmem S512x512 .f32) (harg5 : arg5.IsWhole)
  (arg6 : Memref sig .tc .vmem S512x512 .bf16) (harg6 : arg6.IsWhole) (arg7 : Memref sig .tc .vmem S512x512 .f32) (harg7 : arg7.IsWhole)
  (arg8 : Memref sig .tc .vmem S512x512 .f32) (harg8 : arg8.IsWhole) (arg9 : Memref sig .tc .vmem S512x2048 .bf16) (harg9 : arg9.IsWhole)
  (arg10 : Memref sig .tc .vmem S2x512 .f32) (harg10 : arg10.IsWhole) (arg11 : Memref sig .tc .vmem S1x512 .f32) (harg11 : arg11.IsWhole)
  (arg12 : Memref sig .tc .vmem S4x128x128 .f32) (harg12 : arg12.IsWhole)
  (hok : ∀ h, Ok (A.head h)) (hA : E + 512 = 8192) (hE : E + 512 ≤ 8192)

section

variable (hc0 : cond0_0 i)

include hok hA in
theorem u_A : out0_A_8 (F := Ideal) c i arg1 harg1 arg2 harg2 arg3 harg3 arg4 harg4 arg5 harg5 arg6 harg6 arg7 harg7 arg8 harg8 arg9 harg9 arg10 harg10 arg11 harg11 arg12 harg12 hc0 (A.bU E) A.bLG A.bGN (A.bST E) (A.bB E) (A.bA E) (A.bO E) (A.bD E) = uBlk A.head 8192 E := by
  have hL := listU_A (F := Ideal) c i arg1 harg1 arg2 harg2 arg3 harg3 arg4 harg4 arg5 harg5 arg6 harg6 arg7 harg7 arg8 harg8 arg9 harg9 arg10 harg10 arg11 harg11 arg12 harg12 hc0 (A.bU E) A.bLG A.bGN (A.bST E) (A.bB E) (A.bA E) (A.bO E) (A.bD E)
  funext y
  unfold out0_A_8
  rw [View.read_writes_junk_apply_eq_canon]
  refine (congrFun (congrArg View.canon hL) y).trans ?_
  exact congrFun (canon_u arg12 A.head 8192 E _ (inp_up A arg1 harg1 arg2 harg2 arg3 harg3 arg4 harg4 arg5 harg5 arg6 harg6 arg7 harg7 arg8 harg8 E)
    (by omega) _ _ (fill_at A E arg12 hA) hok fun z => hL ▸ cover0_A_8 (F := Ideal) c i arg1 harg1 arg2 harg2 arg3 harg3 arg4 harg4 arg5 harg5 arg6 harg6 arg7 harg7 arg8 harg8 arg9 harg9 arg10 harg10 arg11 harg11 arg12 harg12 hc0 (A.bU E) A.bLG A.bGN (A.bST E) (A.bB E) (A.bA E) (A.bO E) (A.bD E) z) y

include hok hA in
theorem l_A : out0_A_9 (F := Ideal) c i arg1 harg1 arg2 harg2 arg3 harg3 arg4 harg4 arg5 harg5 arg6 harg6 arg7 harg7 arg8 harg8 arg9 harg9 arg10 harg10 arg11 harg11 arg12 harg12 hc0 (A.bU E) A.bLG A.bGN (A.bST E) (A.bB E) (A.bA E) (A.bO E) (A.bD E) = lBlk A.head 8192 E := by
  funext y
  unfold out0_A_9
  rw [View.read_writes_junk_apply_eq_canon]
  refine (congrFun (congrArg View.canon (listL_A (F := Ideal) c i arg1 harg1 arg2 harg2 arg3 harg3 arg4 harg4 arg5 harg5 arg6 harg6 arg7 harg7 arg8 harg8 arg9 harg9 arg10 harg10 arg11 harg11 arg12 harg12 hc0 (A.bU E) A.bLG A.bGN (A.bST E) (A.bB E) (A.bA E) (A.bO E) (A.bD E))) y).trans ?_
  refine congrFun (canon_l arg10 A.head 8192 E _ fun h => ld_l arg10 arg12 A.head 8192 E _
    (inp_up A arg1 harg1 arg2 harg2 arg3 harg3 arg4 harg4 arg5 harg5 arg6 harg6 arg7 harg7 arg8 harg8 E) (by omega) _ _ (fill_at A E arg12 hA) hok _ (skipL_ld arg10) _ h (fun _ _ => 0) (fun r => fill_l arg10 r h) (fun d => (end_l A E hA h.val d).symm) (fun d => by rw [end_l A E hA h.val d, neg_zero])) y

include hA in
theorem n_A : out0_A_10 (F := Ideal) c i arg1 harg1 arg2 harg2 arg3 harg3 arg4 harg4 arg5 harg5 arg6 harg6 arg7 harg7 arg8 harg8 arg9 harg9 arg10 harg10 arg11 harg11 arg12 harg12 hc0 (A.bU E) A.bLG A.bGN (A.bST E) (A.bB E) (A.bA E) (A.bO E) (A.bD E) = nBlk A.head 8192 E := by
  funext y
  unfold out0_A_10
  rw [View.read_writes_junk_apply_eq_canon]
  refine (congrFun (congrArg View.canon (listN_A (F := Ideal) c i arg1 harg1 arg2 harg2 arg3 harg3 arg4 harg4 arg5 harg5 arg6 harg6 arg7 harg7 arg8 harg8 arg9 harg9 arg10 harg10 arg11 harg11 arg12 harg12 hc0 (A.bU E) A.bLG A.bGN (A.bST E) (A.bB E) (A.bA E) (A.bO E) (A.bD E))) y).trans ?_
  refine congrFun (canon_n arg11 A.head 8192 E _ fun h => ld_n arg11 A.head 8192 E _
    (inp_up A arg1 harg1 arg2 harg2 arg3 harg3 arg4 harg4 arg5 harg5 arg6 harg6 arg7 harg7 arg8 harg8 E) (by omega) _ (skipN_ld arg11) _ h ((fill_n arg11 h).trans (upr_congr fun d _ => (end_n A E hA h.val d).symm))) y

include hA in
theorem s_A : sout0_A_0 (F := Ideal) c i arg1 harg1 arg2 harg2 arg3 harg3 arg4 harg4 arg5 harg5 arg6 harg6 arg7 harg7 arg8 harg8 arg9 harg9 arg10 harg10 arg11 harg11 arg12 harg12 hc0 (A.bU E) A.bLG A.bGN (A.bST E) (A.bB E) (A.bA E) (A.bO E) (A.bD E) = sBlk A.head 8192 E := by
  funext y
  unfold sout0_A_0
  rw [View.read_writes_junk_apply_eq_canon]
  refine (congrFun (congrArg View.canon (listS_A (F := Ideal) c i arg1 harg1 arg2 harg2 arg3 harg3 arg4 harg4 arg5 harg5 arg6 harg6 arg7 harg7 arg8 harg8 arg9 harg9 arg10 harg10 arg11 harg11 arg12 harg12 hc0 (A.bU E) A.bLG A.bGN (A.bST E) (A.bB E) (A.bA E) (A.bO E) (A.bD E))) y).trans ?_
  exact congrFun (canon_of_at arg12 A.head 8192 _ E (at_4 arg12 A.head 8192 E _
    (inp_up A arg1 harg1 arg2 harg2 arg3 harg3 arg4 harg4 arg5 harg5 arg6 harg6 arg7 harg7 arg8 harg8 E) (by omega) _ _ (fill_at A E arg12 hA))) y

end

section

variable (hc0 : ¬cond0_0 i)

include hok hE in
theorem u_B : out0_B_8 (F := Ideal) c i arg1 harg1 arg2 harg2 arg3 harg3 arg4 harg4 arg5 harg5 arg6 harg6 arg7 harg7 arg8 harg8 arg9 harg9 arg10 harg10 arg11 harg11 arg12 harg12 hc0 (A.bU E) A.bLG A.bGN (A.bST E) (A.bB E) (A.bA E) (A.bO E) (A.bD E) (lBlk A.head 8192 (E + 512)) (nBlk A.head 8192 (E + 512)) (sBlk A.head 8192 (E + 512)) = uBlk A.head 8192 E := by
  have hL := listU_B (F := Ideal) c i arg1 harg1 arg2 harg2 arg3 harg3 arg4 harg4 arg5 harg5 arg6 harg6 arg7 harg7 arg8 harg8 arg9 harg9 arg10 harg10 arg11 harg11 arg12 harg12 hc0 (A.bU E) A.bLG A.bGN (A.bST E) (A.bB E) (A.bA E) (A.bO E) (A.bD E) (lBlk A.head 8192 (E + 512)) (nBlk A.head 8192 (E + 512)) (sBlk A.head 8192 (E + 512))
  funext y
  unfold out0_B_8
  rw [View.read_writes_junk_apply_eq_canon]
  refine (congrFun (congrArg View.canon hL) y).trans ?_
  exact congrFun (canon_u arg12 A.head 8192 E _ (inp_up A arg1 harg1 arg2 harg2 arg3 harg3 arg4 harg4 arg5 harg5 arg6 harg6 arg7 harg7 arg8 harg8 E)
    hE _ _ (read_at A E arg12 harg12) hok fun z => hL ▸ cover0_B_8 (F := Ideal) c i arg1 harg1 arg2 harg2 arg3 harg3 arg4 harg4 arg5 harg5 arg6 harg6 arg7 harg7 arg8 harg8 arg9 harg9 arg10 harg10 arg11 harg11 arg12 harg12 hc0 (A.bU E) A.bLG A.bGN (A.bST E) (A.bB E) (A.bA E) (A.bO E) (A.bD E) (lBlk A.head 8192 (E + 512)) (nBlk A.head 8192 (E + 512)) (sBlk A.head 8192 (E + 512)) z) y

include hok hE in
theorem l_B : out0_B_9 (F := Ideal) c i arg1 harg1 arg2 harg2 arg3 harg3 arg4 harg4 arg5 harg5 arg6 harg6 arg7 harg7 arg8 harg8 arg9 harg9 arg10 harg10 arg11 harg11 arg12 harg12 hc0 (A.bU E) A.bLG A.bGN (A.bST E) (A.bB E) (A.bA E) (A.bO E) (A.bD E) (lBlk A.head 8192 (E + 512)) (nBlk A.head 8192 (E + 512)) (sBlk A.head 8192 (E + 512)) = lBlk A.head 8192 E := by
  funext y
  unfold out0_B_9
  rw [View.read_writes_junk_apply_eq_canon]
  refine (congrFun (congrArg View.canon (listL_B (F := Ideal) c i arg1 harg1 arg2 harg2 arg3 harg3 arg4 harg4 arg5 harg5 arg6 harg6 arg7 harg7 arg8 harg8 arg9 harg9 arg10 harg10 arg11 harg11 arg12 harg12 hc0 (A.bU E) A.bLG A.bGN (A.bST E) (A.bB E) (A.bA E) (A.bO E) (A.bD E) (lBlk A.head 8192 (E + 512)) (nBlk A.head 8192 (E + 512)) (sBlk A.head 8192 (E + 512)))) y).trans ?_
  refine congrFun (canon_l arg10 A.head 8192 E _ fun h => ld_l arg10 arg12 A.head 8192 E _
    (inp_up A arg1 harg1 arg2 harg2 arg3 harg3 arg4 harg4 arg5 harg5 arg6 harg6 arg7 harg7 arg8 harg8 E) hE _ _ (read_at A E arg12 harg12) hok _ (fun _ _ _ _ _ _ _ => rfl) _ h (fun r d => if r.val = 0 then SL 8192 (A.head h.val) (E + 512) d else -SL 8192 (A.head h.val) (E + 512) d) (fun r => read_l A E arg10 harg10 r h) (fun d => rfl) (fun d => rfl)) y

include hE in
theorem n_B : out0_B_10 (F := Ideal) c i arg1 harg1 arg2 harg2 arg3 harg3 arg4 harg4 arg5 harg5 arg6 harg6 arg7 harg7 arg8 harg8 arg9 harg9 arg10 harg10 arg11 harg11 arg12 harg12 hc0 (A.bU E) A.bLG A.bGN (A.bST E) (A.bB E) (A.bA E) (A.bO E) (A.bD E) (lBlk A.head 8192 (E + 512)) (nBlk A.head 8192 (E + 512)) (sBlk A.head 8192 (E + 512)) = nBlk A.head 8192 E := by
  funext y
  unfold out0_B_10
  rw [View.read_writes_junk_apply_eq_canon]
  refine (congrFun (congrArg View.canon (listN_B (F := Ideal) c i arg1 harg1 arg2 harg2 arg3 harg3 arg4 harg4 arg5 harg5 arg6 harg6 arg7 harg7 arg8 harg8 arg9 harg9 arg10 harg10 arg11 harg11 arg12 harg12 hc0 (A.bU E) A.bLG A.bGN (A.bST E) (A.bB E) (A.bA E) (A.bO E) (A.bD E) (lBlk A.head 8192 (E + 512)) (nBlk A.head 8192 (E + 512)) (sBlk A.head 8192 (E + 512)))) y).trans ?_
  refine congrFun (canon_n arg11 A.head 8192 E _ fun h => ld_n arg11 A.head 8192 E _
    (inp_up A arg1 harg1 arg2 harg2 arg3 harg3 arg4 harg4 arg5 harg5 arg6 harg6 arg7 harg7 arg8 harg8 E) hE _ (fun _ _ _ _ _ => rfl) _ h (read_n A E arg11 harg11 h)) y

include hE in
theorem s_B : sout0_B_0 (F := Ideal) c i arg1 harg1 arg2 harg2 arg3 harg3 arg4 harg4 arg5 harg5 arg6 harg6 arg7 harg7 arg8 harg8 arg9 harg9 arg10 harg10 arg11 harg11 arg12 harg12 hc0 (A.bU E) A.bLG A.bGN (A.bST E) (A.bB E) (A.bA E) (A.bO E) (A.bD E) (lBlk A.head 8192 (E + 512)) (nBlk A.head 8192 (E + 512)) (sBlk A.head 8192 (E + 512)) = sBlk A.head 8192 E := by
  funext y
  unfold sout0_B_0
  rw [View.read_writes_junk_apply_eq_canon]
  refine (congrFun (congrArg View.canon (listS_B (F := Ideal) c i arg1 harg1 arg2 harg2 arg3 harg3 arg4 harg4 arg5 harg5 arg6 harg6 arg7 harg7 arg8 harg8 arg9 harg9 arg10 harg10 arg11 harg11 arg12 harg12 hc0 (A.bU E) A.bLG A.bGN (A.bST E) (A.bB E) (A.bA E) (A.bO E) (A.bD E) (lBlk A.head 8192 (E + 512)) (nBlk A.head 8192 (E + 512)) (sBlk A.head 8192 (E + 512)))) y).trans ?_
  exact congrFun (canon_of_at arg12 A.head 8192 _ E (at_4 arg12 A.head 8192 E _
    (inp_up A arg1 harg1 arg2 harg2 arg3 harg3 arg4 harg4 arg5 harg5 arg6 harg6 arg7 harg7 arg8 harg8 E) hE _ _ (read_at A E arg12 harg12))) y

end

end

/-! ## The whole grid -/

variable (m : (ℓ : Loc nD τ sig) → Buf (Elt Ideal) ℓ) (c : Dev nD)

/-- The first row of a point. -/
def base (n : ℕ) : ℕ := 512 * (15 - n)

/-- The blocks that the points read are those of the arguments. -/
structure Reads : Prop where
  b0 : ∀ t : Fin cfg0.N, (iblk m c 0 t : Vec Ideal S512x2048 .f32) = A.bU (base t.val)
  b1 : ∀ t : Fin cfg0.N, (iblk m c 1 t : Vec Ideal S2x512 .f32) = A.bLG
  b2 : ∀ t : Fin cfg0.N, (iblk m c 2 t : Vec Ideal S1x512 .f32) = A.bGN
  b3 : ∀ t : Fin cfg0.N, (iblk m c 3 t : Vec Ideal S4x4x128x128 .f32) = A.bST (base t.val)
  b4 : ∀ t : Fin cfg0.N, (iblk m c 4 t : Vec Ideal S512x512 .f32) = A.bB (base t.val)
  b5 : ∀ t : Fin cfg0.N, (iblk m c 5 t : Vec Ideal S512x512 .bf16) = A.bA (base t.val)
  b6 : ∀ t : Fin cfg0.N, (iblk m c 6 t : Vec Ideal S512x512 .f32) = A.bO (base t.val)
  b7 : ∀ t : Fin cfg0.N, (iblk m c 7 t : Vec Ideal S512x512 .f32) = A.bD (base t.val)

theorem outs (hok : ∀ h, Ok (A.head h)) (hr : A.Reads m c) (n : ℕ) (hn : n < cfg0.N) :
    outsAt0 m c n hn = (uBlk A.head 8192 (base n), lBlk A.head 8192 (base n), nBlk A.head 8192 (base n), sBlk A.head 8192 (base n)) := by
  have hN : cfg0.N = 16 := N_0
  induction n with
  | zero =>
    have hA : base 0 + 512 = 8192 := rfl
    rw [outsAt0_A m c ⟨0, hn⟩ rfl]
    rw [hr.b0, hr.b1, hr.b2, hr.b3, hr.b4, hr.b5, hr.b6, hr.b7]
    rw [u_A A (base 0) _ _ _ _ _ _ _ _ _ _ _ _ _ _ _ _ _ _ _ _ _ _ _ _ _ _ hok hA, l_A A (base 0) _ _ _ _ _ _ _ _ _ _ _ _ _ _ _ _ _ _ _ _ _ _ _ _ _ _ hok hA,
      n_A A (base 0) _ _ _ _ _ _ _ _ _ _ _ _ _ _ _ _ _ _ _ _ _ _ _ _ _ _ hA, s_A A (base 0) _ _ _ _ _ _ _ _ _ _ _ _ _ _ _ _ _ _ _ _ _ _ _ _ _ _ hA]
  | succ n ih =>
    have hE : base (n + 1) + 512 ≤ 8192 := by unfold base; omega
    have hb : base n = base (n + 1) + 512 := by unfold base; omega
    rw [outsAt0_B m c ⟨n + 1, hn⟩ (by dsimp only; omega)]
    simp only [Nat.add_sub_cancel]
    rw [ih, hr.b0, hr.b1, hr.b2, hr.b3, hr.b4, hr.b5, hr.b6, hr.b7, hb]
    rw [u_B A (base (n + 1)) _ _ _ _ _ _ _ _ _ _ _ _ _ _ _ _ _ _ _ _ _ _ _ _ _ _ hok hE, l_B A (base (n + 1)) _ _ _ _ _ _ _ _ _ _ _ _ _ _ _ _ _ _ _ _ _ _ _ _ _ _ hok hE,
      n_B A (base (n + 1)) _ _ _ _ _ _ _ _ _ _ _ _ _ _ _ _ _ _ _ _ _ _ _ _ _ _ hE, s_B A (base (n + 1)) _ _ _ _ _ _ _ _ _ _ _ _ _ _ _ _ _ _ _ _ _ _ _ _ _ _ hE]

end Cert.KernelIdeal.Chunk.Args

end
-- ==== Proof.Win.lean ====
/-
  Running sums as windows: a window of the whole length over an array of numbers, from the front and from the back.
-/
module

public import proofs.«01_k».proof.Proof.Real
public import Idealize.ShloMosaic.Lib.ValueIdxCore

@[expose] public section

noncomputable section

namespace Win

open Idealize.ShloMosaic Idealize.ShloMosaic.ValueIdx Finset

theorem foldl_add {N : ℕ} (F : Fin N → EReal) : (List.finRange N).foldl (fun r n => r + F n) 0 = ∑ n, F n := by
  have h : ∀ (l : List (Fin N)) (z : EReal), l.foldl (fun r n => r + F n) z = z + (l.map F).sum := by
    intro l
    induction l with
    | nil => intro z; simp
    | cons a l ih => intro z; rw [List.foldl_cons, ih, List.map_cons, List.sum_cons, add_assoc]
  rw [h, zero_add, ← List.ofFn_eq_map, List.sum_ofFn]

/-- The window as a sum over its positions. -/
theorem eq_sum {s t : Shape} (window strides lo hi : Fin s.rank → ℕ) (h : s.ReduceWindows window strides lo hi t) (x : s.Idx → EReal) (j : t.Idx) :
    Ideal.hostReduceWindowAdd window strides lo hi h x 0 j
      = ∑ w : (⟨s.rank, window⟩ : Shape).Idx,
        if hin : ∀ a, lo a ≤ (j (a.cast h.1.symm)).val * strides a + (w a).val ∧ (j (a.cast h.1.symm)).val * strides a + (w a).val - lo a < s.size a
        then x (fun a => ⟨(j (a.cast h.1.symm)).val * strides a + (w a).val - lo a, (hin a).2⟩) else 0 := by
  unfold Ideal.hostReduceWindowAdd Host.reduceWindow
  refine (foldl_add _).trans ?_
  exact Equiv.sum_comp (⟨s.rank, window⟩ : Shape).rowMajor.symm fun w : (⟨s.rank, window⟩ : Shape).Idx =>
    (if hin : ∀ a, lo a ≤ (j (a.cast h.1.symm)).val * strides a + (w a).val ∧ (j (a.cast h.1.symm)).val * strides a + (w a).val - lo a < s.size a
      then x (fun a => ⟨(j (a.cast h.1.symm)).val * strides a + (w a).val - lo a, (hin a).2⟩) else 0 : EReal)

def line3 (n : ℕ) : Fin n ≃ (⟨3, ![1, n, 1]⟩ : Shape).Idx where
  toFun k := ix3 0 k 0
  invFun w := w 1
  left_inv _ := rfl
  right_inv w := by
    funext a
    match a with
    | 0 => exact Subsingleton.elim (α := Fin 1) _ _
    | 1 => rfl
    | 2 => exact Subsingleton.elim (α := Fin 1) _ _

def line2 (n : ℕ) : Fin n ≃ (⟨2, ![n, 1]⟩ : Shape).Idx where
  toFun k := ix2 k 0
  invFun w := w 0
  left_inv _ := rfl
  right_inv w := by
    funext a
    match a with
    | 0 => rfl
    | 1 => exact Subsingleton.elim (α := Fin 1) _ _

/-- Along the middle of three axes. -/
theorem mid {a n c l r : ℕ} (f : ℕ → ℕ → ℕ → ℝ)
    (h : (⟨3, ![a, n, c]⟩ : Shape).ReduceWindows ![1, n, 1] ![1, 1, 1] ![0, l, 0] ![0, r, 0] ⟨3, ![a, n, c]⟩) (j : (⟨3, ![a, n, c]⟩ : Shape).Idx) :
    Ideal.hostReduceWindowAdd (s := ⟨3, ![a, n, c]⟩) ![1, n, 1] ![1, 1, 1] ![0, l, 0] ![0, r, 0] h (fun i => ((f (i 0).val (i 1).val (i 2).val : ℝ) : EReal)) 0 j
      = ((∑ k ∈ range n, if l ≤ (j 1).val + k ∧ (j 1).val + k - l < n then f (j 0).val ((j 1).val + k - l) (j 2).val else 0 : ℝ) : EReal) := by
  rw [eq_sum, ← Fin.sum_univ_eq_sum_range (fun k => if l ≤ (j 1).val + k ∧ (j 1).val + k - l < n then f (j 0).val ((j 1).val + k - l) (j 2).val else 0),
    ← _root_.Num.coe_sum]
  refine ((line3 n).sum_comp _).symm.trans (Finset.sum_congr rfl fun k _ => ?_)
  have j0 : (j 0).val < a := (j 0).isLt
  have j2 : (j 2).val < c := (j 2).isLt
  by_cases hk : l ≤ (j 1).val + k.val ∧ (j 1).val + k.val - l < n
  · rw [if_pos hk, dif_pos]
    · change ((f ((j 0).val * 1 + 0 - 0) ((j 1).val * 1 + k.val - l) ((j 2).val * 1 + 0 - 0) : ℝ) : EReal) = _
      rw [Nat.mul_one, Nat.mul_one, Nat.mul_one]; rfl
    · intro b
      match b with
      | 0 => exact ⟨Nat.zero_le _, by change (j 0).val * 1 + 0 - 0 < a; omega⟩
      | 1 => change l ≤ (j 1).val * 1 + k.val ∧ (j 1).val * 1 + k.val - l < n; rw [Nat.mul_one]; exact hk
      | 2 => exact ⟨Nat.zero_le _, by change (j 2).val * 1 + 0 - 0 < c; omega⟩
  · rw [if_neg hk, dif_neg]
    · rfl
    · intro hin
      have := hin 1
      change l ≤ (j 1).val * 1 + k.val ∧ (j 1).val * 1 + k.val - l < n at this
      rw [Nat.mul_one] at this
      exact hk this

/-- Along the first of two axes. -/
theorem top {n c l r : ℕ} (f : ℕ → ℕ → ℝ)
    (h : (⟨2, ![n, c]⟩ : Shape).ReduceWindows ![n, 1] ![1, 1] ![l, 0] ![r, 0] ⟨2, ![n, c]⟩) (j : (⟨2, ![n, c]⟩ : Shape).Idx) :
    Ideal.hostReduceWindowAdd (s := ⟨2, ![n, c]⟩) ![n, 1] ![1, 1] ![l, 0] ![r, 0] h (fun i => ((f (i 0).val (i 1).val : ℝ) : EReal)) 0 j
      = ((∑ k ∈ range n, if l ≤ (j 0).val + k ∧ (j 0).val + k - l < n then f ((j 0).val + k - l) (j 1).val else 0 : ℝ) : EReal) := by
  rw [eq_sum, ← Fin.sum_univ_eq_sum_range (fun k => if l ≤ (j 0).val + k ∧ (j 0).val + k - l < n then f ((j 0).val + k - l) (j 1).val else 0),
    ← _root_.Num.coe_sum]
  refine ((line2 n).sum_comp _).symm.trans (Finset.sum_congr rfl fun k _ => ?_)
  have j1 : (j 1).val < c := (j 1).isLt
  by_cases hk : l ≤ (j 0).val + k.val ∧ (j 0).val + k.val - l < n
  · rw [if_pos hk, dif_pos]
    · change ((f ((j 0).val * 1 + k.val - l) ((j 1).val * 1 + 0 - 0) : ℝ) : EReal) = _
      rw [Nat.mul_one, Nat.mul_one]; rfl
    · intro b
      match b with
      | 0 => change l ≤ (j 0).val * 1 + k.val ∧ (j 0).val * 1 + k.val - l < n; rw [Nat.mul_one]; exact hk
      | 1 => exact ⟨Nat.zero_le _, by change (j 1).val * 1 + 0 - 0 < c; omega⟩
  · rw [if_neg hk, dif_neg]
    · rfl
    · intro hin
      have := hin 0
      change l ≤ (j 0).val * 1 + k.val ∧ (j 0).val * 1 + k.val - l < n at this
      rw [Nat.mul_one] at this
      exact hk this

/-- A window padded in front by its length less one runs from the front. -/
theorem front (n l p : ℕ) (hl : l + 1 = n) (hp : p < n) (f : ℕ → ℝ) :
    (∑ k ∈ range n, if l ≤ p + k ∧ p + k - l < n then f (p + k - l) else 0) = ∑ i ∈ range (p + 1), f i := by
  rw [← Finset.sum_filter]
  refine Finset.sum_bij (fun k _ => p + k - l) (fun k hk => ?_) (fun k hk k' hk' e => ?_) (fun i hi => ⟨i + l - p, ?_, ?_⟩) (fun k hk => rfl)
  · simp only [mem_filter, mem_range] at hk ⊢; omega
  · simp only [mem_filter, mem_range] at hk hk'; omega
  · simp only [mem_filter, mem_range] at hi ⊢; omega
  · simp only [mem_range] at hi; omega

/-- A window padded at the back runs to the back. -/
theorem back (n p : ℕ) (f : ℕ → ℝ) :
    (∑ k ∈ range n, if 0 ≤ p + k ∧ p + k - 0 < n then f (p + k - 0) else 0) = ∑ i ∈ Ico p n, f i := by
  rw [← Finset.sum_filter]
  refine Finset.sum_bij (fun k _ => p + k) (fun k hk => ?_) (fun k hk k' hk' e => ?_) (fun i hi => ⟨i - p, ?_, ?_⟩) (fun k hk => rfl)
  · simp only [mem_filter, mem_range, mem_Ico] at hk ⊢; omega
  · omega
  · simp only [mem_filter, mem_range, mem_Ico] at hi ⊢; omega
  · simp only [mem_Ico] at hi; omega

/-- The same as a program's operation, padding with zeros. -/
theorem hmid {a n c l r : ℕ} {u : Shape} (f : ℕ → ℕ → ℕ → ℝ) (init : FVec Ideal u .f32) (hi : ∀ i, init i = 0)
    (h : (⟨3, ![a, n, c]⟩ : Shape).ReduceWindows ![1, n, 1] ![1, 1, 1] ![0, l, 0] ![0, r, 0] ⟨3, ![a, n, c]⟩) (hu : 0 < u.numel)
    (j : (⟨3, ![a, n, c]⟩ : Shape).Idx) :
    Host.reduceWindowAdd (F := Ideal) (φ := .f32) (s := ⟨3, ![a, n, c]⟩) ![1, n, 1] ![1, 1, 1] ![0, l, 0] ![0, r, 0]
      (fun i => ((f (i 0).val (i 1).val (i 2).val : ℝ) : EReal)) init h hu j
      = ((∑ k ∈ range n, if l ≤ (j 1).val + k ∧ (j 1).val + k - l < n then f (j 0).val ((j 1).val + k - l) (j 2).val else 0 : ℝ) : EReal) := by
  unfold Host.reduceWindowAdd
  rw [hi]
  exact mid f h j
theorem htop {n c l r : ℕ} {u : Shape} (f : ℕ → ℕ → ℝ) (init : FVec Ideal u .f32) (hi : ∀ i, init i = 0)
    (h : (⟨2, ![n, c]⟩ : Shape).ReduceWindows ![n, 1] ![1, 1] ![l, 0] ![r, 0] ⟨2, ![n, c]⟩) (hu : 0 < u.numel) (j : (⟨2, ![n, c]⟩ : Shape).Idx) :
    Host.reduceWindowAdd (F := Ideal) (φ := .f32) (s := ⟨2, ![n, c]⟩) ![n, 1] ![1, 1] ![l, 0] ![r, 0]
      (fun i => ((f (i 0).val (i 1).val : ℝ) : EReal)) init h hu j
      = ((∑ k ∈ range n, if l ≤ (j 0).val + k ∧ (j 0).val + k - l < n then f ((j 0).val + k - l) (j 1).val else 0 : ℝ) : EReal) := by
  unfold Host.reduceWindowAdd
  rw [hi]
  exact top f h j

end Win

end
-- ==== Proof.Fore.lean ====
/-
  The forward half of the reference as numbers.
-/
module

public import proofs.«01_k».proof.Proof.Blocks
public import proofs.«01_k».proof.Proof.Win
public import proofs.«01_k».proof.Proof.Fold
public import Idealize.ShloMosaic.Lib.WordCmp
public import proofs.«01_k».proof.Proof.Gen.ReferenceIdeal.Read

@[expose] public section

set_option maxRecDepth 16384

noncomputable section

namespace Cert.KernelIdeal.Chunk.Args

open Cert.KernelIdeal Cert.KernelIdeal.Gen Idealize Idealize.ShloMosaic Finset
open Head (lgs)
open Cert.ReferenceIdeal.Read

variable (A : Args)

/-- The projections as an array. -/
def aU : FVec Ideal S8192x2048 .f32 := fun y => ((A.u (y 0).val (y 1).val : ℝ) : EReal)
def aD : FVec Ideal S8192x512 .f32 := fun y => ((A.dog (y 0).val (y 1).val : ℝ) : EReal)

/-- A lane's larger logit, and the sum of the exponentials. -/
def mx (c : ℕ) : ℝ := max (A.lg 0 c) (A.lg 1 c)
def ex (r c : ℕ) : ℝ := Real.exp (A.lg r c - A.mx c)
def sm (c : ℕ) : ℝ := A.ex 0 c + A.ex 1 c

theorem sm_pos (c : ℕ) : 0 < A.sm c := by unfold sm ex; positivity

theorem ninf : Ideal.ofBits .f32 0xFF800000#32 = ⊥ := by simp [Ideal.ofBits, Ideal.ieee]
theorem pinf : Ideal.ofBits .f32 0x7F800000#32 = ⊤ := by simp [Ideal.ofBits, Ideal.ieee]
theorem max_coe (a b : ℝ) : max (a : EReal) (b : EReal) = ((max a b : ℝ) : EReal) := (EReal.coe_strictMono.monotone.map_max).symm

theorem v7 : val_main_v7 (F := Ideal) A.bLG = fun y => ((A.mx (y 0).val : ℝ) : EReal) := by
  funext y
  pointwise [val_main_v7, val_main_v6, val_main_v0, bLG, val_main_cst_1, val_main_cst]
  rw [ninf, show (univ : Finset (Fin 2)) = {0, 1} from rfl, Finset.fold_insert (by decide), Finset.fold_singleton, bot_sup_eq, sup_bot_eq]
  exact max_coe _ _

theorem v20 : val_main_v20 (F := Ideal) A.bLG = fun y => ((A.ex (y 0).val (y 1).val : ℝ) : EReal) := by
  funext y
  pointwise [val_main_v20, val_main_v19, val_main_v18, val_main_v17, A.v7, bLG]
  rw [← EReal.coe_sub, Ideal.exp_coe]; rfl

theorem v22 : val_main_v22 (F := Ideal) A.bLG = fun y => ((A.sm (y 1).val : ℝ) : EReal) := by
  funext y
  pointwise [val_main_v22, val_main_v21, A.v20, val_main_cst_7]
  rw [Fin.sum_univ_two, ← EReal.coe_add]; rfl

theorem v24 : val_main_v24 (F := Ideal) A.bLG = fun y => ((A.ex (y 0).val (y 1).val / A.sm (y 1).val : ℝ) : EReal) := by
  funext y
  pointwise [val_main_v24, val_main_v23, A.v22, A.v20]
  exact Num.div_coe (A.sm_pos _).ne' _

theorem soft (c : ℕ) : A.ex 0 c / A.sm c = A.lb c := by
  unfold lb lgs sm ex
  rw [show (0 : ℝ) - (A.lg 0 c - A.lg 1 c) = (A.lg 1 c - A.mx c) - (A.lg 0 c - A.mx c) by ring]
  generalize A.lg 0 c - A.mx c = a
  generalize A.lg 1 c - A.mx c = b
  rw [Real.exp_sub]
  have := Real.exp_pos a
  have := Real.exp_pos b
  field_simp

theorem v34 : val_main_v34 (F := Ideal) A.bLG = fun y => ((A.lb (y 0).val : ℝ) : EReal) := by
  funext y
  pointwise [val_main_v34, val_main_v33, val_main_v28, A.v24, val_main_call0_call0_v0, val_main_call0_call0_cst]
  refine (Win.htop (fun r c => A.ex r c / A.sm c) _ (fun i => ?_) _ _ _).trans (congrArg Real.toEReal ?_)
  · pointwise []
  · rw [Finset.sum_range_succ, Finset.sum_range_one, if_neg, if_pos, zero_add]
    · exact A.soft _
    · exact ⟨le_refl 1, by change 0 + 1 - 1 < 2; decide⟩
    · exact fun h => absurd h.1 (by change ¬1 ≤ 0 + 0; decide)

theorem log_coe {x : ℝ} (h : 0 < x) : Ideal.log (x : EReal) = ((Real.log x : ℝ) : EReal) := by
  rw [Ideal.log_coe, if_neg (not_le.2 h)]
theorem log1p_coe {x : ℝ} (h : 0 < 1 + x) : Ideal.log1p (x : EReal) = ((Real.log (1 + x) : ℝ) : EReal) := by
  unfold Ideal.log1p
  rw [show (1 : EReal) = ((1 : ℝ) : EReal) from rfl, ← EReal.coe_add, log_coe h]
theorem abs_coe (x : ℝ) : FloatOps.absf (F := Ideal) (φ := .f32) (x : EReal) = ((|x| : ℝ) : EReal) := by
  change max (x : EReal) (-(x : EReal)) = _
  rw [← EReal.coe_neg, max_coe]; rfl

/-- The larger of two logarithms with the correction for the smaller one is the logarithm of the sum. -/
theorem log_add (a b : ℝ) : max a b + Real.log (1 + Real.exp (-|a - b|)) = Real.log (Real.exp a + Real.exp b) := by
  have key : ∀ a b : ℝ, b ≤ a → max a b + Real.log (1 + Real.exp (-|a - b|)) = Real.log (Real.exp a + Real.exp b) := fun a b h => by
    have e : Real.exp a + Real.exp b = Real.exp a * (1 + Real.exp (-(a - b))) := by
      rw [mul_add, mul_one, ← Real.exp_add]; ring_nf
    rw [max_eq_left h, abs_of_nonneg (sub_nonneg.2 h), e, Real.log_mul (Real.exp_pos _).ne' (by positivity), Real.log_exp]
  rcases le_total b a with h | h
  · exact key a b h
  · rw [max_comm, abs_sub_comm, key b a h, add_comm]

theorem log_lgs (x : ℝ) : -(max (-x) 0 + Real.log (1 + Real.exp (-|-x|))) = Real.log (lgs x) := by
  have h := log_add (-x) 0
  rw [sub_zero] at h
  rw [h, Real.exp_zero]
  unfold lgs
  rw [one_div, Real.log_inv, add_comm, zero_sub]

theorem v40 : val_main_v40_0 (F := Ideal) A.aU = fun y => ((Real.log (lgs (A.u (y 0).val (512 + (y 1).val))) : ℝ) : EReal) := by
  funext y
  pointwise [val_main_v40_0, val_main_call1_v1_0, val_main_call1_call0_v4, val_main_call1_call0_v6, val_main_call1_call0_v11, val_main_call1_call0_v1,
    val_main_call1_call0_v10, val_main_call1_call0_v9, val_main_call1_call0_v8, val_main_call1_call0_v7, val_main_call1_call0_v3, val_main_call1_call0_v2,
    val_main_call1_call0_v5, val_main_call1_call0_v0, val_main_call1_call0_cst, val_main_call1_v0, val_main_v30, aU]
  generalize A.u (y 0).val (512 + (y 1).val) = x
  rw [if_neg (not_not_intro rfl), ← EReal.coe_neg, abs_coe, ← EReal.coe_neg, Ideal.exp_coe, log1p_coe (by positivity), show (0 : EReal) = ((0 : ℝ) : EReal) from rfl,
    max_coe, ← EReal.coe_add, ← EReal.coe_neg, log_lgs]

theorem lb_pos (c : ℕ) : 0 < A.lb c := Head.lgs_pos _
theorem lb_lt (c : ℕ) : A.lb c < 1 := Head.lgs_lt _

theorem v37 : val_main_v37 (F := Ideal) A.bLG = fun y => ((Real.log (1 - A.lb (y 0).val) : ℝ) : EReal) := by
  funext y
  pointwise [val_main_v37, val_main_v36, A.v34]
  rw [← EReal.coe_neg, log1p_coe (by have := A.lb_lt (y 0).val; linarith), ← sub_eq_add_neg]

theorem v35 : val_main_v35 (F := Ideal) A.bLG = fun y => ((Real.log (A.lb (y 0).val) : ℝ) : EReal) := by
  funext y
  pointwise [val_main_v35, A.v34]
  exact log_coe (A.lb_pos _)

/-- The forget gate in the flat lanes. -/
def fl (t c : ℕ) : ℝ := A.lb c + (1 - A.lb c) * lgs (A.u t (512 + c))
def gl (t c : ℕ) : ℝ := Real.log (A.fl t c)
def kl (t c : ℕ) : ℝ := (1 - A.lb c) * (1 - lgs (A.u t (512 + c)))
def ql (t c : ℕ) : ℝ := A.u t c * lgs (A.u t c)

theorem fl_pos (t c : ℕ) : 0 < A.fl t c := by
  have h := A.lb_pos c
  have h' := A.lb_lt c
  have := mul_pos (sub_pos.2 h') (Head.lgs_pos (A.u t (512 + c)))
  unfold fl; linarith

/-- The logarithm of the other summand of the forget gate. -/
theorem v43 : val_main_v43 (F := Ideal) A.aU A.bLG
    = fun y => ((Real.log ((1 - A.lb (y 1).val) * lgs (A.u (y 0).val (512 + (y 1).val))) : ℝ) : EReal) := by
  funext y
  pointwise [val_main_v43, val_main_v42, val_main_v41, A.v37, A.v40]
  rw [← EReal.coe_add, Real.log_mul (by have := A.lb_lt (y 1).val; linarith) (Head.lgs_pos _).ne']

theorem v57 : val_main_v57 (F := Ideal) A.aU A.bLG = fun y => ((A.gl (y 0).val (y 1).val : ℝ) : EReal) := by
  funext y
  pointwise [val_main_v57, val_main_v49, val_main_v51, val_main_v56, val_main_v46, val_main_v55, val_main_v54, val_main_v53, val_main_v52, val_main_v48,
    val_main_v50, val_main_v47, val_main_v45, val_main_v44, A.v43, A.v35]
  rw [if_neg (not_not_intro rfl), max_coe, ← EReal.coe_sub, abs_coe, ← EReal.coe_neg, Ideal.exp_coe, log1p_coe (by positivity), ← EReal.coe_add, log_add,
    Real.exp_log (A.lb_pos _), Real.exp_log (mul_pos (sub_pos.2 (A.lb_lt _)) (Head.lgs_pos _))]
  rfl

theorem coe_one : (1 : EReal) = ((1 : ℝ) : EReal) := rfl

theorem v81 : val_main_v81 (F := Ideal) A.aU A.bLG = fun y => ((A.kl (y 0).val (y 1).val : ℝ) : EReal) := by
  funext y
  pointwise [val_main_v81, val_main_v79, A.v57]
  rw [Ideal.exp_coe, coe_one, ← EReal.coe_sub, ← EReal.coe_neg]
  unfold gl
  rw [Real.exp_log (A.fl_pos _ _)]
  unfold fl kl
  exact congrArg Real.toEReal (by ring)

theorem lgs_coe (x : ℝ) : Ideal.div 1 (1 + Ideal.exp (-(x : EReal))) = ((lgs x : ℝ) : EReal) := by
  rw [← EReal.coe_neg, Ideal.exp_coe, coe_one, ← EReal.coe_add, Num.div_coe (by positivity)]
  unfold lgs
  rw [zero_sub]

theorem v82 : val_main_v82_2 (F := Ideal) A.aU = fun y => ((lgs (A.u (y 0).val (y 1).val) : ℝ) : EReal) := by
  funext y
  pointwise [val_main_v82_2, val_main_call2_v4, val_main_call2_v3, val_main_call2_v2, val_main_call2_v1, val_main_call2_v0, val_main_v29, val_main_call2_cst,
    val_main_call2_cst_0, aU]
  exact lgs_coe _

theorem v82q : val_main_v82_0 (F := Ideal) A.aU = fun y => ((A.ql (y 0).val (y 1).val : ℝ) : EReal) := by
  funext y
  pointwise [val_main_v82_0, A.v82, val_main_v29, aU]
  rw [← EReal.coe_mul]; rfl

/-- A head's rows in the flat lanes. -/
theorem ql_head (h t d : ℕ) : A.ql t (h * 128 + d) = (A.head h).q t d := by
  rw [mul_comm]; rfl
theorem gl_head (h t d : ℕ) : A.gl t (h * 128 + d) = (A.head h).g t d := by
  unfold gl fl
  rw [mul_comm h, ← add_assoc]; rfl
theorem kl_head (h t d : ℕ) : A.kl t (h * 128 + d) = (A.head h).k t d := by
  unfold kl
  rw [mul_comm h, ← add_assoc]; rfl

theorem v84 : val_main_v84 (F := Ideal) A.aU = fun y => (((A.head (y 0).val).q (y 1).val (y 2).val : ℝ) : EReal) := by
  funext y
  pointwise [val_main_v84, val_main_v83, A.v82q]
  rw [ql_head]
theorem v86 : val_main_v86 (F := Ideal) A.aU A.bLG = fun y => (((A.head (y 0).val).g (y 1).val (y 2).val : ℝ) : EReal) := by
  funext y
  pointwise [val_main_v86, val_main_v85, A.v57]
  rw [gl_head]
theorem v88 : val_main_v88 (F := Ideal) A.aU A.bLG = fun y => (((A.head (y 0).val).k (y 1).val (y 2).val : ℝ) : EReal) := by
  funext y
  pointwise [val_main_v88, val_main_v87, A.v81]
  rw [kl_head]
theorem v90 : val_main_v90 (F := Ideal) A.aU = fun y => (((A.head (y 0).val).hv (y 1).val (y 2).val : ℝ) : EReal) := by
  funext y
  pointwise [val_main_v90, val_main_v89, val_main_v31, aU]
  rw [mul_comm (y 0).val, ← add_assoc]; rfl

theorem v91 : val_main_v91 (F := Ideal) A.aU A.bLG = fun y => ((Recur.P (A.head (y 0).val).g (y 2).val ((y 1).val + 1) : ℝ) : EReal) := by
  funext y
  unfold val_main_v91
  rw [A.v86]
  refine (Win.hmid (fun h t d => (A.head h).g t d) _ (fun i => ?_) _ _ _).trans (congrArg Real.toEReal ?_)
  · pointwise [val_main_call3_call0_v0, val_main_call3_call0_cst]
  · exact (Win.front 8192 8191 _ rfl (y 1).isLt fun i => (A.head (y 0).val).g i (y 2).val).trans rfl

theorem mask_ge (a b : ℕ) (ha : a < 2 ^ 31) (hb : b < 2 ^ 31) :
    Scalar.select (IntOp.cmpi .sge (IntOp.addi (BitVec.ofNat 32 a) 0#32) (BitVec.ofNat 32 b)) 1#1 0#1 = if b ≤ a then 1#1 else 0#1 := by
  rw [show IntOp.addi (BitVec.ofNat 32 a) 0#32 = BitVec.ofNat 32 a from BitVec.add_zero _, WordCmp.cmpi_sge_ofNat ha hb]
  by_cases h : b ≤ a
  · simp [h]; rfl
  · simp [h]; rfl

theorem v101 : val_main_v101 (F := Ideal) A.aU A.bLG
    = fun y => ((Recur.E (A.head (y 0).val).g (y 1).val (y 2).val (y 3).val : ℝ) : EReal) := by
  funext y
  pointwise [val_main_v101, val_main_v100_0, val_main_v100_1, val_main_call5_v2, val_main_call5_v0, val_main_cst_18, val_main_v99, val_main_v98, val_main_v97,
    val_main_v96, val_main_v95, A.v91, val_main_v94, val_main_v93, val_main_call4_v4, val_main_call4_v5, val_main_call4_v2, val_main_call4_v0, val_main_call4_v1,
    val_main_call4_c, val_main_call4_v3, val_main_call4_c_0, val_main_v92, val_main_c]
  rw [mask_ge _ _ (lt_trans (y 1).isLt (by decide)) (lt_trans (y 2).isLt (by decide)), ← EReal.coe_sub]
  unfold Recur.E
  by_cases h : (y 2).val ≤ (y 1).val
  · rw [if_pos h, if_pos h, ValueIdx.select_one, Ideal.exp_coe]
  · rw [if_neg h, if_neg h, ValueIdx.select_zero]
    change Ideal.exp (Ideal.ofBits .f32 0xFF800000#32) = _
    rw [ninf]; rfl

theorem v108 : val_main_v108 (F := Ideal) A.aU A.bLG
    = fun y => ((Recur.sc (A.head (y 0).val).g (A.head (y 0).val).q (A.head (y 0).val).k (y 1).val (y 2).val : ℝ) : EReal) := by
  funext y
  pointwise [val_main_v108, val_main_v107, val_main_v106, val_main_v105, val_main_v104, val_main_v103, val_main_v102, val_main_cst_19, A.v101, A.v84, A.v88]
  simp only [← EReal.coe_mul]
  exact fin_sum 128 fun d => (A.head (y 0).val).q (y 1).val d * (A.head (y 0).val).k (y 2).val d * Recur.E (A.head (y 0).val).g (y 1).val (y 2).val d

theorem v109 : val_main_v109 (F := Ideal) A.aU A.bLG
    = fun y => (((A.head (y 0).val).o (y 1).val (y 2).val : ℝ) : EReal) := by
  funext y
  pointwise [val_main_v109, A.v108, A.v90]
  exact fin_dot 8192 (Recur.sc (A.head (y 0).val).g (A.head (y 0).val).q (A.head (y 0).val).k (y 1).val) fun s => (A.head (y 0).val).hv s (y 2).val

end Cert.KernelIdeal.Chunk.Args

end
-- ==== Proof.Host.lean ====
/-
  What the backward pass reads, computed on the host: the blocks of the grid's points are those of the arguments.
-/
module

public import proofs.«01_k».proof.Proof.Fore
public import proofs.«01_k».proof.Proof.Grid
public import proofs.«01_k».proof.Proof.Gen.KernelIdeal.Value
public import Idealize.ShloMosaic.Lib.StableHlo.RunRead
public import Idealize.ShloMosaic.Lib.StableHlo.RunClose

@[expose] public section

set_option maxRecDepth 16384

noncomputable section

namespace Cert.KernelIdeal.Chunk.Args

open Cert.KernelIdeal Cert.KernelIdeal.Gen Idealize Idealize.ShloMosaic Finset
open Idealize.ShloMosaic.TcCoe
open Head (lgs)
open Cert.ReferenceIdeal.Read
open Idealize.ShloMosaic.StableHlo

variable (A : Args)
variable (m : (ℓ : Loc nD τ sig) → Buf (Elt Ideal) ℓ) (c : Dev nD)

abbrev a0 := m ((c : Thread nD τ).loc main_arg0)
abbrev a1 := m ((c : Thread nD τ).loc main_arg1)

/-- The sums of the log gates within each chunk of 128 rows. -/
def kb (g : FVec Ideal S8192x512 .f32) : FVec Ideal S8192x512 .f32 :=
  shapeCast S8192x512 (Host.reduceWindowAdd ![1, 128, 1] ![1, 1, 1] ![0, 127, 0] ![0, 0, 0] (shapeCast S64x128x512 g shapeCasts_S8192x512_S64x128x512)
    (broadcastInDim S_ ![] bcast_S_S_ (constant S_ .f32 0x00000000#32)) reduceWindows_S64x128x512_S64x128x512_w1s1p0_0_w128s1p127_0_w1s1p0_0 h_S_)
    shapeCasts_S64x128x512_S8192x512

/-- The lower triangle. -/
def tri : Vec Ideal S128x128 .i1 :=
  select (cmpi .sge (addi (iotaInDim S128x128 32 0) (broadcastInDim S128x128 ![] bcast_S_S128x128 (constantI S_ 32 0#32))) (iotaInDim S128x128 32 1))
    (broadcastInDim S128x128 ![] bcast_S_S128x128 (constantI S_ 1 1#1)) (broadcastInDim S128x128 ![] bcast_S_S128x128 (constantI S_ 1 0#1))

/-- The decays within a chunk. -/
def kdec (b : FVec Ideal S8192x512 .f32) : FVec Ideal S64x128x128x4x128 .f32 :=
  Host.exp (select (broadcastInDim S64x128x128x4x128 ![1, 2, 3, 4] bcast_S128x128x1x1_S64x128x128x4x128_1_2_3_4 (broadcastInDim S128x128x1x1 ![0, 1] bcast_S128x128_S128x128x1x1_0_1 tri))
    (subf
      (broadcastInDim S64x128x128x4x128 ![0, 1, 2, 3, 4] bcast_S64x128x1x4x128_S64x128x128x4x128_0_1_2_3_4
        (broadcastInDim S64x128x1x4x128 ![0, 1, 3, 4] bcast_S64x128x4x128_S64x128x1x4x128_0_1_3_4 (shapeCast S64x128x4x128 b shapeCasts_S8192x512_S64x128x4x128)))
      (broadcastInDim S64x128x128x4x128 ![0, 1, 2, 3, 4] bcast_S64x1x128x4x128_S64x128x128x4x128_0_1_2_3_4
        (broadcastInDim S64x1x128x4x128 ![0, 2, 3, 4] bcast_S64x128x4x128_S64x1x128x4x128_0_2_3_4 (shapeCast S64x128x4x128 b shapeCasts_S8192x512_S64x128x4x128))))
    (broadcastInDim S64x128x128x4x128 ![] bcast_S_S64x128x128x4x128 (constant S_ .f32 0xFF800000#32)))

/-- The scores within a chunk. -/
def ksc (b q k : FVec Ideal S8192x512 .f32) : FVec Ideal S64x128x128x4 .f32 :=
  Host.reduceAdd (mulf (mulf
      (broadcastInDim S64x128x128x4x128 ![0, 1, 2, 3, 4] bcast_S64x128x1x4x128_S64x128x128x4x128_0_1_2_3_4
        (broadcastInDim S64x128x1x4x128 ![0, 1, 3, 4] bcast_S64x128x4x128_S64x128x1x4x128_0_1_3_4 (shapeCast S64x128x4x128 q shapeCasts_S8192x512_S64x128x4x128)))
      (broadcastInDim S64x128x128x4x128 ![0, 1, 2, 3, 4] bcast_S64x1x128x4x128_S64x128x128x4x128_0_1_2_3_4
        (broadcastInDim S64x1x128x4x128 ![0, 2, 3, 4] bcast_S64x128x4x128_S64x1x128x4x128_0_2_3_4 (shapeCast S64x128x4x128 k shapeCasts_S8192x512_S64x128x4x128))))
    (kdec b)) (constant S_ .f32 0x00000000#32) reducesTo_S64x128x128x4x128_S64x128x128x4_d4 h_S_

def ka (b q k : FVec Ideal S8192x512 .f32) : FVec Ideal S8192x512 .bf16 :=
  truncf .bf16 (shapeCast S8192x512 (transpose S64x128x4x128 [0, 1, 3, 2] (ksc b q k) transposes_S64x128x128x4_S64x128x4x128_0_1_3_2)
    shapeCasts_S64x128x4x128_S8192x512) bitsLt_bf16_f32

/-- The outputs, lane by lane. -/
def ko (o : FVec Ideal S4x8192x128 .f32) : FVec Ideal S8192x512 .f32 :=
  shapeCast S8192x512 (transpose S8192x4x128 [1, 0, 2] o transposes_S4x8192x128_S8192x4x128_1_0_2) shapeCasts_S8192x4x128_S8192x512

/-- The sums of the log gates before each chunk. -/
def kend (b : FVec Ideal S4x8192x128 .f32) : FVec Ideal S4x64x128 .f32 :=
  concatenate S4x64x128 1 [⟨S4x1x128, (broadcastInDim S4x1x128 ![] bcast_S_S4x1x128 (constant S_ .f32 0x00000000#32) : FVec Ideal S4x1x128 .f32)⟩,
    ⟨S4x63x128, (Host.slice S4x63x128 ![0, 127, 0] ![1, 128, 1] b slicesBy_S4x8192x128_S4x63x128_0s1_127s128_0s1 : FVec Ideal S4x63x128 .f32)⟩]
    concatenates_S4x1x128_S4x63x128_S4x64x128_d1

/-- The rows before each chunk. -/
def kbef : Vec Ideal S64x8192 .i1 :=
  cmpi .slt (broadcastInDim S64x8192 ![0, 1] bcast_S1x8192_S64x8192_0_1 (broadcastInDim S1x8192 ![1] bcast_S8192_S1x8192_1 (iotaInDim S8192 32 0)))
    (broadcastInDim S64x8192 ![0, 1] bcast_S64x1_S64x8192_0_1
      (muli (broadcastInDim S64x1 ![] bcast_S_S64x1 (constantI S_ 32 128#32)) (broadcastInDim S64x1 ![0] bcast_S64_S64x1_0 (iotaInDim S64 32 0))))

/-- The decays from each row to each later chunk. -/
def kkeep (b : FVec Ideal S4x8192x128 .f32) : FVec Ideal S4x64x8192x128 .f32 :=
  Host.exp (select (broadcastInDim S4x64x8192x128 ![1, 2, 3] bcast_S64x8192x1_S4x64x8192x128_1_2_3 (broadcastInDim S64x8192x1 ![0, 1] bcast_S64x8192_S64x8192x1_0_1 kbef))
    (subf
      (broadcastInDim S4x64x8192x128 ![0, 1, 2, 3] bcast_S4x64x1x128_S4x64x8192x128_0_1_2_3 (broadcastInDim S4x64x1x128 ![0, 1, 3] bcast_S4x64x128_S4x64x1x128_0_1_3 (kend b)))
      (broadcastInDim S4x64x8192x128 ![0, 1, 2, 3] bcast_S4x1x8192x128_S4x64x8192x128_0_1_2_3 (broadcastInDim S4x1x8192x128 ![0, 2, 3] bcast_S4x8192x128_S4x1x8192x128_0_2_3 b)))
    (broadcastInDim S4x64x8192x128 ![] bcast_S_S4x64x8192x128 (constant S_ .f32 0xFF800000#32)))

/-- The states before each chunk. -/
def kst (b k v : FVec Ideal S4x8192x128 .f32) : FVec Ideal S64x4x128x128 .f32 :=
  transpose S64x4x128x128 [1, 0, 3, 2] (Host.dotGeneral dot_S4x64x8192x128_S4x8192x128_S4x64x128x128_2_1_13_2_0_0 none
    (mulf (kkeep b) (broadcastInDim S4x64x8192x128 ![0, 1, 2, 3] bcast_S4x1x8192x128_S4x64x8192x128_0_1_2_3
      (broadcastInDim S4x1x8192x128 ![0, 2, 3] bcast_S4x8192x128_S4x1x8192x128_0_2_3 k))) v : FVec Ideal S4x64x128x128 .f32)
    transposes_S4x64x128x128_S64x4x128x128_1_0_3_2

theorem gl_lane (t c : ℕ) : A.gl t c = (A.head (c / 128)).g t (c % 128) := by
  rw [← A.gl_head, Nat.div_add_mod']
theorem ql_lane (t c : ℕ) : A.ql t c = (A.head (c / 128)).q t (c % 128) := by
  rw [← A.ql_head, Nat.div_add_mod']
theorem kl_lane (t c : ℕ) : A.kl t c = (A.head (c / 128)).k t (c % 128) := by
  rw [← A.kl_head, Nat.div_add_mod']

theorem div_128 (c : ℕ) {p : ℕ} (h : p < 128) : (c * 128 + p) / 128 = c := by omega
theorem mod_128 (c : ℕ) {p : ℕ} (h : p < 128) : (c * 128 + p) % 128 = p := by omega

theorem kb_num : kb (fun y => ((A.gl (y 0).val (y 1).val : ℝ) : EReal))
    = fun y => ((Recur.b (A.head ((y 1).val / 128)).g (128 * ((y 0).val / 128)) ((y 0).val % 128) ((y 1).val % 128) : ℝ) : EReal) := by
  have e : shapeCast S64x128x512 (fun y => ((A.gl (y 0).val (y 1).val : ℝ) : EReal) : FVec Ideal S8192x512 .f32) shapeCasts_S8192x512_S64x128x512
      = fun y => ((A.gl (128 * (y 0).val + (y 1).val) (y 2).val : ℝ) : EReal) := by
    funext y
    pointwise []
    rw [mul_comm (y 0).val]
  unfold kb
  rw [e]
  have w : (Host.reduceWindowAdd ![1, 128, 1] ![1, 1, 1] ![0, 127, 0] ![0, 0, 0]
      (fun y : S64x128x512.Idx => ((A.gl (128 * (y 0).val + (y 1).val) (y 2).val : ℝ) : EReal))
      (broadcastInDim S_ ![] bcast_S_S_ (constant S_ .f32 0x00000000#32)) reduceWindows_S64x128x512_S64x128x512_w1s1p0_0_w128s1p127_0_w1s1p0_0 h_S_ : FVec Ideal S64x128x512 .f32)
      = (fun y => ((∑ i ∈ range ((y 1).val + 1), A.gl (128 * (y 0).val + i) (y 2).val : ℝ) : EReal) : FVec Ideal S64x128x512 .f32) := by
    funext y
    refine (Win.hmid (fun a b c => A.gl (128 * a + b) c) _ (fun i => by pointwise []) _ _ y).trans ?_
    rw [Win.front 128 127 _ rfl (y 1).isLt fun b => A.gl (128 * (y 0).val + b) (y 2).val]
  rw [w]
  funext y
  pointwise []
  unfold Recur.b
  simp only [gl_lane]

theorem kdec_num : kdec (fun y => ((Recur.b (A.head ((y 1).val / 128)).g (128 * ((y 0).val / 128)) ((y 0).val % 128) ((y 1).val % 128) : ℝ) : EReal))
    = fun y => ((Recur.E (A.head (y 3).val).g (128 * (y 0).val + (y 1).val) (128 * (y 0).val + (y 2).val) (y 4).val : ℝ) : EReal) := by
  funext y
  pointwise [kdec, tri]
  have l1 : (y 1).val < 128 := (y 1).isLt
  have l2 : (y 2).val < 128 := (y 2).isLt
  have l4 : (y 4).val < 128 := (y 4).isLt
  rw [div_128 _ l1, div_128 _ l2, div_128 _ l4, mod_128 _ l1, mod_128 _ l2, mod_128 _ l4,
    mask_ge _ _ (lt_trans l1 (by decide)) (lt_trans l2 (by decide)), ← EReal.coe_sub]
  by_cases h : (y 2).val ≤ (y 1).val
  · rw [if_pos h, ValueIdx.select_one, Ideal.exp_coe, Recur.E_chunk h]
  · rw [if_neg h, ValueIdx.select_zero, ninf, Recur.E_of_lt (by omega)]; rfl

theorem kend_num : kend (fun y => ((Recur.P (A.head (y 0).val).g (y 2).val ((y 1).val + 1) : ℝ) : EReal))
    = fun y => ((Recur.P (A.head (y 0).val).g (y 2).val (128 * (y 1).val) : ℝ) : EReal) := by
  funext y
  pointwise [kend]
  by_cases h : (y 1).val < 1
  · rw [dif_pos h, show (y 1).val = 0 by omega]; simp [Recur.P]
  · rw [dif_neg h, show 127 + 128 * ((y 1).val - 1) + 1 = 128 * (y 1).val by omega]

theorem kkeep_num : kkeep (fun y => ((Recur.P (A.head (y 0).val).g (y 2).val ((y 1).val + 1) : ℝ) : EReal))
    = fun y => (((if (y 2).val < 128 * (y 1).val then Real.exp (Recur.P (A.head (y 0).val).g (y 3).val (128 * (y 1).val) - Recur.P (A.head (y 0).val).g (y 3).val ((y 2).val + 1)) else 0) : ℝ) : EReal) := by
  funext y
  pointwise [kkeep, kend_num, kbef]
  have l1 : (y 1).val < 64 := (y 1).isLt
  have l2 : (y 2).val < 8192 := (y 2).isLt
  rw [show IntOp.muli (128#32) (BitVec.ofNat 32 (y 1).val) = BitVec.ofNat 32 (128 * (y 1).val) from (BitVec.ofNat_mul 128 (y 1).val).symm,
    WordCmp.cmpi_slt_ofNat (lt_trans l2 (by decide)) (show 128 * (y 1).val < 2 ^ 31 by omega), ← EReal.coe_sub]
  by_cases h : (y 2).val < 128 * (y 1).val
  · rw [if_pos h, decide_eq_true h, show BitVec.ofBool true = 1#1 from rfl, ValueIdx.select_one, Ideal.exp_coe]
  · rw [if_neg h, decide_eq_false h, show BitVec.ofBool false = 0#1 from rfl, ValueIdx.select_zero, ninf]; rfl

theorem ksc_num : ksc (fun y => ((Recur.b (A.head ((y 1).val / 128)).g (128 * ((y 0).val / 128)) ((y 0).val % 128) ((y 1).val % 128) : ℝ) : EReal))
      (fun y => ((A.ql (y 0).val (y 1).val : ℝ) : EReal)) (fun y => ((A.kl (y 0).val (y 1).val : ℝ) : EReal))
    = fun y => ((Recur.sc (A.head (y 3).val).g (A.head (y 3).val).q (A.head (y 3).val).k (128 * (y 0).val + (y 1).val) (128 * (y 0).val + (y 2).val) : ℝ) : EReal) := by
  funext y
  pointwise [ksc, kdec_num]
  simp only [← EReal.coe_mul, ql_head, kl_head, mul_comm _ 128]
  simp only [mul_comm 128 (y 3).val, ql_head, kl_head]
  exact fin_sum 128 fun d => (A.head (y 3).val).q (128 * (y 0).val + (y 1).val) d * (A.head (y 3).val).k (128 * (y 0).val + (y 2).val) d
    * Recur.E (A.head (y 3).val).g (128 * (y 0).val + (y 1).val) (128 * (y 0).val + (y 2).val) d

theorem ka_num : ka (fun y => ((Recur.b (A.head ((y 1).val / 128)).g (128 * ((y 0).val / 128)) ((y 0).val % 128) ((y 1).val % 128) : ℝ) : EReal))
      (fun y => ((A.ql (y 0).val (y 1).val : ℝ) : EReal)) (fun y => ((A.kl (y 0).val (y 1).val : ℝ) : EReal))
    = fun y => ((Recur.sc (A.head ((y 1).val / 128)).g (A.head ((y 1).val / 128)).q (A.head ((y 1).val / 128)).k (y 0).val
        (128 * ((y 0).val / 128) + (y 1).val % 128) : ℝ) : EReal) := by
  funext y
  pointwise [ka, ksc_num]
  rw [Nat.div_add_mod]

theorem ko_num : ko (fun y => (((A.head (y 0).val).o (y 1).val (y 2).val : ℝ) : EReal))
    = fun y => (((A.head ((y 1).val / 128)).o (y 0).val ((y 1).val % 128) : ℝ) : EReal) := by
  funext y
  pointwise [ko]

theorem kst_num : kst (fun y => ((Recur.P (A.head (y 0).val).g (y 2).val ((y 1).val + 1) : ℝ) : EReal))
      (fun y => (((A.head (y 0).val).k (y 1).val (y 2).val : ℝ) : EReal)) (fun y => (((A.head (y 0).val).hv (y 1).val (y 2).val : ℝ) : EReal))
    = fun y => ((Recur.st (A.head (y 1).val).g (A.head (y 1).val).k (A.head (y 1).val).hv (128 * (y 0).val) (y 2).val (y 3).val : ℝ) : EReal) := by
  funext y
  pointwise [kst, kkeep_num]
  simp only [← EReal.coe_mul]
  refine (fin_sum 8192 fun s => (if s < 128 * (y 0).val then
      Real.exp (Recur.P (A.head (y 1).val).g (y 3).val (128 * (y 0).val) - Recur.P (A.head (y 1).val).g (y 3).val (s + 1)) else 0)
    * (A.head (y 1).val).k s (y 3).val * (A.head (y 1).val).hv s (y 2).val).trans (congrArg Real.toEReal ?_)
  have l0 : (y 0).val < 64 := (y 0).isLt
  unfold Recur.st
  rw [← Finset.sum_subset (Finset.range_subset_range.2 (show 128 * (y 0).val ≤ 8192 by omega)) fun s _ hs => by
    rw [if_neg (by simpa using hs), zero_mul, zero_mul]]
  refine Finset.sum_congr rfl fun s hs => ?_
  rw [if_pos (by simpa using hs), mul_comm]

theorem V_g : (V m c main_v38 : Vec Ideal S8192x512 .f32)
    = val_main_v57 (F := Ideal) (a0 m c) (a1 m c) := by
  simp only [V, List.flatten_cons, List.flatten_nil, List.append_nil]
  after_reads_simp
  simp only [TRef.ofBuf, TRef.toBuf, dropContentsCast]
  rfl

theorem V_k : (V m c main_v40 : Vec Ideal S8192x512 .f32)
    = val_main_v81 (F := Ideal) (a0 m c) (a1 m c) := by
  simp only [V, List.flatten_cons, List.flatten_nil, List.append_nil]
  after_reads_simp
  simp only [TRef.ofBuf, TRef.toBuf, dropContentsCast]
  rfl

theorem V_q : (V m c main_v41 : Vec Ideal S8192x512 .f32)
    = val_main_v82_0 (F := Ideal) (a0 m c) := by
  simp only [V, List.flatten_cons, List.flatten_nil, List.append_nil]
  after_reads_simp
  rfl

theorem V_kt : (V m c main_v47 : Vec Ideal S4x8192x128 .f32)
    = val_main_v88 (F := Ideal) (a0 m c) (a1 m c) := by
  simp only [V, List.flatten_cons, List.flatten_nil, List.append_nil]
  after_reads_simp
  simp only [TRef.ofBuf, TRef.toBuf, dropContentsCast]
  rfl

theorem V_vt : (V m c main_v49 : Vec Ideal S4x8192x128 .f32)
    = val_main_v90 (F := Ideal) (a0 m c) := by
  simp only [V, List.flatten_cons, List.flatten_nil, List.append_nil]
  after_reads_simp
  rfl

theorem V_bt : (V m c main_v50 : Vec Ideal S4x8192x128 .f32)
    = val_main_v91 (F := Ideal) (a0 m c) (a1 m c) := by
  simp only [V, List.flatten_cons, List.flatten_nil, List.append_nil]
  after_reads_simp
  simp only [TRef.ofBuf, TRef.toBuf, dropContentsCast]
  rfl

theorem V_ot : (V m c main_v71 : Vec Ideal S4x8192x128 .f32)
    = val_main_v109 (F := Ideal) (a0 m c) (a1 m c) := by
  simp only [V, List.flatten_cons, List.flatten_nil, List.append_nil]
  after_reads_simp
  simp only [TRef.ofBuf, TRef.toBuf, dropContentsCast]
  rfl

theorem V_b : (V m c main_v53 : Vec Ideal S8192x512 .f32)
    = kb (V m c main_v38) := by
  simp only [V, List.flatten_cons, List.flatten_nil, List.append_nil]
  unfold kb
  after_reads_simp
  simp only [TRef.ofBuf, TRef.toBuf, dropContentsCast]
  rfl

theorem V_o : (V m c main_v73 : Vec Ideal S8192x512 .f32)
    = ko (V m c main_v71) := by
  simp only [V, List.flatten_cons, List.flatten_nil, List.append_nil]
  unfold ko
  after_reads_simp
  simp only [TRef.ofBuf, TRef.toBuf, dropContentsCast]
  rfl

theorem after_append (l₁ l₂ : List (HloOp τ sig (Elt Ideal))) (W : Valuation τ sig (Elt Ideal)) :
    after (l₁ ++ l₂) W = after l₂ (after l₁ W) := by
  induction l₁ generalizing W with
  | nil => rfl
  | cons a l ih => exact ih _

/-- The operations up to the running sums. -/
def firstOps : List (List (HloOp τ sig (Elt Ideal))) := [hostOps0, hostOps0_1, hostOps0_2, hostOps0_3, hostOps0_4, hostOps0_5, hostOps0_6, hostOps0_7, hostOps0_8, hostOps0_9, hostOps0_10, hostOps0_11, hostOps0_12, hostOps0_13]

theorem V_split (b : Ref sig .tc) : V m c b = after (List.flatten [hostOps0_14, hostOps0_15, hostOps0_16, hostOps0_17, hostOps0_18, hostOps0_19, hostOps0_20]) (after (List.flatten firstOps) (fun b => m (c, b))) b := by
  rw [← after_append, ← List.flatten_append]
  rfl

theorem V_a : (V m c main_v96 : Vec Ideal S8192x512 .bf16)
    = ka (V m c main_v53) (V m c main_v41) (V m c main_v40) := by
  rw [V_split m c main_v96, V_split m c main_v53, V_split m c main_v41, V_split m c main_v40]
  generalize after (List.flatten firstOps) _ = G
  simp only [List.flatten_cons, List.flatten_nil, List.append_nil]
  unfold ka ksc kdec tri
  after_reads_simp
  simp only [TRef.ofBuf, TRef.toBuf, dropContentsCast]
  rfl

theorem V_st : (V m c main_v121 : Vec Ideal S64x4x128x128 .f32)
    = kst (V m c main_v50) (V m c main_v47) (V m c main_v49) := by
  rw [V_split m c main_v121, V_split m c main_v50, V_split m c main_v47, V_split m c main_v49]
  generalize after (List.flatten firstOps) _ = G
  simp only [List.flatten_cons, List.flatten_nil, List.append_nil]
  unfold kst kkeep kend kbef
  after_reads_simp
  simp only [TRef.ofBuf, TRef.toBuf, dropContentsCast]
  rfl

/-- The program's arguments are those numbers. -/
structure Same : Prop where
  h0 : a0 m c = A.aU
  h1 : a1 m c = A.bLG
  h2 : m ((c : Thread nD τ).loc main_arg2) = A.bGN
  h3 : m ((c : Thread nD τ).loc main_arg3) = A.aD

section

variable {A m c}
variable (h : A.Same m c)
include h

theorem Same.g : (V m c main_v38 : Vec Ideal S8192x512 .f32) = fun y => ((A.gl (y 0).val (y 1).val : ℝ) : EReal) := by
  rw [V_g, h.h0, h.h1, A.v57]; rfl
theorem Same.b : (V m c main_v53 : Vec Ideal S8192x512 .f32)
    = fun y => ((Recur.b (A.head ((y 1).val / 128)).g (128 * ((y 0).val / 128)) ((y 0).val % 128) ((y 1).val % 128) : ℝ) : EReal) := by
  rw [V_b, h.g]; exact A.kb_num
theorem Same.a : (V m c main_v96 : Vec Ideal S8192x512 .bf16)
    = fun y => ((Recur.sc (A.head ((y 1).val / 128)).g (A.head ((y 1).val / 128)).q (A.head ((y 1).val / 128)).k (y 0).val
        (128 * ((y 0).val / 128) + (y 1).val % 128) : ℝ) : EReal) := by
  rw [V_a, h.b, V_q, V_k, h.h0, h.h1, A.v82q, A.v81]; exact A.ka_num
theorem Same.o : (V m c main_v73 : Vec Ideal S8192x512 .f32)
    = fun y => (((A.head ((y 1).val / 128)).o (y 0).val ((y 1).val % 128) : ℝ) : EReal) := by
  rw [V_o, V_ot, h.h0, h.h1, A.v109]; exact A.ko_num
theorem Same.st : (V m c main_v121 : Vec Ideal S64x4x128x128 .f32)
    = fun y => ((Recur.st (A.head (y 1).val).g (A.head (y 1).val).k (A.head (y 1).val).hv (128 * (y 0).val) (y 2).val (y 3).val : ℝ) : EReal) := by
  rw [V_st, V_bt, V_kt, V_vt, h.h0, h.h1, A.v91, A.v88, A.v90]; exact A.kst_num

end

/-- Where the blocks of the arguments lie: from the last to the first. -/
theorem idx : ∀ t : Fin cfg0.N, (win0_0.index t (0 : Fin 2) = 15 - t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 4) = 15 - t.val ∧ win0_3.index t (1 : Fin 4) = 0 ∧ win0_3.index t (2 : Fin 4) = 0 ∧ win0_3.index t (3 : Fin 4) = 0)
    ∧ (win0_4.index t (0 : Fin 2) = 15 - t.val ∧ win0_4.index t (1 : Fin 2) = 0)
    ∧ (win0_5.index t (0 : Fin 2) = 15 - t.val ∧ win0_5.index t (1 : Fin 2) = 0)
    ∧ (win0_6.index t (0 : Fin 2) = 15 - t.val ∧ win0_6.index t (1 : Fin 2) = 0)
    ∧ (win0_7.index t (0 : Fin 2) = 15 - t.val ∧ win0_7.index t (1 : Fin 2) = 0) :=
  (by decide +kernel : ∀ t : Fin grid0.N, _)

theorem b_u (t : Fin cfg0.N) (y : S512x2048.Idx) (i : S8192x2048.Idx) (h0 : (i 0).val = (15 - t.val) * 512 + (y 0).val) (h1 : (i 1).val = (y 1).val) :
    (iblk m c 0 t : Vec Ideal S512x2048 .f32) y = (V m c main_arg0 : Vec Ideal S8192x2048 .f32) i := by
  obtain ⟨⟨e0, e1⟩, -⟩ := idx t
  blk_point [iblk, idx t]

theorem b_lg (t : Fin cfg0.N) (y : S2x512.Idx) (i : S2x512.Idx) (h0 : (i 0).val = (y 0).val) (h1 : (i 1).val = (y 1).val) :
    (iblk m c 1 t : Vec Ideal S2x512 .f32) y = (V m c main_arg1 : Vec Ideal S2x512 .f32) i := by
  obtain ⟨-, ⟨e0, e1⟩, -⟩ := idx t
  blk_point [iblk, idx t]

theorem b_gn (t : Fin cfg0.N) (y : S1x512.Idx) (i : S1x512.Idx) (h0 : (i 0).val = (y 0).val) (h1 : (i 1).val = (y 1).val) :
    (iblk m c 2 t : Vec Ideal S1x512 .f32) y = (V m c main_arg2 : Vec Ideal S1x512 .f32) i := by
  obtain ⟨-, -, ⟨e0, e1⟩, -⟩ := idx t
  blk_point [iblk, idx t]

theorem b_b (t : Fin cfg0.N) (y : S512x512.Idx) (i : S8192x512.Idx) (h0 : (i 0).val = (15 - t.val) * 512 + (y 0).val) (h1 : (i 1).val = (y 1).val) :
    (iblk m c 4 t : Vec Ideal S512x512 .f32) y = (V m c main_v53 : Vec Ideal S8192x512 .f32) i := by
  obtain ⟨-, -, -, -, ⟨e0, e1⟩, -⟩ := idx t
  blk_point [iblk, idx t]

theorem b_a (t : Fin cfg0.N) (y : S512x512.Idx) (i : S8192x512.Idx) (h0 : (i 0).val = (15 - t.val) * 512 + (y 0).val) (h1 : (i 1).val = (y 1).val) :
    (iblk m c 5 t : Vec Ideal S512x512 .bf16) y = (V m c main_v96 : Vec Ideal S8192x512 .bf16) i := by
  obtain ⟨-, -, -, -, -, ⟨e0, e1⟩, -⟩ := idx t
  blk_point [iblk, idx t]

theorem b_o (t : Fin cfg0.N) (y : S512x512.Idx) (i : S8192x512.Idx) (h0 : (i 0).val = (15 - t.val) * 512 + (y 0).val) (h1 : (i 1).val = (y 1).val) :
    (iblk m c 6 t : Vec Ideal S512x512 .f32) y = (V m c main_v73 : Vec Ideal S8192x512 .f32) i := by
  obtain ⟨-, -, -, -, -, -, ⟨e0, e1⟩, -⟩ := idx t
  blk_point [iblk, idx t]

theorem b_d (t : Fin cfg0.N) (y : S512x512.Idx) (i : S8192x512.Idx) (h0 : (i 0).val = (15 - t.val) * 512 + (y 0).val) (h1 : (i 1).val = (y 1).val) :
    (iblk m c 7 t : Vec Ideal S512x512 .f32) y = (V m c main_arg3 : Vec Ideal S8192x512 .f32) i := by
  obtain ⟨-, -, -, -, -, -, -, ⟨e0, e1⟩⟩ := idx t
  blk_point [iblk, idx t]

theorem b_st (t : Fin cfg0.N) (y : S4x4x128x128.Idx) (i : S64x4x128x128.Idx) (h0 : (i 0).val = (15 - t.val) * 4 + (y 0).val) (h1 : (i 1).val = (y 1).val)
    (h2 : (i 2).val = (y 2).val) (h3 : (i 3).val = (y 3).val) :
    (iblk m c 3 t : Vec Ideal S4x4x128x128 .f32) y = (V m c main_v121 : Vec Ideal S64x4x128x128 .f32) i := by
  obtain ⟨-, -, -, ⟨e0, e1, e2, e3⟩, -⟩ := idx t
  blk_point [iblk, idx t]

theorem row_lt (t : Fin cfg0.N) {p : ℕ} (hp : p < 512) : (15 - t.val) * 512 + p < 8192 := by omega

/-- What the grid's points read. -/
theorem Same.reads {A : Args} {m : (ℓ : Loc nD τ sig) → Buf (Elt Ideal) ℓ} {c : Dev nD} (h : A.Same m c) : A.Reads m c where
  b0 t := by
    funext y
    refine (b_u m c t y (ix2 ⟨_, row_lt t (y 0).isLt⟩ (y 1)) rfl rfl).trans ?_
    rw [V_main_arg0]
    refine (congrFun h.h0 _).trans ?_
    change ((A.u ((15 - t.val) * 512 + (y 0).val) (y 1).val : ℝ) : EReal) = ((A.u (512 * (15 - t.val) + (y 0).val) (y 1).val : ℝ) : EReal)
    rw [mul_comm]
  b1 t := by
    funext y
    refine (b_lg m c t y y rfl rfl).trans ?_
    rw [V_main_arg1]
    exact congrFun h.h1 _
  b2 t := by
    funext y
    refine (b_gn m c t y y rfl rfl).trans ?_
    rw [V_main_arg2]
    exact congrFun h.h2 _
  b3 t := by
    funext y
    have l0 : (y 0).val < 4 := (y 0).isLt
    refine (b_st m c t y (ix4 ⟨(15 - t.val) * 4 + (y 0).val, by omega⟩ (y 1) (y 2) (y 3)) rfl rfl rfl rfl).trans ?_
    refine (congrFun h.st _).trans ?_
    change ((Recur.st (A.head (y 1).val).g (A.head (y 1).val).k (A.head (y 1).val).hv (128 * ((15 - t.val) * 4 + (y 0).val)) (y 2).val (y 3).val : ℝ) : EReal)
      = ((Recur.st (A.head (y 1).val).g (A.head (y 1).val).k (A.head (y 1).val).hv (512 * (15 - t.val) + 128 * (y 0).val) (y 2).val (y 3).val : ℝ) : EReal)
    rw [show 128 * ((15 - t.val) * 4 + (y 0).val) = 512 * (15 - t.val) + 128 * (y 0).val by ring]
  b4 t := by
    funext y
    refine (b_b m c t y (ix2 ⟨_, row_lt t (y 0).isLt⟩ (y 1)) rfl rfl).trans ?_
    refine (congrFun h.b _).trans ?_
    change ((Recur.b (A.head ((y 1).val / 128)).g (128 * (((15 - t.val) * 512 + (y 0).val) / 128)) (((15 - t.val) * 512 + (y 0).val) % 128) ((y 1).val % 128) : ℝ) : EReal)
      = ((Recur.b (A.head ((y 1).val / 128)).g (512 * (15 - t.val) + 128 * ((y 0).val / 128)) ((y 0).val % 128) ((y 1).val % 128) : ℝ) : EReal)
    rw [show 128 * (((15 - t.val) * 512 + (y 0).val) / 128) = 512 * (15 - t.val) + 128 * ((y 0).val / 128) by omega,
      show ((15 - t.val) * 512 + (y 0).val) % 128 = (y 0).val % 128 by omega]
  b5 t := by
    funext y
    refine (b_a m c t y (ix2 ⟨_, row_lt t (y 0).isLt⟩ (y 1)) rfl rfl).trans ?_
    refine (congrFun h.a _).trans ?_
    change ((Recur.sc (A.head ((y 1).val / 128)).g (A.head ((y 1).val / 128)).q (A.head ((y 1).val / 128)).k ((15 - t.val) * 512 + (y 0).val)
        (128 * (((15 - t.val) * 512 + (y 0).val) / 128) + (y 1).val % 128) : ℝ) : EReal)
      = ((Recur.sc (A.head ((y 1).val / 128)).g (A.head ((y 1).val / 128)).q (A.head ((y 1).val / 128)).k (512 * (15 - t.val) + (y 0).val)
        (512 * (15 - t.val) + 128 * ((y 0).val / 128) + (y 1).val % 128) : ℝ) : EReal)
    rw [show 128 * (((15 - t.val) * 512 + (y 0).val) / 128) = 512 * (15 - t.val) + 128 * ((y 0).val / 128) by omega, mul_comm (15 - t.val)]
  b6 t := by
    funext y
    refine (b_o m c t y (ix2 ⟨_, row_lt t (y 0).isLt⟩ (y 1)) rfl rfl).trans ?_
    refine (congrFun h.o _).trans ?_
    change (((A.head ((y 1).val / 128)).o ((15 - t.val) * 512 + (y 0).val) ((y 1).val % 128) : ℝ) : EReal)
      = (((A.head ((y 1).val / 128)).o (512 * (15 - t.val) + (y 0).val) ((y 1).val % 128) : ℝ) : EReal)
    rw [mul_comm (15 - t.val)]
  b7 t := by
    funext y
    refine (b_d m c t y (ix2 ⟨_, row_lt t (y 0).isLt⟩ (y 1)) rfl rfl).trans ?_
    rw [V_main_arg3]
    refine (congrFun h.h3 _).trans ?_
    change ((A.dog ((15 - t.val) * 512 + (y 0).val) (y 1).val : ℝ) : EReal) = ((A.dog (512 * (15 - t.val) + (y 0).val) (y 1).val : ℝ) : EReal)
    rw [mul_comm]

end Cert.KernelIdeal.Chunk.Args

end
-- ==== Proof.Back.lean ====
/-
  The reference's backward pass, as numbers: the gradients of the recurrence, of the gates and of the norm.
-/
module

public import proofs.«01_k».proof.Proof.Fore

@[expose] public section

set_option maxRecDepth 16384

noncomputable section

namespace Cert.KernelIdeal.Chunk.Args

open Cert.KernelIdeal Idealize Idealize.ShloMosaic Finset
open Head (lgs eps)
open Cert.ReferenceIdeal.Read

variable (A : Args)

theorem w128 : Ideal.ofBits .f32 0x43000000#32 = ((128 : ℝ) : EReal) := by
  simp [Ideal.ofBits, Ideal.ieee, -EReal.coe_mul]; norm_num

/-- The mean square of a row of a head's output. -/
def msq (h t : ℕ) : ℝ := (∑ d ∈ range 128, (A.head h).o t d * (A.head h).o t d) / 128 + eps

theorem msq_pos (h t : ℕ) : 0 < A.msq h t := by
  have := Finset.sum_nonneg fun d (_ : d ∈ range 128) => mul_self_nonneg ((A.head h).o t d)
  have := Head.eps_spec.1
  unfold msq; positivity

theorem R_msq (h t : ℕ) : (A.head h).R t = (Real.sqrt (A.msq h t))⁻¹ := rfl
theorem R_sq (h t : ℕ) : (A.head h).R t * (A.head h).R t = (A.msq h t)⁻¹ := by
  rw [R_msq, ← mul_inv, Real.mul_self_sqrt (A.msq_pos h t).le]

theorem lane_div (c : ℕ) {p : ℕ} (h : p < 128) : (c * 128 + p) / 128 = c := by omega
theorem lane_mod (c : ℕ) {p : ℕ} (h : p < 128) : (c * 128 + p) % 128 = p := by omega

/-- The gradient of the output through the norm, in the two summands of a square's derivative. -/
theorem w_eq (h t x : ℕ) : (A.head h).dy t x * (A.head h).gn x * (A.head h).R t
      + (A.head h).o t x * ((∑ y ∈ range 128, (A.head h).o t y * ((A.head h).dy t y * (A.head h).gn y)) * (-(1 / 2) * ((A.head h).R t / A.msq h t)) / 128)
      + (∑ y ∈ range 128, (A.head h).o t y * ((A.head h).dy t y * (A.head h).gn y)) * (-(1 / 2) * ((A.head h).R t / A.msq h t)) / 128 * (A.head h).o t x
    = (A.head h).w t x := by
  have e : ∑ y ∈ range 128, (A.head h).dy t y * (A.head h).gn y * ((A.head h).o t y * (A.head h).R t)
      = (∑ y ∈ range 128, (A.head h).o t y * ((A.head h).dy t y * (A.head h).gn y)) * (A.head h).R t := by
    rw [Finset.sum_mul]
    exact Finset.sum_congr rfl fun y _ => by ring
  unfold Head.w
  rw [e, div_eq_mul_inv _ (A.msq h t), ← R_sq]
  ring

/-- A head's rows in the flat lanes. -/
theorem hq_lane (t c : ℕ) : (A.head (c / 128)).hq t (c % 128) = A.u t c := by
  change A.u t (128 * (c / 128) + c % 128) = _
  rw [Nat.div_add_mod]
theorem hf_lane (t c : ℕ) : (A.head (c / 128)).hf t (c % 128) = A.u t (512 + c) := by
  change A.u t (512 + 128 * (c / 128) + c % 128) = _
  rw [add_assoc, Nat.div_add_mod]
theorem hg_lane (t c : ℕ) : (A.head (c / 128)).hg t (c % 128) = A.u t (1536 + c) := by
  change A.u t (1536 + 128 * (c / 128) + c % 128) = _
  rw [add_assoc, Nat.div_add_mod]
theorem dog_lane (t c : ℕ) : (A.head (c / 128)).dog t (c % 128) = A.dog t c := by
  change A.dog t (128 * (c / 128) + c % 128) = _
  rw [Nat.div_add_mod]
theorem l_lane (c : ℕ) : (A.head (c / 128)).l (c % 128) = A.lb c := by
  change A.lb (128 * (c / 128) + c % 128) = _
  rw [Nat.div_add_mod]
theorem gn_lane (c : ℕ) : (A.head (c / 128)).gn (c % 128) = A.gn c := by
  change A.gn (128 * (c / 128) + c % 128) = _
  rw [Nat.div_add_mod]
theorem f_lane (t c : ℕ) : (A.head (c / 128)).f t (c % 128) = A.fl t c := by
  unfold Head.f fl
  rw [l_lane, hf_lane]

theorem v110 : val_main_v110 (F := Ideal) A.aU A.bLG = fun y => (((A.head (y 1).val).o (y 0).val (y 2).val : ℝ) : EReal) := by
  funext y
  pointwise [val_main_v110, A.v109]

theorem v117 : val_main_v117 (F := Ideal) A.aU A.bLG = fun y => ((A.msq (y 1).val (y 0).val : ℝ) : EReal) := by
  funext y
  pointwise [val_main_v117, val_main_v115, val_main_v113, val_main_v112, val_main_v111, A.v110, val_main_v114, val_main_v116, val_main_cst_21, val_main_cst_22, val_main_cst_20]
  simp only [← EReal.coe_mul]
  rw [fin_sum 128 fun d => (A.head (y 1).val).o (y 0).val d * (A.head (y 1).val).o (y 0).val d, w128, Num.div_coe (by norm_num), Head.eps_spec.2, ← EReal.coe_add]
  rfl

theorem v118 : val_main_v118 (F := Ideal) A.aU A.bLG = fun y => (((A.head (y 1).val).R (y 0).val : ℝ) : EReal) := by
  funext y
  pointwise [val_main_v118, A.v117]
  exact Num.rsqrt_coe (A.msq_pos _ _)

theorem v121 : val_main_v121 (F := Ideal) A.aU A.bLG = fun y => ((-(1 / 2) * ((A.head (y 1).val).R (y 0).val / A.msq (y 1).val (y 0).val) : ℝ) : EReal) := by
  funext y
  pointwise [val_main_v121, val_main_v120, val_main_v119, A.v118, A.v117, val_main_cst_23]
  rw [Num.div_coe (A.msq_pos _ _).ne', Num.word_neg_half, ← EReal.coe_mul]

theorem v124 : val_main_v124 (F := Ideal) A.aU A.bLG
    = fun y => (((A.head ((y 1).val / 128)).o (y 0).val ((y 1).val % 128) * (A.head ((y 1).val / 128)).R (y 0).val : ℝ) : EReal) := by
  funext y
  pointwise [val_main_v124, val_main_v123, val_main_v122, A.v110, A.v118]
  rw [← EReal.coe_mul]

theorem v127 : val_main_v127 (F := Ideal) A.bGN = fun y => ((A.gn (y 1).val : ℝ) : EReal) := by
  funext y
  pointwise [val_main_v127, val_main_v126, val_main_v125, bGN]

theorem v137 : val_main_v137 (F := Ideal) A.bGN = fun y => ((A.gn (y 1).val : ℝ) : EReal) := by
  funext y
  pointwise [val_main_v137, val_main_v126, val_main_v125, bGN]

theorem v129 : val_main_v129_2 (F := Ideal) A.aU = fun y => ((lgs (A.u (y 0).val (1536 + (y 1).val)) : ℝ) : EReal) := by
  funext y
  pointwise [val_main_v129_2, val_main_call6_v4, val_main_call6_v3, val_main_call6_v2, val_main_call6_v1, val_main_call6_v0, val_main_v32, val_main_call6_cst,
    val_main_call6_cst_0, aU]
  exact lgs_coe _

/-- The gradient of the normed output. -/
theorem v132 : val_main_v132 (F := Ideal) A.aU A.aD = fun y => (((A.head ((y 1).val / 128)).dy (y 0).val ((y 1).val % 128) : ℝ) : EReal) := by
  funext y
  pointwise [val_main_v132, val_main_v129_0, A.v129, val_main_v32, aU, aD]
  unfold Head.dy
  rw [dog_lane, hg_lane, ← EReal.coe_mul, ← EReal.coe_mul]

/-- The gradient of the output gate. -/
theorem v133 : val_main_v133 (F := Ideal) A.aU A.bLG A.bGN A.aD
    = fun y => (((A.head ((y 1).val / 128)).gG (y 0).val ((y 1).val % 128) : ℝ) : EReal) := by
  funext y
  pointwise [val_main_v133, val_main_call7_v0, val_main_call7_v1, val_main_call7_v2, val_main_v131, val_main_v128, A.v124, A.v127, val_main_v129_1, val_main_call6_v7,
    val_main_call6_v6, val_main_call6_cst_1, A.v129, val_main_v32, aU, aD]
  unfold Head.gG
  rw [dog_lane, hg_lane, gn_lane, coe_one]
  simp only [← EReal.coe_sub, ← EReal.coe_mul, ← EReal.coe_add]
  exact congrArg Real.toEReal (by ring)

/-- The gradient of the norm's weight. -/
theorem v140 : val_main_v140 (F := Ideal) A.aU A.bLG A.aD = nBlk A.head 8192 0 := by
  funext y
  pointwise [val_main_v140, val_main_v139, val_main_v136, val_main_v135, val_main_v134, A.v124, A.v132, val_main_cst_24, val_main_cst_25]
  rw [Fin.sum_univ_one]
  simp only [← EReal.coe_mul]
  refine (fin_sum 8192 fun t => (A.head ((y 1).val / 128)).o t ((y 1).val % 128) * (A.head ((y 1).val / 128)).R t
    * (A.head ((y 1).val / 128)).dy t ((y 1).val % 128)).trans ?_
  refine congrArg Real.toEReal (Finset.sum_congr rfl fun t _ => ?_)
  unfold Head.tN
  rw [zero_add, mul_comm]

/-- The gradient of the output. -/
theorem v155 : val_main_v155 (F := Ideal) A.aU A.bLG A.bGN A.aD = fun y => (((A.head (y 1).val).w (y 0).val (y 2).val : ℝ) : EReal) := by
  funext y
  pointwise [val_main_v155, val_main_v154, val_main_v153, val_main_v152, val_main_v151, val_main_v150, val_main_v149, val_main_v148, val_main_v147, val_main_v146,
    val_main_v145, val_main_v144, val_main_v143, val_main_v142, val_main_v141, val_main_v138, A.v110, A.v118, A.v121, A.v132, A.v137, val_main_cst_26, val_main_cst_27, val_main_cst_28]
  have l2 : (y 2).val < 128 := (y 2).isLt
  have h1 : ∀ x : Fin 128, ((A.head (((y 1).val * 128 + x.val) / 128)).dy (y 0).val (((y 1).val * 128 + x.val) % 128) : ℝ) = (A.head (y 1).val).dy (y 0).val x.val :=
    fun x => by rw [lane_div _ x.isLt, lane_mod _ x.isLt]
  have h2 : ∀ d : ℕ, A.gn ((y 1).val * 128 + d) = (A.head (y 1).val).gn d := fun d => by rw [mul_comm]; rfl
  simp only [h1, h2, ← EReal.coe_mul, lane_div _ l2, lane_mod _ l2, Fin.sum_univ_one]
  rw [fin_sum 128 fun x => (A.head (y 1).val).o (y 0).val x * ((A.head (y 1).val).dy (y 0).val x * (A.head (y 1).val).gn x), w128]
  rw [← EReal.coe_mul, Num.div_coe (by norm_num)]
  simp only [← EReal.coe_mul, ← EReal.coe_add]
  refine congrArg Real.toEReal ?_
  exact A.w_eq _ _ _

theorem v156 : val_main_v156 (F := Ideal) A.aU A.bLG A.bGN A.aD = fun y => (((A.head (y 0).val).w (y 1).val (y 2).val : ℝ) : EReal) := by
  funext y
  pointwise [val_main_v156, A.v155]

/-- The gradient of the values. -/
theorem v158 : val_main_v158 (F := Ideal) A.aU A.bLG A.bGN A.aD = fun y => (((A.head (y 0).val).gV 8192 (y 1).val (y 2).val : ℝ) : EReal) := by
  funext y
  pointwise [val_main_v158, val_main_v157, A.v156, A.v108]
  refine (fin_dot 8192 (fun t => (A.head (y 0).val).w t (y 2).val) fun t => Recur.sc (A.head (y 0).val).g (A.head (y 0).val).q (A.head (y 0).val).k t (y 1).val).trans ?_
  exact congrArg Real.toEReal (Finset.sum_congr rfl fun t _ => mul_comm _ _)

/-- The gradient of the scores. -/
theorem v159 : val_main_v159 (F := Ideal) A.aU A.bLG A.bGN A.aD
    = fun y => ((Recur.ds (A.head (y 0).val).hv (A.head (y 0).val).w (y 1).val (y 2).val : ℝ) : EReal) := by
  funext y
  pointwise [val_main_v159, A.v156, A.v90]
  exact fin_dot 128 (fun x => (A.head (y 0).val).w (y 1).val x) fun x => (A.head (y 0).val).hv (y 2).val x

theorem v171 : val_main_v171 (F := Ideal) A.aU A.bLG A.bGN A.aD
    = fun y => ((Recur.dk 8192 (A.head (y 0).val).g (A.head (y 0).val).q (A.head (y 0).val).hv (A.head (y 0).val).w (y 1).val (y 2).val : ℝ) : EReal) := by
  funext y
  pointwise [val_main_v171, val_main_v166, val_main_v165, val_main_v164, val_main_v163, val_main_v162, val_main_v160, val_main_v102, A.v159, A.v101, A.v84, val_main_cst_29, val_main_cst_31]
  rw [Fin.sum_univ_one]
  simp only [← EReal.coe_mul]
  refine (fin_sum 8192 fun t => (A.head (y 0).val).q t (y 2).val * (Recur.ds (A.head (y 0).val).hv (A.head (y 0).val).w t (y 1).val * Recur.E (A.head (y 0).val).g t (y 1).val (y 2).val)).trans ?_
  exact congrArg Real.toEReal (Finset.sum_congr rfl fun t _ => by ring)

theorem v172 : val_main_v172 (F := Ideal) A.aU A.bLG A.bGN A.aD
    = fun y => ((Recur.dq 8192 (A.head (y 0).val).g (A.head (y 0).val).k (A.head (y 0).val).hv (A.head (y 0).val).w (y 1).val (y 2).val : ℝ) : EReal) := by
  funext y
  pointwise [val_main_v172, val_main_v170, val_main_v169, val_main_v168, val_main_v167, val_main_v162, val_main_v160, val_main_v103, A.v159, A.v101, A.v88, val_main_cst_30, val_main_cst_32]
  rw [Fin.sum_univ_one]
  simp only [← EReal.coe_mul]
  refine (fin_sum 8192 fun t => Recur.ds (A.head (y 0).val).hv (A.head (y 0).val).w (y 1).val t * Recur.E (A.head (y 0).val).g (y 1).val t (y 2).val * (A.head (y 0).val).k t (y 2).val).trans ?_
  exact congrArg Real.toEReal (Finset.sum_congr rfl fun t _ => by ring)

theorem v174 : val_main_v174 (F := Ideal) A.aU A.bLG A.bGN A.aD
    = fun y => ((Recur.dd (A.head (y 0).val).g (A.head (y 0).val).q (A.head (y 0).val).k (A.head (y 0).val).hv (A.head (y 0).val).w (y 1).val (y 2).val (y 3).val : ℝ) : EReal) := by
  funext y
  pointwise [val_main_v174, val_main_v173, val_main_v161, val_main_v160, val_main_v106, val_main_v105, val_main_v104, val_main_v103, val_main_v102, A.v159, A.v101, A.v84, A.v88,
    val_main_call8_v0, val_main_call8_cst,
    val_main_v100_1, val_main_call5_v2, val_main_call5_v0, val_main_cst_18, val_main_v99, val_main_v98, val_main_v97,
    val_main_v96, val_main_v95, val_main_v94, val_main_v93, val_main_call4_v4, val_main_call4_v5, val_main_call4_v2, val_main_call4_v0, val_main_call4_v1,
    val_main_call4_c, val_main_call4_v3, val_main_call4_c_0, val_main_v92, val_main_c]
  rw [mask_ge _ _ (lt_trans (y 1).isLt (by decide)) (lt_trans (y 2).isLt (by decide))]
  unfold Recur.dd
  by_cases h : (y 2).val ≤ (y 1).val
  · rw [if_pos h, ValueIdx.select_one, ← EReal.coe_mul, ← EReal.coe_mul, ← EReal.coe_mul]
    exact congrArg Real.toEReal (by ring)
  · rw [if_neg h, ValueIdx.select_zero, Recur.E_of_lt (by omega), mul_zero]; rfl

theorem v182 : val_main_v182 (F := Ideal) A.aU A.bLG A.bGN A.aD
    = fun y => ((Recur.dB 8192 (A.head (y 0).val).g (A.head (y 0).val).q (A.head (y 0).val).k (A.head (y 0).val).hv (A.head (y 0).val).w (y 1).val (y 2).val : ℝ) : EReal) := by
  funext y
  pointwise [val_main_v182, val_main_v181, val_main_v180, val_main_v179, val_main_v178, val_main_v177, val_main_v176, val_main_v175, A.v174, val_main_cst_33, val_main_cst_34,
    val_main_cst_35, val_main_cst_36]
  rw [Fin.sum_univ_one, Fin.sum_univ_one]
  simp only [← EReal.coe_neg]
  rw [fin_sum 8192 fun t => -Recur.dd (A.head (y 0).val).g (A.head (y 0).val).q (A.head (y 0).val).k (A.head (y 0).val).hv (A.head (y 0).val).w t (y 1).val (y 2).val, fin_sum 8192 fun t => Recur.dd (A.head (y 0).val).g (A.head (y 0).val).q (A.head (y 0).val).k (A.head (y 0).val).hv (A.head (y 0).val).w (y 1).val t (y 2).val,
    ← EReal.coe_add, Finset.sum_neg_distrib, neg_add_eq_sub]
  rfl

theorem v183 : val_main_v183 (F := Ideal) A.aU A.bLG A.bGN A.aD
    = fun y => ((Recur.dg 8192 (A.head (y 0).val).g (A.head (y 0).val).q (A.head (y 0).val).k (A.head (y 0).val).hv (A.head (y 0).val).w (y 1).val (y 2).val : ℝ) : EReal) := by
  funext y
  unfold val_main_v183
  rw [A.v182]
  refine (Win.hmid (fun h t d => Recur.dB 8192 (A.head h).g (A.head h).q (A.head h).k (A.head h).hv (A.head h).w t d) _ (fun i => ?_) _ _ _).trans (congrArg Real.toEReal ?_)
  · pointwise [val_main_call9_call0_v0, val_main_call9_call0_cst]
  · exact Win.back 8192 (y 1).val fun i => Recur.dB 8192 (A.head (y 0).val).g (A.head (y 0).val).q (A.head (y 0).val).k (A.head (y 0).val).hv (A.head (y 0).val).w i (y 2).val

theorem v185 : val_main_v185 (F := Ideal) A.aU A.bLG A.bGN A.aD = fun y => (((A.head ((y 1).val / 128)).gV 8192 (y 0).val ((y 1).val % 128) : ℝ) : EReal) := by
  funext y
  pointwise [val_main_v185, val_main_v184, A.v158]
theorem v187 : val_main_v187 (F := Ideal) A.aU A.bLG A.bGN A.aD
    = fun y => ((Recur.dk 8192 (A.head ((y 1).val / 128)).g (A.head ((y 1).val / 128)).q (A.head ((y 1).val / 128)).hv (A.head ((y 1).val / 128)).w (y 0).val ((y 1).val % 128) : ℝ) : EReal) := by
  funext y
  pointwise [val_main_v187, val_main_v186, A.v171]
theorem v189 : val_main_v189 (F := Ideal) A.aU A.bLG A.bGN A.aD
    = fun y => ((Recur.dg 8192 (A.head ((y 1).val / 128)).g (A.head ((y 1).val / 128)).q (A.head ((y 1).val / 128)).k (A.head ((y 1).val / 128)).hv (A.head ((y 1).val / 128)).w (y 0).val ((y 1).val % 128) : ℝ) : EReal) := by
  funext y
  pointwise [val_main_v189, val_main_v188, A.v183]
theorem v191 : val_main_v191 (F := Ideal) A.aU A.bLG A.bGN A.aD
    = fun y => ((Recur.dq 8192 (A.head ((y 1).val / 128)).g (A.head ((y 1).val / 128)).k (A.head ((y 1).val / 128)).hv (A.head ((y 1).val / 128)).w (y 0).val ((y 1).val % 128) : ℝ) : EReal) := by
  funext y
  pointwise [val_main_v191, val_main_v190, A.v172]

/-- The gradient of the query's projection. -/
theorem v192 : val_main_v192 (F := Ideal) A.aU A.bLG A.bGN A.aD = fun y => (((A.head ((y 1).val / 128)).gQ 8192 (y 0).val ((y 1).val % 128) : ℝ) : EReal) := by
  funext y
  pointwise [val_main_v192, val_main_call10_v0, val_main_call10_v1, val_main_call10_v2, val_main_v29, A.v191, A.v82, val_main_v82_1, val_main_call2_v7, val_main_call2_v6,
    val_main_call2_cst_1, aU]
  unfold Head.gQ
  rw [hq_lane, coe_one]
  simp only [← EReal.coe_sub, ← EReal.coe_mul, ← EReal.coe_add]
  exact congrArg Real.toEReal (by ring)

/-- The gradient of the gate's logarithm. -/
theorem v195 : val_main_v195 (F := Ideal) A.aU A.bLG A.bGN A.aD
    = fun y => (((A.head ((y 1).val / 128)).df 8192 (y 0).val ((y 1).val % 128) * A.fl (y 0).val (y 1).val : ℝ) : EReal) := by
  funext y
  pointwise [val_main_v195, val_main_v194, val_main_v193, A.v187, A.v189, val_main_v80, A.v57]
  unfold Head.df gl
  rw [f_lane, Ideal.exp_coe, Real.exp_log (A.fl_pos _ _)]
  simp only [← EReal.coe_neg, ← EReal.coe_mul, ← EReal.coe_add]
  have := (A.fl_pos (y 0).val (y 1).val).ne'
  exact congrArg Real.toEReal (by field_simp; ring)

/-- The other summand's share of the gate. -/
theorem v78 : val_main_v78 (F := Ideal) A.aU A.bLG
    = fun y => (((1 - A.lb (y 1).val) * lgs (A.u (y 0).val (512 + (y 1).val)) / A.fl (y 0).val (y 1).val : ℝ) : EReal) := by
  funext y
  pointwise [val_main_v78, val_main_v77, val_main_v76, val_main_v75, val_main_v74, val_main_v73, val_main_v72, val_main_v71, val_main_v70, val_main_v69, A.v43, A.v57,
    val_main_cst_14, val_main_cst_15, val_main_cst_16, val_main_cst_17]
  have := A.lb_lt (y 1).val
  rw [pinf, if_neg (EReal.coe_ne_top _), if_neg (EReal.coe_ne_top _), ← EReal.coe_sub, Ideal.exp_coe, Real.exp_sub]
  unfold gl
  rw [Real.exp_log (A.fl_pos _ _), Real.exp_log (mul_pos (by linarith) (Head.lgs_pos _))]

/-- The lower bound's share of the gate. -/
theorem v68 : val_main_v68 (F := Ideal) A.aU A.bLG = fun y => ((A.lb (y 1).val / A.fl (y 0).val (y 1).val : ℝ) : EReal) := by
  funext y
  pointwise [val_main_v68, val_main_v67, val_main_v66, val_main_v65, val_main_v64, val_main_v63, val_main_v62, val_main_v61, val_main_v60, val_main_v59, val_main_v58,
    val_main_v44, A.v35, A.v57, val_main_cst_10, val_main_cst_11, val_main_cst_12, val_main_cst_13]
  rw [pinf, if_neg (EReal.coe_ne_top _), if_neg (EReal.coe_ne_top _), ← EReal.coe_sub, Ideal.exp_coe, Real.exp_sub]
  unfold gl
  rw [Real.exp_log (A.fl_pos _ _), Real.exp_log (A.lb_pos _)]

theorem v401 : val_main_v40_1 (F := Ideal) A.aU = fun y => ((1 - lgs (A.u (y 0).val (512 + (y 1).val)) : ℝ) : EReal) := by
  funext y
  have e := congrFun A.v40 y
  pointwise [val_main_v40_0] at e
  pointwise [val_main_v40_1, val_main_call1_call0_v21, val_main_call1_call0_v20, val_main_call1_call0_v19, val_main_call1_call0_v18, val_main_call1_call0_v17, val_main_call1_call0_v16,
    val_main_call1_call0_v15, val_main_call1_call0_v14, val_main_call1_call0_v13, val_main_call1_v0, val_main_v30, aU, val_main_call1_call0_cst_0, val_main_call1_call0_cst_1,
    val_main_call1_call0_cst_2, val_main_call1_call0_cst_3]
  have e' : val_main_call1_v1_0 (F := Ideal) A.aU y = ((-Real.log (lgs (A.u (y 0).val (512 + (y 1).val))) : ℝ) : EReal) := by
    rw [EReal.coe_neg, ← e, neg_neg]
  rw [e']
  generalize A.u (y 0).val (512 + (y 1).val) = x
  rw [← EReal.coe_neg x, pinf, if_neg (EReal.coe_ne_top _), if_neg (EReal.coe_ne_top _), ← EReal.coe_sub, Ideal.exp_coe, sub_neg_eq_add, Real.exp_add,
    Real.exp_log (Head.lgs_pos _)]
  refine congrArg Real.toEReal ?_
  have := Real.exp_pos (-x)
  unfold lgs
  rw [zero_sub]
  field_simp
  ring

/-- The gradient of the forget gate's projection. -/
theorem v204 : val_main_v204 (F := Ideal) A.aU A.bLG A.bGN A.aD = fun y => (((A.head ((y 1).val / 128)).gF 8192 (y 0).val ((y 1).val % 128) : ℝ) : EReal) := by
  funext y
  pointwise [val_main_v204, val_main_call11_v1, val_main_call11_v0, val_main_v196, A.v195, A.v78, A.v401]
  unfold Head.gF
  rw [l_lane, hf_lane]
  simp only [← EReal.coe_neg, ← EReal.coe_mul]
  have := (A.fl_pos (y 0).val (y 1).val).ne'
  exact congrArg Real.toEReal (by field_simp)

/-- The gradient of the lower bound. -/
def D (c : ℕ) : ℝ := ∑ t ∈ range 8192, (A.head (c / 128)).tL 8192 t (c % 128)

theorem v200 : val_main_v200 (F := Ideal) A.aU A.bLG A.bGN A.aD
    = fun y => ((A.lb (y 0).val * ∑ t ∈ range 8192, (A.head ((y 0).val / 128)).df 8192 t ((y 0).val % 128) : ℝ) : EReal) := by
  funext y
  pointwise [val_main_v200, val_main_v199, val_main_v198, val_main_v197, A.v195, A.v68, val_main_cst_37, val_main_cst_38]
  rw [Fin.sum_univ_one]
  simp only [← EReal.coe_mul]
  refine (fin_sum 8192 fun t => (A.head ((y 0).val / 128)).df 8192 t ((y 0).val % 128) * A.fl t (y 0).val * (A.lb (y 0).val / A.fl t (y 0).val)).trans ?_
  rw [Finset.mul_sum]
  refine congrArg Real.toEReal (Finset.sum_congr rfl fun t _ => ?_)
  have := (A.fl_pos t (y 0).val).ne'
  field_simp

theorem v203 : val_main_v203 (F := Ideal) A.aU A.bLG A.bGN A.aD
    = fun y => (((1 - A.lb (y 0).val) * ∑ t ∈ range 8192, lgs (A.u t (512 + (y 0).val)) * (A.head ((y 0).val / 128)).df 8192 t ((y 0).val % 128) : ℝ) : EReal) := by
  funext y
  pointwise [val_main_v203, val_main_v202, val_main_v201, val_main_v196, A.v195, A.v78, val_main_cst_39, val_main_cst_40]
  rw [Fin.sum_univ_one]
  simp only [← EReal.coe_mul]
  refine (fin_sum 8192 fun t => (A.head ((y 0).val / 128)).df 8192 t ((y 0).val % 128) * A.fl t (y 0).val * ((1 - A.lb (y 0).val) * lgs (A.u t (512 + (y 0).val)) / A.fl t (y 0).val)).trans ?_
  rw [Finset.mul_sum]
  refine congrArg Real.toEReal (Finset.sum_congr rfl fun t _ => ?_)
  have := (A.fl_pos t (y 0).val).ne'
  field_simp

theorem v208 : val_main_v208 (F := Ideal) A.aU A.bLG A.bGN A.aD = fun y => ((A.D (y 0).val : ℝ) : EReal) := by
  funext y
  pointwise [val_main_v208, val_main_v207, val_main_v206, val_main_v205, A.v200, A.v203, A.v34, val_main_v39, val_main_v38, val_main_v36, val_main_cst_9]
  have h0 := A.lb_pos (y 0).val
  have h1 : 1 - A.lb (y 0).val ≠ 0 := by have := A.lb_lt (y 0).val; linarith
  have h2 : -A.lb (y 0).val + 1 = 1 - A.lb (y 0).val := by ring
  rw [coe_one, ← EReal.coe_neg, ← EReal.coe_add, h2, Num.div_coe h1, Num.div_coe h0.ne', ← EReal.coe_neg, ← EReal.coe_add]
  refine congrArg Real.toEReal ?_
  rw [mul_div_cancel_left₀ _ h1, mul_div_cancel_left₀ _ h0.ne', neg_add_eq_sub, ← Finset.sum_sub_distrib]
  unfold D Head.tL
  refine Finset.sum_congr rfl fun t _ => ?_
  rw [hf_lane]; ring

/-- The gradient of the two shares. -/
theorem v210 : val_main_v210 (F := Ideal) A.aU A.bLG A.bGN A.aD = fun y => (((if (y 0).val = 0 then A.D (y 1).val else 0) : ℝ) : EReal) := by
  funext y
  pointwise [val_main_v210, val_main_v209, A.v208, val_main_cst_41]
  by_cases h : (y 0).val < 1
  · rw [dif_pos h, if_pos (by omega)]
  · rw [dif_neg h, if_neg (by omega)]; rfl

theorem v212 : val_main_v212 (F := Ideal) A.aU A.bLG A.bGN A.aD = fun y => (((if (y 0).val = 0 then A.D (y 1).val else 0) : ℝ) : EReal) := by
  funext y
  unfold val_main_v212
  rw [A.v210]
  refine (Win.htop (fun r c => if r = 0 then A.D c else 0) _ (fun i => ?_) _ _ _).trans (congrArg Real.toEReal ?_)
  · pointwise [val_main_call12_call0_v0, val_main_call12_call0_cst]
  · refine (Win.back 2 (y 0).val fun r => if r = 0 then A.D (y 1).val else 0).trans ?_
    by_cases h : (y 0).val = 0
    · rw [h, if_pos rfl, Finset.sum_ite_eq' (Ico 0 2) 0, if_pos (Finset.mem_Ico.2 ⟨le_refl 0, by decide⟩)]
    · rw [if_neg h]
      exact Finset.sum_eq_zero fun i hi => if_neg (by have := (Finset.mem_Ico.1 hi).1; omega)

theorem v27 : val_main_v27 (F := Ideal) A.bLG = fun y => ((1 / (A.sm (y 1).val * A.sm (y 1).val) : ℝ) : EReal) := by
  funext y
  pointwise [val_main_v27, val_main_v26, val_main_v25, A.v22, val_main_cst_8]
  rw [coe_one, ← EReal.coe_mul, Num.div_coe (mul_pos (A.sm_pos _) (A.sm_pos _)).ne']

/-- The gradient of the logits. -/
theorem v224 : val_main_v224 (F := Ideal) A.aU A.bLG A.bGN A.aD = lBlk A.head 8192 0 := by
  funext y
  pointwise [val_main_v224, val_main_v223, val_main_v222, val_main_v221, val_main_v220, val_main_v219, val_main_v218, val_main_v217, val_main_v216, val_main_v215, val_main_v214,
    val_main_v213, A.v212, A.v27, A.v20, A.v22, val_main_cst_42, val_main_cst_43]
  have hs := A.sm_pos (y 1).val
  have hD : SL 8192 (A.head ((y 1).val / 128)) 0 ((y 1).val % 128) = A.D (y 1).val * (A.lb (y 1).val * (1 - A.lb (y 1).val)) := by
    unfold SL D
    rw [l_lane, Nat.sub_zero]
    simp only [zero_add]
  have h1 : A.ex 1 (y 1).val = A.sm (y 1).val - A.ex 0 (y 1).val := by unfold sm; ring
  rw [Fin.sum_univ_one]
  simp only [← EReal.coe_mul]
  rw [fin_sum 2 fun x => (if x = 0 then A.D (y 1).val else 0) * (1 / (A.sm (y 1).val * A.sm (y 1).val)) * A.ex x (y 1).val, Finset.sum_range_succ, Finset.sum_range_one,
    if_pos rfl, if_neg one_ne_zero, Num.div_coe hs.ne', ← EReal.coe_neg, ← EReal.coe_add, ← EReal.coe_mul]
  unfold lBlk
  rw [hD, ← A.soft]
  refine congrArg Real.toEReal ?_
  have l0 : (y 0).val < 2 := (y 0).isLt
  by_cases h : (y 0).val = 0
  · rw [if_pos h, if_pos h, h]
    field_simp
    ring
  · rw [if_neg h, if_neg h, show (y 0).val = 1 by omega, h1]
    field_simp
    ring

/-- The gradient of the projections. -/
theorem v225 : val_main_v225 (F := Ideal) A.aU A.bLG A.bGN A.aD = fun y => ((uAt A.head 8192 (y 0).val (y 1).val : ℝ) : EReal) := by
  funext y
  pointwise [val_main_v225, val_main_v211, A.v192, A.v204, A.v185, A.v133]
  have l1 : (y 1).val < 2048 := (y 1).isLt
  generalize (y 1).val = c at l1
  unfold uAt
  by_cases h0 : c < 512
  · rw [dif_pos h0, show c / 512 = 0 by omega, show c / 128 % 4 = c / 128 by omega]; rfl
  rw [dif_neg h0]
  by_cases h1 : c - 512 < 512
  · rw [dif_pos h1, show c / 512 = 1 by omega, show (c - 512) / 128 = c / 128 % 4 by omega, show (c - 512) % 128 = c % 128 by omega]; rfl
  rw [dif_neg h1]
  by_cases h2 : c - 512 - 512 < 512
  · rw [dif_pos h2, show c / 512 = 2 by omega, show (c - 512 - 512) / 128 = c / 128 % 4 by omega, show (c - 512 - 512) % 128 = c % 128 by omega]; rfl
  rw [dif_neg h2, show c / 512 = 3 by omega, show (c - 512 - 512 - 512) / 128 = c / 128 % 4 by omega, show (c - 512 - 512 - 512) % 128 = c % 128 by omega]; rfl

end Cert.KernelIdeal.Chunk.Args

end
-- ==== Proof.Hgrn.lean ====
/-
  The gated recurrence's backward pass: from the arguments to numbers, from the grid's blocks to the arrays, and the agreement with the reference.
-/
module

public import proofs.«01_k».proof.Defs
public import proofs.«01_k».proof.Proof.Fold
public import proofs.«01_k».proof.Proof.Real
public import proofs.«01_k».proof.Pre_tame
public import proofs.«01_k».proof.Proof.Gen.Pre_tame
public import proofs.«01_k».proof.Proof.Gen.KernelIdeal.Value
public import proofs.«01_k».proof.Proof.Gen.ReferenceIdeal.Run
public import proofs.«01_k».proof.Proof.Gen.ReferenceIdeal.Read
public import proofs.«01_k».proof.Proof.Grid
public import proofs.«01_k».proof.Proof.Host
public import proofs.«01_k».proof.Proof.Back

@[expose] public section

set_option maxRecDepth 16384

noncomputable section

namespace Cert.KernelIdeal.Chunk

open Cert.KernelIdeal Cert.KernelIdeal.Gen Idealize Idealize.ShloMosaic Idealize.ShloMosaic.TcCoe Idealize.SL.Sem Finset
open Head (lgs)

/-- What a bound by two says of a value: a number, of size at most two. -/
theorem of_two (x : Ideal .f32)
    (h : FloatOps.cmpf .ole (FloatOps.hostAbsf x) (FloatOps.ofBits (F := Ideal) .f32 0x40000000#32) = 1#1) : ∃ r : ℝ, x = (r : EReal) ∧ |r| ≤ 2 := by
  change Ideal.cmp .ole (max (x : EReal) (-(x : EReal))) (Ideal.ofBits .f32 0x40000000#32) = 1#1 at h
  rw [Num.word_two] at h
  induction x using EReal.rec with
  | bot => simp [Ideal.cmp] at h
  | top => simp [Ideal.cmp] at h
  | coe r =>
    refine ⟨r, rfl, ?_⟩
    have h' : max (r : EReal) (-(r : EReal)) ≤ ((2 : ℝ) : EReal) := by
      by_contra hc
      simp [Ideal.cmp, hc] at h
    have h1 := EReal.coe_le_coe_iff.1 ((le_max_left _ _).trans h')
    have h2 : ((-r : ℝ) : EReal) ≤ ((2 : ℝ) : EReal) := (le_max_right _ _).trans h'
    exact abs_le.2 ⟨by linarith [EReal.coe_le_coe_iff.1 h2], h1⟩

/-- A two-axis array's entries as numbers, and nothing outside it. -/
def entry {n k : ℕ} (X : FVec Ideal ⟨2, ![n, k]⟩ .f32) (t c : ℕ) : ℝ :=
  if h : t < n ∧ c < k then (X (ix2 ⟨t, h.1⟩ ⟨c, h.2⟩) : EReal).toReal else 0

theorem entry_eq {n k : ℕ} (X : FVec Ideal ⟨2, ![n, k]⟩ .f32) (hX : ∀ i, Num.IsR (X i)) :
    X = fun y => ((entry X (y 0).val (y 1).val : ℝ) : EReal) := by
  funext y
  obtain ⟨r, hr⟩ := hX y
  have e : ix2 ⟨(y 0).val, (y 0).isLt⟩ ⟨(y 1).val, (y 1).isLt⟩ = y := by
    funext a; fin_cases a <;> rfl
  unfold entry
  rw [dif_pos ⟨(y 0).isLt, (y 1).isLt⟩]
  refine hr.trans ?_
  refine congrArg Real.toEReal ?_
  refine Eq.trans ?_ (congrArg (fun i => (X i : EReal).toReal) e.symm)
  change r = (X y : EReal).toReal
  rw [hr]; rfl

theorem entry_le {n k : ℕ} (X : FVec Ideal ⟨2, ![n, k]⟩ .f32) (hX : ∀ i, ∃ r : ℝ, X i = (r : EReal) ∧ |r| ≤ 2) (t c : ℕ) : |entry X t c| ≤ 2 := by
  unfold entry
  split
  · obtain ⟨r, hr, hb⟩ := hX _
    rw [hr]; exact hb
  · simp

/-- A lower bound of a lane whose logits are small is at least the exponential of minus five. -/
theorem lgs_ge (x : ℝ) (h : -4 ≤ x) : Real.exp (-5) ≤ lgs x := by
  have e1 : (2 : ℝ) ≤ Real.exp 1 := by linarith [Real.add_one_le_exp (1 : ℝ)]
  have e4 : (1 : ℝ) ≤ Real.exp 4 := Real.one_le_exp (by norm_num)
  have e5 : Real.exp 5 = Real.exp 4 * Real.exp 1 := by rw [← Real.exp_add]; norm_num
  have h1 : 1 + Real.exp (0 - x) ≤ Real.exp 5 := by
    have : Real.exp (0 - x) ≤ Real.exp 4 := Real.exp_le_exp.2 (by linarith)
    nlinarith
  unfold lgs
  rw [Real.exp_neg, ← one_div]
  exact one_div_le_one_div_of_le (by positivity) h1

namespace Args

variable (A : Args)

/-- With logits of size at most two, every head's gates are as the chunks need them. -/
theorem ok (hl : ∀ r c, |A.lg r c| ≤ 2) (h : ℕ) : Ok (A.head h) := by
  have f1 : ∀ t c, A.fl t c ≤ 1 := fun t c => by
    have a := A.lb_lt c
    have b := mul_le_mul_of_nonneg_left (Head.lgs_lt (A.u t (512 + c))).le (sub_pos.2 a).le
    unfold fl; linarith
  have f5 : ∀ t c, Real.exp (-5) ≤ A.fl t c := fun t c => by
    have a := A.lb_lt c
    have b := mul_pos (sub_pos.2 a) (Head.lgs_pos (A.u t (512 + c)))
    have d : Real.exp (-5) ≤ A.lb c := lgs_ge _ (by linarith [abs_le.1 (hl 0 c), abs_le.1 (hl 1 c), (abs_le.1 (hl 0 c)).1, (abs_le.1 (hl 1 c)).2])
    unfold fl; linarith
  refine ⟨fun t d => ?_, fun t d => ?_, fun d => ⟨A.lb_pos _, A.lb_lt _⟩⟩
  · rw [← A.gl_head h t d]
    exact Real.log_nonpos (A.fl_pos _ _).le (f1 _ _)
  · rw [← A.gl_head h t d]
    exact (Real.le_log_iff_exp_le (A.fl_pos _ _)).2 (f5 _ _)

section

variable {A} {m : (ℓ : Loc nD τ sig) → Buf (Elt Ideal) ℓ} {c : Dev nD}

theorem idx' : ∀ t : Fin cfg0.N, (win0_8.index t (0 : Fin 2) = 15 - t.val ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0) :=
  (by decide +kernel : ∀ t : Fin grid0.N, _)

theorem last (t : Fin cfg0.N) (h : t.val % 16 = 15) : base t.val = 0 := by
  have l : t.val < 16 := t.isLt.trans_eq N_0
  unfold base; omega

theorem r8 (hok : ∀ h, Ok (A.head h)) (hs : A.Same m c) :
    (dats m 0 c).arrAt 8 cfg0.N = (fun y => ((uAt A.head 8192 (y 0).val (y 1).val : ℝ) : EReal) : FVec Ideal S8192x2048 .bf16) := by
  refine (dats m 0 c).arrAt_eq_of_covers 8 _ (by decide +kernel) fun t hf y => ?_
  obtain ⟨e0, e1⟩ := (idx' t).1
  blk_simp
  rw [after0_8, outs A m c hok hs.reads t.val t.isLt]
  refine congrArg Real.toEReal (congrArg₂ (uAt A.head 8192) ?_ ?_)
  · change base t.val + (y 0).val = win0_8.index t (0 : Fin 2) * 512 + (y 0).val
    rw [e0]; unfold base; omega
  · refine Eq.symm ?_
    blk_simp [e1]

theorem r9 (hok : ∀ h, Ok (A.head h)) (hs : A.Same m c) :
    (dats m 0 c).arrAt 9 cfg0.N = lBlk A.head 8192 0 := by
  refine (dats m 0 c).arrAt_eq_of_covers 9 _ (by decide +kernel) fun t hf y => ?_
  obtain ⟨e0, e1⟩ := (idx' t).2.1
  have hl := last t ((flush0_9 t).1 hf)
  blk_simp
  rw [after0_9, outs A m c hok hs.reads t.val t.isLt, hl]
  refine congrArg (lBlk A.head 8192 0) (funext fun a => Fin.ext ?_)
  fin_cases a
  · refine Eq.symm ?_
    blk_simp [e0]
  · refine Eq.symm ?_
    blk_simp [e1]

theorem r10 (hok : ∀ h, Ok (A.head h)) (hs : A.Same m c) :
    (dats m 0 c).arrAt 10 cfg0.N = nBlk A.head 8192 0 := by
  refine (dats m 0 c).arrAt_eq_of_covers 10 _ (by decide +kernel) fun t hf y => ?_
  obtain ⟨e0, e1⟩ := (idx' t).2.2
  have hl := last t ((flush0_10 t).1 hf)
  blk_simp
  rw [after0_10, outs A m c hok hs.reads t.val t.isLt, hl]
  refine congrArg (nBlk A.head 8192 0) (funext fun a => Fin.ext ?_)
  fin_cases a
  · refine Eq.symm ?_
    blk_simp [e0]
  · refine Eq.symm ?_
    blk_simp [e1]

end

/-- The numbers that a memory's arguments are. -/
def of (m : (ℓ : Loc nD τ sig) → Buf (Elt Ideal) ℓ) (c : Dev nD) : Args where
  u := entry (a0 m c : FVec Ideal S8192x2048 .f32)
  lg := entry (a1 m c : FVec Ideal S2x512 .f32)
  gn := entry (m ((c : Thread nD τ).loc main_arg2) : FVec Ideal S1x512 .f32) 0
  dog := entry (m ((c : Thread nD τ).loc main_arg3) : FVec Ideal S8192x512 .f32)

theorem of_same {m : (ℓ : Loc nD τ sig) → Buf (Elt Ideal) ℓ} (h : Pre_KernelIdeal_tame m) (c : Dev nD) :
    (of m c).Same m c ∧ ∀ r d, |(of m c).lg r d| ≤ 2 := by
  obtain ⟨p0, p1, p2, p3⟩ := h c
  have q1 : ∀ i, ∃ r : ℝ, (a1 m c : FVec Ideal S2x512 .f32) i = (r : EReal) ∧ |r| ≤ 2 := fun i => of_two _ (congrFun p1 i)
  refine ⟨⟨entry_eq _ fun i => Num.of_finite _ (congrFun p0 i), entry_eq _ fun i => ?_, ?_, entry_eq _ fun i => Num.of_finite _ (congrFun p3 i)⟩, entry_le _ q1⟩
  · obtain ⟨r, hr, _⟩ := q1 i
    exact ⟨r, hr⟩
  · refine (entry_eq _ fun i => Num.of_finite _ (congrFun p2 i)).trans ?_
    funext y
    have : (y 0).val = 0 := by have : (y 0).val < 1 := (y 0).isLt; omega
    unfold bGN of
    rw [this]

end Args

end Cert.KernelIdeal.Chunk

namespace Cert.KernelIdeal

open Idealize Idealize.ShloMosaic Idealize.ShloMosaic.TcCoe Idealize.SL.Sem
open Cert.KernelIdeal.Gen Cert.KernelIdeal.Chunk Cert.ReferenceIdeal.Read

set_option maxHeartbeats 2000000 in
theorem agrees : Cert.algebraic_KernelIdeal_ReferenceIdeal_pre_tame := by
  intro m g m' g' hp hargs
  have hs := fun c => (Args.of_same hp c).1
  have hok := fun c => (Args.of m c).ok (Args.of_same hp c).2
  refine ⟨fun c => (fun y => ((uAt (Args.of m c).head 8192 (y 0).val (y 1).val : ℝ) : EReal) : FVec Ideal S8192x2048 .bf16),
    fun c => lBlk (Args.of m c).head 8192 0, fun c => nBlk (Args.of m c).head 8192 0, ?_, ?_⟩
  · refine (θ_run Cert.KernelIdeal.defs _ _).mono (fun r h c => ?_) (Value.run_blocks m g)
    obtain ⟨k0, k1, k2, k⟩ := h c
    exact ⟨k0.trans (Args.r8 (hok c) (hs c)), k1.trans (Args.r9 (hok c) (hs c)), k2.trans (Args.r10 (hok c) (hs c)), k⟩
  · refine (θ_run Cert.ReferenceIdeal.defs _ _).mono (fun r h c => ?_) (Cert.ReferenceIdeal.Value.run (F := Ideal) m' g')
    obtain ⟨h0, h1, h2, h3⟩ := hargs c
    obtain ⟨k0, k1, k2, k⟩ := h c
    have e0 := h0.trans (hs c).h0
    have e1 := h1.trans (hs c).h1
    have e2 := h2.trans (hs c).h2
    have e3 := h3.trans (hs c).h3
    refine ⟨k0.trans ?_, k1.trans ?_, k2.trans ?_, k⟩
    · rw [val_main_v225_eq]
      change val_main_v225 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) = _
      rw [e0, e1, e2, e3]; exact (Args.of m c).v225
    · rw [val_main_v224_eq]
      change val_main_v224 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) = _
      rw [e0, e1, e2, e3]; exact (Args.of m c).v224
    · rw [val_main_v140_eq]
      change val_main_v140 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg3)) = _
      rw [e0, e1, e3]; exact (Args.of m c).v140

end Cert.KernelIdeal

end
-- ==== Proof.SumSmall.lean ====
/-
  The sum of the eight devices' contributions to the gradients of the small arrays.
-/
module

public import proofs.«01_k».proof.Defs
public import proofs.«01_k».proof.Proof.Fold
public import proofs.«01_k».proof.Proof.Gen.SumSmallIdeal.Value
public import proofs.«01_k».proof.Proof.Gen.SumSmallRefIdeal.Read
public import proofs.«01_k».proof.Proof.Gen.SumSmallRefIdeal.Run

@[expose] public section

set_option maxRecDepth 16384

noncomputable section

namespace Cert.SumSmallIdeal.Rows

open Cert.SumSmallIdeal Cert.SumSmallIdeal.Gen Cert.SumSmallIdeal.Value Idealize.ShloMosaic Idealize.ShloMosaic.TcCoe Idealize.SL.Sem
open Cert.SumSmallRefIdeal.Read

variable (m : (ℓ : Loc nD τ sig) → Buf (Elt Ideal) ℓ) (c : Dev nD)

abbrev a0 := m ((c : Thread nD τ).loc main_arg0)

/-- Where the windows' blocks lie: the one point takes the whole arrays. -/
theorem idx : ∀ t : Fin cfg0.N, (win0_0.index t (0 : Fin 3) = 0 ∧ win0_0.index t (1 : Fin 3) = 0 ∧ win0_0.index t (2 : Fin 3) = 0)
    ∧ (win0_1.index t (0 : Fin 2) = 0 ∧ win0_1.index t (1 : Fin 2) = 0) :=
  (by decide +kernel : ∀ t : Fin grid0.N, _)

theorem b_p (t : Fin cfg0.N) (y : S8x16x1024.Idx) : (iblk m c 0 t : Vec Ideal S8x16x1024 .f32) y = (a0 m c : Vec Ideal S8x16x1024 .f32) y := by
  obtain ⟨⟨e0, e1, e2⟩, -⟩ := idx t
  blk_point [iblk, V, idx t]

theorem total (t : Fin cfg0.N) (y i : S16x1024.Idx) (h0 : (i 0).val = (y 0).val) (h1 : (i 1).val = (y 1).val) :
    out0_1 (F := Ideal) (iblk m c 0 t) y = val_main_v0 (F := Ideal) (a0 m c) i := by
  have e0 : i 0 = y 0 := Fin.ext h0
  have e1 : i 1 = y 1 := Fin.ext h1
  frame_out
  pointwise [k0_pay1, val_main_v0, val_main_cst]
  rw [Fin.sum_univ_eight, e0, e1]
  simp only [b_p]

theorem r1 : (dats m 0 c).arrAt 1 cfg0.N = val_main_v0 (F := Ideal) (a0 m c) := by
  refine (dats m 0 c).arrAt_eq_of_covers 1 _ (by decide +kernel) fun t hf y => ?_
  obtain ⟨-, ⟨e0, e1⟩⟩ := idx t
  blk_simp
  rw [after0_1]
  exact total m c t _ _ (by blk_simp [e0]) (by blk_simp [e1])

end Cert.SumSmallIdeal.Rows

namespace Cert.SumSmallIdeal

open Idealize.ShloMosaic Idealize.ShloMosaic.TcCoe Idealize.SL.Sem
open Cert.SumSmallRefIdeal.Read

theorem agrees : Cert.algebraic_SumSmallIdeal_SumSmallRefIdeal := by
  intro m g m' g' _ hargs
  refine ⟨fun c => val_main_v0 (F := Ideal) (Rows.a0 m c), ?_, ?_⟩
  · refine (θ_run Cert.SumSmallIdeal.defs _ _).mono (fun r h c => ?_) (Value.run_blocks m g)
    exact ⟨(h c).1.trans (Rows.r1 m c), (h c).2⟩
  · refine (θ_run Cert.SumSmallRefIdeal.defs _ _).mono (fun r h c => ?_) (Cert.SumSmallRefIdeal.Value.run (F := Ideal) m' g')
    refine ⟨(h c).1.trans ?_, (h c).2⟩
    rw [val_main_v0_eq, hargs c]

end Cert.SumSmallIdeal

end
-- ==== Proof.AdamwSmall.lean ====
/-
  The optimiser's step on the small arrays: entry by entry the reference's formulas.
-/
module

public import proofs.«01_k».proof.Defs
public import proofs.«01_k».proof.Proof.Fold
public import proofs.«01_k».proof.Proof.Gen.AdamwSmallIdeal.Value
public import proofs.«01_k».proof.Proof.Gen.AdamwSmallRefIdeal.Read
public import proofs.«01_k».proof.Proof.Gen.AdamwSmallRefIdeal.Run

@[expose] public section

set_option maxRecDepth 16384

noncomputable section

namespace Cert.AdamwSmallIdeal.Rows

open Cert.AdamwSmallIdeal Cert.AdamwSmallIdeal.Gen Cert.AdamwSmallIdeal.Value Idealize.ShloMosaic Idealize.ShloMosaic.TcCoe Idealize.SL.Sem
open Cert.AdamwSmallRefIdeal.Read

variable (m : (ℓ : Loc nD τ sig) → Buf (Elt Ideal) ℓ) (c : Dev nD)

abbrev a0 := m ((c : Thread nD τ).loc main_arg0)
abbrev a1 := m ((c : Thread nD τ).loc main_arg1)
abbrev a2 := m ((c : Thread nD τ).loc main_arg2)
abbrev a3 := m ((c : Thread nD τ).loc main_arg3)

/-- Where the windows' blocks lie: the one point takes the whole arrays. -/
theorem idx : ∀ t : Fin cfg0.N, (win0_0.index t (0 : Fin 3) = 0 ∧ win0_0.index t (1 : Fin 3) = 0 ∧ win0_0.index t (2 : Fin 3) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0) :=
  (by decide +kernel : ∀ t : Fin grid0.N, _)

theorem b_g (t : Fin cfg0.N) : (iblk m c 0 t : Vec Ideal S1x16x1024 .f32) = (a0 m c : Vec Ideal S1x16x1024 .f32) := by
  funext y
  obtain ⟨⟨e0, e1, e2⟩, -⟩ := idx t
  blk_point [iblk, V, idx t]

theorem b_w (t : Fin cfg0.N) : (iblk m c 1 t : Vec Ideal S16x1024 .f32) = (a1 m c : Vec Ideal S16x1024 .f32) := by
  funext y
  obtain ⟨-, ⟨e0, e1⟩, -⟩ := idx t
  blk_point [iblk, V, idx t]

theorem b_m (t : Fin cfg0.N) : (iblk m c 2 t : Vec Ideal S16x1024 .f32) = (a2 m c : Vec Ideal S16x1024 .f32) := by
  funext y
  obtain ⟨-, -, ⟨e0, e1⟩, -⟩ := idx t
  blk_point [iblk, V, idx t]

theorem b_v (t : Fin cfg0.N) : (iblk m c 3 t : Vec Ideal S16x1024 .f32) = (a3 m c : Vec Ideal S16x1024 .f32) := by
  funext y
  obtain ⟨-, -, -, ⟨e0, e1⟩, -⟩ := idx t
  blk_point [iblk, V, idx t]

variable (g : Vec Ideal S1x16x1024 .f32) (w mm v : Vec Ideal S16x1024 .f32)

theorem grad : k0_pay2 (F := Ideal) g = val_main_v0 (F := Ideal) g := rfl

theorem mean : k0_pay3 (F := Ideal) g mm = val_main_v5 (F := Ideal) g mm := by
  funext y
  unfold k0_pay3
  rw [grad]
  pointwise [val_main_v5, val_main_v4, val_main_v3, val_main_cst_0, val_main_v2, val_main_v1, val_main_cst]

theorem square : k0_pay4 (F := Ideal) g v = val_main_v11 (F := Ideal) g v := by
  funext y
  unfold k0_pay4
  rw [grad]
  pointwise [val_main_v11, val_main_v10, val_main_v9, val_main_cst_2, val_main_v8, val_main_v7, val_main_v6, val_main_cst_1]

theorem delta : k0_pay1 (F := Ideal) (k0_pay5 g mm v w) k0_pay6 = val_main_v24 (F := Ideal) g w mm v := by
  funext y
  unfold k0_pay1 k0_pay5 k0_pay6
  rw [mean, square]
  pointwise [val_main_v24, val_main_v23, val_main_cst_7, val_main_v22, val_main_v21, val_main_v20, val_main_cst_6, val_main_v19, val_main_v18,
    val_main_v17, val_main_cst_5, val_main_v16, val_main_v15, val_main_v14, val_main_cst_4, val_main_v13, val_main_v12, val_main_cst_3]

theorem at_y (y i : S16x1024.Idx) (h0 : (i 0).val = (y 0).val) (h1 : (i 1).val = (y 1).val) : y = i :=
  funext fun a => Fin.ext (by match a with | ⟨0, _⟩ => exact h0.symm | ⟨1, _⟩ => exact h1.symm)

theorem r4 : (dats m 0 c).arrAt 4 cfg0.N = val_main_v0 (F := Ideal) (a0 m c) := by
  refine (dats m 0 c).arrAt_eq_of_covers 4 _ (by decide +kernel) fun t hf y => ?_
  obtain ⟨e0, e1⟩ := (idx t).2.2.2.2.1
  blk_simp
  rw [after0_4]
  frame_out
  rw [b_g, grad]
  exact congrArg _ (at_y _ _ (by blk_simp [e0]) (by blk_simp [e1]))

theorem r5 : (dats m 0 c).arrAt 5 cfg0.N = val_main_v24 (F := Ideal) (a0 m c) (a1 m c) (a2 m c) (a3 m c) := by
  refine (dats m 0 c).arrAt_eq_of_covers 5 _ (by decide +kernel) fun t hf y => ?_
  obtain ⟨e0, e1⟩ := (idx t).2.2.2.2.2.1
  blk_simp
  rw [after0_5]
  frame_out
  rw [b_g, b_w, b_m, b_v, delta]
  exact congrArg _ (at_y _ _ (by blk_simp [e0]) (by blk_simp [e1]))

theorem r6 : (dats m 0 c).arrAt 6 cfg0.N = val_main_v5 (F := Ideal) (a0 m c) (a2 m c) := by
  refine (dats m 0 c).arrAt_eq_of_covers 6 _ (by decide +kernel) fun t hf y => ?_
  obtain ⟨e0, e1⟩ := (idx t).2.2.2.2.2.2.1
  blk_simp
  rw [after0_6]
  frame_out
  rw [b_g, b_m, mean]
  exact congrArg _ (at_y _ _ (by blk_simp [e0]) (by blk_simp [e1]))

theorem r7 : (dats m 0 c).arrAt 7 cfg0.N = val_main_v11 (F := Ideal) (a0 m c) (a3 m c) := by
  refine (dats m 0 c).arrAt_eq_of_covers 7 _ (by decide +kernel) fun t hf y => ?_
  obtain ⟨e0, e1⟩ := (idx t).2.2.2.2.2.2.2
  blk_simp
  rw [after0_7]
  frame_out
  rw [b_g, b_v, square]
  exact congrArg _ (at_y _ _ (by blk_simp [e0]) (by blk_simp [e1]))

end Cert.AdamwSmallIdeal.Rows

namespace Cert.AdamwSmallIdeal

open Idealize.ShloMosaic Idealize.ShloMosaic.TcCoe Idealize.SL.Sem
open Cert.AdamwSmallRefIdeal.Read

theorem agrees : Cert.algebraic_AdamwSmallIdeal_AdamwSmallRefIdeal := by
  intro m g m' g' _ hargs
  refine ⟨fun c => val_main_v0 (F := Ideal) (Rows.a0 m c), fun c => val_main_v24 (F := Ideal) (Rows.a0 m c) (Rows.a1 m c) (Rows.a2 m c) (Rows.a3 m c),
    fun c => val_main_v5 (F := Ideal) (Rows.a0 m c) (Rows.a2 m c), fun c => val_main_v11 (F := Ideal) (Rows.a0 m c) (Rows.a3 m c), ?_, ?_⟩
  · refine (θ_run Cert.AdamwSmallIdeal.defs _ _).mono (fun r h c => ?_) (Value.run_blocks m g)
    obtain ⟨k0, k1, k2, k3, k⟩ := h c
    exact ⟨k0.trans (Rows.r4 m c), k1.trans (Rows.r5 m c), k2.trans (Rows.r6 m c), k3.trans (Rows.r7 m c), k⟩
  · refine (θ_run Cert.AdamwSmallRefIdeal.defs _ _).mono (fun r h c => ?_) (Cert.AdamwSmallRefIdeal.Value.run (F := Ideal) m' g')
    obtain ⟨h0, h1, h2, h3⟩ := hargs c
    obtain ⟨k0, k1, k2, k3, k⟩ := h c
    refine ⟨k0.trans ?_, k1.trans ?_, k2.trans ?_, k3.trans ?_, k⟩
    · rw [val_main_v0_eq, h0]
    · rw [val_main_v24_eq, h0, h1, h2, h3]
    · rw [val_main_v5_eq, h0, h2]
    · rw [val_main_v11_eq, h0, h3]

end Cert.AdamwSmallIdeal

end
-- ==== Proof.FwdChunk.lean ====
/-
  One chunk of 128 rows and one head of the forward pass of the gated scan, written as functions of the blocks read, in the order and
  with the roundings of the kernel, and the lists of stores these make over one grid point's four chunks and four heads. The chunks of a
  point run from the first to the last, carrying the state.
-/
module

public import proofs.«01_k».proof.Proof.Gen.HgrnFwdIdeal.Frame
public import proofs.«01_k».proof.Proof.Chunk

@[expose] public section

set_option maxRecDepth 16384

noncomputable section

namespace Cert.HgrnFwdIdeal.Scan

open Cert.HgrnFwdIdeal Cert.HgrnFwdIdeal.Gen Idealize Idealize.ShloMosaic
open Cert.KernelIdeal.Chunk (one zero acc acc16 sg down oh lbs om kk qq bl ekl tb qt kt stack rest fillS rU rX rG rT rS inb_LG)

section

variable {F : FTy → Type} [FloatOps F]

/-- A block summed from the first row to each: a product with the lower triangle of ones, in three roundings. -/
def tril : FVec F S128x128 .bf16 :=
  truncf .bf16 (sitofp .f32 (extui 32 (cmpi .sle (iota .tc S128x128 32 [1] iota_S128x128_d1_w32) (iota .tc S128x128 32 [0] iota_S128x128_d0_w32)) natLt_1_32)) bitsLt_bf16_f32
def tri (x : FVec F S128x128 .bf16) : FVec F S128x128 .f32 := matmul dot_S128x128_S128x128_S128x128_1_0_0_1_n_n none tril x acc
def running (x : FVec F S128x128 .f32) : FVec F S128x128 .f32 :=
  addf (addf (addf zero (tri (tb x))) (tri (tb (rest x)))) (tri (tb (rest (rest x))))

/-- What one chunk of one head reads. -/
structure In (F : FTy → Type) where
  hq : FVec F S128x128 .f32
  hf : FVec F S128x128 .f32
  hv : FVec F S128x128 .f32
  hg : FVec F S128x128 .f32
  l : FVec F S1x128 .f32
  gn : FVec F S1x128 .f32

namespace In

variable (I : In F) (st : FVec F S128x128 .f32)

def k : FVec F S128x128 .f32 := kk I.l I.hf
def q : FVec F S128x128 .f32 := qq I.hq
/-- The running log decay. -/
def b : FVec F S128x128 .f32 := running (log (addf (down I.l) (mulf (om I.l) (sg I.hf))))
/-- The scores of the chunk, below and on the diagonal. -/
def s (i : Fin 8) : FVec F S16x128 .f32 :=
  matmul dot_S16x128_S128x128_S16x128_1_1_0_0_n_n none (qt I.q I.b i) (kt I.k I.b i) acc16
def a : FVec F S128x128 .f32 :=
  select (cmpi .sle (iota .tc S128x128 32 [1] iota_S128x128_d1_w32) (iota .tc S128x128 32 [0] iota_S128x128_d0_w32)) (stack I.s) zero
/-- The output, its gated normalised form, and the state after the chunk. -/
def o : FVec F S128x128 .f32 :=
  addf (matmul dot_S128x128_S128x128_S128x128_1_0_0_1_n_n none (tb I.a) (tb I.hv) acc)
    (matmul dot_S128x128_S128x128_S128x128_1_1_0_0_n_n none (tb (mulf I.q (exp I.b))) (tb st) acc)
def og : FVec F S128x128 .bf16 := tb (mulf (mulf (oh (I.o st)) (down I.gn)) (mulf I.hg (sg I.hg)))
def next : FVec F S128x128 .f32 :=
  addf (mulf st (down (exp (bl I.b)))) (matmul dot_S128x128_S128x128_S128x128_0_0_1_1_n_n none (tb I.hv) (tb (mulf I.k (ekl I.b))) acc)

end In

/-! ## The loads and stores of one grid point -/

section

variable (arg1 : Memref sig .tc .vmem S512x2048 .f32) (harg1 : arg1.IsWhole) (arg2 : Memref sig .tc .vmem S2x512 .f32) (harg2 : arg2.IsWhole)
  (arg3 : Memref sig .tc .vmem S1x512 .f32) (harg3 : arg3.IsWhole)
  (x0 : Vec F S512x2048 .f32) (x1 : Vec F S2x512 .f32) (x2 : Vec F S1x512 .f32)

/-- What chunk `c` of head `h` reads of the blocks of a grid point. -/
def inp (c h : Fin 4) : In F where
  hq := arg1.view.readAt (Elt F) (rU 0 (by omega) c h).toLoadRect (harg1.unread x0)
  hf := arg1.view.readAt (Elt F) (rU 512 (by omega) c h).toLoadRect (harg1.unread x0)
  hv := arg1.view.readAt (Elt F) (rU 1024 (by omega) c h).toLoadRect (harg1.unread x0)
  hg := arg1.view.readAt (Elt F) (rU 1536 (by omega) c h).toLoadRect (harg1.unread x0)
  l := lbs (arg2.view.readAt (Elt F) (Rect.unit (s := S2x512) ![0, 0] S2x512.size inb_LG).toLoadRect (harg2.unread x1)) h
  gn := arg3.view.readAt (Elt F) (rG h).toLoadRect (harg3.unread x2)

end

/-- A loaded state as a square block. -/
def sq (t : FVec F S1x128x128 .f32) : FVec F S128x128 .f32 := shapeCast S128x128 t shapeCasts_S1x128x128_S128x128

/-- The stores to the state after a chunk, newest first. -/
def pS (I : Fin 4 → In F) (t : Fin 4 → FVec F S1x128x128 .f32) (h : Fin 4) : View.Piece (Elt F) S4x128x128 .f32 :=
  ⟨rS h, shapeCast S1x128x128 ((I h).next (sq (t h))) shapeCasts_S128x128_S1x128x128⟩
def stepS (I : Fin 4 → In F) (t : Fin 4 → FVec F S1x128x128 .f32) (L : List (View.Piece (Elt F) S4x128x128 .f32)) :
    List (View.Piece (Elt F) S4x128x128 .f32) := pS I t 3 :: pS I t 2 :: pS I t 1 :: pS I t 0 :: L

/-- The stores of one chunk to a square array, and of the state before it. -/
def pX {ty : EltTy} (c : Fin 4) (f : Fin 4 → Vec F S128x128 ty) : List (View.Piece (Elt F) S512x512 ty) :=
  [⟨rX c 3, f 3⟩, ⟨rX c 2, f 2⟩, ⟨rX c 1, f 1⟩, ⟨rX c 0, f 0⟩]
def pT (c : Fin 4) (t : Fin 4 → FVec F S1x128x128 .f32) : List (View.Piece (Elt F) S4x4x128x128 .f32) :=
  let f h := shapeCast S1x1x128x128 (sq (t h)) shapeCasts_S128x128_S1x1x128x128
  [⟨rT c 3, f 3⟩, ⟨rT c 2, f 2⟩, ⟨rT c 1, f 1⟩, ⟨rT c 0, f 0⟩]

/-- What the load of head `h` finds of the state after the stores `L`. -/
def again (arg9 : Memref sig .tc .vmem S4x128x128 .f32) (L : List (View.Piece (Elt F) S4x128x128 .f32)) (h : Fin 4) : FVec F S1x128x128 .f32 :=
  arg9.view.readCov L (rS h).toLoadRect

section

variable (arg9 : Memref sig .tc .vmem S4x128x128 .f32) (I : Fin 4 → Fin 4 → In F) (t0 : Fin 4 → FVec F S1x128x128 .f32)
  (L0 : List (View.Piece (Elt F) S4x128x128 .f32))

/-- The stores to the state after each of the four chunks of a point. -/
def L1 := stepS (I 0) t0 L0
def L2 := stepS (I 1) (again arg9 (L1 I t0 L0)) (L1 I t0 L0)
def L3 := stepS (I 2) (again arg9 (L2 arg9 I t0 L0)) (L2 arg9 I t0 L0)
def L4 := stepS (I 3) (again arg9 (L3 arg9 I t0 L0)) (L3 arg9 I t0 L0)

/-- The state before each chunk. -/
def before : Fin 4 → Fin 4 → FVec F S1x128x128 .f32 :=
  ![t0, again arg9 (L1 I t0 L0), again arg9 (L2 arg9 I t0 L0), again arg9 (L3 arg9 I t0 L0)]

def fourX {ty : EltTy} (f : Fin 4 → Fin 4 → Vec F S128x128 ty) : List (View.Piece (Elt F) S512x512 ty) :=
  pX 3 (f 3) ++ (pX 2 (f 2) ++ (pX 1 (f 1) ++ pX 0 (f 0)))
def listG : List (View.Piece (Elt F) S512x512 .bf16) := fourX fun c h => (I c h).og (sq (before arg9 I t0 L0 c h))
def listT : List (View.Piece (Elt F) S4x4x128x128 .f32) :=
  pT 3 (before arg9 I t0 L0 3) ++ (pT 2 (before arg9 I t0 L0 2) ++ (pT 1 (before arg9 I t0 L0 1) ++ pT 0 (before arg9 I t0 L0 0)))
def listB : List (View.Piece (Elt F) S512x512 .f32) := fourX fun c h => (I c h).b
def listA : List (View.Piece (Elt F) S512x512 .bf16) := fourX fun c h => tb (I c h).a
def listO : List (View.Piece (Elt F) S512x512 .f32) := fourX fun c h => (I c h).o (sq (before arg9 I t0 L0 c h))

end

end

end Cert.HgrnFwdIdeal.Scan

end
-- ==== Proof.FwdStores.lean ====
/-
  The stores of one grid point are the lists of Proof.FwdChunk: the first point starts the state from zero, the others from what the
  point before left.
-/
module

public import proofs.«01_k».proof.Proof.FwdChunk

@[expose] public section

set_option maxRecDepth 65536

noncomputable section

namespace Cert.HgrnFwdIdeal.Scan

open Cert.HgrnFwdIdeal Cert.HgrnFwdIdeal.Gen Idealize Idealize.ShloMosaic Idealize.ShloMosaic.TcCoe
open Cert.KernelIdeal.Chunk (fillS rS)

variable {F : FTy → Type} [FloatOps F]

theorem listG_A (c : Dev nD) (i : grid0.Coords) (arg1 : Memref sig .tc .vmem S512x2048 .f32) (harg1 : arg1.IsWhole) (arg2 : Memref sig .tc .vmem S2x512 .f32) (harg2 : arg2.IsWhole) (arg3 : Memref sig .tc .vmem S1x512 .f32) (harg3 : arg3.IsWhole) (arg4 : Memref sig .tc .vmem S512x512 .bf16) (harg4 : arg4.IsWhole) (arg5 : Memref sig .tc .vmem S4x4x128x128 .f32) (harg5 : arg5.IsWhole) (arg6 : Memref sig .tc .vmem S512x512 .f32) (harg6 : arg6.IsWhole) (arg7 : Memref sig .tc .vmem S512x512 .bf16) (harg7 : arg7.IsWhole) (arg8 : Memref sig .tc .vmem S512x512 .f32) (harg8 : arg8.IsWhole) (arg9 : Memref sig .tc .vmem S4x128x128 .f32) (harg9 : arg9.IsWhole) (hc0 : cond0_0 i)
    (x0 : Vec F S512x2048 .f32) (x1 : Vec F S2x512 .f32) (x2 : Vec F S1x512 .f32) :
    (kernelRun0_A c i arg1 harg1 arg2 harg2 arg3 harg3 arg4 harg4 arg5 harg5 arg6 harg6 arg7 harg7 arg8 harg8 arg9 harg9 hc0 x0 x1 x2).1 = listG arg9 (inp arg1 harg1 arg2 harg2 arg3 harg3 x0 x1 x2) (again arg9 fillS) fillS := by
  sl_kernel_rfl

theorem listT_A (c : Dev nD) (i : grid0.Coords) (arg1 : Memref sig .tc .vmem S512x2048 .f32) (harg1 : arg1.IsWhole) (arg2 : Memref sig .tc .vmem S2x512 .f32) (harg2 : arg2.IsWhole) (arg3 : Memref sig .tc .vmem S1x512 .f32) (harg3 : arg3.IsWhole) (arg4 : Memref sig .tc .vmem S512x512 .bf16) (harg4 : arg4.IsWhole) (arg5 : Memref sig .tc .vmem S4x4x128x128 .f32) (harg5 : arg5.IsWhole) (arg6 : Memref sig .tc .vmem S512x512 .f32) (harg6 : arg6.IsWhole) (arg7 : Memref sig .tc .vmem S512x512 .bf16) (harg7 : arg7.IsWhole) (arg8 : Memref sig .tc .vmem S512x512 .f32) (harg8 : arg8.IsWhole) (arg9 : Memref sig .tc .vmem S4x128x128 .f32) (harg9 : arg9.IsWhole) (hc0 : cond0_0 i)
    (x0 : Vec F S512x2048 .f32) (x1 : Vec F S2x512 .f32) (x2 : Vec F S1x512 .f32) :
    (kernelRun0_A c i arg1 harg1 arg2 harg2 arg3 harg3 arg4 harg4 arg5 harg5 arg6 harg6 arg7 harg7 arg8 harg8 arg9 harg9 hc0 x0 x1 x2).2.1 = listT arg9 (inp arg1 harg1 arg2 harg2 arg3 harg3 x0 x1 x2) (again arg9 fillS) fillS := by
  sl_kernel_rfl

theorem listB_A (c : Dev nD) (i : grid0.Coords) (arg1 : Memref sig .tc .vmem S512x2048 .f32) (harg1 : arg1.IsWhole) (arg2 : Memref sig .tc .vmem S2x512 .f32) (harg2 : arg2.IsWhole) (arg3 : Memref sig .tc .vmem S1x512 .f32) (harg3 : arg3.IsWhole) (arg4 : Memref sig .tc .vmem S512x512 .bf16) (harg4 : arg4.IsWhole) (arg5 : Memref sig .tc .vmem S4x4x128x128 .f32) (harg5 : arg5.IsWhole) (arg6 : Memref sig .tc .vmem S512x512 .f32) (harg6 : arg6.IsWhole) (arg7 : Memref sig .tc .vmem S512x512 .bf16) (harg7 : arg7.IsWhole) (arg8 : Memref sig .tc .vmem S512x512 .f32) (harg8 : arg8.IsWhole) (arg9 : Memref sig .tc .vmem S4x128x128 .f32) (harg9 : arg9.IsWhole) (hc0 : cond0_0 i)
    (x0 : Vec F S512x2048 .f32) (x1 : Vec F S2x512 .f32) (x2 : Vec F S1x512 .f32) :
    (kernelRun0_A c i arg1 harg1 arg2 harg2 arg3 harg3 arg4 harg4 arg5 harg5 arg6 harg6 arg7 harg7 arg8 harg8 arg9 harg9 hc0 x0 x1 x2).2.2.1 = listB (inp arg1 harg1 arg2 harg2 arg3 harg3 x0 x1 x2) := by
  sl_kernel_rfl

theorem listA_A (c : Dev nD) (i : grid0.Coords) (arg1 : Memref sig .tc .vmem S512x2048 .f32) (harg1 : arg1.IsWhole) (arg2 : Memref sig .tc .vmem S2x512 .f32) (harg2 : arg2.IsWhole) (arg3 : Memref sig .tc .vmem S1x512 .f32) (harg3 : arg3.IsWhole) (arg4 : Memref sig .tc .vmem S512x512 .bf16) (harg4 : arg4.IsWhole) (arg5 : Memref sig .tc .vmem S4x4x128x128 .f32) (harg5 : arg5.IsWhole) (arg6 : Memref sig .tc .vmem S512x512 .f32) (harg6 : arg6.IsWhole) (arg7 : Memref sig .tc .vmem S512x512 .bf16) (harg7 : arg7.IsWhole) (arg8 : Memref sig .tc .vmem S512x512 .f32) (harg8 : arg8.IsWhole) (arg9 : Memref sig .tc .vmem S4x128x128 .f32) (harg9 : arg9.IsWhole) (hc0 : cond0_0 i)
    (x0 : Vec F S512x2048 .f32) (x1 : Vec F S2x512 .f32) (x2 : Vec F S1x512 .f32) :
    (kernelRun0_A c i arg1 harg1 arg2 harg2 arg3 harg3 arg4 harg4 arg5 harg5 arg6 harg6 arg7 harg7 arg8 harg8 arg9 harg9 hc0 x0 x1 x2).2.2.2.1 = listA (inp arg1 harg1 arg2 harg2 arg3 harg3 x0 x1 x2) := by
  sl_kernel_rfl

theorem listO_A (c : Dev nD) (i : grid0.Coords) (arg1 : Memref sig .tc .vmem S512x2048 .f32) (harg1 : arg1.IsWhole) (arg2 : Memref sig .tc .vmem S2x512 .f32) (harg2 : arg2.IsWhole) (arg3 : Memref sig .tc .vmem S1x512 .f32) (harg3 : arg3.IsWhole) (arg4 : Memref sig .tc .vmem S512x512 .bf16) (harg4 : arg4.IsWhole) (arg5 : Memref sig .tc .vmem S4x4x128x128 .f32) (harg5 : arg5.IsWhole) (arg6 : Memref sig .tc .vmem S512x512 .f32) (harg6 : arg6.IsWhole) (arg7 : Memref sig .tc .vmem S512x512 .bf16) (harg7 : arg7.IsWhole) (arg8 : Memref sig .tc .vmem S512x512 .f32) (harg8 : arg8.IsWhole) (arg9 : Memref sig .tc .vmem S4x128x128 .f32) (harg9 : arg9.IsWhole) (hc0 : cond0_0 i)
    (x0 : Vec F S512x2048 .f32) (x1 : Vec F S2x512 .f32) (x2 : Vec F S1x512 .f32) :
    (kernelRun0_A c i arg1 harg1 arg2 harg2 arg3 harg3 arg4 harg4 arg5 harg5 arg6 harg6 arg7 harg7 arg8 harg8 arg9 harg9 hc0 x0 x1 x2).2.2.2.2.1 = listO arg9 (inp arg1 harg1 arg2 harg2 arg3 harg3 x0 x1 x2) (again arg9 fillS) fillS := by
  sl_kernel_rfl

theorem listS_A (c : Dev nD) (i : grid0.Coords) (arg1 : Memref sig .tc .vmem S512x2048 .f32) (harg1 : arg1.IsWhole) (arg2 : Memref sig .tc .vmem S2x512 .f32) (harg2 : arg2.IsWhole) (arg3 : Memref sig .tc .vmem S1x512 .f32) (harg3 : arg3.IsWhole) (arg4 : Memref sig .tc .vmem S512x512 .bf16) (harg4 : arg4.IsWhole) (arg5 : Memref sig .tc .vmem S4x4x128x128 .f32) (harg5 : arg5.IsWhole) (arg6 : Memref sig .tc .vmem S512x512 .f32) (harg6 : arg6.IsWhole) (arg7 : Memref sig .tc .vmem S512x512 .bf16) (harg7 : arg7.IsWhole) (arg8 : Memref sig .tc .vmem S512x512 .f32) (harg8 : arg8.IsWhole) (arg9 : Memref sig .tc .vmem S4x128x128 .f32) (harg9 : arg9.IsWhole) (hc0 : cond0_0 i)
    (x0 : Vec F S512x2048 .f32) (x1 : Vec F S2x512 .f32) (x2 : Vec F S1x512 .f32) :
    (kernelRun0_A c i arg1 harg1 arg2 harg2 arg3 harg3 arg4 harg4 arg5 harg5 arg6 harg6 arg7 harg7 arg8 harg8 arg9 harg9 hc0 x0 x1 x2).2.2.2.2.2.1 = L4 arg9 (inp arg1 harg1 arg2 harg2 arg3 harg3 x0 x1 x2) (again arg9 fillS) fillS := by
  sl_kernel_rfl

theorem listG_B (c : Dev nD) (i : grid0.Coords) (arg1 : Memref sig .tc .vmem S512x2048 .f32) (harg1 : arg1.IsWhole) (arg2 : Memref sig .tc .vmem S2x512 .f32) (harg2 : arg2.IsWhole) (arg3 : Memref sig .tc .vmem S1x512 .f32) (harg3 : arg3.IsWhole) (arg4 : Memref sig .tc .vmem S512x512 .bf16) (harg4 : arg4.IsWhole) (arg5 : Memref sig .tc .vmem S4x4x128x128 .f32) (harg5 : arg5.IsWhole) (arg6 : Memref sig .tc .vmem S512x512 .f32) (harg6 : arg6.IsWhole) (arg7 : Memref sig .tc .vmem S512x512 .bf16) (harg7 : arg7.IsWhole) (arg8 : Memref sig .tc .vmem S512x512 .f32) (harg8 : arg8.IsWhole) (arg9 : Memref sig .tc .vmem S4x128x128 .f32) (harg9 : arg9.IsWhole) (hc0 : ¬cond0_0 i)
    (x0 : Vec F S512x2048 .f32) (x1 : Vec F S2x512 .f32) (x2 : Vec F S1x512 .f32) (xs0 : Vec F S4x128x128 .f32) :
    (kernelRun0_B c i arg1 harg1 arg2 harg2 arg3 harg3 arg4 harg4 arg5 harg5 arg6 harg6 arg7 harg7 arg8 harg8 arg9 harg9 hc0 x0 x1 x2 xs0).1 = listG arg9 (inp arg1 harg1 arg2 harg2 arg3 harg3 x0 x1 x2) (fun h => arg9.view.readAt (Elt F) (rS h).toLoadRect (harg9.unread xs0)) [] := by
  sl_kernel_rfl

theorem listT_B (c : Dev nD) (i : grid0.Coords) (arg1 : Memref sig .tc .vmem S512x2048 .f32) (harg1 : arg1.IsWhole) (arg2 : Memref sig .tc .vmem S2x512 .f32) (harg2 : arg2.IsWhole) (arg3 : Memref sig .tc .vmem S1x512 .f32) (harg3 : arg3.IsWhole) (arg4 : Memref sig .tc .vmem S512x512 .bf16) (harg4 : arg4.IsWhole) (arg5 : Memref sig .tc .vmem S4x4x128x128 .f32) (harg5 : arg5.IsWhole) (arg6 : Memref sig .tc .vmem S512x512 .f32) (harg6 : arg6.IsWhole) (arg7 : Memref sig .tc .vmem S512x512 .bf16) (harg7 : arg7.IsWhole) (arg8 : Memref sig .tc .vmem S512x512 .f32) (harg8 : arg8.IsWhole) (arg9 : Memref sig .tc .vmem S4x128x128 .f32) (harg9 : arg9.IsWhole) (hc0 : ¬cond0_0 i)
    (x0 : Vec F S512x2048 .f32) (x1 : Vec F S2x512 .f32) (x2 : Vec F S1x512 .f32) (xs0 : Vec F S4x128x128 .f32) :
    (kernelRun0_B c i arg1 harg1 arg2 harg2 arg3 harg3 arg4 harg4 arg5 harg5 arg6 harg6 arg7 harg7 arg8 harg8 arg9 harg9 hc0 x0 x1 x2 xs0).2.1 = listT arg9 (inp arg1 harg1 arg2 harg2 arg3 harg3 x0 x1 x2) (fun h => arg9.view.readAt (Elt F) (rS h).toLoadRect (harg9.unread xs0)) [] := by
  sl_kernel_rfl

theorem listB_B (c : Dev nD) (i : grid0.Coords) (arg1 : Memref sig .tc .vmem S512x2048 .f32) (harg1 : arg1.IsWhole) (arg2 : Memref sig .tc .vmem S2x512 .f32) (harg2 : arg2.IsWhole) (arg3 : Memref sig .tc .vmem S1x512 .f32) (harg3 : arg3.IsWhole) (arg4 : Memref sig .tc .vmem S512x512 .bf16) (harg4 : arg4.IsWhole) (arg5 : Memref sig .tc .vmem S4x4x128x128 .f32) (harg5 : arg5.IsWhole) (arg6 : Memref sig .tc .vmem S512x512 .f32) (harg6 : arg6.IsWhole) (arg7 : Memref sig .tc .vmem S512x512 .bf16) (harg7 : arg7.IsWhole) (arg8 : Memref sig .tc .vmem S512x512 .f32) (harg8 : arg8.IsWhole) (arg9 : Memref sig .tc .vmem S4x128x128 .f32) (harg9 : arg9.IsWhole) (hc0 : ¬cond0_0 i)
    (x0 : Vec F S512x2048 .f32) (x1 : Vec F S2x512 .f32) (x2 : Vec F S1x512 .f32) (xs0 : Vec F S4x128x128 .f32) :
    (kernelRun0_B c i arg1 harg1 arg2 harg2 arg3 harg3 arg4 harg4 arg5 harg5 arg6 harg6 arg7 harg7 arg8 harg8 arg9 harg9 hc0 x0 x1 x2 xs0).2.2.1 = listB (inp arg1 harg1 arg2 harg2 arg3 harg3 x0 x1 x2) := by
  sl_kernel_rfl

theorem listA_B (c : Dev nD) (i : grid0.Coords) (arg1 : Memref sig .tc .vmem S512x2048 .f32) (harg1 : arg1.IsWhole) (arg2 : Memref sig .tc .vmem S2x512 .f32) (harg2 : arg2.IsWhole) (arg3 : Memref sig .tc .vmem S1x512 .f32) (harg3 : arg3.IsWhole) (arg4 : Memref sig .tc .vmem S512x512 .bf16) (harg4 : arg4.IsWhole) (arg5 : Memref sig .tc .vmem S4x4x128x128 .f32) (harg5 : arg5.IsWhole) (arg6 : Memref sig .tc .vmem S512x512 .f32) (harg6 : arg6.IsWhole) (arg7 : Memref sig .tc .vmem S512x512 .bf16) (harg7 : arg7.IsWhole) (arg8 : Memref sig .tc .vmem S512x512 .f32) (harg8 : arg8.IsWhole) (arg9 : Memref sig .tc .vmem S4x128x128 .f32) (harg9 : arg9.IsWhole) (hc0 : ¬cond0_0 i)
    (x0 : Vec F S512x2048 .f32) (x1 : Vec F S2x512 .f32) (x2 : Vec F S1x512 .f32) (xs0 : Vec F S4x128x128 .f32) :
    (kernelRun0_B c i arg1 harg1 arg2 harg2 arg3 harg3 arg4 harg4 arg5 harg5 arg6 harg6 arg7 harg7 arg8 harg8 arg9 harg9 hc0 x0 x1 x2 xs0).2.2.2.1 = listA (inp arg1 harg1 arg2 harg2 arg3 harg3 x0 x1 x2) := by
  sl_kernel_rfl

theorem listO_B (c : Dev nD) (i : grid0.Coords) (arg1 : Memref sig .tc .vmem S512x2048 .f32) (harg1 : arg1.IsWhole) (arg2 : Memref sig .tc .vmem S2x512 .f32) (harg2 : arg2.IsWhole) (arg3 : Memref sig .tc .vmem S1x512 .f32) (harg3 : arg3.IsWhole) (arg4 : Memref sig .tc .vmem S512x512 .bf16) (harg4 : arg4.IsWhole) (arg5 : Memref sig .tc .vmem S4x4x128x128 .f32) (harg5 : arg5.IsWhole) (arg6 : Memref sig .tc .vmem S512x512 .f32) (harg6 : arg6.IsWhole) (arg7 : Memref sig .tc .vmem S512x512 .bf16) (harg7 : arg7.IsWhole) (arg8 : Memref sig .tc .vmem S512x512 .f32) (harg8 : arg8.IsWhole) (arg9 : Memref sig .tc .vmem S4x128x128 .f32) (harg9 : arg9.IsWhole) (hc0 : ¬cond0_0 i)
    (x0 : Vec F S512x2048 .f32) (x1 : Vec F S2x512 .f32) (x2 : Vec F S1x512 .f32) (xs0 : Vec F S4x128x128 .f32) :
    (kernelRun0_B c i arg1 harg1 arg2 harg2 arg3 harg3 arg4 harg4 arg5 harg5 arg6 harg6 arg7 harg7 arg8 harg8 arg9 harg9 hc0 x0 x1 x2 xs0).2.2.2.2.1 = listO arg9 (inp arg1 harg1 arg2 harg2 arg3 harg3 x0 x1 x2) (fun h => arg9.view.readAt (Elt F) (rS h).toLoadRect (harg9.unread xs0)) [] := by
  sl_kernel_rfl

theorem listS_B (c : Dev nD) (i : grid0.Coords) (arg1 : Memref sig .tc .vmem S512x2048 .f32) (harg1 : arg1.IsWhole) (arg2 : Memref sig .tc .vmem S2x512 .f32) (harg2 : arg2.IsWhole) (arg3 : Memref sig .tc .vmem S1x512 .f32) (harg3 : arg3.IsWhole) (arg4 : Memref sig .tc .vmem S512x512 .bf16) (harg4 : arg4.IsWhole) (arg5 : Memref sig .tc .vmem S4x4x128x128 .f32) (harg5 : arg5.IsWhole) (arg6 : Memref sig .tc .vmem S512x512 .f32) (harg6 : arg6.IsWhole) (arg7 : Memref sig .tc .vmem S512x512 .bf16) (harg7 : arg7.IsWhole) (arg8 : Memref sig .tc .vmem S512x512 .f32) (harg8 : arg8.IsWhole) (arg9 : Memref sig .tc .vmem S4x128x128 .f32) (harg9 : arg9.IsWhole) (hc0 : ¬cond0_0 i)
    (x0 : Vec F S512x2048 .f32) (x1 : Vec F S2x512 .f32) (x2 : Vec F S1x512 .f32) (xs0 : Vec F S4x128x128 .f32) :
    (kernelRun0_B c i arg1 harg1 arg2 harg2 arg3 harg3 arg4 harg4 arg5 harg5 arg6 harg6 arg7 harg7 arg8 harg8 arg9 harg9 hc0 x0 x1 x2 xs0).2.2.2.2.2.1 = L4 arg9 (inp arg1 harg1 arg2 harg2 arg3 harg3 x0 x1 x2) (fun h => arg9.view.readAt (Elt F) (rS h).toLoadRect (harg9.unread xs0)) [] := by
  sl_kernel_rfl

end Cert.HgrnFwdIdeal.Scan

end
-- ==== Proof.FwdLocal.lean ====
/-
  The chunk's forward pass on numbers: with the state before the chunk, what the kernel stores for a chunk are the rows of the whole
  sequence's running decay, scores and output.
-/
module

public import proofs.«01_k».proof.Proof.FwdStores
public import proofs.«01_k».proof.Proof.Contents

@[expose] public section

set_option maxRecDepth 16384

noncomputable section

namespace Recur

open Finset

variable {T : ℕ} {g q k v : ℕ → ℕ → ℝ}

/-- The output of a row: its chunk's scores, and the state before the chunk. -/
theorem o_chunk {e p x : ℕ} (he : e + 128 ≤ T) :
    ∑ s ∈ range T, sc g q k (e + p) s * v s x * (if s < e + 128 then 1 else 0)
      = ∑ r ∈ range 128, sc g q k (e + p) (e + r) * v (e + r) x
        + ∑ d ∈ range 128, q (e + p) d * Real.exp (b g e p d) * st g k v e x d := by
  rw [sum_split he, sum_eq_zero (s := Ico (e + 128) T), add_zero, add_comm]
  · congr 1
    · refine sum_congr rfl fun r hr => ?_
      rw [if_pos (by have := mem_range.mp hr; omega), mul_one]
    · simp only [st, mul_sum]
      rw [sum_comm]
      refine sum_congr rfl fun s hs => ?_
      have hs := mem_range.mp hs
      rw [if_pos (by omega), mul_one, sc, sum_mul]
      refine sum_congr rfl fun d _ => ?_
      rw [E_in hs]
      ring
  · intro s hs
    rw [if_neg (by have := (mem_Ico.mp hs).1; omega), mul_zero]

theorem o_row {e p x : ℕ} (hp : p < 128) (he : e + 128 ≤ T) :
    ∑ s ∈ range T, sc g q k (e + p) s * v s x
      = ∑ r ∈ range 128, sc g q k (e + p) (e + r) * v (e + r) x
        + ∑ d ∈ range 128, q (e + p) d * Real.exp (b g e p d) * st g k v e x d := by
  rw [← o_chunk he]
  refine sum_congr rfl fun s _ => ?_
  rcases Nat.lt_or_ge s (e + 128) with h | h
  · rw [if_pos h, mul_one]
  · rw [sc_of_lt (by omega), zero_mul, zero_mul]

/-- The state after a chunk. -/
theorem st_chunk {e x d : ℕ} :
    st g k v (e + 128) x d = st g k v e x d * Real.exp (b g e 127 d)
      + ∑ p ∈ range 128, v (e + p) x * (k (e + p) d * Real.exp (b g e 127 d - b g e p d)) := by
  have h128 : P g d (e + 128) = P g d e + b g e 127 d := P_add d e 127
  unfold st
  rw [sum_range_add, sum_mul]
  congr 1
  · refine sum_congr rfl fun s _ => ?_
    have : P g d (e + 128) - P g d (s + 1) = P g d e - P g d (s + 1) + b g e 127 d := by rw [h128]; ring
    rw [this, Real.exp_add]; ring
  · refine sum_congr rfl fun p _ => ?_
    rw [add_assoc e p 1, P_add d e p, h128, show P g d e + b g e 127 d - (P g d e + b g e p d) = b g e 127 d - b g e p d by ring]
    ring

/-- A score within a sub-block of the chunk, measured from the row before it. -/
theorem sc_sub {e : ℕ} (h0 : ∀ t d, g t d ≤ 0) (h5 : ∀ t d, -5 ≤ g t d) {p r : ℕ} (h : r ≤ p) :
    ∑ d ∈ range 128, q (e + p) d * Real.exp (b g e p d - rf (b g e) (p / 16) d) * (k (e + r) d * Real.exp (min (rf (b g e) (p / 16) d - b g e r d) 80))
      = sc g q k (e + p) (e + r) := by
  unfold sc
  refine sum_congr rfl fun d _ => ?_
  rw [min_eq_left (cap_le (fun t => h0 t d) (fun t => h5 t d) h), E_chunk h,
    show b g e p d - b g e r d = (b g e p d - rf (b g e) (p / 16) d) + (rf (b g e) (p / 16) d - b g e r d) by ring, Real.exp_add]
  ring

/-- A running sum as a sum over the whole chunk. -/
theorem b_sum {e p d : ℕ} (hp : p < 128) : ∑ r ∈ range 128, (if r ≤ p then g (e + r) d else 0) = b g e p d := by
  unfold b
  rw [← sum_filter]
  refine sum_congr ?_ fun _ _ => rfl
  ext r
  simp only [mem_filter, mem_range]
  omega

end Recur

namespace Cert.HgrnFwdIdeal.Scan

open Cert.HgrnFwdIdeal Cert.HgrnFwdIdeal.Gen Idealize Idealize.ShloMosaic Finset
open Cert.KernelIdeal.Chunk (one zero acc acc16 sg down oh lbs om kk qq bl ekl tb qt kt stack rest rs up up16 upr Ok)
open Cert.KernelIdeal.Chunk (mul_up add_up sub_up exp_up exp_upr tb_up ext_up zero_up down_up dot_nn dot_nt dot_tn cmp_le sg_up om_up kk_up qq_up
  ekl_up bl_up rs_up kt_up qt_up stack_up up_congr f_pos)
open Head (lgs)

theorem tril_up : (tril : FVec Ideal S128x128 .bf16) = up fun p d => if d ≤ p then 1 else 0 := by
  funext ix; pointwise [tril, up]
  have hc : IntOp.cmpi .sle (BitVec.ofNat 32 (ix 1).val) (BitVec.ofNat 32 (ix 0).val) = _ := cmp_le (ix 1) (ix 0)
  rw [hc]
  by_cases h : (ix 1).val ≤ (ix 0).val
  · rw [if_pos h, if_pos h]; show (((BitVec.toInt _ : ℤ) : ℝ) : EReal) = _; norm_num
  · rw [if_neg h, if_neg h]; show (((BitVec.toInt _ : ℤ) : ℝ) : EReal) = _; norm_num

theorem running_up (x : ℕ → ℕ → ℝ) : running (up x) = up fun p d => ∑ r ∈ range 128, if r ≤ p then x r d else 0 := by
  have hr : ∀ y, rest (up y) = up fun _ _ => 0 := by
    intro y
    unfold rest
    rw [tb_up, ext_up, sub_up]
    simp only [sub_self]
  have ht : ∀ y, tri (up y) = up fun p d => ∑ r ∈ range 128, (if r ≤ p then 1 else 0) * y r d := by
    intro y
    unfold tri
    rw [tril_up]
    exact dot_nn _ _
  unfold running
  simp only [hr, tb_up, ht, zero_up, add_up]
  refine congrArg up (funext fun p => funext fun d => ?_)
  simp only [mul_zero, sum_const_zero, add_zero, zero_add, ite_mul, one_mul, zero_mul]

theorem log_up (f : ℕ → ℕ → ℝ) (h : ∀ p d, 0 < f p d) : log (up (ty := .f32) f) = up fun p d => Real.log (f p d) :=
  funext fun _ => (Ideal.log_coe _).trans (if_neg (not_le.2 (h _ _)))

theorem dot_16 (f g : ℕ → ℕ → ℝ) : matmul dot_S16x128_S128x128_S16x128_1_1_0_0_n_n none (up16 (ty := .bf16) f) (up (ty := .bf16) g) acc16
    = up16 fun p d => ∑ x ∈ range 128, f p x * g d x := by
  funext ix; pointwise [acc16, up, up16]; exact Cert.KernelIdeal.Chunk.fin_dot 128 (fun x => f _ x) fun x => g _ x

theorem mask_up (f : ℕ → ℕ → ℝ) :
    select (cmpi .sle (iota .tc S128x128 32 [1] iota_S128x128_d1_w32) (iota .tc S128x128 32 [0] iota_S128x128_d0_w32)) (up f) zero
      = (up fun p d => if d ≤ p then f p d else 0 : FVec Ideal S128x128 .f32) := by
  funext ix; pointwise [up, zero]
  have hc : IntOp.cmpi .sle (BitVec.ofNat 32 (ix 1).val) (BitVec.ofNat 32 (ix 0).val) = _ := cmp_le (ix 1) (ix 0)
  rw [hc]
  by_cases h : (ix 1).val ≤ (ix 0).val
  · rw [if_pos h, if_pos h]; rfl
  · rw [if_neg h, if_neg h]; rfl

/-- What the chunk that begins at row `e` reads of a head; the norm's weight may be anything. -/
def inAt (H : Head) (w : FVec Ideal S1x128 .f32) (e : ℕ) : In Ideal where
  hq := up fun p d => H.hq (e + p) d
  hf := up fun p d => H.hf (e + p) d
  hv := up fun p d => H.hv (e + p) d
  hg := up fun p d => H.hg (e + p) d
  l := upr H.l
  gn := w

/-- The state before row `e`. -/
def stAt (H : Head) (e : ℕ) : FVec Ideal S128x128 .f32 := up (Recur.st H.g H.k H.hv e)

section

variable (H : Head) (w : FVec Ideal S1x128 .f32) (e T : ℕ)

theorem k_up : (inAt H w e).k = up fun p d => H.k (e + p) d := by
  simp only [In.k, inAt, kk_up]; rfl
theorem q_up : (inAt H w e).q = up fun p d => H.q (e + p) d := by
  simp only [In.q, inAt, qq_up]; rfl

variable (hok : Ok H)

include hok in
theorem b_up : (inAt H w e).b = up (Recur.b H.g e) := by
  unfold In.b
  simp only [inAt]
  rw [down_up, om_up, sg_up, mul_up, add_up, log_up (fun p d => H.l d + (1 - H.l d) * lgs (H.hf (e + p) d)) fun p d => f_pos hok.l (e + p) d, running_up]
  exact up_congr fun p hp d _ => Recur.b_sum (g := H.g) hp

include hok in
theorem a_up : (inAt H w e).a = up fun r p => Recur.sc H.g H.q H.k (e + r) (e + p) := by
  have hs : (inAt H w e).s = fun i : Fin 8 => up16 fun p r => ∑ d ∈ range 128, H.q (e + (16 * i.val + p)) d
      * Real.exp (Recur.b H.g e (16 * i.val + p) d - Recur.rf (Recur.b H.g e) i d)
      * (H.k (e + r) d * Real.exp (min (Recur.rf (Recur.b H.g e) i d - Recur.b H.g e r d) 80)) := by
    funext i
    unfold In.s
    rw [k_up, q_up, b_up H w e hok, qt_up, kt_up, dot_16]
  unfold In.a
  rw [hs, stack_up _ (fun p r => ∑ d ∈ range 128, H.q (e + p) d * Real.exp (Recur.b H.g e p d - Recur.rf (Recur.b H.g e) (p / 16) d)
      * (H.k (e + r) d * Real.exp (min (Recur.rf (Recur.b H.g e) (p / 16) d - Recur.b H.g e r d) 80)))
    fun i p d hp => by rw [show (16 * i.val + p) / 16 = i.val by omega], mask_up]
  refine up_congr fun p _ r _ => ?_
  split_ifs with h
  · exact Recur.sc_sub hok.g0 hok.g5 h
  · rw [Recur.sc_of_lt (by omega)]

include hok in
theorem o_up (ho : ∀ t x, H.o t x = ∑ s ∈ range T, Recur.sc H.g H.q H.k t s * H.hv s x) (he : e + 128 ≤ T) :
    (inAt H w e).o (stAt H e) = up fun p x => H.o (e + p) x := by
  unfold In.o
  rw [a_up H w e hok, q_up, b_up H w e hok]
  simp only [inAt, stAt, exp_up, mul_up, tb_up]
  refine Eq.trans (congrArg₂ addf (dot_nn _ _) (dot_nt _ _)) ?_
  rw [add_up]
  refine up_congr fun p hp x _ => ?_
  rw [ho, Recur.o_row hp he]

include hok in
theorem next_up : (inAt H w e).next (stAt H e) = stAt H (e + 128) := by
  unfold In.next
  rw [k_up, b_up H w e hok]
  simp only [inAt, stAt, bl_up, exp_upr, down_up, ekl_up, mul_up, tb_up]
  refine Eq.trans (congrArg (addf _) (dot_tn _ _)) ?_
  rw [add_up]
  exact up_congr fun x _ d _ => Recur.st_chunk.symm

include hok in
theorem og_up (ho : ∀ t x, H.o t x = ∑ s ∈ range T, Recur.sc H.g H.q H.k t s * H.hv s x) (he : e + 128 ≤ T) :
    (inAt H w e).og (stAt H e) = tb (mulf (mulf (up fun p x => H.o (e + p) x * H.R (e + p)) (down w))
      (up fun p x => H.hg (e + p) x * lgs (H.hg (e + p) x))) := by
  unfold In.og
  rw [o_up H w e T hok ho he]
  simp only [inAt, oh, rs_up, sg_up, mul_up]
  rfl

end

end Cert.HgrnFwdIdeal.Scan

end
-- ==== Proof.FwdGrid.lean ====
/-
  The grid of the forward pass: after each point the blocks hold the point's rows of the running decay, the scores, the output and its
  gated form, and the state has moved on by four chunks.
-/
module

public import proofs.«01_k».proof.Proof.FwdLocal
public import proofs.«01_k».proof.Proof.Grid

@[expose] public section

set_option maxRecDepth 16384

noncomputable section

namespace Cert.HgrnFwdIdeal.Scan

open Cert.HgrnFwdIdeal Cert.HgrnFwdIdeal.Gen Idealize Idealize.ShloMosaic Finset
open Cert.KernelIdeal.Chunk (fillS rU rX rG rT rS inb_LG inb_S tb oh down up upr lbs Ok Args skip_s cast_there exists_s mul_up)
open Cert.KernelIdeal.Chunk.Args (rU_0 rU_1 rX_0 rX_1 lbs_up cast_three)
open Head (lgs)

variable (A : Args) (W : FVec Ideal S1x512 .f32) (E : ℕ)

/-- The norm's weight of a lane; it may be anything. -/
def wAt (c : ℕ) : EReal := if h : c < 512 then W (ix2 0 ⟨c, h⟩) else 0
def wRow (h : ℕ) : FVec Ideal S1x128 .f32 := fun ix => wAt W (128 * h + (ix 1).val)

/-- A row of the gated output. -/
def ogAt (t c : ℕ) : EReal :=
  (((A.head (c / 128)).o t (c % 128) * (A.head (c / 128)).R t : ℝ) : EReal) * wAt W c
    * (((A.head (c / 128)).hg t (c % 128) * lgs ((A.head (c / 128)).hg t (c % 128)) : ℝ) : EReal)
def bG : FVec Ideal S512x512 .bf16 := fun y => ogAt A W (E + (y 0).val) (y 1).val

/-- The block of the state before row `m`. -/
def sBlk (m : ℕ) : FVec Ideal S4x128x128 .f32 := fun y =>
  ((Recur.st (A.head (y 0).val).g (A.head (y 0).val).k (A.head (y 0).val).hv m (y 1).val (y 2).val : ℝ) : EReal)

section

variable (arg1 : Memref sig .tc .vmem S512x2048 .f32) (harg1 : arg1.IsWhole) (arg2 : Memref sig .tc .vmem S2x512 .f32) (harg2 : arg2.IsWhole)
  (arg3 : Memref sig .tc .vmem S1x512 .f32) (harg3 : arg3.IsWhole)

theorem load_u (o : ℕ) (ho : o ≤ 1536) (c h : Fin 4) :
    arg1.view.readAt (Elt Ideal) (rU o ho c h).toLoadRect (harg1.unread (A.bU E))
      = (up fun p d => A.u (E + 128 * c.val + p) (o + 128 * h.val + d) : FVec Ideal S128x128 .f32) := by
  funext x
  rw [Memref.IsWhole.readAt_unread]
  unfold Args.bU up
  rw [rU_0, rU_1, ← add_assoc E]

/-- What a chunk reads. -/
theorem inp_up (c h : Fin 4) :
    inp arg1 harg1 arg2 harg2 arg3 harg3 (A.bU E) A.bLG W c h = inAt (A.head h.val) (wRow W h.val) (E + 128 * c.val) := by
  have hl : arg2.view.readAt (Elt Ideal) (Rect.unit (s := S2x512) ![0, 0] S2x512.size inb_LG).toLoadRect (harg2.unread A.bLG) = A.bLG := by
    funext x
    rw [Memref.IsWhole.readAt_unread]
    congr 1
    funext a; apply Fin.ext
    fin_cases a
    · change 0 + 1 * (x 0).val = _; simp
    · change 0 + 1 * (x 1).val = _; simp
  have hg : arg3.view.readAt (Elt Ideal) (rG h).toLoadRect (harg3.unread W) = wRow W h.val := by
    funext x
    rw [Memref.IsWhole.readAt_unread]
    have x0 : (x 0).val = 0 := Nat.lt_one_iff.1 (x 0).isLt
    have x1 : (x 1).val < 128 := (x 1).isLt
    have hlt : 128 * h.val + (x 1).val < 512 := by omega
    unfold wRow wAt
    rw [dif_pos hlt]
    congr 1
    funext a; apply Fin.ext
    fin_cases a
    · change 0 + 1 * (x 0).val = 0; omega
    · change 128 * h.val + 1 * (x 1).val = 128 * h.val + (x 1).val; omega
  unfold inp
  rw [load_u, load_u, load_u, load_u, hl, lbs_up, hg]
  unfold inAt
  simp only [Args.head, Args.pre, Nat.zero_add]

end

/-! ## The state from chunk to chunk -/

section

variable (arg9 : Memref sig .tc .vmem S4x128x128 .f32) (harg9 : arg9.IsWhole)

theorem again_skip (I : Fin 4 → In Ideal) (t : Fin 4 → FVec Ideal S1x128x128 .f32) (L : List (View.Piece (Elt Ideal) S4x128x128 .f32)) (h' h : Fin 4)
    (hn : h' ≠ h) : again arg9 (pS I t h' :: L) h = again arg9 L h := View.readCov_skip arg9.view (rS h') _ L (rS h).toLoadRect (skip_s h' h hn)
theorem again_hit (I : Fin 4 → In Ideal) (t : Fin 4 → FVec Ideal S1x128x128 .f32) (L : List (View.Piece (Elt Ideal) S4x128x128 .f32)) (h : Fin 4) :
    again arg9 (pS I t h :: L) h = shapeCast S1x128x128 ((I h).next (sq (t h))) shapeCasts_S128x128_S1x128x128 :=
  View.readCov_cons_toLoadRect arg9.view (rS h) _ L

/-- A load of the state after a chunk's stores. -/
theorem again_step (I : Fin 4 → In Ideal) (t : Fin 4 → FVec Ideal S1x128x128 .f32) (L : List (View.Piece (Elt Ideal) S4x128x128 .f32)) (h : Fin 4) :
    again arg9 (stepS I t L) h = shapeCast S1x128x128 ((I h).next (sq (t h))) shapeCasts_S128x128_S1x128x128 := by
  unfold stepS
  match h with
  | 0 => rw [again_skip _ _ _ _ 3 0 (by decide), again_skip _ _ _ _ 2 0 (by decide), again_skip _ _ _ _ 1 0 (by decide), again_hit]
  | 1 => rw [again_skip _ _ _ _ 3 1 (by decide), again_skip _ _ _ _ 2 1 (by decide), again_hit]
  | 2 => rw [again_skip _ _ _ _ 3 2 (by decide), again_hit]
  | 3 => rw [again_hit]

/-- The loads `t` hold the state before row `m`. -/
def At (t : Fin 4 → FVec Ideal S1x128x128 .f32) (m : ℕ) : Prop := ∀ h : Fin 4, sq (t h) = stAt (A.head h.val) m

variable (I : Fin 4 → Fin 4 → In Ideal) (hI : ∀ c h : Fin 4, I c h = inAt (A.head h.val) (wRow W h.val) (E + 128 * c.val)) (hok : ∀ h, Ok (A.head h))

include hI hok in
theorem at_step (c : Fin 4) (t : Fin 4 → FVec Ideal S1x128x128 .f32) (L : List (View.Piece (Elt Ideal) S4x128x128 .f32))
    (ht : At A t (E + 128 * c.val)) : At A (again arg9 (stepS (I c) t L)) (E + 128 * c.val + 128) := fun h => by
  rw [again_step]
  refine (cast_there _).trans ?_
  rw [ht h, hI, next_up _ _ _ (hok _)]

variable (t0 : Fin 4 → FVec Ideal S1x128x128 .f32) (L0 : List (View.Piece (Elt Ideal) S4x128x128 .f32)) (ht : At A t0 E)

include hI hok ht in
theorem at_before : ∀ c : Fin 4, At A (before arg9 I t0 L0 c) (E + 128 * c.val) := by
  have h1 := at_step A W E arg9 I hI hok 0 t0 L0 ht
  have h2 := at_step A W E arg9 I hI hok 1 _ (L1 I t0 L0) h1
  have h3 := at_step A W E arg9 I hI hok 2 _ (L2 arg9 I t0 L0) h2
  intro c
  match c with
  | 0 => exact ht
  | 1 => exact h1
  | 2 => exact h2
  | 3 => exact h3

include hI hok ht in
theorem at_4 : At A (again arg9 (L4 arg9 I t0 L0)) (E + 512) :=
  at_step A W E arg9 I hI hok 3 _ _ (at_before A W E arg9 I hI hok t0 L0 ht 3)

theorem canon_of_at (L : List (View.Piece (Elt Ideal) S4x128x128 .f32)) (m : ℕ) (h : At A (again arg9 L) m) : View.canon L = sBlk A m := by
  funext y
  obtain ⟨k, x, rfl, h1, h2, h3, h4⟩ := exists_s y
  have e : again arg9 L k x = View.canon L ((rS k).emb x) := by
    unfold again; rw [View.readCov_eq_canon']; rfl
  rw [← e]
  rw [← Cert.KernelIdeal.Chunk.cast_back (again arg9 L k)]
  refine (congrFun (congrArg (fun v => shapeCast S1x128x128 v shapeCasts_S128x128_S1x128x128) (h k)) x).trans ?_
  pointwise [stAt, up, sBlk]
  rw [← h1, ← h2, h4]

theorem fill_at : At A (again arg9 fillS) 0 := fun h => by
  have e : again (F := Ideal) arg9 fillS h = (fun _ => ((0 : ℝ) : EReal) : FVec Ideal S1x128x128 .f32) := by
    unfold again fillS
    rw [View.readCov_fill arg9.view inb_S _ _ _ (by decide)]
    funext ix
    change (Ideal.ofBits .f32 0x00000000#32) = _
    simp
  rw [e]
  unfold stAt sq
  funext ix; pointwise [up]
  simp [Recur.st]

theorem read_at : At A (fun h => arg9.view.readAt (Elt Ideal) (rS h).toLoadRect (harg9.unread (sBlk A E))) E := fun h => by
  have e : arg9.view.readAt (Elt Ideal) (rS h).toLoadRect (harg9.unread (sBlk A E))
      = (fun x => ((Recur.st (A.head h.val).g (A.head h.val).k (A.head h.val).hv E (x 1).val (x 2).val : ℝ) : EReal) : FVec Ideal S1x128x128 .f32) := by
    funext x
    rw [Memref.IsWhole.readAt_unread]
    have x0 : (x 0).val = 0 := Nat.lt_one_iff.1 (x 0).isLt
    unfold sBlk
    rw [show ((rS h).toLoadRect.idx x 0).val = h.val by change h.val + 1 * (x 0).val = _; omega,
      show ((rS h).toLoadRect.idx x 1).val = (x 1).val by change 0 + 1 * (x 1).val = _; omega,
      show ((rS h).toLoadRect.idx x 2).val = (x 2).val by change 0 + 1 * (x 2).val = _; omega]
  refine (congrArg sq e).trans ?_
  exact cast_three fun x d => ((Recur.st (A.head h.val).g (A.head h.val).k (A.head h.val).hv E x d : ℝ) : EReal)

/-! ## The stores as blocks -/

theorem mem_X {ty : EltTy} (blk : Vec Ideal S512x512 ty) (f : Fin 4 → Fin 4 → Vec Ideal S128x128 ty)
    (hf : ∀ (c h : Fin 4) (x : (rX c h).shape.Idx), f c h x = blk ((rX c h).emb x))
    (p : View.Piece (Elt Ideal) S512x512 ty) (hp : p ∈ fourX f) (x : p.1.shape.Idx) : p.2 x = blk (p.1.emb x) := by
  have one : ∀ c, View.PiecesOf blk (pX (F := Ideal) c (f c)) := fun c => ⟨hf c 3, hf c 2, hf c 1, hf c 0, trivial⟩
  unfold fourX at hp
  rcases List.mem_append.mp hp with h | hp
  · exact (one 3).mem p h x
  rcases List.mem_append.mp hp with h | hp
  · exact (one 2).mem p h x
  rcases List.mem_append.mp hp with h | h
  · exact (one 1).mem p h x
  · exact (one 0).mem p h x

theorem eX_0 (c h : Fin 4) (x : (rX c h).shape.Idx) : (((rX c h).emb x) 0).val = 128 * c.val + (x 0).val := rX_0 c h x
theorem eX_1 (c h : Fin 4) (x : (rX c h).shape.Idx) : (((rX c h).emb x) 1).val = 128 * h.val + (x 1).val := rX_1 c h x
theorem d_1 (c h : Fin 4) (x : (rX c h).shape.Idx) : (128 * h.val + (x 1).val) / 128 = h.val := by have : (x 1).val < 128 := (x 1).isLt; omega
theorem m_1 (c h : Fin 4) (x : (rX c h).shape.Idx) : (128 * h.val + (x 1).val) % 128 = (x 1).val := by have : (x 1).val < 128 := (x 1).isLt; omega
theorem d_0 (c h : Fin 4) (x : (rX c h).shape.Idx) : (128 * c.val + (x 0).val) / 128 = c.val := by have : (x 0).val < 128 := (x 0).isLt; omega
theorem m_0 (c h : Fin 4) (x : (rX c h).shape.Idx) : (128 * c.val + (x 0).val) % 128 = (x 0).val := by have : (x 0).val < 128 := (x 0).isLt; omega

include hI hok in
theorem mem_b (p : View.Piece (Elt Ideal) S512x512 .f32) (hp : p ∈ listB I) (x : p.1.shape.Idx) : p.2 x = A.bB E (p.1.emb x) := by
  refine mem_X (A.bB E) _ (fun c h x => ?_) p hp x
  rw [hI, b_up _ _ _ (hok _)]
  unfold Args.bB up
  rw [eX_0, eX_1, d_1, m_1, d_0, m_0]

include hI hok in
theorem mem_a (p : View.Piece (Elt Ideal) S512x512 .bf16) (hp : p ∈ listA I) (x : p.1.shape.Idx) : p.2 x = A.bA E (p.1.emb x) := by
  refine mem_X (A.bA E) _ (fun c h x => ?_) p hp x
  rw [hI, a_up _ _ _ (hok _)]
  unfold Args.bA
  rw [eX_0, eX_1, d_1, m_1, d_0, ← add_assoc E]
  rfl

variable (hE : E + 512 ≤ 8192)

include hI hok ht hE in
theorem mem_o (p : View.Piece (Elt Ideal) S512x512 .f32) (hp : p ∈ listO arg9 I t0 L0) (x : p.1.shape.Idx) : p.2 x = A.bO E (p.1.emb x) := by
  refine mem_X (A.bO E) _ (fun c h x => ?_) p hp x
  rw [hI, at_before A W E arg9 I hI hok t0 L0 ht c h, o_up _ _ _ 8192 (hok _) (fun _ _ => rfl) (by omega)]
  unfold Args.bO up
  rw [eX_0, eX_1, d_1, m_1, ← add_assoc E]

include hI hok ht hE in
theorem mem_g (p : View.Piece (Elt Ideal) S512x512 .bf16) (hp : p ∈ listG arg9 I t0 L0) (x : p.1.shape.Idx) : p.2 x = bG A W E (p.1.emb x) := by
  refine mem_X (bG A W E) _ (fun c h x => ?_) p hp x
  rw [hI, at_before A W E arg9 I hI hok t0 L0 ht c h, og_up _ _ _ 8192 (hok _) (fun _ _ => rfl) (by omega)]
  unfold bG ogAt
  rw [eX_0, eX_1, d_1, m_1, ← add_assoc E]
  have e : down (wRow W h.val) x = wAt W (128 * h.val + (x 1).val) := by
    pointwise [down, wRow]
  rw [← e]
  rfl

theorem eT (c h : Fin 4) (x : (rT c h).shape.Idx) : (((rT c h).emb x) 0).val = c.val ∧ (((rT c h).emb x) 1).val = h.val
    ∧ (((rT c h).emb x) 2).val = (x 2).val ∧ (((rT c h).emb x) 3).val = (x 3).val := by
  have z0 : (x 0).val = 0 := Nat.lt_one_iff.1 (x 0).isLt
  have z1 : (x 1).val = 0 := Nat.lt_one_iff.1 (x 1).isLt
  refine ⟨?_, ?_, ?_, ?_⟩
  · change c.val + 1 * (x 0).val = _; omega
  · change h.val + 1 * (x 1).val = _; omega
  · change 0 + 1 * (x 2).val = _; omega
  · change 0 + 1 * (x 3).val = _; omega

include hI hok ht in
theorem mem_t (p : View.Piece (Elt Ideal) S4x4x128x128 .f32) (hp : p ∈ listT arg9 I t0 L0) (x : p.1.shape.Idx) : p.2 x = A.bST E (p.1.emb x) := by
  have hf : ∀ (c h : Fin 4) (x : (rT c h).shape.Idx),
      shapeCast S1x1x128x128 (sq (before arg9 I t0 L0 c h)) shapeCasts_S128x128_S1x1x128x128 x = A.bST E ((rT c h).emb x) := by
    intro c h x
    rw [at_before A W E arg9 I hI hok t0 L0 ht c h]
    obtain ⟨e0, e1, e2, e3⟩ := eT c h x
    unfold Args.bST
    rw [e0, e1, e2, e3]
    pointwise [stAt, up]
  have one : ∀ c, View.PiecesOf (A.bST E) (pT (F := Ideal) c (before arg9 I t0 L0 c)) := fun c => ⟨hf c 3, hf c 2, hf c 1, hf c 0, trivial⟩
  unfold listT at hp
  rcases List.mem_append.mp hp with h | hp
  · exact (one 3).mem p h x
  rcases List.mem_append.mp hp with h | hp
  · exact (one 2).mem p h x
  rcases List.mem_append.mp hp with h | h
  · exact (one 1).mem p h x
  · exact (one 0).mem p h x

end

/-! ## What a point leaves -/

section

variable (c : Dev nD) (i : grid0.Coords) (arg1 : Memref sig .tc .vmem S512x2048 .f32) (harg1 : arg1.IsWhole) (arg2 : Memref sig .tc .vmem S2x512 .f32) (harg2 : arg2.IsWhole) (arg3 : Memref sig .tc .vmem S1x512 .f32) (harg3 : arg3.IsWhole) (arg4 : Memref sig .tc .vmem S512x512 .bf16) (harg4 : arg4.IsWhole) (arg5 : Memref sig .tc .vmem S4x4x128x128 .f32) (harg5 : arg5.IsWhole) (arg6 : Memref sig .tc .vmem S512x512 .f32) (harg6 : arg6.IsWhole) (arg7 : Memref sig .tc .vmem S512x512 .bf16) (harg7 : arg7.IsWhole) (arg8 : Memref sig .tc .vmem S512x512 .f32) (harg8 : arg8.IsWhole) (arg9 : Memref sig .tc .vmem S4x128x128 .f32) (harg9 : arg9.IsWhole)
  (hok : ∀ h, Ok (A.head h)) (hE : E + 512 ≤ 8192)

section

variable (hc0 : cond0_0 i) (hA : E = 0)

include hok hE hA in
theorem g_A : out0_A_3 (F := Ideal) c i arg1 harg1 arg2 harg2 arg3 harg3 arg4 harg4 arg5 harg5 arg6 harg6 arg7 harg7 arg8 harg8 arg9 harg9 hc0 (A.bU E) A.bLG W = bG A W E := by
  have hL := listG_A (F := Ideal) c i arg1 harg1 arg2 harg2 arg3 harg3 arg4 harg4 arg5 harg5 arg6 harg6 arg7 harg7 arg8 harg8 arg9 harg9 hc0 (A.bU E) A.bLG W
  funext y
  unfold out0_A_3
  rw [View.read_writes_junk_apply_eq_canon]
  refine (congrFun (congrArg View.canon hL) y).trans ?_
  exact View.canon_apply_of_pieces _ _ (mem_g A W E arg9 _ (inp_up A W E arg1 harg1 arg2 harg2 arg3 harg3) hok _ _ (hA ▸ fill_at A arg9) hE) y (hL ▸ cover0_A_3 (F := Ideal) c i arg1 harg1 arg2 harg2 arg3 harg3 arg4 harg4 arg5 harg5 arg6 harg6 arg7 harg7 arg8 harg8 arg9 harg9 hc0 (A.bU E) A.bLG W y)

include hok hE hA in
theorem t_A : out0_A_4 (F := Ideal) c i arg1 harg1 arg2 harg2 arg3 harg3 arg4 harg4 arg5 harg5 arg6 harg6 arg7 harg7 arg8 harg8 arg9 harg9 hc0 (A.bU E) A.bLG W = A.bST E := by
  have hL := listT_A (F := Ideal) c i arg1 harg1 arg2 harg2 arg3 harg3 arg4 harg4 arg5 harg5 arg6 harg6 arg7 harg7 arg8 harg8 arg9 harg9 hc0 (A.bU E) A.bLG W
  funext y
  unfold out0_A_4
  rw [View.read_writes_junk_apply_eq_canon]
  refine (congrFun (congrArg View.canon hL) y).trans ?_
  exact View.canon_apply_of_pieces _ _ (mem_t A W E arg9 _ (inp_up A W E arg1 harg1 arg2 harg2 arg3 harg3) hok _ _ (hA ▸ fill_at A arg9)) y (hL ▸ cover0_A_4 (F := Ideal) c i arg1 harg1 arg2 harg2 arg3 harg3 arg4 harg4 arg5 harg5 arg6 harg6 arg7 harg7 arg8 harg8 arg9 harg9 hc0 (A.bU E) A.bLG W y)

include hok hE hA in
theorem b_A : out0_A_5 (F := Ideal) c i arg1 harg1 arg2 harg2 arg3 harg3 arg4 harg4 arg5 harg5 arg6 harg6 arg7 harg7 arg8 harg8 arg9 harg9 hc0 (A.bU E) A.bLG W = A.bB E := by
  have hL := listB_A (F := Ideal) c i arg1 harg1 arg2 harg2 arg3 harg3 arg4 harg4 arg5 harg5 arg6 harg6 arg7 harg7 arg8 harg8 arg9 harg9 hc0 (A.bU E) A.bLG W
  funext y
  unfold out0_A_5
  rw [View.read_writes_junk_apply_eq_canon]
  refine (congrFun (congrArg View.canon hL) y).trans ?_
  exact View.canon_apply_of_pieces _ _ (mem_b A W E _ (inp_up A W E arg1 harg1 arg2 harg2 arg3 harg3) hok) y (hL ▸ cover0_A_5 (F := Ideal) c i arg1 harg1 arg2 harg2 arg3 harg3 arg4 harg4 arg5 harg5 arg6 harg6 arg7 harg7 arg8 harg8 arg9 harg9 hc0 (A.bU E) A.bLG W y)

include hok hE hA in
theorem a_A : out0_A_6 (F := Ideal) c i arg1 harg1 arg2 harg2 arg3 harg3 arg4 harg4 arg5 harg5 arg6 harg6 arg7 harg7 arg8 harg8 arg9 harg9 hc0 (A.bU E) A.bLG W = A.bA E := by
  have hL := listA_A (F := Ideal) c i arg1 harg1 arg2 harg2 arg3 harg3 arg4 harg4 arg5 harg5 arg6 harg6 arg7 harg7 arg8 harg8 arg9 harg9 hc0 (A.bU E) A.bLG W
  funext y
  unfold out0_A_6
  rw [View.read_writes_junk_apply_eq_canon]
  refine (congrFun (congrArg View.canon hL) y).trans ?_
  exact View.canon_apply_of_pieces _ _ (mem_a A W E _ (inp_up A W E arg1 harg1 arg2 harg2 arg3 harg3) hok) y (hL ▸ cover0_A_6 (F := Ideal) c i arg1 harg1 arg2 harg2 arg3 harg3 arg4 harg4 arg5 harg5 arg6 harg6 arg7 harg7 arg8 harg8 arg9 harg9 hc0 (A.bU E) A.bLG W y)

include hok hE hA in
theorem o_A : out0_A_7 (F := Ideal) c i arg1 harg1 arg2 harg2 arg3 harg3 arg4 harg4 arg5 harg5 arg6 harg6 arg7 harg7 arg8 harg8 arg9 harg9 hc0 (A.bU E) A.bLG W = A.bO E := by
  have hL := listO_A (F := Ideal) c i arg1 harg1 arg2 harg2 arg3 harg3 arg4 harg4 arg5 harg5 arg6 harg6 arg7 harg7 arg8 harg8 arg9 harg9 hc0 (A.bU E) A.bLG W
  funext y
  unfold out0_A_7
  rw [View.read_writes_junk_apply_eq_canon]
  refine (congrFun (congrArg View.canon hL) y).trans ?_
  exact View.canon_apply_of_pieces _ _ (mem_o A W E arg9 _ (inp_up A W E arg1 harg1 arg2 harg2 arg3 harg3) hok _ _ (hA ▸ fill_at A arg9) hE) y (hL ▸ cover0_A_7 (F := Ideal) c i arg1 harg1 arg2 harg2 arg3 harg3 arg4 harg4 arg5 harg5 arg6 harg6 arg7 harg7 arg8 harg8 arg9 harg9 hc0 (A.bU E) A.bLG W y)

include hok hE hA in
theorem s_A : sout0_A_0 (F := Ideal) c i arg1 harg1 arg2 harg2 arg3 harg3 arg4 harg4 arg5 harg5 arg6 harg6 arg7 harg7 arg8 harg8 arg9 harg9 hc0 (A.bU E) A.bLG W = sBlk A (E + 512) := by
  funext y
  unfold sout0_A_0
  rw [View.read_writes_junk_apply_eq_canon]
  refine (congrFun (congrArg View.canon (listS_A (F := Ideal) c i arg1 harg1 arg2 harg2 arg3 harg3 arg4 harg4 arg5 harg5 arg6 harg6 arg7 harg7 arg8 harg8 arg9 harg9 hc0 (A.bU E) A.bLG W)) y).trans ?_
  exact congrFun (canon_of_at A arg9 _ (E + 512) (at_4 A W E arg9 _ (inp_up A W E arg1 harg1 arg2 harg2 arg3 harg3) hok _ _ (hA ▸ fill_at A arg9))) y

end

section

variable (hc0 : ¬cond0_0 i)

include hok hE in
theorem g_B : out0_B_3 (F := Ideal) c i arg1 harg1 arg2 harg2 arg3 harg3 arg4 harg4 arg5 harg5 arg6 harg6 arg7 harg7 arg8 harg8 arg9 harg9 hc0 (A.bU E) A.bLG W (sBlk A E) = bG A W E := by
  have hL := listG_B (F := Ideal) c i arg1 harg1 arg2 harg2 arg3 harg3 arg4 harg4 arg5 harg5 arg6 harg6 arg7 harg7 arg8 harg8 arg9 harg9 hc0 (A.bU E) A.bLG W (sBlk A E)
  funext y
  unfold out0_B_3
  rw [View.read_writes_junk_apply_eq_canon]
  refine (congrFun (congrArg View.canon hL) y).trans ?_
  exact View.canon_apply_of_pieces _ _ (mem_g A W E arg9 _ (inp_up A W E arg1 harg1 arg2 harg2 arg3 harg3) hok _ _ (read_at A E arg9 harg9) hE) y (hL ▸ cover0_B_3 (F := Ideal) c i arg1 harg1 arg2 harg2 arg3 harg3 arg4 harg4 arg5 harg5 arg6 harg6 arg7 harg7 arg8 harg8 arg9 harg9 hc0 (A.bU E) A.bLG W (sBlk A E) y)

include hok hE in
theorem t_B : out0_B_4 (F := Ideal) c i arg1 harg1 arg2 harg2 arg3 harg3 arg4 harg4 arg5 harg5 arg6 harg6 arg7 harg7 arg8 harg8 arg9 harg9 hc0 (A.bU E) A.bLG W (sBlk A E) = A.bST E := by
  have hL := listT_B (F := Ideal) c i arg1 harg1 arg2 harg2 arg3 harg3 arg4 harg4 arg5 harg5 arg6 harg6 arg7 harg7 arg8 harg8 arg9 harg9 hc0 (A.bU E) A.bLG W (sBlk A E)
  funext y
  unfold out0_B_4
  rw [View.read_writes_junk_apply_eq_canon]
  refine (congrFun (congrArg View.canon hL) y).trans ?_
  exact View.canon_apply_of_pieces _ _ (mem_t A W E arg9 _ (inp_up A W E arg1 harg1 arg2 harg2 arg3 harg3) hok _ _ (read_at A E arg9 harg9)) y (hL ▸ cover0_B_4 (F := Ideal) c i arg1 harg1 arg2 harg2 arg3 harg3 arg4 harg4 arg5 harg5 arg6 harg6 arg7 harg7 arg8 harg8 arg9 harg9 hc0 (A.bU E) A.bLG W (sBlk A E) y)

include hok hE in
theorem b_B : out0_B_5 (F := Ideal) c i arg1 harg1 arg2 harg2 arg3 harg3 arg4 harg4 arg5 harg5 arg6 harg6 arg7 harg7 arg8 harg8 arg9 harg9 hc0 (A.bU E) A.bLG W (sBlk A E) = A.bB E := by
  have hL := listB_B (F := Ideal) c i arg1 harg1 arg2 harg2 arg3 harg3 arg4 harg4 arg5 harg5 arg6 harg6 arg7 harg7 arg8 harg8 arg9 harg9 hc0 (A.bU E) A.bLG W (sBlk A E)
  funext y
  unfold out0_B_5
  rw [View.read_writes_junk_apply_eq_canon]
  refine (congrFun (congrArg View.canon hL) y).trans ?_
  exact View.canon_apply_of_pieces _ _ (mem_b A W E _ (inp_up A W E arg1 harg1 arg2 harg2 arg3 harg3) hok) y (hL ▸ cover0_B_5 (F := Ideal) c i arg1 harg1 arg2 harg2 arg3 harg3 arg4 harg4 arg5 harg5 arg6 harg6 arg7 harg7 arg8 harg8 arg9 harg9 hc0 (A.bU E) A.bLG W (sBlk A E) y)

include hok hE in
theorem a_B : out0_B_6 (F := Ideal) c i arg1 harg1 arg2 harg2 arg3 harg3 arg4 harg4 arg5 harg5 arg6 harg6 arg7 harg7 arg8 harg8 arg9 harg9 hc0 (A.bU E) A.bLG W (sBlk A E) = A.bA E := by
  have hL := listA_B (F := Ideal) c i arg1 harg1 arg2 harg2 arg3 harg3 arg4 harg4 arg5 harg5 arg6 harg6 arg7 harg7 arg8 harg8 arg9 harg9 hc0 (A.bU E) A.bLG W (sBlk A E)
  funext y
  unfold out0_B_6
  rw [View.read_writes_junk_apply_eq_canon]
  refine (congrFun (congrArg View.canon hL) y).trans ?_
  exact View.canon_apply_of_pieces _ _ (mem_a A W E _ (inp_up A W E arg1 harg1 arg2 harg2 arg3 harg3) hok) y (hL ▸ cover0_B_6 (F := Ideal) c i arg1 harg1 arg2 harg2 arg3 harg3 arg4 harg4 arg5 harg5 arg6 harg6 arg7 harg7 arg8 harg8 arg9 harg9 hc0 (A.bU E) A.bLG W (sBlk A E) y)

include hok hE in
theorem o_B : out0_B_7 (F := Ideal) c i arg1 harg1 arg2 harg2 arg3 harg3 arg4 harg4 arg5 harg5 arg6 harg6 arg7 harg7 arg8 harg8 arg9 harg9 hc0 (A.bU E) A.bLG W (sBlk A E) = A.bO E := by
  have hL := listO_B (F := Ideal) c i arg1 harg1 arg2 harg2 arg3 harg3 arg4 harg4 arg5 harg5 arg6 harg6 arg7 harg7 arg8 harg8 arg9 harg9 hc0 (A.bU E) A.bLG W (sBlk A E)
  funext y
  unfold out0_B_7
  rw [View.read_writes_junk_apply_eq_canon]
  refine (congrFun (congrArg View.canon hL) y).trans ?_
  exact View.canon_apply_of_pieces _ _ (mem_o A W E arg9 _ (inp_up A W E arg1 harg1 arg2 harg2 arg3 harg3) hok _ _ (read_at A E arg9 harg9) hE) y (hL ▸ cover0_B_7 (F := Ideal) c i arg1 harg1 arg2 harg2 arg3 harg3 arg4 harg4 arg5 harg5 arg6 harg6 arg7 harg7 arg8 harg8 arg9 harg9 hc0 (A.bU E) A.bLG W (sBlk A E) y)

include hok hE in
theorem s_B : sout0_B_0 (F := Ideal) c i arg1 harg1 arg2 harg2 arg3 harg3 arg4 harg4 arg5 harg5 arg6 harg6 arg7 harg7 arg8 harg8 arg9 harg9 hc0 (A.bU E) A.bLG W (sBlk A E) = sBlk A (E + 512) := by
  funext y
  unfold sout0_B_0
  rw [View.read_writes_junk_apply_eq_canon]
  refine (congrFun (congrArg View.canon (listS_B (F := Ideal) c i arg1 harg1 arg2 harg2 arg3 harg3 arg4 harg4 arg5 harg5 arg6 harg6 arg7 harg7 arg8 harg8 arg9 harg9 hc0 (A.bU E) A.bLG W (sBlk A E))) y).trans ?_
  exact congrFun (canon_of_at A arg9 _ (E + 512) (at_4 A W E arg9 _ (inp_up A W E arg1 harg1 arg2 harg2 arg3 harg3) hok _ _ (read_at A E arg9 harg9))) y

end

end

/-! ## The whole grid -/

variable (m : (ℓ : Loc nD τ sig) → Buf (Elt Ideal) ℓ) (c : Dev nD)

/-- The blocks that the points read are those of the arguments. -/
structure Reads : Prop where
  b0 : ∀ t : Fin cfg0.N, (iblk m c 0 t : Vec Ideal S512x2048 .f32) = A.bU (512 * t.val)
  b1 : ∀ t : Fin cfg0.N, (iblk m c 1 t : Vec Ideal S2x512 .f32) = A.bLG
  b2 : ∀ t : Fin cfg0.N, (iblk m c 2 t : Vec Ideal S1x512 .f32) = W

theorem outs (hok : ∀ h, Ok (A.head h)) (hr : Reads A W m c) (n : ℕ) (hn : n < cfg0.N) :
    outsAt0 m c n hn = (bG A W (512 * n), A.bST (512 * n), A.bB (512 * n), A.bA (512 * n), A.bO (512 * n), sBlk A (512 * n + 512)) := by
  have hN : cfg0.N = 16 := N_0
  have hE : 512 * n + 512 ≤ 8192 := by omega
  induction n with
  | zero =>
    rw [outsAt0_A m c ⟨0, hn⟩ rfl]
    rw [hr.b0, hr.b1, hr.b2]
    rw [g_A A W (512 * 0) _ _ _ _ _ _ _ _ _ _ _ _ _ _ _ _ _ _ _ _ hok hE _ rfl, t_A A W (512 * 0) _ _ _ _ _ _ _ _ _ _ _ _ _ _ _ _ _ _ _ _ hok hE _ rfl, b_A A W (512 * 0) _ _ _ _ _ _ _ _ _ _ _ _ _ _ _ _ _ _ _ _ hok hE _ rfl, a_A A W (512 * 0) _ _ _ _ _ _ _ _ _ _ _ _ _ _ _ _ _ _ _ _ hok hE _ rfl, o_A A W (512 * 0) _ _ _ _ _ _ _ _ _ _ _ _ _ _ _ _ _ _ _ _ hok hE _ rfl, s_A A W (512 * 0) _ _ _ _ _ _ _ _ _ _ _ _ _ _ _ _ _ _ _ _ hok hE _ rfl]
  | succ n ih =>
    rw [outsAt0_B m c ⟨n + 1, hn⟩ (by dsimp only; omega)]
    simp only [Nat.add_sub_cancel]
    rw [ih (by omega) (by omega), hr.b0, hr.b1, hr.b2]
    dsimp only
    rw [show 512 * n + 512 = 512 * (n + 1) by ring]
    rw [g_B A W (512 * (n + 1)) _ _ _ _ _ _ _ _ _ _ _ _ _ _ _ _ _ _ _ _ hok hE, t_B A W (512 * (n + 1)) _ _ _ _ _ _ _ _ _ _ _ _ _ _ _ _ _ _ _ _ hok hE, b_B A W (512 * (n + 1)) _ _ _ _ _ _ _ _ _ _ _ _ _ _ _ _ _ _ _ _ hok hE, a_B A W (512 * (n + 1)) _ _ _ _ _ _ _ _ _ _ _ _ _ _ _ _ _ _ _ _ hok hE, o_B A W (512 * (n + 1)) _ _ _ _ _ _ _ _ _ _ _ _ _ _ _ _ _ _ _ _ hok hE, s_B A W (512 * (n + 1)) _ _ _ _ _ _ _ _ _ _ _ _ _ _ _ _ _ _ _ _ hok hE]

end Cert.HgrnFwdIdeal.Scan

end
-- ==== Proof.HgrnFwd.lean ====
/-
  The gated recurrence's forward pass: from the grid's blocks to the arrays, the reference's numbers, and their agreement.
-/
module

public import proofs.«01_k».proof.Defs
public import proofs.«01_k».proof.Proof.Hgrn
public import proofs.«01_k».proof.Proof.FwdGrid
public import proofs.«01_k».proof.Pre_tame_fwd
public import proofs.«01_k».proof.Proof.Gen.Pre_tame_fwd
public import proofs.«01_k».proof.Proof.Gen.HgrnFwdIdeal.Value
public import proofs.«01_k».proof.Proof.Gen.HgrnFwdRefIdeal.Read
public import proofs.«01_k».proof.Proof.Gen.HgrnFwdRefIdeal.Run

@[expose] public section

set_option maxRecDepth 16384

noncomputable section

namespace Cert.HgrnFwdIdeal.Scan

open Cert.HgrnFwdIdeal Cert.HgrnFwdIdeal.Gen Idealize Idealize.ShloMosaic Idealize.ShloMosaic.TcCoe Finset
open Cert.KernelIdeal.Chunk (Ok Args of_two entry entry_eq entry_le fin_sum)
open Cert.KernelIdeal.Chunk.Args (lgs_coe w128)
open Head (lgs)
open Cert.HgrnFwdRefIdeal.Read

variable (A : Args) (W : FVec Ideal S1x512 .f32)

/-! ## The reference's numbers -/

theorem r68 : val_main_v68 (F := Ideal) A.aU A.bLG = fun y => (((A.head (y 0).val).o (y 1).val (y 2).val : ℝ) : EReal) :=
  (show _ = Cert.ReferenceIdeal.Read.val_main_v109 (F := Ideal) A.aU A.bLG from rfl).trans A.v109

theorem r69 : val_main_v69 (F := Ideal) A.aU A.bLG = fun y => (((A.head (y 1).val).o (y 0).val (y 2).val : ℝ) : EReal) := by
  funext y
  pointwise [val_main_v69, r68 A]

theorem r76 : val_main_v76 (F := Ideal) A.aU A.bLG = fun y => ((A.msq (y 1).val (y 0).val : ℝ) : EReal) := by
  funext y
  pointwise [val_main_v76, val_main_v74, val_main_v72, val_main_v71, val_main_v70, r69 A, val_main_v73, val_main_v75, val_main_cst_4, val_main_cst_5, val_main_cst_6]
  simp only [← EReal.coe_mul]
  rw [fin_sum 128 fun d => (A.head (y 1).val).o (y 0).val d * (A.head (y 1).val).o (y 0).val d, w128, Num.div_coe (by norm_num), Head.eps_spec.2, ← EReal.coe_add]
  rfl

theorem r77 : val_main_v77 (F := Ideal) A.aU A.bLG = fun y => (((A.head (y 1).val).R (y 0).val : ℝ) : EReal) := by
  funext y
  pointwise [val_main_v77, r76 A]
  exact Num.rsqrt_coe (A.msq_pos _ _)

theorem r80 : val_main_v80 (F := Ideal) A.aU A.bLG
    = fun y => (((A.head ((y 1).val / 128)).o (y 0).val ((y 1).val % 128) * (A.head ((y 1).val / 128)).R (y 0).val : ℝ) : EReal) := by
  funext y
  pointwise [val_main_v80, val_main_v79, val_main_v78, r69 A, r77 A]
  rw [← EReal.coe_mul]

theorem r83 : val_main_v83 (F := Ideal) W = fun y => wAt W (y 1).val := by
  funext y
  pointwise [val_main_v83, val_main_v82, val_main_v81, wAt]

theorem r5 : val_main_call6_v5 (F := Ideal) A.aU = fun y => ((lgs (A.u (y 0).val (1536 + (y 1).val)) : ℝ) : EReal) := by
  funext y
  pointwise [val_main_call6_v5, val_main_call6_v4, val_main_call6_v3, val_main_call6_v2, val_main_call6_v1, val_main_call6_v0, val_main_v15, val_main_call6_cst,
    val_main_call6_cst_0, Args.aU]
  exact lgs_coe _

theorem r87 : val_main_v87 (F := Ideal) A.aU A.bLG W = fun y => ogAt A W (y 0).val (y 1).val := by
  funext y
  pointwise [val_main_v87, val_main_v86, val_main_v84, val_main_v85, r80 A, r83 W, r5 A, val_main_v15, Args.aU]
  unfold ogAt
  rw [Args.hg_lane, ← EReal.coe_mul]

theorem r126 : val_main_v126 (F := Ideal) A.aU A.bLG = fun y => ((A.gl (y 0).val (y 1).val : ℝ) : EReal) :=
  (show _ = Cert.ReferenceIdeal.Read.val_main_v57 (F := Ideal) A.aU A.bLG from rfl).trans A.v57
theorem r128 : val_main_v128 (F := Ideal) A.aU A.bLG = fun y => ((A.kl (y 0).val (y 1).val : ℝ) : EReal) :=
  (show _ = Cert.ReferenceIdeal.Read.val_main_v81 (F := Ideal) A.aU A.bLG from rfl).trans A.v81
theorem r129 : val_main_v129 (F := Ideal) A.aU = fun y => ((A.ql (y 0).val (y 1).val : ℝ) : EReal) :=
  (show _ = Cert.ReferenceIdeal.Read.val_main_v82_0 (F := Ideal) A.aU from rfl).trans A.v82q
theorem r135 : val_main_v135 (F := Ideal) A.aU A.bLG = fun y => (((A.head (y 0).val).k (y 1).val (y 2).val : ℝ) : EReal) :=
  (show _ = Cert.ReferenceIdeal.Read.val_main_v88 (F := Ideal) A.aU A.bLG from rfl).trans A.v88
theorem r137 : val_main_v137 (F := Ideal) A.aU = fun y => (((A.head (y 0).val).hv (y 1).val (y 2).val : ℝ) : EReal) :=
  (show _ = Cert.ReferenceIdeal.Read.val_main_v90 (F := Ideal) A.aU from rfl).trans A.v90
theorem r138 : val_main_v138 (F := Ideal) A.aU A.bLG = fun y => ((Recur.P (A.head (y 0).val).g (y 2).val ((y 1).val + 1) : ℝ) : EReal) :=
  (show _ = Cert.ReferenceIdeal.Read.val_main_v91 (F := Ideal) A.aU A.bLG from rfl).trans A.v91
theorem r159 : val_main_v159 (F := Ideal) A.aU A.bLG = fun y => (((A.head (y 0).val).o (y 1).val (y 2).val : ℝ) : EReal) :=
  (show _ = Cert.ReferenceIdeal.Read.val_main_v109 (F := Ideal) A.aU A.bLG from rfl).trans A.v109

/-- The whole arrays. -/
def wG : FVec Ideal S8192x512 .bf16 := fun y => ogAt A W (y 0).val (y 1).val
def wT : FVec Ideal S64x4x128x128 .f32 := fun y =>
  ((Recur.st (A.head (y 1).val).g (A.head (y 1).val).k (A.head (y 1).val).hv (128 * (y 0).val) (y 2).val (y 3).val : ℝ) : EReal)
def wB : FVec Ideal S8192x512 .f32 := fun y =>
  ((Recur.b (A.head ((y 1).val / 128)).g (128 * ((y 0).val / 128)) ((y 0).val % 128) ((y 1).val % 128) : ℝ) : EReal)
def wA : FVec Ideal S8192x512 .bf16 := fun y =>
  ((Recur.sc (A.head ((y 1).val / 128)).g (A.head ((y 1).val / 128)).q (A.head ((y 1).val / 128)).k (y 0).val (128 * ((y 0).val / 128) + (y 1).val % 128) : ℝ) : EReal)
def wO : FVec Ideal S8192x512 .f32 := fun y => (((A.head ((y 1).val / 128)).o (y 0).val ((y 1).val % 128) : ℝ) : EReal)

theorem r141 : val_main_v141 (F := Ideal) A.aU A.bLG = wB A := by
  refine (show _ = Args.kb (val_main_v126 (F := Ideal) A.aU A.bLG) from rfl).trans ?_
  rw [r126]; exact A.kb_num
theorem r161 : val_main_v161 (F := Ideal) A.aU A.bLG = wO A := by
  refine (show _ = Args.ko (val_main_v159 (F := Ideal) A.aU A.bLG) from rfl).trans ?_
  rw [r159]; exact A.ko_num
theorem r184 : val_main_v184 (F := Ideal) A.aU A.bLG = wA A := by
  refine (show _ = Args.ka (val_main_v141 (F := Ideal) A.aU A.bLG) (val_main_v129 (F := Ideal) A.aU) (val_main_v128 (F := Ideal) A.aU A.bLG) from rfl).trans ?_
  rw [r141, r129, r128]; exact A.ka_num
theorem r209 : val_main_v209 (F := Ideal) A.aU A.bLG = wT A := by
  refine (show _ = Args.kst (val_main_v138 (F := Ideal) A.aU A.bLG) (val_main_v135 (F := Ideal) A.aU A.bLG) (val_main_v137 (F := Ideal) A.aU) from rfl).trans ?_
  rw [r138, r135, r137]; exact A.kst_num

/-! ## The grid's arrays -/

variable (m : (ℓ : Loc nD τ sig) → Buf (Elt Ideal) ℓ) (c : Dev nD)

/-- The program's arguments are those numbers. -/
structure Same : Prop where
  h0 : m ((c : Thread nD τ).loc main_arg0) = A.aU
  h1 : m ((c : Thread nD τ).loc main_arg1) = A.bLG
  h2 : m ((c : Thread nD τ).loc main_arg2) = W

/-- Where the blocks lie: from the first to the last. -/
theorem idx : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = t.val ∧ win0_3.index t (1 : Fin 2) = 0)
    ∧ (win0_4.index t (0 : Fin 4) = t.val ∧ win0_4.index t (1 : Fin 4) = 0 ∧ win0_4.index t (2 : Fin 4) = 0 ∧ win0_4.index t (3 : Fin 4) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0) :=
  (by decide +kernel : ∀ t : Fin grid0.N, _)

theorem b_u (t : Fin cfg0.N) (y : S512x2048.Idx) (i : S8192x2048.Idx) (h0 : (i 0).val = t.val * 512 + (y 0).val) (h1 : (i 1).val = (y 1).val) :
    (iblk m c 0 t : Vec Ideal S512x2048 .f32) y = (V m c main_arg0 : Vec Ideal S8192x2048 .f32) i := by
  obtain ⟨⟨e0, e1⟩, -⟩ := idx t
  blk_point [iblk, idx t]

theorem b_lg (t : Fin cfg0.N) (y : S2x512.Idx) (i : S2x512.Idx) (h0 : (i 0).val = (y 0).val) (h1 : (i 1).val = (y 1).val) :
    (iblk m c 1 t : Vec Ideal S2x512 .f32) y = (V m c main_arg1 : Vec Ideal S2x512 .f32) i := by
  obtain ⟨-, ⟨e0, e1⟩, -⟩ := idx t
  blk_point [iblk, idx t]

theorem b_gn (t : Fin cfg0.N) (y : S1x512.Idx) (i : S1x512.Idx) (h0 : (i 0).val = (y 0).val) (h1 : (i 1).val = (y 1).val) :
    (iblk m c 2 t : Vec Ideal S1x512 .f32) y = (V m c main_arg2 : Vec Ideal S1x512 .f32) i := by
  obtain ⟨-, -, ⟨e0, e1⟩, -⟩ := idx t
  blk_point [iblk, idx t]

theorem point_lt (t : Fin cfg0.N) : t.val < 16 := t.isLt.trans_eq N_0
theorem row_lt (t : Fin cfg0.N) {p : ℕ} (hp : p < 512) : t.val * 512 + p < 8192 := by have := point_lt t; omega

variable {A W m c}

theorem Same.reads (h : Same A W m c) : Reads A W m c where
  b0 t := by
    funext y
    refine (b_u m c t y (ix2 ⟨_, row_lt t (y 0).isLt⟩ (y 1)) rfl rfl).trans ?_
    rw [V_main_arg0]
    refine (congrFun h.h0 _).trans ?_
    change ((A.u (t.val * 512 + (y 0).val) (y 1).val : ℝ) : EReal) = ((A.u (512 * t.val + (y 0).val) (y 1).val : ℝ) : EReal)
    rw [mul_comm]
  b1 t := by
    funext y
    refine (b_lg m c t y y rfl rfl).trans ?_
    rw [V_main_arg1]
    exact congrFun h.h1 _
  b2 t := by
    funext y
    refine (b_gn m c t y y rfl rfl).trans ?_
    rw [V_main_arg2]
    exact congrFun h.h2 _

theorem wG_at (y : S512x512.Idx) (i : S8192x512.Idx) (t : ℕ) (h0 : (i 0).val = t * 512 + (y 0).val) (h1 : (i 1).val = (y 1).val) : bG A W (512 * t) y = wG A W i := by
  unfold bG wG
  rw [h0, h1, mul_comm t]
theorem wO_at (y : S512x512.Idx) (i : S8192x512.Idx) (t : ℕ) (h0 : (i 0).val = t * 512 + (y 0).val) (h1 : (i 1).val = (y 1).val) : A.bO (512 * t) y = wO A i := by
  unfold Args.bO wO
  rw [h0, h1, mul_comm t]
theorem wB_at (y : S512x512.Idx) (i : S8192x512.Idx) (t : ℕ) (h0 : (i 0).val = t * 512 + (y 0).val) (h1 : (i 1).val = (y 1).val) : A.bB (512 * t) y = wB A i := by
  unfold Args.bB wB
  rw [h0, h1, show 128 * ((t * 512 + (y 0).val) / 128) = 512 * t + 128 * ((y 0).val / 128) by omega, show (t * 512 + (y 0).val) % 128 = (y 0).val % 128 by omega]
theorem wA_at (y : S512x512.Idx) (i : S8192x512.Idx) (t : ℕ) (h0 : (i 0).val = t * 512 + (y 0).val) (h1 : (i 1).val = (y 1).val) : A.bA (512 * t) y = wA A i := by
  unfold Args.bA wA
  rw [h0, h1, show 128 * ((t * 512 + (y 0).val) / 128) = 512 * t + 128 * ((y 0).val / 128) by omega, mul_comm t]
theorem wT_at (y : S4x4x128x128.Idx) (i : S64x4x128x128.Idx) (t : ℕ) (h0 : (i 0).val = t * 4 + (y 0).val) (h1 : (i 1).val = (y 1).val)
    (h2 : (i 2).val = (y 2).val) (h3 : (i 3).val = (y 3).val) : A.bST (512 * t) y = wT A i := by
  unfold Args.bST wT
  rw [h0, h1, h2, h3, show 128 * (t * 4 + (y 0).val) = 512 * t + 128 * (y 0).val by ring]

variable (hok : ∀ h, Ok (A.head h)) (hs : Same A W m c)

include hok hs

theorem f3 : (dats m 0 c).arrAt 3 cfg0.N = wG A W := by
  refine (dats m 0 c).arrAt_eq_of_covers 3 _ (by decide +kernel) fun t hf y => ?_
  obtain ⟨e0, e1⟩ := (idx t).2.2.2.1
  blk_simp
  rw [after0_3, outs A W m c hok hs.reads t.val t.isLt]
  refine wG_at _ _ t.val ?_ ?_
  · blk_simp [e0]
  · blk_simp [e1]

theorem f5 : (dats m 0 c).arrAt 5 cfg0.N = wB A := by
  refine (dats m 0 c).arrAt_eq_of_covers 5 _ (by decide +kernel) fun t hf y => ?_
  obtain ⟨e0, e1⟩ := (idx t).2.2.2.2.2.1
  blk_simp
  rw [after0_5, outs A W m c hok hs.reads t.val t.isLt]
  refine wB_at _ _ t.val ?_ ?_
  · blk_simp [e0]
  · blk_simp [e1]

theorem f6 : (dats m 0 c).arrAt 6 cfg0.N = wA A := by
  refine (dats m 0 c).arrAt_eq_of_covers 6 _ (by decide +kernel) fun t hf y => ?_
  obtain ⟨e0, e1⟩ := (idx t).2.2.2.2.2.2.1
  blk_simp
  rw [after0_6, outs A W m c hok hs.reads t.val t.isLt]
  refine wA_at _ _ t.val ?_ ?_
  · blk_simp [e0]
  · blk_simp [e1]

theorem f7 : (dats m 0 c).arrAt 7 cfg0.N = wO A := by
  refine (dats m 0 c).arrAt_eq_of_covers 7 _ (by decide +kernel) fun t hf y => ?_
  obtain ⟨e0, e1⟩ := (idx t).2.2.2.2.2.2.2
  blk_simp
  rw [after0_7, outs A W m c hok hs.reads t.val t.isLt]
  refine wO_at _ _ t.val ?_ ?_
  · blk_simp [e0]
  · blk_simp [e1]

theorem f4 : (dats m 0 c).arrAt 4 cfg0.N = wT A := by
  refine (dats m 0 c).arrAt_eq_of_covers 4 _ (by decide +kernel) fun t hf y => ?_
  obtain ⟨e0, e1, e2, e3⟩ := (idx t).2.2.2.2.1
  blk_simp
  rw [after0_4, outs A W m c hok hs.reads t.val t.isLt]
  refine wT_at _ _ t.val ?_ ?_ ?_ ?_
  · blk_simp [e0]
  · blk_simp [e1]
  · blk_simp [e2]
  · blk_simp [e3]

omit hok hs

/-- The numbers that a memory's arguments are. -/
def of (m : (ℓ : Loc nD τ sig) → Buf (Elt Ideal) ℓ) (c : Dev nD) : Args where
  u := entry (m ((c : Thread nD τ).loc main_arg0) : FVec Ideal S8192x2048 .f32)
  lg := entry (m ((c : Thread nD τ).loc main_arg1) : FVec Ideal S2x512 .f32)
  gn := fun _ => 0
  dog := fun _ _ => 0

/-- The norm's weight. -/
abbrev nw (m : (ℓ : Loc nD τ sig) → Buf (Elt Ideal) ℓ) (c : Dev nD) : FVec Ideal S1x512 .f32 := m ((c : Thread nD τ).loc main_arg2)

theorem of_same {m : (ℓ : Loc nD τ sig) → Buf (Elt Ideal) ℓ} (h : Pre_HgrnFwdIdeal_tame_fwd m) (c : Dev nD) :
    Same (of m c) (nw m c) m c ∧ ∀ r d, |(of m c).lg r d| ≤ 2 := by
  obtain ⟨p0, p1⟩ := h c
  have q1 : ∀ i, ∃ r : ℝ, (m ((c : Thread nD τ).loc main_arg1) : FVec Ideal S2x512 .f32) i = (r : EReal) ∧ |r| ≤ 2 := fun i => of_two _ (congrFun p1 i)
  refine ⟨⟨entry_eq _ fun i => Num.of_finite _ (congrFun p0 i), entry_eq _ fun i => ?_, rfl⟩, entry_le _ q1⟩
  obtain ⟨r, hr, _⟩ := q1 i
  exact ⟨r, hr⟩

end Cert.HgrnFwdIdeal.Scan

namespace Cert.HgrnFwdIdeal

open Idealize Idealize.ShloMosaic Idealize.ShloMosaic.TcCoe Idealize.SL.Sem
open Cert.HgrnFwdIdeal.Gen Cert.HgrnFwdIdeal.Scan Cert.HgrnFwdRefIdeal.Read

theorem agrees : Cert.algebraic_HgrnFwdIdeal_HgrnFwdRefIdeal_pre_tame_fwd := by
  intro m g m' g' hp hargs
  have hs := fun c => (of_same hp c).1
  have hok := fun c => (of m c).ok (of_same hp c).2
  refine ⟨fun c => wG (of m c) (nw m c), fun c => wT (of m c), fun c => wB (of m c), fun c => wA (of m c), fun c => wO (of m c), ?_, ?_⟩
  · refine (θ_run Cert.HgrnFwdIdeal.defs _ _).mono (fun r h c => ?_) (Value.run_blocks m g)
    obtain ⟨k0, k1, k2, k3, k4, k⟩ := h c
    exact ⟨k0.trans (f3 (hok c) (hs c)), k1.trans (f4 (hok c) (hs c)), k2.trans (f5 (hok c) (hs c)), k3.trans (f6 (hok c) (hs c)), k4.trans (f7 (hok c) (hs c)), k⟩
  · refine (θ_run Cert.HgrnFwdRefIdeal.defs _ _).mono (fun r h c => ?_) (Cert.HgrnFwdRefIdeal.Value.run (F := Ideal) m' g')
    obtain ⟨h0, h1, h2⟩ := hargs c
    obtain ⟨k0, k1, k2, k3, k4, k⟩ := h c
    have e0 := h0.trans (hs c).h0
    have e1 := h1.trans (hs c).h1
    refine ⟨k0.trans ?_, k1.trans ?_, k2.trans ?_, k3.trans ?_, k4.trans ?_, k⟩
    · rw [val_main_v87_eq]
      change val_main_v87 (F := Ideal) (m' ((c.tc : Thread Cert.HgrnFwdRefIdeal.nD Cert.HgrnFwdRefIdeal.τ).loc Cert.HgrnFwdRefIdeal.main_arg0)) (m' ((c.tc : Thread Cert.HgrnFwdRefIdeal.nD Cert.HgrnFwdRefIdeal.τ).loc Cert.HgrnFwdRefIdeal.main_arg1)) (m' ((c.tc : Thread Cert.HgrnFwdRefIdeal.nD Cert.HgrnFwdRefIdeal.τ).loc Cert.HgrnFwdRefIdeal.main_arg2)) = _
      rw [e0, e1, h2]; exact r87 (of m c) (nw m c)
    · rw [val_main_v209_eq]
      change val_main_v209 (F := Ideal) (m' ((c.tc : Thread Cert.HgrnFwdRefIdeal.nD Cert.HgrnFwdRefIdeal.τ).loc Cert.HgrnFwdRefIdeal.main_arg0)) (m' ((c.tc : Thread Cert.HgrnFwdRefIdeal.nD Cert.HgrnFwdRefIdeal.τ).loc Cert.HgrnFwdRefIdeal.main_arg1)) = _
      rw [e0, e1]; exact r209 (of m c)
    · rw [val_main_v141_eq]
      change val_main_v141 (F := Ideal) (m' ((c.tc : Thread Cert.HgrnFwdRefIdeal.nD Cert.HgrnFwdRefIdeal.τ).loc Cert.HgrnFwdRefIdeal.main_arg0)) (m' ((c.tc : Thread Cert.HgrnFwdRefIdeal.nD Cert.HgrnFwdRefIdeal.τ).loc Cert.HgrnFwdRefIdeal.main_arg1)) = _
      rw [e0, e1]; exact r141 (of m c)
    · rw [val_main_v184_eq]
      change val_main_v184 (F := Ideal) (m' ((c.tc : Thread Cert.HgrnFwdRefIdeal.nD Cert.HgrnFwdRefIdeal.τ).loc Cert.HgrnFwdRefIdeal.main_arg0)) (m' ((c.tc : Thread Cert.HgrnFwdRefIdeal.nD Cert.HgrnFwdRefIdeal.τ).loc Cert.HgrnFwdRefIdeal.main_arg1)) = _
      rw [e0, e1]; exact r184 (of m c)
    · rw [val_main_v161_eq]
      change val_main_v161 (F := Ideal) (m' ((c.tc : Thread Cert.HgrnFwdRefIdeal.nD Cert.HgrnFwdRefIdeal.τ).loc Cert.HgrnFwdRefIdeal.main_arg0)) (m' ((c.tc : Thread Cert.HgrnFwdRefIdeal.nD Cert.HgrnFwdRefIdeal.τ).loc Cert.HgrnFwdRefIdeal.main_arg1)) = _
      rw [e0, e1]; exact r161 (of m c)

end Cert.HgrnFwdIdeal

end
-- ==== Proof.lean ====
/-
  The proof of the certificate's claim. Each program of the certificate is one Pallas call of the training step with
  the arithmetic that feeds it; the module `Proof/<Name>.lean` proves that its result is the reference's, and this module
  puts the claims together:

    quiescent_<X>, quiescent_<X>Ideal — the kernel program's frame, generated whole (`Gen.frame`);
    quiescent_<X>RefIdeal — the reference runs on its own, keeps its arguments and declares no semaphore
      (`Value.run` of its generated module);
    preserves_<X>_<X>Ideal — no rewrite was applied, so there is nothing to show;
    algebraic_<X>Ideal_<X>RefIdeal — `Cert.<X>Ideal.agrees` of `Proof/<X>.lean`.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.WgradFfn
public import proofs.«01_k».proof.Proof.Gen.WgradFfn.Frame
public import proofs.«01_k».proof.Proof.Gen.WgradFfnIdeal
public import proofs.«01_k».proof.Proof.Gen.WgradFfnIdeal.Frame
public import proofs.«01_k».proof.Proof.Gen.WgradFfnRefIdeal
public import proofs.«01_k».proof.Proof.Gen.WgradFfnRefIdeal.Run
public import proofs.«01_k».proof.Proof.Gen.WgradDown
public import proofs.«01_k».proof.Proof.Gen.WgradDown.Frame
public import proofs.«01_k».proof.Proof.Gen.WgradDownIdeal
public import proofs.«01_k».proof.Proof.Gen.WgradDownIdeal.Frame
public import proofs.«01_k».proof.Proof.Gen.WgradDownRefIdeal
public import proofs.«01_k».proof.Proof.Gen.WgradDownRefIdeal.Run
public import proofs.«01_k».proof.Proof.Gen.WgradOut
public import proofs.«01_k».proof.Proof.Gen.WgradOut.Frame
public import proofs.«01_k».proof.Proof.Gen.WgradOutIdeal
public import proofs.«01_k».proof.Proof.Gen.WgradOutIdeal.Frame
public import proofs.«01_k».proof.Proof.Gen.WgradOutRefIdeal
public import proofs.«01_k».proof.Proof.Gen.WgradOutRefIdeal.Run
public import proofs.«01_k».proof.Proof.Gen.WgradProj
public import proofs.«01_k».proof.Proof.Gen.WgradProj.Frame
public import proofs.«01_k».proof.Proof.Gen.WgradProjIdeal
public import proofs.«01_k».proof.Proof.Gen.WgradProjIdeal.Frame
public import proofs.«01_k».proof.Proof.Gen.WgradProjRefIdeal
public import proofs.«01_k».proof.Proof.Gen.WgradProjRefIdeal.Run
public import proofs.«01_k».proof.Proof.Gen.WgradGate
public import proofs.«01_k».proof.Proof.Gen.WgradGate.Frame
public import proofs.«01_k».proof.Proof.Gen.WgradGateIdeal
public import proofs.«01_k».proof.Proof.Gen.WgradGateIdeal.Frame
public import proofs.«01_k».proof.Proof.Gen.WgradGateRefIdeal
public import proofs.«01_k».proof.Proof.Gen.WgradGateRefIdeal.Run
public import proofs.«01_k».proof.Proof.Gen.WgradHg
public import proofs.«01_k».proof.Proof.Gen.WgradHg.Frame
public import proofs.«01_k».proof.Proof.Gen.WgradHgIdeal
public import proofs.«01_k».proof.Proof.Gen.WgradHgIdeal.Frame
public import proofs.«01_k».proof.Proof.Gen.WgradHgRefIdeal
public import proofs.«01_k».proof.Proof.Gen.WgradHgRefIdeal.Run
public import proofs.«01_k».proof.Proof.Gen.WgradMl
public import proofs.«01_k».proof.Proof.Gen.WgradMl.Frame
public import proofs.«01_k».proof.Proof.Gen.WgradMlIdeal
public import proofs.«01_k».proof.Proof.Gen.WgradMlIdeal.Frame
public import proofs.«01_k».proof.Proof.Gen.WgradMlRefIdeal
public import proofs.«01_k».proof.Proof.Gen.WgradMlRefIdeal.Run
public import proofs.«01_k».proof.Proof.Gen.FfnUp
public import proofs.«01_k».proof.Proof.Gen.FfnUp.Frame
public import proofs.«01_k».proof.Proof.Gen.FfnUpIdeal
public import proofs.«01_k».proof.Proof.Gen.FfnUpIdeal.Frame
public import proofs.«01_k».proof.Proof.Gen.FfnUpRefIdeal
public import proofs.«01_k».proof.Proof.Gen.FfnUpRefIdeal.Run
public import proofs.«01_k».proof.Proof.Gen.FfnDown
public import proofs.«01_k».proof.Proof.Gen.FfnDown.Frame
public import proofs.«01_k».proof.Proof.Gen.FfnDownIdeal
public import proofs.«01_k».proof.Proof.Gen.FfnDownIdeal.Frame
public import proofs.«01_k».proof.Proof.Gen.FfnDownRefIdeal
public import proofs.«01_k».proof.Proof.Gen.FfnDownRefIdeal.Run
public import proofs.«01_k».proof.Proof.Gen.Outproj
public import proofs.«01_k».proof.Proof.Gen.Outproj.Frame
public import proofs.«01_k».proof.Proof.Gen.OutprojIdeal
public import proofs.«01_k».proof.Proof.Gen.OutprojIdeal.Frame
public import proofs.«01_k».proof.Proof.Gen.OutprojRefIdeal
public import proofs.«01_k».proof.Proof.Gen.OutprojRefIdeal.Run
public import proofs.«01_k».proof.Proof.Gen.Inproj
public import proofs.«01_k».proof.Proof.Gen.Inproj.Frame
public import proofs.«01_k».proof.Proof.Gen.InprojIdeal
public import proofs.«01_k».proof.Proof.Gen.InprojIdeal.Frame
public import proofs.«01_k».proof.Proof.Gen.InprojRefIdeal
public import proofs.«01_k».proof.Proof.Gen.InprojRefIdeal.Run
public import proofs.«01_k».proof.Proof.Gen.InprojBwd
public import proofs.«01_k».proof.Proof.Gen.InprojBwd.Frame
public import proofs.«01_k».proof.Proof.Gen.InprojBwdIdeal
public import proofs.«01_k».proof.Proof.Gen.InprojBwdIdeal.Frame
public import proofs.«01_k».proof.Proof.Gen.InprojBwdRefIdeal
public import proofs.«01_k».proof.Proof.Gen.InprojBwdRefIdeal.Run
public import proofs.«01_k».proof.Proof.Gen.FfnBwd
public import proofs.«01_k».proof.Proof.Gen.FfnBwd.Frame
public import proofs.«01_k».proof.Proof.Gen.FfnBwdIdeal
public import proofs.«01_k».proof.Proof.Gen.FfnBwdIdeal.Frame
public import proofs.«01_k».proof.Proof.Gen.FfnBwdRefIdeal
public import proofs.«01_k».proof.Proof.Gen.FfnBwdRefIdeal.Run
public import proofs.«01_k».proof.Proof.Gen.ConvFwd
public import proofs.«01_k».proof.Proof.Gen.ConvFwd.Frame
public import proofs.«01_k».proof.Proof.Gen.ConvFwdIdeal
public import proofs.«01_k».proof.Proof.Gen.ConvFwdIdeal.Frame
public import proofs.«01_k».proof.Proof.Gen.ConvFwdRefIdeal
public import proofs.«01_k».proof.Proof.Gen.ConvFwdRefIdeal.Run
public import proofs.«01_k».proof.Proof.Gen.ConvBwd
public import proofs.«01_k».proof.Proof.Gen.ConvBwd.Frame
public import proofs.«01_k».proof.Proof.Gen.ConvBwdIdeal
public import proofs.«01_k».proof.Proof.Gen.ConvBwdIdeal.Frame
public import proofs.«01_k».proof.Proof.Gen.ConvBwdRefIdeal
public import proofs.«01_k».proof.Proof.Gen.ConvBwdRefIdeal.Run
public import proofs.«01_k».proof.Proof.Gen.HeadBwd
public import proofs.«01_k».proof.Proof.Gen.HeadBwd.Frame
public import proofs.«01_k».proof.Proof.Gen.HeadBwdIdeal
public import proofs.«01_k».proof.Proof.Gen.HeadBwdIdeal.Frame
public import proofs.«01_k».proof.Proof.Gen.HeadBwdRefIdeal
public import proofs.«01_k».proof.Proof.Gen.HeadBwdRefIdeal.Run
public import proofs.«01_k».proof.Proof.Gen.Pre_tame
public import proofs.«01_k».proof.Proof.Gen.Pre_numbers
public import proofs.«01_k».proof.Proof.Gen.Pre_conv_numbers
public import proofs.«01_k».proof.Proof.Gen.Pre_head_numbers
public import proofs.«01_k».proof.Proof.Gen.SumSmall
public import proofs.«01_k».proof.Proof.Gen.SumSmall.Frame
public import proofs.«01_k».proof.Proof.Gen.SumSmallIdeal
public import proofs.«01_k».proof.Proof.Gen.SumSmallIdeal.Frame
public import proofs.«01_k».proof.Proof.Gen.SumSmallRefIdeal
public import proofs.«01_k».proof.Proof.Gen.SumSmallRefIdeal.Run
public import proofs.«01_k».proof.Proof.Gen.AdamwSmall
public import proofs.«01_k».proof.Proof.Gen.AdamwSmall.Frame
public import proofs.«01_k».proof.Proof.Gen.AdamwSmallIdeal
public import proofs.«01_k».proof.Proof.Gen.AdamwSmallIdeal.Frame
public import proofs.«01_k».proof.Proof.Gen.AdamwSmallRefIdeal
public import proofs.«01_k».proof.Proof.Gen.AdamwSmallRefIdeal.Run
public import proofs.«01_k».proof.Proof.Gen.HgrnFwd
public import proofs.«01_k».proof.Proof.Gen.HgrnFwd.Frame
public import proofs.«01_k».proof.Proof.Gen.HgrnFwdIdeal
public import proofs.«01_k».proof.Proof.Gen.HgrnFwdIdeal.Frame
public import proofs.«01_k».proof.Proof.Gen.HgrnFwdRefIdeal
public import proofs.«01_k».proof.Proof.Gen.HgrnFwdRefIdeal.Run
public import proofs.«01_k».proof.Proof.Gen.Pre_tame_fwd
public import proofs.«01_k».proof.Proof.WgradFfn
public import proofs.«01_k».proof.Proof.WgradDown
public import proofs.«01_k».proof.Proof.WgradOut
public import proofs.«01_k».proof.Proof.WgradProj
public import proofs.«01_k».proof.Proof.WgradGate
public import proofs.«01_k».proof.Proof.WgradHg
public import proofs.«01_k».proof.Proof.WgradMl
public import proofs.«01_k».proof.Proof.FfnUp
public import proofs.«01_k».proof.Proof.FfnDown
public import proofs.«01_k».proof.Proof.Outproj
public import proofs.«01_k».proof.Proof.Inproj
public import proofs.«01_k».proof.Proof.InprojBwd
public import proofs.«01_k».proof.Proof.FfnBwd
public import proofs.«01_k».proof.Proof.ConvFwd
public import proofs.«01_k».proof.Proof.ConvBwd
public import proofs.«01_k».proof.Proof.HeadBwd
public import proofs.«01_k».proof.Proof.Hgrn
public import proofs.«01_k».proof.Proof.SumSmall
public import proofs.«01_k».proof.Proof.AdamwSmall
public import proofs.«01_k».proof.Proof.HgrnFwd
public import Idealize.ShloMosaic.Lib.Quiescent

public section

open Idealize.ShloMosaic

namespace Cert.Proof

/-- The reference `ReferenceIdeal` runs, keeps its arguments and has no semaphore. -/
theorem frame_ReferenceIdeal : Cert.quiescent_ReferenceIdeal := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

/-- The reference `ReferenceIdeal` runs, keeps its arguments and has no semaphore. -/
theorem frame_ReferenceIdeal_pre_tame : Cert.quiescent_ReferenceIdeal_pre_tame := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

/-- The reference `WgradFfnRefIdeal` runs, keeps its arguments and has no semaphore. -/
theorem frame_WgradFfnRefIdeal : Cert.quiescent_WgradFfnRefIdeal := fun m ρ _ =>
  (θ_run Cert.WgradFfnRefIdeal.defs _ _).mono (fun r h => ⟨fun c => (h c).2.2,
      Idealize.ShloMosaic.sem_eq_zero_of_no_sems (by decide) r.2⟩)
    (Cert.WgradFfnRefIdeal.Value.run (F := Ideal) m ρ)

/-- The reference `WgradDownRefIdeal` runs, keeps its arguments and has no semaphore. -/
theorem frame_WgradDownRefIdeal : Cert.quiescent_WgradDownRefIdeal := fun m ρ _ =>
  (θ_run Cert.WgradDownRefIdeal.defs _ _).mono (fun r h => ⟨fun c => (h c).2.2,
      Idealize.ShloMosaic.sem_eq_zero_of_no_sems (by decide) r.2⟩)
    (Cert.WgradDownRefIdeal.Value.run (F := Ideal) m ρ)

/-- The reference `WgradOutRefIdeal` runs, keeps its arguments and has no semaphore. -/
theorem frame_WgradOutRefIdeal : Cert.quiescent_WgradOutRefIdeal := fun m ρ _ =>
  (θ_run Cert.WgradOutRefIdeal.defs _ _).mono (fun r h => ⟨fun c => (h c).2.2,
      Idealize.ShloMosaic.sem_eq_zero_of_no_sems (by decide) r.2⟩)
    (Cert.WgradOutRefIdeal.Value.run (F := Ideal) m ρ)

/-- The reference `WgradProjRefIdeal` runs, keeps its arguments and has no semaphore. -/
theorem frame_WgradProjRefIdeal : Cert.quiescent_WgradProjRefIdeal := fun m ρ _ =>
  (θ_run Cert.WgradProjRefIdeal.defs _ _).mono (fun r h => ⟨fun c => (h c).2.2,
      Idealize.ShloMosaic.sem_eq_zero_of_no_sems (by decide) r.2⟩)
    (Cert.WgradProjRefIdeal.Value.run (F := Ideal) m ρ)

/-- The reference `WgradGateRefIdeal` runs, keeps its arguments and has no semaphore. -/
theorem frame_WgradGateRefIdeal : Cert.quiescent_WgradGateRefIdeal := fun m ρ _ =>
  (θ_run Cert.WgradGateRefIdeal.defs _ _).mono (fun r h => ⟨fun c => (h c).2.2,
      Idealize.ShloMosaic.sem_eq_zero_of_no_sems (by decide) r.2⟩)
    (Cert.WgradGateRefIdeal.Value.run (F := Ideal) m ρ)

/-- The reference `WgradHgRefIdeal` runs, keeps its arguments and has no semaphore. -/
theorem frame_WgradHgRefIdeal : Cert.quiescent_WgradHgRefIdeal := fun m ρ _ =>
  (θ_run Cert.WgradHgRefIdeal.defs _ _).mono (fun r h => ⟨fun c => (h c).2.2,
      Idealize.ShloMosaic.sem_eq_zero_of_no_sems (by decide) r.2⟩)
    (Cert.WgradHgRefIdeal.Value.run (F := Ideal) m ρ)

/-- The reference `WgradMlRefIdeal` runs, keeps its arguments and has no semaphore. -/
theorem frame_WgradMlRefIdeal : Cert.quiescent_WgradMlRefIdeal := fun m ρ _ =>
  (θ_run Cert.WgradMlRefIdeal.defs _ _).mono (fun r h => ⟨fun c => (h c).2.2,
      Idealize.ShloMosaic.sem_eq_zero_of_no_sems (by decide) r.2⟩)
    (Cert.WgradMlRefIdeal.Value.run (F := Ideal) m ρ)

/-- The reference `FfnUpRefIdeal` runs, keeps its arguments and has no semaphore. -/
theorem frame_FfnUpRefIdeal : Cert.quiescent_FfnUpRefIdeal := fun m ρ _ =>
  (θ_run Cert.FfnUpRefIdeal.defs _ _).mono (fun r h => ⟨fun c => (h c).2.2.2,
      Idealize.ShloMosaic.sem_eq_zero_of_no_sems (by decide) r.2⟩)
    (Cert.FfnUpRefIdeal.Value.run (F := Ideal) m ρ)

/-- The reference `FfnDownRefIdeal` runs, keeps its arguments and has no semaphore. -/
theorem frame_FfnDownRefIdeal : Cert.quiescent_FfnDownRefIdeal := fun m ρ _ =>
  (θ_run Cert.FfnDownRefIdeal.defs _ _).mono (fun r h => ⟨fun c => (h c).2.2.2.2,
      Idealize.ShloMosaic.sem_eq_zero_of_no_sems (by decide) r.2⟩)
    (Cert.FfnDownRefIdeal.Value.run (F := Ideal) m ρ)

/-- The reference `OutprojRefIdeal` runs, keeps its arguments and has no semaphore. -/
theorem frame_OutprojRefIdeal : Cert.quiescent_OutprojRefIdeal := fun m ρ _ =>
  (θ_run Cert.OutprojRefIdeal.defs _ _).mono (fun r h => ⟨fun c => (h c).2.2.2.2,
      Idealize.ShloMosaic.sem_eq_zero_of_no_sems (by decide) r.2⟩)
    (Cert.OutprojRefIdeal.Value.run (F := Ideal) m ρ)

/-- The reference `InprojRefIdeal` runs, keeps its arguments and has no semaphore. -/
theorem frame_InprojRefIdeal : Cert.quiescent_InprojRefIdeal := fun m ρ _ =>
  (θ_run Cert.InprojRefIdeal.defs _ _).mono (fun r h => ⟨fun c => (h c).2.2.2,
      Idealize.ShloMosaic.sem_eq_zero_of_no_sems (by decide) r.2⟩)
    (Cert.InprojRefIdeal.Value.run (F := Ideal) m ρ)

/-- The reference `InprojBwdRefIdeal` runs, keeps its arguments and has no semaphore. -/
theorem frame_InprojBwdRefIdeal : Cert.quiescent_InprojBwdRefIdeal := fun m ρ _ =>
  (θ_run Cert.InprojBwdRefIdeal.defs _ _).mono (fun r h => ⟨fun c => (h c).2.2,
      Idealize.ShloMosaic.sem_eq_zero_of_no_sems (by decide) r.2⟩)
    (Cert.InprojBwdRefIdeal.Value.run (F := Ideal) m ρ)

/-- The reference `FfnBwdRefIdeal` runs, keeps its arguments and has no semaphore. -/
theorem frame_FfnBwdRefIdeal : Cert.quiescent_FfnBwdRefIdeal := fun m ρ _ =>
  (θ_run Cert.FfnBwdRefIdeal.defs _ _).mono (fun r h => ⟨fun c => (h c).2.2.2.2.2.2.2,
      Idealize.ShloMosaic.sem_eq_zero_of_no_sems (by decide) r.2⟩)
    (Cert.FfnBwdRefIdeal.Value.run (F := Ideal) m ρ)

/-- The reference `FfnBwdRefIdeal` runs, keeps its arguments and has no semaphore. -/
theorem frame_FfnBwdRefIdeal_pre_numbers : Cert.quiescent_FfnBwdRefIdeal_pre_numbers := fun m ρ _ =>
  (θ_run Cert.FfnBwdRefIdeal.defs _ _).mono (fun r h => ⟨fun c => (h c).2.2.2.2.2.2.2,
      Idealize.ShloMosaic.sem_eq_zero_of_no_sems (by decide) r.2⟩)
    (Cert.FfnBwdRefIdeal.Value.run (F := Ideal) m ρ)

/-- The reference `ConvFwdRefIdeal` runs, keeps its arguments and has no semaphore. -/
theorem frame_ConvFwdRefIdeal : Cert.quiescent_ConvFwdRefIdeal := fun m ρ _ =>
  (θ_run Cert.ConvFwdRefIdeal.defs _ _).mono (fun r h => ⟨fun c => (h c).2.2,
      Idealize.ShloMosaic.sem_eq_zero_of_no_sems (by decide) r.2⟩)
    (Cert.ConvFwdRefIdeal.Value.run (F := Ideal) m ρ)

/-- The reference `ConvBwdRefIdeal` runs, keeps its arguments and has no semaphore. -/
theorem frame_ConvBwdRefIdeal : Cert.quiescent_ConvBwdRefIdeal := fun m ρ _ =>
  (θ_run Cert.ConvBwdRefIdeal.defs _ _).mono (fun r h => ⟨fun c => (h c).2.2.2,
      Idealize.ShloMosaic.sem_eq_zero_of_no_sems (by decide) r.2⟩)
    (Cert.ConvBwdRefIdeal.Value.run (F := Ideal) m ρ)

/-- The reference `ConvBwdRefIdeal` runs, keeps its arguments and has no semaphore. -/
theorem frame_ConvBwdRefIdeal_pre_conv_numbers : Cert.quiescent_ConvBwdRefIdeal_pre_conv_numbers := fun m ρ _ =>
  (θ_run Cert.ConvBwdRefIdeal.defs _ _).mono (fun r h => ⟨fun c => (h c).2.2.2,
      Idealize.ShloMosaic.sem_eq_zero_of_no_sems (by decide) r.2⟩)
    (Cert.ConvBwdRefIdeal.Value.run (F := Ideal) m ρ)

/-- The reference `HeadBwdRefIdeal` runs, keeps its arguments and has no semaphore. -/
theorem frame_HeadBwdRefIdeal : Cert.quiescent_HeadBwdRefIdeal := fun m ρ _ =>
  (θ_run Cert.HeadBwdRefIdeal.defs _ _).mono (fun r h => ⟨fun c => (h c).2.2.2.2.2.2.2,
      Idealize.ShloMosaic.sem_eq_zero_of_no_sems (by decide) r.2⟩)
    (Cert.HeadBwdRefIdeal.Value.run (F := Ideal) m ρ)

/-- The reference `HeadBwdRefIdeal` runs, keeps its arguments and has no semaphore. -/
theorem frame_HeadBwdRefIdeal_pre_head_numbers : Cert.quiescent_HeadBwdRefIdeal_pre_head_numbers := fun m ρ _ =>
  (θ_run Cert.HeadBwdRefIdeal.defs _ _).mono (fun r h => ⟨fun c => (h c).2.2.2.2.2.2.2,
      Idealize.ShloMosaic.sem_eq_zero_of_no_sems (by decide) r.2⟩)
    (Cert.HeadBwdRefIdeal.Value.run (F := Ideal) m ρ)

/-- The reference `SumSmallRefIdeal` runs, keeps its arguments and has no semaphore. -/
theorem frame_SumSmallRefIdeal : Cert.quiescent_SumSmallRefIdeal := fun m ρ _ =>
  (θ_run Cert.SumSmallRefIdeal.defs _ _).mono (fun r h => ⟨fun c => (h c).2,
      Idealize.ShloMosaic.sem_eq_zero_of_no_sems (by decide) r.2⟩)
    (Cert.SumSmallRefIdeal.Value.run (F := Ideal) m ρ)

/-- The reference `AdamwSmallRefIdeal` runs, keeps its arguments and has no semaphore. -/
theorem frame_AdamwSmallRefIdeal : Cert.quiescent_AdamwSmallRefIdeal := fun m ρ _ =>
  (θ_run Cert.AdamwSmallRefIdeal.defs _ _).mono (fun r h => ⟨fun c => (h c).2.2.2.2,
      Idealize.ShloMosaic.sem_eq_zero_of_no_sems (by decide) r.2⟩)
    (Cert.AdamwSmallRefIdeal.Value.run (F := Ideal) m ρ)

/-- The reference `HgrnFwdRefIdeal` runs, keeps its arguments and has no semaphore. -/
theorem frame_HgrnFwdRefIdeal : Cert.quiescent_HgrnFwdRefIdeal := fun m ρ _ =>
  (θ_run Cert.HgrnFwdRefIdeal.defs _ _).mono (fun r h => ⟨fun c => (h c).2.2.2.2.2,
      Idealize.ShloMosaic.sem_eq_zero_of_no_sems (by decide) r.2⟩)
    (Cert.HgrnFwdRefIdeal.Value.run (F := Ideal) m ρ)

/-- The reference `HgrnFwdRefIdeal` runs, keeps its arguments and has no semaphore. -/
theorem frame_HgrnFwdRefIdeal_pre_tame_fwd : Cert.quiescent_HgrnFwdRefIdeal_pre_tame_fwd := fun m ρ _ =>
  (θ_run Cert.HgrnFwdRefIdeal.defs _ _).mono (fun r h => ⟨fun c => (h c).2.2.2.2.2,
      Idealize.ShloMosaic.sem_eq_zero_of_no_sems (by decide) r.2⟩)
    (Cert.HgrnFwdRefIdeal.Value.run (F := Ideal) m ρ)

/-- Everything the certificate claims. -/
theorem claim : Cert.Claim :=
  ⟨Cert.Kernel.Gen.facts, Cert.KernelIdeal.Gen.facts, Cert.ReferenceIdeal.Gen.facts, Cert.WgradFfn.Gen.facts, Cert.WgradFfnIdeal.Gen.facts, Cert.WgradFfnRefIdeal.Gen.facts, Cert.WgradDown.Gen.facts, Cert.WgradDownIdeal.Gen.facts, Cert.WgradDownRefIdeal.Gen.facts, Cert.WgradOut.Gen.facts, Cert.WgradOutIdeal.Gen.facts, Cert.WgradOutRefIdeal.Gen.facts, Cert.WgradProj.Gen.facts, Cert.WgradProjIdeal.Gen.facts, Cert.WgradProjRefIdeal.Gen.facts, Cert.WgradGate.Gen.facts, Cert.WgradGateIdeal.Gen.facts, Cert.WgradGateRefIdeal.Gen.facts, Cert.WgradHg.Gen.facts, Cert.WgradHgIdeal.Gen.facts, Cert.WgradHgRefIdeal.Gen.facts, Cert.WgradMl.Gen.facts, Cert.WgradMlIdeal.Gen.facts, Cert.WgradMlRefIdeal.Gen.facts, Cert.FfnUp.Gen.facts, Cert.FfnUpIdeal.Gen.facts, Cert.FfnUpRefIdeal.Gen.facts, Cert.FfnDown.Gen.facts, Cert.FfnDownIdeal.Gen.facts, Cert.FfnDownRefIdeal.Gen.facts, Cert.Outproj.Gen.facts, Cert.OutprojIdeal.Gen.facts, Cert.OutprojRefIdeal.Gen.facts, Cert.Inproj.Gen.facts, Cert.InprojIdeal.Gen.facts, Cert.InprojRefIdeal.Gen.facts, Cert.InprojBwd.Gen.facts, Cert.InprojBwdIdeal.Gen.facts, Cert.InprojBwdRefIdeal.Gen.facts, Cert.FfnBwd.Gen.facts, Cert.FfnBwdIdeal.Gen.facts, Cert.FfnBwdRefIdeal.Gen.facts, Cert.ConvFwd.Gen.facts, Cert.ConvFwdIdeal.Gen.facts, Cert.ConvFwdRefIdeal.Gen.facts, Cert.ConvBwd.Gen.facts, Cert.ConvBwdIdeal.Gen.facts, Cert.ConvBwdRefIdeal.Gen.facts, Cert.HeadBwd.Gen.facts, Cert.HeadBwdIdeal.Gen.facts, Cert.HeadBwdRefIdeal.Gen.facts, Cert.SumSmall.Gen.facts, Cert.SumSmallIdeal.Gen.facts, Cert.SumSmallRefIdeal.Gen.facts, Cert.AdamwSmall.Gen.facts, Cert.AdamwSmallIdeal.Gen.facts, Cert.AdamwSmallRefIdeal.Gen.facts, Cert.HgrnFwd.Gen.facts, Cert.HgrnFwdIdeal.Gen.facts, Cert.HgrnFwdRefIdeal.Gen.facts, Cert.Pre_tame.Gen.facts, Cert.Pre_numbers.Gen.facts, Cert.Pre_conv_numbers.Gen.facts, Cert.Pre_head_numbers.Gen.facts, Cert.Pre_tame_fwd.Gen.facts,
   fun m ρ _ => Cert.Kernel.Gen.frame m ρ,
   fun m ρ _ => Cert.KernelIdeal.Gen.frame m ρ,
   fun m ρ _ => Cert.KernelIdeal.Gen.frame m ρ,
   frame_ReferenceIdeal,
   frame_ReferenceIdeal_pre_tame,
   fun m ρ _ => Cert.WgradFfn.Gen.frame m ρ,
   fun m ρ _ => Cert.WgradFfnIdeal.Gen.frame m ρ,
   frame_WgradFfnRefIdeal,
   fun m ρ _ => Cert.WgradDown.Gen.frame m ρ,
   fun m ρ _ => Cert.WgradDownIdeal.Gen.frame m ρ,
   frame_WgradDownRefIdeal,
   fun m ρ _ => Cert.WgradOut.Gen.frame m ρ,
   fun m ρ _ => Cert.WgradOutIdeal.Gen.frame m ρ,
   frame_WgradOutRefIdeal,
   fun m ρ _ => Cert.WgradProj.Gen.frame m ρ,
   fun m ρ _ => Cert.WgradProjIdeal.Gen.frame m ρ,
   frame_WgradProjRefIdeal,
   fun m ρ _ => Cert.WgradGate.Gen.frame m ρ,
   fun m ρ _ => Cert.WgradGateIdeal.Gen.frame m ρ,
   frame_WgradGateRefIdeal,
   fun m ρ _ => Cert.WgradHg.Gen.frame m ρ,
   fun m ρ _ => Cert.WgradHgIdeal.Gen.frame m ρ,
   frame_WgradHgRefIdeal,
   fun m ρ _ => Cert.WgradMl.Gen.frame m ρ,
   fun m ρ _ => Cert.WgradMlIdeal.Gen.frame m ρ,
   frame_WgradMlRefIdeal,
   fun m ρ _ => Cert.FfnUp.Gen.frame m ρ,
   fun m ρ _ => Cert.FfnUpIdeal.Gen.frame m ρ,
   frame_FfnUpRefIdeal,
   fun m ρ _ => Cert.FfnDown.Gen.frame m ρ,
   fun m ρ _ => Cert.FfnDownIdeal.Gen.frame m ρ,
   frame_FfnDownRefIdeal,
   fun m ρ _ => Cert.Outproj.Gen.frame m ρ,
   fun m ρ _ => Cert.OutprojIdeal.Gen.frame m ρ,
   frame_OutprojRefIdeal,
   fun m ρ _ => Cert.Inproj.Gen.frame m ρ,
   fun m ρ _ => Cert.InprojIdeal.Gen.frame m ρ,
   frame_InprojRefIdeal,
   fun m ρ _ => Cert.InprojBwd.Gen.frame m ρ,
   fun m ρ _ => Cert.InprojBwdIdeal.Gen.frame m ρ,
   frame_InprojBwdRefIdeal,
   fun m ρ _ => Cert.FfnBwd.Gen.frame m ρ,
   fun m ρ _ => Cert.FfnBwdIdeal.Gen.frame m ρ,
   fun m ρ _ => Cert.FfnBwdIdeal.Gen.frame m ρ,
   frame_FfnBwdRefIdeal,
   frame_FfnBwdRefIdeal_pre_numbers,
   fun m ρ _ => Cert.ConvFwd.Gen.frame m ρ,
   fun m ρ _ => Cert.ConvFwdIdeal.Gen.frame m ρ,
   frame_ConvFwdRefIdeal,
   fun m ρ _ => Cert.ConvBwd.Gen.frame m ρ,
   fun m ρ _ => Cert.ConvBwdIdeal.Gen.frame m ρ,
   fun m ρ _ => Cert.ConvBwdIdeal.Gen.frame m ρ,
   frame_ConvBwdRefIdeal,
   frame_ConvBwdRefIdeal_pre_conv_numbers,
   fun m ρ _ => Cert.HeadBwd.Gen.frame m ρ,
   fun m ρ _ => Cert.HeadBwdIdeal.Gen.frame m ρ,
   fun m ρ _ => Cert.HeadBwdIdeal.Gen.frame m ρ,
   frame_HeadBwdRefIdeal,
   frame_HeadBwdRefIdeal_pre_head_numbers,
   fun m ρ _ => Cert.SumSmall.Gen.frame m ρ,
   fun m ρ _ => Cert.SumSmallIdeal.Gen.frame m ρ,
   frame_SumSmallRefIdeal,
   fun m ρ _ => Cert.AdamwSmall.Gen.frame m ρ,
   fun m ρ _ => Cert.AdamwSmallIdeal.Gen.frame m ρ,
   frame_AdamwSmallRefIdeal,
   fun m ρ _ => Cert.HgrnFwd.Gen.frame m ρ,
   fun m ρ _ => Cert.HgrnFwdIdeal.Gen.frame m ρ,
   fun m ρ _ => Cert.HgrnFwdIdeal.Gen.frame m ρ,
   frame_HgrnFwdRefIdeal,
   frame_HgrnFwdRefIdeal_pre_tame_fwd,
   trivial,
   Cert.KernelIdeal.agrees,
   trivial,
   Cert.WgradFfnIdeal.agrees,
   trivial,
   Cert.WgradDownIdeal.agrees,
   trivial,
   Cert.WgradOutIdeal.agrees,
   trivial,
   Cert.WgradProjIdeal.agrees,
   trivial,
   Cert.WgradGateIdeal.agrees,
   trivial,
   Cert.WgradHgIdeal.agrees,
   trivial,
   Cert.WgradMlIdeal.agrees,
   trivial,
   Cert.FfnUpIdeal.agrees,
   trivial,
   Cert.FfnDownIdeal.agrees,
   trivial,
   Cert.OutprojIdeal.agrees,
   trivial,
   Cert.InprojIdeal.agrees,
   trivial,
   Cert.InprojBwdIdeal.agrees,
   trivial,
   Cert.FfnBwdIdeal.agrees,
   trivial,
   Cert.ConvFwdIdeal.agrees,
   trivial,
   Cert.ConvBwdIdeal.agrees,
   trivial,
   Cert.HeadBwdIdeal.agrees,
   trivial,
   Cert.SumSmallIdeal.agrees,
   trivial,
   Cert.AdamwSmallIdeal.agrees,
   trivial,
   Cert.HgrnFwdIdeal.agrees⟩

end Cert.Proof

end
